-- ==== Defs.lean ====
def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxIdeal_finite_dx [hPre_finite_dx : Cert.Pre_finite_dx.Facts] (m : (ℓ : Loc Cert.DxIdeal.nD Cert.DxIdeal.τ Cert.DxIdeal.sig) → Buf (Elt Ideal) ℓ) : Prop :=
  ∀ c : Dev Cert.DxIdeal.nD,
    (Cert.Pre_finite_dx.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6))) = (fun _ => 1#1)

def Pre_DxRefIdeal (m : (ℓ : Loc Cert.DxRefIdeal.nD Cert.DxRefIdeal.τ Cert.DxRefIdeal.sig) → Buf (Elt Ideal) ℓ) : Prop :=
  True

def Pre_DxRefIdeal_finite_dx [hPre_finite_dx : Cert.Pre_finite_dx.Facts] (m : (ℓ : Loc Cert.DxRefIdeal.nD Cert.DxRefIdeal.τ Cert.DxRefIdeal.sig) → Buf (Elt Ideal) ℓ) : Prop :=
  ∀ c : Dev Cert.DxRefIdeal.nD,
    (Cert.Pre_finite_dx.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6))) = (fun _ => 1#1)

def Pre_Bwdw (m : (ℓ : Loc Cert.Bwdw.nD Cert.Bwdw.τ Cert.Bwdw.sig) → Buf (Elt Bits) ℓ) : Prop :=
  True

def Pre_BwdwIdeal (m : (ℓ : Loc Cert.BwdwIdeal.nD Cert.BwdwIdeal.τ Cert.BwdwIdeal.sig) → Buf (Elt Ideal) ℓ) : Prop :=
  True

def Pre_BwdwIdeal_finite_bwdw [hPre_finite_bwdw : Cert.Pre_finite_bwdw.Facts] (m : (ℓ : Loc Cert.BwdwIdeal.nD Cert.BwdwIdeal.τ Cert.BwdwIdeal.sig) → Buf (Elt Ideal) ℓ) : Prop :=
  ∀ c : Dev Cert.BwdwIdeal.nD,
    (Cert.Pre_finite_bwdw.fn (F := Ideal) (m ((c.tc : Thread Cert.BwdwIdeal.nD Cert.BwdwIdeal.τ).loc Cert.BwdwIdeal.main_arg0)) (m ((c.tc : Thread Cert.BwdwIdeal.nD Cert.BwdwIdeal.τ).loc Cert.BwdwIdeal.main_arg1)) (m ((c.tc : Thread Cert.BwdwIdeal.nD Cert.BwdwIdeal.τ).loc Cert.BwdwIdeal.main_arg2)) (m ((c.tc : Thread Cert.BwdwIdeal.nD Cert.BwdwIdeal.τ).loc Cert.BwdwIdeal.main_arg3)) (m ((c.tc : Thread Cert.BwdwIdeal.nD Cert.BwdwIdeal.τ).loc Cert.BwdwIdeal.main_arg4)) (m ((c.tc : Thread Cert.BwdwIdeal.nD Cert.BwdwIdeal.τ).loc Cert.BwdwIdeal.main_arg5))) = (fun _ => 1#1)

def Pre_BwdwRefIdeal (m : (ℓ : Loc Cert.BwdwRefIdeal.nD Cert.BwdwRefIdeal.τ Cert.BwdwRefIdeal.sig) → Buf (Elt Ideal) ℓ) : Prop :=
  True

def Pre_BwdwRefIdeal_finite_bwdw [hPre_finite_bwdw : Cert.Pre_finite_bwdw.Facts] (m : (ℓ : Loc Cert.BwdwRefIdeal.nD Cert.BwdwRefIdeal.τ Cert.BwdwRefIdeal.sig) → Buf (Elt Ideal) ℓ) : Prop :=
  ∀ c : Dev Cert.BwdwRefIdeal.nD,
    (Cert.Pre_finite_bwdw.fn (F := Ideal) (m ((c.tc : Thread Cert.BwdwRefIdeal.nD Cert.BwdwRefIdeal.τ).loc Cert.BwdwRefIdeal.main_arg0)) (m ((c.tc : Thread Cert.BwdwRefIdeal.nD Cert.BwdwRefIdeal.τ).loc Cert.BwdwRefIdeal.main_arg1)) (m ((c.tc : Thread Cert.BwdwRefIdeal.nD Cert.BwdwRefIdeal.τ).loc Cert.BwdwRefIdeal.main_arg2)) (m ((c.tc : Thread Cert.BwdwRefIdeal.nD Cert.BwdwRefIdeal.τ).loc Cert.BwdwRefIdeal.main_arg3)) (m ((c.tc : Thread Cert.BwdwRefIdeal.nD Cert.BwdwRefIdeal.τ).loc Cert.BwdwRefIdeal.main_arg4)) (m ((c.tc : Thread Cert.BwdwRefIdeal.nD Cert.BwdwRefIdeal.τ).loc Cert.BwdwRefIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))) = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdIdeal_finite_mixf [hPre_finite_mixf : Cert.Pre_finite_mixf.Facts] (m : (ℓ : Loc Cert.MixFwdIdeal.nD Cert.MixFwdIdeal.τ Cert.MixFwdIdeal.sig) → Buf (Elt Ideal) ℓ) : Prop :=
  ∀ c : Dev Cert.MixFwdIdeal.nD,
    (Cert.Pre_finite_mixf.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6))) = (fun _ => 1#1)

def Pre_MixFwdRefIdeal (m : (ℓ : Loc Cert.MixFwdRefIdeal.nD Cert.MixFwdRefIdeal.τ Cert.MixFwdRefIdeal.sig) → Buf (Elt Ideal) ℓ) : Prop :=
  True

def Pre_MixFwdRefIdeal_finite_mixf [hPre_finite_mixf : Cert.Pre_finite_mixf.Facts] (m : (ℓ : Loc Cert.MixFwdRefIdeal.nD Cert.MixFwdRefIdeal.τ Cert.MixFwdRefIdeal.sig) → Buf (Elt Ideal) ℓ) : Prop :=
  ∀ c : Dev Cert.MixFwdRefIdeal.nD,
    (Cert.Pre_finite_mixf.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6))) = (fun _ => 1#1)

def Pre_FfnB (m : (ℓ : Loc Cert.FfnB.nD Cert.FfnB.τ Cert.FfnB.sig) → Buf (Elt Bits) ℓ) : Prop :=
  True

def Pre_FfnBIdeal (m : (ℓ : Loc Cert.FfnBIdeal.nD Cert.FfnBIdeal.τ Cert.FfnBIdeal.sig) → Buf (Elt Ideal) ℓ) : Prop :=
  True

def Pre_FfnBRefIdeal (m : (ℓ : Loc Cert.FfnBRefIdeal.nD Cert.FfnBRefIdeal.τ Cert.FfnBRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ r.2.sem = fun _ => 0)

def quiescent_DxIdeal_pre_finite_dx [hDxIdeal : Cert.DxIdeal.Facts] [hPre_finite_dx : Cert.Pre_finite_dx.Facts] : Prop :=
  ∀ (m : (ℓ : Loc Cert.DxIdeal.nD Cert.DxIdeal.τ Cert.DxIdeal.sig) → Buf (Elt Ideal) ℓ) (g : Dev Cert.DxIdeal.nD → PrngReg), Pre_DxIdeal_finite_dx m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6))
      ∧ r.2.sem = fun _ => 0)

def quiescent_DxRefIdeal_pre_finite_dx [hDxRefIdeal : Cert.DxRefIdeal.Facts] [hPre_finite_dx : Cert.Pre_finite_dx.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal_finite_dx m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6))
      ∧ r.2.sem = fun _ => 0)

def quiescent_Bwdw [hBwdw : Cert.Bwdw.Facts] : Prop :=
  ∀ (m : (ℓ : Loc Cert.Bwdw.nD Cert.Bwdw.τ Cert.Bwdw.sig) → Buf (Elt Bits) ℓ) (g : Dev Cert.Bwdw.nD → PrngReg), Pre_Bwdw m →
    θ_run (Cert.Bwdw.defs (F := Bits)) (onTc (τ := Cert.Bwdw.τ) (Cert.Bwdw.main (F := Bits))) ⟨m, fun _ => 0, g⟩ (fun r => (∀ c : Dev Cert.Bwdw.nD,
      r.2.mem ((c.tc : Thread Cert.Bwdw.nD Cert.Bwdw.τ).loc Cert.Bwdw.main_arg0) = m ((c.tc : Thread Cert.Bwdw.nD Cert.Bwdw.τ).loc Cert.Bwdw.main_arg0)
      ∧ r.2.mem ((c.tc : Thread Cert.Bwdw.nD Cert.Bwdw.τ).loc Cert.Bwdw.main_arg1) = m ((c.tc : Thread Cert.Bwdw.nD Cert.Bwdw.τ).loc Cert.Bwdw.main_arg1)
      ∧ r.2.mem ((c.tc : Thread Cert.Bwdw.nD Cert.Bwdw.τ).loc Cert.Bwdw.main_arg2) = m ((c.tc : Thread Cert.Bwdw.nD Cert.Bwdw.τ).loc Cert.Bwdw.main_arg2)
      ∧ r.2.mem ((c.tc : Thread Cert.Bwdw.nD Cert.Bwdw.τ).loc Cert.Bwdw.main_arg3) = m ((c.tc : Thread Cert.Bwdw.nD Cert.Bwdw.τ).loc Cert.Bwdw.main_arg3)
      ∧ r.2.mem ((c.tc : Thread Cert.Bwdw.nD Cert.Bwdw.τ).loc Cert.Bwdw.main_arg4) = m ((c.tc : Thread Cert.Bwdw.nD Cert.Bwdw.τ).loc Cert.Bwdw.main_arg4)
      ∧ r.2.mem ((c.tc : Thread Cert.Bwdw.nD Cert.Bwdw.τ).loc Cert.Bwdw.main_arg5) = m ((c.tc : Thread Cert.Bwdw.nD Cert.Bwdw.τ).loc Cert.Bwdw.main_arg5))
      ∧ r.2.sem = fun _ => 0)

def quiescent_BwdwIdeal [hBwdwIdeal : Cert.BwdwIdeal.Facts] : Prop :=
  ∀ (m : (ℓ : Loc Cert.BwdwIdeal.nD Cert.BwdwIdeal.τ Cert.BwdwIdeal.sig) → Buf (Elt Ideal) ℓ) (g : Dev Cert.BwdwIdeal.nD → PrngReg), Pre_BwdwIdeal m →
    θ_run (Cert.BwdwIdeal.defs (F := Ideal)) (onTc (τ := Cert.BwdwIdeal.τ) (Cert.BwdwIdeal.main (F := Ideal))) ⟨m, fun _ => 0, g⟩ (fun r => (∀ c : Dev Cert.BwdwIdeal.nD,
      r.2.mem ((c.tc : Thread Cert.BwdwIdeal.nD Cert.BwdwIdeal.τ).loc Cert.BwdwIdeal.main_arg0) = m ((c.tc : Thread Cert.BwdwIdeal.nD Cert.BwdwIdeal.τ).loc Cert.BwdwIdeal.main_arg0)
      ∧ r.2.mem ((c.tc : Thread Cert.BwdwIdeal.nD Cert.BwdwIdeal.τ).loc Cert.BwdwIdeal.main_arg1) = m ((c.tc : Thread Cert.BwdwIdeal.nD Cert.BwdwIdeal.τ).loc Cert.BwdwIdeal.main_arg1)
      ∧ r.2.mem ((c.tc : Thread Cert.BwdwIdeal.nD Cert.BwdwIdeal.τ).loc Cert.BwdwIdeal.main_arg2) = m ((c.tc : Thread Cert.BwdwIdeal.nD Cert.BwdwIdeal.τ).loc Cert.BwdwIdeal.main_arg2)
      ∧ r.2.mem ((c.tc : Thread Cert.BwdwIdeal.nD Cert.BwdwIdeal.τ).loc Cert.BwdwIdeal.main_arg3) = m ((c.tc : Thread Cert.BwdwIdeal.nD Cert.BwdwIdeal.τ).loc Cert.BwdwIdeal.main_arg3)
      ∧ r.2.mem ((c.tc : Thread Cert.BwdwIdeal.nD Cert.BwdwIdeal.τ).loc Cert.BwdwIdeal.main_arg4) = m ((c.tc : Thread Cert.BwdwIdeal.nD Cert.BwdwIdeal.τ).loc Cert.BwdwIdeal.main_arg4)
      ∧ r.2.mem ((c.tc : Thread Cert.BwdwIdeal.nD Cert.BwdwIdeal.τ).loc Cert.BwdwIdeal.main_arg5) = m ((c.tc : Thread Cert.BwdwIdeal.nD Cert.BwdwIdeal.τ).loc Cert.BwdwIdeal.main_arg5))
      ∧ r.2.sem = fun _ => 0)

def quiescent_BwdwIdeal_pre_finite_bwdw [hBwdwIdeal : Cert.BwdwIdeal.Facts] [hPre_finite_bwdw : Cert.Pre_finite_bwdw.Facts] : Prop :=
  ∀ (m : (ℓ : Loc Cert.BwdwIdeal.nD Cert.BwdwIdeal.τ Cert.BwdwIdeal.sig) → Buf (Elt Ideal) ℓ) (g : Dev Cert.BwdwIdeal.nD → PrngReg), Pre_BwdwIdeal_finite_bwdw m →
    θ_run (Cert.BwdwIdeal.defs (F := Ideal)) (onTc (τ := Cert.BwdwIdeal.τ) (Cert.BwdwIdeal.main (F := Ideal))) ⟨m, fun _ => 0, g⟩ (fun r => (∀ c : Dev Cert.BwdwIdeal.nD,
      r.2.mem ((c.tc : Thread Cert.BwdwIdeal.nD Cert.BwdwIdeal.τ).loc Cert.BwdwIdeal.main_arg0) = m ((c.tc : Thread Cert.BwdwIdeal.nD Cert.BwdwIdeal.τ).loc Cert.BwdwIdeal.main_arg0)
      ∧ r.2.mem ((c.tc : Thread Cert.BwdwIdeal.nD Cert.BwdwIdeal.τ).loc Cert.BwdwIdeal.main_arg1) = m ((c.tc : Thread Cert.BwdwIdeal.nD Cert.BwdwIdeal.τ).loc Cert.BwdwIdeal.main_arg1)
      ∧ r.2.mem ((c.tc : Thread Cert.BwdwIdeal.nD Cert.BwdwIdeal.τ).loc Cert.BwdwIdeal.main_arg2) = m ((c.tc : Thread Cert.BwdwIdeal.nD Cert.BwdwIdeal.τ).loc Cert.BwdwIdeal.main_arg2)
      ∧ r.2.mem ((c.tc : Thread Cert.BwdwIdeal.nD Cert.BwdwIdeal.τ).loc Cert.BwdwIdeal.main_arg3) = m ((c.tc : Thread Cert.BwdwIdeal.nD Cert.BwdwIdeal.τ).loc Cert.BwdwIdeal.main_arg3)
      ∧ r.2.mem ((c.tc : Thread Cert.BwdwIdeal.nD Cert.BwdwIdeal.τ).loc Cert.BwdwIdeal.main_arg4) = m ((c.tc : Thread Cert.BwdwIdeal.nD Cert.BwdwIdeal.τ).loc Cert.BwdwIdeal.main_arg4)
      ∧ r.2.mem ((c.tc : Thread Cert.BwdwIdeal.nD Cert.BwdwIdeal.τ).loc Cert.BwdwIdeal.main_arg5) = m ((c.tc : Thread Cert.BwdwIdeal.nD Cert.BwdwIdeal.τ).loc Cert.BwdwIdeal.main_arg5))
      ∧ r.2.sem = fun _ => 0)

def quiescent_BwdwRefIdeal [hBwdwRefIdeal : Cert.BwdwRefIdeal.Facts] : Prop :=
  ∀ (m : (ℓ : Loc Cert.BwdwRefIdeal.nD Cert.BwdwRefIdeal.τ Cert.BwdwRefIdeal.sig) → Buf (Elt Ideal) ℓ) (g : Dev Cert.BwdwRefIdeal.nD → PrngReg), Pre_BwdwRefIdeal m →
    θ_run (Cert.BwdwRefIdeal.defs (F := Ideal)) (onTc (τ := Cert.BwdwRefIdeal.τ) (Cert.BwdwRefIdeal.main (F := Ideal))) ⟨m, fun _ => 0, g⟩ (fun r => (∀ c : Dev Cert.BwdwRefIdeal.nD,
      r.2.mem ((c.tc : Thread Cert.BwdwRefIdeal.nD Cert.BwdwRefIdeal.τ).loc Cert.BwdwRefIdeal.main_arg0) = m ((c.tc : Thread Cert.BwdwRefIdeal.nD Cert.BwdwRefIdeal.τ).loc Cert.BwdwRefIdeal.main_arg0)
      ∧ r.2.mem ((c.tc : Thread Cert.BwdwRefIdeal.nD Cert.BwdwRefIdeal.τ).loc Cert.BwdwRefIdeal.main_arg1) = m ((c.tc : Thread Cert.BwdwRefIdeal.nD Cert.BwdwRefIdeal.τ).loc Cert.BwdwRefIdeal.main_arg1)
      ∧ r.2.mem ((c.tc : Thread Cert.BwdwRefIdeal.nD Cert.BwdwRefIdeal.τ).loc Cert.BwdwRefIdeal.main_arg2) = m ((c.tc : Thread Cert.BwdwRefIdeal.nD Cert.BwdwRefIdeal.τ).loc Cert.BwdwRefIdeal.main_arg2)
      ∧ r.2.mem ((c.tc : Thread Cert.BwdwRefIdeal.nD Cert.BwdwRefIdeal.τ).loc Cert.BwdwRefIdeal.main_arg3) = m ((c.tc : Thread Cert.BwdwRefIdeal.nD Cert.BwdwRefIdeal.τ).loc Cert.BwdwRefIdeal.main_arg3)
      ∧ r.2.mem ((c.tc : Thread Cert.BwdwRefIdeal.nD Cert.BwdwRefIdeal.τ).loc Cert.BwdwRefIdeal.main_arg4) = m ((c.tc : Thread Cert.BwdwRefIdeal.nD Cert.BwdwRefIdeal.τ).loc Cert.BwdwRefIdeal.main_arg4)
      ∧ r.2.mem ((c.tc : Thread Cert.BwdwRefIdeal.nD Cert.BwdwRefIdeal.τ).loc Cert.BwdwRefIdeal.main_arg5) = m ((c.tc : Thread Cert.BwdwRefIdeal.nD Cert.BwdwRefIdeal.τ).loc Cert.BwdwRefIdeal.main_arg5))
      ∧ r.2.sem = fun _ => 0)

def quiescent_BwdwRefIdeal_pre_finite_bwdw [hBwdwRefIdeal : Cert.BwdwRefIdeal.Facts] [hPre_finite_bwdw : Cert.Pre_finite_bwdw.Facts] : Prop :=
  ∀ (m : (ℓ : Loc Cert.BwdwRefIdeal.nD Cert.BwdwRefIdeal.τ Cert.BwdwRefIdeal.sig) → Buf (Elt Ideal) ℓ) (g : Dev Cert.BwdwRefIdeal.nD → PrngReg), Pre_BwdwRefIdeal_finite_bwdw m →
    θ_run (Cert.BwdwRefIdeal.defs (F := Ideal)) (onTc (τ := Cert.BwdwRefIdeal.τ) (Cert.BwdwRefIdeal.main (F := Ideal))) ⟨m, fun _ => 0, g⟩ (fun r => (∀ c : Dev Cert.BwdwRefIdeal.nD,
      r.2.mem ((c.tc : Thread Cert.BwdwRefIdeal.nD Cert.BwdwRefIdeal.τ).loc Cert.BwdwRefIdeal.main_arg0) = m ((c.tc : Thread Cert.BwdwRefIdeal.nD Cert.BwdwRefIdeal.τ).loc Cert.BwdwRefIdeal.main_arg0)
      ∧ r.2.mem ((c.tc : Thread Cert.BwdwRefIdeal.nD Cert.BwdwRefIdeal.τ).loc Cert.BwdwRefIdeal.main_arg1) = m ((c.tc : Thread Cert.BwdwRefIdeal.nD Cert.BwdwRefIdeal.τ).loc Cert.BwdwRefIdeal.main_arg1)
      ∧ r.2.mem ((c.tc : Thread Cert.BwdwRefIdeal.nD Cert.BwdwRefIdeal.τ).loc Cert.BwdwRefIdeal.main_arg2) = m ((c.tc : Thread Cert.BwdwRefIdeal.nD Cert.BwdwRefIdeal.τ).loc Cert.BwdwRefIdeal.main_arg2)
      ∧ r.2.mem ((c.tc : Thread Cert.BwdwRefIdeal.nD Cert.BwdwRefIdeal.τ).loc Cert.BwdwRefIdeal.main_arg3) = m ((c.tc : Thread Cert.BwdwRefIdeal.nD Cert.BwdwRefIdeal.τ).loc Cert.BwdwRefIdeal.main_arg3)
      ∧ r.2.mem ((c.tc : Thread Cert.BwdwRefIdeal.nD Cert.BwdwRefIdeal.τ).loc Cert.BwdwRefIdeal.main_arg4) = m ((c.tc : Thread Cert.BwdwRefIdeal.nD Cert.BwdwRefIdeal.τ).loc Cert.BwdwRefIdeal.main_arg4)
      ∧ r.2.mem ((c.tc : Thread Cert.BwdwRefIdeal.nD Cert.BwdwRefIdeal.τ).loc Cert.BwdwRefIdeal.main_arg5) = m ((c.tc : Thread Cert.BwdwRefIdeal.nD Cert.BwdwRefIdeal.τ).loc Cert.BwdwRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6))
      ∧ r.2.sem = fun _ => 0)

def quiescent_MixFwdIdeal_pre_finite_mixf [hMixFwdIdeal : Cert.MixFwdIdeal.Facts] [hPre_finite_mixf : Cert.Pre_finite_mixf.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal_finite_mixf m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6))
      ∧ r.2.sem = fun _ => 0)

def quiescent_MixFwdRefIdeal_pre_finite_mixf [hMixFwdRefIdeal : Cert.MixFwdRefIdeal.Facts] [hPre_finite_mixf : Cert.Pre_finite_mixf.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal_finite_mixf m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6))
      ∧ r.2.sem = fun _ => 0)

def quiescent_FfnB [hFfnB : Cert.FfnB.Facts] : Prop :=
  ∀ (m : (ℓ : Loc Cert.FfnB.nD Cert.FfnB.τ Cert.FfnB.sig) → Buf (Elt Bits) ℓ) (g : Dev Cert.FfnB.nD → PrngReg), Pre_FfnB m →
    θ_run (Cert.FfnB.defs (F := Bits)) (onTc (τ := Cert.FfnB.τ) (Cert.FfnB.main (F := Bits))) ⟨m, fun _ => 0, g⟩ (fun r => (∀ c : Dev Cert.FfnB.nD,
      r.2.mem ((c.tc : Thread Cert.FfnB.nD Cert.FfnB.τ).loc Cert.FfnB.main_arg0) = m ((c.tc : Thread Cert.FfnB.nD Cert.FfnB.τ).loc Cert.FfnB.main_arg0)
      ∧ r.2.mem ((c.tc : Thread Cert.FfnB.nD Cert.FfnB.τ).loc Cert.FfnB.main_arg1) = m ((c.tc : Thread Cert.FfnB.nD Cert.FfnB.τ).loc Cert.FfnB.main_arg1)
      ∧ r.2.mem ((c.tc : Thread Cert.FfnB.nD Cert.FfnB.τ).loc Cert.FfnB.main_arg2) = m ((c.tc : Thread Cert.FfnB.nD Cert.FfnB.τ).loc Cert.FfnB.main_arg2)
      ∧ r.2.mem ((c.tc : Thread Cert.FfnB.nD Cert.FfnB.τ).loc Cert.FfnB.main_arg3) = m ((c.tc : Thread Cert.FfnB.nD Cert.FfnB.τ).loc Cert.FfnB.main_arg3)
      ∧ r.2.mem ((c.tc : Thread Cert.FfnB.nD Cert.FfnB.τ).loc Cert.FfnB.main_arg4) = m ((c.tc : Thread Cert.FfnB.nD Cert.FfnB.τ).loc Cert.FfnB.main_arg4))
      ∧ r.2.sem = fun _ => 0)

def quiescent_FfnBIdeal [hFfnBIdeal : Cert.FfnBIdeal.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4))
      ∧ r.2.sem = fun _ => 0)

def quiescent_FfnBRefIdeal [hFfnBRefIdeal : Cert.FfnBRefIdeal.Facts] : Prop :=
  ∀ (m : (ℓ : Loc Cert.FfnBRefIdeal.nD Cert.FfnBRefIdeal.τ Cert.FfnBRefIdeal.sig) → Buf (Elt Ideal) ℓ) (g : Dev Cert.FfnBRefIdeal.nD → PrngReg), Pre_FfnBRefIdeal m →
    θ_run (Cert.FfnBRefIdeal.defs (F := Ideal)) (onTc (τ := Cert.FfnBRefIdeal.τ) (Cert.FfnBRefIdeal.main (F := Ideal))) ⟨m, fun _ => 0, g⟩ (fun r => (∀ c : Dev Cert.FfnBRefIdeal.nD,
      r.2.mem ((c.tc : Thread Cert.FfnBRefIdeal.nD Cert.FfnBRefIdeal.τ).loc Cert.FfnBRefIdeal.main_arg0) = m ((c.tc : Thread Cert.FfnBRefIdeal.nD Cert.FfnBRefIdeal.τ).loc Cert.FfnBRefIdeal.main_arg0)
      ∧ r.2.mem ((c.tc : Thread Cert.FfnBRefIdeal.nD Cert.FfnBRefIdeal.τ).loc Cert.FfnBRefIdeal.main_arg1) = m ((c.tc : Thread Cert.FfnBRefIdeal.nD Cert.FfnBRefIdeal.τ).loc Cert.FfnBRefIdeal.main_arg1)
      ∧ r.2.mem ((c.tc : Thread Cert.FfnBRefIdeal.nD Cert.FfnBRefIdeal.τ).loc Cert.FfnBRefIdeal.main_arg2) = m ((c.tc : Thread Cert.FfnBRefIdeal.nD Cert.FfnBRefIdeal.τ).loc Cert.FfnBRefIdeal.main_arg2)
      ∧ r.2.mem ((c.tc : Thread Cert.FfnBRefIdeal.nD Cert.FfnBRefIdeal.τ).loc Cert.FfnBRefIdeal.main_arg3) = m ((c.tc : Thread Cert.FfnBRefIdeal.nD Cert.FfnBRefIdeal.τ).loc Cert.FfnBRefIdeal.main_arg3)
      ∧ r.2.mem ((c.tc : Thread Cert.FfnBRefIdeal.nD Cert.FfnBRefIdeal.τ).loc Cert.FfnBRefIdeal.main_arg4) = m ((c.tc : Thread Cert.FfnBRefIdeal.nD Cert.FfnBRefIdeal.τ).loc Cert.FfnBRefIdeal.main_arg4))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2))
      ∧ r.2.sem = fun _ => 0)

def preserves_Dx_DxIdeal : Prop :=
  True

def algebraic_DxIdeal_DxRefIdeal_pre_finite_dx [hDxIdeal : Cert.DxIdeal.Facts] [hDxRefIdeal : Cert.DxRefIdeal.Facts] [hPre_finite_dx : Cert.Pre_finite_dx.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal_finite_dx m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)) →
    ∃ (v0 : (c : Dev Cert.DxIdeal.nD) → Buf (Elt Ideal) ((c.tc : Thread Cert.DxIdeal.nD Cert.DxIdeal.τ).loc Cert.DxIdeal.main_v40_0)) (v1 : (c : Dev Cert.DxIdeal.nD) → Buf (Elt Ideal) ((c.tc : Thread Cert.DxIdeal.nD Cert.DxIdeal.τ).loc Cert.DxIdeal.main_v40_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v40_0) = v0 c
          ∧ r.2.mem ((c.tc : Thread Cert.DxIdeal.nD Cert.DxIdeal.τ).loc Cert.DxIdeal.main_v40_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v44) = v0 c
          ∧ r.2.mem ((c.tc : Thread Cert.DxRefIdeal.nD Cert.DxRefIdeal.τ).loc Cert.DxRefIdeal.main_v45) = v1 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)) →
    ∃ (v0 : (c : Dev Cert.LossIdeal.nD) → Buf (Elt Ideal) ((c.tc : Thread Cert.LossIdeal.nD Cert.LossIdeal.τ).loc Cert.LossIdeal.main_v52_0)) (v1 : (c : Dev Cert.LossIdeal.nD) → Buf (Elt Ideal) ((c.tc : Thread Cert.LossIdeal.nD Cert.LossIdeal.τ).loc Cert.LossIdeal.main_v52_1)) (v2 : (c : Dev Cert.LossIdeal.nD) → Buf (Elt Ideal) ((c.tc : Thread Cert.LossIdeal.nD Cert.LossIdeal.τ).loc Cert.LossIdeal.main_v52_2)) (v3 : (c : Dev Cert.LossIdeal.nD) → Buf (Elt Ideal) ((c.tc : Thread Cert.LossIdeal.nD Cert.LossIdeal.τ).loc Cert.LossIdeal.main_v52_3)) (v4 : (c : Dev Cert.LossIdeal.nD) → Buf (Elt Ideal) ((c.tc : Thread Cert.LossIdeal.nD Cert.LossIdeal.τ).loc Cert.LossIdeal.main_v52_4)) (v5 : (c : Dev Cert.LossIdeal.nD) → Buf (Elt Ideal) ((c.tc : Thread Cert.LossIdeal.nD Cert.LossIdeal.τ).loc Cert.LossIdeal.main_v52_5)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v52_0) = v0 c
          ∧ r.2.mem ((c.tc : Thread Cert.LossIdeal.nD Cert.LossIdeal.τ).loc Cert.LossIdeal.main_v52_1) = v1 c
          ∧ r.2.mem ((c.tc : Thread Cert.LossIdeal.nD Cert.LossIdeal.τ).loc Cert.LossIdeal.main_v52_2) = v2 c
          ∧ r.2.mem ((c.tc : Thread Cert.LossIdeal.nD Cert.LossIdeal.τ).loc Cert.LossIdeal.main_v52_3) = v3 c
          ∧ r.2.mem ((c.tc : Thread Cert.LossIdeal.nD Cert.LossIdeal.τ).loc Cert.LossIdeal.main_v52_4) = v4 c
          ∧ r.2.mem ((c.tc : Thread Cert.LossIdeal.nD Cert.LossIdeal.τ).loc Cert.LossIdeal.main_v52_5) = v5 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v79) = v0 c
          ∧ r.2.mem ((c.tc : Thread Cert.LossRefIdeal.nD Cert.LossRefIdeal.τ).loc Cert.LossRefIdeal.main_v83) = v1 c
          ∧ r.2.mem ((c.tc : Thread Cert.LossRefIdeal.nD Cert.LossRefIdeal.τ).loc Cert.LossRefIdeal.main_v84) = v2 c
          ∧ r.2.mem ((c.tc : Thread Cert.LossRefIdeal.nD Cert.LossRefIdeal.τ).loc Cert.LossRefIdeal.main_v75) = v3 c
          ∧ r.2.mem ((c.tc : Thread Cert.LossRefIdeal.nD Cert.LossRefIdeal.τ).loc Cert.LossRefIdeal.main_v85) = v4 c
          ∧ r.2.mem ((c.tc : Thread Cert.LossRefIdeal.nD Cert.LossRefIdeal.τ).loc Cert.LossRefIdeal.main_v88) = v5 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6))

def preserves_Bwdw_BwdwIdeal : Prop :=
  True

def algebraic_BwdwIdeal_BwdwRefIdeal_pre_finite_bwdw [hBwdwIdeal : Cert.BwdwIdeal.Facts] [hBwdwRefIdeal : Cert.BwdwRefIdeal.Facts] [hPre_finite_bwdw : Cert.Pre_finite_bwdw.Facts] : Prop :=
  ∀ (m : (ℓ : Loc Cert.BwdwIdeal.nD Cert.BwdwIdeal.τ Cert.BwdwIdeal.sig) → Buf (Elt Ideal) ℓ) (g : Dev Cert.BwdwIdeal.nD → PrngReg)
    (m' : (ℓ : Loc Cert.BwdwRefIdeal.nD Cert.BwdwRefIdeal.τ Cert.BwdwRefIdeal.sig) → Buf (Elt Ideal) ℓ) (g' : Dev Cert.BwdwRefIdeal.nD → PrngReg), Pre_BwdwIdeal_finite_bwdw m →
    (∀ c : Dev Cert.BwdwIdeal.nD,
      m' ((c.tc : Thread Cert.BwdwRefIdeal.nD Cert.BwdwRefIdeal.τ).loc Cert.BwdwRefIdeal.main_arg0) = m ((c.tc : Thread Cert.BwdwIdeal.nD Cert.BwdwIdeal.τ).loc Cert.BwdwIdeal.main_arg0)
      ∧ m' ((c.tc : Thread Cert.BwdwRefIdeal.nD Cert.BwdwRefIdeal.τ).loc Cert.BwdwRefIdeal.main_arg1) = m ((c.tc : Thread Cert.BwdwIdeal.nD Cert.BwdwIdeal.τ).loc Cert.BwdwIdeal.main_arg1)
      ∧ m' ((c.tc : Thread Cert.BwdwRefIdeal.nD Cert.BwdwRefIdeal.τ).loc Cert.BwdwRefIdeal.main_arg2) = m ((c.tc : Thread Cert.BwdwIdeal.nD Cert.BwdwIdeal.τ).loc Cert.BwdwIdeal.main_arg2)
      ∧ m' ((c.tc : Thread Cert.BwdwRefIdeal.nD Cert.BwdwRefIdeal.τ).loc Cert.BwdwRefIdeal.main_arg3) = m ((c.tc : Thread Cert.BwdwIdeal.nD Cert.BwdwIdeal.τ).loc Cert.BwdwIdeal.main_arg3)
      ∧ m' ((c.tc : Thread Cert.BwdwRefIdeal.nD Cert.BwdwRefIdeal.τ).loc Cert.BwdwRefIdeal.main_arg4) = m ((c.tc : Thread Cert.BwdwIdeal.nD Cert.BwdwIdeal.τ).loc Cert.BwdwIdeal.main_arg4)
      ∧ m' ((c.tc : Thread Cert.BwdwRefIdeal.nD Cert.BwdwRefIdeal.τ).loc Cert.BwdwRefIdeal.main_arg5) = m ((c.tc : Thread Cert.BwdwIdeal.nD Cert.BwdwIdeal.τ).loc Cert.BwdwIdeal.main_arg5)) →
    ∃ (v0 : (c : Dev Cert.BwdwIdeal.nD) → Buf (Elt Ideal) ((c.tc : Thread Cert.BwdwIdeal.nD Cert.BwdwIdeal.τ).loc Cert.BwdwIdeal.main_v39_0)) (v1 : (c : Dev Cert.BwdwIdeal.nD) → Buf (Elt Ideal) ((c.tc : Thread Cert.BwdwIdeal.nD Cert.BwdwIdeal.τ).loc Cert.BwdwIdeal.main_v39_1)) (v2 : (c : Dev Cert.BwdwIdeal.nD) → Buf (Elt Ideal) ((c.tc : Thread Cert.BwdwIdeal.nD Cert.BwdwIdeal.τ).loc Cert.BwdwIdeal.main_v39_2)) (v3 : (c : Dev Cert.BwdwIdeal.nD) → Buf (Elt Ideal) ((c.tc : Thread Cert.BwdwIdeal.nD Cert.BwdwIdeal.τ).loc Cert.BwdwIdeal.main_v39_3)) (v4 : (c : Dev Cert.BwdwIdeal.nD) → Buf (Elt Ideal) ((c.tc : Thread Cert.BwdwIdeal.nD Cert.BwdwIdeal.τ).loc Cert.BwdwIdeal.main_v39_4)),
      θ_run (Cert.BwdwIdeal.defs (F := Ideal)) (onTc (τ := Cert.BwdwIdeal.τ) (Cert.BwdwIdeal.main (F := Ideal))) ⟨m, fun _ => 0, g⟩ (fun r => ∀ c : Dev Cert.BwdwIdeal.nD,
          r.2.mem ((c.tc : Thread Cert.BwdwIdeal.nD Cert.BwdwIdeal.τ).loc Cert.BwdwIdeal.main_v39_0) = v0 c
          ∧ r.2.mem ((c.tc : Thread Cert.BwdwIdeal.nD Cert.BwdwIdeal.τ).loc Cert.BwdwIdeal.main_v39_1) = v1 c
          ∧ r.2.mem ((c.tc : Thread Cert.BwdwIdeal.nD Cert.BwdwIdeal.τ).loc Cert.BwdwIdeal.main_v39_2) = v2 c
          ∧ r.2.mem ((c.tc : Thread Cert.BwdwIdeal.nD Cert.BwdwIdeal.τ).loc Cert.BwdwIdeal.main_v39_3) = v3 c
          ∧ r.2.mem ((c.tc : Thread Cert.BwdwIdeal.nD Cert.BwdwIdeal.τ).loc Cert.BwdwIdeal.main_v39_4) = v4 c
          ∧ r.2.mem ((c.tc : Thread Cert.BwdwIdeal.nD Cert.BwdwIdeal.τ).loc Cert.BwdwIdeal.main_arg0) = m ((c.tc : Thread Cert.BwdwIdeal.nD Cert.BwdwIdeal.τ).loc Cert.BwdwIdeal.main_arg0)
          ∧ r.2.mem ((c.tc : Thread Cert.BwdwIdeal.nD Cert.BwdwIdeal.τ).loc Cert.BwdwIdeal.main_arg1) = m ((c.tc : Thread Cert.BwdwIdeal.nD Cert.BwdwIdeal.τ).loc Cert.BwdwIdeal.main_arg1)
          ∧ r.2.mem ((c.tc : Thread Cert.BwdwIdeal.nD Cert.BwdwIdeal.τ).loc Cert.BwdwIdeal.main_arg2) = m ((c.tc : Thread Cert.BwdwIdeal.nD Cert.BwdwIdeal.τ).loc Cert.BwdwIdeal.main_arg2)
          ∧ r.2.mem ((c.tc : Thread Cert.BwdwIdeal.nD Cert.BwdwIdeal.τ).loc Cert.BwdwIdeal.main_arg3) = m ((c.tc : Thread Cert.BwdwIdeal.nD Cert.BwdwIdeal.τ).loc Cert.BwdwIdeal.main_arg3)
          ∧ r.2.mem ((c.tc : Thread Cert.BwdwIdeal.nD Cert.BwdwIdeal.τ).loc Cert.BwdwIdeal.main_arg4) = m ((c.tc : Thread Cert.BwdwIdeal.nD Cert.BwdwIdeal.τ).loc Cert.BwdwIdeal.main_arg4)
          ∧ r.2.mem ((c.tc : Thread Cert.BwdwIdeal.nD Cert.BwdwIdeal.τ).loc Cert.BwdwIdeal.main_arg5) = m ((c.tc : Thread Cert.BwdwIdeal.nD Cert.BwdwIdeal.τ).loc Cert.BwdwIdeal.main_arg5))
      ∧ θ_run (Cert.BwdwRefIdeal.defs (F := Ideal)) (onTc (τ := Cert.BwdwRefIdeal.τ) (Cert.BwdwRefIdeal.main (F := Ideal))) ⟨m', fun _ => 0, g'⟩ (fun r => ∀ c : Dev Cert.BwdwRefIdeal.nD,
          r.2.mem ((c.tc : Thread Cert.BwdwRefIdeal.nD Cert.BwdwRefIdeal.τ).loc Cert.BwdwRefIdeal.main_v55) = v0 c
          ∧ r.2.mem ((c.tc : Thread Cert.BwdwRefIdeal.nD Cert.BwdwRefIdeal.τ).loc Cert.BwdwRefIdeal.main_v56) = v1 c
          ∧ r.2.mem ((c.tc : Thread Cert.BwdwRefIdeal.nD Cert.BwdwRefIdeal.τ).loc Cert.BwdwRefIdeal.main_v57) = v2 c
          ∧ r.2.mem ((c.tc : Thread Cert.BwdwRefIdeal.nD Cert.BwdwRefIdeal.τ).loc Cert.BwdwRefIdeal.main_v58) = v3 c
          ∧ r.2.mem ((c.tc : Thread Cert.BwdwRefIdeal.nD Cert.BwdwRefIdeal.τ).loc Cert.BwdwRefIdeal.main_v59) = v4 c
          ∧ r.2.mem ((c.tc : Thread Cert.BwdwRefIdeal.nD Cert.BwdwRefIdeal.τ).loc Cert.BwdwRefIdeal.main_arg0) = m' ((c.tc : Thread Cert.BwdwRefIdeal.nD Cert.BwdwRefIdeal.τ).loc Cert.BwdwRefIdeal.main_arg0)
          ∧ r.2.mem ((c.tc : Thread Cert.BwdwRefIdeal.nD Cert.BwdwRefIdeal.τ).loc Cert.BwdwRefIdeal.main_arg1) = m' ((c.tc : Thread Cert.BwdwRefIdeal.nD Cert.BwdwRefIdeal.τ).loc Cert.BwdwRefIdeal.main_arg1)
          ∧ r.2.mem ((c.tc : Thread Cert.BwdwRefIdeal.nD Cert.BwdwRefIdeal.τ).loc Cert.BwdwRefIdeal.main_arg2) = m' ((c.tc : Thread Cert.BwdwRefIdeal.nD Cert.BwdwRefIdeal.τ).loc Cert.BwdwRefIdeal.main_arg2)
          ∧ r.2.mem ((c.tc : Thread Cert.BwdwRefIdeal.nD Cert.BwdwRefIdeal.τ).loc Cert.BwdwRefIdeal.main_arg3) = m' ((c.tc : Thread Cert.BwdwRefIdeal.nD Cert.BwdwRefIdeal.τ).loc Cert.BwdwRefIdeal.main_arg3)
          ∧ r.2.mem ((c.tc : Thread Cert.BwdwRefIdeal.nD Cert.BwdwRefIdeal.τ).loc Cert.BwdwRefIdeal.main_arg4) = m' ((c.tc : Thread Cert.BwdwRefIdeal.nD Cert.BwdwRefIdeal.τ).loc Cert.BwdwRefIdeal.main_arg4)
          ∧ r.2.mem ((c.tc : Thread Cert.BwdwRefIdeal.nD Cert.BwdwRefIdeal.τ).loc Cert.BwdwRefIdeal.main_arg5) = m' ((c.tc : Thread Cert.BwdwRefIdeal.nD Cert.BwdwRefIdeal.τ).loc Cert.BwdwRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v17_0)) (v1 : (c : Dev Cert.FfnIdeal.nD) → Buf (Elt Ideal) ((c.tc : Thread Cert.FfnIdeal.nD Cert.FfnIdeal.τ).loc Cert.FfnIdeal.main_v17_1)) (v2 : (c : Dev Cert.FfnIdeal.nD) → Buf (Elt Ideal) ((c.tc : Thread Cert.FfnIdeal.nD Cert.FfnIdeal.τ).loc Cert.FfnIdeal.main_v17_2)) (v3 : (c : Dev Cert.FfnIdeal.nD) → Buf (Elt Ideal) ((c.tc : Thread Cert.FfnIdeal.nD Cert.FfnIdeal.τ).loc Cert.FfnIdeal.main_v17_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v17_0) = v0 c
          ∧ r.2.mem ((c.tc : Thread Cert.FfnIdeal.nD Cert.FfnIdeal.τ).loc Cert.FfnIdeal.main_v17_1) = v1 c
          ∧ r.2.mem ((c.tc : Thread Cert.FfnIdeal.nD Cert.FfnIdeal.τ).loc Cert.FfnIdeal.main_v17_2) = v2 c
          ∧ r.2.mem ((c.tc : Thread Cert.FfnIdeal.nD Cert.FfnIdeal.τ).loc Cert.FfnIdeal.main_v17_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_v36) = v1 c
          ∧ r.2.mem ((c.tc : Thread Cert.FfnRefIdeal.nD Cert.FfnRefIdeal.τ).loc Cert.FfnRefIdeal.main_v37) = v2 c
          ∧ r.2.mem ((c.tc : Thread Cert.FfnRefIdeal.nD Cert.FfnRefIdeal.τ).loc Cert.FfnRefIdeal.main_v38) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Mix_MixIdeal : Prop :=
  True

def algebraic_MixIdeal_MixRefIdeal_pre_finite_mix [hMixIdeal : Cert.MixIdeal.Facts] [hMixRefIdeal : Cert.MixRefIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mix m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v94_0)) (v1 : (c : Dev Cert.MixIdeal.nD) → Buf (Elt Ideal) ((c.tc : Thread Cert.MixIdeal.nD Cert.MixIdeal.τ).loc Cert.MixIdeal.main_v94_1)) (v2 : (c : Dev Cert.MixIdeal.nD) → Buf (Elt Ideal) ((c.tc : Thread Cert.MixIdeal.nD Cert.MixIdeal.τ).loc Cert.MixIdeal.main_v94_2)) (v3 : (c : Dev Cert.MixIdeal.nD) → Buf (Elt Ideal) ((c.tc : Thread Cert.MixIdeal.nD Cert.MixIdeal.τ).loc Cert.MixIdeal.main_v94_3)) (v4 : (c : Dev Cert.MixIdeal.nD) → Buf (Elt Ideal) ((c.tc : Thread Cert.MixIdeal.nD Cert.MixIdeal.τ).loc Cert.MixIdeal.main_v94_4)) (v5 : (c : Dev Cert.MixIdeal.nD) → Buf (Elt Ideal) ((c.tc : Thread Cert.MixIdeal.nD Cert.MixIdeal.τ).loc Cert.MixIdeal.main_v94_5)) (v6 : (c : Dev Cert.MixIdeal.nD) → Buf (Elt Ideal) ((c.tc : Thread Cert.MixIdeal.nD Cert.MixIdeal.τ).loc Cert.MixIdeal.main_v94_6)) (v7 : (c : Dev Cert.MixIdeal.nD) → Buf (Elt Ideal) ((c.tc : Thread Cert.MixIdeal.nD Cert.MixIdeal.τ).loc Cert.MixIdeal.main_v94_7)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v94_0) = v0 c
          ∧ r.2.mem ((c.tc : Thread Cert.MixIdeal.nD Cert.MixIdeal.τ).loc Cert.MixIdeal.main_v94_1) = v1 c
          ∧ r.2.mem ((c.tc : Thread Cert.MixIdeal.nD Cert.MixIdeal.τ).loc Cert.MixIdeal.main_v94_2) = v2 c
          ∧ r.2.mem ((c.tc : Thread Cert.MixIdeal.nD Cert.MixIdeal.τ).loc Cert.MixIdeal.main_v94_3) = v3 c
          ∧ r.2.mem ((c.tc : Thread Cert.MixIdeal.nD Cert.MixIdeal.τ).loc Cert.MixIdeal.main_v94_4) = v4 c
          ∧ r.2.mem ((c.tc : Thread Cert.MixIdeal.nD Cert.MixIdeal.τ).loc Cert.MixIdeal.main_v94_5) = v5 c
          ∧ r.2.mem ((c.tc : Thread Cert.MixIdeal.nD Cert.MixIdeal.τ).loc Cert.MixIdeal.main_v94_6) = v6 c
          ∧ r.2.mem ((c.tc : Thread Cert.MixIdeal.nD Cert.MixIdeal.τ).loc Cert.MixIdeal.main_v94_7) = v7 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v285) = v0 c
          ∧ r.2.mem ((c.tc : Thread Cert.MixRefIdeal.nD Cert.MixRefIdeal.τ).loc Cert.MixRefIdeal.main_v287) = v1 c
          ∧ r.2.mem ((c.tc : Thread Cert.MixRefIdeal.nD Cert.MixRefIdeal.τ).loc Cert.MixRefIdeal.main_v289) = v2 c
          ∧ r.2.mem ((c.tc : Thread Cert.MixRefIdeal.nD Cert.MixRefIdeal.τ).loc Cert.MixRefIdeal.main_v286) = v3 c
          ∧ r.2.mem ((c.tc : Thread Cert.MixRefIdeal.nD Cert.MixRefIdeal.τ).loc Cert.MixRefIdeal.main_v290) = v4 c
          ∧ r.2.mem ((c.tc : Thread Cert.MixRefIdeal.nD Cert.MixRefIdeal.τ).loc Cert.MixRefIdeal.main_v291) = v5 c
          ∧ r.2.mem ((c.tc : Thread Cert.MixRefIdeal.nD Cert.MixRefIdeal.τ).loc Cert.MixRefIdeal.main_v146) = v6 c
          ∧ r.2.mem ((c.tc : Thread Cert.MixRefIdeal.nD Cert.MixRefIdeal.τ).loc Cert.MixRefIdeal.main_v294) = v7 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_MixFwd_MixFwdIdeal : Prop :=
  True

def algebraic_MixFwdIdeal_MixFwdRefIdeal_pre_finite_mixf [hMixFwdIdeal : Cert.MixFwdIdeal.Facts] [hMixFwdRefIdeal : Cert.MixFwdRefIdeal.Facts] [hPre_finite_mixf : Cert.Pre_finite_mixf.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal_finite_mixf m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)) →
    ∃ (v0 : (c : Dev Cert.MixFwdIdeal.nD) → Buf (Elt Ideal) ((c.tc : Thread Cert.MixFwdIdeal.nD Cert.MixFwdIdeal.τ).loc Cert.MixFwdIdeal.main_v9_0)) (v1 : (c : Dev Cert.MixFwdIdeal.nD) → Buf (Elt Ideal) ((c.tc : Thread Cert.MixFwdIdeal.nD Cert.MixFwdIdeal.τ).loc Cert.MixFwdIdeal.main_v9_1)) (v2 : (c : Dev Cert.MixFwdIdeal.nD) → Buf (Elt Ideal) ((c.tc : Thread Cert.MixFwdIdeal.nD Cert.MixFwdIdeal.τ).loc Cert.MixFwdIdeal.main_v9_2)) (v3 : (c : Dev Cert.MixFwdIdeal.nD) → Buf (Elt Ideal) ((c.tc : Thread Cert.MixFwdIdeal.nD Cert.MixFwdIdeal.τ).loc Cert.MixFwdIdeal.main_v9_3)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v9_0) = v0 c
          ∧ r.2.mem ((c.tc : Thread Cert.MixFwdIdeal.nD Cert.MixFwdIdeal.τ).loc Cert.MixFwdIdeal.main_v9_1) = v1 c
          ∧ r.2.mem ((c.tc : Thread Cert.MixFwdIdeal.nD Cert.MixFwdIdeal.τ).loc Cert.MixFwdIdeal.main_v9_2) = v2 c
          ∧ r.2.mem ((c.tc : Thread Cert.MixFwdIdeal.nD Cert.MixFwdIdeal.τ).loc Cert.MixFwdIdeal.main_v9_3) = v3 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v124) = v0 c
          ∧ r.2.mem ((c.tc : Thread Cert.MixFwdRefIdeal.nD Cert.MixFwdRefIdeal.τ).loc Cert.MixFwdRefIdeal.main_v125) = v1 c
          ∧ r.2.mem ((c.tc : Thread Cert.MixFwdRefIdeal.nD Cert.MixFwdRefIdeal.τ).loc Cert.MixFwdRefIdeal.main_v15) = v2 c
          ∧ r.2.mem ((c.tc : Thread Cert.MixFwdRefIdeal.nD Cert.MixFwdRefIdeal.τ).loc Cert.MixFwdRefIdeal.main_v127) = v3 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6))

def preserves_FfnB_FfnBIdeal : Prop :=
  True

def algebraic_FfnBIdeal_FfnBRefIdeal [hFfnBIdeal : Cert.FfnBIdeal.Facts] [hFfnBRefIdeal : Cert.FfnBRefIdeal.Facts] : Prop :=
  ∀ (m : (ℓ : Loc Cert.FfnBIdeal.nD Cert.FfnBIdeal.τ Cert.FfnBIdeal.sig) → Buf (Elt Ideal) ℓ) (g : Dev Cert.FfnBIdeal.nD → PrngReg)
    (m' : (ℓ : Loc Cert.FfnBRefIdeal.nD Cert.FfnBRefIdeal.τ Cert.FfnBRefIdeal.sig) → Buf (Elt Ideal) ℓ) (g' : Dev Cert.FfnBRefIdeal.nD → PrngReg), Pre_FfnBIdeal m →
    (∀ c : Dev Cert.FfnBIdeal.nD,
      m' ((c.tc : Thread Cert.FfnBRefIdeal.nD Cert.FfnBRefIdeal.τ).loc Cert.FfnBRefIdeal.main_arg0) = m ((c.tc : Thread Cert.FfnBIdeal.nD Cert.FfnBIdeal.τ).loc Cert.FfnBIdeal.main_arg0)
      ∧ m' ((c.tc : Thread Cert.FfnBRefIdeal.nD Cert.FfnBRefIdeal.τ).loc Cert.FfnBRefIdeal.main_arg1) = m ((c.tc : Thread Cert.FfnBIdeal.nD Cert.FfnBIdeal.τ).loc Cert.FfnBIdeal.main_arg1)
      ∧ m' ((c.tc : Thread Cert.FfnBRefIdeal.nD Cert.FfnBRefIdeal.τ).loc Cert.FfnBRefIdeal.main_arg2) = m ((c.tc : Thread Cert.FfnBIdeal.nD Cert.FfnBIdeal.τ).loc Cert.FfnBIdeal.main_arg2)
      ∧ m' ((c.tc : Thread Cert.FfnBRefIdeal.nD Cert.FfnBRefIdeal.τ).loc Cert.FfnBRefIdeal.main_arg3) = m ((c.tc : Thread Cert.FfnBIdeal.nD Cert.FfnBIdeal.τ).loc Cert.FfnBIdeal.main_arg3)
      ∧ m' ((c.tc : Thread Cert.FfnBRefIdeal.nD Cert.FfnBRefIdeal.τ).loc Cert.FfnBRefIdeal.main_arg4) = m ((c.tc : Thread Cert.FfnBIdeal.nD Cert.FfnBIdeal.τ).loc Cert.FfnBIdeal.main_arg4)) →
    ∃ (v0 : (c : Dev Cert.FfnBIdeal.nD) → Buf (Elt Ideal) ((c.tc : Thread Cert.FfnBIdeal.nD Cert.FfnBIdeal.τ).loc Cert.FfnBIdeal.main_v51_0)) (v1 : (c : Dev Cert.FfnBIdeal.nD) → Buf (Elt Ideal) ((c.tc : Thread Cert.FfnBIdeal.nD Cert.FfnBIdeal.τ).loc Cert.FfnBIdeal.main_v51_1)) (v2 : (c : Dev Cert.FfnBIdeal.nD) → Buf (Elt Ideal) ((c.tc : Thread Cert.FfnBIdeal.nD Cert.FfnBIdeal.τ).loc Cert.FfnBIdeal.main_v51_2)),
      θ_run (Cert.FfnBIdeal.defs (F := Ideal)) (onTc (τ := Cert.FfnBIdeal.τ) (Cert.FfnBIdeal.main (F := Ideal))) ⟨m, fun _ => 0, g⟩ (fun r => ∀ c : Dev Cert.FfnBIdeal.nD,
          r.2.mem ((c.tc : Thread Cert.FfnBIdeal.nD Cert.FfnBIdeal.τ).loc Cert.FfnBIdeal.main_v51_0) = v0 c
          ∧ r.2.mem ((c.tc : Thread Cert.FfnBIdeal.nD Cert.FfnBIdeal.τ).loc Cert.FfnBIdeal.main_v51_1) = v1 c
          ∧ r.2.mem ((c.tc : Thread Cert.FfnBIdeal.nD Cert.FfnBIdeal.τ).loc Cert.FfnBIdeal.main_v51_2) = v2 c
          ∧ r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
          ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
          ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
          ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
          ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4))
      ∧ θ_run (Cert.FfnBRefIdeal.defs (F := Ideal)) (onTc (τ := Cert.FfnBRefIdeal.τ) (Cert.FfnBRefIdeal.main (F := Ideal))) ⟨m', fun _ => 0, g'⟩ (fun r => ∀ c : Dev Cert.FfnBRefIdeal.nD,
          r.2.mem ((c.tc : Thread Cert.FfnBRefIdeal.nD Cert.FfnBRefIdeal.τ).loc Cert.FfnBRefIdeal.main_v24) = v0 c
          ∧ r.2.mem ((c.tc : Thread Cert.FfnBRefIdeal.nD Cert.FfnBRefIdeal.τ).loc Cert.FfnBRefIdeal.main_v28) = v1 c
          ∧ r.2.mem ((c.tc : Thread Cert.FfnBRefIdeal.nD Cert.FfnBRefIdeal.τ).loc Cert.FfnBRefIdeal.main_v32) = v2 c
          ∧ r.2.mem ((c.tc : Thread Cert.FfnBRefIdeal.nD Cert.FfnBRefIdeal.τ).loc Cert.FfnBRefIdeal.main_arg0) = m' ((c.tc : Thread Cert.FfnBRefIdeal.nD Cert.FfnBRefIdeal.τ).loc Cert.FfnBRefIdeal.main_arg0)
          ∧ r.2.mem ((c.tc : Thread Cert.FfnBRefIdeal.nD Cert.FfnBRefIdeal.τ).loc Cert.FfnBRefIdeal.main_arg1) = m' ((c.tc : Thread Cert.FfnBRefIdeal.nD Cert.FfnBRefIdeal.τ).loc Cert.FfnBRefIdeal.main_arg1)
          ∧ r.2.mem ((c.tc : Thread Cert.FfnBRefIdeal.nD Cert.FfnBRefIdeal.τ).loc Cert.FfnBRefIdeal.main_arg2) = m' ((c.tc : Thread Cert.FfnBRefIdeal.nD Cert.FfnBRefIdeal.τ).loc Cert.FfnBRefIdeal.main_arg2)
          ∧ r.2.mem ((c.tc : Thread Cert.FfnBRefIdeal.nD Cert.FfnBRefIdeal.τ).loc Cert.FfnBRefIdeal.main_arg3) = m' ((c.tc : Thread Cert.FfnBRefIdeal.nD Cert.FfnBRefIdeal.τ).loc Cert.FfnBRefIdeal.main_arg3)
          ∧ r.2.mem ((c.tc : Thread Cert.FfnBRefIdeal.nD Cert.FfnBRefIdeal.τ).loc Cert.FfnBRefIdeal.main_arg4) = m' ((c.tc : Thread Cert.FfnBRefIdeal.nD Cert.FfnBRefIdeal.τ).loc Cert.FfnBRefIdeal.main_arg4))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v3_0)) (v1 : (c : Dev Cert.AdamwIdeal.nD) → Buf (Elt Ideal) ((c.tc : Thread Cert.AdamwIdeal.nD Cert.AdamwIdeal.τ).loc Cert.AdamwIdeal.main_v3_1)) (v2 : (c : Dev Cert.AdamwIdeal.nD) → Buf (Elt Ideal) ((c.tc : Thread Cert.AdamwIdeal.nD Cert.AdamwIdeal.τ).loc Cert.AdamwIdeal.main_v3_2)) (v3 : (c : Dev Cert.AdamwIdeal.nD) → Buf (Elt Ideal) ((c.tc : Thread Cert.AdamwIdeal.nD Cert.AdamwIdeal.τ).loc Cert.AdamwIdeal.main_v3_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v3_0) = v0 c
          ∧ r.2.mem ((c.tc : Thread Cert.AdamwIdeal.nD Cert.AdamwIdeal.τ).loc Cert.AdamwIdeal.main_v3_1) = v1 c
          ∧ r.2.mem ((c.tc : Thread Cert.AdamwIdeal.nD Cert.AdamwIdeal.τ).loc Cert.AdamwIdeal.main_v3_2) = v2 c
          ∧ r.2.mem ((c.tc : Thread Cert.AdamwIdeal.nD Cert.AdamwIdeal.τ).loc Cert.AdamwIdeal.main_v3_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v4) = v0 c
          ∧ r.2.mem ((c.tc : Thread Cert.AdamwRefIdeal.nD Cert.AdamwRefIdeal.τ).loc Cert.AdamwRefIdeal.main_v28) = v1 c
          ∧ r.2.mem ((c.tc : Thread Cert.AdamwRefIdeal.nD Cert.AdamwRefIdeal.τ).loc Cert.AdamwRefIdeal.main_v9) = v2 c
          ∧ r.2.mem ((c.tc : Thread Cert.AdamwRefIdeal.nD Cert.AdamwRefIdeal.τ).loc Cert.AdamwRefIdeal.main_v15) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v1)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v1) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v1) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)) →
    ∃ (v0 : (c : Dev Cert.WinIdeal.nD) → Buf (Elt Ideal) ((c.tc : Thread Cert.WinIdeal.nD Cert.WinIdeal.τ).loc Cert.WinIdeal.main_v16)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v16) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v18) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2))

def Claim : Prop :=
  ∃ (hDx : Cert.Dx.Facts) (hDxIdeal : Cert.DxIdeal.Facts) (hDxRefIdeal : Cert.DxRefIdeal.Facts) (hLoss : Cert.Loss.Facts) (hLossIdeal : Cert.LossIdeal.Facts) (hLossRefIdeal : Cert.LossRefIdeal.Facts) (hBwdw : Cert.Bwdw.Facts) (hBwdwIdeal : Cert.BwdwIdeal.Facts) (hBwdwRefIdeal : Cert.BwdwRefIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hMixFwd : Cert.MixFwd.Facts) (hMixFwdIdeal : Cert.MixFwdIdeal.Facts) (hMixFwdRefIdeal : Cert.MixFwdRefIdeal.Facts) (hFfnB : Cert.FfnB.Facts) (hFfnBIdeal : Cert.FfnBIdeal.Facts) (hFfnBRefIdeal : Cert.FfnBRefIdeal.Facts) (hAdamw : Cert.Adamw.Facts) (hAdamwIdeal : Cert.AdamwIdeal.Facts) (hAdamwRefIdeal : Cert.AdamwRefIdeal.Facts) (hSum : Cert.Sum.Facts) (hSumIdeal : Cert.SumIdeal.Facts) (hSumRefIdeal : Cert.SumRefIdeal.Facts) (hWin : Cert.Win.Facts) (hWinIdeal : Cert.WinIdeal.Facts) (hWinRefIdeal : Cert.WinRefIdeal.Facts) (hPre_finite_dx : Cert.Pre_finite_dx.Facts) (hPre_finite_loss : Cert.Pre_finite_loss.Facts) (hPre_finite_bwdw : Cert.Pre_finite_bwdw.Facts) (hPre_finite_mix : Cert.Pre_finite_mix.Facts) (hPre_finite_mixf : Cert.Pre_finite_mixf.Facts),
    quiescent_Dx (hDx := hDx)
    ∧ quiescent_DxIdeal (hDxIdeal := hDxIdeal)
    ∧ quiescent_DxIdeal_pre_finite_dx (hDxIdeal := hDxIdeal) (hPre_finite_dx := hPre_finite_dx)
    ∧ quiescent_DxRefIdeal (hDxRefIdeal := hDxRefIdeal)
    ∧ quiescent_DxRefIdeal_pre_finite_dx (hDxRefIdeal := hDxRefIdeal) (hPre_finite_dx := hPre_finite_dx)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Bwdw (hBwdw := hBwdw)
    ∧ quiescent_BwdwIdeal (hBwdwIdeal := hBwdwIdeal)
    ∧ quiescent_BwdwIdeal_pre_finite_bwdw (hBwdwIdeal := hBwdwIdeal) (hPre_finite_bwdw := hPre_finite_bwdw)
    ∧ quiescent_BwdwRefIdeal (hBwdwRefIdeal := hBwdwRefIdeal)
    ∧ quiescent_BwdwRefIdeal_pre_finite_bwdw (hBwdwRefIdeal := hBwdwRefIdeal) (hPre_finite_bwdw := hPre_finite_bwdw)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ quiescent_MixFwd (hMixFwd := hMixFwd)
    ∧ quiescent_MixFwdIdeal (hMixFwdIdeal := hMixFwdIdeal)
    ∧ quiescent_MixFwdIdeal_pre_finite_mixf (hMixFwdIdeal := hMixFwdIdeal) (hPre_finite_mixf := hPre_finite_mixf)
    ∧ quiescent_MixFwdRefIdeal (hMixFwdRefIdeal := hMixFwdRefIdeal)
    ∧ quiescent_MixFwdRefIdeal_pre_finite_mixf (hMixFwdRefIdeal := hMixFwdRefIdeal) (hPre_finite_mixf := hPre_finite_mixf)
    ∧ quiescent_FfnB (hFfnB := hFfnB)
    ∧ quiescent_FfnBIdeal (hFfnBIdeal := hFfnBIdeal)
    ∧ quiescent_FfnBRefIdeal (hFfnBRefIdeal := hFfnBRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_Sum (hSum := hSum)
    ∧ quiescent_SumIdeal (hSumIdeal := hSumIdeal)
    ∧ quiescent_SumRefIdeal (hSumRefIdeal := hSumRefIdeal)
    ∧ quiescent_Win (hWin := hWin)
    ∧ quiescent_WinIdeal (hWinIdeal := hWinIdeal)
    ∧ quiescent_WinRefIdeal (hWinRefIdeal := hWinRefIdeal)
    ∧ preserves_Dx_DxIdeal
    ∧ algebraic_DxIdeal_DxRefIdeal_pre_finite_dx (hDxIdeal := hDxIdeal) (hDxRefIdeal := hDxRefIdeal) (hPre_finite_dx := hPre_finite_dx)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Bwdw_BwdwIdeal
    ∧ algebraic_BwdwIdeal_BwdwRefIdeal_pre_finite_bwdw (hBwdwIdeal := hBwdwIdeal) (hBwdwRefIdeal := hBwdwRefIdeal) (hPre_finite_bwdw := hPre_finite_bwdw)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal_pre_finite_mix (hMixIdeal := hMixIdeal) (hMixRefIdeal := hMixRefIdeal) (hPre_finite_mix := hPre_finite_mix)
    ∧ preserves_MixFwd_MixFwdIdeal
    ∧ algebraic_MixFwdIdeal_MixFwdRefIdeal_pre_finite_mixf (hMixFwdIdeal := hMixFwdIdeal) (hMixFwdRefIdeal := hMixFwdRefIdeal) (hPre_finite_mixf := hPre_finite_mixf)
    ∧ preserves_FfnB_FfnBIdeal
    ∧ algebraic_FfnBIdeal_FfnBRefIdeal (hFfnBIdeal := hFfnBIdeal) (hFfnBRefIdeal := hFfnBRefIdeal)
    ∧ preserves_Adamw_AdamwIdeal
    ∧ algebraic_AdamwIdeal_AdamwRefIdeal (hAdamwIdeal := hAdamwIdeal) (hAdamwRefIdeal := hAdamwRefIdeal)
    ∧ preserves_Sum_SumIdeal
    ∧ algebraic_SumIdeal_SumRefIdeal (hSumIdeal := hSumIdeal) (hSumRefIdeal := hSumRefIdeal)
    ∧ preserves_Win_WinIdeal
    ∧ algebraic_WinIdeal_WinRefIdeal (hWinIdeal := hWinIdeal) (hWinRefIdeal := hWinRefIdeal)
-- ==== Pre_finite_bwdw.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x2816x1024 .f32) (main_arg5 : FVec F S4096x1024 .f32) (main_v13 : IVec S_ 1) (main_v16 : IVec S1x1024x2816 1) : IVec S_ 1 :=
  let main_c_5 : IVec S_ 1 := constantI S_ 1 1#1
  let main_v17 : IVec S_ 1 := (fun x v => Host.reduce IntOp.andi x v reducesTo_S1x1024x2816_S_d0_1_2 h_S_) main_v16 main_c_5
  let main_v18 : IVec S_ 1 := andi main_v13 main_v17
  let main_v19 : FVec F S1x2816x1024 .f32 := Host.absf main_arg4
  let main_cst_6 : FVec F S_ .f32 := constant S_ .f32 0x7F800000#32
  let main_v20 : FVec F S1x2816x1024 .f32 := broadcastInDim S1x2816x1024 ![] bcast_S_S1x2816x1024 main_cst_6
  let main_v21 : IVec S1x2816x1024 1 := cmpf .olt main_v19 main_v20
  let main_c_7 : IVec S_ 1 := constantI S_ 1 1#1
  let main_v22 : IVec S_ 1 := (fun x v => Host.reduce IntOp.andi x v reducesTo_S1x2816x1024_S_d0_1_2 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1x1024 .f32) (main_arg2 : FVec F S1x1024x2816 .f32) (main_arg3 : FVec F S1x1024x2816 .f32) (main_arg4 : FVec F S1x2816x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2816 .f32 := Host.absf main_arg2
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_c_3 : IVec S_ 1 := constantI S_ 1 1#1
  let main_v12 : IVec S_ 1 := (fun x v => Host.reduce IntOp.andi x v reducesTo_S1x1024x2816_S_d0_1_2 h_S_) main_v11 main_c_3
  let main_v13 : IVec S_ 1 := andi main_v8 main_v12
  let main_v14 : FVec F S1x1024x2816 .f32 := Host.absf main_arg3
  let main_cst_4 : FVec F S_ .f32 := constant S_ .f32 0x7F800000#32
  let main_v15 : FVec F S1x1024x2816 .f32 := broadcastInDim S1x1024x2816 ![] bcast_S_S1x1024x2816 main_cst_4
  let main_v16 : IVec S1x1024x2816 1 := cmpf .olt main_v14 main_v15
  fn_part1 (F := F) main_arg4 main_arg5 main_v13 main_v16
-- ==== Pre_finite_dx.lean ====
abbrev S4096x1024 : Shape := ⟨2, ![4096, 1024]⟩
abbrev S1x1024 : Shape := ⟨2, ![1, 1024]⟩
abbrev S1x1024x2816 : Shape := ⟨3, ![1, 1024, 2816]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S4096x2816 : S_.BroadcastsInDim S4096x2816 (![] : Fin 0 → Fin S4096x2816.rank)
  reducesTo_S4096x2816_S_d0_1 : S4096x2816.ReducesTo [0, 1] S_

variable [Facts]

def fn_part1 {F : FTy → Type} [FloatOps F] (main_arg5 : FVec F S4096x2816 .f32) (main_arg6 : FVec F S4096x2816 .f32) (main_v13 : IVec S_ 1) (main_v16 : IVec S1x1024x2816 1) : IVec S_ 1 :=
  let main_c_5 : IVec S_ 1 := constantI S_ 1 1#1
  let main_v17 : IVec S_ 1 := (fun x v => Host.reduce IntOp.andi x v reducesTo_S1x1024x2816_S_d0_1_2 h_S_) main_v16 main_c_5
  let main_v18 : IVec S_ 1 := andi main_v13 main_v17
  let main_v19 : FVec F S4096x2816 .f32 := Host.absf main_arg5
  let main_cst_6 : FVec F S_ .f32 := constant S_ .f32 0x7F800000#32
  let main_v20 : FVec F S4096x2816 .f32 := broadcastInDim S4096x2816 ![] bcast_S_S4096x2816 main_cst_6
  let main_v21 : IVec S4096x2816 1 := cmpf .olt main_v19 main_v20
  let main_c_7 : IVec S_ 1 := constantI S_ 1 1#1
  let main_v22 : IVec S_ 1 := (fun x v => Host.reduce IntOp.andi x v reducesTo_S4096x2816_S_d0_1 h_S_) main_v21 main_c_7
  let main_v23 : IVec S_ 1 := andi main_v18 main_v22
  let main_v24 : FVec F S4096x2816 .f32 := Host.absf main_arg6
  let main_cst_8 : FVec F S_ .f32 := constant S_ .f32 0x7F800000#32
  let main_v25 : FVec F S4096x2816 .f32 := broadcastInDim S4096x2816 ![] bcast_S_S4096x2816 main_cst_8
  let main_v26 : IVec S4096x2816 1 := cmpf .olt main_v24 main_v25
  let main_c_9 : IVec S_ 1 := constantI S_ 1 1#1
  let main_v27 : IVec S_ 1 := (fun x v => Host.reduce IntOp.andi x v reducesTo_S4096x2816_S_d0_1 h_S_) main_v26 main_c_9
  let main_v28 : IVec S_ 1 := andi main_v23 main_v27
  main_v28

def fn {F : FTy → Type} [FloatOps F] (main_arg0 : FVec F S4096x1024 .f32) (main_arg1 : FVec F S1x1024 .f32) (main_arg2 : FVec F S1x1024x2816 .f32) (main_arg3 : FVec F S1x1024x2816 .f32) (main_arg4 : FVec F S4096x1024 .f32) (main_arg5 : FVec F S4096x2816 .f32) (main_arg6 : FVec F S4096x2816 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2816 .f32 := Host.absf main_arg2
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_c_3 : IVec S_ 1 := constantI S_ 1 1#1
  let main_v12 : IVec S_ 1 := (fun x v => Host.reduce IntOp.andi x v reducesTo_S1x1024x2816_S_d0_1_2 h_S_) main_v11 main_c_3
  let main_v13 : IVec S_ 1 := andi main_v8 main_v12
  let main_v14 : FVec F S1x1024x2816 .f32 := Host.absf main_arg3
  let main_cst_4 : FVec F S_ .f32 := constant S_ .f32 0x7F800000#32
  let main_v15 : FVec F S1x1024x2816 .f32 := broadcastInDim S1x1024x2816 ![] bcast_S_S1x1024x2816 main_cst_4
  let main_v16 : IVec S1x1024x2816 1 := cmpf .olt main_v14 main_v15
  fn_part1 (F := F) main_arg5 main_arg6 main_v13 main_v16
-- ==== Pre_finite_loss.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1x2816x1024 .f32) (main_arg5 : FVec F S1024 .f32) (main_arg6 : FVec F S4096x1024 .f32) (main_v13 : IVec S_ 1) (main_v16 : IVec S1x1024x2816 1) : IVec S_ 1 :=
  let main_c_5 : IVec S_ 1 := constantI S_ 1 1#1
  let main_v17 : IVec S_ 1 := (fun x v => Host.reduce IntOp.andi x v reducesTo_S1x1024x2816_S_d0_1_2 h_S_) main_v16 main_c_5
  let main_v18 : IVec S_ 1 := andi main_v13 main_v17
  let main_v19 : FVec F S1x2816x1024 .f32 := Host.absf main_arg4
  let main_cst_6 : FVec F S_ .f32 := constant S_ .f32 0x7F800000#32
  let main_v20 : FVec F S1x2816x1024 .f32 := broadcastInDim S1x2816x1024 ![] bcast_S_S1x2816x1024 main_cst_6
  let main_v21 : IVec S1x2816x1024 1 := cmpf .olt main_v19 main_v20
  let main_c_7 : IVec S_ 1 := constantI S_ 1 1#1
  let main_v22 : IVec S_ 1 := (fun x v => Host.reduce IntOp.andi x v reducesTo_S1x2816x1024_S_d0_1_2 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  main_v33

def fn {F : FTy → Type} [FloatOps F] (main_arg0 : FVec F S4096x1024 .f32) (main_arg1 : FVec F S1x1024 .f32) (main_arg2 : FVec F S1x1024x2816 .f32) (main_arg3 : FVec F S1x1024x2816 .f32) (main_arg4 : FVec F S1x2816x1024 .f32) (main_arg5 : FVec F S1024 .f32) (main_arg6 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2816 .f32 := Host.absf main_arg2
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_c_3 : IVec S_ 1 := constantI S_ 1 1#1
  let main_v12 : IVec S_ 1 := (fun x v => Host.reduce IntOp.andi x v reducesTo_S1x1024x2816_S_d0_1_2 h_S_) main_v11 main_c_3
  let main_v13 : IVec S_ 1 := andi main_v8 main_v12
  let main_v14 : FVec F S1x1024x2816 .f32 := Host.absf main_arg3
  let main_cst_4 : FVec F S_ .f32 := constant S_ .f32 0x7F800000#32
  let main_v15 : FVec F S1x1024x2816 .f32 := broadcastInDim S1x1024x2816 ![] bcast_S_S1x1024x2816 main_cst_4
  let main_v16 : IVec S1x1024x2816 1 := cmpf .olt main_v14 main_v15
  fn_part1 (F := F) main_arg4 main_arg5 main_arg6 main_v13 main_v16
-- ==== Pre_finite_mix.lean ====
abbrev S4096x1024 : Shape := ⟨2, ![4096, 1024]⟩
abbrev S1x1024 : Shape := ⟨2, ![1, 1024]⟩
abbrev S1x1024x2048 : Shape := ⟨3, ![1, 1024, 2048]⟩
abbrev S1x3x512 : Shape := ⟨3, ![1, 3, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2048 : S_.BroadcastsInDim S1x1024x2048 (![] : Fin 0 → Fin S1x1024x2048.rank)
  reducesTo_S1x1024x2048_S_d0_1_2 : S1x1024x2048.ReducesTo [0, 1, 2] S_
  bcast_S_S1x3x512 : S_.BroadcastsInDim S1x3x512 (![] : Fin 0 → Fin S1x3x512.rank)
  reducesTo_S1x3x512_S_d0_1_2 : S1x3x512.ReducesTo [0, 1, 2] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x512 : S_.BroadcastsInDim S1x512 (![] : Fin 0 → Fin S1x512.rank)
  reducesTo_S1x512_S_d0_1 : S1x512.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part2 {F : FTy → Type} [FloatOps F] (main_arg7 : FVec F S4096x1024 .f32) (main_v33 : IVec S_ 1) : IVec S_ 1 :=
  let main_v34 : FVec F S4096x1024 .f32 := Host.absf main_arg7
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  main_v38

def fn_part1 {F : FTy → Type} [FloatOps F] (main_arg4 : FVec F S1x4x128x128 .f32) (main_arg5 : FVec F S1x512 .f32) (main_arg6 : FVec F S1x1024x1024 .f32) (main_arg7 : FVec F S4096x1024 .f32) (main_v13 : IVec S_ 1) (main_v16 : IVec S1x3x512 1) : IVec S_ 1 :=
  let main_c_5 : IVec S_ 1 := constantI S_ 1 1#1
  let main_v17 : IVec S_ 1 := (fun x v => Host.reduce IntOp.andi x v reducesTo_S1x3x512_S_d0_1_2 h_S_) main_v16 main_c_5
  let main_v18 : IVec S_ 1 := andi main_v13 main_v17
  let main_v19 : FVec F S1x4x128x128 .f32 := Host.absf main_arg4
  let main_cst_6 : FVec F S_ .f32 := constant S_ .f32 0x7F800000#32
  let main_v20 : FVec F S1x4x128x128 .f32 := broadcastInDim S1x4x128x128 ![] bcast_S_S1x4x128x128 main_cst_6
  let main_v21 : IVec S1x4x128x128 1 := cmpf .olt main_v19 main_v20
  let main_c_7 : IVec S_ 1 := constantI S_ 1 1#1
  let main_v22 : IVec S_ 1 := (fun x v => Host.reduce IntOp.andi x v reducesTo_S1x4x128x128_S_d0_1_2_3 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1x1024x1024 .f32 := Host.absf main_arg6
  let main_cst_10 : FVec F S_ .f32 := constant S_ .f32 0x7F800000#32
  let main_v30 : FVec F S1x1024x1024 .f32 := broadcastInDim S1x1024x1024 ![] bcast_S_S1x1024x1024 main_cst_10
  let main_v31 : IVec S1x1024x1024 1 := cmpf .olt main_v29 main_v30
  let main_c_11 : IVec S_ 1 := constantI S_ 1 1#1
  let main_v32 : IVec S_ 1 := (fun x v => Host.reduce IntOp.andi x v reducesTo_S1x1024x1024_S_d0_1_2 h_S_) main_v31 main_c_11
  let main_v33 : IVec S_ 1 := andi main_v28 main_v32
  fn_part2 (F := F) main_arg7 main_v33

def fn {F : FTy → Type} [FloatOps F] (main_arg0 : FVec F S4096x1024 .f32) (main_arg1 : FVec F S1x1024 .f32) (main_arg2 : FVec F S1x1024x2048 .f32) (main_arg3 : FVec F S1x3x512 .f32) (main_arg4 : FVec F S1x4x128x128 .f32) (main_arg5 : FVec F S1x512 .f32) (main_arg6 : FVec F S1x1024x1024 .f32) (main_arg7 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2048 .f32 := Host.absf main_arg2
  let main_cst_2 : FVec F S_ .f32 := constant S_ .f32 0x7F800000#32
  let main_v10 : FVec F S1x1024x2048 .f32 := broadcastInDim S1x1024x2048 ![] bcast_S_S1x1024x2048 main_cst_2
  let main_v11 : IVec S1x1024x2048 1 := cmpf .olt main_v9 main_v10
  let main_c_3 : IVec S_ 1 := constantI S_ 1 1#1
  let main_v12 : IVec S_ 1 := (fun x v => Host.reduce IntOp.andi x v reducesTo_S1x1024x2048_S_d0_1_2 h_S_) main_v11 main_c_3
  let main_v13 : IVec S_ 1 := andi main_v8 main_v12
  let main_v14 : FVec F S1x3x512 .f32 := Host.absf main_arg3
  let main_cst_4 : FVec F S_ .f32 := constant S_ .f32 0x7F800000#32
  let main_v15 : FVec F S1x3x512 .f32 := broadcastInDim S1x3x512 ![] bcast_S_S1x3x512 main_cst_4
  let main_v16 : IVec S1x3x512 1 := cmpf .olt main_v14 main_v15
  fn_part1 (F := F) main_arg4 main_arg5 main_arg6 main_arg7 main_v13 main_v16
-- ==== Pre_finite_mixf.lean ====
abbrev S4096x1024 : Shape := ⟨2, ![4096, 1024]⟩
abbrev S1x1024 : Shape := ⟨2, ![1, 1024]⟩
abbrev S1x1024x2048 : Shape := ⟨3, ![1, 1024, 2048]⟩
abbrev S1x3x512 : Shape := ⟨3, ![1, 3, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2048 : S_.BroadcastsInDim S1x1024x2048 (![] : Fin 0 → Fin S1x1024x2048.rank)
  reducesTo_S1x1024x2048_S_d0_1_2 : S1x1024x2048.ReducesTo [0, 1, 2] S_
  bcast_S_S1x3x512 : S_.BroadcastsInDim S1x3x512 (![] : Fin 0 → Fin S1x3x512.rank)
  reducesTo_S1x3x512_S_d0_1_2 : S1x3x512.ReducesTo [0, 1, 2] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x512 : S_.BroadcastsInDim S1x512 (![] : Fin 0 → Fin S1x512.rank)
  reducesTo_S1x512_S_d0_1 : S1x512.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part1 {F : FTy → Type} [FloatOps F] (main_arg4 : FVec F S1x4x128x128 .f32) (main_arg5 : FVec F S1x512 .f32) (main_arg6 : FVec F S1x1024x1024 .f32) (main_v13 : IVec S_ 1) (main_v16 : IVec S1x3x512 1) : IVec S_ 1 :=
  let main_c_5 : IVec S_ 1 := constantI S_ 1 1#1
  let main_v17 : IVec S_ 1 := (fun x v => Host.reduce IntOp.andi x v reducesTo_S1x3x512_S_d0_1_2 h_S_) main_v16 main_c_5
  let main_v18 : IVec S_ 1 := andi main_v13 main_v17
  let main_v19 : FVec F S1x4x128x128 .f32 := Host.absf main_arg4
  let main_cst_6 : FVec F S_ .f32 := constant S_ .f32 0x7F800000#32
  let main_v20 : FVec F S1x4x128x128 .f32 := broadcastInDim S1x4x128x128 ![] bcast_S_S1x4x128x128 main_cst_6
  let main_v21 : IVec S1x4x128x128 1 := cmpf .olt main_v19 main_v20
  let main_c_7 : IVec S_ 1 := constantI S_ 1 1#1
  let main_v22 : IVec S_ 1 := (fun x v => Host.reduce IntOp.andi x v reducesTo_S1x4x128x128_S_d0_1_2_3 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1x1024x1024 .f32 := Host.absf main_arg6
  let main_cst_10 : FVec F S_ .f32 := constant S_ .f32 0x7F800000#32
  let main_v30 : FVec F S1x1024x1024 .f32 := broadcastInDim S1x1024x1024 ![] bcast_S_S1x1024x1024 main_cst_10
  let main_v31 : IVec S1x1024x1024 1 := cmpf .olt main_v29 main_v30
  let main_c_11 : IVec S_ 1 := constantI S_ 1 1#1
  let main_v32 : IVec S_ 1 := (fun x v => Host.reduce IntOp.andi x v reducesTo_S1x1024x1024_S_d0_1_2 h_S_) main_v31 main_c_11
  let main_v33 : IVec S_ 1 := andi main_v28 main_v32
  main_v33

def fn {F : FTy → Type} [FloatOps F] (main_arg0 : FVec F S4096x1024 .f32) (main_arg1 : FVec F S1x1024 .f32) (main_arg2 : FVec F S1x1024x2048 .f32) (main_arg3 : FVec F S1x3x512 .f32) (main_arg4 : FVec F S1x4x128x128 .f32) (main_arg5 : FVec F S1x512 .f32) (main_arg6 : FVec F S1x1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2048 .f32 := Host.absf main_arg2
  let main_cst_2 : FVec F S_ .f32 := constant S_ .f32 0x7F800000#32
  let main_v10 : FVec F S1x1024x2048 .f32 := broadcastInDim S1x1024x2048 ![] bcast_S_S1x1024x2048 main_cst_2
  let main_v11 : IVec S1x1024x2048 1 := cmpf .olt main_v9 main_v10
  let main_c_3 : IVec S_ 1 := constantI S_ 1 1#1
  let main_v12 : IVec S_ 1 := (fun x v => Host.reduce IntOp.andi x v reducesTo_S1x1024x2048_S_d0_1_2 h_S_) main_v11 main_c_3
  let main_v13 : IVec S_ 1 := andi main_v8 main_v12
  let main_v14 : FVec F S1x3x512 .f32 := Host.absf main_arg3
  let main_cst_4 : FVec F S_ .f32 := constant S_ .f32 0x7F800000#32
  let main_v15 : FVec F S1x3x512 .f32 := broadcastInDim S1x3x512 ![] bcast_S_S1x3x512 main_cst_4
  let main_v16 : IVec S1x3x512 1 := cmpf .olt main_v14 main_v15
  fn_part1 (F := F) main_arg4 main_arg5 main_arg6 main_v13 main_v16
-- ==== Dx.lean ====
abbrev S4096x1024 : Shape := ⟨2, ![4096, 1024]⟩
abbrev S1x1024 : Shape := ⟨2, ![1, 1024]⟩
abbrev S1x1024x2816 : Shape := ⟨3, ![1, 1024, 2816]⟩
abbrev S4096x2816 : Shape := ⟨2, ![4096, 2816]⟩
abbrev S4096x8x352 : Shape := ⟨3, ![4096, 8, 352]⟩
abbrev S4096x8x192 : Shape := ⟨3, ![4096, 8, 192]⟩
abbrev S4096x1536 : Shape := ⟨2, ![4096, 1536]⟩
abbrev S1024x2816 : Shape := ⟨2, ![1024, 2816]⟩
abbrev S2816x1024 : Shape := ⟨2, ![2816, 1024]⟩
abbrev S8x352x1024 : Shape := ⟨3, ![8, 352, 1024]⟩
abbrev S8x192x1024 : Shape := ⟨3, ![8, 192, 1024]⟩
abbrev S1536x1024 : Shape := ⟨2, ![1536, 1024]⟩
abbrev S4096x8x160 : Shape := ⟨3, ![4096, 8, 160]⟩
abbrev S4096x1280 : Shape := ⟨2, ![4096, 1280]⟩
abbrev S8x160x1024 : Shape := ⟨3, ![8, 160, 1024]⟩
abbrev S1280x1024 : Shape := ⟨2, ![1280, 1024]⟩
abbrev S512x1024 : Shape := ⟨2, ![512, 1024]⟩
abbrev S512x1536 : Shape := ⟨2, ![512, 1536]⟩
abbrev S512x1280 : Shape := ⟨2, ![512, 1280]⟩
abbrev S512 : Shape := ⟨1, ![512]⟩
abbrev S512x1 : Shape := ⟨2, ![512, 1]⟩
abbrev S1024 : Shape := ⟨1, ![1024]⟩

abbrev nBuf : Space → Nat
  | .hbm => 49
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x8x352, .f32⟩
  | .hbm, ⟨8, _⟩ => ⟨S4096x8x192, .f32⟩
  | .hbm, ⟨9, _⟩ => ⟨S4096x1536, .f32⟩
  | .hbm, ⟨10, _⟩ => ⟨S4096x1536, .bf16⟩
  | .hbm, ⟨11, _⟩ => ⟨S4096x8x352, .f32⟩
  | .hbm, ⟨12, _⟩ => ⟨S4096x8x192, .f32⟩
  | .hbm, ⟨13, _⟩ => ⟨S4096x1536, .f32⟩
  | .hbm, ⟨14, _⟩ => ⟨S4096x1536, .bf16⟩
  | .hbm, ⟨15, _⟩ => ⟨S1024x2816, .f32⟩
  | .hbm, ⟨16, _⟩ => ⟨S2816x1024, .f32⟩
  | .hbm, ⟨17, _⟩ => ⟨S2816x1024, .bf16⟩
  | .hbm, ⟨18, _⟩ => ⟨S8x352x1024, .bf16⟩
  | .hbm, ⟨19, _⟩ => ⟨S8x192x1024, .bf16⟩
  | .hbm, ⟨20, _⟩ => ⟨S1536x1024, .bf16⟩
  | .hbm, ⟨21, _⟩ => ⟨S1024x2816, .f32⟩
  | .hbm, ⟨22, _⟩ => ⟨S2816x1024, .f32⟩
  | .hbm, ⟨23, _⟩ => ⟨S2816x1024, .bf16⟩
  | .hbm, ⟨24, _⟩ => ⟨S8x352x1024, .bf16⟩
  | .hbm, ⟨25, _⟩ => ⟨S8x192x1024, .bf16⟩
  | .hbm, ⟨26, _⟩ => ⟨S1536x1024, .bf16⟩
  | .hbm, ⟨27, _⟩ => ⟨S4096x8x352, .f32⟩
  | .hbm, ⟨28, _⟩ => ⟨S4096x8x160, .f32⟩
  | .hbm, ⟨29, _⟩ => ⟨S4096x1280, .f32⟩
  | .hbm, ⟨30, _⟩ => ⟨S4096x1280, .bf16⟩
  | .hbm, ⟨31, _⟩ => ⟨S4096x8x352, .f32⟩
  | .hbm, ⟨32, _⟩ => ⟨S4096x8x160, .f32⟩
  | .hbm, ⟨33, _⟩ => ⟨S4096x1280, .f32⟩
  | .hbm, ⟨34, _⟩ => ⟨S4096x1280, .bf16⟩
  | .hbm, ⟨35, _⟩ => ⟨S1024x2816, .f32⟩
  | .hbm, ⟨36, _⟩ => ⟨S2816x1024, .f32⟩
  | .hbm, ⟨37, _⟩ => ⟨S2816x1024, .bf16⟩
  | .hbm, ⟨38, _⟩ => ⟨S8x352x1024, .bf16⟩
  | .hbm, ⟨39, _⟩ => ⟨S8x160x1024, .bf16⟩
  | .hbm, ⟨40, _⟩ => ⟨S1280x1024, .bf16⟩
  | .hbm, ⟨41, _⟩ => ⟨S1024x2816, .f32⟩
  | .hbm, ⟨42, _⟩ => ⟨S2816x1024, .f32⟩
  | .hbm, ⟨43, _⟩ => ⟨S2816x1024, .bf16⟩
  | .hbm, ⟨44, _⟩ => ⟨S8x352x1024, .bf16⟩
  | .hbm, ⟨45, _⟩ => ⟨S8x160x1024, .bf16⟩
  | .hbm, ⟨46, _⟩ => ⟨S1280x1024, .bf16⟩
  | .hbm, ⟨47, _⟩ => ⟨S4096x1024, .f32⟩
  | .hbm, ⟨48, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1536, .bf16⟩
  | .local _ .vmem, ⟨6, _⟩ => ⟨S512x1536, .bf16⟩
  | .local _ .vmem, ⟨7, _⟩ => ⟨S512x1536, .bf16⟩
  | .local _ .vmem, ⟨8, _⟩ => ⟨S512x1536, .bf16⟩
  | .local _ .vmem, ⟨9, _⟩ => ⟨S1536x1024, .bf16⟩
  | .local _ .vmem, ⟨10, _⟩ => ⟨S1536x1024, .bf16⟩
  | .local _ .vmem, ⟨11, _⟩ => ⟨S512x1280, .bf16⟩
  | .local _ .vmem, ⟨12, _⟩ => ⟨S512x1280, .bf16⟩
  | .local _ .vmem, ⟨13, _⟩ => ⟨S512x1280, .bf16⟩
  | .local _ .vmem, ⟨14, _⟩ => ⟨S512x1280, .bf16⟩
  | .local _ .vmem, ⟨15, _⟩ => ⟨S1280x1024, .bf16⟩
  | .local _ .vmem, ⟨16, _⟩ => ⟨S1280x1024, .bf16⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40_0 : Ref sig .tc := ⟨.hbm, 47, rfl⟩
abbrev main_v40_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1280x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1280x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== DxRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S4096x2816 : Shape := ⟨2, ![4096, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1024x2816, .f32⟩
  | .hbm, ⟨29, _⟩ => ⟨S4096x2816, .f32⟩
  | .hbm, ⟨30, _⟩ => ⟨S1024x2816, .f32⟩
  | .hbm, ⟨31, _⟩ => ⟨S4096x2816, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Loss.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S8x352x1024 : Shape := ⟨3, ![8, 352, 1024]⟩
abbrev S8x192x1024 : Shape := ⟨3, ![8, 192, 1024]⟩
abbrev S1536x1024 : Shape := ⟨2, ![1536, 1024]⟩
abbrev S1024x1536 : Shape := ⟨2, ![1024, 1536]⟩
abbrev S4096x1536 : Shape := ⟨2, ![4096, 1536]⟩
abbrev S8x160x1024 : Shape := ⟨3, ![8, 160, 1024]⟩
abbrev S1280x1024 : Shape := ⟨2, ![1280, 1024]⟩
abbrev S4096x1280 : Shape := ⟨2, ![4096, 1280]⟩
abbrev S1x128 : Shape := ⟨2, ![1, 128]⟩
abbrev S512x1024 : Shape := ⟨2, ![512, 1024]⟩
abbrev S512x1280 : Shape := ⟨2, ![512, 1280]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 77
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .f32⟩
  | .hbm, ⟨12, _⟩ => ⟨S1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S8x352x1024, .f32⟩
  | .hbm, ⟨30, _⟩ => ⟨S8x192x1024, .f32⟩
  | .hbm, ⟨31, _⟩ => ⟨S1536x1024, .f32⟩
  | .hbm, ⟨32, _⟩ => ⟨S1024x1536, .f32⟩
  | .hbm, ⟨33, _⟩ => ⟨S8x352x1024, .f32⟩
  | .hbm, ⟨34, _⟩ => ⟨S8x192x1024, .f32⟩
  | .hbm, ⟨35, _⟩ => ⟨S1536x1024, .f32⟩
  | .hbm, ⟨36, _⟩ => ⟨S1024x1536, .f32⟩
  | .hbm, ⟨37, _⟩ => ⟨S8x352x1024, .f32⟩
  | .hbm, ⟨38, _⟩ => ⟨S8x192x1024, .f32⟩
  | .hbm, ⟨39, _⟩ => ⟨S1536x1024, .f32⟩
  | .hbm, ⟨40, _⟩ => ⟨S4096x1536, .f32⟩
  | .hbm, ⟨41, _⟩ => ⟨S4096x1536, .f32⟩
  | .hbm, ⟨42, _⟩ => ⟨S4096x1536, .f32⟩
  | .hbm, ⟨43, _⟩ => ⟨S_, .f32⟩
  | .hbm, ⟨44, _⟩ => ⟨S4096x1536, .f32⟩
  | .hbm, ⟨45, _⟩ => ⟨S4096x1536, .f32⟩
  | .hbm, ⟨46, _⟩ => ⟨S_, .f32⟩
  | .hbm, ⟨47, _⟩ => ⟨S4096x1536, .f32⟩
  | .hbm, ⟨48, _⟩ => ⟨S4096x1536, .f32⟩
  | .hbm, ⟨49, _⟩ => ⟨S4096x1536, .f32⟩
  | .hbm, ⟨50, _⟩ => ⟨S4096x1536, .f32⟩
  | .hbm, ⟨51, _⟩ => ⟨S4096x1536, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S2816x1024, .bf16⟩
  | .hbm, ⟨58, _⟩ => ⟨S8x352x1024, .bf16⟩
  | .hbm, ⟨59, _⟩ => ⟨S8x160x1024, .bf16⟩
  | .hbm, ⟨60, _⟩ => ⟨S1280x1024, .bf16⟩
  | .hbm, ⟨61, _⟩ => ⟨S2816x1024, .bf16⟩
  | .hbm, ⟨62, _⟩ => ⟨S8x352x1024, .bf16⟩
  | .hbm, ⟨63, _⟩ => ⟨S8x160x1024, .bf16⟩
  | .hbm, ⟨64, _⟩ => ⟨S1280x1024, .bf16⟩
  | .hbm, ⟨65, _⟩ => ⟨S2816x1024, .bf16⟩
  | .hbm, ⟨66, _⟩ => ⟨S8x352x1024, .bf16⟩
  | .hbm, ⟨67, _⟩ => ⟨S8x160x1024, .bf16⟩
  | .hbm, ⟨68, _⟩ => ⟨S1280x1024, .bf16⟩
  | .hbm, ⟨69, _⟩ => ⟨S4096x1024, .bf16⟩
  | .hbm, ⟨70, _⟩ => ⟨S1x1024, .f32⟩
  | .hbm, ⟨71, _⟩ => ⟨S4096x1280, .bf16⟩
  | .hbm, ⟨72, _⟩ => ⟨S4096x1280, .bf16⟩
  | .hbm, ⟨73, _⟩ => ⟨S1x128, .f32⟩
  | .hbm, ⟨74, _⟩ => ⟨S4096x1024, .f32⟩
  | .hbm, ⟨75, _⟩ => ⟨S1x1024, .f32⟩
  | .hbm, ⟨76, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1280x1024, .bf16⟩
  | .local _ .vmem, ⟨5, _⟩ => ⟨S1280x1024, .bf16⟩
  | .local _ .vmem, ⟨6, _⟩ => ⟨S1280x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1280, .bf16⟩
  | .local _ .vmem, ⟨11, _⟩ => ⟨S512x1280, .bf16⟩
  | .local _ .vmem, ⟨12, _⟩ => ⟨S512x1280, .bf16⟩
  | .local _ .vmem, ⟨13, _⟩ => ⟨S512x1280, .bf16⟩
  | .local _ .vmem, ⟨14, _⟩ => ⟨S1x128, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | .local _ .vmem, ⟨20, _⟩ => ⟨S512x1280, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_2 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52_0 : Ref sig .tc := ⟨.hbm, 71, rfl⟩
abbrev main_v52_1 : Ref sig .tc := ⟨.hbm, 72, rfl⟩
abbrev main_v52_2 : Ref sig .tc := ⟨.hbm, 73, rfl⟩
abbrev main_v52_3 : Ref sig .tc := ⟨.hbm, 74, rfl⟩
abbrev main_v52_4 : Ref sig .tc := ⟨.hbm, 75, rfl⟩
abbrev main_v52_5 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1280x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== LossRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S2816x1024 : Shape := ⟨2, ![2816, 1024]⟩
abbrev S4096x8x352 : Shape := ⟨3, ![4096, 8, 352]⟩
abbrev S4096x8x160 : Shape := ⟨3, ![4096, 8, 160]⟩
abbrev S4096x1280 : Shape := ⟨2, ![4096, 1280]⟩
abbrev S1x128 : Shape := ⟨2, ![1, 128]⟩

abbrev nBuf : Space → Nat
  | .hbm => 126
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1024x2816, .f32⟩
  | .hbm, ⟨25, _⟩ => ⟨S4096x2816, .f32⟩
  | .hbm, ⟨26, _⟩ => ⟨S1024x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S2816x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S4096, .f32⟩
  | .hbm, ⟨82, _⟩ => ⟨S_, .f32⟩
  | .hbm, ⟨83, _⟩ => ⟨S4096, .f32⟩
  | .hbm, ⟨84, _⟩ => ⟨S4096, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S1024, .f32⟩
  | .hbm, ⟨95, _⟩ => ⟨S4096x1024, .f32⟩
  | .hbm, ⟨96, _⟩ => ⟨S_, .f32⟩
  | .hbm, ⟨97, _⟩ => ⟨S4096, .f32⟩
  | .hbm, ⟨98, _⟩ => ⟨S4096x1, .f32⟩
  | .hbm, ⟨99, _⟩ => ⟨S4096x1024, .f32⟩
  | .hbm, ⟨100, _⟩ => ⟨S4096x1024, .f32⟩
  | .hbm, ⟨101, _⟩ => ⟨S4096x1, .f32⟩
  | .hbm, ⟨102, _⟩ => ⟨S_, .f32⟩
  | .hbm, ⟨103, _⟩ => ⟨S4096x1, .f32⟩
  | .hbm, ⟨104, _⟩ => ⟨S4096x1, .f32⟩
  | .hbm, ⟨105, _⟩ => ⟨S_, .f32⟩
  | .hbm, ⟨106, _⟩ => ⟨S4096, .f32⟩
  | .hbm, ⟨107, _⟩ => ⟨S4096x1024, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x8x352, .f32⟩
  | .hbm, ⟨113, _⟩ => ⟨S4096x8x160, .f32⟩
  | .hbm, ⟨114, _⟩ => ⟨S4096x1280, .f32⟩
  | .hbm, ⟨115, _⟩ => ⟨S4096x1280, .bf16⟩
  | .hbm, ⟨116, _⟩ => ⟨S4096x8x352, .f32⟩
  | .hbm, ⟨117, _⟩ => ⟨S4096x8x160, .f32⟩
  | .hbm, ⟨118, _⟩ => ⟨S4096x1280, .f32⟩
  | .hbm, ⟨119, _⟩ => ⟨S4096x1280, .bf16⟩
  | .hbm, ⟨120, _⟩ => ⟨S1x128, .f32⟩
  | .hbm, ⟨121, _⟩ => ⟨S1x1024, .f32⟩
  | .hbm, ⟨122, _⟩ => ⟨S_, .f32⟩
  | .hbm, ⟨123, _⟩ => ⟨S4096x1024, .f32⟩
  | .hbm, ⟨124, _⟩ => ⟨S4096x1024, .f32⟩
  | .hbm, ⟨125, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_cst_11 : Ref sig .tc := ⟨.hbm, 76, rfl⟩
abbrev main_v49 : Ref sig .tc := ⟨.hbm, 77, rfl⟩
abbrev main_cst_12 : Ref sig .tc := ⟨.hbm, 78, rfl⟩
abbrev main_cst_13 : Ref sig .tc := ⟨.hbm, 79, rfl⟩
abbrev main_v50 : Ref sig .tc := ⟨.hbm, 80, rfl⟩
abbrev main_v51 : Ref sig .tc := ⟨.hbm, 81, rfl⟩
abbrev main_cst_14 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_15 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_16 : Ref sig .tc := ⟨.hbm, 93, rfl⟩
abbrev main_v61 : Ref sig .tc := ⟨.hbm, 94, rfl⟩
abbrev main_v62 : Ref sig .tc := ⟨.hbm, 95, rfl⟩
abbrev main_cst_17 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_18 : Ref sig .tc := ⟨.hbm, 102, rfl⟩
abbrev main_v68 : Ref sig .tc := ⟨.hbm, 103, rfl⟩
abbrev main_v69 : Ref sig .tc := ⟨.hbm, 104, rfl⟩
abbrev main_cst_19 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_20 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩

abbrev nD : Nat := 1
abbrev τ : Topo := Topo.v7x

variable {F : FTy → Type} [FloatOps F]
-- ==== Bwdw.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S8x352x1024 : Shape := ⟨3, ![8, 352, 1024]⟩
abbrev S8x192x1024 : Shape := ⟨3, ![8, 192, 1024]⟩
abbrev S1536x1024 : Shape := ⟨2, ![1536, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1536 : Shape := ⟨2, ![1024, 1536]⟩
abbrev S4096x1536 : Shape := ⟨2, ![4096, 1536]⟩
abbrev S4096x256 : Shape := ⟨2, ![4096, 256]⟩
abbrev S256x1024 : Shape := ⟨2, ![256, 1024]⟩
abbrev S2x2 : Shape := ⟨2, ![2, 2]⟩
abbrev S1x1 : Shape := ⟨2, ![1, 1]⟩
abbrev S2048x1024 : Shape := ⟨2, ![2048, 1024]⟩
abbrev S2048x256 : Shape := ⟨2, ![2048, 256]⟩

abbrev nBuf : Space → Nat
  | .hbm => 54
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S8x352x1024, .f32⟩
  | .hbm, ⟨9, _⟩ => ⟨S8x192x1024, .f32⟩
  | .hbm, ⟨10, _⟩ => ⟨S1536x1024, .f32⟩
  | .hbm, ⟨11, _⟩ => ⟨S1024x2816, .f32⟩
  | .hbm, ⟨12, _⟩ => ⟨S2816x1024, .f32⟩
  | .hbm, ⟨13, _⟩ => ⟨S8x352x1024, .f32⟩
  | .hbm, ⟨14, _⟩ => ⟨S8x192x1024, .f32⟩
  | .hbm, ⟨15, _⟩ => ⟨S1536x1024, .f32⟩
  | .hbm, ⟨16, _⟩ => ⟨S2816x1024, .f32⟩
  | .hbm, ⟨17, _⟩ => ⟨S8x352x1024, .f32⟩
  | .hbm, ⟨18, _⟩ => ⟨S8x192x1024, .f32⟩
  | .hbm, ⟨19, _⟩ => ⟨S1536x1024, .f32⟩
  | .hbm, ⟨20, _⟩ => ⟨S1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S1024x1536, .f32⟩
  | .hbm, ⟨38, _⟩ => ⟨S4096x1536, .f32⟩
  | .hbm, ⟨39, _⟩ => ⟨S1024x1536, .f32⟩
  | .hbm, ⟨40, _⟩ => ⟨S4096x1536, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .bf16⟩
  | .hbm, ⟨45, _⟩ => ⟨S4096x1536, .bf16⟩
  | .hbm, ⟨46, _⟩ => ⟨S4096x1536, .bf16⟩
  | .hbm, ⟨47, _⟩ => ⟨S4096x1024, .bf16⟩
  | .hbm, ⟨48, _⟩ => ⟨S1536x1024, .bf16⟩
  | .hbm, ⟨49, _⟩ => ⟨S4096x1536, .bf16⟩
  | .hbm, ⟨50, _⟩ => ⟨S4096x1536, .bf16⟩
  | .hbm, ⟨51, _⟩ => ⟨S1536x1024, .bf16⟩
  | .hbm, ⟨52, _⟩ => ⟨S1536x1024, .bf16⟩
  | .hbm, ⟨53, _⟩ => ⟨S1536x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S256x1024, .bf16⟩
  | .local _ .vmem, ⟨5, _⟩ => ⟨S256x1024, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S4096x256, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S4096x1024, .bf16⟩
  | .local _ .vmem, ⟨21, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39_0 : Ref sig .tc := ⟨.hbm, 49, rfl⟩
abbrev main_v39_1 : Ref sig .tc := ⟨.hbm, 50, rfl⟩
abbrev main_v39_2 : Ref sig .tc := ⟨.hbm, 51, rfl⟩
abbrev main_v39_3 : Ref sig .tc := ⟨.hbm, 52, rfl⟩
abbrev main_v39_4 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![6, 1], ![false, false]⟩

def k0_cond5 (i : grid0.Coords) : BitVec 1 :=
  let arg1 : BitVec 32 := BitVec.ofNat 32 (i 1).val
  let c0_i32_84 : BitVec 32 := 0#32
  let v118 : BitVec 1 := Scalar.cmpi .eq arg1 c0_i32_84
  let v119 : BitVec 32 := Scalar.extui v118
  let c0_i32_85 : BitVec 32 := 0#32
  let v120 : BitVec 1 := Scalar.cmpi .ne v119 c0_i32_85
  v120

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== BwdwRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S2816x1024 : Shape := ⟨2, ![2816, 1024]⟩
abbrev S4096x8x352 : Shape := ⟨3, ![4096, 8, 352]⟩
abbrev S4096x8x192 : Shape := ⟨3, ![4096, 8, 192]⟩
abbrev S4096x1536 : Shape := ⟨2, ![4096, 1536]⟩
abbrev S1024x8x352 : Shape := ⟨3, ![1024, 8, 352]⟩
abbrev S1024x8x192 : Shape := ⟨3, ![1024, 8, 192]⟩
abbrev S1024x1536 : Shape := ⟨2, ![1024, 1536]⟩
abbrev S1536x1024 : Shape := ⟨2, ![1536, 1024]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1024x2816, .f32⟩
  | .hbm, ⟨24, _⟩ => ⟨S1024x2816, .f32⟩
  | .hbm, ⟨25, _⟩ => ⟨S4096x2816, .f32⟩
  | .hbm, ⟨26, _⟩ => ⟨S4096x2816, .f32⟩
  | .hbm, ⟨27, _⟩ => ⟨S2816x1024, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S1024x2816, .f32⟩
  | .hbm, ⟨50, _⟩ => ⟨S2816x1024, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S2816x1024, .f32⟩
  | .hbm, ⟨59, _⟩ => ⟨S1024x2816, .f32⟩
  | .hbm, ⟨60, _⟩ => ⟨S2816x1024, .f32⟩
  | .hbm, ⟨61, _⟩ => ⟨S1024x2816, .f32⟩
  | .hbm, ⟨62, _⟩ => ⟨S4096x8x352, .f32⟩
  | .hbm, ⟨63, _⟩ => ⟨S4096x8x192, .f32⟩
  | .hbm, ⟨64, _⟩ => ⟨S4096x1536, .f32⟩
  | .hbm, ⟨65, _⟩ => ⟨S4096x8x352, .f32⟩
  | .hbm, ⟨66, _⟩ => ⟨S4096x8x192, .f32⟩
  | .hbm, ⟨67, _⟩ => ⟨S4096x1536, .f32⟩
  | .hbm, ⟨68, _⟩ => ⟨S1024x2816, .f32⟩
  | .hbm, ⟨69, _⟩ => ⟨S1024x8x352, .f32⟩
  | .hbm, ⟨70, _⟩ => ⟨S1024x8x192, .f32⟩
  | .hbm, ⟨71, _⟩ => ⟨S1024x1536, .f32⟩
  | .hbm, ⟨72, _⟩ => ⟨S1536x1024, .f32⟩
  | .hbm, ⟨73, _⟩ => ⟨S1024x8x352, .f32⟩
  | .hbm, ⟨74, _⟩ => ⟨S1024x8x192, .f32⟩
  | .hbm, ⟨75, _⟩ => ⟨S1024x1536, .f32⟩
  | .hbm, ⟨76, _⟩ => ⟨S1536x1024, .f32⟩
  | .hbm, ⟨77, _⟩ => ⟨S1024x8x352, .f32⟩
  | .hbm, ⟨78, _⟩ => ⟨S1024x8x192, .f32⟩
  | .hbm, ⟨79, _⟩ => ⟨S1024x1536, .f32⟩
  | .hbm, ⟨80, _⟩ => ⟨S1536x1024, .f32⟩
  | .hbm, ⟨81, _⟩ => ⟨S4096x1536, .bf16⟩
  | .hbm, ⟨82, _⟩ => ⟨S4096x1536, .bf16⟩
  | .hbm, ⟨83, _⟩ => ⟨S1536x1024, .bf16⟩
  | .hbm, ⟨84, _⟩ => ⟨S1536x1024, .bf16⟩
  | .hbm, ⟨85, _⟩ => ⟨S1536x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]
-- ==== Ffn.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S8x352x1024 : Shape := ⟨3, ![8, 352, 1024]⟩
abbrev S8x192x1024 : Shape := ⟨3, ![8, 192, 1024]⟩
abbrev S1536x1024 : Shape := ⟨2, ![1536, 1024]⟩
abbrev S4096x1536 : Shape := ⟨2, ![4096, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 26
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | .hbm, ⟨8, _⟩ => ⟨S8x352x1024, .bf16⟩
  | .hbm, ⟨9, _⟩ => ⟨S8x192x1024, .bf16⟩
  | .hbm, ⟨10, _⟩ => ⟨S1536x1024, .bf16⟩
  | .hbm, ⟨11, _⟩ => ⟨S1024x2816, .f32⟩
  | .hbm, ⟨12, _⟩ => ⟨S2816x1024, .f32⟩
  | .hbm, ⟨13, _⟩ => ⟨S2816x1024, .bf16⟩
  | .hbm, ⟨14, _⟩ => ⟨S8x352x1024, .bf16⟩
  | .hbm, ⟨15, _⟩ => ⟨S8x192x1024, .bf16⟩
  | .hbm, ⟨16, _⟩ => ⟨S1536x1024, .bf16⟩
  | .hbm, ⟨17, _⟩ => ⟨S2816x1024, .f32⟩
  | .hbm, ⟨18, _⟩ => ⟨S2816x1024, .bf16⟩
  | .hbm, ⟨19, _⟩ => ⟨S8x352x1024, .bf16⟩
  | .hbm, ⟨20, _⟩ => ⟨S8x192x1024, .bf16⟩
  | .hbm, ⟨21, _⟩ => ⟨S1536x1024, .bf16⟩
  | .hbm, ⟨22, _⟩ => ⟨S4096x1024, .f32⟩
  | .hbm, ⟨23, _⟩ => ⟨S4096x1024, .bf16⟩
  | .hbm, ⟨24, _⟩ => ⟨S4096x1536, .bf16⟩
  | .hbm, ⟨25, _⟩ => ⟨S4096x1536, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1536x1024, .bf16⟩
  | .local _ .vmem, ⟨4, _⟩ => ⟨S1536x1024, .bf16⟩
  | .local _ .vmem, ⟨5, _⟩ => ⟨S1536x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1536, .bf16⟩
  | .local _ .vmem, ⟨11, _⟩ => ⟨S512x1536, .bf16⟩
  | .local _ .vmem, ⟨12, _⟩ => ⟨S512x1536, .bf16⟩
  | .local _ .vmem, ⟨13, _⟩ => ⟨S512x1536, .bf16⟩
  | .local _ .vmem, ⟨14, _⟩ => ⟨S512x1536, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev main_v17_2 : Ref sig .tc := ⟨.hbm, 24, rfl⟩
abbrev main_v17_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S4096x8x352 : Shape := ⟨3, ![4096, 8, 352]⟩
abbrev S4096x8x192 : Shape := ⟨3, ![4096, 8, 192]⟩
abbrev S4096x1536 : Shape := ⟨2, ![4096, 1536]⟩
abbrev S2816x1024 : Shape := ⟨2, ![2816, 1024]⟩
abbrev S1024x8x352 : Shape := ⟨3, ![1024, 8, 352]⟩
abbrev S1024x8x192 : Shape := ⟨3, ![1024, 8, 192]⟩
abbrev S1024x1536 : Shape := ⟨2, ![1024, 1536]⟩
abbrev S1536x1024 : Shape := ⟨2, ![1536, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S1024x2816, .f32⟩
  | .hbm, ⟨23, _⟩ => ⟨S4096x2816, .f32⟩
  | .hbm, ⟨24, _⟩ => ⟨S4096x8x352, .f32⟩
  | .hbm, ⟨25, _⟩ => ⟨S4096x8x192, .f32⟩
  | .hbm, ⟨26, _⟩ => ⟨S4096x1536, .f32⟩
  | .hbm, ⟨27, _⟩ => ⟨S1024x2816, .f32⟩
  | .hbm, ⟨28, _⟩ => ⟨S4096x2816, .f32⟩
  | .hbm, ⟨29, _⟩ => ⟨S4096x8x352, .f32⟩
  | .hbm, ⟨30, _⟩ => ⟨S4096x8x192, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | .hbm, ⟨37, _⟩ => ⟨S_, .f32⟩
  | .hbm, ⟨38, _⟩ => ⟨S4096x1536, .f32⟩
  | .hbm, ⟨39, _⟩ => ⟨S4096x1536, .f32⟩
  | .hbm, ⟨40, _⟩ => ⟨S4096x1536, .f32⟩
  | .hbm, ⟨41, _⟩ => ⟨S4096x1536, .f32⟩
  | .hbm, ⟨42, _⟩ => ⟨S2816x1024, .f32⟩
  | .hbm, ⟨43, _⟩ => ⟨S1024x2816, .f32⟩
  | .hbm, ⟨44, _⟩ => ⟨S1024x8x352, .f32⟩
  | .hbm, ⟨45, _⟩ => ⟨S1024x8x192, .f32⟩
  | .hbm, ⟨46, _⟩ => ⟨S1024x1536, .f32⟩
  | .hbm, ⟨47, _⟩ => ⟨S1536x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S4096x1536, .bf16⟩
  | .hbm, ⟨55, _⟩ => ⟨S4096x1536, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Mix.lean ====
abbrev S4096x1024 : Shape := ⟨2, ![4096, 1024]⟩
abbrev S1x1024 : Shape := ⟨2, ![1, 1024]⟩
abbrev S1x1024x2048 : Shape := ⟨3, ![1, 1024, 2048]⟩
abbrev S1x3x512 : Shape := ⟨3, ![1, 3, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S3x512 : Shape := ⟨2, ![3, 512]⟩
abbrev S4x128x128 : Shape := ⟨3, ![4, 128, 128]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S4096x512 : Shape := ⟨2, ![4096, 512]⟩
abbrev S4096x4x128 : Shape := ⟨3, ![4096, 4, 128]⟩
abbrev S4096x1x128 : Shape := ⟨3, ![4096, 1, 128]⟩
abbrev S4096x128 : Shape := ⟨2, ![4096, 128]⟩
abbrev S2x128 : Shape := ⟨2, ![2, 128]⟩
abbrev S4094x128 : Shape := ⟨2, ![4094, 128]⟩
abbrev S4x128 : Shape := ⟨2, ![4, 128]⟩
abbrev S4092x128 : Shape := ⟨2, ![4092, 128]⟩
abbrev S8x128 : Shape := ⟨2, ![8, 128]⟩
abbrev S4088x128 : Shape := ⟨2, ![4088, 128]⟩
abbrev S16x128 : Shape := ⟨2, ![16, 128]⟩
abbrev S4080x128 : Shape := ⟨2, ![4080, 128]⟩
abbrev S512x1024 : Shape := ⟨2, ![512, 1024]⟩
abbrev S512x2048 : Shape := ⟨2, ![512, 2048]⟩
abbrev S16x2048 : Shape := ⟨2, ![16, 2048]⟩
abbrev S512x512 : Shape := ⟨2, ![512, 512]⟩
abbrev S528x2048 : Shape := ⟨2, ![528, 2048]⟩
abbrev S544x1024 : Shape := ⟨2, ![544, 1024]⟩
abbrev S544x128 : Shape := ⟨2, ![544, 128]⟩
abbrev S32x1024 : Shape := ⟨2, ![32, 1024]⟩
abbrev S512x1 : Shape := ⟨2, ![512, 1]⟩
abbrev S512 : Shape := ⟨1, ![512]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S528x128 : Shape := ⟨2, ![528, 128]⟩
abbrev S512x256 : Shape := ⟨2, ![512, 256]⟩
abbrev S1x1024x256 : Shape := ⟨3, ![1, 1024, 256]⟩
abbrev S1024x256 : Shape := ⟨2, ![1024, 256]⟩
abbrev S16x1024 : Shape := ⟨2, ![16, 1024]⟩

abbrev nBuf : Space → Nat
  | .hbm => 124
  | .vmem => 33
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2048, .f32⟩
  | .hbm, ⟨3, _⟩ => ⟨S1x3x512, .f32⟩
  | .hbm, ⟨4, _⟩ => ⟨S1x4x128x128, .f32⟩
  | .hbm, ⟨5, _⟩ => ⟨S1x512, .f32⟩
  | .hbm, ⟨6, _⟩ => ⟨S1x1024x1024, .f32⟩
  | .hbm, ⟨7, _⟩ => ⟨S4096x1024, .f32⟩
  | .hbm, ⟨8, _⟩ => ⟨S1024x2048, .f32⟩
  | .hbm, ⟨9, _⟩ => ⟨S1024x2048, .bf16⟩
  | .hbm, ⟨10, _⟩ => ⟨S1024x8x256, .bf16⟩
  | .hbm, ⟨11, _⟩ => ⟨S8x1024x256, .bf16⟩
  | .hbm, ⟨12, _⟩ => ⟨S3x512, .f32⟩
  | .hbm, ⟨13, _⟩ => ⟨S4x128x128, .f32⟩
  | .hbm, ⟨14, _⟩ => ⟨S4x128x128, .bf16⟩
  | .hbm, ⟨15, _⟩ => ⟨S1024x1024, .f32⟩
  | .hbm, ⟨16, _⟩ => ⟨S1024x1024, .bf16⟩
  | .hbm, ⟨17, _⟩ => ⟨S1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1024x2048, .f32⟩
  | .hbm, ⟨35, _⟩ => ⟨S4096x2048, .f32⟩
  | .hbm, ⟨36, _⟩ => ⟨S4096x512, .f32⟩
  | .hbm, ⟨37, _⟩ => ⟨S4096x4x128, .f32⟩
  | .hbm, ⟨38, _⟩ => ⟨S_, .f32⟩
  | .hbm, ⟨39, _⟩ => ⟨S_, .f32⟩
  | .hbm, ⟨40, _⟩ => ⟨S4096x4x128, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1x128, .f32⟩
  | .hbm, ⟨46, _⟩ => ⟨S4096x128, .f32⟩
  | .hbm, ⟨47, _⟩ => ⟨S_, .f32⟩
  | .hbm, ⟨48, _⟩ => ⟨S2x128, .f32⟩
  | .hbm, ⟨49, _⟩ => ⟨S4094x128, .f32⟩
  | .hbm, ⟨50, _⟩ => ⟨S4096x128, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S4096x1, .f32⟩
  | .hbm, ⟨55, _⟩ => ⟨S4096x128, .f32⟩
  | .hbm, ⟨56, _⟩ => ⟨S4096x128, .f32⟩
  | .hbm, ⟨57, _⟩ => ⟨S4096x128, .f32⟩
  | .hbm, ⟨58, _⟩ => ⟨S4096x1x128, .f32⟩
  | .hbm, ⟨59, _⟩ => ⟨S4096x128, .f32⟩
  | .hbm, ⟨60, _⟩ => ⟨S4096x128, .f32⟩
  | .hbm, ⟨61, _⟩ => ⟨S4096x1x128, .f32⟩
  | .hbm, ⟨62, _⟩ => ⟨S4096x128, .f32⟩
  | .hbm, ⟨63, _⟩ => ⟨S_, .f32⟩
  | .hbm, ⟨64, _⟩ => ⟨S4x128, .f32⟩
  | .hbm, ⟨65, _⟩ => ⟨S4092x128, .f32⟩
  | .hbm, ⟨66, _⟩ => ⟨S4096x128, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S4096x1, .f32⟩
  | .hbm, ⟨71, _⟩ => ⟨S4096x128, .f32⟩
  | .hbm, ⟨72, _⟩ => ⟨S4096x128, .f32⟩
  | .hbm, ⟨73, _⟩ => ⟨S4096x128, .f32⟩
  | .hbm, ⟨74, _⟩ => ⟨S4096x1x128, .f32⟩
  | .hbm, ⟨75, _⟩ => ⟨S4096x128, .f32⟩
  | .hbm, ⟨76, _⟩ => ⟨S4096x128, .f32⟩
  | .hbm, ⟨77, _⟩ => ⟨S4096x1x128, .f32⟩
  | .hbm, ⟨78, _⟩ => ⟨S4096x128, .f32⟩
  | .hbm, ⟨79, _⟩ => ⟨S_, .f32⟩
  | .hbm, ⟨80, _⟩ => ⟨S8x128, .f32⟩
  | .hbm, ⟨81, _⟩ => ⟨S4088x128, .f32⟩
  | .hbm, ⟨82, _⟩ => ⟨S4096x128, .f32⟩
  | .hbm, ⟨83, _⟩ => ⟨S_, .f32⟩
  | .hbm, ⟨84, _⟩ => ⟨S4096, .f32⟩
  | .hbm, ⟨85, _⟩ => ⟨S4096, .f32⟩
  | .hbm, ⟨86, _⟩ => ⟨S4096x1, .f32⟩
  | .hbm, ⟨87, _⟩ => ⟨S4096x128, .f32⟩
  | .hbm, ⟨88, _⟩ => ⟨S4096x128, .f32⟩
  | .hbm, ⟨89, _⟩ => ⟨S4096x128, .f32⟩
  | .hbm, ⟨90, _⟩ => ⟨S4096x1x128, .f32⟩
  | .hbm, ⟨91, _⟩ => ⟨S4096x128, .f32⟩
  | .hbm, ⟨92, _⟩ => ⟨S4096x128, .f32⟩
  | .hbm, ⟨93, _⟩ => ⟨S4096x1x128, .f32⟩
  | .hbm, ⟨94, _⟩ => ⟨S4096x128, .f32⟩
  | .hbm, ⟨95, _⟩ => ⟨S_, .f32⟩
  | .hbm, ⟨96, _⟩ => ⟨S16x128, .f32⟩
  | .hbm, ⟨97, _⟩ => ⟨S4080x128, .f32⟩
  | .hbm, ⟨98, _⟩ => ⟨S4096x128, .f32⟩
  | .hbm, ⟨99, _⟩ => ⟨S_, .f32⟩
  | .hbm, ⟨100, _⟩ => ⟨S4096, .f32⟩
  | .hbm, ⟨101, _⟩ => ⟨S4096, .f32⟩
  | .hbm, ⟨102, _⟩ => ⟨S4096x1, .f32⟩
  | .hbm, ⟨103, _⟩ => ⟨S4096x128, .f32⟩
  | .hbm, ⟨104, _⟩ => ⟨S4096x128, .f32⟩
  | .hbm, ⟨105, _⟩ => ⟨S4096x128, .f32⟩
  | .hbm, ⟨106, _⟩ => ⟨S4096x1x128, .f32⟩
  | .hbm, ⟨107, _⟩ => ⟨S4096x128, .f32⟩
  | .hbm, ⟨108, _⟩ => ⟨S4096x128, .f32⟩
  | .hbm, ⟨109, _⟩ => ⟨S4096x1x128, .f32⟩
  | .hbm, ⟨110, _⟩ => ⟨S4096x1x128, .f32⟩
  | .hbm, ⟨111, _⟩ => ⟨S4096x1x128, .f32⟩
  | .hbm, ⟨112, _⟩ => ⟨S4096x1x128, .f32⟩
  | .hbm, ⟨113, _⟩ => ⟨S4096x4x128, .f32⟩
  | .hbm, ⟨114, _⟩ => ⟨S4096x512, .f32⟩
  | .hbm, ⟨115, _⟩ => ⟨S4096x512, .bf16⟩
  | .hbm, ⟨116, _⟩ => ⟨S4096x1024, .f32⟩
  | .hbm, ⟨117, _⟩ => ⟨S4096x2048, .bf16⟩
  | .hbm, ⟨118, _⟩ => ⟨S1024x1024, .bf16⟩
  | .hbm, ⟨119, _⟩ => ⟨S1x1024, .f32⟩
  | .hbm, ⟨120, _⟩ => ⟨S3x512, .f32⟩
  | .hbm, ⟨121, _⟩ => ⟨S4x128x128, .f32⟩
  | .hbm, ⟨122, _⟩ => ⟨S1x512, .f32⟩
  | .hbm, ⟨123, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S16x2048, .f32⟩
  | .local _ .vmem, ⟨7, _⟩ => ⟨S16x2048, .f32⟩
  | .local _ .vmem, ⟨8, _⟩ => ⟨S512x512, .bf16⟩
  | .local _ .vmem, ⟨9, _⟩ => ⟨S512x512, .bf16⟩
  | .local _ .vmem, ⟨10, _⟩ => ⟨S1x1024, .f32⟩
  | .local _ .vmem, ⟨11, _⟩ => ⟨S8x1024x256, .bf16⟩
  | .local _ .vmem, ⟨12, _⟩ => ⟨S3x512, .f32⟩
  | .local _ .vmem, ⟨13, _⟩ => ⟨S4x128x128, .bf16⟩
  | .local _ .vmem, ⟨14, _⟩ => ⟨S1x512, .f32⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S512x2048, .bf16⟩
  | .local _ .vmem, ⟨19, _⟩ => ⟨S512x2048, .bf16⟩
  | .local _ .vmem, ⟨20, _⟩ => ⟨S1024x1024, .bf16⟩
  | .local _ .vmem, ⟨21, _⟩ => ⟨S1x1024, .f32⟩
  | .local _ .vmem, ⟨22, _⟩ => ⟨S3x512, .f32⟩
  | .local _ .vmem, ⟨23, _⟩ => ⟨S4x128x128, .f32⟩
  | .local _ .vmem, ⟨24, _⟩ => ⟨S1x512, .f32⟩
  | .local _ .vmem, ⟨25, _⟩ => ⟨S512x1024, .bf16⟩
  | .local _ .vmem, ⟨26, _⟩ => ⟨S512x1024, .bf16⟩
  | .local _ .vmem, ⟨27, _⟩ => ⟨S528x2048, .f32⟩
  | .local _ .vmem, ⟨28, _⟩ => ⟨S544x1024, .f32⟩
  | .local _ .vmem, ⟨29, _⟩ => ⟨S512x1024, .bf16⟩
  | .local _ .vmem, ⟨30, _⟩ => ⟨S1024x1024, .f32⟩
  | .local _ .vmem, ⟨31, _⟩ => ⟨S544x128, .f32⟩
  | .local _ .vmem, ⟨32, _⟩ => ⟨S544x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_call0_cst : Ref sig .tc := ⟨.hbm, 38, rfl⟩
abbrev main_call0_call0_v0 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_7 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_8 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_9 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_10 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94_0 : Ref sig .tc := ⟨.hbm, 116, rfl⟩
abbrev main_v94_1 : Ref sig .tc := ⟨.hbm, 117, rfl⟩
abbrev main_v94_2 : Ref sig .tc := ⟨.hbm, 118, rfl⟩
abbrev main_v94_3 : Ref sig .tc := ⟨.hbm, 119, rfl⟩
abbrev main_v94_4 : Ref sig .tc := ⟨.hbm, 120, rfl⟩
abbrev main_v94_5 : Ref sig .tc := ⟨.hbm, 121, rfl⟩
abbrev main_v94_6 : Ref sig .tc := ⟨.hbm, 122, rfl⟩
abbrev main_v94_7 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![8], ![false]⟩

def k0_cond4 (i : grid0.Coords) : BitVec 1 :=
  let arg0 : BitVec 32 := BitVec.ofNat 32 (i 0).val
  let c7_i32_308 : BitVec 32 := 7#32
  let v453 : BitVec 1 := Scalar.cmpi .eq arg0 c7_i32_308
  let v454 : BitVec 32 := Scalar.extui v453
  let c0_i32_309 : BitVec 32 := 0#32
  let v455 : BitVec 1 := Scalar.cmpi .ne v454 c0_i32_309
  v455

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MixRefIdeal.lean ====
abbrev S4096x1024 : Shape := ⟨2, ![4096, 1024]⟩
abbrev S1x1024 : Shape := ⟨2, ![1, 1024]⟩
abbrev S1x1024x2048 : Shape := ⟨3, ![1, 1024, 2048]⟩
abbrev S1x3x512 : Shape := ⟨3, ![1, 3, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2048 : Shape := ⟨2, ![1024, 2048]⟩
abbrev S4096x2048 : Shape := ⟨2, ![4096, 2048]⟩
abbrev S4096x512 : Shape := ⟨2, ![4096, 512]⟩
abbrev S3x512 : Shape := ⟨2, ![3, 512]⟩
abbrev S2x512 : Shape := ⟨2, ![2, 512]⟩
abbrev S4098x512 : Shape := ⟨2, ![4098, 512]⟩
abbrev S512 : Shape := ⟨1, ![512]⟩
abbrev S4096x4x128 : Shape := ⟨3, ![4096, 4, 128]⟩
abbrev S4096x1x128 : Shape := ⟨3, ![4096, 1, 128]⟩
abbrev S4096x128 : Shape := ⟨2, ![4096, 128]⟩
abbrev S2x128 : Shape := ⟨2, ![2, 128]⟩
abbrev S4094x128 : Shape := ⟨2, ![4094, 128]⟩
abbrev S4x128 : Shape := ⟨2, ![4, 128]⟩
abbrev S4092x128 : Shape := ⟨2, ![4092, 128]⟩
abbrev S8x128 : Shape := ⟨2, ![8, 128]⟩
abbrev S4088x128 : Shape := ⟨2, ![4088, 128]⟩
abbrev S16x128 : Shape := ⟨2, ![16, 128]⟩
abbrev S4080x128 : Shape := ⟨2, ![4080, 128]⟩
abbrev S4x128x128 : Shape := ⟨3, ![4, 128, 128]⟩
abbrev S4x128x4096 : Shape := ⟨3, ![4, 128, 4096]⟩
abbrev S1024x1024 : Shape := ⟨2, ![1024, 1024]⟩
abbrev S4x4096x128 : Shape := ⟨3, ![4, 4096, 128]⟩

abbrev nBuf : Space → Nat
  | .hbm => 363
  | .vmem => 0
  | .smem => 0
  | _ => 0

abbrev hbmTy0_0 (i : Nat) : BufTy := match i % 128 with
  | 0 => ⟨S4096x1024, .f32⟩
  | 1 => ⟨S1x1024, .f32⟩
  | 2 => ⟨S1x1024x2048, .f32⟩
  | 3 => ⟨S1x3x512, .f32⟩
  | 4 => ⟨S1x4x128x128, .f32⟩
  | 5 => ⟨S1x512, .f32⟩
  | 6 => ⟨S1x1024x1024, .f32⟩
  | 7 => ⟨S4096x1024, .f32⟩
  | 8 => ⟨S1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S1x1024, .f32⟩
  | 27 => ⟨S4096x1024, .f32⟩
  | 28 => ⟨S4096x1024, .f32⟩
  | 29 => ⟨S1024x2048, .f32⟩
  | 30 => ⟨S4096x2048, .f32⟩
  | 31 => ⟨S4096x512, .f32⟩
  | 32 => ⟨S4096x512, .f32⟩
  | 33 => ⟨S4096x512, .f32⟩
  | 34 => ⟨S4096x512, .f32⟩
  | 35 => ⟨S4096x512, .f32⟩
  | 36 => ⟨S3x512, .f32⟩
  | 37 => ⟨S_, .f32⟩
  | 38 => ⟨S2x512, .f32⟩
  | 39 => ⟨S4098x512, .f32⟩
  | 40 => ⟨S_, .f32⟩
  | 41 => ⟨S2x512, .f32⟩
  | 42 => ⟨S1x512, .f32⟩
  | 43 => ⟨S512, .f32⟩
  | 44 => ⟨S4096x512, .f32⟩
  | 45 => ⟨S1x512, .f32⟩
  | 46 => ⟨S4096x512, .f32⟩
  | 47 => ⟨S4096x512, .f32⟩
  | 48 => ⟨S_, .f32⟩
  | 49 => ⟨S4096x512, .f32⟩
  | 50 => ⟨S4096x512, .f32⟩
  | 51 => ⟨S1x512, .f32⟩
  | 52 => ⟨S512, .f32⟩
  | 53 => ⟨S4096x512, .f32⟩
  | 54 => ⟨S1x512, .f32⟩
  | 55 => ⟨S4096x512, .f32⟩
  | 56 => ⟨S4096x512, .f32⟩
  | 57 => ⟨S4096x512, .f32⟩
  | 58 => ⟨S1x512, .f32⟩
  | 59 => ⟨S512, .f32⟩
  | 60 => ⟨S4096x512, .f32⟩
  | 61 => ⟨S1x512, .f32⟩
  | 62 => ⟨S4096x512, .f32⟩
  | 63 => ⟨S4096x512, .f32⟩
  | 64 => ⟨S4096x512, .f32⟩
  | 65 => ⟨S4096x512, .f32⟩
  | 66 => ⟨S4096x4x128, .f32⟩
  | 67 => ⟨S_, .f32⟩
  | 68 => ⟨S_, .f32⟩
  | 69 => ⟨S4096x4x128, .f32⟩
  | 70 => ⟨S4096, .f32⟩
  | 71 => ⟨S_, .f32⟩
  | 72 => ⟨S4096, .f32⟩
  | 73 => ⟨S4096, .f32⟩
  | 74 => ⟨S4096x1x128, .f32⟩
  | 75 => ⟨S4096x128, .f32⟩
  | 76 => ⟨S_, .f32⟩
  | 77 => ⟨S2x128, .f32⟩
  | 78 => ⟨S4094x128, .f32⟩
  | 79 => ⟨S4096x128, .f32⟩
  | 80 => ⟨S_, .f32⟩
  | 81 => ⟨S2x128, .f32⟩
  | 82 => ⟨S_, .f32⟩
  | 83 => ⟨S4096, .f32⟩
  | 84 => ⟨S4096, .f32⟩
  | 85 => ⟨S4096x1, .f32⟩
  | 86 => ⟨S4096x128, .f32⟩
  | 87 => ⟨S4096x128, .f32⟩
  | 88 => ⟨S4096x128, .f32⟩
  | 89 => ⟨S4096x1x128, .f32⟩
  | 90 => ⟨S4096x128, .f32⟩
  | 91 => ⟨S4096x128, .f32⟩
  | 92 => ⟨S4096x1x128, .f32⟩
  | 93 => ⟨S4096x128, .f32⟩
  | 94 => ⟨S_, .f32⟩
  | 95 => ⟨S4x128, .f32⟩
  | 96 => ⟨S4092x128, .f32⟩
  | 97 => ⟨S4096x128, .f32⟩
  | 98 => ⟨S_, .f32⟩
  | 99 => ⟨S4x128, .f32⟩
  | 100 => ⟨S_, .f32⟩
  | 101 => ⟨S4096, .f32⟩
  | 102 => ⟨S4096, .f32⟩
  | 103 => ⟨S4096x1, .f32⟩
  | 104 => ⟨S4096x128, .f32⟩
  | 105 => ⟨S4096x128, .f32⟩
  | 106 => ⟨S4096x128, .f32⟩
  | 107 => ⟨S4096x1x128, .f32⟩
  | 108 => ⟨S4096x128, .f32⟩
  | 109 => ⟨S4096x128, .f32⟩
  | 110 => ⟨S4096x1x128, .f32⟩
  | 111 => ⟨S4096x128, .f32⟩
  | 112 => ⟨S_, .f32⟩
  | 113 => ⟨S8x128, .f32⟩
  | 114 => ⟨S4088x128, .f32⟩
  | 115 => ⟨S4096x128, .f32⟩
  | 116 => ⟨S_, .f32⟩
  | 117 => ⟨S8x128, .f32⟩
  | 118 => ⟨S_, .f32⟩
  | 119 => ⟨S4096, .f32⟩
  | 120 => ⟨S4096, .f32⟩
  | 121 => ⟨S4096x1, .f32⟩
  | 122 => ⟨S4096x128, .f32⟩
  | 123 => ⟨S4096x128, .f32⟩
  | 124 => ⟨S4096x128, .f32⟩
  | 125 => ⟨S4096x1x128, .f32⟩
  | 126 => ⟨S4096x128, .f32⟩
  | 127 => ⟨S4096x128, .f32⟩
  | _ => ⟨S4096x1024, .f32⟩

abbrev hbmTy0_1 (i : Nat) : BufTy := match i % 128 with
  | 0 => ⟨S4096x1x128, .f32⟩
  | 1 => ⟨S4096x128, .f32⟩
  | 2 => ⟨S_, .f32⟩
  | 3 => ⟨S16x128, .f32⟩
  | 4 => ⟨S4080x128, .f32⟩
  | 5 => ⟨S4096x128, .f32⟩
  | 6 => ⟨S_, .f32⟩
  | 7 => ⟨S16x128, .f32⟩
  | 8 => ⟨S_, .f32⟩
  | 9 => ⟨S4096, .f32⟩
  | 10 => ⟨S4096, .f32⟩
  | 11 => ⟨S4096x1, .f32⟩
  | 12 => ⟨S4096x128, .f32⟩
  | 13 => ⟨S4096x128, .f32⟩
  | 14 => ⟨S4096x128, .f32⟩
  | 15 => ⟨S4096x1x128, .f32⟩
  | 16 => ⟨S4096x128, .f32⟩
  | 17 => ⟨S4096x128, .f32⟩
  | 18 => ⟨S4096x1x128, .f32⟩
  | 19 => ⟨S4096x1x128, .f32⟩
  | 20 => ⟨S4096x1x128, .f32⟩
  | 21 => ⟨S4096x1x128, .f32⟩
  | 22 => ⟨S4096x4x128, .f32⟩
  | 23 => ⟨S4x128x128, .f32⟩
  | 24 => ⟨S4x128x4096, .f32⟩
  | 25 => ⟨S4096x4x128, .f32⟩
  | 26 => ⟨S4096x512, .f32⟩
  | 27 => ⟨S512, .f32⟩
  | 28 => ⟨S1x512, .f32⟩
  | 29 => ⟨S4096x512, .f32⟩
  | 30 => ⟨S4096x512, .f32⟩
  | 31 => ⟨S4096x1024, .f32⟩
  | 32 => ⟨S1024x1024, .f32⟩
  | 33 => ⟨S4096x1024, .f32⟩
  | 34 => ⟨S4096x1024, .f32⟩
  | 35 => ⟨S4096x1024, .f32⟩
  | 36 => ⟨S1024x1024, .f32⟩
  | 37 => ⟨S1024x1024, .f32⟩
  | 38 => ⟨S4096x1024, .f32⟩
  | 39 => ⟨S1x1024x1024, .f32⟩
  | 40 => ⟨S4096x512, .f32⟩
  | 41 => ⟨S4096x512, .f32⟩
  | 42 => ⟨S4096x512, .f32⟩
  | 43 => ⟨S_, .f32⟩
  | 44 => ⟨S512, .f32⟩
  | 45 => ⟨S1x512, .f32⟩
  | 46 => ⟨S4096x512, .f32⟩
  | 47 => ⟨S4096x512, .f32⟩
  | 48 => ⟨S_, .f32⟩
  | 49 => ⟨S512, .f32⟩
  | 50 => ⟨S1x512, .f32⟩
  | 51 => ⟨S4096x4x128, .f32⟩
  | 52 => ⟨S4x128x4096, .f32⟩
  | 53 => ⟨S4x4096x128, .f32⟩
  | 54 => ⟨S4096x4x128, .f32⟩
  | 55 => ⟨S4x128x128, .f32⟩
  | 56 => ⟨S4x128x128, .f32⟩
  | 57 => ⟨S1x4x128x128, .f32⟩
  | 58 => ⟨S4096x1x128, .f32⟩
  | 59 => ⟨S4096x128, .f32⟩
  | 60 => ⟨S4096x1x128, .f32⟩
  | 61 => ⟨S4096x128, .f32⟩
  | 62 => ⟨S4096x1x128, .f32⟩
  | 63 => ⟨S4096x128, .f32⟩
  | 64 => ⟨S4096x1x128, .f32⟩
  | 65 => ⟨S4096x128, .f32⟩
  | 66 => ⟨S4096x128, .f32⟩
  | 67 => ⟨S4096x1x128, .f32⟩
  | 68 => ⟨S_, .f32⟩
  | 69 => ⟨S4096x4x128, .f32⟩
  | 70 => ⟨S4096x128, .f32⟩
  | 71 => ⟨S4096x128, .f32⟩
  | 72 => ⟨S4096x128, .f32⟩
  | 73 => ⟨S16x128, .f32⟩
  | 74 => ⟨S4080x128, .f32⟩
  | 75 => ⟨S_, .f32⟩
  | 76 => ⟨S4096x128, .f32⟩
  | 77 => ⟨S4096x128, .f32⟩
  | 78 => ⟨S4096x1x128, .f32⟩
  | 79 => ⟨S_, .f32⟩
  | 80 => ⟨S4096x4x128, .f32⟩
  | 81 => ⟨S4096x128, .f32⟩
  | 82 => ⟨S4096x1x128, .f32⟩
  | 83 => ⟨S_, .f32⟩
  | 84 => ⟨S4096x4x128, .f32⟩
  | 85 => ⟨S4096x4x128, .f32⟩
  | 86 => ⟨S4096x128, .f32⟩
  | 87 => ⟨S4096x128, .f32⟩
  | 88 => ⟨S4096x128, .f32⟩
  | 89 => ⟨S8x128, .f32⟩
  | 90 => ⟨S4088x128, .f32⟩
  | 91 => ⟨S_, .f32⟩
  | 92 => ⟨S4096x128, .f32⟩
  | 93 => ⟨S4096x128, .f32⟩
  | 94 => ⟨S4096x1x128, .f32⟩
  | 95 => ⟨S_, .f32⟩
  | 96 => ⟨S4096x4x128, .f32⟩
  | 97 => ⟨S4096x4x128, .f32⟩
  | 98 => ⟨S4096x128, .f32⟩
  | 99 => ⟨S4096x1x128, .f32⟩
  | 100 => ⟨S_, .f32⟩
  | 101 => ⟨S4096x4x128, .f32⟩
  | 102 => ⟨S4096x4x128, .f32⟩
  | 103 => ⟨S4096x128, .f32⟩
  | 104 => ⟨S4096x128, .f32⟩
  | 105 => ⟨S4096x128, .f32⟩
  | 106 => ⟨S4x128, .f32⟩
  | 107 => ⟨S4092x128, .f32⟩
  | 108 => ⟨S_, .f32⟩
  | 109 => ⟨S4096x128, .f32⟩
  | 110 => ⟨S4096x128, .f32⟩
  | 111 => ⟨S4096x1x128, .f32⟩
  | 112 => ⟨S_, .f32⟩
  | 113 => ⟨S4096x4x128, .f32⟩
  | 114 => ⟨S4096x4x128, .f32⟩
  | 115 => ⟨S4096x128, .f32⟩
  | 116 => ⟨S4096x1x128, .f32⟩
  | 117 => ⟨S_, .f32⟩
  | 118 => ⟨S4096x4x128, .f32⟩
  | 119 => ⟨S4096x4x128, .f32⟩
  | 120 => ⟨S4096x128, .f32⟩
  | 121 => ⟨S4096x128, .f32⟩
  | 122 => ⟨S4096x128, .f32⟩
  | 123 => ⟨S2x128, .f32⟩
  | 124 => ⟨S4094x128, .f32⟩
  | 125 => ⟨S_, .f32⟩
  | 126 => ⟨S4096x128, .f32⟩
  | 127 => ⟨S4096x128, .f32⟩
  | _ => ⟨S4096x1024, .f32⟩

abbrev hbmTy0_2 (i : Nat) : BufTy := match i % 128 with
  | 0 => ⟨S4096x1x128, .f32⟩
  | 1 => ⟨S_, .f32⟩
  | 2 => ⟨S4096x4x128, .f32⟩
  | 3 => ⟨S4096x4x128, .f32⟩
  | 4 => ⟨S_, .f32⟩
  | 5 => ⟨S_, .f32⟩
  | 6 => ⟨S4096x4x128, .f32⟩
  | 7 => ⟨S4096x4x128, .f32⟩
  | 8 => ⟨S4096x512, .f32⟩
  | 9 => ⟨S4096x512, .f32⟩
  | 10 => ⟨S4096x512, .f32⟩
  | 11 => ⟨S4096x512, .f32⟩
  | 12 => ⟨S4096x512, .f32⟩
  | 13 => ⟨S4096x512, .f32⟩
  | 14 => ⟨S_, .f32⟩
  | 15 => ⟨S512, .f32⟩
  | 16 => ⟨S1x512, .f32⟩
  | 17 => ⟨S_, .f32⟩
  | 18 => ⟨S512, .f32⟩
  | 19 => ⟨S_, .f32⟩
  | 20 => ⟨S4098x512, .f32⟩
  | 21 => ⟨S1x512, .f32⟩
  | 22 => ⟨S_, .f32⟩
  | 23 => ⟨S3x512, .f32⟩
  | 24 => ⟨S4096x512, .f32⟩
  | 25 => ⟨S4096x512, .f32⟩
  | 26 => ⟨S4096x512, .f32⟩
  | 27 => ⟨S_, .f32⟩
  | 28 => ⟨S512, .f32⟩
  | 29 => ⟨S1x512, .f32⟩
  | 30 => ⟨S_, .f32⟩
  | 31 => ⟨S512, .f32⟩
  | 32 => ⟨S_, .f32⟩
  | 33 => ⟨S4098x512, .f32⟩
  | 34 => ⟨S4098x512, .f32⟩
  | 35 => ⟨S1x512, .f32⟩
  | 36 => ⟨S_, .f32⟩
  | 37 => ⟨S3x512, .f32⟩
  | 38 => ⟨S3x512, .f32⟩
  | 39 => ⟨S4096x512, .f32⟩
  | 40 => ⟨S4096x512, .f32⟩
  | 41 => ⟨S4096x512, .f32⟩
  | 42 => ⟨S_, .f32⟩
  | 43 => ⟨S512, .f32⟩
  | 44 => ⟨S1x512, .f32⟩
  | 45 => ⟨S_, .f32⟩
  | 46 => ⟨S512, .f32⟩
  | 47 => ⟨S_, .f32⟩
  | 48 => ⟨S4098x512, .f32⟩
  | 49 => ⟨S4098x512, .f32⟩
  | 50 => ⟨S1x512, .f32⟩
  | 51 => ⟨S_, .f32⟩
  | 52 => ⟨S3x512, .f32⟩
  | 53 => ⟨S3x512, .f32⟩
  | 54 => ⟨S2x512, .f32⟩
  | 55 => ⟨S4096x512, .f32⟩
  | 56 => ⟨S1x3x512, .f32⟩
  | 57 => ⟨S4096x512, .f32⟩
  | 58 => ⟨S4096x512, .f32⟩
  | 59 => ⟨S_, .f32⟩
  | 60 => ⟨S4096x2048, .f32⟩
  | 61 => ⟨S_, .f32⟩
  | 62 => ⟨S4096x2048, .f32⟩
  | 63 => ⟨S4096x2048, .f32⟩
  | 64 => ⟨S_, .f32⟩
  | 65 => ⟨S4096x2048, .f32⟩
  | 66 => ⟨S4096x2048, .f32⟩
  | 67 => ⟨S_, .f32⟩
  | 68 => ⟨S4096x2048, .f32⟩
  | 69 => ⟨S4096x2048, .f32⟩
  | 70 => ⟨S4096x1024, .f32⟩
  | 71 => ⟨S4096x1024, .f32⟩
  | 72 => ⟨S_, .f32⟩
  | 73 => ⟨S1024, .f32⟩
  | 74 => ⟨S1x1024, .f32⟩
  | 75 => ⟨S4096x1024, .f32⟩
  | 76 => ⟨S4096x1024, .f32⟩
  | 77 => ⟨S_, .f32⟩
  | 78 => ⟨S1024, .f32⟩
  | 79 => ⟨S4096x1024, .f32⟩
  | 80 => ⟨S_, .f32⟩
  | 81 => ⟨S4096, .f32⟩
  | 82 => ⟨S4096x1, .f32⟩
  | 83 => ⟨S4096x1024, .f32⟩
  | 84 => ⟨S4096x1024, .f32⟩
  | 85 => ⟨S4096x1024, .f32⟩
  | 86 => ⟨S4096x1, .f32⟩
  | 87 => ⟨S_, .f32⟩
  | 88 => ⟨S4096x1, .f32⟩
  | 89 => ⟨S4096x1, .f32⟩
  | 90 => ⟨S_, .f32⟩
  | 91 => ⟨S4096, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S1x1024, .f32⟩
  | 98 => ⟨S4096x2048, .bf16⟩
  | 99 => ⟨S1024x1024, .f32⟩
  | 100 => ⟨S1024x1024, .bf16⟩
  | 101 => ⟨S3x512, .f32⟩
  | 102 => ⟨S4x128x128, .f32⟩
  | 103 => ⟨S_, .f32⟩
  | 104 => ⟨S4096x1024, .f32⟩
  | 105 => ⟨S4096x1024, .f32⟩
  | 106 => ⟨S4096x1024, .bf16⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_call0_call0_cst : Ref sig .tc := ⟨.hbm, 67, rfl⟩
abbrev main_call0_call0_v0 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_8 : Ref sig .tc := ⟨.hbm, 80, rfl⟩
abbrev main_v61 : Ref sig .tc := ⟨.hbm, 81, rfl⟩
abbrev main_cst_9 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_10 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_11 : Ref sig .tc := ⟨.hbm, 98, rfl⟩
abbrev main_v76 : Ref sig .tc := ⟨.hbm, 99, rfl⟩
abbrev main_cst_12 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_13 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_14 : Ref sig .tc := ⟨.hbm, 116, rfl⟩
abbrev main_v91 : Ref sig .tc := ⟨.hbm, 117, rfl⟩
abbrev main_cst_15 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_16 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_17 : Ref sig .tc := ⟨.hbm, 134, rfl⟩
abbrev main_v106 : Ref sig .tc := ⟨.hbm, 135, rfl⟩
abbrev main_cst_18 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_cst_19 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_cst_20 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_cst_21 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_cst_22 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_cst_23 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_cst_24 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_cst_25 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_cst_26 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_cst_27 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_cst_28 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_cst_29 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_cst_30 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_cst_31 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_cst_32 : Ref sig .tc := ⟨.hbm, 257, rfl⟩
abbrev main_v214 : Ref sig .tc := ⟨.hbm, 258, rfl⟩
abbrev main_v215 : Ref sig .tc := ⟨.hbm, 259, rfl⟩
abbrev main_call1_call0_cst : Ref sig .tc := ⟨.hbm, 260, rfl⟩
abbrev main_call1_call0_v0 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_cst_33 : Ref sig .tc := ⟨.hbm, 270, rfl⟩
abbrev main_v224 : Ref sig .tc := ⟨.hbm, 271, rfl⟩
abbrev main_v225 : Ref sig .tc := ⟨.hbm, 272, rfl⟩
abbrev main_cst_34 : Ref sig .tc := ⟨.hbm, 273, rfl⟩
abbrev main_v226 : Ref sig .tc := ⟨.hbm, 274, rfl⟩
abbrev main_cst_35 : Ref sig .tc := ⟨.hbm, 275, rfl⟩
abbrev main_v227 : Ref sig .tc := ⟨.hbm, 276, rfl⟩
abbrev main_v228 : Ref sig .tc := ⟨.hbm, 277, rfl⟩
abbrev main_cst_36 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_cst_37 : Ref sig .tc := ⟨.hbm, 283, rfl⟩
abbrev main_v233 : Ref sig .tc := ⟨.hbm, 284, rfl⟩
abbrev main_v234 : Ref sig .tc := ⟨.hbm, 285, rfl⟩
abbrev main_cst_38 : Ref sig .tc := ⟨.hbm, 286, rfl⟩
abbrev main_v235 : Ref sig .tc := ⟨.hbm, 287, rfl⟩
abbrev main_cst_39 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_cst_40 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_cst_41 : Ref sig .tc := ⟨.hbm, 298, rfl⟩
abbrev main_v244 : Ref sig .tc := ⟨.hbm, 299, rfl⟩
abbrev main_v245 : Ref sig .tc := ⟨.hbm, 300, rfl⟩
abbrev main_cst_42 : Ref sig .tc := ⟨.hbm, 301, rfl⟩
abbrev main_v246 : Ref sig .tc := ⟨.hbm, 302, rfl⟩
abbrev main_cst_43 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_cst_44 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_cst_45 : Ref sig .tc := ⟨.hbm, 315, rfl⟩
abbrev main_v257 : Ref sig .tc := ⟨.hbm, 316, rfl⟩
abbrev main_cst_46 : Ref sig .tc := ⟨.hbm, 317, rfl⟩
abbrev main_v258 : Ref sig .tc := ⟨.hbm, 318, rfl⟩
abbrev main_v259 : Ref sig .tc := ⟨.hbm, 319, rfl⟩
abbrev main_cst_47 : Ref sig .tc := ⟨.hbm, 320, rfl⟩
abbrev main_v260 : Ref sig .tc := ⟨.hbm, 321, rfl⟩
abbrev main_v261 : Ref sig .tc := ⟨.hbm, 322, rfl⟩
abbrev main_cst_48 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_cst_49 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_cst_50 : Ref sig .tc := ⟨.hbm, 333, rfl⟩
abbrev main_v270 : Ref sig .tc := ⟨.hbm, 334, rfl⟩
abbrev main_v271 : Ref sig .tc := ⟨.hbm, 335, rfl⟩
abbrev main_cst_51 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_v275 : Ref sig .tc := ⟨.hbm, 340, rfl⟩
abbrev main_v276 : Ref sig .tc := ⟨.hbm, 341, rfl⟩
abbrev main_v277 : Ref sig .tc := ⟨.hbm, 342, rfl⟩
abbrev main_cst_52 : Ref sig .tc := ⟨.hbm, 343, rfl⟩
abbrev main_v278 : Ref sig .tc := ⟨.hbm, 344, rfl⟩
abbrev main_v279 : Ref sig .tc := ⟨.hbm, 345, rfl⟩
abbrev main_cst_53 : Ref sig .tc := ⟨.hbm, 346, rfl⟩
abbrev main_v280 : Ref sig .tc := ⟨.hbm, 347, rfl⟩
abbrev main_v281 : Ref sig .tc := ⟨.hbm, 348, rfl⟩
abbrev main_v282 : Ref sig .tc := ⟨.hbm, 349, rfl⟩
abbrev main_v283 : Ref sig .tc := ⟨.hbm, 350, rfl⟩
abbrev main_v284 : Ref sig .tc := ⟨.hbm, 351, rfl⟩
abbrev main_v285 : Ref sig .tc := ⟨.hbm, 352, rfl⟩
abbrev main_v286 : Ref sig .tc := ⟨.hbm, 353, rfl⟩
abbrev main_v287 : Ref sig .tc := ⟨.hbm, 354, rfl⟩
abbrev main_v288 : Ref sig .tc := ⟨.hbm, 355, rfl⟩
abbrev main_v289 : Ref sig .tc := ⟨.hbm, 356, rfl⟩
abbrev main_v290 : Ref sig .tc := ⟨.hbm, 357, rfl⟩
abbrev main_v291 : Ref sig .tc := ⟨.hbm, 358, rfl⟩
abbrev main_cst_54 : Ref sig .tc := ⟨.hbm, 359, rfl⟩
abbrev main_v292 : Ref sig .tc := ⟨.hbm, 360, rfl⟩
abbrev main_v293 : Ref sig .tc := ⟨.hbm, 361, rfl⟩
abbrev main_v294 : Ref sig .tc := ⟨.hbm, 362, rfl⟩

abbrev nD : Nat := 1
abbrev τ : Topo := Topo.v7x

variable {F : FTy → Type} [FloatOps F]
-- ==== MixFwd.lean ====
abbrev S4096x1024 : Shape := ⟨2, ![4096, 1024]⟩
abbrev S1x1024 : Shape := ⟨2, ![1, 1024]⟩
abbrev S1x1024x2048 : Shape := ⟨3, ![1, 1024, 2048]⟩
abbrev S1x3x512 : Shape := ⟨3, ![1, 3, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S3x512 : Shape := ⟨2, ![3, 512]⟩
abbrev S4x128x128 : Shape := ⟨3, ![4, 128, 128]⟩
abbrev S1024x1024 : Shape := ⟨2, ![1024, 1024]⟩
abbrev S4096x2048 : Shape := ⟨2, ![4096, 2048]⟩
abbrev S4096x512 : Shape := ⟨2, ![4096, 512]⟩
abbrev S512x1024 : Shape := ⟨2, ![512, 1024]⟩
abbrev S512x2048 : Shape := ⟨2, ![512, 2048]⟩
abbrev S512x512 : Shape := ⟨2, ![512, 512]⟩
abbrev S528x2048 : Shape := ⟨2, ![528, 2048]⟩
abbrev S16x2048 : Shape := ⟨2, ![16, 2048]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 20
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2048, .f32⟩
  | .hbm, ⟨3, _⟩ => ⟨S1x3x512, .f32⟩
  | .hbm, ⟨4, _⟩ => ⟨S1x4x128x128, .f32⟩
  | .hbm, ⟨5, _⟩ => ⟨S1x512, .f32⟩
  | .hbm, ⟨6, _⟩ => ⟨S1x1024x1024, .f32⟩
  | .hbm, ⟨7, _⟩ => ⟨S1024x2048, .f32⟩
  | .hbm, ⟨8, _⟩ => ⟨S1024x2048, .bf16⟩
  | .hbm, ⟨9, _⟩ => ⟨S1024x8x256, .bf16⟩
  | .hbm, ⟨10, _⟩ => ⟨S8x1024x256, .bf16⟩
  | .hbm, ⟨11, _⟩ => ⟨S3x512, .f32⟩
  | .hbm, ⟨12, _⟩ => ⟨S4x128x128, .f32⟩
  | .hbm, ⟨13, _⟩ => ⟨S4x128x128, .bf16⟩
  | .hbm, ⟨14, _⟩ => ⟨S1024x1024, .f32⟩
  | .hbm, ⟨15, _⟩ => ⟨S1024x1024, .bf16⟩
  | .hbm, ⟨16, _⟩ => ⟨S4096x1024, .f32⟩
  | .hbm, ⟨17, _⟩ => ⟨S4096x1024, .bf16⟩
  | .hbm, ⟨18, _⟩ => ⟨S4096x2048, .f32⟩
  | .hbm, ⟨19, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x256, .bf16⟩
  | .local _ .vmem, ⟨4, _⟩ => ⟨S3x512, .f32⟩
  | .local _ .vmem, ⟨5, _⟩ => ⟨S4x128x128, .bf16⟩
  | .local _ .vmem, ⟨6, _⟩ => ⟨S1x512, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x2048, .f32⟩
  | .local _ .vmem, ⟨13, _⟩ => ⟨S512x2048, .f32⟩
  | .local _ .vmem, ⟨14, _⟩ => ⟨S512x512, .bf16⟩
  | .local _ .vmem, ⟨15, _⟩ => ⟨S512x512, .bf16⟩
  | .local _ .vmem, ⟨16, _⟩ => ⟨S528x2048, .f32⟩
  | .local _ .vmem, ⟨17, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixFwdRefIdeal.lean ====
abbrev S4096x1024 : Shape := ⟨2, ![4096, 1024]⟩
abbrev S1x1024 : Shape := ⟨2, ![1, 1024]⟩
abbrev S1x1024x2048 : Shape := ⟨3, ![1, 1024, 2048]⟩
abbrev S1x3x512 : Shape := ⟨3, ![1, 3, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2048 : Shape := ⟨2, ![1024, 2048]⟩
abbrev S4096x2048 : Shape := ⟨2, ![4096, 2048]⟩
abbrev S4096x512 : Shape := ⟨2, ![4096, 512]⟩
abbrev S3x512 : Shape := ⟨2, ![3, 512]⟩
abbrev S2x512 : Shape := ⟨2, ![2, 512]⟩
abbrev S4098x512 : Shape := ⟨2, ![4098, 512]⟩
abbrev S512 : Shape := ⟨1, ![512]⟩
abbrev S4096x4x128 : Shape := ⟨3, ![4096, 4, 128]⟩
abbrev S4096x1x128 : Shape := ⟨3, ![4096, 1, 128]⟩
abbrev S4096x128 : Shape := ⟨2, ![4096, 128]⟩
abbrev S2x128 : Shape := ⟨2, ![2, 128]⟩
abbrev S4094x128 : Shape := ⟨2, ![4094, 128]⟩
abbrev S4x128 : Shape := ⟨2, ![4, 128]⟩
abbrev S4092x128 : Shape := ⟨2, ![4092, 128]⟩
abbrev S8x128 : Shape := ⟨2, ![8, 128]⟩
abbrev S4088x128 : Shape := ⟨2, ![4088, 128]⟩
abbrev S16x128 : Shape := ⟨2, ![16, 128]⟩
abbrev S4080x128 : Shape := ⟨2, ![4080, 128]⟩
abbrev S4x128x128 : Shape := ⟨3, ![4, 128, 128]⟩
abbrev S4x128x4096 : Shape := ⟨3, ![4, 128, 4096]⟩
abbrev S1024x1024 : Shape := ⟨2, ![1024, 1024]⟩

abbrev nBuf : Space → Nat
  | .hbm => 151
  | .vmem => 0
  | .smem => 0
  | _ => 0

abbrev hbmTy0_0 (i : Nat) : BufTy := match i % 128 with
  | 0 => ⟨S4096x1024, .f32⟩
  | 1 => ⟨S1x1024, .f32⟩
  | 2 => ⟨S1x1024x2048, .f32⟩
  | 3 => ⟨S1x3x512, .f32⟩
  | 4 => ⟨S1x4x128x128, .f32⟩
  | 5 => ⟨S1x512, .f32⟩
  | 6 => ⟨S1x1024x1024, .f32⟩
  | 7 => ⟨S1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1024, .f32⟩
  | 20 => ⟨S4096x1024, .f32⟩
  | 21 => ⟨S1x1024, .f32⟩
  | 22 => ⟨S4096x1024, .f32⟩
  | 23 => ⟨S4096x1024, .f32⟩
  | 24 => ⟨S1024x2048, .f32⟩
  | 25 => ⟨S4096x2048, .f32⟩
  | 26 => ⟨S4096x512, .f32⟩
  | 27 => ⟨S4096x512, .f32⟩
  | 28 => ⟨S4096x512, .f32⟩
  | 29 => ⟨S4096x512, .f32⟩
  | 30 => ⟨S4096x512, .f32⟩
  | 31 => ⟨S3x512, .f32⟩
  | 32 => ⟨S_, .f32⟩
  | 33 => ⟨S2x512, .f32⟩
  | 34 => ⟨S4098x512, .f32⟩
  | 35 => ⟨S1x512, .f32⟩
  | 36 => ⟨S512, .f32⟩
  | 37 => ⟨S4096x512, .f32⟩
  | 38 => ⟨S1x512, .f32⟩
  | 39 => ⟨S4096x512, .f32⟩
  | 40 => ⟨S4096x512, .f32⟩
  | 41 => ⟨S_, .f32⟩
  | 42 => ⟨S4096x512, .f32⟩
  | 43 => ⟨S4096x512, .f32⟩
  | 44 => ⟨S1x512, .f32⟩
  | 45 => ⟨S512, .f32⟩
  | 46 => ⟨S4096x512, .f32⟩
  | 47 => ⟨S1x512, .f32⟩
  | 48 => ⟨S4096x512, .f32⟩
  | 49 => ⟨S4096x512, .f32⟩
  | 50 => ⟨S4096x512, .f32⟩
  | 51 => ⟨S1x512, .f32⟩
  | 52 => ⟨S512, .f32⟩
  | 53 => ⟨S4096x512, .f32⟩
  | 54 => ⟨S1x512, .f32⟩
  | 55 => ⟨S4096x512, .f32⟩
  | 56 => ⟨S4096x512, .f32⟩
  | 57 => ⟨S4096x512, .f32⟩
  | 58 => ⟨S4096x512, .f32⟩
  | 59 => ⟨S4096x4x128, .f32⟩
  | 60 => ⟨S_, .f32⟩
  | 61 => ⟨S_, .f32⟩
  | 62 => ⟨S4096x4x128, .f32⟩
  | 63 => ⟨S4096, .f32⟩
  | 64 => ⟨S_, .f32⟩
  | 65 => ⟨S4096, .f32⟩
  | 66 => ⟨S4096, .f32⟩
  | 67 => ⟨S4096x1x128, .f32⟩
  | 68 => ⟨S4096x128, .f32⟩
  | 69 => ⟨S_, .f32⟩
  | 70 => ⟨S2x128, .f32⟩
  | 71 => ⟨S4094x128, .f32⟩
  | 72 => ⟨S4096x128, .f32⟩
  | 73 => ⟨S_, .f32⟩
  | 74 => ⟨S4096, .f32⟩
  | 75 => ⟨S4096, .f32⟩
  | 76 => ⟨S4096x1, .f32⟩
  | 77 => ⟨S4096x128, .f32⟩
  | 78 => ⟨S4096x128, .f32⟩
  | 79 => ⟨S4096x128, .f32⟩
  | 80 => ⟨S4096x1x128, .f32⟩
  | 81 => ⟨S4096x128, .f32⟩
  | 82 => ⟨S4096x128, .f32⟩
  | 83 => ⟨S4096x1x128, .f32⟩
  | 84 => ⟨S4096x128, .f32⟩
  | 85 => ⟨S_, .f32⟩
  | 86 => ⟨S4x128, .f32⟩
  | 87 => ⟨S4092x128, .f32⟩
  | 88 => ⟨S4096x128, .f32⟩
  | 89 => ⟨S_, .f32⟩
  | 90 => ⟨S4096, .f32⟩
  | 91 => ⟨S4096, .f32⟩
  | 92 => ⟨S4096x1, .f32⟩
  | 93 => ⟨S4096x128, .f32⟩
  | 94 => ⟨S4096x128, .f32⟩
  | 95 => ⟨S4096x128, .f32⟩
  | 96 => ⟨S4096x1x128, .f32⟩
  | 97 => ⟨S4096x128, .f32⟩
  | 98 => ⟨S4096x128, .f32⟩
  | 99 => ⟨S4096x1x128, .f32⟩
  | 100 => ⟨S4096x128, .f32⟩
  | 101 => ⟨S_, .f32⟩
  | 102 => ⟨S8x128, .f32⟩
  | 103 => ⟨S4088x128, .f32⟩
  | 104 => ⟨S4096x128, .f32⟩
  | 105 => ⟨S_, .f32⟩
  | 106 => ⟨S4096, .f32⟩
  | 107 => ⟨S4096, .f32⟩
  | 108 => ⟨S4096x1, .f32⟩
  | 109 => ⟨S4096x128, .f32⟩
  | 110 => ⟨S4096x128, .f32⟩
  | 111 => ⟨S4096x128, .f32⟩
  | 112 => ⟨S4096x1x128, .f32⟩
  | 113 => ⟨S4096x128, .f32⟩
  | 114 => ⟨S4096x128, .f32⟩
  | 115 => ⟨S4096x1x128, .f32⟩
  | 116 => ⟨S4096x128, .f32⟩
  | 117 => ⟨S_, .f32⟩
  | 118 => ⟨S16x128, .f32⟩
  | 119 => ⟨S4080x128, .f32⟩
  | 120 => ⟨S4096x128, .f32⟩
  | 121 => ⟨S_, .f32⟩
  | 122 => ⟨S4096, .f32⟩
  | 123 => ⟨S4096, .f32⟩
  | 124 => ⟨S4096x1, .f32⟩
  | 125 => ⟨S4096x128, .f32⟩
  | 126 => ⟨S4096x128, .f32⟩
  | 127 => ⟨S4096x128, .f32⟩
  | _ => ⟨S4096x1024, .f32⟩

abbrev hbmTy0_1 (i : Nat) : BufTy := match i % 128 with
  | 0 => ⟨S4096x1x128, .f32⟩
  | 1 => ⟨S4096x128, .f32⟩
  | 2 => ⟨S4096x128, .f32⟩
  | 3 => ⟨S4096x1x128, .f32⟩
  | 4 => ⟨S4096x1x128, .f32⟩
  | 5 => ⟨S4096x1x128, .f32⟩
  | 6 => ⟨S4096x1x128, .f32⟩
  | 7 => ⟨S4096x4x128, .f32⟩
  | 8 => ⟨S4x128x128, .f32⟩
  | 9 => ⟨S4x128x4096, .f32⟩
  | 10 => ⟨S4096x4x128, .f32⟩
  | 11 => ⟨S4096x512, .f32⟩
  | 12 => ⟨S512, .f32⟩
  | 13 => ⟨S1x512, .f32⟩
  | 14 => ⟨S4096x512, .f32⟩
  | 15 => ⟨S4096x512, .f32⟩
  | 16 => ⟨S4096x1024, .f32⟩
  | 17 => ⟨S1024x1024, .f32⟩
  | 18 => ⟨S4096x1024, .f32⟩
  | 19 => ⟨S4096x1024, .f32⟩
  | 20 => ⟨S4096x1024, .bf16⟩
  | 21 => ⟨S4096x512, .f32⟩
  | 22 => ⟨S4096x512, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_call0_call0_cst : Ref sig .tc := ⟨.hbm, 60, rfl⟩
abbrev main_call0_call0_v0 : Ref sig .tc := ⟨.hbm, 61, rfl⟩
abbrev main_v48 : Ref sig .tc := ⟨.hbm, 62, rfl⟩
abbrev main_v49 : Ref sig .tc := ⟨.hbm, 63, rfl⟩
abbrev main_cst_4 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_5 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_7 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_9 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_10 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_11 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_12 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩

abbrev nD : Nat := 1
abbrev τ : Topo := Topo.v7x

variable {F : FTy → Type} [FloatOps F]
-- ==== FfnB.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x352x1024 : Shape := ⟨3, ![8, 352, 1024]⟩
abbrev S8x192x1024 : Shape := ⟨3, ![8, 192, 1024]⟩
abbrev S1536x1024 : Shape := ⟨2, ![1536, 1024]⟩
abbrev S1024x1536 : Shape := ⟨2, ![1024, 1536]⟩
abbrev S4096x1536 : Shape := ⟨2, ![4096, 1536]⟩
abbrev S8x160x1024 : Shape := ⟨3, ![8, 160, 1024]⟩
abbrev S1280x1024 : Shape := ⟨2, ![1280, 1024]⟩
abbrev S4096x1280 : Shape := ⟨2, ![4096, 1280]⟩
abbrev S512x1024 : Shape := ⟨2, ![512, 1024]⟩
abbrev S512x1280 : Shape := ⟨2, ![512, 1280]⟩
abbrev S256x1024 : Shape := ⟨2, ![256, 1024]⟩
abbrev S512x256 : Shape := ⟨2, ![512, 256]⟩

abbrev nBuf : Space → Nat
  | .hbm => 71
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024x2816, .f32⟩
  | .hbm, ⟨6, _⟩ => ⟨S2816x1024, .f32⟩
  | .hbm, ⟨7, _⟩ => ⟨S1024x2816, .f32⟩
  | .hbm, ⟨8, _⟩ => ⟨S2816x1024, .f32⟩
  | .hbm, ⟨9, _⟩ => ⟨S2816x1024, .f32⟩
  | .hbm, ⟨10, _⟩ => ⟨S1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S8x352x1024, .f32⟩
  | .hbm, ⟨28, _⟩ => ⟨S8x192x1024, .f32⟩
  | .hbm, ⟨29, _⟩ => ⟨S1536x1024, .f32⟩
  | .hbm, ⟨30, _⟩ => ⟨S1024x1536, .f32⟩
  | .hbm, ⟨31, _⟩ => ⟨S8x352x1024, .f32⟩
  | .hbm, ⟨32, _⟩ => ⟨S8x192x1024, .f32⟩
  | .hbm, ⟨33, _⟩ => ⟨S1536x1024, .f32⟩
  | .hbm, ⟨34, _⟩ => ⟨S1024x1536, .f32⟩
  | .hbm, ⟨35, _⟩ => ⟨S8x352x1024, .f32⟩
  | .hbm, ⟨36, _⟩ => ⟨S8x192x1024, .f32⟩
  | .hbm, ⟨37, _⟩ => ⟨S1536x1024, .f32⟩
  | .hbm, ⟨38, _⟩ => ⟨S4096x1536, .f32⟩
  | .hbm, ⟨39, _⟩ => ⟨S4096x1536, .f32⟩
  | .hbm, ⟨40, _⟩ => ⟨S4096x1536, .f32⟩
  | .hbm, ⟨41, _⟩ => ⟨S_, .f32⟩
  | .hbm, ⟨42, _⟩ => ⟨S4096x1536, .f32⟩
  | .hbm, ⟨43, _⟩ => ⟨S4096x1536, .f32⟩
  | .hbm, ⟨44, _⟩ => ⟨S_, .f32⟩
  | .hbm, ⟨45, _⟩ => ⟨S4096x1536, .f32⟩
  | .hbm, ⟨46, _⟩ => ⟨S4096x1536, .f32⟩
  | .hbm, ⟨47, _⟩ => ⟨S4096x1536, .f32⟩
  | .hbm, ⟨48, _⟩ => ⟨S4096x1536, .f32⟩
  | .hbm, ⟨49, _⟩ => ⟨S4096x1536, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S2816x1024, .bf16⟩
  | .hbm, ⟨56, _⟩ => ⟨S8x352x1024, .bf16⟩
  | .hbm, ⟨57, _⟩ => ⟨S8x160x1024, .bf16⟩
  | .hbm, ⟨58, _⟩ => ⟨S1280x1024, .bf16⟩
  | .hbm, ⟨59, _⟩ => ⟨S2816x1024, .bf16⟩
  | .hbm, ⟨60, _⟩ => ⟨S8x352x1024, .bf16⟩
  | .hbm, ⟨61, _⟩ => ⟨S8x160x1024, .bf16⟩
  | .hbm, ⟨62, _⟩ => ⟨S1280x1024, .bf16⟩
  | .hbm, ⟨63, _⟩ => ⟨S2816x1024, .bf16⟩
  | .hbm, ⟨64, _⟩ => ⟨S8x352x1024, .bf16⟩
  | .hbm, ⟨65, _⟩ => ⟨S8x160x1024, .bf16⟩
  | .hbm, ⟨66, _⟩ => ⟨S1280x1024, .bf16⟩
  | .hbm, ⟨67, _⟩ => ⟨S4096x1024, .bf16⟩
  | .hbm, ⟨68, _⟩ => ⟨S4096x1024, .f32⟩
  | .hbm, ⟨69, _⟩ => ⟨S4096x1280, .bf16⟩
  | .hbm, ⟨70, _⟩ => ⟨S4096x1280, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1280x1024, .bf16⟩
  | .local _ .vmem, ⟨5, _⟩ => ⟨S1280x1024, .bf16⟩
  | .local _ .vmem, ⟨6, _⟩ => ⟨S1280x1024, .bf16⟩
  | .local _ .vmem, ⟨7, _⟩ => ⟨S512x1024, .f32⟩
  | .local _ .vmem, ⟨8, _⟩ => ⟨S512x1024, .f32⟩
  | .local _ .vmem, ⟨9, _⟩ => ⟨S512x1280, .bf16⟩
  | .local _ .vmem, ⟨10, _⟩ => ⟨S512x1280, .bf16⟩
  | .local _ .vmem, ⟨11, _⟩ => ⟨S512x1280, .bf16⟩
  | .local _ .vmem, ⟨12, _⟩ => ⟨S512x1280, .bf16⟩
  | .local _ .vmem, ⟨13, _⟩ => ⟨S512x1280, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51_0 : Ref sig .tc := ⟨.hbm, 68, rfl⟩
abbrev main_v51_1 : Ref sig .tc := ⟨.hbm, 69, rfl⟩
abbrev main_v51_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1280x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnBRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S2816x1024 : Shape := ⟨2, ![2816, 1024]⟩
abbrev S4096x8x352 : Shape := ⟨3, ![4096, 8, 352]⟩
abbrev S4096x8x160 : Shape := ⟨3, ![4096, 8, 160]⟩
abbrev S4096x1280 : Shape := ⟨2, ![4096, 1280]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S1024x2816, .f32⟩
  | .hbm, ⟨23, _⟩ => ⟨S4096x2816, .f32⟩
  | .hbm, ⟨24, _⟩ => ⟨S1024x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S2816x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x8x352, .f32⟩
  | .hbm, ⟨43, _⟩ => ⟨S4096x8x160, .f32⟩
  | .hbm, ⟨44, _⟩ => ⟨S4096x1280, .f32⟩
  | .hbm, ⟨45, _⟩ => ⟨S4096x1280, .bf16⟩
  | .hbm, ⟨46, _⟩ => ⟨S4096x8x352, .f32⟩
  | .hbm, ⟨47, _⟩ => ⟨S4096x8x160, .f32⟩
  | .hbm, ⟨48, _⟩ => ⟨S4096x1280, .f32⟩
  | .hbm, ⟨49, _⟩ => ⟨S4096x1280, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Adamw.lean ====
abbrev S4x1024x256 : Shape := ⟨3, ![4, 1024, 256]⟩
abbrev S1x1024x256 : Shape := ⟨3, ![1, 1024, 256]⟩
abbrev S1024x256 : Shape := ⟨2, ![1024, 256]⟩

abbrev nBuf : Space → Nat
  | .hbm => 11
  | .vmem => 8
  | .smem => 0
  | _ => 0

abbrev bufTy : (tb : Table) → Fin (tcTables nBuf tb) → BufTy
  | .hbm, ⟨0, _⟩ => ⟨S4x1024x256, .bf16⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .local _ .vmem, ⟨0, _⟩ => ⟨S4x1024x256, .bf16⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwRefIdeal.lean ====
abbrev S4x1024x256 : Shape := ⟨3, ![4, 1024, 256]⟩
abbrev S1x1024x256 : Shape := ⟨3, ![1, 1024, 256]⟩
abbrev S1024x256 : Shape := ⟨2, ![1024, 256]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4x1024x256, .bf16⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S4x1024x256, .f32⟩
  | .hbm, ⟨8, _⟩ => ⟨S_, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S_, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S_, .f32⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S_, .f32⟩
  | .hbm, ⟨22, _⟩ => ⟨S1024x256, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S_, .f32⟩
  | .hbm, ⟨33, _⟩ => ⟨S1024x256, .f32⟩
  | .hbm, ⟨34, _⟩ => ⟨S1024x256, .f32⟩
  | .hbm, ⟨35, _⟩ => ⟨S1024x256, .f32⟩
  | .hbm, ⟨36, _⟩ => ⟨S_, .f32⟩
  | .hbm, ⟨37, _⟩ => ⟨S1024x256, .f32⟩
  | .hbm, ⟨38, _⟩ => ⟨S1024x256, .f32⟩
  | .hbm, ⟨39, _⟩ => ⟨S1024x256, .f32⟩
  | .hbm, ⟨40, _⟩ => ⟨S_, .f32⟩
  | .hbm, ⟨41, _⟩ => ⟨S1024x256, .f32⟩
  | .hbm, ⟨42, _⟩ => ⟨S1024x256, .f32⟩
  | _, _ => ⟨S4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Sum.lean ====
abbrev S8x1x1024 : Shape := ⟨3, ![8, 1, 1024]⟩
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 3
  | .vmem => 2
  | .smem => 0
  | _ => 0

abbrev bufTy : (tb : Table) → Fin (tcTables nBuf tb) → BufTy
  | .hbm, ⟨0, _⟩ => ⟨S8x1x1024, .f32⟩
  | .hbm, ⟨1, _⟩ => ⟨S8x8x128, .f32⟩
  | .hbm, ⟨2, _⟩ => ⟨S8x128, .f32⟩
  | .local _ .vmem, ⟨0, _⟩ => ⟨S8x8x128, .f32⟩
  | .local _ .vmem, ⟨1, _⟩ => ⟨S8x128, .f32⟩
  | _, _ => ⟨S8x1x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumRefIdeal.lean ====
abbrev S8x1x1024 : Shape := ⟨3, ![8, 1, 1024]⟩
abbrev S_ : Shape := ⟨0, ![]⟩
abbrev S1x1024 : Shape := ⟨2, ![1, 1024]⟩
abbrev S8x128 : Shape := ⟨2, ![8, 128]⟩

abbrev nBuf : Space → Nat
  | .hbm => 4
  | .vmem => 0
  | .smem => 0
  | _ => 0

abbrev bufTy : (tb : Table) → Fin (tcTables nBuf tb) → BufTy
  | .hbm, ⟨0, _⟩ => ⟨S8x1x1024, .f32⟩
  | .hbm, ⟨1, _⟩ => ⟨S_, .f32⟩
  | .hbm, ⟨2, _⟩ => ⟨S1x1024, .f32⟩
  | .hbm, ⟨3, _⟩ => ⟨S8x128, .f32⟩
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Win.lean ====
abbrev S4096x1024 : Shape := ⟨2, ![4096, 1024]⟩
abbrev S1x1024 : Shape := ⟨2, ![1, 1024]⟩
abbrev S4096x2048 : Shape := ⟨2, ![4096, 2048]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x1024x256 : Shape := ⟨3, ![8, 1024, 256]⟩
abbrev S4096x256 : Shape := ⟨2, ![4096, 256]⟩
abbrev S1x1024x256 : Shape := ⟨3, ![1, 1024, 256]⟩
abbrev S1024x256 : Shape := ⟨2, ![1024, 256]⟩

abbrev nBuf : Space → Nat
  | .hbm => 23
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2048, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x2048, .bf16⟩
  | .hbm, ⟨22, _⟩ => ⟨S8x1024x256, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WinRefIdeal.lean ====
abbrev S4096x1024 : Shape := ⟨2, ![4096, 1024]⟩
abbrev S1x1024 : Shape := ⟨2, ![1, 1024]⟩
abbrev S4096x2048 : Shape := ⟨2, ![4096, 2048]⟩
abbrev S1024 : Shape := ⟨1, ![1024]⟩
abbrev S_ : Shape := ⟨0, ![]⟩
abbrev S4096 : Shape := ⟨1, ![4096]⟩
abbrev S4096x1 : Shape := ⟨2, ![4096, 1]⟩
abbrev S2048x1024 : Shape := ⟨2, ![2048, 1024]⟩
abbrev S1024x2048 : Shape := ⟨2, ![1024, 2048]⟩
abbrev S1024x8x256 : Shape := ⟨3, ![1024, 8, 256]⟩
abbrev S8x1024x256 : Shape := ⟨3, ![8, 1024, 256]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2048, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S2048x1024, .f32⟩
  | .hbm, ⟨21, _⟩ => ⟨S1024x2048, .f32⟩
  | .hbm, ⟨22, _⟩ => ⟨S1024x8x256, .f32⟩
  | .hbm, ⟨23, _⟩ => ⟨S8x1024x256, .f32⟩
  | .hbm, ⟨24, _⟩ => ⟨S8x1024x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.Reals.lean ====
module

public import Idealize.ShloMosaic.Lib.Pointwise
public import Idealize.ShloMosaic.Lib.ReduceAll
@[expose] public section
/-! # From extended reals to reals

What the claims of this directory share: the constants the programs print, an array all of whose elements the
precondition says are finite as an array of reals, and finite sums and roots of such arrays. -/

set_option maxRecDepth 16384

noncomputable section

namespace Cert.Proof.Reals

open Idealize.ShloMosaic

/-! ## Constants -/

/-- The number that the printed `1e-6` stands for. -/
def eps : ℝ := (8796093 : ℝ) / 2 ^ 43

theorem eps_pos : 0 < eps := by unfold eps; positivity

theorem ofBits_1024 : Ideal.ofBits FTy.f32 0x44800000#32 = ((1024 : ℝ) : EReal) := by
  simp [Ideal.ofBits, Ideal.ieee, -EReal.coe_mul]; norm_num
theorem ofBits_eps : Ideal.ofBits FTy.f32 0x358637BD#32 = ((eps : ℝ) : EReal) := by
  unfold eps
  simp [Ideal.ofBits, Ideal.ieee, -EReal.coe_mul]; norm_num
theorem ofBits_neg_half : Ideal.ofBits FTy.f32 0xBF000000#32 = ((-1 / 2 : ℝ) : EReal) := by
  simp [Ideal.ofBits, Ideal.ieee, -EReal.coe_mul]; norm_num
theorem ofBits_half : Ideal.ofBits FTy.f32 0x3F000000#32 = ((1 / 2 : ℝ) : EReal) := by
  simp [Ideal.ofBits, Ideal.ieee, -EReal.coe_mul]; norm_num
theorem ofBits_one : Ideal.ofBits FTy.f32 0x3F800000#32 = ((1 : ℝ) : EReal) := by
  simp [Ideal.ofBits, Ideal.ieee, -EReal.coe_mul]; norm_num
theorem ofBits_inf : Ideal.ofBits FTy.f32 0x7F800000#32 = ⊤ := by
  simp [Ideal.ofBits, Ideal.ieee]

/-! ## Finite elements are reals -/

/-- What a precondition computes of an array: `|x| < ∞` at every element says that the elements are real numbers. -/
theorem reals_of_all {s t u : Shape} {axes : List (Fin s.rank)} [Subsingleton t.Idx] (x y : FVec Ideal s .f32) (hy : ∀ i, y i = Ideal.ofBits FTy.f32 0x7F800000#32)
    (init : u.Idx → BitVec 1) (h : s.ReducesTo axes t) (hu : 0 < u.numel) (j : t.Idx)
    (e : Host.reduce IntOp.andi (cmpf (F := Ideal) .olt (Host.absf x) y) init h hu j = 1#1) :
    ∃ X : s.Idx → ℝ, x = fun i => (X i : EReal) := by
  have key : ∀ i, ∃ r : ℝ, x i = (r : EReal) := fun i => by
    have hi : BitVec.ofBool (decide (max (x i) (-(x i)) < y i)) = 1#1 := Host.reduce_andi_all _ init h hu j e i
    rw [hy, ofBits_inf] at hi
    have hlt : max (x i) (-(x i)) < ⊤ := by
      by_contra hc
      simp [hc] at hi
    induction hx : x i using EReal.rec with
    | bot => rw [hx] at hlt; simp at hlt
    | top => rw [hx] at hlt; simp at hlt
    | coe r => exact ⟨r, rfl⟩
  exact ⟨fun i => (key i).choose, funext fun i => (key i).choose_spec⟩

/-! ## Sums, quotients and roots of reals -/

theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem div_real (x : ℝ) {y : ℝ} (hy : y ≠ 0) : Ideal.div (x : EReal) (y : EReal) = ((x / y : ℝ) : EReal) := by
  rw [Ideal.div_coe hy, ← EReal.coe_mul, mul_one_div]

theorem div_1024 (x : ℝ) : Ideal.div (x : EReal) ((1024 : ℝ) : EReal) = ((x / 1024 : ℝ) : EReal) := div_real x (by norm_num)

theorem rsqrt_real {x : ℝ} (hx : 0 < x) : Ideal.rsqrt (x : EReal) = (((Real.sqrt x)⁻¹ : ℝ) : EReal) := by
  rw [Ideal.rsqrt_coe, if_neg hx.not_gt, if_neg hx.ne']

/-! ## The RMS norm over `n` numbers -/

section Rms
variable {n : Nat}

/-- The mean square plus `eps`. -/
def meanSq (x : Fin n → ℝ) : ℝ := (∑ k, x k * x k) / 1024 + eps

theorem meanSq_pos (x : Fin n → ℝ) : 0 < meanSq x :=
  add_pos_of_nonneg_of_pos (div_nonneg (Finset.sum_nonneg fun k _ => mul_self_nonneg _) (by norm_num)) eps_pos

/-- One over the root of the mean square: what the norm multiplies by. -/
def scale (x : Fin n → ℝ) : ℝ := (Real.sqrt (meanSq x))⁻¹

theorem rsqrt_meanSq (x : Fin n → ℝ) : Ideal.rsqrt (((∑ k, x k * x k) / 1024 + eps : ℝ) : EReal) = (scale x : EReal) :=
  rsqrt_real (meanSq_pos x)

/-- The gradient of the norm at `x` for the cotangent `y` (already times the gain), as the kernels write it:
    the part of `y` along the normalised row is taken out. -/
def rmsGrad (x y : Fin n → ℝ) (j : Fin n) : ℝ :=
  scale x * (y j - x j * scale x * ((∑ k, y k * (x k * scale x)) / 1024))

/-- The same gradient as differentiation of the forward lines gives it: through the product, and through the root of the
    mean square, whose square meets `x` twice. -/
theorem rmsGrad_eq (x y : Fin n → ℝ) (j : Fin n) :
    rmsGrad x y j = y j * scale x
      + x j * ((∑ k, x k * y k) * (-1 / 2 * (scale x / meanSq x)) / 1024)
      + (∑ k, x k * y k) * (-1 / 2 * (scale x / meanSq x)) / 1024 * x j := by
  have h1 : ∑ k, y k * (x k * scale x) = (∑ k, x k * y k) * scale x := by
    rw [Finset.sum_mul]; exact Finset.sum_congr rfl fun k _ => by ring
  have h2 : scale x / meanSq x = scale x * scale x * scale x := by
    have hs : scale x * scale x = (meanSq x)⁻¹ := by
      unfold scale; rw [← mul_inv, Real.mul_self_sqrt (meanSq_pos x).le]
    rw [div_eq_mul_inv, ← hs]; ring
  unfold rmsGrad
  rw [h1, h2]; ring

end Rms

end Cert.Proof.Reals

end
-- ==== Proof.DxRef.lean ====
module

public import proofs.«01_k».proof.Proof.Gen.DxRefIdeal.Read
public import proofs.«01_k».proof.Proof.Reals
@[expose] public section
/-! # The reference of `ffn1_dx`, read at an element

`DxRefIdeal` is the derivative, by `jax.vjp`, of the forward lines `x ↦ (x, rms_norm(x, g) @ w_gate, rms_norm(x, g) @ w_up)`.
At arrays of reals its two results are sums, products and roots of reals: the gradient of `x` is the residual's cotangent
plus the gradient of the norm, the gradient of `g` the sum of one row product over all tokens. -/

set_option maxRecDepth 16384

noncomputable section

namespace Cert.Proof.DxRef

open Cert.DxRefIdeal Cert.DxRefIdeal.Gen Cert.DxRefIdeal.Read Idealize.ShloMosaic Cert.Proof.Reals

variable (X : S4096x1024.Idx → ℝ) (g : S1x1024.Idx → ℝ) (wg wu : S1x1024x2816.Idx → ℝ) (dxo : S4096x1024.Idx → EReal)
  (da db : S4096x2816.Idx → ℝ)

/-- The cotangent of the normalised, scaled row: the two products' gradients. -/
def dh (r : Fin 4096) (j : Fin 1024) : ℝ := (∑ k, da (ix2 r k) * wg (ix3 0 j k)) + ∑ k, db (ix2 r k) * wu (ix3 0 j k)

/-- Token `r`'s row. -/
def row (r : Fin 4096) : Fin 1024 → ℝ := fun j => X (ix2 r j)

/-- The gradient of `x` without the residual's part. -/
def dxReal (r : Fin 4096) (j : Fin 1024) : ℝ := rmsGrad (row X r) (fun j => dh wg wu da db r j * g (ix2 0 j)) j

/-- The gradient of the gain. -/
def dgReal (j : Fin 1024) : ℝ := ∑ r : Fin 4096, dh wg wu da db r j * (X (ix2 r j) * scale (row X r))

theorem val_dh (r : Fin 4096) (j : Fin 1024) :
    val_main_v23 (F := Ideal) (fun i => (wg i : EReal)) (fun i => (wu i : EReal)) (fun i => (da i : EReal)) (fun i => (db i : EReal)) (ix2 r j)
      = (dh wg wu da db r j : EReal) := by
  pointwise [val_main_v23, val_main_v22, val_main_v21, val_main_v19, val_main_v17]
  simp only [← EReal.coe_mul, coe_sum, ← EReal.coe_add]
  rw [add_comm]
  rfl

theorem val_meanSq (r : Fin 4096) :
    val_main_v7 (F := Ideal) (fun i => (X i : EReal)) (ix2 r 0) = (meanSq (row X r) : EReal) := by
  pointwise [val_main_v7, val_main_v6, val_main_v5, val_main_v4, val_main_v3, val_main_v2, val_main_v1, val_main_cst, val_main_cst_0, val_main_cst_1]
  simp only [← EReal.coe_mul, coe_sum, ofBits_1024, ofBits_eps, div_1024, ← EReal.coe_add]
  rfl

theorem val_scale (r : Fin 4096) :
    val_main_v8 (F := Ideal) (fun i => (X i : EReal)) (ix2 r 0) = (scale (row X r) : EReal) := by
  pointwise [val_main_v8]
  rw [val_meanSq, rsqrt_real (meanSq_pos _)]
  rfl

theorem val_dx (r : Fin 4096) (j : Fin 1024) :
    val_main_v44 (F := Ideal) (fun i => (X i : EReal)) (fun i => (g i : EReal)) (fun i => (wg i : EReal)) (fun i => (wu i : EReal)) dxo
        (fun i => (da i : EReal)) (fun i => (db i : EReal)) (ix2 r j)
      = dxo (ix2 r j) + (dxReal X g wg wu da db r j : EReal) := by
  pointwise [val_main_v44, val_main_v43, val_main_v42, val_main_v41, val_main_v40, val_main_v39, val_main_v38, val_main_v37, val_main_v36,
    val_main_v35, val_main_v34, val_main_v33, val_main_v32, val_main_v31, val_main_v30, val_main_v28, val_main_v27, val_main_v14, val_main_v11,
    val_main_v10, val_main_v9, val_main_v0, val_main_cst_2, val_main_cst_5, val_main_cst_6, val_main_cst_7]
  simp only [Fin.sum_univ_one, val_dh, val_meanSq, val_scale, ofBits_1024, ofBits_neg_half, div_real _ (meanSq_pos _).ne', ← EReal.coe_mul, coe_sum, div_1024,
    add_assoc, ← EReal.coe_add]
  rw [dxReal, rmsGrad_eq, add_assoc]
  rfl

theorem val_dg (j : Fin 1024) :
    val_main_v45 (F := Ideal) (fun i => (X i : EReal)) (fun i => (wg i : EReal)) (fun i => (wu i : EReal))
        (fun i => (da i : EReal)) (fun i => (db i : EReal)) (ix2 0 j)
      = (dgReal X wg wu da db j : EReal) := by
  pointwise [val_main_v45, val_main_v29, val_main_v26, val_main_v25, val_main_v24, val_main_v13, val_main_v12, val_main_cst_3, val_main_cst_4]
  simp only [Fin.sum_univ_one, val_dh, val_scale, ← EReal.coe_mul, coe_sum, ← EReal.coe_add]
  rw [EReal.coe_eq_coe_iff, dgReal]
  exact Finset.sum_congr rfl fun r _ => mul_comm _ _

end Cert.Proof.DxRef

end
-- ==== Proof.Cols.lean ====
module

public import Idealize.ShloMosaic.Lib.Pointwise
@[expose] public section
/-! # The hidden columns in two parts

A layer's 2816 hidden columns are 352 of each of the 8 shards. The kernels take them in two parts: part a is the first 192
columns of every shard (1536 in all), part b the other 160 (1280 in all). A sum over all hidden columns is the sum over part
a plus the sum over part b. -/

namespace Cert.Proof.Cols

/-- Column `k` of part a, among all hidden columns. -/
def colA (k : Fin 1536) : Fin 2816 := ⟨k.val / 192 * 352 + k.val % 192, by omega⟩
/-- Column `k` of part b, among all hidden columns. -/
def colB (k : Fin 1280) : Fin 2816 := ⟨k.val / 160 * 352 + (192 + k.val % 160), by omega⟩

/-- Every hidden column is one of part a or one of part b, once. -/
def parts : Fin 1536 ⊕ Fin 1280 ≃ Fin 2816 where
  toFun := Sum.elim colA colB
  invFun k := if h : k.val % 352 < 192 then .inl ⟨k.val / 352 * 192 + k.val % 352, by omega⟩
    else .inr ⟨k.val / 352 * 160 + (k.val % 352 - 192), by omega⟩
  left_inv := by
    rintro (k | k)
    · have h : (colA k).val % 352 < 192 := by show (k.val / 192 * 352 + k.val % 192) % 352 < 192; omega
      refine (dif_pos h).trans ?_
      refine congrArg Sum.inl (Fin.ext ?_)
      show (k.val / 192 * 352 + k.val % 192) / 352 * 192 + (k.val / 192 * 352 + k.val % 192) % 352 = k.val
      omega
    · have h : ¬(colB k).val % 352 < 192 := by show ¬(k.val / 160 * 352 + (192 + k.val % 160)) % 352 < 192; omega
      refine (dif_neg h).trans ?_
      refine congrArg Sum.inr (Fin.ext ?_)
      show (k.val / 160 * 352 + (192 + k.val % 160)) / 352 * 160 + ((k.val / 160 * 352 + (192 + k.val % 160)) % 352 - 192) = k.val
      omega
  right_inv := by
    intro k
    dsimp only
    split
    · refine Fin.ext ?_
      show (k.val / 352 * 192 + k.val % 352) / 192 * 352 + (k.val / 352 * 192 + k.val % 352) % 192 = k.val
      omega
    · refine Fin.ext ?_
      show (k.val / 352 * 160 + (k.val % 352 - 192)) / 160 * 352 + (192 + (k.val / 352 * 160 + (k.val % 352 - 192)) % 160) = k.val
      omega

/-- A sum over all hidden columns, part by part. -/
theorem sum_parts {M : Type} [AddCommMonoid M] (f : Fin 2816 → M) : ∑ k, f k = ∑ k, f (colA k) + ∑ k, f (colB k) := by
  rw [← parts.sum_comp f, Fintype.sum_sum_type]
  rfl

/-! ## Where a block's element sits -/

open Idealize.ShloMosaic

/-- An index of a matrix is its two coordinates. -/
theorem idx2_eq {n0 n1 : Nat} (f : (⟨2, ![n0, n1]⟩ : Shape).Idx) (a : Fin n0) (b : Fin n1) (h0 : (f 0).val = a.val) (h1 : (f 1).val = b.val) :
    f = ix2 a b :=
  funext fun k => Fin.ext (match k with | ⟨0, _⟩ => h0 | ⟨1, _⟩ => h1)

/-- Element `i` of block `t` on an axis cut in blocks of `n`. -/
theorem at_blk {x t n i : Nat} (h : x = t) : x * n + 1 * i = n * t + i := by subst h; rw [Nat.one_mul, Nat.mul_comm]

/-- Element `i` of the one block of an axis. -/
theorem at_zero {x n i : Nat} (h : x = 0) : x * n + 1 * i = i := by subst h; omega

/-! ## The tokens in tiles of 512 -/

/-- Token `i` of tile `t`. -/
def tok (t : Fin 8) (i : Fin 512) : Fin 4096 := ⟨512 * t.val + i.val, by omega⟩

/-- A sum over all tokens, tile by tile. -/
theorem sum_tok {M : Type} [AddCommMonoid M] (f : Fin 4096 → M) : ∑ r, f r = ∑ t, ∑ i, f (tok t i) := by
  rw [← (finProdFinEquiv (m := 8) (n := 512)).sum_comp f, Fintype.sum_prod_type]
  refine Finset.sum_congr rfl fun t _ => Finset.sum_congr rfl fun i _ => congrArg f (Fin.ext ?_)
  show i.val + 512 * t.val = 512 * t.val + i.val
  omega

/-- The tile of a token and its place in it. -/
theorem tok_div (r : Fin 4096) : tok ⟨r.val / 512, by omega⟩ ⟨r.val % 512, Nat.mod_lt _ (by decide)⟩ = r :=
  Fin.ext (Nat.div_add_mod _ _)

end Cert.Proof.Cols
-- ==== Proof.DxKernel.lean ====
module

public import proofs.«01_k».proof.Proof.Gen.DxIdeal.Value
public import proofs.«01_k».proof.Proof.DxRef
public import proofs.«01_k».proof.Proof.Cols
public import Idealize.ShloMosaic.Lib.StableHlo.ReadAt
@[expose] public section
/-! # The kernel of `ffn1_dx`, read at an element

Eight grid points take 512 tokens each. A point writes its block of the gradient of `x` and adds its tokens' part to the
gradient of the gain, which the first point starts from zero. The four products of a point are over the hidden columns of
part a and of part b; together they run over all hidden columns. -/

set_option maxRecDepth 16384

noncomputable section

namespace Cert.Proof.DxKernel

open Cert.DxIdeal Cert.DxIdeal.Gen Cert.DxIdeal.Value Idealize.ShloMosaic Idealize.ShloMosaic.TcCoe Idealize.SL.Sem
open Cert.Proof.Reals Cert.Proof.Cols
open Cert.Proof.DxRef (dh row dxReal dgReal)

variable (m : (ℓ : Loc nD τ sig) → Buf (Elt Ideal) ℓ) (c : Dev nD)

theorem hz : (![0, 0] : Fin 2 → Nat) = fun _ => 0 := funext fun a => by fin_cases a <;> rfl

/-! ## What a point leaves -/

/-- Point `t`'s cotangent of the normalised rows. -/
abbrev blockDh (t : Fin cfg0.N) : FVec Ideal S512x1024 .f32 :=
  k0_pay6 (iblk m c 3 t) (iblk m c 5 t) (iblk m c 4 t) (iblk m c 6 t) (iblk m c 7 t) (iblk m c 9 t) (iblk m c 8 t) (iblk m c 10 t)

/-- Point `t`'s block of the gradient of `x`. -/
abbrev blockDx (t : Fin cfg0.N) : FVec Ideal S512x1024 .f32 :=
  k0_pay3 (blockDh m c t) (iblk m c 1 t) (iblk m c 2 t) (k0_pay7 (iblk m c 1 t)) (iblk m c 0 t)

/-- The gradient of the gain after point `t`, from what it held before. -/
abbrev stepDg (t : Fin cfg0.N) (acc : FVec Ideal S1x1024 .f32) : FVec Ideal S1x1024 .f32 :=
  k0_pay4 (blockDh m c t) (iblk m c 1 t) (k0_pay7 (iblk m c 1 t)) acc

theorem outsA (t : Fin cfg0.N) (h0 : t.val % 8 = 0) :
    outsAt0 m c t.val t.isLt = (blockDx m c t, stepDg m c t (k0_pay5 (F := Ideal))) := by
  rw [outsAt0_A m c t h0]
  unfold blockDx stepDg blockDh
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  unfold out0_A_11 out0_A_12
  rw [View.read_writes_eq_canon _ _ _ (cover0_A_11 c _ _ _ _ _ _ _ _ _ _ _ _ _ _ _ _ _ _ _ _ _ _ _ _ _ _ _ _ x0 x1 x2 x3 x4 x5 x6 x7 x8 x9 x10),
    View.read_writes_eq_canon _ _ _ (cover0_A_12 c _ _ _ _ _ _ _ _ _ _ _ _ _ _ _ _ _ _ _ _ _ _ _ _ _ _ _ _ x0 x1 x2 x3 x4 x5 x6 x7 x8 x9 x10)]
  unfold kernelRun0_A
  dsimp only
  sl_unfold_words
  rw [View.canon_unit_zero hz, View.canon_cons_unit_zero (S := S1x1024) hz, View.readCov_unit_zero (S := S1x1024) _ hz]
  simp only [View.readAt_eq_ld, (hs0_0 t).read_unread,(hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, View.ld_unit_zero (S := S512x1024) hz,  View.ld_unit_zero (S := S512x1536) hz,
    View.ld_unit_zero (S := S1536x1024) hz,  View.ld_unit_zero (S := S512x1280) hz,  View.ld_unit_zero (S := S1280x1024) hz,
    View.ld_unit_zero (S := S1x1024) hz]

theorem outsB (t : Fin cfg0.N) (h0 : ¬t.val % 8 = 0) :
    outsAt0 m c t.val t.isLt = (blockDx m c t, stepDg m c t (outsAt0 m c (t.val - 1) (by have := t.isLt; omega)).2) := by
  rw [outsAt0_B m c t h0]
  unfold blockDx stepDg blockDh
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  generalize (outsAt0 m c (t.val - 1) _).2 = x12
  unfold out0_B_11 out0_B_12
  rw [View.read_writes_eq_canon _ _ _ (cover0_B_11 c _ _ _ _ _ _ _ _ _ _ _ _ _ _ _ _ _ _ _ _ _ _ _ _ _ _ _ _ x0 x1 x2 x3 x4 x5 x6 x7 x8 x9 x10 x12),
    View.read_writes_eq_canon _ _ _ (cover0_B_12 c _ _ _ _ _ _ _ _ _ _ _ _ _ _ _ _ _ _ _ _ _ _ _ _ _ _ _ _ x0 x1 x2 x3 x4 x5 x6 x7 x8 x9 x10 x12)]
  unfold kernelRun0_B
  dsimp only
  sl_unfold_words
  rw [View.canon_unit_zero hz, View.canon_unit_zero hz]
  simp only [View.readAt_eq_ld, (hs0_0 t).read_unread,(hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_12 t).read_unread, View.ld_unit_zero (S := S512x1024) hz,  View.ld_unit_zero (S := S512x1536) hz,
    View.ld_unit_zero (S := S1536x1024) hz,  View.ld_unit_zero (S := S512x1280) hz,  View.ld_unit_zero (S := S1280x1024) hz,
    View.ld_unit_zero (S := S1x1024) hz]

/-! ## The blocks a point stages -/

theorem index_tok : ∀ t : Fin cfg0.N, (win0_0.index t 0 = t.val ∧ win0_0.index t 1 = 0) ∧ (win0_1.index t 0 = t.val ∧ win0_1.index t 1 = 0)
    ∧ (win0_3.index t 0 = t.val ∧ win0_3.index t 1 = 0) ∧ (win0_4.index t 0 = t.val ∧ win0_4.index t 1 = 0)
    ∧ (win0_7.index t 0 = t.val ∧ win0_7.index t 1 = 0) ∧ (win0_8.index t 0 = t.val ∧ win0_8.index t 1 = 0)
    ∧ (win0_11.index t 0 = t.val ∧ win0_11.index t 1 = 0) :=
  (by decide +kernel : ∀ t : Fin grid0.N, (win0_0.index t 0 = t.val ∧ win0_0.index t 1 = 0) ∧ (win0_1.index t 0 = t.val ∧ win0_1.index t 1 = 0)
    ∧ (win0_3.index t 0 = t.val ∧ win0_3.index t 1 = 0) ∧ (win0_4.index t 0 = t.val ∧ win0_4.index t 1 = 0)
    ∧ (win0_7.index t 0 = t.val ∧ win0_7.index t 1 = 0) ∧ (win0_8.index t 0 = t.val ∧ win0_8.index t 1 = 0)
    ∧ (win0_11.index t 0 = t.val ∧ win0_11.index t 1 = 0))

theorem index_whole : ∀ t : Fin cfg0.N, (win0_2.index t 0 = 0 ∧ win0_2.index t 1 = 0) ∧ (win0_5.index t 0 = 0 ∧ win0_5.index t 1 = 0)
    ∧ (win0_6.index t 0 = 0 ∧ win0_6.index t 1 = 0) ∧ (win0_9.index t 0 = 0 ∧ win0_9.index t 1 = 0)
    ∧ (win0_10.index t 0 = 0 ∧ win0_10.index t 1 = 0) ∧ (win0_12.index t 0 = 0 ∧ win0_12.index t 1 = 0) :=
  (by decide +kernel : ∀ t : Fin grid0.N, (win0_2.index t 0 = 0 ∧ win0_2.index t 1 = 0) ∧ (win0_5.index t 0 = 0 ∧ win0_5.index t 1 = 0)
    ∧ (win0_6.index t 0 = 0 ∧ win0_6.index t 1 = 0) ∧ (win0_9.index t 0 = 0 ∧ win0_9.index t 1 = 0)
    ∧ (win0_10.index t 0 = 0 ∧ win0_10.index t 1 = 0) ∧ (win0_12.index t 0 = 0 ∧ win0_12.index t 1 = 0))

/-! The operands the host prepares: the columns of part a and of part b, the weights' rows in the same order. -/

/-- The gradient of the gate (`da`) and of the other factor (`db`), and the two weights, as the arguments hold them. -/
abbrev argX : S4096x1024.Idx → EReal := m ((c : Thread nD τ).loc main_arg0)
abbrev argG : S1x1024.Idx → EReal := m ((c : Thread nD τ).loc main_arg1)
abbrev argWg : S1x1024x2816.Idx → EReal := m ((c : Thread nD τ).loc main_arg2)
abbrev argWu : S1x1024x2816.Idx → EReal := m ((c : Thread nD τ).loc main_arg3)
abbrev argDxo : S4096x1024.Idx → EReal := m ((c : Thread nD τ).loc main_arg4)
abbrev argDa : S4096x2816.Idx → EReal := m ((c : Thread nD τ).loc main_arg5)
abbrev argDb : S4096x2816.Idx → EReal := m ((c : Thread nD τ).loc main_arg6)

theorem prep_v3 (r : Fin 4096) (k : Fin 1536) : (V m c main_v3 : S4096x1536.Idx → EReal) (ix2 r k) = argDa m c (ix2 r (colA k)) := by
  unfold V; after_reads_at; rfl
theorem prep_v7 (r : Fin 4096) (k : Fin 1536) : (V m c main_v7 : S4096x1536.Idx → EReal) (ix2 r k) = argDb m c (ix2 r (colA k)) := by
  unfold V; after_reads_at; rfl
theorem prep_v23 (r : Fin 4096) (k : Fin 1280) : (V m c main_v23 : S4096x1280.Idx → EReal) (ix2 r k) = argDa m c (ix2 r (colB k)) := by
  unfold V; after_reads_at; rfl
theorem prep_v27 (r : Fin 4096) (k : Fin 1280) : (V m c main_v27 : S4096x1280.Idx → EReal) (ix2 r k) = argDb m c (ix2 r (colB k)) := by
  unfold V; after_reads_at; rfl
theorem prep_v13 (k : Fin 1536) (j : Fin 1024) : (V m c main_v13 : S1536x1024.Idx → EReal) (ix2 k j) = argWg m c (ix3 0 j (colA k)) := by
  unfold V; after_reads_at; rfl
theorem prep_v19 (k : Fin 1536) (j : Fin 1024) : (V m c main_v19 : S1536x1024.Idx → EReal) (ix2 k j) = argWu m c (ix3 0 j (colA k)) := by
  unfold V; after_reads_at; rfl
theorem prep_v33 (k : Fin 1280) (j : Fin 1024) : (V m c main_v33 : S1280x1024.Idx → EReal) (ix2 k j) = argWg m c (ix3 0 j (colB k)) := by
  unfold V; after_reads_at; rfl
theorem prep_v39 (k : Fin 1280) (j : Fin 1024) : (V m c main_v39 : S1280x1024.Idx → EReal) (ix2 k j) = argWu m c (ix3 0 j (colB k)) := by
  unfold V; after_reads_at; rfl

/-! Each window's block at an element. -/

theorem blk0 (t : Fin cfg0.N) (i : Fin 512) (j : Fin 1024) : (iblk m c 0 t : S512x1024.Idx → EReal) (ix2 i j) = argDxo m c (ix2 (tok t i) j) :=
  (congrArg (V m c main_arg4) (idx2_eq _ (tok t i) j (at_blk (index_tok t).1.1) (at_zero (index_tok t).1.2))).trans (congrFun (V_main_arg4 m c) _)
theorem blk1 (t : Fin cfg0.N) (i : Fin 512) (j : Fin 1024) : (iblk m c 1 t : S512x1024.Idx → EReal) (ix2 i j) = argX m c (ix2 (tok t i) j) :=
  (congrArg (V m c main_arg0) (idx2_eq _ (tok t i) j (at_blk (index_tok t).2.1.1) (at_zero (index_tok t).2.1.2))).trans (congrFun (V_main_arg0 m c) _)
theorem blk3 (t : Fin cfg0.N) (i : Fin 512) (k : Fin 1536) : (iblk m c 3 t : S512x1536.Idx → EReal) (ix2 i k) = argDa m c (ix2 (tok t i) (colA k)) :=
  (congrArg (V m c main_v3) (idx2_eq _ (tok t i) k (at_blk (index_tok t).2.2.1.1) (at_zero (index_tok t).2.2.1.2))).trans (prep_v3 m c _ _)
theorem blk4 (t : Fin cfg0.N) (i : Fin 512) (k : Fin 1536) : (iblk m c 4 t : S512x1536.Idx → EReal) (ix2 i k) = argDb m c (ix2 (tok t i) (colA k)) :=
  (congrArg (V m c main_v7) (idx2_eq _ (tok t i) k (at_blk (index_tok t).2.2.2.1.1) (at_zero (index_tok t).2.2.2.1.2))).trans (prep_v7 m c _ _)
theorem blk7 (t : Fin cfg0.N) (i : Fin 512) (k : Fin 1280) : (iblk m c 7 t : S512x1280.Idx → EReal) (ix2 i k) = argDa m c (ix2 (tok t i) (colB k)) :=
  (congrArg (V m c main_v23) (idx2_eq _ (tok t i) k (at_blk (index_tok t).2.2.2.2.1.1) (at_zero (index_tok t).2.2.2.2.1.2))).trans (prep_v23 m c _ _)
theorem blk8 (t : Fin cfg0.N) (i : Fin 512) (k : Fin 1280) : (iblk m c 8 t : S512x1280.Idx → EReal) (ix2 i k) = argDb m c (ix2 (tok t i) (colB k)) :=
  (congrArg (V m c main_v27) (idx2_eq _ (tok t i) k (at_blk (index_tok t).2.2.2.2.2.1.1) (at_zero (index_tok t).2.2.2.2.2.1.2))).trans (prep_v27 m c _ _)
theorem blk5 (t : Fin cfg0.N) (k : Fin 1536) (j : Fin 1024) : (iblk m c 5 t : S1536x1024.Idx → EReal) (ix2 k j) = argWg m c (ix3 0 j (colA k)) :=
  (congrArg (V m c main_v13) (idx2_eq _ k j (at_zero (index_whole t).2.1.1) (at_zero (index_whole t).2.1.2))).trans (prep_v13 m c _ _)
theorem blk6 (t : Fin cfg0.N) (k : Fin 1536) (j : Fin 1024) : (iblk m c 6 t : S1536x1024.Idx → EReal) (ix2 k j) = argWu m c (ix3 0 j (colA k)) :=
  (congrArg (V m c main_v19) (idx2_eq _ k j (at_zero (index_whole t).2.2.1.1) (at_zero (index_whole t).2.2.1.2))).trans (prep_v19 m c _ _)
theorem blk9 (t : Fin cfg0.N) (k : Fin 1280) (j : Fin 1024) : (iblk m c 9 t : S1280x1024.Idx → EReal) (ix2 k j) = argWg m c (ix3 0 j (colB k)) :=
  (congrArg (V m c main_v33) (idx2_eq _ k j (at_zero (index_whole t).2.2.2.1.1) (at_zero (index_whole t).2.2.2.1.2))).trans (prep_v33 m c _ _)
theorem blk10 (t : Fin cfg0.N) (k : Fin 1280) (j : Fin 1024) : (iblk m c 10 t : S1280x1024.Idx → EReal) (ix2 k j) = argWu m c (ix3 0 j (colB k)) :=
  (congrArg (V m c main_v39) (idx2_eq _ k j (at_zero (index_whole t).2.2.2.2.1.1) (at_zero (index_whole t).2.2.2.2.1.2))).trans (prep_v39 m c _ _)
theorem blk2 (t : Fin cfg0.N) (j : Fin 1024) : (iblk m c 2 t : S1x1024.Idx → EReal) (ix2 0 j) = argG m c (ix2 0 j) :=
  (congrArg (V m c main_arg1) (idx2_eq _ 0 j (at_zero (index_whole t).1.1) (at_zero (index_whole t).1.2))).trans (congrFun (V_main_arg1 m c) _)

/-! ## A point's values at arrays of reals -/

/-- The arguments that the precondition makes arrays of reals, and which. -/
structure Args (X : S4096x1024.Idx → ℝ) (g : S1x1024.Idx → ℝ) (wg wu : S1x1024x2816.Idx → ℝ) (da db : S4096x2816.Idx → ℝ) : Prop where
  x : argX m c = fun i => (X i : EReal)
  g : argG m c = fun i => (g i : EReal)
  wg : argWg m c = fun i => (wg i : EReal)
  wu : argWu m c = fun i => (wu i : EReal)
  da : argDa m c = fun i => (da i : EReal)
  db : argDb m c = fun i => (db i : EReal)

variable {m c}
variable {X : S4096x1024.Idx → ℝ} {g : S1x1024.Idx → ℝ} {wg wu : S1x1024x2816.Idx → ℝ} {da db : S4096x2816.Idx → ℝ}
variable (A : Args m c X g wg wu da db)
include A

theorem dh_at (t : Fin cfg0.N) (i : Fin 512) (j : Fin 1024) : blockDh m c t (ix2 i j) = (dh wg wu da db (tok t i) j : EReal) := by
  pointwise [k0_pay6]
  simp only [blk3, blk4, blk5, blk6, blk7, blk8, blk9, blk10, A.wg, A.wu, A.da, A.db, ← EReal.coe_mul, coe_sum, ← EReal.coe_add]
  rw [EReal.coe_eq_coe_iff, dh, sum_parts, sum_parts]
  ring

theorem scale_at (t : Fin cfg0.N) (i : Fin 512) :
    k0_pay1 (k0_pay7 (F := Ideal) (iblk m c 1 t)) (ix2 i 0) = (scale (row X (tok t i)) : EReal) := by
  pointwise [k0_pay1, k0_pay7]
  simp only [blk1, A.x, ← EReal.coe_mul, coe_sum, ofBits_1024, ofBits_eps, div_1024, ← EReal.coe_add]
  exact rsqrt_meanSq (row X (tok t i))

theorem dx_at (t : Fin cfg0.N) (i : Fin 512) (j : Fin 1024) :
    blockDx m c t (ix2 i j) = argDxo m c (ix2 (tok t i) j) + (dxReal X g wg wu da db (tok t i) j : EReal) := by
  pointwise [k0_pay3, k0_pay2]
  simp only [blk0, blk1, blk2, scale_at A, dh_at A, A.x, A.g, ← EReal.coe_mul, coe_sum, ofBits_1024, div_1024, ← EReal.coe_sub]
  rfl

/-- Tile `t`'s part of the gradient of the gain. -/
def dgPart (X : S4096x1024.Idx → ℝ) (wg wu : S1x1024x2816.Idx → ℝ) (da db : S4096x2816.Idx → ℝ) (j : Fin 1024) (t : Fin 8) : ℝ :=
  ∑ i, dh wg wu da db (tok t i) j * (X (ix2 (tok t i) j) * scale (row X (tok t i)))

theorem dg_at (t : Fin cfg0.N) (acc : FVec Ideal S1x1024 .f32) (j : Fin 1024) :
    stepDg m c t acc (ix2 0 j) = acc (ix2 0 j) + (dgPart X wg wu da db j t : EReal) := by
  pointwise [k0_pay4, k0_pay2]
  simp only [blk1, scale_at A, dh_at A, A.x, ← EReal.coe_mul, coe_sum]
  rfl

/-! ## The final arrays -/

omit A in
theorem outs_dx (t : Fin cfg0.N) : (outsAt0 m c t.val t.isLt).1 = blockDx m c t := by
  by_cases h : t.val % 8 = 0
  · rw [outsA m c t h]
  · rw [outsB m c t h]

/-- The gain's gradient after point `n` is the sum of the parts of the tiles up to `n`. -/
theorem outs_dg (j : Fin 1024) : ∀ (n : Nat) (hn : n < cfg0.N), (outsAt0 m c n hn).2 (ix2 0 j)
    = ((∑ t : Fin 8 with t.val ≤ n, dgPart X wg wu da db j t : ℝ) : EReal)
  | 0, hn => by
    have h : outsAt0 m c 0 hn = _ := outsA m c ⟨0, hn⟩ rfl
    rw [h]
    refine (dg_at A ⟨0, hn⟩ _ j).trans ?_
    have hz : (k0_pay5 (F := Ideal)) (ix2 0 j) = 0 := by pointwise [k0_pay5]
    have hs : (Finset.univ.filter fun t : Fin 8 => t.val ≤ 0) = {0} := by decide
    rw [hz, zero_add, hs, Finset.sum_singleton]
    rfl
  | n + 1, hn => by
    have h8 : n + 1 < 8 := hn
    have h : outsAt0 m c (n + 1) hn = _ := outsB m c ⟨n + 1, hn⟩ (by show ¬(n + 1) % 8 = 0; omega)
    rw [h]
    refine (dg_at A ⟨n + 1, hn⟩ _ j).trans ?_
    have hs : (Finset.univ.filter fun t : Fin 8 => t.val ≤ n + 1) = insert ⟨n + 1, h8⟩ (Finset.univ.filter fun t : Fin 8 => t.val ≤ n) := by
      ext t; simp only [Finset.mem_filter, Finset.mem_univ, true_and, Finset.mem_insert, Fin.ext_iff]; omega
    rw [hs, Finset.sum_insert (by simp), EReal.coe_add, add_comm]
    exact congrArg _ (outs_dg j n (by omega))

/-- The gradient of `x`, as an array. -/
def dxArr (dxo : S4096x1024.Idx → EReal) (X : S4096x1024.Idx → ℝ) (g : S1x1024.Idx → ℝ) (wg wu : S1x1024x2816.Idx → ℝ) (da db : S4096x2816.Idx → ℝ) :
    S4096x1024.Idx → EReal :=
  fun i => dxo i + (dxReal X g wg wu da db (i 0) (i 1) : EReal)

/-- The gradient of the gain, as an array. -/
def dgArr (X : S4096x1024.Idx → ℝ) (wg wu : S1x1024x2816.Idx → ℝ) (da db : S4096x2816.Idx → ℝ) : S1x1024.Idx → EReal :=
  fun i => (dgReal X wg wu da db (i 1) : EReal)

theorem final_dx : (dats m 0 c).arrAt 11 cfg0.N = dxArr (argDxo m c) X g wg wu da db := by
  refine (dats m 0 c).arrAt_eq_of_cover 11 _ (fun t _ => ?_) fun (i : S4096x1024.Idx) => ?_
  · rw [flushed11, outs_dx]
    funext y
    obtain ⟨i, j, rfl⟩ : ∃ (i : Fin 512) (j : Fin 1024), y = ix2 i j := ⟨y 0, y 1, idx2_eq _ _ _ rfl rfl⟩
    refine (dx_at A t i j).trans ?_
    rw [View.read_apply]
    exact (congrArg (dxArr (argDxo m c) X g wg wu da db)
      (idx2_eq _ (tok t i) j (at_blk (index_tok t).2.2.2.2.2.2.1) (at_zero (index_tok t).2.2.2.2.2.2.2))).symm
  · have hi : (i 0).val < 4096 := (i 0).isLt
    have ht : (i 0).val / 512 < cfg0.N := by have h : cfg0.N = 8 := N_0; omega
    refine ⟨⟨(i 0).val / 512, ht⟩, flush0_11 _, ?_⟩
    show i ∈ ((View.whole main_v40_0).slice (win0_11.rect ⟨(i 0).val / 512, ht⟩)).set
    rw [View.set_slice_whole, Rect.mem_set_unit]
    intro a
    match a with
    | ⟨0, _⟩ =>
      show win0_11.index _ 0 * 512 ≤ (i 0).val ∧ (i 0).val < win0_11.index _ 0 * 512 + 512
      rw [(index_tok _).2.2.2.2.2.2.1]
      show (i 0).val / 512 * 512 ≤ (i 0).val ∧ (i 0).val < (i 0).val / 512 * 512 + 512
      omega
    | ⟨1, _⟩ =>
      have h1 : (i 1).val < 1024 := (i 1).isLt
      show win0_11.index _ 1 * 1024 ≤ (i 1).val ∧ (i 1).val < win0_11.index _ 1 * 1024 + 1024
      rw [(index_tok _).2.2.2.2.2.2.2]
      omega

theorem final_dg : (dats m 0 c).arrAt 12 cfg0.N = dgArr X wg wu da db := by
  refine (dats m 0 c).arrAt_eq_of_cover 12 _ (fun t ht => ?_) fun (i : S1x1024.Idx) => ?_
  · have h7 : t.val = 7 := by have := (flush0_12 t).mp ht; have := t.isLt; have h : cfg0.N = 8 := N_0; omega
    rw [flushed12]
    funext y
    obtain ⟨i, j, rfl⟩ : ∃ (i : Fin 1) (j : Fin 1024), y = ix2 i j := ⟨y 0, y 1, idx2_eq _ _ _ rfl rfl⟩
    obtain rfl : i = 0 := Subsingleton.elim _ _
    refine (outs_dg A j t.val t.isLt).trans ?_
    rw [View.read_apply]
    refine Eq.trans ?_ (congrArg (dgArr X wg wu da db)
      (idx2_eq _ 0 j (at_zero (index_whole t).2.2.2.2.2.1) (at_zero (index_whole t).2.2.2.2.2.2))).symm
    have hs : (Finset.univ.filter fun s : Fin 8 => s.val ≤ t.val) = Finset.univ := by
      rw [h7]; decide
    rw [hs]
    show _ = ((dgReal X wg wu da db j : ℝ) : EReal)
    rw [dgReal, sum_tok]
    rfl
  · have ht : 7 < cfg0.N := by have h : cfg0.N = 8 := N_0; omega
    refine ⟨⟨7, ht⟩, (flush0_12 _).mpr rfl, ?_⟩
    show i ∈ ((View.whole main_v40_1).slice (win0_12.rect ⟨7, ht⟩)).set
    rw [View.set_slice_whole, Rect.mem_set_unit]
    intro a
    match a with
    | ⟨0, _⟩ =>
      have h0 : (i 0).val < 1 := (i 0).isLt
      show win0_12.index _ 0 * 1 ≤ (i 0).val ∧ (i 0).val < win0_12.index _ 0 * 1 + 1
      rw [(index_whole _).2.2.2.2.2.1]
      omega
    | ⟨1, _⟩ =>
      have h1 : (i 1).val < 1024 := (i 1).isLt
      show win0_12.index _ 1 * 1024 ≤ (i 1).val ∧ (i 1).val < win0_12.index _ 1 * 1024 + 1024
      rw [(index_whole _).2.2.2.2.2.2]
      omega

end Cert.Proof.DxKernel

end
-- ==== Proof.DxClaim.lean ====
module

public import proofs.«01_k».proof.Defs
public import proofs.«01_k».proof.Proof.Gen.Dx.Frame
public import proofs.«01_k».proof.Proof.Gen.DxRefIdeal.Run
public import proofs.«01_k».proof.Proof.Gen.Pre_finite_dx
public import proofs.«01_k».proof.Proof.DxKernel
public import Idealize.ShloMosaic.Adequacy
@[expose] public section
/-! # The claims of `ffn1_dx`

From arrays of finite numbers the kernel and the derivative of the forward lines end with equal results: both are
`DxKernel.dxArr` and `DxKernel.dgArr`. -/

noncomputable section

namespace Cert.Proof.DxClaim

open Idealize.ShloMosaic Idealize.ShloMosaic.TcCoe Idealize.SL.Sem Cert.Proof.Reals Cert.Proof.DxKernel

variable (m : (ℓ : Loc Cert.DxIdeal.nD Cert.DxIdeal.τ Cert.DxIdeal.sig) → Buf (Elt Ideal) ℓ)

/-- The precondition says that six of the arguments are arrays of reals. -/
theorem args_of_pre (h : Cert.Pre_DxIdeal_finite_dx m) (c : Dev Cert.DxIdeal.nD) :
    ∃ X g wg wu da db, Args m c X g wg wu da db := by
  have e := congrFun (h c) (fun a => a.elim0)
  dsimp only [Cert.Pre_finite_dx.fn, Cert.Pre_finite_dx.fn_part1] at e
  obtain ⟨e, h6⟩ := IntOp.andi_eq_one.1 e
  obtain ⟨e, h5⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  obtain ⟨X, hX⟩ := reals_of_all _ _ (fun _ => rfl) _ _ _ _ h0
  obtain ⟨g, hg⟩ := reals_of_all _ _ (fun _ => rfl) _ _ _ _ h1
  obtain ⟨wg, hwg⟩ := reals_of_all _ _ (fun _ => rfl) _ _ _ _ h2
  obtain ⟨wu, hwu⟩ := reals_of_all _ _ (fun _ => rfl) _ _ _ _ h3
  obtain ⟨da, hda⟩ := reals_of_all _ _ (fun _ => rfl) _ _ _ _ h5
  obtain ⟨db, hdb⟩ := reals_of_all _ _ (fun _ => rfl) _ _ _ _ h6
  exact ⟨X, g, wg, wu, da, db, hX, hg, hwg, hwu, hda, hdb⟩

theorem frame_ref : Cert.quiescent_DxRefIdeal := fun m ρ _ =>
  (θ_run Cert.DxRefIdeal.defs _ _).mono (fun r h => ⟨fun c => (h c).2.2, sem_eq_zero_of_no_sems (by decide) r.2⟩)
    (Cert.DxRefIdeal.Value.run (F := Ideal) m ρ)

theorem algebraic : Cert.algebraic_DxIdeal_DxRefIdeal_pre_finite_dx := by
  intro m ρ m' ρ' hpre hag
  choose X g wg wu da db A using args_of_pre m hpre
  refine ⟨fun c => dxArr (argDxo m c) (X c) (g c) (wg c) (wu c) (da c) (db c), fun c => dgArr (X c) (wg c) (wu c) (da c) (db c), ?_, ?_⟩
  · refine (θ_run _ _ _).mono (fun r h c => ?_) (Cert.DxIdeal.Value.run_blocks (F := Ideal) m ρ)
    exact ⟨(h c).1.trans (final_dx (A c)), (h c).2.1.trans (final_dg (A c)), (h c).2.2⟩
  · refine (θ_run _ _ _).mono (fun r h c => ?_) (Cert.DxRefIdeal.Value.run (F := Ideal) m' ρ')
    have hr := h c
    obtain ⟨e0, e1, e2, e3, e4, e5, e6⟩ := hag c
    refine ⟨hr.1.trans ?_, hr.2.1.trans ?_, hr.2.2⟩
    · rw [Cert.DxRefIdeal.Read.val_main_v44_eq, e0, e1, e2, e3, e4, e5, e6]
      have hx := (A c).x; have hg := (A c).g; have hwg := (A c).wg; have hwu := (A c).wu; have hda := (A c).da; have hdb := (A c).db
      dsimp only [argX, argG, argWg, argWu, argDa, argDb] at hx hg hwg hwu hda hdb
      rw [hx, hg, hwg, hwu, hda, hdb]
      funext i
      obtain ⟨r, j, rfl⟩ : ∃ (r : Fin 4096) (j : Fin 1024), i = ix2 r j := ⟨i 0, i 1, eq_ix2 i⟩
      exact Cert.Proof.DxRef.val_dx _ _ _ _ _ _ _ r j
    · rw [Cert.DxRefIdeal.Read.val_main_v45_eq, e0, e2, e3, e5, e6]
      have hx := (A c).x; have hwg := (A c).wg; have hwu := (A c).wu; have hda := (A c).da; have hdb := (A c).db
      dsimp only [argX, argWg, argWu, argDa, argDb] at hx hwg hwu hda hdb
      rw [hx, hwg, hwu, hda, hdb]
      funext i
      obtain ⟨r, j, rfl⟩ : ∃ (r : Fin 1) (j : Fin 1024), i = ix2 r j := ⟨i 0, i 1, eq_ix2 i⟩
      obtain rfl : r = 0 := Subsingleton.elim _ _
      exact Cert.Proof.DxRef.val_dg _ _ _ _ _ j

end Cert.Proof.DxClaim

end
-- ==== Proof.LossRef.lean ====
module

public import proofs.«01_k».proof.Proof.Gen.LossRefIdeal.Run
public import proofs.«01_k».proof.Proof.Gen.LossRefIdeal.Read
public import proofs.«01_k».proof.Proof.Reals
public import proofs.«01_k».proof.Proof.Cols
@[expose] public section
/-! # The reference of the last layer with its loss, read at an element

`LossRefIdeal` is the forward lines of the second feed-forward layer up to the loss, and the loss's gradient by `jax.vjp`.
At arrays of reals its six results are sums, products, exponentials and roots of reals. -/

set_option maxRecDepth 16384

noncomputable section

namespace Cert.Proof.LossRef

open Cert.LossRefIdeal Cert.LossRefIdeal.Gen Cert.LossRefIdeal.Read Idealize.ShloMosaic Cert.Proof.Reals Cert.Proof.Cols

/-! ## The layer over the reals -/

/-- The arguments as arrays of reals. -/
structure Inp where
  x : S4096x1024.Idx → ℝ
  g : S1x1024.Idx → ℝ
  wg : S1x1024x2816.Idx → ℝ
  wu : S1x1024x2816.Idx → ℝ
  wd : S1x2816x1024.Idx → ℝ
  gf : S1024.Idx → ℝ
  tgt : S4096x1024.Idx → ℝ

variable (I : Inp)

/-- Token `r`'s row. -/
def row (r : Fin 4096) : Fin 1024 → ℝ := fun j => I.x (ix2 r j)

/-- The normalised, scaled row. -/
def hn (r : Fin 4096) (j : Fin 1024) : ℝ := I.x (ix2 r j) * scale (row I r) * I.g (ix2 0 j)

/-- The two hidden products. -/
def hidA (r : Fin 4096) (k : Fin 2816) : ℝ := ∑ j, hn I r j * I.wg (ix3 0 j k)
def hidB (r : Fin 4096) (k : Fin 2816) : ℝ := ∑ j, hn I r j * I.wu (ix3 0 j k)

/-- What hidden column `k` adds to the layer's output `j`. -/
def gated (r : Fin 4096) (j : Fin 1024) (k : Fin 2816) : ℝ :=
  hidA I r k * (1 + Real.exp (-hidA I r k))⁻¹ * hidB I r k * I.wd (ix3 0 k j)

/-- The layer's output row. -/
def out (r : Fin 4096) (j : Fin 1024) : ℝ := I.x (ix2 r j) + 1 / 2 * ∑ k, gated I r j k

/-- The error of the normalised output. -/
def err (r : Fin 4096) (j : Fin 1024) : ℝ := out I r j * scale (out I r) * I.gf (ix1 j) - I.tgt (ix2 r j)

/-- Token `r`'s mean square error. -/
def mse (r : Fin 4096) : ℝ := (∑ j, err I r j * err I r j) / 1024

/-- The loss. -/
def lossReal : ℝ := 1 / 2 * ∑ r, mse I r

/-- The gradient of the layer's output. -/
def dyReal (r : Fin 4096) (j : Fin 1024) : ℝ := rmsGrad (out I r) (fun j => err I r j / 1024 * I.gf (ix1 j)) j

/-- The gradient of the final gain. -/
def dgReal (j : Fin 1024) : ℝ := ∑ r : Fin 4096, err I r j / 1024 * (out I r j * scale (out I r))

theorem ofBits_two : Ideal.ofBits FTy.f32 0x40000000#32 = ((2 : ℝ) : EReal) := by
  simp [Ideal.ofBits, Ideal.ieee, -EReal.coe_mul]; norm_num

/-- The logistic function as the reference spells it. -/
theorem one_div_real {x : ℝ} (hx : 0 < x) : Ideal.div ((1 : ℝ) : EReal) (x : EReal) = ((x⁻¹ : ℝ) : EReal) := by
  rw [div_real _ hx.ne', one_div]

/-! ## The stages -/

theorem val_hn (r : Fin 4096) (j : Fin 1024) :
    val_main_v13 (F := Ideal) (fun i => (I.x i : EReal)) (fun i => (I.g i : EReal)) (ix2 r j) = (hn I r j : EReal) := by
  have hs : val_main_v8 (F := Ideal) (fun i => (I.x i : EReal)) (ix2 r 0) = (scale (row I r) : EReal) := by
    pointwise [val_main_v8, val_main_v7, val_main_v6, val_main_v5, val_main_v4, val_main_v3, val_main_v2, val_main_v1, val_main_cst, val_main_cst_0, val_main_cst_1]
    simp only [← EReal.coe_mul, coe_sum, ofBits_1024, ofBits_eps, div_1024, ← EReal.coe_add]
    exact rsqrt_meanSq (row I r)
  pointwise [val_main_v13, val_main_v12, val_main_v11, val_main_v10, val_main_v9, val_main_v0]
  simp only [hs, ← EReal.coe_mul]
  rfl

theorem val_a (r : Fin 4096) (k : Fin 2816) :
    val_main_v15 (F := Ideal) (fun i => (I.x i : EReal)) (fun i => (I.g i : EReal)) (fun i => (I.wg i : EReal)) (ix2 r k) = (hidA I r k : EReal) := by
  pointwise [val_main_v15, val_main_v14]
  simp only [val_hn, ← EReal.coe_mul, coe_sum]
  rfl

theorem val_b (r : Fin 4096) (k : Fin 2816) :
    val_main_v17 (F := Ideal) (fun i => (I.x i : EReal)) (fun i => (I.g i : EReal)) (fun i => (I.wu i : EReal)) (ix2 r k) = (hidB I r k : EReal) := by
  pointwise [val_main_v17, val_main_v16]
  simp only [val_hn, ← EReal.coe_mul, coe_sum]
  rfl

theorem val_silu (r : Fin 4096) (k : Fin 2816) :
    val_main_call0_v5 (F := Ideal) (fun i => (I.x i : EReal)) (fun i => (I.g i : EReal)) (fun i => (I.wg i : EReal)) (ix2 r k)
      = ((1 + Real.exp (-hidA I r k))⁻¹ : ℝ) := by
  pointwise [val_main_call0_v5, val_main_call0_v4, val_main_call0_v3, val_main_call0_v2, val_main_call0_v1, val_main_call0_v0,
    val_main_call0_cst, val_main_call0_cst_0]
  simp only [val_a, ofBits_one, ← EReal.coe_neg, Ideal.exp_coe, ← EReal.coe_add]
  exact one_div_real (by positivity)

theorem val_out (r : Fin 4096) (j : Fin 1024) :
    val_main_v24 (F := Ideal) (fun i => (I.x i : EReal)) (fun i => (I.g i : EReal)) (fun i => (I.wg i : EReal)) (fun i => (I.wu i : EReal)) (fun i => (I.wd i : EReal)) (ix2 r j)
      = (out I r j : EReal) := by
  pointwise [val_main_v24, val_main_v23, val_main_v22, val_main_v21, val_main_v20, val_main_v19, val_main_v18, val_main_cst_2]
  simp only [val_a, val_b, val_silu, ofBits_half, ← EReal.coe_mul, coe_sum, ← EReal.coe_add]
  rfl

theorem val_meanSq (r : Fin 4096) :
    val_main_v31 (F := Ideal) (fun i => (I.x i : EReal)) (fun i => (I.g i : EReal)) (fun i => (I.wg i : EReal)) (fun i => (I.wu i : EReal)) (fun i => (I.wd i : EReal)) (ix2 r 0)
      = (meanSq (out I r) : EReal) := by
  pointwise [val_main_v31, val_main_v30, val_main_v29, val_main_v28, val_main_v27, val_main_v26, val_main_v25, val_main_cst_3, val_main_cst_4, val_main_cst_5]
  simp only [val_out, ← EReal.coe_mul, coe_sum, ofBits_1024, ofBits_eps, div_1024, ← EReal.coe_add]
  rfl

theorem val_scale (r : Fin 4096) :
    val_main_v32 (F := Ideal) (fun i => (I.x i : EReal)) (fun i => (I.g i : EReal)) (fun i => (I.wg i : EReal)) (fun i => (I.wu i : EReal)) (fun i => (I.wd i : EReal)) (ix2 r 0)
      = (scale (out I r) : EReal) := by
  pointwise [val_main_v32]
  rw [val_meanSq, rsqrt_real (meanSq_pos _)]
  rfl

theorem val_err (r : Fin 4096) (j : Fin 1024) :
    val_main_v41 (F := Ideal) (fun i => (I.x i : EReal)) (fun i => (I.g i : EReal)) (fun i => (I.wg i : EReal)) (fun i => (I.wu i : EReal)) (fun i => (I.wd i : EReal))
        (fun i => (I.gf i : EReal)) (fun i => (I.tgt i : EReal)) (ix2 r j)
      = (err I r j : EReal) := by
  pointwise [val_main_v41, val_main_v40, val_main_v39, val_main_v38, val_main_v37, val_main_v36]
  simp only [val_out, val_scale, ← EReal.coe_mul, ← EReal.coe_sub]
  rfl

theorem val_cot (r : Fin 4096) (j : Fin 1024) :
    val_main_v55 (F := Ideal) (fun i => (I.x i : EReal)) (fun i => (I.g i : EReal)) (fun i => (I.wg i : EReal)) (fun i => (I.wu i : EReal)) (fun i => (I.wd i : EReal))
        (fun i => (I.gf i : EReal)) (fun i => (I.tgt i : EReal)) (ix2 r j)
      = ((err I r j / 1024 : ℝ) : EReal) := by
  pointwise [val_main_v55, val_main_v54, val_main_v53, val_main_v52, val_main_v51, val_main_v50, val_main_v44, val_main_v43,
    val_main_cst_7, val_main_cst_12, val_main_cst_13, val_main_cst_14]
  simp only [val_err, ofBits_two, ofBits_half, ofBits_one, ofBits_1024, ← EReal.coe_mul, div_1024]
  rw [EReal.coe_eq_coe_iff]
  ring

/-! ## The results -/

theorem val_resA (r : Fin 4096) (k : Fin 1280) :
    val_main_v79 (F := Ideal) (fun i => (I.x i : EReal)) (fun i => (I.g i : EReal)) (fun i => (I.wg i : EReal)) (ix2 r k) = (hidA I r (colB k) : EReal) := by
  refine Eq.trans ?_ (val_a I r (colB k))
  pointwise [val_main_v79, val_main_v78, val_main_v77, val_main_v76]
  rfl

theorem val_resB (r : Fin 4096) (k : Fin 1280) :
    val_main_v83 (F := Ideal) (fun i => (I.x i : EReal)) (fun i => (I.g i : EReal)) (fun i => (I.wu i : EReal)) (ix2 r k) = (hidB I r (colB k) : EReal) := by
  refine Eq.trans ?_ (val_b I r (colB k))
  pointwise [val_main_v83, val_main_v82, val_main_v81, val_main_v80]
  rfl

theorem val_loss (j : Fin 128) :
    val_main_v84 (F := Ideal) (fun i => (I.x i : EReal)) (fun i => (I.g i : EReal)) (fun i => (I.wg i : EReal)) (fun i => (I.wu i : EReal)) (fun i => (I.wd i : EReal))
        (fun i => (I.gf i : EReal)) (fun i => (I.tgt i : EReal)) (ix2 0 j)
      = (lossReal I : EReal) := by
  pointwise [val_main_v84, val_main_v49, val_main_v48, val_main_v47, val_main_v46, val_main_v45, val_main_v42, val_main_cst_8, val_main_cst_9,
    val_main_cst_10, val_main_cst_11]
  simp only [val_err, ofBits_half, ofBits_1024, ← EReal.coe_mul, coe_sum, div_1024]
  rfl

theorem val_dy (r : Fin 4096) (j : Fin 1024) :
    val_main_v75 (F := Ideal) (fun i => (I.x i : EReal)) (fun i => (I.g i : EReal)) (fun i => (I.wg i : EReal)) (fun i => (I.wu i : EReal)) (fun i => (I.wd i : EReal))
        (fun i => (I.gf i : EReal)) (fun i => (I.tgt i : EReal)) (ix2 r j)
      = (dyReal I r j : EReal) := by
  pointwise [val_main_v75, val_main_v74, val_main_v73, val_main_v72, val_main_v71, val_main_v70, val_main_v69, val_main_v68, val_main_v67, val_main_v66,
    val_main_v65, val_main_v64, val_main_v63, val_main_v62, val_main_v60, val_main_v59, val_main_v38, val_main_v35, val_main_v34, val_main_v33,
    val_main_cst_6, val_main_cst_17, val_main_cst_18, val_main_cst_19]
  simp only [Fin.sum_univ_one, val_cot, val_out, val_meanSq, val_scale, ofBits_1024, ofBits_neg_half, div_real _ (meanSq_pos _).ne', ← EReal.coe_mul, coe_sum, div_1024,
    ← EReal.coe_add]
  rw [dyReal, rmsGrad_eq]

theorem val_dg (j : Fin 1024) :
    val_main_v85 (F := Ideal) (fun i => (I.x i : EReal)) (fun i => (I.g i : EReal)) (fun i => (I.wg i : EReal)) (fun i => (I.wu i : EReal)) (fun i => (I.wd i : EReal))
        (fun i => (I.gf i : EReal)) (fun i => (I.tgt i : EReal)) (ix2 0 j)
      = (dgReal I j : EReal) := by
  pointwise [val_main_v85, val_main_v61, val_main_v58, val_main_v57, val_main_v56, val_main_v37, val_main_v36, val_main_cst_15, val_main_cst_16]
  simp only [Fin.sum_univ_one, val_cot, val_out, val_scale, ← EReal.coe_mul, coe_sum, ← EReal.coe_add]
  rw [EReal.coe_eq_coe_iff, dgReal]
  exact Finset.sum_congr rfl fun r _ => mul_comm _ _

theorem val_df (r : Fin 4096) (j : Fin 1024) :
    val_main_v88 (F := Ideal) (fun i => (I.x i : EReal)) (fun i => (I.g i : EReal)) (fun i => (I.wg i : EReal)) (fun i => (I.wu i : EReal)) (fun i => (I.wd i : EReal))
        (fun i => (I.gf i : EReal)) (fun i => (I.tgt i : EReal)) (ix2 r j)
      = ((1 / 2 * dyReal I r j : ℝ) : EReal) := by
  pointwise [val_main_v88, val_main_v87, val_main_v86, val_main_cst_20]
  rw [val_dy, ofBits_half, ← EReal.coe_mul]

end Cert.Proof.LossRef

end
-- ==== Proof.LossKernel.lean ====
module

public import proofs.«01_k».proof.Proof.Gen.LossIdeal.Value
public import proofs.«01_k».proof.Proof.LossRef
public import proofs.«01_k».proof.Proof.Cols
public import Idealize.ShloMosaic.Lib.StableHlo.ReadAt
public import Idealize.ShloMosaic.Lib.Pipeline.ValueKit
public import Idealize.ShloMosaic.Lib.Pipeline.ReadBack
@[expose] public section
/-! # The kernel of the last layer with its loss, read at an element

Eight grid points take 512 tokens each. A point computes the hidden columns of part b in five slabs of 256, keeps both hidden
products and their gated product, adds the part-b product to what part a left, and computes the loss of its tokens and the
gradient of the loss; the loss and the gradient of the gain are summed over the points. -/

set_option maxRecDepth 16384

noncomputable section

namespace Cert.Proof.LossKernel

open Cert.LossIdeal Cert.LossIdeal.Gen Cert.LossIdeal.Value Idealize.ShloMosaic Idealize.ShloMosaic.TcCoe Idealize.SL.Sem
open Cert.Proof.Reals Cert.Proof.Cols
open Cert.Proof.LossRef (Inp)

variable (m : (ℓ : Loc nD τ sig) → Buf (Elt Ideal) ℓ) (c : Dev nD)

/-! ## The slabs of a point -/

/-- A hidden product of a block of tokens: rows against rows of the transposed weight. -/
def hid (x : FVec Ideal S512x1024 .bf16) (w : FVec Ideal S1280x1024 .bf16) : FVec Ideal S512x1280 .bf16 :=
  fun y => ∑ j : Fin 1024, (x (ix2 (y 0) j) * w (ix2 (y 1) j) : EReal)

/-- The gated product of a block of tokens. -/
def act (x : FVec Ideal S512x1024 .bf16) (w u : FVec Ideal S1280x1024 .bf16) : FVec Ideal S512x1280 .bf16 :=
  fun y => hid x w y * Ideal.logistic (hid x w y) * hid x u y

/-- 256 rows of the transposed weight, from row `a`. -/
abbrev rows (w : FVec Ideal S1280x1024 .bf16) (a : Nat) (inb : ∀ i, (![a, 0] : Fin 2 → Nat) i + (![256, 1024] : Fin 2 → Nat) i ≤ S1280x1024.size i) : FVec Ideal S256x1024 .bf16 :=
  View.ld (Val := Elt Ideal) (e' := .bf16) w (Rect.unit (s := S1280x1024) ![a, 0] ![256, 1024] inb)
/-- A point's slabs of one hidden product, as the five stores leave them. -/
abbrev slabsA (x1 : FVec Ideal S512x1024 .bf16) (x2 : FVec Ideal S1280x1024 .bf16) : List (View.Piece (Elt Ideal) S512x1280 .bf16) :=
  [⟨Rect.unit ![0, 1024] ![512, 256] inb_S512x1280_S512x256_0_1024, k0_pay34 (F := Ideal) (k0_pay8 x1) (rows x2 1024 inb_S1280x1024_S256x1024_1024_0)⟩,
    ⟨Rect.unit ![0, 768] ![512, 256] inb_S512x1280_S512x256_0_768, k0_pay29 (F := Ideal) (k0_pay25 (k0_pay8 x1) (rows x2 768 inb_S1280x1024_S256x1024_768_0))⟩,
    ⟨Rect.unit ![0, 512] ![512, 256] inb_S512x1280_S512x256_0_512, k0_pay23 (F := Ideal) (k0_pay8 x1) (rows x2 512 inb_S1280x1024_S256x1024_512_0)⟩,
    ⟨Rect.unit ![0, 256] ![512, 256] inb_S512x1280_S512x256_0_256, k0_pay18 (F := Ideal) (k0_pay14 x1 (rows x2 256 inb_S1280x1024_S256x1024_256_0))⟩,
    ⟨Rect.unit ![0, 0] ![512, 256] inb_S512x1280_S512x256_0_0, k0_pay12 (F := Ideal) x1 (rows x2 0 inb_S1280x1024_S256x1024_0_0)⟩]

abbrev slabsB (x1 : FVec Ideal S512x1024 .bf16) (x3 : FVec Ideal S1280x1024 .bf16) : List (View.Piece (Elt Ideal) S512x1280 .bf16) :=
  [⟨Rect.unit ![0, 1024] ![512, 256] inb_S512x1280_S512x256_0_1024, k0_pay35 (F := Ideal) (k0_pay8 x1) (rows x3 1024 inb_S1280x1024_S256x1024_1024_0)⟩,
    ⟨Rect.unit ![0, 768] ![512, 256] inb_S512x1280_S512x256_0_768, k0_pay30 (F := Ideal) (k0_pay26 (k0_pay8 x1) (rows x3 768 inb_S1280x1024_S256x1024_768_0))⟩,
    ⟨Rect.unit ![0, 512] ![512, 256] inb_S512x1280_S512x256_0_512, k0_pay24 (F := Ideal) (k0_pay8 x1) (rows x3 512 inb_S1280x1024_S256x1024_512_0)⟩,
    ⟨Rect.unit ![0, 256] ![512, 256] inb_S512x1280_S512x256_0_256, k0_pay19 (F := Ideal) (k0_pay15 x1 (rows x3 256 inb_S1280x1024_S256x1024_256_0))⟩,
    ⟨Rect.unit ![0, 0] ![512, 256] inb_S512x1280_S512x256_0_0, k0_pay13 (F := Ideal) x1 (rows x3 0 inb_S1280x1024_S256x1024_0_0)⟩]

abbrev slabsS (x1 : FVec Ideal S512x1024 .bf16) (x2 x3 : FVec Ideal S1280x1024 .bf16) : List (View.Piece (Elt Ideal) S512x1280 .bf16) :=
  [⟨Rect.unit ![0, 1024] ![512, 256] inb_S512x1280_S512x256_0_1024, k0_pay33 (F := Ideal) (k0_pay8 x1) (rows x2 1024 inb_S1280x1024_S256x1024_1024_0) (rows x3 1024 inb_S1280x1024_S256x1024_1024_0)⟩,
    ⟨Rect.unit ![0, 768] ![512, 256] inb_S512x1280_S512x256_0_768, k0_pay28 (F := Ideal) (k0_pay25 (k0_pay8 x1) (rows x2 768 inb_S1280x1024_S256x1024_768_0)) (k0_pay26 (k0_pay8 x1) (rows x3 768 inb_S1280x1024_S256x1024_768_0)) (k0_pay27 (k0_pay8 x1) (rows x2 768 inb_S1280x1024_S256x1024_768_0))⟩,
    ⟨Rect.unit ![0, 512] ![512, 256] inb_S512x1280_S512x256_0_512, k0_pay22 (F := Ideal) (k0_pay8 x1) (rows x2 512 inb_S1280x1024_S256x1024_512_0) (rows x3 512 inb_S1280x1024_S256x1024_512_0)⟩,
    ⟨Rect.unit ![0, 256] ![512, 256] inb_S512x1280_S512x256_0_256, k0_pay17 (F := Ideal) (k0_pay16 x1 (rows x2 256 inb_S1280x1024_S256x1024_256_0) (rows x3 256 inb_S1280x1024_S256x1024_256_0))⟩,
    ⟨Rect.unit ![0, 0] ![512, 256] inb_S512x1280_S512x256_0_0, k0_pay11 (F := Ideal) x1 (rows x2 0 inb_S1280x1024_S256x1024_0_0) (rows x3 0 inb_S1280x1024_S256x1024_0_0)⟩]

/-- A slab's product is the hidden product's columns from `a`. -/
theorem slab_hid (x : FVec Ideal S512x1024 .bf16) (w : FVec Ideal S1280x1024 .bf16) (a inb) (y : S512x1280.Idx) (i : Fin 512) (n : Fin 256)
    (h0 : (y 0).val = i.val) (h1 : (y 1).val = a + n.val) :
    ∑ k : Fin 1024, (x (ix2 i k) * rows w a inb (ix2 n k) : EReal) = hid x w y := by
  obtain rfl : i = y 0 := Fin.ext h0.symm
  refine Finset.sum_congr rfl fun k _ => congrArg (fun v : EReal => x (ix2 (y 0) k) * v) ?_
  refine congrArg w (funext fun b => Fin.ext ?_)
  match b with
  | ⟨0, _⟩ => rw [Rect.idx_unit_val]; exact h1.symm
  | ⟨1, _⟩ => rw [Rect.idx_unit_val]; exact Nat.zero_add _

theorem canon_slabsA (x w) : View.canon (slabsA x w) = hid x w := by
  funext y
  canon_tiles p h using (View.cover_of_tiledL _ ![512, 256] (by rfl) y)
  all_goals
    pointwise [k0_pay8, k0_pay9, k0_pay12, k0_pay14, k0_pay18, k0_pay20, k0_pay23, k0_pay25, k0_pay29, k0_pay31, k0_pay34]
    exact slab_hid x w _ _ y _ _ h0 (by omega)

theorem canon_slabsB (x u) : View.canon (slabsB x u) = hid x u := by
  funext y
  canon_tiles p h using (View.cover_of_tiledL _ ![512, 256] (by rfl) y)
  all_goals
    pointwise [k0_pay8, k0_pay10, k0_pay13, k0_pay15, k0_pay19, k0_pay21, k0_pay24, k0_pay26, k0_pay30, k0_pay32, k0_pay35]
    exact slab_hid x u _ _ y _ _ h0 (by omega)

theorem canon_slabsS (x w u) : View.canon (slabsS x w u) = act x w u := by
  funext y
  canon_tiles p h using (View.cover_of_tiledL _ ![512, 256] (by rfl) y)
  all_goals
    pointwise [k0_pay8, k0_pay9, k0_pay10, k0_pay11, k0_pay14, k0_pay15, k0_pay16, k0_pay17, k0_pay20, k0_pay21, k0_pay22, k0_pay25, k0_pay26,
      k0_pay27, k0_pay28, k0_pay31, k0_pay32, k0_pay33]
    exact congrArg₂ (fun v z : EReal => v * Ideal.logistic v * z) (slab_hid x w _ _ y _ _ h0 (by omega)) (slab_hid x u _ _ y _ _ h0 (by omega))

/-- The point loads the whole gated product back. -/
theorem load_slabsS (x w u) (inb) : (View.whole cc0_scratch0).readCov (slabsS x w u) (Rect.unit ![0, 0] ![512, 1280] inb).toLoadRect = act x w u := by
  rw [View.readCov_eq_canon', canon_slabsS]
  funext y
  refine congrArg (act x w u) (funext fun b => Fin.ext ?_)
  match b with
  | ⟨0, _⟩ => rw [Rect.idx_unit_val]; exact Nat.zero_add _
  | ⟨1, _⟩ => rw [Rect.idx_unit_val]; exact Nat.zero_add _

/-! ## What a point leaves -/

/-- Point `t`'s block of the layer's output, and what the norm's gradient takes of it. -/
abbrev blockAct (t : Fin cfg0.N) : FVec Ideal S512x1280 .bf16 := act (iblk m c 1 t) (iblk m c 2 t) (iblk m c 3 t)
abbrev blockOut (t : Fin cfg0.N) : FVec Ideal S512x1024 .f32 := k0_pay37 (k0_pay36 (iblk m c 0 t)) (blockAct m c t) (iblk m c 4 t)
abbrev blockCot (t : Fin cfg0.N) : FVec Ideal S512x1024 .f32 :=
  k0_pay41 (k0_pay36 (iblk m c 0 t)) (blockAct m c t) (iblk m c 4 t) (iblk m c 5 t) (iblk m c 6 t)
abbrev blockSq (t : Fin cfg0.N) : FVec Ideal S512 .f32 := k0_pay42 (k0_pay36 (iblk m c 0 t)) (blockAct m c t) (iblk m c 4 t)

/-- The sum of the losses after point `t`, from what it held before. -/
abbrev stepLoss (t : Fin cfg0.N) (acc : FVec Ideal S1x128 .f32) : FVec Ideal S1x128 .f32 :=
  k0_pay40 (k0_pay36 (iblk m c 0 t)) (blockAct m c t) (iblk m c 4 t) (iblk m c 5 t) (iblk m c 6 t) acc
abbrev blockDy (t : Fin cfg0.N) : FVec Ideal S512x1024 .f32 :=
  k0_pay3 (blockOut m c t) (k0_pay38 (iblk m c 5 t)) (blockCot m c t) (blockSq m c t)
abbrev blockDf (t : Fin cfg0.N) : FVec Ideal S512x1024 .bf16 :=
  k0_pay4 (blockOut m c t) (k0_pay38 (iblk m c 5 t)) (blockCot m c t) (blockSq m c t)
/-- The gradient of the final gain after point `t`, from what it held before. -/
abbrev stepDg (t : Fin cfg0.N) (acc : FVec Ideal S1x1024 .f32) : FVec Ideal S1x1024 .f32 :=
  k0_pay5 (blockOut m c t) (blockCot m c t) (blockSq m c t) acc

theorem outsA (t : Fin cfg0.N) (h0 : t.val % 8 = 0) :
    outsAt0 m c t.val t.isLt = (hid (iblk m c 1 t) (iblk m c 2 t), hid (iblk m c 1 t) (iblk m c 3 t), stepLoss m c t (k0_pay6 (F := Ideal)),
      blockDy m c t, stepDg m c t (k0_pay7 (F := Ideal)), blockDf m c t) := by
  rw [outsAt0_A m c t h0]
  unfold stepLoss blockDy stepDg blockDf blockOut blockCot blockSq blockAct
  generalize iblk m c 0 t = x0, iblk m c 1 t = x1, iblk m c 2 t = x2, iblk m c 3 t = x3, iblk m c 4 t = x4, iblk m c 5 t = x5,
    iblk m c 6 t = x6
  frame_out
  rw [load_slabsS x1 x2 x3]
  exact congrArg₂ (fun a b => (a, b, _)) (canon_slabsA x1 x2) (canon_slabsB x1 x3)

theorem outsB (t : Fin cfg0.N) (h0 : ¬t.val % 8 = 0) :
    outsAt0 m c t.val t.isLt = (hid (iblk m c 1 t) (iblk m c 2 t), hid (iblk m c 1 t) (iblk m c 3 t),
      stepLoss m c t (outsAt0 m c (t.val - 1) (by have := t.isLt; omega)).2.2.1,
      blockDy m c t, stepDg m c t (outsAt0 m c (t.val - 1) (by have := t.isLt; omega)).2.2.2.2.1, blockDf m c t) := by
  rw [outsAt0_B m c t h0]
  unfold stepLoss blockDy stepDg blockDf blockOut blockCot blockSq blockAct
  generalize iblk m c 0 t = x0, iblk m c 1 t = x1, iblk m c 2 t = x2, iblk m c 3 t = x3, iblk m c 4 t = x4, iblk m c 5 t = x5,
    iblk m c 6 t = x6
  generalize (outsAt0 m c (t.val - 1) _).2.2.1 = x9, (outsAt0 m c (t.val - 1) _).2.2.2.2.1 = x11
  frame_out
  rw [load_slabsS x1 x2 x3]
  exact congrArg₂ (fun a b => (a, b, _)) (canon_slabsA x1 x2) (canon_slabsB x1 x3)

/-! ## The blocks a point stages -/

theorem index_tok : ∀ t : Fin cfg0.N, (win0_0.index t 0 = t.val ∧ win0_0.index t 1 = 0) ∧ (win0_1.index t 0 = t.val ∧ win0_1.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) ∧ (win0_10.index t 0 = t.val ∧ win0_10.index t 1 = 0)
    ∧ (win0_12.index t 0 = t.val ∧ win0_12.index t 1 = 0) :=
  (by decide +kernel : ∀ t : Fin grid0.N, (win0_0.index t 0 = t.val ∧ win0_0.index t 1 = 0) ∧ (win0_1.index t 0 = t.val ∧ win0_1.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) ∧ (win0_10.index t 0 = t.val ∧ win0_10.index t 1 = 0)
    ∧ (win0_12.index t 0 = t.val ∧ win0_12.index t 1 = 0))

theorem index_whole : ∀ t : Fin cfg0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_9.index t 0 = 0 ∧ win0_9.index t 1 = 0) ∧ (win0_11.index t 0 = 0 ∧ win0_11.index t 1 = 0) :=
  (by decide +kernel : ∀ t : Fin grid0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_9.index t 0 = 0 ∧ win0_9.index t 1 = 0) ∧ (win0_11.index t 0 = 0 ∧ win0_11.index t 1 = 0))

/-- The arguments. -/
abbrev argX : S4096x1024.Idx → EReal := m ((c : Thread nD τ).loc main_arg0)
abbrev argG : S1x1024.Idx → EReal := m ((c : Thread nD τ).loc main_arg1)
abbrev argWg : S1x1024x2816.Idx → EReal := m ((c : Thread nD τ).loc main_arg2)
abbrev argWu : S1x1024x2816.Idx → EReal := m ((c : Thread nD τ).loc main_arg3)
abbrev argWd : S1x2816x1024.Idx → EReal := m ((c : Thread nD τ).loc main_arg4)
abbrev argGf : S1024.Idx → EReal := m ((c : Thread nD τ).loc main_arg5)
abbrev argT : S4096x1024.Idx → EReal := m ((c : Thread nD τ).loc main_arg6)

/-- The precondition makes the arguments arrays of reals. -/
structure Args (I : Inp) : Prop where
  x : argX m c = fun i => (I.x i : EReal)
  g : argG m c = fun i => (I.g i : EReal)
  wg : argWg m c = fun i => (I.wg i : EReal)
  wu : argWu m c = fun i => (I.wu i : EReal)
  wd : argWd m c = fun i => (I.wd i : EReal)
  gf : argGf m c = fun i => (I.gf i : EReal)
  tgt : argT m c = fun i => (I.tgt i : EReal)

theorem prep_v41 (k : Fin 1280) (j : Fin 1024) : (V m c main_v41 : S1280x1024.Idx → EReal) (ix2 k j) = argWg m c (ix3 0 j (colB k)) := by
  unfold V; after_reads_at; rfl
theorem prep_v45 (k : Fin 1280) (j : Fin 1024) : (V m c main_v45 : S1280x1024.Idx → EReal) (ix2 k j) = argWu m c (ix3 0 j (colB k)) := by
  unfold V; after_reads_at; rfl
theorem prep_v49 (k : Fin 1280) (j : Fin 1024) : (V m c main_v49 : S1280x1024.Idx → EReal) (ix2 k j) = argWd m c (ix3 0 (colB k) j) := by
  unfold V; after_reads_at; rfl
theorem prep_v51 (j : Fin 1024) : (V m c main_v51 : S1x1024.Idx → EReal) (ix2 0 j) = argGf m c (ix1 j) := by
  unfold V; after_reads_at

/-! Each window's block at an element. -/

theorem blk2 (t : Fin cfg0.N) (k : Fin 1280) (j : Fin 1024) : (iblk m c 2 t : S1280x1024.Idx → EReal) (ix2 k j) = argWg m c (ix3 0 j (colB k)) :=
  (congrArg (V m c main_v41) (idx2_eq _ k j (at_zero (index_whole t).1.1) (at_zero (index_whole t).1.2))).trans (prep_v41 m c _ _)
theorem blk3 (t : Fin cfg0.N) (k : Fin 1280) (j : Fin 1024) : (iblk m c 3 t : S1280x1024.Idx → EReal) (ix2 k j) = argWu m c (ix3 0 j (colB k)) :=
  (congrArg (V m c main_v45) (idx2_eq _ k j (at_zero (index_whole t).2.1.1) (at_zero (index_whole t).2.1.2))).trans (prep_v45 m c _ _)
theorem blk4 (t : Fin cfg0.N) (k : Fin 1280) (j : Fin 1024) : (iblk m c 4 t : S1280x1024.Idx → EReal) (ix2 k j) = argWd m c (ix3 0 (colB k) j) :=
  (congrArg (V m c main_v49) (idx2_eq _ k j (at_zero (index_whole t).2.2.1.1) (at_zero (index_whole t).2.2.1.2))).trans (prep_v49 m c _ _)
theorem blk5 (t : Fin cfg0.N) (j : Fin 1024) : (iblk m c 5 t : S1x1024.Idx → EReal) (ix2 0 j) = argGf m c (ix1 j) :=
  (congrArg (V m c main_v51) (idx2_eq _ 0 j (at_zero (index_whole t).2.2.2.1.1) (at_zero (index_whole t).2.2.2.1.2))).trans (prep_v51 m c _)
theorem blk6 (t : Fin cfg0.N) (i : Fin 512) (j : Fin 1024) : (iblk m c 6 t : S512x1024.Idx → EReal) (ix2 i j) = argT m c (ix2 (tok t i) j) :=
  (congrArg (V m c main_arg6) (idx2_eq _ (tok t i) j (at_blk (index_tok t).2.2.1.1) (at_zero (index_tok t).2.2.1.2))).trans (congrFun (V_main_arg6 m c) _)

variable {m c}
variable {I : Inp} (A : Args m c I)
include A
open Cert.Proof.LossRef

/-- What part a leaves of the layer's output. -/
def outA (I : Inp) (r : Fin 4096) (j : Fin 1024) : ℝ := I.x (ix2 r j) + 1 / 2 * ∑ k, gated I r j (colA k)

omit A in
theorem rsqrt_row (r : Fin 4096) :
    Ideal.rsqrt (((∑ k, I.x (ix2 r k) * I.x (ix2 r k)) / 1024 + eps : ℝ) : EReal) = (scale (row I r) : EReal) := rsqrt_meanSq (row I r)

theorem prep_v50 (r : Fin 4096) (j : Fin 1024) : (V m c main_v50 : S4096x1024.Idx → EReal) (ix2 r j) = (hn I r j : EReal) := by
  unfold V; after_reads_at
  have hx : m (c, Proc.tc.devRef main_arg0) = fun i => (I.x i : EReal) := A.x
  have hg : m (c, Proc.tc.devRef main_arg1) = fun i => (I.g i : EReal) := A.g
  simp only [hx, hg, ← EReal.coe_mul, coe_sum, ofBits_1024, ofBits_eps, div_1024, ← EReal.coe_add]
  rw [rsqrt_row, ← EReal.coe_mul, ← EReal.coe_mul]
  rfl

theorem prep_v37 (r : Fin 4096) (j : Fin 1024) : (V m c main_v37 : S4096x1024.Idx → EReal) (ix2 r j) = (outA I r j : EReal) := by
  unfold V; after_reads_at
  have hx : m (c, Proc.tc.devRef main_arg0) = fun i => (I.x i : EReal) := A.x
  have hg : m (c, Proc.tc.devRef main_arg1) = fun i => (I.g i : EReal) := A.g
  have hwg : m (c, Proc.tc.devRef main_arg2) = fun i => (I.wg i : EReal) := A.wg
  have hwu : m (c, Proc.tc.devRef main_arg3) = fun i => (I.wu i : EReal) := A.wu
  have hwd : m (c, Proc.tc.devRef main_arg4) = fun i => (I.wd i : EReal) := A.wd
  simp only [hx, hg, hwg, hwu, hwd, ← EReal.coe_mul, coe_sum, ofBits_1024, ofBits_eps, ofBits_half, div_1024, ← EReal.coe_add]
  simp only [rsqrt_row, ← EReal.coe_mul, coe_sum, ← EReal.coe_neg, Ideal.exp_coe, ← EReal.coe_one, ← EReal.coe_add, one_div_real (add_pos one_pos (Real.exp_pos _))]
  rfl

theorem blk0 (t : Fin cfg0.N) (i : Fin 512) (j : Fin 1024) : (iblk m c 0 t : S512x1024.Idx → EReal) (ix2 i j) = (outA I (tok t i) j : EReal) :=
  (congrArg (V m c main_v37) (idx2_eq _ (tok t i) j (at_blk (index_tok t).1.1) (at_zero (index_tok t).1.2))).trans (prep_v37 A _ _)
theorem blk1 (t : Fin cfg0.N) (i : Fin 512) (j : Fin 1024) : (iblk m c 1 t : S512x1024.Idx → EReal) (ix2 i j) = (hn I (tok t i) j : EReal) :=
  (congrArg (V m c main_v50) (idx2_eq _ (tok t i) j (at_blk (index_tok t).2.1.1) (at_zero (index_tok t).2.1.2))).trans (prep_v50 A _ _)

/-! ## A point's values at arrays of reals -/

omit A in
theorem hid_apply (x : FVec Ideal S512x1024 .bf16) (w : FVec Ideal S1280x1024 .bf16) (i : Fin 512) (k : Fin 1280) :
    hid x w (ix2 i k) = ∑ j : Fin 1024, (x (ix2 i j) * w (ix2 k j) : EReal) := rfl

theorem hidA_at (t : Fin cfg0.N) (i : Fin 512) (k : Fin 1280) :
    hid (iblk m c 1 t) (iblk m c 2 t) (ix2 i k) = (hidA I (tok t i) (colB k) : EReal) := by
  rw [hid_apply]
  simp only [blk1 A, blk2, A.wg, ← EReal.coe_mul, coe_sum]
  rfl

theorem hidB_at (t : Fin cfg0.N) (i : Fin 512) (k : Fin 1280) :
    hid (iblk m c 1 t) (iblk m c 3 t) (ix2 i k) = (hidB I (tok t i) (colB k) : EReal) := by
  rw [hid_apply]
  simp only [blk1 A, blk3, A.wu, ← EReal.coe_mul, coe_sum]
  rfl

theorem act_at (t : Fin cfg0.N) (i : Fin 512) (k : Fin 1280) :
    blockAct m c t (ix2 i k) = ((hidA I (tok t i) (colB k) * (1 + Real.exp (-hidA I (tok t i) (colB k)))⁻¹ * hidB I (tok t i) (colB k) : ℝ) : EReal) := by
  unfold blockAct act
  rw [hidA_at A, hidB_at A, Ideal.logistic_coe, ← EReal.coe_mul, ← EReal.coe_mul]

theorem out_at (t : Fin cfg0.N) (i : Fin 512) (j : Fin 1024) : blockOut m c t (ix2 i j) = (out I (tok t i) j : EReal) := by
  pointwise [k0_pay37, k0_pay36]
  simp only [blk0 A, blk4, act_at A, A.wd, ofBits_half, ← EReal.coe_mul, coe_sum, ← EReal.coe_add]
  rw [EReal.coe_eq_coe_iff, out, outA, sum_parts]
  simp only [gated]
  ring

theorem scale_at (t : Fin cfg0.N) (i : Fin 512) : k0_pay1 (F := Ideal) (blockSq m c t) (ix2 i 0) = (scale (out I (tok t i)) : EReal) := by
  pointwise [k0_pay1, k0_pay42]
  simp only [out_at A, ← EReal.coe_mul, coe_sum, ofBits_1024, ofBits_eps, div_1024, ← EReal.coe_add]
  exact rsqrt_meanSq (out I (tok t i))

omit A in
theorem rsqrt_out (r : Fin 4096) :
    Ideal.rsqrt (((∑ k, out I r k * out I r k) / 1024 + eps : ℝ) : EReal) = (scale (out I r) : EReal) := rsqrt_meanSq (out I r)

theorem err_at (t : Fin cfg0.N) (i : Fin 512) (j : Fin 1024) :
    k0_pay39 (k0_pay36 (iblk m c 0 t)) (blockAct m c t) (iblk m c 4 t) (iblk m c 5 t) (iblk m c 6 t) (ix2 i j) = (err I (tok t i) j : EReal) := by
  pointwise [k0_pay39, k0_pay38]
  simp only [out_at A, blk5, blk6, A.gf, A.tgt, ← EReal.coe_mul, coe_sum, ofBits_1024, ofBits_eps, div_1024, ← EReal.coe_add]
  rw [rsqrt_out, ← EReal.coe_mul, ← EReal.coe_mul, ← EReal.coe_sub]
  rfl

omit A in
theorem ofBits_inv_1024 : Ideal.ofBits FTy.f32 0x3A800000#32 = ((1 / 1024 : ℝ) : EReal) := by
  simp [Ideal.ofBits, Ideal.ieee, -EReal.coe_mul]; norm_num

theorem cot_at (t : Fin cfg0.N) (i : Fin 512) (j : Fin 1024) : blockCot m c t (ix2 i j) = ((err I (tok t i) j / 1024 : ℝ) : EReal) := by
  pointwise [k0_pay41]
  rw [err_at A, ofBits_inv_1024, ← EReal.coe_mul, mul_one_div]

theorem dy_at (t : Fin cfg0.N) (i : Fin 512) (j : Fin 1024) : blockDy m c t (ix2 i j) = (dyReal I (tok t i) j : EReal) := by
  pointwise [k0_pay3, k0_pay2, k0_pay38]
  simp only [blk5, scale_at A, cot_at A, out_at A, A.gf, ← EReal.coe_mul, coe_sum, ofBits_1024, div_1024, ← EReal.coe_sub]
  rfl

theorem df_at (t : Fin cfg0.N) (i : Fin 512) (j : Fin 1024) : blockDf m c t (ix2 i j) = ((1 / 2 * dyReal I (tok t i) j : ℝ) : EReal) := by
  pointwise [k0_pay4]
  refine (congrArg (fun v : EReal => _ * v) (dy_at A t i j)).trans ?_
  rw [ofBits_half, ← EReal.coe_mul]

/-- Tile `t`'s part of the loss, and of the gradient of the final gain. -/
def lossPart (I : Inp) (t : Fin 8) : ℝ := 1 / 2 * ∑ i, mse I (tok t i)
def dgPart (I : Inp) (j : Fin 1024) (t : Fin 8) : ℝ := ∑ i, err I (tok t i) j / 1024 * (out I (tok t i) j * scale (out I (tok t i)))

theorem loss_at (t : Fin cfg0.N) (acc : FVec Ideal S1x128 .f32) (l : Fin 128) :
    stepLoss m c t acc (ix2 0 l) = acc (ix2 0 l) + (lossPart I t : EReal) := by
  pointwise [k0_pay40]
  simp only [err_at A, ofBits_half, ofBits_1024, div_1024, ← EReal.coe_mul, coe_sum]
  rfl

theorem dg_at (t : Fin cfg0.N) (acc : FVec Ideal S1x1024 .f32) (j : Fin 1024) :
    stepDg m c t acc (ix2 0 j) = acc (ix2 0 j) + (dgPart I j t : EReal) := by
  pointwise [k0_pay5, k0_pay2]
  simp only [cot_at A, out_at A, scale_at A, ← EReal.coe_mul, coe_sum]
  rfl

/-! ## The final arrays -/

omit A in
/-- What every point leaves of its block outputs. -/
theorem outs_blocks (t : Fin cfg0.N) : (outsAt0 m c t.val t.isLt).1 = hid (iblk m c 1 t) (iblk m c 2 t)
    ∧ (outsAt0 m c t.val t.isLt).2.1 = hid (iblk m c 1 t) (iblk m c 3 t)
    ∧ (outsAt0 m c t.val t.isLt).2.2.2.1 = blockDy m c t ∧ (outsAt0 m c t.val t.isLt).2.2.2.2.2 = blockDf m c t := by
  by_cases h : t.val % 8 = 0
  · rw [outsA m c t h]; exact ⟨rfl, rfl, rfl, rfl⟩
  · rw [outsB m c t h]; exact ⟨rfl, rfl, rfl, rfl⟩

omit A in
/-- A sum over the tiles up to `n + 1` is the sum up to `n` and tile `n + 1`. -/
theorem sum_le_succ (f : Fin 8 → ℝ) (n : Nat) (hn : n + 1 < 8) :
    ((∑ t : Fin 8 with t.val ≤ n + 1, f t : ℝ) : EReal) = ((∑ t : Fin 8 with t.val ≤ n, f t : ℝ) : EReal) + (f ⟨n + 1, hn⟩ : EReal) := by
  have hs : (Finset.univ.filter fun t : Fin 8 => t.val ≤ n + 1) = insert ⟨n + 1, hn⟩ (Finset.univ.filter fun t : Fin 8 => t.val ≤ n) := by
    ext t; simp only [Finset.mem_filter, Finset.mem_univ, true_and, Finset.mem_insert, Fin.ext_iff]; omega
  rw [hs, Finset.sum_insert (by simp), ← EReal.coe_add, add_comm]

omit A in
theorem sum_le_zero (f : Fin 8 → ℝ) : ((∑ t : Fin 8 with t.val ≤ 0, f t : ℝ) : EReal) = (f 0 : EReal) := by
  rw [show (Finset.univ.filter fun t : Fin 8 => t.val ≤ 0) = {0} by decide, Finset.sum_singleton]

omit A in
theorem sum_le_last (f : Fin 8 → ℝ) (n : Nat) (hn : n = 7) : (∑ t : Fin 8 with t.val ≤ n, f t) = ∑ t, f t := by
  subst hn
  rw [show (Finset.univ.filter fun t : Fin 8 => t.val ≤ 7) = Finset.univ by decide]

/-- The loss after point `n` is the sum of the parts of the tiles up to `n`. -/
theorem outs_loss (l : Fin 128) : ∀ (n : Nat) (hn : n < cfg0.N), (outsAt0 m c n hn).2.2.1 (ix2 0 l)
    = ((∑ t : Fin 8 with t.val ≤ n, lossPart I t : ℝ) : EReal)
  | 0, hn => by
    rw [show outsAt0 m c 0 hn = _ from outsA m c ⟨0, hn⟩ rfl]
    refine (loss_at A ⟨0, hn⟩ _ l).trans ?_
    rw [show (k0_pay6 (F := Ideal)) (ix2 0 l) = 0 by pointwise [k0_pay6], zero_add, sum_le_zero]
    rfl
  | n + 1, hn => by
    rw [show outsAt0 m c (n + 1) hn = _ from outsB m c ⟨n + 1, hn⟩ (by have h8 : n + 1 < 8 := hn; show ¬(n + 1) % 8 = 0; omega)]
    refine (loss_at A ⟨n + 1, hn⟩ _ l).trans ?_
    rw [sum_le_succ _ n hn]
    exact congrArg (fun v : EReal => v + _) (outs_loss l n (by omega))

/-- The gain's gradient likewise. -/
theorem outs_dg (j : Fin 1024) : ∀ (n : Nat) (hn : n < cfg0.N), (outsAt0 m c n hn).2.2.2.2.1 (ix2 0 j)
    = ((∑ t : Fin 8 with t.val ≤ n, dgPart I j t : ℝ) : EReal)
  | 0, hn => by
    rw [show outsAt0 m c 0 hn = _ from outsA m c ⟨0, hn⟩ rfl]
    refine (dg_at A ⟨0, hn⟩ _ j).trans ?_
    rw [show (k0_pay7 (F := Ideal)) (ix2 0 j) = 0 by pointwise [k0_pay7], zero_add, sum_le_zero]
    rfl
  | n + 1, hn => by
    rw [show outsAt0 m c (n + 1) hn = _ from outsB m c ⟨n + 1, hn⟩ (by have h8 : n + 1 < 8 := hn; show ¬(n + 1) % 8 = 0; omega)]
    refine (dg_at A ⟨n + 1, hn⟩ _ j).trans ?_
    rw [sum_le_succ _ n hn]
    exact congrArg (fun v : EReal => v + _) (outs_dg j n (by omega))

/-- The six results, as arrays. -/
def arrA (I : Inp) : S4096x1280.Idx → EReal := fun i => (hidA I (i 0) (colB (i 1)) : EReal)
def arrB (I : Inp) : S4096x1280.Idx → EReal := fun i => (hidB I (i 0) (colB (i 1)) : EReal)
def arrLoss (I : Inp) : S1x128.Idx → EReal := fun _ => (lossReal I : EReal)
def arrDy (I : Inp) : S4096x1024.Idx → EReal := fun i => (dyReal I (i 0) (i 1) : EReal)
def arrDg (I : Inp) : S1x1024.Idx → EReal := fun i => (dgReal I (i 1) : EReal)
def arrDf (I : Inp) : S4096x1024.Idx → EReal := fun i => ((1 / 2 * dyReal I (i 0) (i 1) : ℝ) : EReal)

theorem final_a : (dats m 0 c).arrAt 7 cfg0.N = arrA I := by
  refine (dats m 0 c).arrAt_eq_of_covers 7 _ (by decide +kernel) fun t hf (y : S512x1280.Idx) => ?_
  blk_simp
  rw [after0_7, (outs_blocks t).1]
  obtain ⟨i, k, rfl⟩ : ∃ (i : Fin 512) (k : Fin 1280), y = ix2 i k := ⟨y 0, y 1, idx2_eq _ _ _ rfl rfl⟩
  exact (hidA_at A t i k).trans (congrArg (arrA I) (idx2_eq _ (tok t i) k (at_blk (index_tok t).2.2.2.1.1) (at_zero (index_tok t).2.2.2.1.2))).symm

theorem final_b : (dats m 0 c).arrAt 8 cfg0.N = arrB I := by
  refine (dats m 0 c).arrAt_eq_of_covers 8 _ (by decide +kernel) fun t hf (y : S512x1280.Idx) => ?_
  blk_simp
  rw [after0_8, (outs_blocks t).2.1]
  obtain ⟨i, k, rfl⟩ : ∃ (i : Fin 512) (k : Fin 1280), y = ix2 i k := ⟨y 0, y 1, idx2_eq _ _ _ rfl rfl⟩
  exact (hidB_at A t i k).trans (congrArg (arrB I) (idx2_eq _ (tok t i) k (at_blk (index_tok t).2.2.2.2.1.1) (at_zero (index_tok t).2.2.2.2.1.2))).symm

theorem final_dy : (dats m 0 c).arrAt 10 cfg0.N = arrDy I := by
  refine (dats m 0 c).arrAt_eq_of_covers 10 _ (by decide +kernel) fun t hf (y : S512x1024.Idx) => ?_
  blk_simp
  rw [after0_10, (outs_blocks t).2.2.1]
  obtain ⟨i, j, rfl⟩ : ∃ (i : Fin 512) (j : Fin 1024), y = ix2 i j := ⟨y 0, y 1, idx2_eq _ _ _ rfl rfl⟩
  exact (dy_at A t i j).trans (congrArg (arrDy I) (idx2_eq _ (tok t i) j (at_blk (index_tok t).2.2.2.2.2.1.1) (at_zero (index_tok t).2.2.2.2.2.1.2))).symm

theorem final_df : (dats m 0 c).arrAt 12 cfg0.N = arrDf I := by
  refine (dats m 0 c).arrAt_eq_of_covers 12 _ (by decide +kernel) fun t hf (y : S512x1024.Idx) => ?_
  blk_simp
  rw [after0_12, (outs_blocks t).2.2.2]
  obtain ⟨i, j, rfl⟩ : ∃ (i : Fin 512) (j : Fin 1024), y = ix2 i j := ⟨y 0, y 1, idx2_eq _ _ _ rfl rfl⟩
  exact (df_at A t i j).trans (congrArg (arrDf I) (idx2_eq _ (tok t i) j (at_blk (index_tok t).2.2.2.2.2.2.1) (at_zero (index_tok t).2.2.2.2.2.2.2))).symm

theorem final_loss : (dats m 0 c).arrAt 9 cfg0.N = arrLoss I := by
  refine (dats m 0 c).arrAt_eq_of_covers 9 _ (by decide +kernel) fun t hf (y : S1x128.Idx) => ?_
  have h7 : t.val = 7 := by have := (flush0_9 t).mp hf; have := t.isLt; have h : cfg0.N = 8 := N_0; omega
  blk_simp
  rw [after0_9]
  obtain ⟨i, l, rfl⟩ : ∃ (i : Fin 1) (l : Fin 128), y = ix2 i l := ⟨y 0, y 1, idx2_eq _ _ _ rfl rfl⟩
  obtain rfl : i = 0 := Subsingleton.elim _ _
  refine (outs_loss A l t.val t.isLt).trans ?_
  rw [sum_le_last _ _ h7]
  show _ = ((lossReal I : ℝ) : EReal)
  rw [lossReal, sum_tok, Finset.mul_sum]
  rfl

theorem final_dg : (dats m 0 c).arrAt 11 cfg0.N = arrDg I := by
  refine (dats m 0 c).arrAt_eq_of_covers 11 _ (by decide +kernel) fun t hf (y : S1x1024.Idx) => ?_
  have h7 : t.val = 7 := by have := (flush0_11 t).mp hf; have := t.isLt; have h : cfg0.N = 8 := N_0; omega
  blk_simp
  rw [after0_11]
  obtain ⟨i, j, rfl⟩ : ∃ (i : Fin 1) (j : Fin 1024), y = ix2 i j := ⟨y 0, y 1, idx2_eq _ _ _ rfl rfl⟩
  obtain rfl : i = 0 := Subsingleton.elim _ _
  refine (outs_dg A j t.val t.isLt).trans ?_
  refine Eq.trans ?_ (congrArg (arrDg I) (idx2_eq _ 0 j (at_zero (index_whole t).2.2.2.2.2.1) (at_zero (index_whole t).2.2.2.2.2.2))).symm
  rw [sum_le_last _ _ h7]
  show _ = ((dgReal I j : ℝ) : EReal)
  rw [dgReal, sum_tok]
  rfl

end Cert.Proof.LossKernel

end
-- ==== Proof.LossClaim.lean ====
module

public import proofs.«01_k».proof.Defs
public import proofs.«01_k».proof.Proof.Gen.Loss.Frame
public import proofs.«01_k».proof.Proof.Gen.LossRefIdeal.Run
public import proofs.«01_k».proof.Proof.Gen.Pre_finite_loss
public import proofs.«01_k».proof.Proof.LossKernel
public import Idealize.ShloMosaic.Adequacy
@[expose] public section
/-! # The claims of the last layer with its loss

From arrays of finite numbers the kernel and the forward lines with their derivative end with the same six results: both are
`LossKernel`'s `arrA`, `arrB`, `arrLoss`, `arrDy`, `arrDg` and `arrDf`. -/

noncomputable section

namespace Cert.Proof.LossClaim

open Idealize.ShloMosaic Idealize.ShloMosaic.TcCoe Idealize.SL.Sem Cert.Proof.Reals Cert.Proof.LossKernel
open Cert.Proof.LossRef (Inp)

variable (m : (ℓ : Loc Cert.LossIdeal.nD Cert.LossIdeal.τ Cert.LossIdeal.sig) → Buf (Elt Ideal) ℓ)

/-- The precondition says that the arguments are arrays of reals. -/
theorem args_of_pre (h : Cert.Pre_LossIdeal_finite_loss m) (c : Dev Cert.LossIdeal.nD) : ∃ I : Inp, Args m c I := by
  have e := congrFun (h c) (fun a => a.elim0)
  dsimp only [Cert.Pre_finite_loss.fn, Cert.Pre_finite_loss.fn_part1] at e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  obtain ⟨x, hx⟩ := reals_of_all _ _ (fun _ => rfl) _ _ _ _ h0
  obtain ⟨g, hg⟩ := reals_of_all _ _ (fun _ => rfl) _ _ _ _ h1
  obtain ⟨wg, hwg⟩ := reals_of_all _ _ (fun _ => rfl) _ _ _ _ h2
  obtain ⟨wu, hwu⟩ := reals_of_all _ _ (fun _ => rfl) _ _ _ _ h3
  obtain ⟨wd, hwd⟩ := reals_of_all _ _ (fun _ => rfl) _ _ _ _ h4
  obtain ⟨gf, hgf⟩ := reals_of_all _ _ (fun _ => rfl) _ _ _ _ h5
  obtain ⟨tgt, htgt⟩ := reals_of_all _ _ (fun _ => rfl) _ _ _ _ h6
  exact ⟨⟨x, g, wg, wu, wd, gf, tgt⟩, hx, hg, hwg, hwu, hwd, hgf, htgt⟩

theorem frame_ref : Cert.quiescent_LossRefIdeal := fun m ρ _ =>
  (θ_run Cert.LossRefIdeal.defs _ _).mono (fun r h => ⟨fun c => (h c).2.2.2.2.2.2, sem_eq_zero_of_no_sems (by decide) r.2⟩)
    (Cert.LossRefIdeal.Value.run (F := Ideal) m ρ)

set_option maxHeartbeats 2000000 in
theorem algebraic : Cert.algebraic_LossIdeal_LossRefIdeal_pre_finite_loss := by
  intro m ρ m' ρ' hpre hag
  choose I A using args_of_pre m hpre
  refine ⟨fun c => arrA (I c), fun c => arrB (I c), fun c => arrLoss (I c), fun c => arrDy (I c), fun c => arrDg (I c), fun c => arrDf (I c), ?_, ?_⟩
  · refine (θ_run _ _ _).mono (fun r h c => ?_) (Cert.LossIdeal.Value.run_blocks (F := Ideal) m ρ)
    obtain ⟨r0, r1, r2, r3, r4, r5, hk⟩ := h c
    exact ⟨r0.trans (final_a (A c)), r1.trans (final_b (A c)), r2.trans (final_loss (A c)), r3.trans (final_dy (A c)),
      r4.trans (final_dg (A c)), r5.trans (final_df (A c)), hk⟩
  · refine (θ_run _ _ _).mono (fun r h c => ?_) (Cert.LossRefIdeal.Value.run (F := Ideal) m' ρ')
    obtain ⟨e0, e1, e2, e3, e4, e5, e6⟩ := hag c
    obtain ⟨r0, r1, r2, r3, r4, r5, hk⟩ := h c
    have hx := (A c).x; have hg := (A c).g; have hwg := (A c).wg; have hwu := (A c).wu; have hwd := (A c).wd; have hgf := (A c).gf
    have ht := (A c).tgt
    dsimp only [argX, argG, argWg, argWu, argWd, argGf, argT] at hx hg hwg hwu hwd hgf ht
    refine ⟨r0.trans ?_, r1.trans ?_, r2.trans ?_, r3.trans ?_, r4.trans ?_, r5.trans ?_, hk⟩
    · rw [Cert.LossRefIdeal.Read.val_main_v79_eq, e0, e1, e2, hx, hg, hwg]
      funext i
      obtain ⟨r, k, rfl⟩ : ∃ (r : Fin 4096) (k : Fin 1280), i = ix2 r k := ⟨i 0, i 1, eq_ix2 i⟩
      exact Cert.Proof.LossRef.val_resA (I c) r k
    · rw [Cert.LossRefIdeal.Read.val_main_v83_eq, e0, e1, e3, hx, hg, hwu]
      funext i
      obtain ⟨r, k, rfl⟩ : ∃ (r : Fin 4096) (k : Fin 1280), i = ix2 r k := ⟨i 0, i 1, eq_ix2 i⟩
      exact Cert.Proof.LossRef.val_resB (I c) r k
    · rw [Cert.LossRefIdeal.Read.val_main_v84_eq, e0, e1, e2, e3, e4, e5, e6, hx, hg, hwg, hwu, hwd, hgf, ht]
      funext i
      obtain ⟨r, k, rfl⟩ : ∃ (r : Fin 1) (k : Fin 128), i = ix2 r k := ⟨i 0, i 1, eq_ix2 i⟩
      obtain rfl : r = 0 := Subsingleton.elim _ _
      exact Cert.Proof.LossRef.val_loss (I c) k
    · rw [Cert.LossRefIdeal.Read.val_main_v75_eq, e0, e1, e2, e3, e4, e5, e6, hx, hg, hwg, hwu, hwd, hgf, ht]
      funext i
      obtain ⟨r, k, rfl⟩ : ∃ (r : Fin 4096) (k : Fin 1024), i = ix2 r k := ⟨i 0, i 1, eq_ix2 i⟩
      exact Cert.Proof.LossRef.val_dy (I c) r k
    · rw [Cert.LossRefIdeal.Read.val_main_v85_eq, e0, e1, e2, e3, e4, e5, e6, hx, hg, hwg, hwu, hwd, hgf, ht]
      funext i
      obtain ⟨r, k, rfl⟩ : ∃ (r : Fin 1) (k : Fin 1024), i = ix2 r k := ⟨i 0, i 1, eq_ix2 i⟩
      obtain rfl : r = 0 := Subsingleton.elim _ _
      exact Cert.Proof.LossRef.val_dg (I c) k
    · rw [Cert.LossRefIdeal.Read.val_main_v88_eq, e0, e1, e2, e3, e4, e5, e6, hx, hg, hwg, hwu, hwd, hgf, ht]
      funext i
      obtain ⟨r, k, rfl⟩ : ∃ (r : Fin 4096) (k : Fin 1024), i = ix2 r k := ⟨i 0, i 1, eq_ix2 i⟩
      exact Cert.Proof.LossRef.val_df (I c) r k

end Cert.Proof.LossClaim

end
-- ==== Proof.BwdwSetup.lean ====
module

public import proofs.«01_k».proof.Proof.Gen.BwdwIdeal.Frame
public import proofs.«01_k».proof.Proof.Gen.BwdwIdeal.Skeleton
public import proofs.«01_k».proof.Proof.Gen.BwdwIdeal.Points
public import Idealize.ShloMosaic.Lib.Ring
public import Idealize.ShloMosaic.Lib.WordCmp

@[expose] public section

set_option maxRecDepth 16384

noncomputable section

namespace BwdwFrame

open Cert.BwdwIdeal Cert.BwdwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's branch conditions -/

/-- The point is the first. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    have e1 : (grid0.coords t 1).val = t.val / 1 % 1 := Pipeline.Grid.coords_val t 1 (by decide) rfl
    simp only [cond0_0, e0, e1]
    word_cmp
   : ∀ t : Fin grid0.N, cond0_0 (grid0.coords t) ↔ t.val % 6 = 0)

/-- The point is in the grid's only row. -/
abbrev cond0_1 (i : grid0.Coords) : Prop := (Scalar.cmpi .ne (Scalar.extui (Scalar.cmpi .eq (BitVec.ofNat 32 (i 1).val) 0#32)) 0#32) = 1#1
/-- It holds at every point — by arithmetic of the point. -/
theorem hcond0_1 : ∀ t : Fin cfg0.N, cond0_1 (grid0.coords t) :=
  (fun t => by
    have ht : t.val < 6 := Nat.lt_of_lt_of_eq t.isLt N_0
    have e0 : (grid0.coords t 0).val = t.val / 1 % 6 := Pipeline.Grid.coords_val t 0 (by decide) rfl
    have e1 : (grid0.coords t 1).val = t.val / 1 % 1 := Pipeline.Grid.coords_val t 1 (by decide) rfl
    simp only [cond0_1, e0, e1]
    word_cmp
   : ∀ t : Fin grid0.N, cond0_1 (grid0.coords t))

/-- The point ends its block. -/
abbrev cond0_2 (i : grid0.Coords) : Prop := k0_cond5 i = 1#1
/-- It holds at every point — by arithmetic of the point. -/
theorem hcond0_2 : ∀ t : Fin cfg0.N, cond0_2 (grid0.coords t) :=
  (fun t => by
    have ht : t.val < 6 := Nat.lt_of_lt_of_eq t.isLt N_0
    have e0 : (grid0.coords t 0).val = t.val / 1 % 6 := Pipeline.Grid.coords_val t 0 (by decide) rfl
    have e1 : (grid0.coords t 1).val = t.val / 1 % 1 := Pipeline.Grid.coords_val t 1 (by decide) rfl
    simp only [cond0_2, k0_cond5, e0, e1]
    word_cmp
   : ∀ t : Fin grid0.N, cond0_2 (grid0.coords t))

/-- No window is idle at any point. -/
theorem liveAt : ∀ (w : Fin cfg0.W) (t : Fin cfg0.N), cfg0.idle w (grid0.coords t) = false := by decide +kernel

/-! ## The buffers -/

/-! A buffer of each output, through which its contents are stated (any one would do). -/

abbrev VO0_3 : View sig .tc .vmem S4096x256 .bf16 := (Memref.whole cc0_stg3_0 : Memref sig .tc .vmem S4096x256 .bf16).view
abbrev VO0_4 : View sig .tc .vmem S4096x256 .bf16 := (Memref.whole cc0_stg4_0 : Memref sig .tc .vmem S4096x256 .bf16).view
abbrev VO0_5 : View sig .tc .vmem S256x1024 .bf16 := (Memref.whole cc0_stg5_0 : Memref sig .tc .vmem S256x1024 .bf16).view
abbrev VO0_6 : View sig .tc .vmem S256x1024 .bf16 := (Memref.whole cc0_stg6_0 : Memref sig .tc .vmem S256x1024 .bf16).view
abbrev VO0_7 : View sig .tc .vmem S256x1024 .bf16 := (Memref.whole cc0_stg7_0 : Memref sig .tc .vmem S256x1024 .bf16).view
/-! Each window's buffer at point `t`, and that it is whole. -/

abbrev ms0_0 (t : Fin cfg0.N) : Memref sig .tc .vmem S4096x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .bf16 := win0_7.stage (cfg0.slots t 7)
abbrev hs0_7 (t : Fin cfg0.N) : (ms0_7 t).IsWhole := hstage0_7 ((cfg0.slots t 7).cast nbuf0_7)
/-! The kernel's scratch buffers. -/

abbrev scM0_0 : Memref sig .tc .vmem S4096x256 .bf16 := Memref.whole cc0_scratch0
abbrev scM0_1 : Memref sig .tc .vmem S256x1024 .f32 := Memref.whole cc0_scratch1
abbrev scM0_2 : Memref sig .tc .vmem S256x1024 .f32 := Memref.whole cc0_scratch2
abbrev scM0_3 : Memref sig .tc .vmem S256x1024 .f32 := Memref.whole cc0_scratch3
abbrev scM0_4 : Memref sig .tc .vmem S4096x1024 .bf16 := Memref.whole cc0_scratch4
abbrev scM0_5 : Memref sig .tc .vmem S4096x1024 .bf16 := Memref.whole cc0_scratch5
/-- The copied operand the kernel keeps between points (`arg16`). -/
abbrev VS0_4 : View sig .tc .vmem S4096x1024 .bf16 := scM0_4.view
/-- The copied operand the kernel keeps between points (`arg17`). -/
abbrev VS0_5 : View sig .tc .vmem S4096x1024 .bf16 := scM0_5.view
/-! The operands left in HBM that the body copies itself. -/

abbrev hbM0_0 : Memref sig .tc .hbm S4096x1024 .bf16 := Memref.whole main_v34
abbrev hbM0_1 : Memref sig .tc .hbm S4096x1024 .bf16 := Memref.whole main_v37
/-- The contents of `M`'s buffer on core `c`, and that buffer held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own four DMA semaphores. -/
abbrev osem0 : Fin 4 → SemLoc sig := fun j => (![SemLoc.dma 16, SemLoc.dma 17, SemLoc.dma 18, SemLoc.dma 19] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) := by
  rw [Pipeline.ownSems0_eq_of_list c osem0 [0, 1, 2, 3] (by decide) (by decide)]; rfl
/-- The operands left in HBM; none is a window's array. -/
def H0 : Finset (Ref sig .tc) := {main_v34, main_v37}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v34) ∗ hbPt0 c hbM0_1 (V m c main_v37)) := by
  rw [BI.bigSep_eq_bigSepL_of_eq [main_v34, main_v37] (by decide) (by decide)]; rfl

/-- The launch's invariant part by part: scratch at anything, the random register, the body's semaphores at zero, the operands in HBM. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) ∗ iprop(hbPt0 c hbM0_0 (V m c main_v34) ∗ hbPt0 c hbM0_1 (V m c main_v37))) := by
  rw [Pipeline.ΦD_eq, scopedRest0_eq, ownSems00_eq, hbmPts0_eq]; simp only [scM0_0, scM0_1, scM0_2, scM0_3, scM0_4, scM0_5, owns_whole]; try rfl

end BwdwFrame

end

end
-- ==== Proof.BwdwRunA.lean ====
module

public import proofs.«01_k».proof.Proof.BwdwSetup

@[expose] public section

set_option maxRecDepth 16384

noncomputable section

namespace BwdwFrame

open Cert.BwdwIdeal Cert.BwdwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.dmaWindow true in
set_option sl_exec.dmaWindowSet true in
set_option maxHeartbeats 4000000 in
/-- The body at the first point, on any whole buffers: from the inputs at `x0`, `x1`, `x2`, every other buffer at anything, the
    operands in HBM at `fh0`, `fh1` and the four semaphores at zero, it runs to the inputs, operands and semaphores unchanged and
    every buffer it stores into with these pieces written (outputs `L·`, copied operands `LS·`, other scratch `LT·`). -/
noncomputable def kernelRun0_A (c : Dev nD) (i : grid0.Coords) (arg3 : Memref sig .tc .vmem S4096x256 .bf16) (harg3 : arg3.IsWhole) (arg4 : Memref sig .tc .vmem S4096x256 .bf16) (harg4 : arg4.IsWhole) (arg6 : Memref sig .tc .vmem S256x1024 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S4096x256 .bf16) (harg12 : arg12.IsWhole) (arg13 : Memref sig .tc .vmem S256x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S4096x1024 .bf16) (harg16 : arg16.IsWhole) (arg17 : Memref sig .tc .vmem S4096x1024 .bf16) (harg17 : arg17.IsWhole) (hc0 : cond0_0 i) (hc1 : cond0_1 i) (hc2 : cond0_2 i)
    (x0 : Vec F S4096x256 .bf16) (x1 : Vec F S4096x256 .bf16) (x2 : Vec F S256x1024 .bf16) (fh0 : HbBuf0 (F := F) c hbM0_0) (fh1 : HbBuf0 (F := F) c hbM0_1) :
    Σ' (L3 : List (View.Piece (Elt F) S4096x256 .bf16)), Σ' (L4 : List (View.Piece (Elt F) S4096x256 .bf16)), Σ' (L5 : List (View.Piece (Elt F) S256x1024 .bf16)), Σ' (L6 : List (View.Piece (Elt F) S256x1024 .bf16)), Σ' (L7 : List (View.Piece (Elt F) S256x1024 .bf16)), Σ' (LS4 : List (View.Piece (Elt F) S4096x1024 .bf16)), Σ' (LS5 : List (View.Piece (Elt F) S4096x1024 .bf16)), Σ' (LT0 : List (View.Piece (Elt F) S4096x256 .bf16)), Σ' (LT1 : List (View.Piece (Elt F) S256x1024 .f32)), Σ' (LT2 : List (View.Piece (Elt F) S256x1024 .f32)), { LT3 : List (View.Piece (Elt F) S256x1024 .f32) //
      ∀ (W : Waits sig Unit) (K : PUnit → sProp 𝕄),
        iprop(owns (c : Thread nD τ) arg3 fullShare x0 ∗ owns (c : Thread nD τ) arg4 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ hbPt0 c hbM0_0 fh0 ∗ hbPt0 c hbM0_1 fh1 ∗ owes (c : Thread nD τ) 0 W
            ∗ (iprop(owns (c : Thread nD τ) arg3 fullShare x0 ∗ owns (c : Thread nD τ) arg4 fullShare x1 ∗ owns (c : Thread nD τ) arg6 fullShare x2 ∗ (∃ f, arg7.view.loc (c : Thread nD τ) ↦[arg7.view.set]{fullShare} arg7.view.writes (Elt F) f L3) ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f L5) ∗ (∃ f, arg10.view.loc (c : Thread nD τ) ↦[arg10.view.set]{fullShare} arg10.view.writes (Elt F) f L6) ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ (∃ f, arg15.view.loc (c : Thread nD τ) ↦[arg15.view.set]{fullShare} arg15.view.writes (Elt F) f LT3) ∗ (∃ f, arg16.view.loc (c : Thread nD τ) ↦[arg16.view.set]{fullShare} arg16.view.writes (Elt F) f LS4) ∗ (∃ f, arg17.view.loc (c : Thread nD τ) ↦[arg17.view.set]{fullShare} arg17.view.writes (Elt F) f LS5) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn1_bwdw_a i (Memref.whole main_v34) (Memref.isWhole_whole _) arg3 harg3 arg4 harg4 (Memref.whole main_v37) (Memref.isWhole_whole _) arg6 harg6 arg7 harg7 arg8 harg8 arg9 harg9 arg10 harg10 arg11 harg11 arg12 harg12 arg13 harg13 arg14 harg14 arg15 harg15 arg16 harg16 arg17 harg17 cc0_scratch6) K } := by
  refine ⟨?_, ?_, ?_, ?_, ?_, ?_, ?_, ?_, ?_, ?_, ?_, fun W K => ?run⟩
  case run =>
    simp only [cc0_ffn1_bwdw_a_eq_skeleton]; unfold cc0_ffn1_bwdw_a_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hq0, Hq1, Hq2, Hq3, Hh0, Hh1, HW, Hk⟩
    obtain rfl := harg3.eq_unread hf0; obtain rfl := harg4.eq_unread hf1; obtain rfl := harg6.eq_unread hf2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg6.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    iexists _; iexact HW

end BwdwFrame

end

end
-- ==== Proof.BwdwRunB.lean ====
module

public import proofs.«01_k».proof.Proof.BwdwRunA

@[expose] public section

set_option maxRecDepth 16384

noncomputable section

namespace BwdwFrame

open Cert.BwdwIdeal Cert.BwdwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at a later point, likewise, over the copied operands `xs4`, `xs5`, which it only reads. -/
noncomputable def kernelRun0_B (c : Dev nD) (i : grid0.Coords) (arg3 : Memref sig .tc .vmem S4096x256 .bf16) (harg3 : arg3.IsWhole) (arg4 : Memref sig .tc .vmem S4096x256 .bf16) (harg4 : arg4.IsWhole) (arg6 : Memref sig .tc .vmem S256x1024 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S4096x256 .bf16) (harg12 : arg12.IsWhole) (arg13 : Memref sig .tc .vmem S256x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S4096x1024 .bf16) (harg16 : arg16.IsWhole) (arg17 : Memref sig .tc .vmem S4096x1024 .bf16) (harg17 : arg17.IsWhole) (hc0 : ¬cond0_0 i) (hc1 : cond0_1 i) (hc2 : cond0_2 i)
    (x0 : Vec F S4096x256 .bf16) (x1 : Vec F S4096x256 .bf16) (x2 : Vec F S256x1024 .bf16) (xs4 : Vec F S4096x1024 .bf16) (xs5 : Vec F S4096x1024 .bf16) (fh0 : HbBuf0 (F := F) c hbM0_0) (fh1 : HbBuf0 (F := F) c hbM0_1) :
    Σ' (L3 : List (View.Piece (Elt F) S4096x256 .bf16)), Σ' (L4 : List (View.Piece (Elt F) S4096x256 .bf16)), Σ' (L5 : List (View.Piece (Elt F) S256x1024 .bf16)), Σ' (L6 : List (View.Piece (Elt F) S256x1024 .bf16)), Σ' (L7 : List (View.Piece (Elt F) S256x1024 .bf16)), Σ' (LS4 : List (View.Piece (Elt F) S4096x1024 .bf16)), Σ' (LS5 : List (View.Piece (Elt F) S4096x1024 .bf16)), Σ' (LT0 : List (View.Piece (Elt F) S4096x256 .bf16)), Σ' (LT1 : List (View.Piece (Elt F) S256x1024 .f32)), Σ' (LT2 : List (View.Piece (Elt F) S256x1024 .f32)), { LT3 : List (View.Piece (Elt F) S256x1024 .f32) //
      ∀ (W : Waits sig Unit) (K : PUnit → sProp 𝕄),
        iprop(owns (c : Thread nD τ) arg3 fullShare x0 ∗ owns (c : Thread nD τ) arg4 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs4 ∗ owns (c : Thread nD τ) arg17 fullShare xs5 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ hbPt0 c hbM0_0 fh0 ∗ hbPt0 c hbM0_1 fh1 ∗ owes (c : Thread nD τ) 0 W
            ∗ (iprop(owns (c : Thread nD τ) arg3 fullShare x0 ∗ owns (c : Thread nD τ) arg4 fullShare x1 ∗ owns (c : Thread nD τ) arg6 fullShare x2 ∗ (∃ f, arg7.view.loc (c : Thread nD τ) ↦[arg7.view.set]{fullShare} arg7.view.writes (Elt F) f L3) ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f L5) ∗ (∃ f, arg10.view.loc (c : Thread nD τ) ↦[arg10.view.set]{fullShare} arg10.view.writes (Elt F) f L6) ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ (∃ f, arg15.view.loc (c : Thread nD τ) ↦[arg15.view.set]{fullShare} arg15.view.writes (Elt F) f LT3) ∗ owns (c : Thread nD τ) arg16 fullShare xs4 ∗ owns (c : Thread nD τ) arg17 fullShare xs5 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn1_bwdw_a i (Memref.whole main_v34) (Memref.isWhole_whole _) arg3 harg3 arg4 harg4 (Memref.whole main_v37) (Memref.isWhole_whole _) arg6 harg6 arg7 harg7 arg8 harg8 arg9 harg9 arg10 harg10 arg11 harg11 arg12 harg12 arg13 harg13 arg14 harg14 arg15 harg15 arg16 harg16 arg17 harg17 cc0_scratch6) K } := by
  refine ⟨?_, ?_, ?_, ?_, ?_, [], [], ?_, ?_, ?_, ?_, fun W K => ?run⟩
  case run =>
    simp only [cc0_ffn1_bwdw_a_eq_skeleton]; unfold cc0_ffn1_bwdw_a_skel
    simp only [k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%fs4, %hfs4, HS4⟩, ⟨%fs5, %hfs5, HS5⟩, Hq0, Hq1, Hq2, Hq3, Hh0, Hh1, HW, Hk⟩
    obtain rfl := harg3.eq_unread hf0; obtain rfl := harg4.eq_unread hf1; obtain rfl := harg6.eq_unread hf2; obtain rfl := harg16.eq_unread hfs4; obtain rfl := harg17.eq_unread hfs5
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg6.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [HS0]; · iexists _; iexact HS0
    isplitl [HS1]; · iexists _; iexact HS1
    isplitl [HS2]; · iexists _; iexact HS2
    isplitl [HS3]; · iexists _; iexact HS3
    isplitl [HS4]
    · iexists _; isplitr; · ipureintro; exact harg16.read_unread _
      iexact HS4
    isplitl [HS5]
    · iexists _; isplitr; · ipureintro; exact harg17.read_unread _
      iexact HS5
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    iexists _; iexact HW

end BwdwFrame

end

end
-- ==== Proof.BwdwFrame.lean ====
module

public import proofs.«01_k».proof.Proof.BwdwRunA
public import proofs.«01_k».proof.Proof.BwdwRunB
public import Idealize.ShloMosaic.Lib.Claim

@[expose] public section

set_option maxRecDepth 16384

noncomputable section

namespace BwdwFrame

open Cert.BwdwIdeal Cert.BwdwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The run of the body at a point -/

/-- The body's run at the first point, on the memrefs and blocks of that point: it starts the four copies of the two operands left in
    HBM, waits for each slab before using it. -/
abbrev runA (c : Dev nD) (t : Fin cfg0.N) (h0 : t.val % 6 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    scM0_0 (Memref.isWhole_whole _) scM0_1 (Memref.isWhole_whole _) scM0_2 (Memref.isWhole_whole _) scM0_3 (Memref.isWhole_whole _) scM0_4 (Memref.isWhole_whole _) scM0_5 (Memref.isWhole_whole _)
    ((hcond0_0 t).mpr h0) (hcond0_1 t) (hcond0_2 t) (iblk m c 0 t) (iblk m c 1 t) (iblk m c 2 t) (V m c main_v34) (V m c main_v37)

/-- The body's run at a later point, over the two copied operands `xs4`, `xs5` as the point before left them. -/
abbrev runB (c : Dev nD) (t : Fin cfg0.N) (h0 : ¬t.val % 6 = 0) (xs4 xs5 : Vec F S4096x1024 .bf16) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    scM0_0 (Memref.isWhole_whole _) scM0_1 (Memref.isWhole_whole _) scM0_2 (Memref.isWhole_whole _) scM0_3 (Memref.isWhole_whole _) scM0_4 (Memref.isWhole_whole _) scM0_5 (Memref.isWhole_whole _)
    (fun h => h0 ((hcond0_0 t).mp h)) (hcond0_1 t) (hcond0_2 t) (iblk m c 0 t) (iblk m c 1 t) (iblk m c 2 t) xs4 xs5
    (V m c main_v34) (V m c main_v37)

/-! The pieces a run writes tile each output's block, and at the first point the two copied operands. -/

theorem coverA_0 (c : Dev nD) (t : Fin cfg0.N) (h0 : t.val % 6 = 0) (y : S4096x256.Idx) : ∃ pc ∈ (runA m c t h0).1, y ∈ pc.1.set :=
  View.cover_of_tiledL (runA m c t h0).1 S2048x256.size (by sl_kernel_rfl) y
theorem coverA_1 (c : Dev nD) (t : Fin cfg0.N) (h0 : t.val % 6 = 0) (y : S4096x256.Idx) : ∃ pc ∈ (runA m c t h0).2.1, y ∈ pc.1.set :=
  View.cover_of_tiledL (runA m c t h0).2.1 S2048x256.size (by sl_kernel_rfl) y
theorem coverA_2 (c : Dev nD) (t : Fin cfg0.N) (h0 : t.val % 6 = 0) (y : S256x1024.Idx) : ∃ pc ∈ (runA m c t h0).2.2.1, y ∈ pc.1.set :=
  View.cover_of_tiledL (runA m c t h0).2.2.1 S256x1024.size (by sl_kernel_rfl) y
theorem coverA_3 (c : Dev nD) (t : Fin cfg0.N) (h0 : t.val % 6 = 0) (y : S256x1024.Idx) : ∃ pc ∈ (runA m c t h0).2.2.2.1, y ∈ pc.1.set :=
  View.cover_of_tiledL (runA m c t h0).2.2.2.1 S256x1024.size (by sl_kernel_rfl) y
theorem coverA_4 (c : Dev nD) (t : Fin cfg0.N) (h0 : t.val % 6 = 0) (y : S256x1024.Idx) : ∃ pc ∈ (runA m c t h0).2.2.2.2.1, y ∈ pc.1.set :=
  View.cover_of_tiledL (runA m c t h0).2.2.2.2.1 S256x1024.size (by sl_kernel_rfl) y
theorem coverA_5 (c : Dev nD) (t : Fin cfg0.N) (h0 : t.val % 6 = 0) (y : S4096x1024.Idx) : ∃ pc ∈ (runA m c t h0).2.2.2.2.2.1, y ∈ pc.1.set :=
  View.cover_of_tiledL (runA m c t h0).2.2.2.2.2.1 S2048x1024.size (by sl_kernel_rfl) y
theorem coverA_6 (c : Dev nD) (t : Fin cfg0.N) (h0 : t.val % 6 = 0) (y : S4096x1024.Idx) : ∃ pc ∈ (runA m c t h0).2.2.2.2.2.2.1, y ∈ pc.1.set :=
  View.cover_of_tiledL (runA m c t h0).2.2.2.2.2.2.1 S2048x1024.size (by sl_kernel_rfl) y
theorem coverB_0 (c : Dev nD) (t : Fin cfg0.N) (h0 : ¬t.val % 6 = 0) (xs4 xs5 : Vec F S4096x1024 .bf16) (y : S4096x256.Idx) : ∃ pc ∈ (runB m c t h0 xs4 xs5).1, y ∈ pc.1.set :=
  View.cover_of_tiledL (runB m c t h0 xs4 xs5).1 S2048x256.size (by sl_kernel_rfl) y
theorem coverB_1 (c : Dev nD) (t : Fin cfg0.N) (h0 : ¬t.val % 6 = 0) (xs4 xs5 : Vec F S4096x1024 .bf16) (y : S4096x256.Idx) : ∃ pc ∈ (runB m c t h0 xs4 xs5).2.1, y ∈ pc.1.set :=
  View.cover_of_tiledL (runB m c t h0 xs4 xs5).2.1 S2048x256.size (by sl_kernel_rfl) y
theorem coverB_2 (c : Dev nD) (t : Fin cfg0.N) (h0 : ¬t.val % 6 = 0) (xs4 xs5 : Vec F S4096x1024 .bf16) (y : S256x1024.Idx) : ∃ pc ∈ (runB m c t h0 xs4 xs5).2.2.1, y ∈ pc.1.set :=
  View.cover_of_tiledL (runB m c t h0 xs4 xs5).2.2.1 S256x1024.size (by sl_kernel_rfl) y
theorem coverB_3 (c : Dev nD) (t : Fin cfg0.N) (h0 : ¬t.val % 6 = 0) (xs4 xs5 : Vec F S4096x1024 .bf16) (y : S256x1024.Idx) : ∃ pc ∈ (runB m c t h0 xs4 xs5).2.2.2.1, y ∈ pc.1.set :=
  View.cover_of_tiledL (runB m c t h0 xs4 xs5).2.2.2.1 S256x1024.size (by sl_kernel_rfl) y
theorem coverB_4 (c : Dev nD) (t : Fin cfg0.N) (h0 : ¬t.val % 6 = 0) (xs4 xs5 : Vec F S4096x1024 .bf16) (y : S256x1024.Idx) : ∃ pc ∈ (runB m c t h0 xs4 xs5).2.2.2.2.1, y ∈ pc.1.set :=
  View.cover_of_tiledL (runB m c t h0 xs4 xs5).2.2.2.2.1 S256x1024.size (by sl_kernel_rfl) y

/-- Contents of the five outputs' buffers, then of the two copied operands. -/
abbrev Outs (F : FTy → Type) : Type :=
  Vec F S4096x256 .bf16 × Vec F S4096x256 .bf16 × Vec F S256x1024 .bf16 × Vec F S256x1024 .bf16 × Vec F S256x1024 .bf16
    × Vec F S4096x1024 .bf16 × Vec F S4096x1024 .bf16

/-- What the first point leaves. -/
def outA (c : Dev nD) (t : Fin cfg0.N) (h0 : t.val % 6 = 0) : Outs F :=
  (VO0_3.read (Elt F) (VO0_3.writes (Elt F) VO0_3.junk (runA m c t h0).1),
    VO0_4.read (Elt F) (VO0_4.writes (Elt F) VO0_4.junk (runA m c t h0).2.1),
    VO0_5.read (Elt F) (VO0_5.writes (Elt F) VO0_5.junk (runA m c t h0).2.2.1),
    VO0_6.read (Elt F) (VO0_6.writes (Elt F) VO0_6.junk (runA m c t h0).2.2.2.1),
    VO0_7.read (Elt F) (VO0_7.writes (Elt F) VO0_7.junk (runA m c t h0).2.2.2.2.1),
    VS0_4.read (Elt F) (VS0_4.writes (Elt F) VS0_4.junk (runA m c t h0).2.2.2.2.2.1),
    VS0_5.read (Elt F) (VS0_5.writes (Elt F) VS0_5.junk (runA m c t h0).2.2.2.2.2.2.1))

/-- What a later point leaves, over `xs4` and `xs5`. -/
def outB (c : Dev nD) (t : Fin cfg0.N) (h0 : ¬t.val % 6 = 0) (xs4 xs5 : Vec F S4096x1024 .bf16) : Outs F :=
  (VO0_3.read (Elt F) (VO0_3.writes (Elt F) VO0_3.junk (runB m c t h0 xs4 xs5).1),
    VO0_4.read (Elt F) (VO0_4.writes (Elt F) VO0_4.junk (runB m c t h0 xs4 xs5).2.1),
    VO0_5.read (Elt F) (VO0_5.writes (Elt F) VO0_5.junk (runB m c t h0 xs4 xs5).2.2.1),
    VO0_6.read (Elt F) (VO0_6.writes (Elt F) VO0_6.junk (runB m c t h0 xs4 xs5).2.2.2.1),
    VO0_7.read (Elt F) (VO0_7.writes (Elt F) VO0_7.junk (runB m c t h0 xs4 xs5).2.2.2.2.1),
    xs4,
    xs5)

/-- What the body leaves after the point at position `n`. -/
def outsAt (c : Dev nD) : (n : ℕ) → n < cfg0.N → Outs F
  | 0, hn => outA m c ⟨0, hn⟩ (Nat.zero_mod _)
  | n + 1, hn =>
    if h0 : (n + 1) % 6 = 0 then outA m c ⟨n + 1, hn⟩ h0
    else outB m c ⟨n + 1, hn⟩ h0 (outsAt c n (Nat.lt_of_succ_lt hn)).2.2.2.2.2.1 (outsAt c n (Nat.lt_of_succ_lt hn)).2.2.2.2.2.2

theorem outsAt_A (c : Dev nD) (t : Fin cfg0.N) (h0 : t.val % 6 = 0) : outsAt m c t.val t.isLt = outA m c t h0 := by
  obtain ⟨n, hn⟩ := t
  cases n with
  | zero => rfl
  | succ n => exact dif_pos h0

theorem outsAt_B (c : Dev nD) (t : Fin cfg0.N) (h0 : ¬t.val % 6 = 0) :
    outsAt m c t.val t.isLt = outB m c t h0 (outsAt m c (t.val - 1) (Nat.lt_of_le_of_lt (Nat.sub_le _ _) t.isLt)).2.2.2.2.2.1
      (outsAt m c (t.val - 1) (Nat.lt_of_le_of_lt (Nat.sub_le _ _) t.isLt)).2.2.2.2.2.2 := by
  obtain ⟨n, hn⟩ := t
  cases n with
  | zero => exact absurd (Nat.zero_mod _) h0
  | succ n => exact dif_neg h0

/-! ## The invariant between the points -/

/-- Between two points: four scratch buffers at anything, the two copied operands at `a` and `b`, the random register, the body's
    semaphores at zero, the operands in HBM as they were. -/
def between (c : Dev nD) (a b : Vec F S4096x1024 .bf16) : sProp 𝕄 :=
  iprop(iprop((∃ d, owns (c : Thread nD τ) scM0_0 fullShare d) ∗ (∃ d, owns (c : Thread nD τ) scM0_1 fullShare d)
      ∗ (∃ d, owns (c : Thread nD τ) scM0_2 fullShare d) ∗ (∃ d, owns (c : Thread nD τ) scM0_3 fullShare d)
      ∗ owns (c : Thread nD τ) scM0_4 fullShare a ∗ owns (c : Thread nD τ) scM0_5 fullShare b)
    ∗ (∃ r, prngReg c r)
    ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0)
    ∗ iprop(hbPt0 c hbM0_0 (V m c main_v34) ∗ hbPt0 c hbM0_1 (V m c main_v37)))

/-- The invariant before position `n`. -/
def PhiS (c : Dev nD) : (n : ℕ) → n ≤ cfg0.N → sProp 𝕄
  | 0, _ => Pipeline.ΦD osem0 spec0 H0 (V m) c
  | n + 1, hn => between m c (outsAt m c n hn).2.2.2.2.2.1 (outsAt m c n hn).2.2.2.2.2.2

theorem PhiS_zero (c : Dev nD) (n : ℕ) (h : n ≤ cfg0.N) (hz : n = 0) : PhiS m c n h = Pipeline.ΦD osem0 spec0 H0 (V m) c := by
  subst hz; rfl

theorem PhiS_pos (c : Dev nD) (n : ℕ) (h : n ≤ cfg0.N) (hz : n ≠ 0) :
    PhiS m c n h = between m c (outsAt m c (n - 1) (by omega)).2.2.2.2.2.1 (outsAt m c (n - 1) (by omega)).2.2.2.2.2.2 := by
  cases n with
  | zero => exact absurd rfl hz
  | succ n => rfl

/-- The proof data of the pipeline: inputs keep their blocks, outputs hold `outsAt`, nothing is owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
    | ⟨4, _⟩ => (outsAt m c t.val t.isLt).2.1
    | ⟨5, _⟩ => (outsAt m c t.val t.isLt).2.2.1
    | ⟨6, _⟩ => (outsAt m c t.val t.isLt).2.2.2.1
    | ⟨7, _⟩ => (outsAt m c t.val t.isLt).2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt m c t.val t.isLt).1 := by dsimp only [dats]
theorem after0_4 (c : Dev nD) (t : Fin cfg0.N) : (dats m 0 c).after 4 t = (outsAt m c t.val t.isLt).2.1 := by dsimp only [dats]
theorem after0_5 (c : Dev nD) (t : Fin cfg0.N) : (dats m 0 c).after 5 t = (outsAt m c t.val t.isLt).2.2.1 := by dsimp only [dats]
theorem after0_6 (c : Dev nD) (t : Fin cfg0.N) : (dats m 0 c).after 6 t = (outsAt m c t.val t.isLt).2.2.2.1 := by dsimp only [dats]
theorem after0_7 (c : Dev nD) (t : Fin cfg0.N) : (dats m 0 c).after 7 t = (outsAt m c t.val t.isLt).2.2.2.2.1 := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans (by unfold Dat.fetched Dat.blockOf iblk; rw [A_eq]; try rfl)

/-! ## The body obligation -/

/-- A buffer with covering pieces written over anything is owned at the pieces' contents, read through any view of that shape. -/
theorem owns_of_cover (c : Dev nD) {S : Shape} {e : EltTy} (M : Memref sig .tc .vmem S e) (W : View sig .tc .vmem S e)
    (L : List (View.Piece (Elt F) S e)) (h : ∀ y : S.Idx, ∃ pc ∈ L, y ∈ pc.1.set) :
    iprop(∃ f, M.view.loc (c : Thread nD τ) ↦[M.view.set]{fullShare} M.view.writes (Elt F) f L)
      ⊢ (owns (c : Thread nD τ) M fullShare (W.read (Elt F) (W.writes (Elt F) W.junk L)) : sProp 𝕄) := by
  iintro ⟨%f, H⟩
  unfold owns; iexists _; isplitr
  swap; · iexact H
  ipureintro; exact View.read_writes_of_cover _ _ _ _ _ h

/-- A buffer with pieces written over anything is owned at some contents. -/
theorem some_of_writes (c : Dev nD) {S : Shape} {e : EltTy} (M : Memref sig .tc .vmem S e) (L : List (View.Piece (Elt F) S e)) :
    iprop(∃ f, M.view.loc (c : Thread nD τ) ↦[M.view.set]{fullShare} M.view.writes (Elt F) f L)
      ⊢ iprop(∃ d, (owns (c : Thread nD τ) M fullShare d : sProp 𝕄)) := by
  iintro ⟨%f, H⟩
  iexists _; unfold owns; iexists _; isplitr
  swap; · iexact H
  ipureintro; rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- No window is idle at a point: the body leaves it at `after`. -/
theorem leaves_eq (c : Dev nD) (t : Fin cfg0.N) (w : Fin cfg0.W) :
    (dats m 0 c).leavesExact w t = owns (c : Thread nD τ) ((cfg0.win w).stage (cfg0.slots t w)) fullShare ((dats m 0 c).after w t) := by
  unfold Dat.leavesExact; rw [liveAt w t]

set_option maxHeartbeats 9600000 in
/-- The body at any point runs from what it is called with to what it returns: the first point from the launch's invariant, a later
    one from what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = between m c (outsAt m c t.val t.isLt).2.2.2.2.2.1 (outsAt m c t.val t.isLt).2.2.2.2.2.2 from rfl]
  unfold Dat.owesAt Pipeline.owesWithin
  rw [show (dats m 0 c).owed t.castSucc = 0 from rfl, show (dats m 0 c).owed t.succ = 0 from rfl]
  have hN : t.val < 6 := lt_of_lt_of_eq t.isLt (show cfg0.N = 6 from N_0)
  simp only [leaves_eq, after0_0, after0_1, after0_2, after0_3, after0_4, after0_5, after0_6, after0_7]
  rw [PhiS_castSucc m c t]
  by_cases h0 : t.val % 6 = 0
  · rw [PhiS_zero m c _ _ (by omega), PhiD0_eq, outsAt_A m c t h0]
    unfold outA between; dsimp only
    iintro ⟨⟨⟨HS0, HS1, HS2, HS3, HS4, HS5⟩, Hg, ⟨Hq0, Hq1, Hq2, Hq3⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply ((runA m c t h0).2.2.2.2.2.2.2.2.2.2.2 W _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    isplitl [HS4]; · iexact HS4
    isplitl [HS5]; · iexact HS5
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [HW]; · iexact HW
    iintro ⟨H0, H1, H2, H3, H4, H5, H6, H7, HS0, HS1, HS2, HS3, HS4, HS5, Hq0, Hq1, Hq2, Hq3, Hh0, Hh1, ⟨%W', HW'⟩⟩
    isplitl [HS0 HS1 HS2 HS3 HS4 HS5 Hg Hq0 Hq1 Hq2 Hq3 Hh0 Hh1]
    · isplitl [HS0 HS1 HS2 HS3 HS4 HS5]
      · isplitl [HS0]; · iapply (some_of_writes c scM0_0 _); iexact HS0
        isplitl [HS1]; · iapply (some_of_writes c scM0_1 _); iexact HS1
        isplitl [HS2]; · iapply (some_of_writes c scM0_2 _); iexact HS2
        isplitl [HS3]; · iapply (some_of_writes c scM0_3 _); iexact HS3
        isplitl [HS4]; · iapply (owns_of_cover c scM0_4 VS0_4 _ (coverA_5 m c t h0)); iexact HS4
        iapply (owns_of_cover c scM0_5 VS0_5 _ (coverA_6 m c t h0)); iexact HS5
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iapply (owns_of_cover c _ VO0_3 _ (coverA_0 m c t h0)); iexact H3
    isplitl [H4]; · iapply (owns_of_cover c _ VO0_4 _ (coverA_1 m c t h0)); iexact H4
    isplitl [H5]; · iapply (owns_of_cover c _ VO0_5 _ (coverA_2 m c t h0)); iexact H5
    isplitl [H6]; · iapply (owns_of_cover c _ VO0_6 _ (coverA_3 m c t h0)); iexact H6
    iapply (owns_of_cover c _ VO0_7 _ (coverA_4 m c t h0)); iexact H7
  · rw [PhiS_pos m c _ _ (by omega), outsAt_B m c t h0]
    unfold outB between; dsimp only
    iintro ⟨⟨⟨HS0, HS1, HS2, HS3, HS4, HS5⟩, Hg, ⟨Hq0, Hq1, Hq2, Hq3⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply ((runB m c t h0 _ _).2.2.2.2.2.2.2.2.2.2.2 W _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    isplitl [HS4]; · iexact HS4
    isplitl [HS5]; · iexact HS5
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [HW]; · iexact HW
    iintro ⟨H0, H1, H2, H3, H4, H5, H6, H7, HS0, HS1, HS2, HS3, HS4, HS5, Hq0, Hq1, Hq2, Hq3, Hh0, Hh1, ⟨%W', HW'⟩⟩
    isplitl [HS0 HS1 HS2 HS3 HS4 HS5 Hg Hq0 Hq1 Hq2 Hq3 Hh0 Hh1]
    · isplitl [HS0 HS1 HS2 HS3 HS4 HS5]
      · isplitl [HS0]; · iapply (some_of_writes c scM0_0 _); iexact HS0
        isplitl [HS1]; · iapply (some_of_writes c scM0_1 _); iexact HS1
        isplitl [HS2]; · iapply (some_of_writes c scM0_2 _); iexact HS2
        isplitl [HS3]; · iapply (some_of_writes c scM0_3 _); iexact HS3
        isplitl [HS4]; · iexact HS4
        iexact HS5
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iapply (owns_of_cover c _ VO0_3 _ (coverB_0 m c t h0 _ _)); iexact H3
    isplitl [H4]; · iapply (owns_of_cover c _ VO0_4 _ (coverB_1 m c t h0 _ _)); iexact H4
    isplitl [H5]; · iapply (owns_of_cover c _ VO0_5 _ (coverB_2 m c t h0 _ _)); iexact H5
    isplitl [H6]; · iapply (owns_of_cover c _ VO0_6 _ (coverB_3 m c t h0 _ _)); iexact H6
    iapply (owns_of_cover c _ VO0_7 _ (coverB_4 m c t h0 _ _)); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  unfold between
  iintro ⟨⟨HS0, HS1, HS2, HS3, HS4, HS5⟩, Hg, ⟨Hq0, Hq1, Hq2, Hq3⟩, ⟨Hh0, Hh1⟩⟩
  isplitl [HS0 HS1 HS2 HS3 HS4 HS5]
  · isplitl [HS0]
    · iexact HS0
    isplitl [HS1]
    · iexact HS1
    isplitl [HS2]
    · iexact HS2
    isplitl [HS3]
    · iexact HS3
    isplitl [HS4]
    · iexists _; iexact HS4
    iexists _; iexact HS5
  isplitl [Hg]; · iexact Hg
  isplitl [Hq0 Hq1 Hq2 Hq3]
  · isplitl [Hq0]; · iexact Hq0
    isplitl [Hq1]; · iexact Hq1
    isplitl [Hq2]; · iexact Hq2
    iexact Hq3
  isplitl [Hh0]; · iexact Hh0
  iexact Hh1

/-- The same after the last point. -/
theorem hout (c : Dev nD) : (dats m 0 c).Φ (Fin.last cfg0.N) ⊢ Pipeline.ΦD osem0 spec0 H0 (V m) c :=
  Phi_out m c _ (by rw [Fin.val_last]; have : cfg0.N = 6 := N_0; omega)

/-! ## The run and the frame -/

/-- The program up to the region: the host operations, then the region. -/
theorem main_to_region : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- Every execution ends with the arrays the proof data give, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := main_to_region m) (hA := A_eq m)
    (hin := hin m) (hout := hout m)

/-- The arrays alone. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ)

/-- The frame: every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end BwdwFrame

end

end
-- ==== Proof.BwdwRef.lean ====
module

public import proofs.«01_k».proof.Proof.Gen.BwdwRefIdeal.Run
public import proofs.«01_k».proof.Proof.Gen.BwdwRefIdeal.Read
public import proofs.«01_k».proof.Proof.Reals
public import proofs.«01_k».proof.Proof.Cols
@[expose] public section
/-! # The reference of a feed-forward layer's gradients, read at an element

`BwdwRefIdeal` differentiates the layer's two hidden products and its gated product with `jax.vjp`. At arrays of reals the
gradients of the hidden products and of the three weights are sums, products and exponentials of reals. -/

set_option maxRecDepth 16384

noncomputable section

namespace Cert.Proof.BwdwRef

open Cert.BwdwRefIdeal Cert.BwdwRefIdeal.Gen Cert.BwdwRefIdeal.Read Idealize.ShloMosaic Cert.Proof.Reals Cert.Proof.Cols

/-- The arguments as arrays of reals. -/
structure Inp where
  x : S4096x1024.Idx → ℝ
  g : S1x1024.Idx → ℝ
  wg : S1x1024x2816.Idx → ℝ
  wu : S1x1024x2816.Idx → ℝ
  wd : S1x2816x1024.Idx → ℝ
  ct : S4096x1024.Idx → ℝ

variable (I : Inp)

/-- Token `r`'s row. -/
def row (r : Fin 4096) : Fin 1024 → ℝ := fun j => I.x (ix2 r j)

/-- The normalised, scaled row. -/
def hn (r : Fin 4096) (j : Fin 1024) : ℝ := I.x (ix2 r j) * scale (row I r) * I.g (ix2 0 j)

/-- The two hidden products, and the logistic function of the first. -/
def hidA (r : Fin 4096) (k : Fin 2816) : ℝ := ∑ j, hn I r j * I.wg (ix3 0 j k)
def hidB (r : Fin 4096) (k : Fin 2816) : ℝ := ∑ j, hn I r j * I.wu (ix3 0 j k)
def sig (r : Fin 4096) (k : Fin 2816) : ℝ := (1 + Real.exp (-hidA I r k))⁻¹

/-- The cotangent of the gated product. -/
def ds (r : Fin 4096) (k : Fin 2816) : ℝ := ∑ j, 1 / 2 * I.ct (ix2 r j) * I.wd (ix3 0 k j)

/-- The gradients of the two hidden products. -/
def da (r : Fin 4096) (k : Fin 2816) : ℝ := ds I r k * hidB I r k * (sig I r k * (1 + hidA I r k * (1 - sig I r k)))
def db (r : Fin 4096) (k : Fin 2816) : ℝ := ds I r k * (hidA I r k * sig I r k)

/-- The gradients of the three weights. -/
def dwd (k : Fin 2816) (j : Fin 1024) : ℝ := ∑ r, hidA I r k * sig I r k * hidB I r k * (1 / 2 * I.ct (ix2 r j))
def dwg (k : Fin 2816) (j : Fin 1024) : ℝ := ∑ r, da I r k * hn I r j
def dwu (k : Fin 2816) (j : Fin 1024) : ℝ := ∑ r, db I r k * hn I r j

theorem one_div_real {x : ℝ} (hx : 0 < x) : Ideal.div ((1 : ℝ) : EReal) (x : EReal) = ((x⁻¹ : ℝ) : EReal) := by
  rw [div_real _ hx.ne', one_div]

/-! ## The stages -/

/-! The arguments as the programs hold them. -/
abbrev cx : FVec Ideal S4096x1024 .f32 := fun i => (I.x i : EReal)
abbrev cg : FVec Ideal S1x1024 .f32 := fun i => (I.g i : EReal)
abbrev cwg : FVec Ideal S1x1024x2816 .f32 := fun i => (I.wg i : EReal)
abbrev cwu : FVec Ideal S1x1024x2816 .f32 := fun i => (I.wu i : EReal)
abbrev cwd : FVec Ideal S1x2816x1024 .f32 := fun i => (I.wd i : EReal)
abbrev cct : FVec Ideal S4096x1024 .f32 := fun i => (I.ct i : EReal)

theorem val_hn (r : Fin 4096) (j : Fin 1024) : val_main_v13 (F := Ideal) (cx I) (cg I) (ix2 r j) = (hn I r j : EReal) := by
  have hs : val_main_v8 (F := Ideal) (cx I) (ix2 r 0) = (scale (row I r) : EReal) := by
    pointwise [val_main_v8, val_main_v7, val_main_v6, val_main_v5, val_main_v4, val_main_v3, val_main_v2, val_main_v1, val_main_cst, val_main_cst_0, val_main_cst_1]
    simp only [← EReal.coe_mul, coe_sum, ofBits_1024, ofBits_eps, div_1024, ← EReal.coe_add]
    exact rsqrt_meanSq (row I r)
  pointwise [val_main_v13, val_main_v12, val_main_v11, val_main_v10, val_main_v9, val_main_v0]
  simp only [hs, ← EReal.coe_mul]
  rfl

theorem val_a (r : Fin 4096) (k : Fin 2816) : val_main_v16 (F := Ideal) (cx I) (cg I) (cwg I) (ix2 r k) = (hidA I r k : EReal) := by
  pointwise [val_main_v16, val_main_v14]
  simp only [val_hn, ← EReal.coe_mul, coe_sum]
  rfl

theorem val_b (r : Fin 4096) (k : Fin 2816) : val_main_v17 (F := Ideal) (cx I) (cg I) (cwu I) (ix2 r k) = (hidB I r k : EReal) := by
  pointwise [val_main_v17, val_main_v15]
  simp only [val_hn, ← EReal.coe_mul, coe_sum]
  rfl

theorem val_sig (r : Fin 4096) (k : Fin 2816) : val_main_v19_2 (F := Ideal) (cx I) (cg I) (cwg I) (ix2 r k) = (sig I r k : EReal) := by
  pointwise [val_main_v19_2, val_main_call0_v4, val_main_call0_v3, val_main_call0_v2, val_main_call0_v1, val_main_call0_v0,
    val_main_call0_cst, val_main_call0_cst_0]
  simp only [val_a, ofBits_one, ← EReal.coe_neg, Ideal.exp_coe, ← EReal.coe_add]
  exact one_div_real (by positivity)

theorem val_ds (r : Fin 4096) (k : Fin 2816) : val_main_v28 (F := Ideal) (cwd I) (cct I) (ix2 r k) = (ds I r k : EReal) := by
  pointwise [val_main_v28, val_main_v25, val_main_v24, val_main_v18, val_main_cst_3]
  simp only [ofBits_half, ← EReal.coe_mul, coe_sum]
  rfl

theorem val_da (r : Fin 4096) (k : Fin 2816) :
    val_main_v31 (F := Ideal) (cx I) (cg I) (cwg I) (cwu I) (cwd I) (cct I) (ix2 r k) = (da I r k : EReal) := by
  pointwise [val_main_v31, val_main_call1_v2, val_main_call1_v1, val_main_call1_v0, val_main_v30, val_main_v19_1, val_main_call0_v7, val_main_call0_v6,
    val_main_call0_cst_1]
  simp only [val_a, val_b, val_sig, val_ds, ofBits_one, ← EReal.coe_one, ← EReal.coe_mul, ← EReal.coe_sub, ← EReal.coe_add]
  rw [EReal.coe_eq_coe_iff, da]
  ring

theorem val_db (r : Fin 4096) (k : Fin 2816) :
    val_main_v29 (F := Ideal) (cx I) (cg I) (cwg I) (cwd I) (cct I) (ix2 r k) = (db I r k : EReal) := by
  pointwise [val_main_v29, val_main_v19_0]
  simp only [val_a, val_sig, val_ds, ← EReal.coe_mul]
  rw [EReal.coe_eq_coe_iff, db]
  ring

theorem val_dwd (k : Fin 2816) (j : Fin 1024) :
    val_main_v27 (F := Ideal) (cx I) (cg I) (cwg I) (cwu I) (cct I) (ix2 k j) = (dwd I k j : EReal) := by
  pointwise [val_main_v27, val_main_v26, val_main_v25, val_main_v24, val_main_v20, val_main_v19_0, val_main_cst_3]
  simp only [val_a, val_b, val_sig, ofBits_half, ← EReal.coe_mul, coe_sum]
  rw [EReal.coe_eq_coe_iff, dwd]
  exact Finset.sum_congr rfl fun r _ => mul_comm _ _

theorem val_dwu (k : Fin 2816) (j : Fin 1024) :
    val_main_v32 (F := Ideal) (cx I) (cg I) (cwg I) (cwd I) (cct I) (ix2 k j) = (dwu I k j : EReal) := by
  pointwise [val_main_v32]
  simp only [val_db, val_hn, ← EReal.coe_mul, coe_sum]
  rfl

theorem val_dwg (k : Fin 2816) (j : Fin 1024) :
    val_main_v34 (F := Ideal) (cx I) (cg I) (cwg I) (cwu I) (cwd I) (cct I) (ix2 k j) = (dwg I k j : EReal) := by
  pointwise [val_main_v34]
  simp only [val_da, val_hn, ← EReal.coe_mul, coe_sum]
  rfl

/-! ## The results: part a of the hidden columns -/

theorem res_da (r : Fin 4096) (k : Fin 1536) :
    val_main_v55 (F := Ideal) (cx I) (cg I) (cwg I) (cwu I) (cwd I) (cct I) (ix2 r k) = (da I r (colA k) : EReal) := by
  refine Eq.trans ?_ (val_da I r (colA k))
  pointwise [val_main_v55, val_main_v38, val_main_v37, val_main_v36]
  rfl

theorem res_db (r : Fin 4096) (k : Fin 1536) :
    val_main_v56 (F := Ideal) (cx I) (cg I) (cwg I) (cwd I) (cct I) (ix2 r k) = (db I r (colA k) : EReal) := by
  refine Eq.trans ?_ (val_db I r (colA k))
  pointwise [val_main_v56, val_main_v41, val_main_v40, val_main_v39]
  rfl

theorem res_dwd (k : Fin 1536) (j : Fin 1024) :
    val_main_v57 (F := Ideal) (cx I) (cg I) (cwg I) (cwu I) (cct I) (ix2 k j) = (dwd I (colA k) j : EReal) := by
  refine Eq.trans ?_ (val_dwd I (colA k) j)
  pointwise [val_main_v57, val_main_v46, val_main_v45, val_main_v44, val_main_v43, val_main_v42]
  rfl

theorem res_dwg (k : Fin 1536) (j : Fin 1024) :
    val_main_v58 (F := Ideal) (cx I) (cg I) (cwg I) (cwu I) (cwd I) (cct I) (ix2 k j) = (dwg I (colA k) j : EReal) := by
  refine Eq.trans ?_ (val_dwg I (colA k) j)
  pointwise [val_main_v58, val_main_v50, val_main_v49, val_main_v48, val_main_v47, val_main_v35]
  rfl

theorem res_dwu (k : Fin 1536) (j : Fin 1024) :
    val_main_v59 (F := Ideal) (cx I) (cg I) (cwg I) (cwd I) (cct I) (ix2 k j) = (dwu I (colA k) j : EReal) := by
  refine Eq.trans ?_ (val_dwu I (colA k) j)
  pointwise [val_main_v59, val_main_v54, val_main_v53, val_main_v52, val_main_v51, val_main_v33]
  rfl

end Cert.Proof.BwdwRef

end
-- ==== Proof.BwdwKernel.lean ====
module

public import proofs.«01_k».proof.Proof.BwdwFrame
public import proofs.«01_k».proof.Proof.BwdwRef
public import proofs.«01_k».proof.Proof.Cols
public import Idealize.ShloMosaic.Lib.StableHlo.ReadAt
public import Idealize.ShloMosaic.Lib.Pipeline.ValueKit
public import Idealize.ShloMosaic.Lib.Pipeline.ReadBack
@[expose] public section
/-! # The kernel of a feed-forward layer's gradients, read at an element

Six grid points take 256 hidden columns of part a each. At the first point the body copies two operands into scratch, the cotangent and
the normalised rows, and every point reads them there. A point takes the tokens in two halves: from each half it stores the
gradients of the two hidden products and adds to the gradients of the three weights. -/

set_option maxRecDepth 16384

noncomputable section

namespace Cert.Proof.BwdwKernel

open Cert.BwdwIdeal Cert.BwdwIdeal.Gen Idealize.ShloMosaic Idealize.ShloMosaic.TcCoe Idealize.SL.Sem
open BwdwFrame
open Cert.Proof.Reals Cert.Proof.Cols
open Cert.Proof.BwdwRef (Inp)

variable (m : (ℓ : Loc nD τ sig) → Buf (Elt Ideal) ℓ) (c : Dev nD)

/-! ## The two halves of the tokens -/

/-- 2048 rows of a matrix over the tokens, from row `a`. -/
abbrev half256 (w : Vec Ideal S4096x256 .bf16) (a : Nat) (inb : ∀ i, (![a, 0] : Fin 2 → Nat) i + (![2048, 256] : Fin 2 → Nat) i ≤ S4096x256.size i) : Vec Ideal S2048x256 .bf16 :=
  View.ld (Val := Elt Ideal) (e' := .bf16) w (Rect.unit (s := S4096x256) ![a, 0] ![2048, 256] inb)
abbrev half1024 (w : Vec Ideal S4096x1024 .bf16) (a : Nat) (inb : ∀ i, (![a, 0] : Fin 2 → Nat) i + (![2048, 1024] : Fin 2 → Nat) i ≤ S4096x1024.size i) : Vec Ideal S2048x1024 .bf16 :=
  View.ld (Val := Elt Ideal) (e' := .bf16) w (Rect.unit (s := S4096x1024) ![a, 0] ![2048, 1024] inb)

theorem half256_at (w a inb) (p : S2048x256.Idx) (y : S4096x256.Idx) (h0 : (y 0).val = a + (p 0).val) (h1 : (y 1).val = (p 1).val) :
    half256 w a inb p = w y := by
  refine congrArg w (funext fun b => Fin.ext ?_)
  match b with
  | ⟨0, _⟩ => rw [Rect.idx_unit_val]; exact h0.symm
  | ⟨1, _⟩ => rw [Rect.idx_unit_val]; exact (Nat.zero_add _).trans h1.symm
theorem half1024_at (w a inb) (p : S2048x1024.Idx) (y : S4096x1024.Idx) (h0 : (y 0).val = a + (p 0).val) (h1 : (y 1).val = (p 1).val) :
    half1024 w a inb p = w y := by
  refine congrArg w (funext fun b => Fin.ext ?_)
  match b with
  | ⟨0, _⟩ => rw [Rect.idx_unit_val]; exact h0.symm
  | ⟨1, _⟩ => rw [Rect.idx_unit_val]; exact (Nat.zero_add _).trans h1.symm

/-- Two stores of the halves leave the whole. -/
theorem canon_256 (w : Vec Ideal S4096x256 .bf16) : View.canon (Val := Elt Ideal) (e := .bf16)
    [⟨Rect.unit ![2048, 0] ![2048, 256] inb_S4096x256_S2048x256_2048_0, half256 w 2048 inb_S4096x256_S2048x256_2048_0⟩,
      ⟨Rect.unit ![0, 0] ![2048, 256] inb_S4096x256_S2048x256_0_0, half256 w 0 inb_S4096x256_S2048x256_0_0⟩] = w := by
  funext y
  canon_tiles p h using (View.cover_of_tiledL _ ![2048, 256] (by rfl) y)
  all_goals exact half256_at w _ _ _ y (by omega) (by omega)
theorem canon_1024 (w : Vec Ideal S4096x1024 .bf16) : View.canon (Val := Elt Ideal) (e := .bf16)
    [⟨Rect.unit ![2048, 0] ![2048, 1024] inb_S4096x1024_S2048x1024_2048_0, half1024 w 2048 inb_S4096x1024_S2048x1024_2048_0⟩,
      ⟨Rect.unit ![0, 0] ![2048, 1024] inb_S4096x1024_S2048x1024_0_0, half1024 w 0 inb_S4096x1024_S2048x1024_0_0⟩] = w := by
  funext y
  canon_tiles p h using (View.cover_of_tiledL _ ![2048, 1024] (by rfl) y)
  all_goals exact half1024_at w _ _ _ y (by omega) (by omega)

/-- A copied operand's half, loaded back from the scratch, is the operand's half. -/
theorem load_copied (w : Vec Ideal S4096x1024 .bf16) {M : Ref sig .tc} (v : View sig .tc M.space S4096x1024 .bf16) (a inb) :
    v.readCov (Val := Elt Ideal)
      [⟨Rect.unit ![2048, 0] ![2048, 1024] inb_S4096x1024_S2048x1024_2048_0, half1024 w 2048 inb_S4096x1024_S2048x1024_2048_0⟩,
        ⟨Rect.unit ![0, 0] ![2048, 1024] inb_S4096x1024_S2048x1024_0_0, half1024 w 0 inb_S4096x1024_S2048x1024_0_0⟩]
      (Rect.unit ![a, 0] ![2048, 1024] inb).toLoadRect = half1024 w a inb := by
  rw [View.readCov_eq_canon', canon_1024]; rfl

/-- A sum over the tokens, half by half. -/
theorem sum_halves (f : Fin 4096 → EReal) :
    ∑ i : Fin 2048, f ⟨0 + i.val, by omega⟩ + ∑ i : Fin 2048, f ⟨2048 + i.val, by omega⟩ = ∑ r, f r := by
  refine Eq.trans (congrArg₂ (· + ·) (Finset.sum_congr rfl fun i _ => congrArg f (Fin.ext (Nat.zero_add _))) (Finset.sum_congr rfl fun i _ => rfl))
    (Fin.sum_univ_add (a := 2048) (b := 2048) f).symm

/-! ## What a point leaves, over its blocks and the two copied operands -/

variable (x0 x1 : Vec Ideal S4096x256 .bf16) (x2 : Vec Ideal S256x1024 .bf16) (d h : Vec Ideal S4096x1024 .bf16)

/-- The cotangent of the gated product, and the gradients of the two hidden products. -/
def dsB : Vec Ideal S4096x256 .bf16 := fun y => ∑ j : Fin 1024, (d (ix2 (y 0) j) * x2 (ix2 (y 1) j) : EReal)
def daB : Vec Ideal S4096x256 .bf16 := fun y =>
  (dsB x2 d y * x1 y * (Ideal.logistic (x0 y) * (1 + x0 y * (1 - Ideal.logistic (x0 y)))) : EReal)
def dbB : Vec Ideal S4096x256 .bf16 := fun y => (dsB x2 d y * (x0 y * Ideal.logistic (x0 y)) : EReal)
/-- The gated product. -/
def sB : Vec Ideal S4096x256 .bf16 := fun y => (x0 y * Ideal.logistic (x0 y) * x1 y : EReal)
/-- A weight's gradient: columns against rows, summed over the tokens. -/
def wB (u : Vec Ideal S4096x256 .bf16) (v : Vec Ideal S4096x1024 .bf16) : Vec Ideal S256x1024 .bf16 :=
  fun y => ∑ r : Fin 4096, (u (ix2 r (y 0)) * v (ix2 r (y 1)) : EReal)

/-- Row `a + i`. -/
def at_ (a : Nat) (ha : a + 2048 ≤ 4096) (i : Fin 2048) : Fin 4096 := ⟨a + i.val, by omega⟩

theorem ds_half (a inb) (ha : a + 2048 ≤ 4096) (i : Fin 2048) (k : Fin 256) :
    ∑ j : Fin 1024, (half1024 d a inb (ix2 i j) * x2 (ix2 k j) : EReal) = dsB x2 d (ix2 (at_ a ha i) k) :=
  Finset.sum_congr rfl fun j _ => congrArg (fun v : EReal => v * x2 (ix2 k j)) (half1024_at d a inb (ix2 i j) (ix2 (at_ a ha i) j) rfl rfl)

theorem da_half (a inb inb') (ha : a + 2048 ≤ 4096) (i : Fin 2048) (k : Fin 256) :
    ((∑ j : Fin 1024, (half1024 d a inb (ix2 i j) * x2 (ix2 k j) : EReal)) * half256 x1 a inb' (ix2 i k)
      * (Ideal.logistic (half256 x0 a inb' (ix2 i k)) * (1 + half256 x0 a inb' (ix2 i k) * (1 - Ideal.logistic (half256 x0 a inb' (ix2 i k)))) : EReal) : EReal)
      = half256 (daB x0 x1 x2 d) a inb' (ix2 i k) := by
  rw [ds_half x2 d a inb ha, half256_at x0 a inb' (ix2 i k) (ix2 (at_ a ha i) k) rfl rfl, half256_at x1 a inb' (ix2 i k) (ix2 (at_ a ha i) k) rfl rfl,
    half256_at (daB x0 x1 x2 d) a inb' (ix2 i k) (ix2 (at_ a ha i) k) rfl rfl]
  rfl
theorem db_half (a inb inb') (ha : a + 2048 ≤ 4096) (i : Fin 2048) (k : Fin 256) :
    ((∑ j : Fin 1024, (half1024 d a inb (ix2 i j) * x2 (ix2 k j) : EReal)) * (half256 x0 a inb' (ix2 i k) * Ideal.logistic (half256 x0 a inb' (ix2 i k)) : EReal) : EReal)
      = half256 (dbB x0 x2 d) a inb' (ix2 i k) := by
  rw [ds_half x2 d a inb ha, half256_at x0 a inb' (ix2 i k) (ix2 (at_ a ha i) k) rfl rfl,
    half256_at (dbB x0 x2 d) a inb' (ix2 i k) (ix2 (at_ a ha i) k) rfl rfl]
  rfl
theorem s_half (a inb') (ha : a + 2048 ≤ 4096) (i : Fin 2048) (k : Fin 256) :
    (half256 x0 a inb' (ix2 i k) * Ideal.logistic (half256 x0 a inb' (ix2 i k)) * half256 x1 a inb' (ix2 i k) : EReal) = half256 (sB x0 x1) a inb' (ix2 i k) := by
  rw [half256_at x0 a inb' (ix2 i k) (ix2 (at_ a ha i) k) rfl rfl, half256_at x1 a inb' (ix2 i k) (ix2 (at_ a ha i) k) rfl rfl,
    half256_at (sB x0 x1) a inb' (ix2 i k) (ix2 (at_ a ha i) k) rfl rfl]
  rfl

/-! The stored halves are halves of these. -/

theorem pay17_half (inb inb') : k0_pay17 (F := Ideal) x2 (half1024 d 0 inb) (half256 x0 0 inb') (half256 x1 0 inb') = half256 (daB x0 x1 x2 d) 0 inb' := by
  funext y
  obtain ⟨i, k, rfl⟩ : ∃ (i : Fin 2048) (k : Fin 256), y = ix2 i k := ⟨y 0, y 1, idx2_eq _ _ _ rfl rfl⟩
  pointwise [k0_pay17, k0_pay10, k0_pay11, k0_pay12, k0_pay13, k0_pay14, k0_pay15]
  exact da_half x0 x1 x2 d 0 inb inb' (by omega) i k
theorem pay28_half (inb inb') : k0_pay28 (F := Ideal) (k0_pay10 x2) (half1024 d 2048 inb) (half256 x0 2048 inb') (half256 x1 2048 inb') = half256 (daB x0 x1 x2 d) 2048 inb' := by
  funext y
  obtain ⟨i, k, rfl⟩ : ∃ (i : Fin 2048) (k : Fin 256), y = ix2 i k := ⟨y 0, y 1, idx2_eq _ _ _ rfl rfl⟩
  pointwise [k0_pay28, k0_pay10, k0_pay22, k0_pay23, k0_pay24, k0_pay25, k0_pay26]
  exact da_half x0 x1 x2 d 2048 inb inb' (by omega) i k
theorem pay18_half (inb inb') : k0_pay18 (F := Ideal) (k0_pay11 x2 (half1024 d 0 inb)) (k0_pay15 (half256 x0 0 inb')) = half256 (dbB x0 x2 d) 0 inb' := by
  funext y
  obtain ⟨i, k, rfl⟩ : ∃ (i : Fin 2048) (k : Fin 256), y = ix2 i k := ⟨y 0, y 1, idx2_eq _ _ _ rfl rfl⟩
  pointwise [k0_pay18, k0_pay10, k0_pay11, k0_pay12, k0_pay14, k0_pay15]
  exact db_half x0 x2 d 0 inb inb' (by omega) i k
theorem pay29_half (inb inb') : k0_pay29 (F := Ideal) (k0_pay10 x2) (half1024 d 2048 inb) (half256 x0 2048 inb') = half256 (dbB x0 x2 d) 2048 inb' := by
  funext y
  obtain ⟨i, k, rfl⟩ : ∃ (i : Fin 2048) (k : Fin 256), y = ix2 i k := ⟨y 0, y 1, idx2_eq _ _ _ rfl rfl⟩
  pointwise [k0_pay29, k0_pay10, k0_pay22, k0_pay23, k0_pay24, k0_pay25, k0_pay26]
  exact db_half x0 x2 d 2048 inb inb' (by omega) i k
theorem pay16_half (inb') : k0_pay16 (F := Ideal) (half256 x0 0 inb') (half256 x1 0 inb') = half256 (sB x0 x1) 0 inb' := by
  funext y
  obtain ⟨i, k, rfl⟩ : ∃ (i : Fin 2048) (k : Fin 256), y = ix2 i k := ⟨y 0, y 1, idx2_eq _ _ _ rfl rfl⟩
  pointwise [k0_pay16, k0_pay12, k0_pay13, k0_pay14, k0_pay15]
  exact s_half x0 x1 0 inb' (by omega) i k
theorem pay27_half (inb') : k0_pay27 (F := Ideal) (half256 x0 2048 inb') (half256 x1 2048 inb') = half256 (sB x0 x1) 2048 inb' := by
  funext y
  obtain ⟨i, k, rfl⟩ : ∃ (i : Fin 2048) (k : Fin 256), y = ix2 i k := ⟨y 0, y 1, idx2_eq _ _ _ rfl rfl⟩
  pointwise [k0_pay27, k0_pay23, k0_pay24, k0_pay25, k0_pay26]
  exact s_half x0 x1 2048 inb' (by omega) i k

/-! The accumulated products are sums over all tokens. -/

theorem w_halves (u v) (inb inb' inb2 inb2') (k : Fin 256) (j : Fin 1024) :
    (∑ r : Fin 2048, (half256 u 0 inb (ix2 r k) * half1024 v 0 inb' (ix2 r j) : EReal)
      + ∑ r : Fin 2048, (half256 u 2048 inb2 (ix2 r k) * half1024 v 2048 inb2' (ix2 r j) : EReal) : EReal) = wB u v (ix2 k j) := by
  refine Eq.trans (congrArg₂ (fun a b : EReal => a + b) (Finset.sum_congr rfl fun r _ => ?_) (Finset.sum_congr rfl fun r _ => ?_))
    (sum_halves fun r => u (ix2 r k) * v (ix2 r j))
  · rw [half256_at u 0 inb (ix2 r k) (ix2 (at_ 0 (by omega) r) k) rfl rfl, half1024_at v 0 inb' (ix2 r j) (ix2 (at_ 0 (by omega) r) j) rfl rfl]; rfl
  · rw [half256_at u 2048 inb2 (ix2 r k) (ix2 (at_ 2048 (by omega) r) k) rfl rfl, half1024_at v 2048 inb2' (ix2 r j) (ix2 (at_ 2048 (by omega) r) j) rfl rfl]; rfl

theorem acc_d (u v) (inb inb' inb2 inb2') : k0_pay4 (F := Ideal) (k0_pay1 (F := Ideal) (k0_pay19 (F := Ideal) (k0_pay7 (F := Ideal)) (half256 u 0 inb) (half1024 v 0 inb'))
    (half256 u 2048 inb2) (half1024 v 2048 inb2')) = wB u v := by
  funext y
  obtain ⟨k, j, rfl⟩ : ∃ (k : Fin 256) (j : Fin 1024), y = ix2 k j := ⟨y 0, y 1, idx2_eq _ _ _ rfl rfl⟩
  pointwise [k0_pay4, k0_pay1, k0_pay19, k0_pay7]
  exact w_halves u v inb inb' inb2 inb2' k j
theorem acc_g (u v) (inb inb' inb2 inb2') : k0_pay5 (F := Ideal) (k0_pay2 (F := Ideal) (half1024 v 2048 inb2') (k0_pay20 (F := Ideal) (half1024 v 0 inb') (k0_pay8 (F := Ideal)) (half256 u 0 inb))
    (half256 u 2048 inb2)) = wB u v := by
  funext y
  obtain ⟨k, j, rfl⟩ : ∃ (k : Fin 256) (j : Fin 1024), y = ix2 k j := ⟨y 0, y 1, idx2_eq _ _ _ rfl rfl⟩
  pointwise [k0_pay5, k0_pay2, k0_pay20, k0_pay8]
  exact w_halves u v inb inb' inb2 inb2' k j
theorem acc_u (u v) (inb inb' inb2 inb2') : k0_pay6 (F := Ideal) (k0_pay3 (F := Ideal) (half1024 v 2048 inb2') (k0_pay21 (F := Ideal) (half1024 v 0 inb') (k0_pay9 (F := Ideal)) (half256 u 0 inb))
    (half256 u 2048 inb2)) = wB u v := by
  funext y
  obtain ⟨k, j, rfl⟩ : ∃ (k : Fin 256) (j : Fin 1024), y = ix2 k j := ⟨y 0, y 1, idx2_eq _ _ _ rfl rfl⟩
  pointwise [k0_pay6, k0_pay3, k0_pay21, k0_pay9]
  exact w_halves u v inb inb' inb2 inb2' k j

/-! ## The two kinds of point -/

/-- What a point leaves. -/
def left : Outs Ideal := (daB x0 x1 x2 d, dbB x0 x2 d, wB (sB x0 x1) d, wB (daB x0 x1 x2 d) h, wB (dbB x0 x2 d) h, d, h)

set_option maxHeartbeats 4000000 in
theorem leftB (t : Fin cfg0.N) (h0 : ¬t.val % 6 = 0) : outB m c t h0 d h = left (iblk m c 0 t) (iblk m c 1 t) (iblk m c 2 t) d h := by
  unfold outB runB left
  generalize iblk m c 0 t = x0, iblk m c 1 t = x1, iblk m c 2 t = x2
  frame_out
  simp only [View.readCov_cons_toLoadRect]
  rw [pay17_half, pay28_half, pay18_half, pay29_half, pay16_half, pay27_half, canon_256, canon_256, acc_d, acc_g, acc_u, read_unread_whole,
    read_unread_whole]

/-- The first point's run, over any blocks and operands. -/
abbrev firstRun (t : Fin cfg0.N) (h0 : t.val % 6 = 0) :=
  kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    scM0_0 (Memref.isWhole_whole _) scM0_1 (Memref.isWhole_whole _) scM0_2 (Memref.isWhole_whole _) scM0_3 (Memref.isWhole_whole _) scM0_4 (Memref.isWhole_whole _) scM0_5 (Memref.isWhole_whole _)
    ((hcond0_0 t).mpr h0) (hcond0_1 t) (hcond0_2 t) x0 x1 x2 d h

/-- A copy's half is the operand's half. -/
theorem copied34 (a inb) : ReadAs.same.apply (View.read (Elt Ideal) ((View.whole main_v34).slice (Rect.unit ![a, 0] ![2048, 1024] inb)) d) = half1024 d a inb := rfl
theorem copied37 (a inb) : ReadAs.same.apply (View.read (Elt Ideal) ((View.whole main_v37).slice (Rect.unit ![a, 0] ![2048, 1024] inb)) h) = half1024 h a inb := rfl

set_option maxHeartbeats 4000000 in
theorem left_first (t : Fin cfg0.N) (h0 : t.val % 6 = 0) :
    (VO0_3.read (Elt Ideal) (VO0_3.writes (Elt Ideal) VO0_3.junk (firstRun c x0 x1 x2 d h t h0).1),
      VO0_4.read (Elt Ideal) (VO0_4.writes (Elt Ideal) VO0_4.junk (firstRun c x0 x1 x2 d h t h0).2.1),
      VO0_5.read (Elt Ideal) (VO0_5.writes (Elt Ideal) VO0_5.junk (firstRun c x0 x1 x2 d h t h0).2.2.1),
      VO0_6.read (Elt Ideal) (VO0_6.writes (Elt Ideal) VO0_6.junk (firstRun c x0 x1 x2 d h t h0).2.2.2.1),
      VO0_7.read (Elt Ideal) (VO0_7.writes (Elt Ideal) VO0_7.junk (firstRun c x0 x1 x2 d h t h0).2.2.2.2.1),
      VS0_4.read (Elt Ideal) (VS0_4.writes (Elt Ideal) VS0_4.junk (firstRun c x0 x1 x2 d h t h0).2.2.2.2.2.1),
      VS0_5.read (Elt Ideal) (VS0_5.writes (Elt Ideal) VS0_5.junk (firstRun c x0 x1 x2 d h t h0).2.2.2.2.2.2.1)) = left x0 x1 x2 d h := by
  unfold firstRun left
  frame_out
  simp only [View.readCov_cons_toLoadRect]
  rw [copied34, copied34, copied37, copied37, load_copied, load_copied, canon_1024, canon_1024]
  rw [pay17_half, pay28_half, pay18_half, pay29_half, pay16_half, pay27_half, canon_256, canon_256, acc_d, acc_g, acc_u]

theorem leftA (t : Fin cfg0.N) (h0 : t.val % 6 = 0) :
    outA m c t h0 = left (iblk m c 0 t) (iblk m c 1 t) (iblk m c 2 t) (V m c main_v34) (V m c main_v37) := by
  unfold outA runA
  exact left_first c (iblk m c 0 t) (iblk m c 1 t) (iblk m c 2 t) (V m c main_v34) (V m c main_v37) t h0

/-- Every point leaves its blocks' values, and the two operands in scratch. -/
theorem outs_eq : ∀ (n : Nat) (hn : n < cfg0.N), outsAt m c n hn
    = left (iblk m c 0 ⟨n, hn⟩) (iblk m c 1 ⟨n, hn⟩) (iblk m c 2 ⟨n, hn⟩) (V m c main_v34) (V m c main_v37)
  | 0, hn => (outsAt_A m c ⟨0, hn⟩ rfl).trans (leftA m c ⟨0, hn⟩ rfl)
  | n + 1, hn => by
    have h0 : ¬(n + 1) % 6 = 0 := by have h6 : n + 1 < 6 := hn; omega
    refine (outsAt_B m c ⟨n + 1, hn⟩ h0).trans ?_
    show outB m c ⟨n + 1, hn⟩ h0 (outsAt m c n (by omega)).2.2.2.2.2.1 (outsAt m c n (by omega)).2.2.2.2.2.2 = _
    rw [outs_eq n (by omega)]
    exact leftB m c _ _ ⟨n + 1, hn⟩ h0

/-! ## The blocks a point stages -/

/-- Column `k` of point `t`, among part a. -/
def col (t : Fin 6) (k : Fin 256) : Fin 1536 := ⟨256 * t.val + k.val, by omega⟩

theorem index_cols : ∀ t : Fin cfg0.N, (win0_0.index t 0 = 0 ∧ win0_0.index t 1 = t.val) ∧ (win0_1.index t 0 = 0 ∧ win0_1.index t 1 = t.val)
    ∧ (win0_3.index t 0 = 0 ∧ win0_3.index t 1 = t.val) ∧ (win0_4.index t 0 = 0 ∧ win0_4.index t 1 = t.val) :=
  (by decide +kernel : ∀ t : Fin grid0.N, (win0_0.index t 0 = 0 ∧ win0_0.index t 1 = t.val) ∧ (win0_1.index t 0 = 0 ∧ win0_1.index t 1 = t.val)
    ∧ (win0_3.index t 0 = 0 ∧ win0_3.index t 1 = t.val) ∧ (win0_4.index t 0 = 0 ∧ win0_4.index t 1 = t.val))

theorem index_rows : ∀ t : Fin cfg0.N, (win0_2.index t 0 = t.val ∧ win0_2.index t 1 = 0) ∧ (win0_5.index t 0 = t.val ∧ win0_5.index t 1 = 0)
    ∧ (win0_6.index t 0 = t.val ∧ win0_6.index t 1 = 0) ∧ (win0_7.index t 0 = t.val ∧ win0_7.index t 1 = 0) :=
  (by decide +kernel : ∀ t : Fin grid0.N, (win0_2.index t 0 = t.val ∧ win0_2.index t 1 = 0) ∧ (win0_5.index t 0 = t.val ∧ win0_5.index t 1 = 0)
    ∧ (win0_6.index t 0 = t.val ∧ win0_6.index t 1 = 0) ∧ (win0_7.index t 0 = t.val ∧ win0_7.index t 1 = 0))

/-- The arguments. -/
abbrev argX : S4096x1024.Idx → EReal := m ((c : Thread nD τ).loc main_arg0)
abbrev argG : S1x1024.Idx → EReal := m ((c : Thread nD τ).loc main_arg1)
abbrev argWg : S1x1024x2816.Idx → EReal := m ((c : Thread nD τ).loc main_arg2)
abbrev argWu : S1x1024x2816.Idx → EReal := m ((c : Thread nD τ).loc main_arg3)
abbrev argWd : S1x2816x1024.Idx → EReal := m ((c : Thread nD τ).loc main_arg4)
abbrev argCt : S4096x1024.Idx → EReal := m ((c : Thread nD τ).loc main_arg5)

/-- The precondition makes the arguments arrays of reals. -/
structure Args (I : Inp) : Prop where
  x : argX m c = fun i => (I.x i : EReal)
  g : argG m c = fun i => (I.g i : EReal)
  wg : argWg m c = fun i => (I.wg i : EReal)
  wu : argWu m c = fun i => (I.wu i : EReal)
  wd : argWd m c = fun i => (I.wd i : EReal)
  ct : argCt m c = fun i => (I.ct i : EReal)

theorem prep_v38 (k : Fin 1536) (j : Fin 1024) : (V m c main_v38 : S1536x1024.Idx → EReal) (ix2 k j) = argWd m c (ix3 0 (colA k) j) := by
  unfold V; after_reads_at; rfl

variable {m c}
variable {I : Inp} (A : Args m c I)
include A
open Cert.Proof.BwdwRef

omit A in
theorem rsqrt_row (r : Fin 4096) :
    Ideal.rsqrt (((∑ k, I.x (ix2 r k) * I.x (ix2 r k)) / 1024 + eps : ℝ) : EReal) = (scale (row I r) : EReal) := rsqrt_meanSq (row I r)

theorem prep_v34 (r : Fin 4096) (j : Fin 1024) : (V m c main_v34 : S4096x1024.Idx → EReal) (ix2 r j) = ((1 / 2 * I.ct (ix2 r j) : ℝ) : EReal) := by
  unfold V; after_reads_at
  have hct : m (c, Proc.tc.devRef main_arg5) = fun i => (I.ct i : EReal) := A.ct
  simp only [hct, ofBits_half, ← EReal.coe_mul]

theorem prep_v37 (r : Fin 4096) (j : Fin 1024) : (V m c main_v37 : S4096x1024.Idx → EReal) (ix2 r j) = (hn I r j : EReal) := by
  unfold V; after_reads_at
  have hx : m (c, Proc.tc.devRef main_arg0) = fun i => (I.x i : EReal) := A.x
  have hg : m (c, Proc.tc.devRef main_arg1) = fun i => (I.g i : EReal) := A.g
  simp only [hx, hg, ← EReal.coe_mul, coe_sum, ofBits_1024, ofBits_eps, div_1024, ← EReal.coe_add]
  rw [rsqrt_row, ← EReal.coe_mul, ← EReal.coe_mul]
  rfl

theorem prep_v35 (r : Fin 4096) (k : Fin 1536) : (V m c main_v35 : S4096x1536.Idx → EReal) (ix2 r k) = (hidA I r (colA k) : EReal) := by
  unfold V; after_reads_at
  have hx : m (c, Proc.tc.devRef main_arg0) = fun i => (I.x i : EReal) := A.x
  have hg : m (c, Proc.tc.devRef main_arg1) = fun i => (I.g i : EReal) := A.g
  have hwg : m (c, Proc.tc.devRef main_arg2) = fun i => (I.wg i : EReal) := A.wg
  simp only [hx, hg, hwg, ← EReal.coe_mul, coe_sum, ofBits_1024, ofBits_eps, div_1024, ← EReal.coe_add]
  simp only [rsqrt_row, ← EReal.coe_mul, coe_sum]
  rfl

theorem prep_v36 (r : Fin 4096) (k : Fin 1536) : (V m c main_v36 : S4096x1536.Idx → EReal) (ix2 r k) = (hidB I r (colA k) : EReal) := by
  unfold V; after_reads_at
  have hx : m (c, Proc.tc.devRef main_arg0) = fun i => (I.x i : EReal) := A.x
  have hg : m (c, Proc.tc.devRef main_arg1) = fun i => (I.g i : EReal) := A.g
  have hwu : m (c, Proc.tc.devRef main_arg3) = fun i => (I.wu i : EReal) := A.wu
  simp only [hx, hg, hwu, ← EReal.coe_mul, coe_sum, ofBits_1024, ofBits_eps, div_1024, ← EReal.coe_add]
  simp only [rsqrt_row, ← EReal.coe_mul, coe_sum]
  rfl

/-! Each window's block at an element. -/

theorem blk0 (t : Fin cfg0.N) (r : Fin 4096) (k : Fin 256) : (iblk m c 0 t : S4096x256.Idx → EReal) (ix2 r k) = (hidA I r (colA (col t k)) : EReal) :=
  (congrArg (V m c main_v35) (idx2_eq _ r (col t k) (at_zero (index_cols t).1.1) (at_blk (index_cols t).1.2))).trans (prep_v35 A _ _)
theorem blk1 (t : Fin cfg0.N) (r : Fin 4096) (k : Fin 256) : (iblk m c 1 t : S4096x256.Idx → EReal) (ix2 r k) = (hidB I r (colA (col t k)) : EReal) :=
  (congrArg (V m c main_v36) (idx2_eq _ r (col t k) (at_zero (index_cols t).2.1.1) (at_blk (index_cols t).2.1.2))).trans (prep_v36 A _ _)
omit A in
theorem blk2 (t : Fin cfg0.N) (k : Fin 256) (j : Fin 1024) : (iblk m c 2 t : S256x1024.Idx → EReal) (ix2 k j) = argWd m c (ix3 0 (colA (col t k)) j) :=
  (congrArg (V m c main_v38) (idx2_eq _ (col t k) j (at_blk (index_rows t).1.1) (at_zero (index_rows t).1.2))).trans (prep_v38 m c _ _)

/-! ## A point's values at arrays of reals -/

omit A in
theorem dsB_apply (x2 : Vec Ideal S256x1024 .bf16) (d : Vec Ideal S4096x1024 .bf16) (r : Fin 4096) (k : Fin 256) :
    dsB x2 d (ix2 r k) = ∑ j : Fin 1024, (d (ix2 r j) * x2 (ix2 k j) : EReal) := rfl

theorem ds_at (t : Fin cfg0.N) (r : Fin 4096) (k : Fin 256) :
    dsB (iblk m c 2 t) (V m c main_v34) (ix2 r k) = (ds I r (colA (col t k)) : EReal) := by
  rw [dsB_apply]
  simp only [prep_v34 A, blk2, A.wd, ← EReal.coe_mul, coe_sum]
  rfl

theorem logistic_at (t : Fin cfg0.N) (r : Fin 4096) (k : Fin 256) :
    Ideal.logistic ((iblk m c 0 t : S4096x256.Idx → EReal) (ix2 r k)) = (sig I r (colA (col t k)) : EReal) := by
  rw [blk0 A, Ideal.logistic_coe]; rfl

theorem da_at (t : Fin cfg0.N) (r : Fin 4096) (k : Fin 256) :
    daB (iblk m c 0 t) (iblk m c 1 t) (iblk m c 2 t) (V m c main_v34) (ix2 r k) = (da I r (colA (col t k)) : EReal) := by
  unfold daB
  rw [ds_at A, logistic_at A, blk0 A, blk1 A]
  simp only [← EReal.coe_one, ← EReal.coe_mul, ← EReal.coe_sub, ← EReal.coe_add]
  rfl

theorem db_at (t : Fin cfg0.N) (r : Fin 4096) (k : Fin 256) :
    dbB (iblk m c 0 t) (iblk m c 2 t) (V m c main_v34) (ix2 r k) = (db I r (colA (col t k)) : EReal) := by
  unfold dbB
  rw [ds_at A, logistic_at A, blk0 A, ← EReal.coe_mul, ← EReal.coe_mul]
  rfl

theorem s_at (t : Fin cfg0.N) (r : Fin 4096) (k : Fin 256) :
    sB (iblk m c 0 t) (iblk m c 1 t) (ix2 r k) = ((hidA I r (colA (col t k)) * sig I r (colA (col t k)) * hidB I r (colA (col t k)) : ℝ) : EReal) := by
  unfold sB
  rw [logistic_at A, blk0 A, blk1 A, ← EReal.coe_mul, ← EReal.coe_mul]

omit A in
theorem wB_apply (u : Vec Ideal S4096x256 .bf16) (v : Vec Ideal S4096x1024 .bf16) (k : Fin 256) (j : Fin 1024) :
    wB u v (ix2 k j) = ∑ r : Fin 4096, (u (ix2 r k) * v (ix2 r j) : EReal) := rfl

theorem dwd_at (t : Fin cfg0.N) (k : Fin 256) (j : Fin 1024) :
    wB (sB (iblk m c 0 t) (iblk m c 1 t)) (V m c main_v34) (ix2 k j) = (dwd I (colA (col t k)) j : EReal) := by
  rw [wB_apply]
  simp only [s_at A, prep_v34 A, ← EReal.coe_mul, coe_sum]
  rfl
theorem dwg_at (t : Fin cfg0.N) (k : Fin 256) (j : Fin 1024) :
    wB (daB (iblk m c 0 t) (iblk m c 1 t) (iblk m c 2 t) (V m c main_v34)) (V m c main_v37) (ix2 k j) = (dwg I (colA (col t k)) j : EReal) := by
  rw [wB_apply]
  simp only [da_at A, prep_v37 A, ← EReal.coe_mul, coe_sum]
  rfl
theorem dwu_at (t : Fin cfg0.N) (k : Fin 256) (j : Fin 1024) :
    wB (dbB (iblk m c 0 t) (iblk m c 2 t) (V m c main_v34)) (V m c main_v37) (ix2 k j) = (dwu I (colA (col t k)) j : EReal) := by
  rw [wB_apply]
  simp only [db_at A, prep_v37 A, ← EReal.coe_mul, coe_sum]
  rfl

/-! ## The final arrays -/

/-- The five results, as arrays. -/
def arrDa (I : Inp) : S4096x1536.Idx → EReal := fun i => (da I (i 0) (colA (i 1)) : EReal)
def arrDb (I : Inp) : S4096x1536.Idx → EReal := fun i => (db I (i 0) (colA (i 1)) : EReal)
def arrDwd (I : Inp) : S1536x1024.Idx → EReal := fun i => (dwd I (colA (i 0)) (i 1) : EReal)
def arrDwg (I : Inp) : S1536x1024.Idx → EReal := fun i => (dwg I (colA (i 0)) (i 1) : EReal)
def arrDwu (I : Inp) : S1536x1024.Idx → EReal := fun i => (dwu I (colA (i 0)) (i 1) : EReal)

theorem final_da : (dats m 0 c).arrAt 3 cfg0.N = arrDa I := by
  refine (dats m 0 c).arrAt_eq_of_covers 3 _ (by decide +kernel) fun t hf (y : S4096x256.Idx) => ?_
  blk_simp
  rw [after0_3, outs_eq m c t.val t.isLt]
  obtain ⟨r, k, rfl⟩ : ∃ (r : Fin 4096) (k : Fin 256), y = ix2 r k := ⟨y 0, y 1, idx2_eq _ _ _ rfl rfl⟩
  exact (da_at A t r k).trans (congrArg (arrDa I) (idx2_eq _ r (col t k) (at_zero (index_cols t).2.2.1.1) (at_blk (index_cols t).2.2.1.2))).symm

theorem final_db : (dats m 0 c).arrAt 4 cfg0.N = arrDb I := by
  refine (dats m 0 c).arrAt_eq_of_covers 4 _ (by decide +kernel) fun t hf (y : S4096x256.Idx) => ?_
  blk_simp
  rw [after0_4, outs_eq m c t.val t.isLt]
  obtain ⟨r, k, rfl⟩ : ∃ (r : Fin 4096) (k : Fin 256), y = ix2 r k := ⟨y 0, y 1, idx2_eq _ _ _ rfl rfl⟩
  exact (db_at A t r k).trans (congrArg (arrDb I) (idx2_eq _ r (col t k) (at_zero (index_cols t).2.2.2.1) (at_blk (index_cols t).2.2.2.2))).symm

theorem final_dwd : (dats m 0 c).arrAt 5 cfg0.N = arrDwd I := by
  refine (dats m 0 c).arrAt_eq_of_covers 5 _ (by decide +kernel) fun t hf (y : S256x1024.Idx) => ?_
  blk_simp
  rw [after0_5, outs_eq m c t.val t.isLt]
  obtain ⟨k, j, rfl⟩ : ∃ (k : Fin 256) (j : Fin 1024), y = ix2 k j := ⟨y 0, y 1, idx2_eq _ _ _ rfl rfl⟩
  exact (dwd_at A t k j).trans (congrArg (arrDwd I) (idx2_eq _ (col t k) j (at_blk (index_rows t).2.1.1) (at_zero (index_rows t).2.1.2))).symm

theorem final_dwg : (dats m 0 c).arrAt 6 cfg0.N = arrDwg I := by
  refine (dats m 0 c).arrAt_eq_of_covers 6 _ (by decide +kernel) fun t hf (y : S256x1024.Idx) => ?_
  blk_simp
  rw [after0_6, outs_eq m c t.val t.isLt]
  obtain ⟨k, j, rfl⟩ : ∃ (k : Fin 256) (j : Fin 1024), y = ix2 k j := ⟨y 0, y 1, idx2_eq _ _ _ rfl rfl⟩
  exact (dwg_at A t k j).trans (congrArg (arrDwg I) (idx2_eq _ (col t k) j (at_blk (index_rows t).2.2.1.1) (at_zero (index_rows t).2.2.1.2))).symm

theorem final_dwu : (dats m 0 c).arrAt 7 cfg0.N = arrDwu I := by
  refine (dats m 0 c).arrAt_eq_of_covers 7 _ (by decide +kernel) fun t hf (y : S256x1024.Idx) => ?_
  blk_simp
  rw [after0_7, outs_eq m c t.val t.isLt]
  obtain ⟨k, j, rfl⟩ : ∃ (k : Fin 256) (j : Fin 1024), y = ix2 k j := ⟨y 0, y 1, idx2_eq _ _ _ rfl rfl⟩
  exact (dwu_at A t k j).trans (congrArg (arrDwu I) (idx2_eq _ (col t k) j (at_blk (index_rows t).2.2.2.1) (at_zero (index_rows t).2.2.2.2))).symm

end Cert.Proof.BwdwKernel

end
-- ==== Proof.BwdwClaim.lean ====
module

public import proofs.«01_k».proof.Defs
public import proofs.«01_k».proof.Proof.Gen.Bwdw
public import proofs.«01_k».proof.Proof.Gen.BwdwRefIdeal.Run
public import proofs.«01_k».proof.Proof.Gen.Pre_finite_bwdw
public import proofs.«01_k».proof.Proof.BwdwKernel
public import Idealize.ShloMosaic.Adequacy
@[expose] public section
/-! # The claims of a feed-forward layer's gradients

From arrays of finite numbers the kernel and the forward lines with their derivative end with the same five results: both are
`BwdwKernel`'s `arrDa`, `arrDb`, `arrDwd`, `arrDwg` and `arrDwu`. -/

noncomputable section

namespace Cert.Proof.BwdwClaim

open Idealize.ShloMosaic Idealize.ShloMosaic.TcCoe Idealize.SL.Sem Cert.Proof.Reals Cert.Proof.BwdwKernel
open Cert.Proof.BwdwRef (Inp)

/-! ## The frames -/

/-- The frame of the idealized kernel's text, its operations read on bit patterns. -/
def FrameBits : Prop := ∀ (m : (ℓ : Loc Cert.BwdwIdeal.nD Cert.BwdwIdeal.τ Cert.BwdwIdeal.sig) → Buf (Elt Bits) ℓ)
    (ρ : Dev Cert.BwdwIdeal.nD → PrngReg), True →
  θ_run Cert.BwdwIdeal.defs (onTc (τ := Cert.BwdwIdeal.τ) (Cert.BwdwIdeal.main (F := Bits))) ⟨m, fun _ => 0, ρ⟩ (fun r => (∀ c : Dev Cert.BwdwIdeal.nD,
      r.2.mem ((c.tc : Thread Cert.BwdwIdeal.nD Cert.BwdwIdeal.τ).loc Cert.BwdwIdeal.main_arg0) = m ((c.tc : Thread Cert.BwdwIdeal.nD Cert.BwdwIdeal.τ).loc Cert.BwdwIdeal.main_arg0)
      ∧ r.2.mem ((c.tc : Thread Cert.BwdwIdeal.nD Cert.BwdwIdeal.τ).loc Cert.BwdwIdeal.main_arg1) = m ((c.tc : Thread Cert.BwdwIdeal.nD Cert.BwdwIdeal.τ).loc Cert.BwdwIdeal.main_arg1)
      ∧ r.2.mem ((c.tc : Thread Cert.BwdwIdeal.nD Cert.BwdwIdeal.τ).loc Cert.BwdwIdeal.main_arg2) = m ((c.tc : Thread Cert.BwdwIdeal.nD Cert.BwdwIdeal.τ).loc Cert.BwdwIdeal.main_arg2)
      ∧ r.2.mem ((c.tc : Thread Cert.BwdwIdeal.nD Cert.BwdwIdeal.τ).loc Cert.BwdwIdeal.main_arg3) = m ((c.tc : Thread Cert.BwdwIdeal.nD Cert.BwdwIdeal.τ).loc Cert.BwdwIdeal.main_arg3)
      ∧ r.2.mem ((c.tc : Thread Cert.BwdwIdeal.nD Cert.BwdwIdeal.τ).loc Cert.BwdwIdeal.main_arg4) = m ((c.tc : Thread Cert.BwdwIdeal.nD Cert.BwdwIdeal.τ).loc Cert.BwdwIdeal.main_arg4)
      ∧ r.2.mem ((c.tc : Thread Cert.BwdwIdeal.nD Cert.BwdwIdeal.τ).loc Cert.BwdwIdeal.main_arg5) = m ((c.tc : Thread Cert.BwdwIdeal.nD Cert.BwdwIdeal.τ).loc Cert.BwdwIdeal.main_arg5))
      ∧ r.2.sem = fun _ => 0)

/-- The compiled kernel's text is the idealized kernel's, -/
theorem frame_text : FrameBits = Cert.quiescent_Bwdw := by sl_kernel_rfl

/-- so one run serves both. -/
theorem frame_kernel : Cert.quiescent_Bwdw := frame_text.mp fun m ρ _ => BwdwFrame.frame (F := Bits) m ρ

theorem frame_ideal : Cert.quiescent_BwdwIdeal := fun m ρ _ => BwdwFrame.frame (F := Ideal) m ρ

theorem frame_ref : Cert.quiescent_BwdwRefIdeal := fun m ρ _ =>
  (θ_run Cert.BwdwRefIdeal.defs _ _).mono (fun r h => ⟨fun c => (h c).2.2.2.2.2, sem_eq_zero_of_no_sems (by decide) r.2⟩)
    (Cert.BwdwRefIdeal.Value.run (F := Ideal) m ρ)

/-! ## The values -/

variable (m : (ℓ : Loc Cert.BwdwIdeal.nD Cert.BwdwIdeal.τ Cert.BwdwIdeal.sig) → Buf (Elt Ideal) ℓ)

/-- The precondition says that the arguments are arrays of reals. -/
theorem args_of_pre (h : Cert.Pre_BwdwIdeal_finite_bwdw m) (c : Dev Cert.BwdwIdeal.nD) : ∃ I : Inp, Args m c I := by
  have e := congrFun (h c) (fun a => a.elim0)
  dsimp only [Cert.Pre_finite_bwdw.fn, Cert.Pre_finite_bwdw.fn_part1] at e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  obtain ⟨x, hx⟩ := reals_of_all _ _ (fun _ => rfl) _ _ _ _ h0
  obtain ⟨g, hg⟩ := reals_of_all _ _ (fun _ => rfl) _ _ _ _ h1
  obtain ⟨wg, hwg⟩ := reals_of_all _ _ (fun _ => rfl) _ _ _ _ h2
  obtain ⟨wu, hwu⟩ := reals_of_all _ _ (fun _ => rfl) _ _ _ _ h3
  obtain ⟨wd, hwd⟩ := reals_of_all _ _ (fun _ => rfl) _ _ _ _ h4
  obtain ⟨ct, hct⟩ := reals_of_all _ _ (fun _ => rfl) _ _ _ _ h5
  exact ⟨⟨x, g, wg, wu, wd, ct⟩, hx, hg, hwg, hwu, hwd, hct⟩

open Cert.BwdwIdeal Cert.BwdwIdeal.Gen BwdwFrame in
/-- The run with the five results named and the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v39_0) = (dats m 0 c).arrAt 3 cfg0.N
      ∧ r.2.mem ((c : Thread nD τ).loc main_v39_1) = (dats m 0 c).arrAt 4 cfg0.N
      ∧ r.2.mem ((c : Thread nD τ).loc main_v39_2) = (dats m 0 c).arrAt 5 cfg0.N
      ∧ r.2.mem ((c : Thread nD τ).loc main_v39_3) = (dats m 0 c).arrAt 6 cfg0.N
      ∧ r.2.mem ((c : Thread nD τ).loc main_v39_4) = (dats m 0 c).arrAt 7 cfg0.N :=
  (θ_run defs _ _).mono (fun _ h c => ⟨(h c).1 3, (h c).1 4, (h c).1 5, (h c).1 6, (h c).1 7⟩) (run_main m ρ)

set_option maxHeartbeats 2000000 in
theorem algebraic : Cert.algebraic_BwdwIdeal_BwdwRefIdeal_pre_finite_bwdw := by
  intro m ρ m' ρ' hpre hag
  choose I A using args_of_pre m hpre
  refine ⟨fun c => arrDa (I c), fun c => arrDb (I c), fun c => arrDwd (I c), fun c => arrDwg (I c), fun c => arrDwu (I c), ?_, ?_⟩
  · refine (θ_run _ _ _).mono (fun r h c => ?_) (θ_run_and (run_blocks m ρ) (BwdwFrame.unchanged m ρ))
    obtain ⟨r0, r1, r2, r3, r4⟩ := h.1 c
    exact ⟨r0.trans (final_da (A c)), r1.trans (final_db (A c)), r2.trans (final_dwd (A c)), r3.trans (final_dwg (A c)),
      r4.trans (final_dwu (A c)), h.2 c⟩
  · refine (θ_run _ _ _).mono (fun r h c => ?_) (Cert.BwdwRefIdeal.Value.run (F := Ideal) m' ρ')
    obtain ⟨e0, e1, e2, e3, e4, e5⟩ := hag c
    obtain ⟨r0, r1, r2, r3, r4, hk⟩ := h c
    have hx := (A c).x; have hg := (A c).g; have hwg := (A c).wg; have hwu := (A c).wu; have hwd := (A c).wd; have hct := (A c).ct
    dsimp only [argX, argG, argWg, argWu, argWd, argCt] at hx hg hwg hwu hwd hct
    refine ⟨r0.trans ?_, r1.trans ?_, r2.trans ?_, r3.trans ?_, r4.trans ?_, hk⟩
    · rw [Cert.BwdwRefIdeal.Read.val_main_v55_eq, e0, e1, e2, e3, e4, e5, hx, hg, hwg, hwu, hwd, hct]
      funext i
      obtain ⟨r, k, rfl⟩ : ∃ (r : Fin 4096) (k : Fin 1536), i = ix2 r k := ⟨i 0, i 1, eq_ix2 i⟩
      exact Cert.Proof.BwdwRef.res_da (I c) r k
    · rw [Cert.BwdwRefIdeal.Read.val_main_v56_eq, e0, e1, e2, e4, e5, hx, hg, hwg, hwd, hct]
      funext i
      obtain ⟨r, k, rfl⟩ : ∃ (r : Fin 4096) (k : Fin 1536), i = ix2 r k := ⟨i 0, i 1, eq_ix2 i⟩
      exact Cert.Proof.BwdwRef.res_db (I c) r k
    · rw [Cert.BwdwRefIdeal.Read.val_main_v57_eq, e0, e1, e2, e3, e5, hx, hg, hwg, hwu, hct]
      funext i
      obtain ⟨k, j, rfl⟩ : ∃ (k : Fin 1536) (j : Fin 1024), i = ix2 k j := ⟨i 0, i 1, eq_ix2 i⟩
      exact Cert.Proof.BwdwRef.res_dwd (I c) k j
    · rw [Cert.BwdwRefIdeal.Read.val_main_v58_eq, e0, e1, e2, e3, e4, e5, hx, hg, hwg, hwu, hwd, hct]
      funext i
      obtain ⟨k, j, rfl⟩ : ∃ (k : Fin 1536) (j : Fin 1024), i = ix2 k j := ⟨i 0, i 1, eq_ix2 i⟩
      exact Cert.Proof.BwdwRef.res_dwg (I c) k j
    · rw [Cert.BwdwRefIdeal.Read.val_main_v59_eq, e0, e1, e2, e4, e5, hx, hg, hwg, hwd, hct]
      funext i
      obtain ⟨k, j, rfl⟩ : ∃ (k : Fin 1536) (j : Fin 1024), i = ix2 k j := ⟨i 0, i 1, eq_ix2 i⟩
      exact Cert.Proof.BwdwRef.res_dwu (I c) k j

end Cert.Proof.BwdwClaim

end
-- ==== Proof.FfnRef.lean ====
module

public import proofs.«01_k».proof.Proof.Reals
public import proofs.«01_k».proof.Proof.Cols
public import proofs.«01_k».proof.Proof.Gen.FfnRefIdeal.Run
public import proofs.«01_k».proof.Proof.Gen.FfnRefIdeal.Read
public import Idealize.ShloMosaic.Lib.Pointwise
public import Idealize.ShloMosaic.Lib.StableHlo.ReadAt
@[expose] public section
/-! # The forward lines of a gated layer, first part of its columns

What the reference computes, at an element: the normalised input, the two hidden products, and the layer's output as far as the
first part of the hidden columns gives it. All of it on extended reals, so nothing is asked of the arguments. -/

set_option maxRecDepth 16384

noncomputable section

namespace Cert.Proof.FfnRef

open Cert.FfnRefIdeal Cert.FfnRefIdeal.Read Idealize.ShloMosaic Idealize.SL.Sem
open Cert.Proof.Reals Cert.Proof.Cols

/-- The layer's arrays. -/
structure Arr where
  x : S4096x1024.Idx → EReal
  g : S1x1024.Idx → EReal
  wg : S1x1024x2816.Idx → EReal
  wu : S1x1024x2816.Idx → EReal
  wd : S1x2816x1024.Idx → EReal

variable (I : Arr)

/-- The normalised input. -/
def hn (r : Fin 4096) (j : Fin 1024) : EReal :=
  I.x (ix2 r j) * Ideal.rsqrt (Ideal.div (∑ k : Fin 1024, I.x (ix2 r k) * I.x (ix2 r k)) (Ideal.ofBits .f32 0x44800000#32) + Ideal.ofBits .f32 0x358637BD#32)
    * I.g (ix2 0 j)

/-- The two hidden products. -/
def hidA (r : Fin 4096) (k : Fin 2816) : EReal := ∑ j : Fin 1024, hn I r j * I.wg (ix3 0 j k)
def hidB (r : Fin 4096) (k : Fin 2816) : EReal := ∑ j : Fin 1024, hn I r j * I.wu (ix3 0 j k)

/-- The layer's output, as far as the first part of the columns gives it. -/
def out (r : Fin 4096) (j : Fin 1024) : EReal :=
  I.x (ix2 r j) + Ideal.ofBits .f32 0x3F000000#32
    * ∑ k : Fin 1536, hidA I r (colA k) * Ideal.logistic (hidA I r (colA k)) * hidB I r (colA k) * I.wd (ix3 0 (colA k) j)

theorem val_hn (r : Fin 4096) (j : Fin 1024) : val_main_v13 (F := Ideal) I.x I.g (ix2 r j) = hn I r j := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem val_h (r : Fin 4096) (j : Fin 1024) : val_main_v36 (F := Ideal) I.x I.g (ix2 r j) = hn I r j := val_hn I r j

theorem val_a (r : Fin 4096) (k : Fin 1536) : val_main_v18 (F := Ideal) I.x I.g I.wg (ix2 r k) = hidA I r (colA k) := by
  pointwise [val_main_v18, val_main_v17, val_main_v16, val_main_v15, val_main_v14]
  simp only [val_hn]
  rfl

theorem val_b (r : Fin 4096) (k : Fin 1536) : val_main_v23 (F := Ideal) I.x I.g I.wu (ix2 r k) = hidB I r (colA k) := by
  pointwise [val_main_v23, val_main_v22, val_main_v21, val_main_v20, val_main_v19]
  simp only [val_hn]
  rfl

theorem val_resA (r : Fin 4096) (k : Fin 1536) : val_main_v37 (F := Ideal) I.x I.g I.wg (ix2 r k) = hidA I r (colA k) := val_a I r k
theorem val_resB (r : Fin 4096) (k : Fin 1536) : val_main_v38 (F := Ideal) I.x I.g I.wu (ix2 r k) = hidB I r (colA k) := val_b I r k

theorem val_gate (r : Fin 4096) (k : Fin 1536) :
    val_main_call0_v5 (F := Ideal) I.x I.g I.wg (ix2 r k) = Ideal.logistic (hidA I r (colA k)) := by
  pointwise [val_main_call0_v5, val_main_call0_v4, val_main_call0_v3, val_main_call0_v2, val_main_call0_v1, val_main_call0_v0,
    val_main_call0_cst, val_main_call0_cst_0]
  rw [val_a]
  rfl

theorem val_out (r : Fin 4096) (j : Fin 1024) : val_main_v35 (F := Ideal) I.x I.g I.wg I.wu I.wd (ix2 r j) = out I r j := by
  pointwise [val_main_v35, val_main_v34, val_main_v33, val_main_v32, val_main_v31, val_main_v30, val_main_v29, val_main_v28, val_main_v27,
    val_main_v26, val_main_v25, val_main_v24, val_main_cst_2]
  simp only [val_a, val_b, val_gate]
  rfl

end Cert.Proof.FfnRef

end
-- ==== Proof.FfnKernel.lean ====
module

public import proofs.«01_k».proof.Proof.Gen.FfnIdeal.Value
public import proofs.«01_k».proof.Proof.FfnRef
public import proofs.«01_k».proof.Proof.Cols
public import Idealize.ShloMosaic.Lib.StableHlo.ReadAt
public import Idealize.ShloMosaic.Lib.Pipeline.ValueKit
public import Idealize.ShloMosaic.Lib.Pipeline.ReadBack
@[expose] public section
/-! # The kernel of a gated layer's first part, read at an element

Eight grid points take 512 tokens each. A point normalises its tokens, computes the hidden columns of the first part in six slabs
of 256, keeps both hidden products and their gated product, and multiplies the gated product with the rows of the second weight. -/

set_option maxRecDepth 16384

noncomputable section

namespace Cert.Proof.FfnKernel

open Cert.FfnIdeal Cert.FfnIdeal.Gen Cert.FfnIdeal.Value Idealize.ShloMosaic Idealize.ShloMosaic.TcCoe Idealize.SL.Sem
open Cert.Proof.Reals Cert.Proof.Cols
open Cert.Proof.FfnRef (Arr)

variable (m : (ℓ : Loc nD τ sig) → Buf (Elt Ideal) ℓ) (c : Dev nD)

/-! ## The slabs of a point -/

/-- A hidden product of a block of tokens: rows against rows of the transposed weight. -/
def hid (x : FVec Ideal S512x1024 .bf16) (w : FVec Ideal S1536x1024 .bf16) : FVec Ideal S512x1536 .bf16 :=
  fun y => ∑ j : Fin 1024, (x (ix2 (y 0) j) * w (ix2 (y 1) j) : EReal)

/-- The gated product of a block of tokens. -/
def act (x : FVec Ideal S512x1024 .bf16) (w u : FVec Ideal S1536x1024 .bf16) : FVec Ideal S512x1536 .bf16 :=
  fun y => hid x w y * Ideal.logistic (hid x w y) * hid x u y

/-- 256 rows of the transposed weight, from row `a`. -/
abbrev rows (w : FVec Ideal S1536x1024 .bf16) (a : Nat) (inb : ∀ i, (![a, 0] : Fin 2 → Nat) i + (![256, 1024] : Fin 2 → Nat) i ≤ S1536x1024.size i) : FVec Ideal S256x1024 .bf16 :=
  View.ld (Val := Elt Ideal) (e' := .bf16) w (Rect.unit (s := S1536x1024) ![a, 0] ![256, 1024] inb)

/-- A point's slabs of the first hidden product, as the six stores leave them. -/
abbrev slabsA (x0 : FVec Ideal S512x1024 .f32) (x1 : FVec Ideal S1x1024 .f32) (x2 : FVec Ideal S1536x1024 .bf16) : List (View.Piece (Elt Ideal) S512x1536 .bf16) :=
  [⟨Rect.unit ![0, 1280] ![512, 256] inb_S512x1536_S512x256_0_1280, k0_pay5 (F := Ideal) (k0_pay8 x0 x1) (rows x2 1280 inb_S1536x1024_S256x1024_1280_0)⟩,
    ⟨Rect.unit ![0, 1024] ![512, 256] inb_S512x1536_S512x256_0_1024, k0_pay32 (F := Ideal) (k0_pay8 x0 x1) (rows x2 1024 inb_S1536x1024_S256x1024_1024_0)⟩,
    ⟨Rect.unit ![0, 768] ![512, 256] inb_S512x1536_S512x256_0_768, k0_pay27 (F := Ideal) (k0_pay8 x0 x1) (rows x2 768 inb_S1536x1024_S256x1024_768_0)⟩,
    ⟨Rect.unit ![0, 512] ![512, 256] inb_S512x1536_S512x256_0_512, k0_pay22 (F := Ideal) (k0_pay8 x0 x1) (rows x2 512 inb_S1536x1024_S256x1024_512_0)⟩,
    ⟨Rect.unit ![0, 256] ![512, 256] inb_S512x1536_S512x256_0_256, k0_pay17 (F := Ideal) (k0_pay8 x0 x1) (rows x2 256 inb_S1536x1024_S256x1024_256_0)⟩,
    ⟨Rect.unit ![0, 0] ![512, 256] inb_S512x1536_S512x256_0_0, k0_pay12 (F := Ideal) x0 x1 (rows x2 0 inb_S1536x1024_S256x1024_0_0)⟩]

/-- … of the second … -/
abbrev slabsB (x0 : FVec Ideal S512x1024 .f32) (x1 : FVec Ideal S1x1024 .f32) (x3 : FVec Ideal S1536x1024 .bf16) : List (View.Piece (Elt Ideal) S512x1536 .bf16) :=
  [⟨Rect.unit ![0, 1280] ![512, 256] inb_S512x1536_S512x256_0_1280, k0_pay6 (F := Ideal) (k0_pay8 x0 x1) (rows x3 1280 inb_S1536x1024_S256x1024_1280_0)⟩,
    ⟨Rect.unit ![0, 1024] ![512, 256] inb_S512x1536_S512x256_0_1024, k0_pay1 (F := Ideal) (k0_pay30 (k0_pay8 x0 x1) (rows x3 1024 inb_S1536x1024_S256x1024_1024_0))⟩,
    ⟨Rect.unit ![0, 768] ![512, 256] inb_S512x1536_S512x256_0_768, k0_pay28 (F := Ideal) (k0_pay8 x0 x1) (rows x3 768 inb_S1536x1024_S256x1024_768_0)⟩,
    ⟨Rect.unit ![0, 512] ![512, 256] inb_S512x1536_S512x256_0_512, k0_pay23 (F := Ideal) (k0_pay8 x0 x1) (rows x3 512 inb_S1536x1024_S256x1024_512_0)⟩,
    ⟨Rect.unit ![0, 256] ![512, 256] inb_S512x1536_S512x256_0_256, k0_pay18 (F := Ideal) (k0_pay8 x0 x1) (rows x3 256 inb_S1536x1024_S256x1024_256_0)⟩,
    ⟨Rect.unit ![0, 0] ![512, 256] inb_S512x1536_S512x256_0_0, k0_pay13 (F := Ideal) x0 x1 (rows x3 0 inb_S1536x1024_S256x1024_0_0)⟩]

/-- … and of the gated product. -/
abbrev slabsS (x0 : FVec Ideal S512x1024 .f32) (x1 : FVec Ideal S1x1024 .f32) (x2 x3 : FVec Ideal S1536x1024 .bf16) : List (View.Piece (Elt Ideal) S512x1536 .bf16) :=
  [⟨Rect.unit ![0, 1280] ![512, 256] inb_S512x1536_S512x256_0_1280, k0_pay4 (F := Ideal) (k0_pay8 x0 x1) (rows x2 1280 inb_S1536x1024_S256x1024_1280_0) (rows x3 1280 inb_S1536x1024_S256x1024_1280_0)⟩,
    ⟨Rect.unit ![0, 1024] ![512, 256] inb_S512x1536_S512x256_0_1024, k0_pay31 (F := Ideal) (k0_pay8 x0 x1) (rows x2 1024 inb_S1536x1024_S256x1024_1024_0) (rows x3 1024 inb_S1536x1024_S256x1024_1024_0)⟩,
    ⟨Rect.unit ![0, 768] ![512, 256] inb_S512x1536_S512x256_0_768, k0_pay26 (F := Ideal) (k0_pay8 x0 x1) (rows x2 768 inb_S1536x1024_S256x1024_768_0) (rows x3 768 inb_S1536x1024_S256x1024_768_0)⟩,
    ⟨Rect.unit ![0, 512] ![512, 256] inb_S512x1536_S512x256_0_512, k0_pay21 (F := Ideal) (k0_pay8 x0 x1) (rows x2 512 inb_S1536x1024_S256x1024_512_0) (rows x3 512 inb_S1536x1024_S256x1024_512_0)⟩,
    ⟨Rect.unit ![0, 256] ![512, 256] inb_S512x1536_S512x256_0_256, k0_pay16 (F := Ideal) (k0_pay8 x0 x1) (rows x2 256 inb_S1536x1024_S256x1024_256_0) (rows x3 256 inb_S1536x1024_S256x1024_256_0)⟩,
    ⟨Rect.unit ![0, 0] ![512, 256] inb_S512x1536_S512x256_0_0, k0_pay11 (F := Ideal) x0 x1 (rows x2 0 inb_S1536x1024_S256x1024_0_0) (rows x3 0 inb_S1536x1024_S256x1024_0_0)⟩]

/-- A slab's product is the hidden product's columns from `a`. -/
theorem slab_hid (x : FVec Ideal S512x1024 .bf16) (w : FVec Ideal S1536x1024 .bf16) (a inb) (y : S512x1536.Idx) (i : Fin 512) (n : Fin 256)
    (h0 : (y 0).val = i.val) (h1 : (y 1).val = a + n.val) :
    ∑ k : Fin 1024, (x (ix2 i k) * rows w a inb (ix2 n k) : EReal) = hid x w y := by
  obtain rfl : i = y 0 := Fin.ext h0.symm
  refine Finset.sum_congr rfl fun k _ => congrArg (fun v : EReal => x (ix2 (y 0) k) * v) ?_
  refine congrArg w (funext fun b => Fin.ext ?_)
  match b with
  | ⟨0, _⟩ => rw [Rect.idx_unit_val]; exact h1.symm
  | ⟨1, _⟩ => rw [Rect.idx_unit_val]; exact Nat.zero_add _

theorem canon_slabsA (x0 x1 w) : View.canon (slabsA x0 x1 w) = hid (k0_pay8 x0 x1) w := by
  funext y
  unfold slabsA
  generalize hx : k0_pay8 (F := Ideal) x0 x1 = x
  canon_tiles p h using (View.cover_of_tiledL _ ![512, 256] (by rfl) y)
  all_goals
    pointwise [k0_pay2, k0_pay5, k0_pay9, k0_pay12, k0_pay14, k0_pay17, k0_pay19, k0_pay22, k0_pay24, k0_pay27, k0_pay29, k0_pay32]
    try rw [hx]
    exact slab_hid x w _ _ y _ _ h0 (by omega)

theorem canon_slabsB (x0 x1 u) : View.canon (slabsB x0 x1 u) = hid (k0_pay8 x0 x1) u := by
  funext y
  unfold slabsB
  generalize hx : k0_pay8 (F := Ideal) x0 x1 = x
  canon_tiles p h using (View.cover_of_tiledL _ ![512, 256] (by rfl) y)
  all_goals
    pointwise [k0_pay1, k0_pay3, k0_pay6, k0_pay10, k0_pay13, k0_pay15, k0_pay18, k0_pay20, k0_pay23, k0_pay25, k0_pay28, k0_pay30]
    try rw [hx]
    exact slab_hid x u _ _ y _ _ h0 (by omega)

theorem canon_slabsS (x0 x1 w u) : View.canon (slabsS x0 x1 w u) = act (k0_pay8 x0 x1) w u := by
  funext y
  unfold slabsS
  generalize hx : k0_pay8 (F := Ideal) x0 x1 = x
  canon_tiles p h using (View.cover_of_tiledL _ ![512, 256] (by rfl) y)
  all_goals
    pointwise [k0_pay2, k0_pay3, k0_pay4, k0_pay9, k0_pay10, k0_pay11, k0_pay14, k0_pay15, k0_pay16, k0_pay19, k0_pay20, k0_pay21, k0_pay24, k0_pay25,
      k0_pay26, k0_pay29, k0_pay30, k0_pay31]
    try rw [hx]
    exact congrArg₂ (fun v z : EReal => v * Ideal.logistic v * z) (slab_hid x w _ _ y _ _ h0 (by omega)) (slab_hid x u _ _ y _ _ h0 (by omega))

/-- The point loads the whole gated product back. -/
theorem load_slabsS (x0 x1 w u) (inb) : (View.whole cc0_scratch0).readCov (slabsS x0 x1 w u) (Rect.unit ![0, 0] ![512, 1536] inb).toLoadRect = act (k0_pay8 x0 x1) w u := by
  rw [View.readCov_eq_canon', canon_slabsS]
  funext y
  refine congrArg (act (k0_pay8 x0 x1) w u) (funext fun b => Fin.ext ?_)
  match b with
  | ⟨0, _⟩ => rw [Rect.idx_unit_val]; exact Nat.zero_add _
  | ⟨1, _⟩ => rw [Rect.idx_unit_val]; exact Nat.zero_add _

/-! ## What a point leaves -/

/-- Point `t`'s block of the normalised input. -/
abbrev blockH (t : Fin cfg0.N) : FVec Ideal S512x1024 .bf16 := k0_pay8 (iblk m c 0 t) (iblk m c 1 t)

theorem outs (t : Fin cfg0.N) :
    outsAt0 m c t = (k0_pay7 (iblk m c 0 t) (act (blockH m c t) (iblk m c 2 t) (iblk m c 3 t)) (iblk m c 4 t), blockH m c t,
      hid (blockH m c t) (iblk m c 2 t), hid (blockH m c t) (iblk m c 3 t)) := by
  unfold outsAt0 blockH
  generalize iblk m c 0 t = x0, iblk m c 1 t = x1, iblk m c 2 t = x2, iblk m c 3 t = x3, iblk m c 4 t = x4
  frame_out
  rw [load_slabsS x0 x1 x2 x3]
  exact congrArg₂ (fun a b => (_, _, a, b)) (canon_slabsA x0 x1 x2) (canon_slabsB x0 x1 x3)

/-! ## The blocks a point stages -/

theorem index_tok : ∀ t : Fin cfg0.N, (win0_0.index t 0 = t.val ∧ win0_0.index t 1 = 0) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) :=
  (by decide +kernel : ∀ t : Fin grid0.N, (win0_0.index t 0 = t.val ∧ win0_0.index t 1 = 0) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0))

theorem index_whole : ∀ t : Fin cfg0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) :=
  (by decide +kernel : ∀ t : Fin grid0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0))

/-- The arguments. -/
def args : Arr where
  x := m ((c : Thread nD τ).loc main_arg0)
  g := m ((c : Thread nD τ).loc main_arg1)
  wg := m ((c : Thread nD τ).loc main_arg2)
  wu := m ((c : Thread nD τ).loc main_arg3)
  wd := m ((c : Thread nD τ).loc main_arg4)

theorem prep_v5 (k : Fin 1536) (j : Fin 1024) : (V m c main_v5 : S1536x1024.Idx → EReal) (ix2 k j) = (args m c).wg (ix3 0 j (colA k)) := by
  unfold V; after_reads_at; rfl
theorem prep_v11 (k : Fin 1536) (j : Fin 1024) : (V m c main_v11 : S1536x1024.Idx → EReal) (ix2 k j) = (args m c).wu (ix3 0 j (colA k)) := by
  unfold V; after_reads_at; rfl
theorem prep_v16 (k : Fin 1536) (j : Fin 1024) : (V m c main_v16 : S1536x1024.Idx → EReal) (ix2 k j) = (args m c).wd (ix3 0 (colA k) j) := by
  unfold V; after_reads_at; rfl

/-! Each window's block at an element. -/

theorem blk0 (t : Fin cfg0.N) (i : Fin 512) (j : Fin 1024) : (iblk m c 0 t : S512x1024.Idx → EReal) (ix2 i j) = (args m c).x (ix2 (tok t i) j) :=
  (congrArg (V m c main_arg0) (idx2_eq _ (tok t i) j (at_blk (index_tok t).1.1) (at_zero (index_tok t).1.2))).trans (congrFun (V_main_arg0 m c) _)
theorem blk1 (t : Fin cfg0.N) (j : Fin 1024) : (iblk m c 1 t : S1x1024.Idx → EReal) (ix2 0 j) = (args m c).g (ix2 0 j) :=
  (congrArg (V m c main_arg1) (idx2_eq _ 0 j (at_zero (index_whole t).1.1) (at_zero (index_whole t).1.2))).trans (congrFun (V_main_arg1 m c) _)
theorem blk2 (t : Fin cfg0.N) (k : Fin 1536) (j : Fin 1024) : (iblk m c 2 t : S1536x1024.Idx → EReal) (ix2 k j) = (args m c).wg (ix3 0 j (colA k)) :=
  (congrArg (V m c main_v5) (idx2_eq _ k j (at_zero (index_whole t).2.1.1) (at_zero (index_whole t).2.1.2))).trans (prep_v5 m c _ _)
theorem blk3 (t : Fin cfg0.N) (k : Fin 1536) (j : Fin 1024) : (iblk m c 3 t : S1536x1024.Idx → EReal) (ix2 k j) = (args m c).wu (ix3 0 j (colA k)) :=
  (congrArg (V m c main_v11) (idx2_eq _ k j (at_zero (index_whole t).2.2.1.1) (at_zero (index_whole t).2.2.1.2))).trans (prep_v11 m c _ _)
theorem blk4 (t : Fin cfg0.N) (k : Fin 1536) (j : Fin 1024) : (iblk m c 4 t : S1536x1024.Idx → EReal) (ix2 k j) = (args m c).wd (ix3 0 (colA k) j) :=
  (congrArg (V m c main_v16) (idx2_eq _ k j (at_zero (index_whole t).2.2.2.1) (at_zero (index_whole t).2.2.2.2))).trans (prep_v16 m c _ _)

/-! ## A point's values -/

open Cert.Proof.FfnRef (hn hidA hidB out)

theorem h_at (t : Fin cfg0.N) (i : Fin 512) (j : Fin 1024) : blockH m c t (ix2 i j) = hn (args m c) (tok t i) j := by
  pointwise [k0_pay8]
  simp only [blk0, blk1]
  rfl

theorem hid_apply (x : FVec Ideal S512x1024 .bf16) (w : FVec Ideal S1536x1024 .bf16) (i : Fin 512) (k : Fin 1536) :
    hid x w (ix2 i k) = ∑ j : Fin 1024, (x (ix2 i j) * w (ix2 k j) : EReal) := rfl

theorem hidA_at (t : Fin cfg0.N) (i : Fin 512) (k : Fin 1536) :
    hid (blockH m c t) (iblk m c 2 t) (ix2 i k) = hidA (args m c) (tok t i) (colA k) := by
  rw [hid_apply]
  simp only [h_at, blk2]
  rfl

theorem hidB_at (t : Fin cfg0.N) (i : Fin 512) (k : Fin 1536) :
    hid (blockH m c t) (iblk m c 3 t) (ix2 i k) = hidB (args m c) (tok t i) (colA k) := by
  rw [hid_apply]
  simp only [h_at, blk3]
  rfl

theorem act_at (t : Fin cfg0.N) (i : Fin 512) (k : Fin 1536) :
    act (blockH m c t) (iblk m c 2 t) (iblk m c 3 t) (ix2 i k)
      = hidA (args m c) (tok t i) (colA k) * Ideal.logistic (hidA (args m c) (tok t i) (colA k)) * hidB (args m c) (tok t i) (colA k) := by
  unfold act
  rw [hidA_at, hidB_at]

theorem out_at (t : Fin cfg0.N) (i : Fin 512) (j : Fin 1024) :
    k0_pay7 (iblk m c 0 t) (act (blockH m c t) (iblk m c 2 t) (iblk m c 3 t)) (iblk m c 4 t) (ix2 i j) = out (args m c) (tok t i) j := by
  pointwise [k0_pay7]
  simp only [act_at, blk0, blk4]
  rfl

/-! ## The final arrays -/

/-- The four results, as arrays. -/
def arrOut (I : Arr) : S4096x1024.Idx → EReal := fun i => out I (i 0) (i 1)
def arrH (I : Arr) : S4096x1024.Idx → EReal := fun i => hn I (i 0) (i 1)
def arrA (I : Arr) : S4096x1536.Idx → EReal := fun i => hidA I (i 0) (colA (i 1))
def arrB (I : Arr) : S4096x1536.Idx → EReal := fun i => hidB I (i 0) (colA (i 1))

theorem final_out : (dats m 0 c).arrAt 5 cfg0.N = arrOut (args m c) := by
  refine (dats m 0 c).arrAt_eq_of_covers 5 _ (by decide +kernel) fun t hf (y : S512x1024.Idx) => ?_
  blk_simp
  rw [after0_5, outs]
  obtain ⟨i, k, rfl⟩ : ∃ (i : Fin 512) (k : Fin 1024), y = ix2 i k := ⟨y 0, y 1, idx2_eq _ _ _ rfl rfl⟩
  exact (out_at m c t i k).trans (congrArg (arrOut (args m c)) (idx2_eq _ (tok t i) k (at_blk (index_tok t).2.1.1) (at_zero (index_tok t).2.1.2))).symm

theorem final_h : (dats m 0 c).arrAt 6 cfg0.N = arrH (args m c) := by
  refine (dats m 0 c).arrAt_eq_of_covers 6 _ (by decide +kernel) fun t hf (y : S512x1024.Idx) => ?_
  blk_simp
  rw [after0_6, outs]
  obtain ⟨i, k, rfl⟩ : ∃ (i : Fin 512) (k : Fin 1024), y = ix2 i k := ⟨y 0, y 1, idx2_eq _ _ _ rfl rfl⟩
  exact (h_at m c t i k).trans (congrArg (arrH (args m c)) (idx2_eq _ (tok t i) k (at_blk (index_tok t).2.2.1.1) (at_zero (index_tok t).2.2.1.2))).symm

theorem final_a : (dats m 0 c).arrAt 7 cfg0.N = arrA (args m c) := by
  refine (dats m 0 c).arrAt_eq_of_covers 7 _ (by decide +kernel) fun t hf (y : S512x1536.Idx) => ?_
  blk_simp
  rw [after0_7, outs]
  obtain ⟨i, k, rfl⟩ : ∃ (i : Fin 512) (k : Fin 1536), y = ix2 i k := ⟨y 0, y 1, idx2_eq _ _ _ rfl rfl⟩
  exact (hidA_at m c t i k).trans (congrArg (arrA (args m c)) (idx2_eq _ (tok t i) k (at_blk (index_tok t).2.2.2.1.1) (at_zero (index_tok t).2.2.2.1.2))).symm

theorem final_b : (dats m 0 c).arrAt 8 cfg0.N = arrB (args m c) := by
  refine (dats m 0 c).arrAt_eq_of_covers 8 _ (by decide +kernel) fun t hf (y : S512x1536.Idx) => ?_
  blk_simp
  rw [after0_8, outs]
  obtain ⟨i, k, rfl⟩ : ∃ (i : Fin 512) (k : Fin 1536), y = ix2 i k := ⟨y 0, y 1, idx2_eq _ _ _ rfl rfl⟩
  exact (hidB_at m c t i k).trans (congrArg (arrB (args m c)) (idx2_eq _ (tok t i) k (at_blk (index_tok t).2.2.2.2.1) (at_zero (index_tok t).2.2.2.2.2))).symm

end Cert.Proof.FfnKernel

end
-- ==== Proof.FfnClaim.lean ====
module

public import proofs.«01_k».proof.Defs
public import proofs.«01_k».proof.Proof.Gen.Ffn.Frame
public import proofs.«01_k».proof.Proof.Gen.FfnRefIdeal.Run
public import proofs.«01_k».proof.Proof.FfnKernel
public import Idealize.ShloMosaic.Adequacy
@[expose] public section
/-! # The claims of a gated layer's forward call

From the same arrays the kernel and the forward lines end with the same four results: both are `FfnKernel`'s `arrOut`, `arrH`,
`arrA` and `arrB`. Nothing is asked of the arrays. -/

noncomputable section

namespace Cert.Proof.FfnClaim

open Idealize.ShloMosaic Idealize.ShloMosaic.TcCoe Idealize.SL.Sem Cert.Proof.FfnKernel
open Cert.Proof.FfnRef (Arr)

theorem frame_ref : Cert.quiescent_FfnRefIdeal := fun m ρ _ =>
  (θ_run Cert.FfnRefIdeal.defs _ _).mono (fun r h => ⟨fun c => (h c).2.2.2.2, sem_eq_zero_of_no_sems (by decide) r.2⟩)
    (Cert.FfnRefIdeal.Value.run (F := Ideal) m ρ)

set_option maxHeartbeats 2000000 in
theorem algebraic : Cert.algebraic_FfnIdeal_FfnRefIdeal := by
  intro m ρ m' ρ' _ hag
  refine ⟨fun c => arrOut (args m c), fun c => arrH (args m c), fun c => arrA (args m c), fun c => arrB (args m c), ?_, ?_⟩
  · refine (θ_run _ _ _).mono (fun r h c => ?_) (Cert.FfnIdeal.Value.run_blocks (F := Ideal) m ρ)
    obtain ⟨r0, r1, r2, r3, hk⟩ := h c
    exact ⟨r0.trans (final_out m c), r1.trans (final_h m c), r2.trans (final_a m c), r3.trans (final_b m c), hk⟩
  · refine (θ_run _ _ _).mono (fun r h c => ?_) (Cert.FfnRefIdeal.Value.run (F := Ideal) m' ρ')
    obtain ⟨e0, e1, e2, e3, e4⟩ := hag c
    obtain ⟨r0, r1, r2, r3, hk⟩ := h c
    refine ⟨r0.trans ?_, r1.trans ?_, r2.trans ?_, r3.trans ?_, hk⟩
    · rw [Cert.FfnRefIdeal.Read.val_main_v35_eq, e0, e1, e2, e3, e4]
      funext i
      obtain ⟨r, k, rfl⟩ : ∃ (r : Fin 4096) (k : Fin 1024), i = ix2 r k := ⟨i 0, i 1, eq_ix2 i⟩
      exact Cert.Proof.FfnRef.val_out (args m c) r k
    · rw [Cert.FfnRefIdeal.Read.val_main_v36_eq, e0, e1]
      funext i
      obtain ⟨r, k, rfl⟩ : ∃ (r : Fin 4096) (k : Fin 1024), i = ix2 r k := ⟨i 0, i 1, eq_ix2 i⟩
      exact Cert.Proof.FfnRef.val_h (args m c) r k
    · rw [Cert.FfnRefIdeal.Read.val_main_v37_eq, e0, e1, e2]
      funext i
      obtain ⟨r, k, rfl⟩ : ∃ (r : Fin 4096) (k : Fin 1536), i = ix2 r k := ⟨i 0, i 1, eq_ix2 i⟩
      exact Cert.Proof.FfnRef.val_resA (args m c) r k
    · rw [Cert.FfnRefIdeal.Read.val_main_v38_eq, e0, e1, e3]
      funext i
      obtain ⟨r, k, rfl⟩ : ∃ (r : Fin 4096) (k : Fin 1536), i = ix2 r k := ⟨i 0, i 1, eq_ix2 i⟩
      exact Cert.Proof.FfnRef.val_resB (args m c) r k

end Cert.Proof.FfnClaim

end
-- ==== Proof.MixSetup.lean ====
module

public import proofs.«01_k».proof.Proof.Gen.MixIdeal.Frame
public import proofs.«01_k».proof.Proof.Gen.MixIdeal.Skeleton
public import proofs.«01_k».proof.Proof.Gen.MixIdeal.Points
public import Idealize.ShloMosaic.Lib.Ring
public import Idealize.ShloMosaic.Lib.WordCmp

@[expose] public section

set_option maxRecDepth 16384

noncomputable section

namespace MixFrame

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions. The body takes the tiles of 512 tokens from the last to the first. -/

/-- The point is the first (the last tile). -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The tile is the first of the sequence. -/
abbrev cond0_1 (i : grid0.Coords) : Prop := (Scalar.cmpi .ne (Scalar.extui (Scalar.cmpi .eq (Scalar.subi 7#32 (BitVec.ofNat 32 (i 0).val)) 0#32)) 0#32) = 1#1
/-- It holds at the last point only. -/
theorem hcond0_1 : ∀ t : Fin cfg0.N, cond0_1 (grid0.coords t) ↔ t.val % 8 = 7 :=
  (by decide +kernel : ∀ t : Fin grid0.N, cond0_1 (grid0.coords t) ↔ t.val % 8 = 7)

/-- The tile has a tile before it. -/
abbrev cond0_2 (i : grid0.Coords) : Prop := (Scalar.cmpi .ne (Scalar.extui (Scalar.cmpi .sgt (Scalar.subi 7#32 (BitVec.ofNat 32 (i 0).val)) 0#32)) 0#32) = 1#1
/-- It holds before the last point. -/
theorem hcond0_2 : ∀ t : Fin cfg0.N, cond0_2 (grid0.coords t) ↔ t.val < 7 :=
  (by decide +kernel : ∀ t : Fin grid0.N, cond0_2 (grid0.coords t) ↔ t.val < 7)

/-- The point is the last. -/
abbrev cond0_3 (i : grid0.Coords) : Prop := k0_cond4 i = 1#1
/-- It holds at the last point only. -/
theorem hcond0_3 : ∀ t : Fin cfg0.N, cond0_3 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_3, k0_cond4, e0]
    word_cmp
   : ∀ t : Fin grid0.N, cond0_3 (grid0.coords t) ↔ t.val % 8 = 7)

/-- No window but the gradient of the output matrix is idle at any point; -/
theorem liveAt : ∀ (w : Fin cfg0.W) (t : Fin cfg0.N), w ≠ 13 → cfg0.idle w (grid0.coords t) = false := by decide +kernel
/-- that one is idle before the last point, where it is not written back, -/
theorem idleAt : ∀ t : Fin cfg0.N, t.val < 7 → cfg0.idle 13 (grid0.coords t) = true := by decide +kernel
theorem noFlush : ∀ t : Fin cfg0.N, t.val < 7 → (cfg0.win 13).flush t = false := by decide +kernel
/-- and live at the last. -/
theorem liveAt_last : ∀ t : Fin cfg0.N, ¬t.val < 7 → cfg0.idle 13 (grid0.coords t) = false := by decide +kernel

/-! ## The buffers -/

/-! A buffer of each output, through which its contents are stated (any one would do). -/

abbrev VO0_11 : View sig .tc .vmem S512x1024 .f32 := (Memref.whole cc0_stg11_0 : Memref sig .tc .vmem S512x1024 .f32).view
abbrev VO0_12 : View sig .tc .vmem S512x2048 .bf16 := (Memref.whole cc0_stg12_0 : Memref sig .tc .vmem S512x2048 .bf16).view
abbrev VO0_13 : View sig .tc .vmem S1024x1024 .bf16 := (Memref.whole cc0_stg13_0 : Memref sig .tc .vmem S1024x1024 .bf16).view
abbrev VO0_14 : View sig .tc .vmem S1x1024 .f32 := (Memref.whole cc0_stg14_0 : Memref sig .tc .vmem S1x1024 .f32).view
abbrev VO0_15 : View sig .tc .vmem S3x512 .f32 := (Memref.whole cc0_stg15_0 : Memref sig .tc .vmem S3x512 .f32).view
abbrev VO0_16 : View sig .tc .vmem S4x128x128 .f32 := (Memref.whole cc0_stg16_0 : Memref sig .tc .vmem S4x128x128 .f32).view
abbrev VO0_17 : View sig .tc .vmem S1x512 .f32 := (Memref.whole cc0_stg17_0 : Memref sig .tc .vmem S1x512 .f32).view
abbrev VO0_18 : View sig .tc .vmem S512x1024 .bf16 := (Memref.whole cc0_stg18_0 : Memref sig .tc .vmem S512x1024 .bf16).view
/-! Each window's buffer at point `t`, and that it is whole. -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x1024x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x128x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x2048 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S3x512 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S4x128x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x512 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S512x1024 .bf16 := win0_18.stage (cfg0.slots t 18)
abbrev hs0_18 (t : Fin cfg0.N) : (ms0_18 t).IsWhole := hstage0_18 ((cfg0.slots t 18).cast nbuf0_18)
/-! The kernel's scratch buffers; the second (rows of the tile after), the fourth (the accumulator) and the last two (the window sums)
    keep what they hold between points. -/

abbrev scM0_0 : Memref sig .tc .vmem S528x2048 .f32 := Memref.whole cc0_scratch0
abbrev scM0_1 : Memref sig .tc .vmem S544x1024 .f32 := Memref.whole cc0_scratch1
abbrev scM0_2 : Memref sig .tc .vmem S512x1024 .bf16 := Memref.whole cc0_scratch2
abbrev scM0_3 : Memref sig .tc .vmem S1024x1024 .f32 := Memref.whole cc0_scratch3
abbrev scM0_4 : Memref sig .tc .vmem S544x128 .f32 := Memref.whole cc0_scratch4
abbrev scM0_5 : Memref sig .tc .vmem S544x128 .f32 := Memref.whole cc0_scratch5
abbrev VS0_1 : View sig .tc .vmem S544x1024 .f32 := scM0_1.view
abbrev VS0_3 : View sig .tc .vmem S1024x1024 .f32 := scM0_3.view
abbrev VS0_4 : View sig .tc .vmem S544x128 .f32 := scM0_4.view
abbrev VS0_5 : View sig .tc .vmem S544x128 .f32 := scM0_5.view
/-- The invariant before the first point: the scratch buffers and the random register at anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end MixFrame

end

end
-- ==== Proof.MixRunA.lean ====
module

public import proofs.«01_k».proof.Proof.MixSetup

@[expose] public section

set_option maxRecDepth 16384

noncomputable section

namespace MixFrame

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first point, on any whole buffers: from the inputs at `x·`, the idle output's buffer at `xi13`, every other buffer
    at anything, it runs to the inputs and the idle output unchanged and every buffer it stores into with these pieces written
    (outputs `L·`, kept scratch `LS·`, other scratch `LT·`). -/
noncomputable def kernelRun0_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x2048 .f32) (harg3 : arg3.IsWhole) (arg4 : Memref sig .tc .vmem S16x2048 .f32) (harg4 : arg4.IsWhole) (arg5 : Memref sig .tc .vmem S512x512 .bf16) (harg5 : arg5.IsWhole) (arg6 : Memref sig .tc .vmem S1x1024 .f32) (harg6 : arg6.IsWhole) (arg7 : Memref sig .tc .vmem S8x1024x256 .bf16) (harg7 : arg7.IsWhole) (arg8 : Memref sig .tc .vmem S3x512 .f32) (harg8 : arg8.IsWhole) (arg9 : Memref sig .tc .vmem S4x128x128 .bf16) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S512x1024 .f32) (harg12 : arg12.IsWhole) (arg13 : Memref sig .tc .vmem S512x2048 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S3x512 .f32) (harg16 : arg16.IsWhole) (arg17 : Memref sig .tc .vmem S4x128x128 .f32) (harg17 : arg17.IsWhole) (arg18 : Memref sig .tc .vmem S1x512 .f32) (harg18 : arg18.IsWhole) (arg19 : Memref sig .tc .vmem S512x1024 .bf16) (harg19 : arg19.IsWhole) (arg20 : Memref sig .tc .vmem S528x2048 .f32) (harg20 : arg20.IsWhole) (arg21 : Memref sig .tc .vmem S544x1024 .f32) (harg21 : arg21.IsWhole) (arg22 : Memref sig .tc .vmem S512x1024 .bf16) (harg22 : arg22.IsWhole) (arg23 : Memref sig .tc .vmem S1024x1024 .f32) (harg23 : arg23.IsWhole) (arg24 : Memref sig .tc .vmem S544x128 .f32) (harg24 : arg24.IsWhole) (arg25 : Memref sig .tc .vmem S544x128 .f32) (harg25 : arg25.IsWhole) (hc0 : cond0_0 i) (hc1 : ¬cond0_1 i) (hc2 : cond0_2 i) (hc3 : ¬cond0_3 i)
    (x0 : Vec F S512x1024 .f32) (x1 : Vec F S512x1024 .f32) (x2 : Vec F S512x2048 .f32) (x3 : Vec F S16x2048 .f32) (x4 : Vec F S512x512 .bf16) (x5 : Vec F S1x1024 .f32) (x6 : Vec F S8x1024x256 .bf16) (x7 : Vec F S3x512 .f32) (x8 : Vec F S4x128x128 .bf16) (x9 : Vec F S1x512 .f32) (x10 : Vec F S1024x1024 .bf16) :
    Σ' (L11 : List (View.Piece (Elt F) S512x1024 .f32)), Σ' (L12 : List (View.Piece (Elt F) S512x2048 .bf16)), Σ' (L13 : List (View.Piece (Elt F) S1024x1024 .bf16)), Σ' (L14 : List (View.Piece (Elt F) S1x1024 .f32)), Σ' (L15 : List (View.Piece (Elt F) S3x512 .f32)), Σ' (L16 : List (View.Piece (Elt F) S4x128x128 .f32)), Σ' (L17 : List (View.Piece (Elt F) S1x512 .f32)), Σ' (L18 : List (View.Piece (Elt F) S512x1024 .bf16)), Σ' (LS1 : List (View.Piece (Elt F) S544x1024 .f32)), Σ' (LS3 : List (View.Piece (Elt F) S1024x1024 .f32)), Σ' (LS4 : List (View.Piece (Elt F) S544x128 .f32)), Σ' (LS5 : List (View.Piece (Elt F) S544x128 .f32)), Σ' (LT0 : List (View.Piece (Elt F) S528x2048 .f32)), { LT2 : List (View.Piece (Elt F) S512x1024 .bf16) //
      ∀ (xi13 : Vec F S1024x1024 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ owns (c : Thread nD τ) arg14 fullShare xi13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ owns (c : Thread nD τ) arg14 fullShare xi13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f LT0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LT2) ∗ (∃ f, arg23.view.loc (c : Thread nD τ) ↦[arg23.view.set]{fullShare} arg23.view.writes (Elt F) f LS3) ∗ (∃ f, arg24.view.loc (c : Thread nD τ) ↦[arg24.view.set]{fullShare} arg24.view.writes (Elt F) f LS4) ∗ (∃ f, arg25.view.loc (c : Thread nD τ) ↦[arg25.view.set]{fullShare} arg25.view.writes (Elt F) f LS5)) -∗ K ⟨⟩))
          ⊢ wp frame (wpE (defs₀ (F := F)) Variants.none c none) E (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, [], ?_, ?_, ?_, ?_, ?_, ?_, ?_, ?_, ?_, ?_, ?_, fun xi13 E K => ?run⟩
  case run =>
    simp only [cc0_mix_bwd_eq_skeleton]; unfold cc0_mix_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg14.eq_unread hf13
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end MixFrame

end

end
-- ==== Proof.MixRunB.lean ====
module

public import proofs.«01_k».proof.Proof.MixSetup

@[expose] public section

set_option maxRecDepth 16384

noncomputable section

namespace MixFrame

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point between the first and the last: the four accumulated outputs at `xo·` and the kept scratch at `xs·` as the point
    before left them, the idle output's buffer unchanged; it stores these pieces. -/
noncomputable def kernelRun0_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x2048 .f32) (harg3 : arg3.IsWhole) (arg4 : Memref sig .tc .vmem S16x2048 .f32) (harg4 : arg4.IsWhole) (arg5 : Memref sig .tc .vmem S512x512 .bf16) (harg5 : arg5.IsWhole) (arg6 : Memref sig .tc .vmem S1x1024 .f32) (harg6 : arg6.IsWhole) (arg7 : Memref sig .tc .vmem S8x1024x256 .bf16) (harg7 : arg7.IsWhole) (arg8 : Memref sig .tc .vmem S3x512 .f32) (harg8 : arg8.IsWhole) (arg9 : Memref sig .tc .vmem S4x128x128 .bf16) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S512x1024 .f32) (harg12 : arg12.IsWhole) (arg13 : Memref sig .tc .vmem S512x2048 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S3x512 .f32) (harg16 : arg16.IsWhole) (arg17 : Memref sig .tc .vmem S4x128x128 .f32) (harg17 : arg17.IsWhole) (arg18 : Memref sig .tc .vmem S1x512 .f32) (harg18 : arg18.IsWhole) (arg19 : Memref sig .tc .vmem S512x1024 .bf16) (harg19 : arg19.IsWhole) (arg20 : Memref sig .tc .vmem S528x2048 .f32) (harg20 : arg20.IsWhole) (arg21 : Memref sig .tc .vmem S544x1024 .f32) (harg21 : arg21.IsWhole) (arg22 : Memref sig .tc .vmem S512x1024 .bf16) (harg22 : arg22.IsWhole) (arg23 : Memref sig .tc .vmem S1024x1024 .f32) (harg23 : arg23.IsWhole) (arg24 : Memref sig .tc .vmem S544x128 .f32) (harg24 : arg24.IsWhole) (arg25 : Memref sig .tc .vmem S544x128 .f32) (harg25 : arg25.IsWhole) (hc0 : ¬cond0_0 i) (hc1 : ¬cond0_1 i) (hc2 : cond0_2 i) (hc3 : ¬cond0_3 i)
    (x0 : Vec F S512x1024 .f32) (x1 : Vec F S512x1024 .f32) (x2 : Vec F S512x2048 .f32) (x3 : Vec F S16x2048 .f32) (x4 : Vec F S512x512 .bf16) (x5 : Vec F S1x1024 .f32) (x6 : Vec F S8x1024x256 .bf16) (x7 : Vec F S3x512 .f32) (x8 : Vec F S4x128x128 .bf16) (x9 : Vec F S1x512 .f32) (x10 : Vec F S1024x1024 .bf16) (xo14 : Vec F S1x1024 .f32) (xo15 : Vec F S3x512 .f32) (xo16 : Vec F S4x128x128 .f32) (xo17 : Vec F S1x512 .f32) (xs1 : Vec F S544x1024 .f32) (xs3 : Vec F S1024x1024 .f32) (xs4 : Vec F S544x128 .f32) (xs5 : Vec F S544x128 .f32) :
    Σ' (L11 : List (View.Piece (Elt F) S512x1024 .f32)), Σ' (L12 : List (View.Piece (Elt F) S512x2048 .bf16)), Σ' (L13 : List (View.Piece (Elt F) S1024x1024 .bf16)), Σ' (L14 : List (View.Piece (Elt F) S1x1024 .f32)), Σ' (L15 : List (View.Piece (Elt F) S3x512 .f32)), Σ' (L16 : List (View.Piece (Elt F) S4x128x128 .f32)), Σ' (L17 : List (View.Piece (Elt F) S1x512 .f32)), Σ' (L18 : List (View.Piece (Elt F) S512x1024 .bf16)), Σ' (LS1 : List (View.Piece (Elt F) S544x1024 .f32)), Σ' (LS3 : List (View.Piece (Elt F) S1024x1024 .f32)), Σ' (LS4 : List (View.Piece (Elt F) S544x128 .f32)), Σ' (LS5 : List (View.Piece (Elt F) S544x128 .f32)), Σ' (LT0 : List (View.Piece (Elt F) S528x2048 .f32)), { LT2 : List (View.Piece (Elt F) S512x1024 .bf16) //
      ∀ (xi13 : Vec F S1024x1024 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ owns (c : Thread nD τ) arg14 fullShare xi13 ∗ owns (c : Thread nD τ) arg15 fullShare xo14 ∗ owns (c : Thread nD τ) arg16 fullShare xo15 ∗ owns (c : Thread nD τ) arg17 fullShare xo16 ∗ owns (c : Thread nD τ) arg18 fullShare xo17 ∗ (∃ d, owns (c : Thread nD τ) arg19 fullShare d) ∗ (∃ d, owns (c : Thread nD τ) arg20 fullShare d) ∗ owns (c : Thread nD τ) arg21 fullShare xs1 ∗ (∃ d, owns (c : Thread nD τ) arg22 fullShare d) ∗ owns (c : Thread nD τ) arg23 fullShare xs3 ∗ owns (c : Thread nD τ) arg24 fullShare xs4 ∗ owns (c : Thread nD τ) arg25 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ owns (c : Thread nD τ) arg14 fullShare xi13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f LT0) ∗ (arg21.view.loc (c : Thread nD τ) ↦[arg21.view.set]{fullShare} arg21.view.writes (Elt F) (harg21.unread xs1) LS1) ∗ (∃ f, arg22.view.loc (c : Thread nD τ) ↦[arg22.view.set]{fullShare} arg22.view.writes (Elt F) f LT2) ∗ (∃ f, arg23.view.loc (c : Thread nD τ) ↦[arg23.view.set]{fullShare} arg23.view.writes (Elt F) f LS3) ∗ (arg24.view.loc (c : Thread nD τ) ↦[arg24.view.set]{fullShare} arg24.view.writes (Elt F) (harg24.unread xs4) LS4) ∗ (arg25.view.loc (c : Thread nD τ) ↦[arg25.view.set]{fullShare} arg25.view.writes (Elt F) (harg25.unread xs5) LS5)) -∗ K ⟨⟩))
          ⊢ wp frame (wpE (defs₀ (F := F)) Variants.none c none) E (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, [], ?_, ?_, ?_, ?_, ?_, ?_, ?_, ?_, ?_, ?_, ?_, fun xi13 E K => ?run⟩
  case run =>
    simp only [cc0_mix_bwd_eq_skeleton]; unfold cc0_mix_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%ds0, %fs0, -, HS0⟩, ⟨%fs1, %hfs1, HS1⟩, ⟨%ds2, %fs2, -, HS2⟩, ⟨%fs3, %hfs3, HS3⟩, ⟨%fs4, %hfs4, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg14.eq_unread hf13; obtain rfl := harg15.eq_unread hf14; obtain rfl := harg16.eq_unread hf15; obtain rfl := harg17.eq_unread hf16; obtain rfl := harg18.eq_unread hf17; obtain rfl := harg21.eq_unread hfs1; obtain rfl := harg23.eq_unread hfs3; obtain rfl := harg24.eq_unread hfs4; obtain rfl := harg25.eq_unread hfs5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexists _; iexact HS0
    isplitl [HS1]; · iexact HS1
    isplitl [HS2]; · iexists _; iexact HS2
    isplitl [HS3]; · iexists _; iexact HS3
    isplitl [HS4]; · iexact HS4
    iexact HS5

end MixFrame

end

end
-- ==== Proof.MixRunC.lean ====
module

public import proofs.«01_k».proof.Proof.MixSetup

@[expose] public section

set_option maxRecDepth 16384

noncomputable section

namespace MixFrame

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last point: as between, and the gradient of the output matrix is stored too. -/
noncomputable def kernelRun0_C (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x2048 .f32) (harg3 : arg3.IsWhole) (arg4 : Memref sig .tc .vmem S16x2048 .f32) (harg4 : arg4.IsWhole) (arg5 : Memref sig .tc .vmem S512x512 .bf16) (harg5 : arg5.IsWhole) (arg6 : Memref sig .tc .vmem S1x1024 .f32) (harg6 : arg6.IsWhole) (arg7 : Memref sig .tc .vmem S8x1024x256 .bf16) (harg7 : arg7.IsWhole) (arg8 : Memref sig .tc .vmem S3x512 .f32) (harg8 : arg8.IsWhole) (arg9 : Memref sig .tc .vmem S4x128x128 .bf16) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S512x1024 .f32) (harg12 : arg12.IsWhole) (arg13 : Memref sig .tc .vmem S512x2048 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S3x512 .f32) (harg16 : arg16.IsWhole) (arg17 : Memref sig .tc .vmem S4x128x128 .f32) (harg17 : arg17.IsWhole) (arg18 : Memref sig .tc .vmem S1x512 .f32) (harg18 : arg18.IsWhole) (arg19 : Memref sig .tc .vmem S512x1024 .bf16) (harg19 : arg19.IsWhole) (arg20 : Memref sig .tc .vmem S528x2048 .f32) (harg20 : arg20.IsWhole) (arg21 : Memref sig .tc .vmem S544x1024 .f32) (harg21 : arg21.IsWhole) (arg22 : Memref sig .tc .vmem S512x1024 .bf16) (harg22 : arg22.IsWhole) (arg23 : Memref sig .tc .vmem S1024x1024 .f32) (harg23 : arg23.IsWhole) (arg24 : Memref sig .tc .vmem S544x128 .f32) (harg24 : arg24.IsWhole) (arg25 : Memref sig .tc .vmem S544x128 .f32) (harg25 : arg25.IsWhole) (hc0 : ¬cond0_0 i) (hc1 : cond0_1 i) (hc2 : ¬cond0_2 i) (hc3 : cond0_3 i)
    (x0 : Vec F S512x1024 .f32) (x1 : Vec F S512x1024 .f32) (x2 : Vec F S512x2048 .f32) (x3 : Vec F S16x2048 .f32) (x4 : Vec F S512x512 .bf16) (x5 : Vec F S1x1024 .f32) (x6 : Vec F S8x1024x256 .bf16) (x7 : Vec F S3x512 .f32) (x8 : Vec F S4x128x128 .bf16) (x9 : Vec F S1x512 .f32) (x10 : Vec F S1024x1024 .bf16) (xo14 : Vec F S1x1024 .f32) (xo15 : Vec F S3x512 .f32) (xo16 : Vec F S4x128x128 .f32) (xo17 : Vec F S1x512 .f32) (xs1 : Vec F S544x1024 .f32) (xs3 : Vec F S1024x1024 .f32) (xs4 : Vec F S544x128 .f32) (xs5 : Vec F S544x128 .f32) :
    Σ' (L11 : List (View.Piece (Elt F) S512x1024 .f32)), Σ' (L12 : List (View.Piece (Elt F) S512x2048 .bf16)), Σ' (L13 : List (View.Piece (Elt F) S1024x1024 .bf16)), Σ' (L14 : List (View.Piece (Elt F) S1x1024 .f32)), Σ' (L15 : List (View.Piece (Elt F) S3x512 .f32)), Σ' (L16 : List (View.Piece (Elt F) S4x128x128 .f32)), Σ' (L17 : List (View.Piece (Elt F) S1x512 .f32)), Σ' (L18 : List (View.Piece (Elt F) S512x1024 .bf16)), Σ' (LS1 : List (View.Piece (Elt F) S544x1024 .f32)), Σ' (LS3 : List (View.Piece (Elt F) S1024x1024 .f32)), Σ' (LS4 : List (View.Piece (Elt F) S544x128 .f32)), Σ' (LS5 : List (View.Piece (Elt F) S544x128 .f32)), Σ' (LT0 : List (View.Piece (Elt F) S528x2048 .f32)), { LT2 : List (View.Piece (Elt F) S512x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xo14 ∗ owns (c : Thread nD τ) arg16 fullShare xo15 ∗ owns (c : Thread nD τ) arg17 fullShare xo16 ∗ owns (c : Thread nD τ) arg18 fullShare xo17 ∗ (∃ d, owns (c : Thread nD τ) arg19 fullShare d) ∗ (∃ d, owns (c : Thread nD τ) arg20 fullShare d) ∗ owns (c : Thread nD τ) arg21 fullShare xs1 ∗ (∃ d, owns (c : Thread nD τ) arg22 fullShare d) ∗ owns (c : Thread nD τ) arg23 fullShare xs3 ∗ owns (c : Thread nD τ) arg24 fullShare xs4 ∗ owns (c : Thread nD τ) arg25 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f LT0) ∗ (arg21.view.loc (c : Thread nD τ) ↦[arg21.view.set]{fullShare} arg21.view.writes (Elt F) (harg21.unread xs1) LS1) ∗ (∃ f, arg22.view.loc (c : Thread nD τ) ↦[arg22.view.set]{fullShare} arg22.view.writes (Elt F) f LT2) ∗ (∃ f, arg23.view.loc (c : Thread nD τ) ↦[arg23.view.set]{fullShare} arg23.view.writes (Elt F) f LS3) ∗ (arg24.view.loc (c : Thread nD τ) ↦[arg24.view.set]{fullShare} arg24.view.writes (Elt F) (harg24.unread xs4) LS4) ∗ (arg25.view.loc (c : Thread nD τ) ↦[arg25.view.set]{fullShare} arg25.view.writes (Elt F) (harg25.unread xs5) LS5)) -∗ K ⟨⟩))
          ⊢ wp frame (wpE (defs₀ (F := F)) Variants.none c none) E (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, ?_, ?_, ?_, ?_, fun E K => ?run⟩
  case run =>
    simp only [cc0_mix_bwd_eq_skeleton]; unfold cc0_mix_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%f16, %hf16, H16⟩, ⟨%f17, %hf17, H17⟩, ⟨%d18, %f18, -, H18⟩, ⟨%ds0, %fs0, -, HS0⟩, ⟨%fs1, %hfs1, HS1⟩, ⟨%ds2, %fs2, -, HS2⟩, ⟨%fs3, %hfs3, HS3⟩, ⟨%fs4, %hfs4, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg15.eq_unread hf14; obtain rfl := harg16.eq_unread hf15; obtain rfl := harg17.eq_unread hf16; obtain rfl := harg18.eq_unread hf17; obtain rfl := harg21.eq_unread hfs1; obtain rfl := harg23.eq_unread hfs3; obtain rfl := harg24.eq_unread hfs4; obtain rfl := harg25.eq_unread hfs5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexists _; iexact HS0
    isplitl [HS1]; · iexact HS1
    isplitl [HS2]; · iexists _; iexact HS2
    isplitl [HS3]; · iexists _; iexact HS3
    isplitl [HS4]; · iexact HS4
    iexact HS5

end MixFrame

end

end
-- ==== Proof.MixFrame.lean ====
module

public import proofs.«01_k».proof.Proof.MixRunA
public import proofs.«01_k».proof.Proof.MixRunB
public import proofs.«01_k».proof.Proof.MixRunC
public import Idealize.ShloMosaic.Lib.Claim

@[expose] public section

set_option maxRecDepth 16384

noncomputable section

namespace MixFrame

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves: the outputs' buffers, then the kept scratch. -/
structure Outs (F : FTy → Type) where
  dx : Vec F S512x1024 .f32
  dproj : Vec F S512x2048 .bf16
  dwo : Vec F S1024x1024 .bf16
  dg : Vec F S1x1024 .f32
  dcw : Vec F S3x512 .f32
  dpw : Vec F S4x128x128 .f32
  dps : Vec F S1x512 .f32
  half : Vec F S512x1024 .bf16
  fut : Vec F S544x1024 .f32
  acc : Vec F S1024x1024 .f32
  wa : Vec F S544x128 .f32
  wb : Vec F S544x128 .f32

/-! ## The run of the body at a point, on the memrefs and blocks of that point -/

/-- At the first point. -/
abbrev runA (c : Dev nD) (t : Fin cfg0.N) (h : t.val = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t)
    scM0_0 (Memref.isWhole_whole _) scM0_1 (Memref.isWhole_whole _) scM0_2 (Memref.isWhole_whole _) scM0_3 (Memref.isWhole_whole _) scM0_4 (Memref.isWhole_whole _) scM0_5 (Memref.isWhole_whole _)
    ((hcond0_0 t).mpr (by omega)) (fun k => absurd ((hcond0_1 t).mp k) (by omega)) ((hcond0_2 t).mpr (by omega)) (fun k => absurd ((hcond0_3 t).mp k) (by omega))
    (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- At a point between, over `p` left by the point before. -/
abbrev runB (c : Dev nD) (t : Fin cfg0.N) (h : t.val ≠ 0 ∧ t.val < 7) (p : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t)
    scM0_0 (Memref.isWhole_whole _) scM0_1 (Memref.isWhole_whole _) scM0_2 (Memref.isWhole_whole _) scM0_3 (Memref.isWhole_whole _) scM0_4 (Memref.isWhole_whole _) scM0_5 (Memref.isWhole_whole _)
    (fun k => absurd ((hcond0_0 t).mp k) (by omega)) (fun k => absurd ((hcond0_1 t).mp k) (by omega)) ((hcond0_2 t).mpr (by omega)) (fun k => absurd ((hcond0_3 t).mp k) (by omega))
    (iblk m c 0 t) (iblk m c 1 t) (iblk m c 2 t) (iblk m c 3 t) (iblk m c 4 t) (iblk m c 5 t) (iblk m c 6 t) (iblk m c 7 t) (iblk m c 8 t) (iblk m c 9 t) (iblk m c 10 t) p.dg p.dcw p.dpw p.dps p.fut p.acc p.wa p.wb

/-- At the last point, over `p`. -/
abbrev runC (c : Dev nD) (t : Fin cfg0.N) (h : t.val = 7) (p : Outs F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t)
    scM0_0 (Memref.isWhole_whole _) scM0_1 (Memref.isWhole_whole _) scM0_2 (Memref.isWhole_whole _) scM0_3 (Memref.isWhole_whole _) scM0_4 (Memref.isWhole_whole _) scM0_5 (Memref.isWhole_whole _)
    (fun k => absurd ((hcond0_0 t).mp k) (by omega)) ((hcond0_1 t).mpr (by omega)) (fun k => absurd ((hcond0_2 t).mp k) (by omega)) ((hcond0_3 t).mpr (by omega))
    (iblk m c 0 t) (iblk m c 1 t) (iblk m c 2 t) (iblk m c 3 t) (iblk m c 4 t) (iblk m c 5 t) (iblk m c 6 t) (iblk m c 7 t) (iblk m c 8 t) (iblk m c 9 t) (iblk m c 10 t) p.dg p.dcw p.dpw p.dps p.fut p.acc p.wa p.wb

/-! The pieces a run writes cover each output's block and the kept scratch it fills. -/

theorem coverA_0 (c : Dev nD) (t : Fin cfg0.N) (h : t.val = 0) (y : S512x1024.Idx) : ∃ pc ∈ (runA m c t h).1, y ∈ pc.1.set :=
  View.cover_of_tiledL (runA m c t h).1 S512x1024.size (by sl_kernel_rfl) y
theorem coverA_1 (c : Dev nD) (t : Fin cfg0.N) (h : t.val = 0) (y : S512x2048.Idx) : ∃ pc ∈ (runA m c t h).2.1, y ∈ pc.1.set :=
  View.cover_of_tiledBy (runA m c t h).2.1 ![512, 128] (by sl_kernel_rfl) y
theorem coverA_3 (c : Dev nD) (t : Fin cfg0.N) (h : t.val = 0) (y : S1x1024.Idx) : ∃ pc ∈ (runA m c t h).2.2.2.1, y ∈ pc.1.set :=
  View.cover_of_tiledL (runA m c t h).2.2.2.1 S1x1024.size (by sl_kernel_rfl) y
theorem coverA_4 (c : Dev nD) (t : Fin cfg0.N) (h : t.val = 0) (y : S3x512.Idx) : ∃ pc ∈ (runA m c t h).2.2.2.2.1, y ∈ pc.1.set :=
  View.cover_of_tiledBy (runA m c t h).2.2.2.2.1 ![1, 512] (by sl_kernel_rfl) y
theorem coverA_5 (c : Dev nD) (t : Fin cfg0.N) (h : t.val = 0) (y : S4x128x128.Idx) : ∃ pc ∈ (runA m c t h).2.2.2.2.2.1, y ∈ pc.1.set :=
  View.cover_of_tiledBy (runA m c t h).2.2.2.2.2.1 ![1, 128, 128] (by sl_kernel_rfl) y
theorem coverA_6 (c : Dev nD) (t : Fin cfg0.N) (h : t.val = 0) (y : S1x512.Idx) : ∃ pc ∈ (runA m c t h).2.2.2.2.2.2.1, y ∈ pc.1.set :=
  View.cover_of_tiledBy (runA m c t h).2.2.2.2.2.2.1 ![1, 128] (by sl_kernel_rfl) y
theorem coverA_7 (c : Dev nD) (t : Fin cfg0.N) (h : t.val = 0) (y : S512x1024.Idx) : ∃ pc ∈ (runA m c t h).2.2.2.2.2.2.2.1, y ∈ pc.1.set :=
  View.cover_of_tiledL (runA m c t h).2.2.2.2.2.2.2.1 S512x1024.size (by sl_kernel_rfl) y
theorem coverA_8 (c : Dev nD) (t : Fin cfg0.N) (h : t.val = 0) (y : S544x1024.Idx) : ∃ pc ∈ (runA m c t h).2.2.2.2.2.2.2.2.1, y ∈ pc.1.set :=
  View.cover_of_tiledBy (runA m c t h).2.2.2.2.2.2.2.2.1 ![16, 128] (by sl_kernel_rfl) y
theorem coverA_9 (c : Dev nD) (t : Fin cfg0.N) (h : t.val = 0) (y : S1024x1024.Idx) : ∃ pc ∈ (runA m c t h).2.2.2.2.2.2.2.2.2.1, y ∈ pc.1.set :=
  View.cover_of_tiledL (runA m c t h).2.2.2.2.2.2.2.2.2.1 S1024x1024.size (by sl_kernel_rfl) y
theorem coverA_10 (c : Dev nD) (t : Fin cfg0.N) (h : t.val = 0) (y : S544x128.Idx) : ∃ pc ∈ (runA m c t h).2.2.2.2.2.2.2.2.2.2.1, y ∈ pc.1.set :=
  View.cover_of_wholeMem (runA m c t h).2.2.2.2.2.2.2.2.2.2.1 (by sl_whole_mem) y
theorem coverA_11 (c : Dev nD) (t : Fin cfg0.N) (h : t.val = 0) (y : S544x128.Idx) : ∃ pc ∈ (runA m c t h).2.2.2.2.2.2.2.2.2.2.2.1, y ∈ pc.1.set :=
  View.cover_of_wholeMem (runA m c t h).2.2.2.2.2.2.2.2.2.2.2.1 (by sl_whole_mem) y
theorem coverB_0 (c : Dev nD) (t : Fin cfg0.N) (h : t.val ≠ 0 ∧ t.val < 7) (p : Outs F) (y : S512x1024.Idx) : ∃ pc ∈ (runB m c t h p).1, y ∈ pc.1.set :=
  View.cover_of_tiledL (runB m c t h p).1 S512x1024.size (by sl_kernel_rfl) y
theorem coverB_1 (c : Dev nD) (t : Fin cfg0.N) (h : t.val ≠ 0 ∧ t.val < 7) (p : Outs F) (y : S512x2048.Idx) : ∃ pc ∈ (runB m c t h p).2.1, y ∈ pc.1.set :=
  View.cover_of_tiledBy (runB m c t h p).2.1 ![512, 128] (by sl_kernel_rfl) y
theorem coverB_3 (c : Dev nD) (t : Fin cfg0.N) (h : t.val ≠ 0 ∧ t.val < 7) (p : Outs F) (y : S1x1024.Idx) : ∃ pc ∈ (runB m c t h p).2.2.2.1, y ∈ pc.1.set :=
  View.cover_of_tiledL (runB m c t h p).2.2.2.1 S1x1024.size (by sl_kernel_rfl) y
theorem coverB_4 (c : Dev nD) (t : Fin cfg0.N) (h : t.val ≠ 0 ∧ t.val < 7) (p : Outs F) (y : S3x512.Idx) : ∃ pc ∈ (runB m c t h p).2.2.2.2.1, y ∈ pc.1.set :=
  View.cover_of_tiledL (runB m c t h p).2.2.2.2.1 S1x512.size (by sl_kernel_rfl) y
theorem coverB_5 (c : Dev nD) (t : Fin cfg0.N) (h : t.val ≠ 0 ∧ t.val < 7) (p : Outs F) (y : S4x128x128.Idx) : ∃ pc ∈ (runB m c t h p).2.2.2.2.2.1, y ∈ pc.1.set :=
  View.cover_of_tiledL (runB m c t h p).2.2.2.2.2.1 S1x128x128.size (by sl_kernel_rfl) y
theorem coverB_6 (c : Dev nD) (t : Fin cfg0.N) (h : t.val ≠ 0 ∧ t.val < 7) (p : Outs F) (y : S1x512.Idx) : ∃ pc ∈ (runB m c t h p).2.2.2.2.2.2.1, y ∈ pc.1.set :=
  View.cover_of_tiledL (runB m c t h p).2.2.2.2.2.2.1 S1x128.size (by sl_kernel_rfl) y
theorem coverB_7 (c : Dev nD) (t : Fin cfg0.N) (h : t.val ≠ 0 ∧ t.val < 7) (p : Outs F) (y : S512x1024.Idx) : ∃ pc ∈ (runB m c t h p).2.2.2.2.2.2.2.1, y ∈ pc.1.set :=
  View.cover_of_tiledL (runB m c t h p).2.2.2.2.2.2.2.1 S512x1024.size (by sl_kernel_rfl) y
theorem coverB_9 (c : Dev nD) (t : Fin cfg0.N) (h : t.val ≠ 0 ∧ t.val < 7) (p : Outs F) (y : S1024x1024.Idx) : ∃ pc ∈ (runB m c t h p).2.2.2.2.2.2.2.2.2.1, y ∈ pc.1.set :=
  View.cover_of_tiledL (runB m c t h p).2.2.2.2.2.2.2.2.2.1 S1024x1024.size (by sl_kernel_rfl) y
theorem coverC_0 (c : Dev nD) (t : Fin cfg0.N) (h : t.val = 7) (p : Outs F) (y : S512x1024.Idx) : ∃ pc ∈ (runC m c t h p).1, y ∈ pc.1.set :=
  View.cover_of_tiledL (runC m c t h p).1 S512x1024.size (by sl_kernel_rfl) y
theorem coverC_1 (c : Dev nD) (t : Fin cfg0.N) (h : t.val = 7) (p : Outs F) (y : S512x2048.Idx) : ∃ pc ∈ (runC m c t h p).2.1, y ∈ pc.1.set :=
  View.cover_of_tiledBy (runC m c t h p).2.1 ![512, 128] (by sl_kernel_rfl) y
theorem coverC_2 (c : Dev nD) (t : Fin cfg0.N) (h : t.val = 7) (p : Outs F) (y : S1024x1024.Idx) : ∃ pc ∈ (runC m c t h p).2.2.1, y ∈ pc.1.set :=
  View.cover_of_tiledL (runC m c t h p).2.2.1 S1024x1024.size (by sl_kernel_rfl) y
theorem coverC_3 (c : Dev nD) (t : Fin cfg0.N) (h : t.val = 7) (p : Outs F) (y : S1x1024.Idx) : ∃ pc ∈ (runC m c t h p).2.2.2.1, y ∈ pc.1.set :=
  View.cover_of_tiledL (runC m c t h p).2.2.2.1 S1x1024.size (by sl_kernel_rfl) y
theorem coverC_4 (c : Dev nD) (t : Fin cfg0.N) (h : t.val = 7) (p : Outs F) (y : S3x512.Idx) : ∃ pc ∈ (runC m c t h p).2.2.2.2.1, y ∈ pc.1.set :=
  View.cover_of_tiledL (runC m c t h p).2.2.2.2.1 S1x512.size (by sl_kernel_rfl) y
theorem coverC_5 (c : Dev nD) (t : Fin cfg0.N) (h : t.val = 7) (p : Outs F) (y : S4x128x128.Idx) : ∃ pc ∈ (runC m c t h p).2.2.2.2.2.1, y ∈ pc.1.set :=
  View.cover_of_tiledL (runC m c t h p).2.2.2.2.2.1 S1x128x128.size (by sl_kernel_rfl) y
theorem coverC_6 (c : Dev nD) (t : Fin cfg0.N) (h : t.val = 7) (p : Outs F) (y : S1x512.Idx) : ∃ pc ∈ (runC m c t h p).2.2.2.2.2.2.1, y ∈ pc.1.set :=
  View.cover_of_tiledL (runC m c t h p).2.2.2.2.2.2.1 S1x128.size (by sl_kernel_rfl) y
theorem coverC_7 (c : Dev nD) (t : Fin cfg0.N) (h : t.val = 7) (p : Outs F) (y : S512x1024.Idx) : ∃ pc ∈ (runC m c t h p).2.2.2.2.2.2.2.1, y ∈ pc.1.set :=
  View.cover_of_tiledL (runC m c t h p).2.2.2.2.2.2.2.1 S512x1024.size (by sl_kernel_rfl) y
theorem coverC_9 (c : Dev nD) (t : Fin cfg0.N) (h : t.val = 7) (p : Outs F) (y : S1024x1024.Idx) : ∃ pc ∈ (runC m c t h p).2.2.2.2.2.2.2.2.2.1, y ∈ pc.1.set :=
  View.cover_of_tiledL (runC m c t h p).2.2.2.2.2.2.2.2.2.1 S1024x1024.size (by sl_kernel_rfl) y

/-- The pieces `L` read back. -/
abbrev left {S : Shape} {e : EltTy} (W : View sig .tc .vmem S e) (L : List (View.Piece (Elt F) S e)) : Vec F S e :=
  W.read (Elt F) (W.writes (Elt F) W.junk L)
/-- The pieces `L` read back over the contents `x` of a whole buffer. -/
abbrev over {S : Shape} {e : EltTy} (M : Memref sig .tc .vmem S e) (h : M.IsWhole) (x : Vec F S e) (L : List (View.Piece (Elt F) S e)) : Vec F S e :=
  M.view.read (Elt F) (M.view.writes (Elt F) (h.unread x) L)

/-- What the first point leaves. -/
def outA (c : Dev nD) (t : Fin cfg0.N) (h : t.val = 0) : Outs F where
  dx := left VO0_11 (runA m c t h).1
  dproj := left VO0_12 (runA m c t h).2.1
  dwo := left VO0_13 []
  dg := left VO0_14 (runA m c t h).2.2.2.1
  dcw := left VO0_15 (runA m c t h).2.2.2.2.1
  dpw := left VO0_16 (runA m c t h).2.2.2.2.2.1
  dps := left VO0_17 (runA m c t h).2.2.2.2.2.2.1
  half := left VO0_18 (runA m c t h).2.2.2.2.2.2.2.1
  fut := left VS0_1 (runA m c t h).2.2.2.2.2.2.2.2.1
  acc := left VS0_3 (runA m c t h).2.2.2.2.2.2.2.2.2.1
  wa := left VS0_4 (runA m c t h).2.2.2.2.2.2.2.2.2.2.1
  wb := left VS0_5 (runA m c t h).2.2.2.2.2.2.2.2.2.2.2.1

/-- What a point between leaves. -/
def outB (c : Dev nD) (t : Fin cfg0.N) (h : t.val ≠ 0 ∧ t.val < 7) (p : Outs F) : Outs F where
  dx := left VO0_11 (runB m c t h p).1
  dproj := left VO0_12 (runB m c t h p).2.1
  dwo := left VO0_13 []
  dg := left VO0_14 (runB m c t h p).2.2.2.1
  dcw := left VO0_15 (runB m c t h p).2.2.2.2.1
  dpw := left VO0_16 (runB m c t h p).2.2.2.2.2.1
  dps := left VO0_17 (runB m c t h p).2.2.2.2.2.2.1
  half := left VO0_18 (runB m c t h p).2.2.2.2.2.2.2.1
  fut := over scM0_1 (Memref.isWhole_whole _) p.fut (runB m c t h p).2.2.2.2.2.2.2.2.1
  acc := left VS0_3 (runB m c t h p).2.2.2.2.2.2.2.2.2.1
  wa := over scM0_4 (Memref.isWhole_whole _) p.wa (runB m c t h p).2.2.2.2.2.2.2.2.2.2.1
  wb := over scM0_5 (Memref.isWhole_whole _) p.wb (runB m c t h p).2.2.2.2.2.2.2.2.2.2.2.1

/-- What the last point leaves. -/
def outC (c : Dev nD) (t : Fin cfg0.N) (h : t.val = 7) (p : Outs F) : Outs F where
  dx := left VO0_11 (runC m c t h p).1
  dproj := left VO0_12 (runC m c t h p).2.1
  dwo := left VO0_13 (runC m c t h p).2.2.1
  dg := left VO0_14 (runC m c t h p).2.2.2.1
  dcw := left VO0_15 (runC m c t h p).2.2.2.2.1
  dpw := left VO0_16 (runC m c t h p).2.2.2.2.2.1
  dps := left VO0_17 (runC m c t h p).2.2.2.2.2.2.1
  half := left VO0_18 (runC m c t h p).2.2.2.2.2.2.2.1
  fut := over scM0_1 (Memref.isWhole_whole _) p.fut (runC m c t h p).2.2.2.2.2.2.2.2.1
  acc := left VS0_3 (runC m c t h p).2.2.2.2.2.2.2.2.2.1
  wa := over scM0_4 (Memref.isWhole_whole _) p.wa (runC m c t h p).2.2.2.2.2.2.2.2.2.2.1
  wb := over scM0_5 (Memref.isWhole_whole _) p.wb (runC m c t h p).2.2.2.2.2.2.2.2.2.2.2.1

/-- What the body leaves after the point at position `n`. -/
def outsAt (c : Dev nD) : (n : ℕ) → n < cfg0.N → Outs F
  | 0, hn => outA m c ⟨0, hn⟩ rfl
  | n + 1, hn =>
    if h : n + 1 < 7 then outB m c ⟨n + 1, hn⟩ ⟨Nat.succ_ne_zero _, h⟩ (outsAt c n (Nat.lt_of_succ_lt hn))
    else outC m c ⟨n + 1, hn⟩ (by have hN : n + 1 < 8 := lt_of_lt_of_eq hn (show cfg0.N = 8 from N_0); dsimp only; omega) (outsAt c n (Nat.lt_of_succ_lt hn))

/-- What the point before `t` left. -/
abbrev prev (c : Dev nD) (t : Fin cfg0.N) : Outs F := outsAt m c (t.val - 1) (Nat.lt_of_le_of_lt (Nat.sub_le _ _) t.isLt)

theorem outsAt_A (c : Dev nD) (t : Fin cfg0.N) (h : t.val = 0) : outsAt m c t.val t.isLt = outA m c t h := by
  obtain ⟨n, hn⟩ := t
  cases n with
  | zero => rfl
  | succ n => exact absurd h (Nat.succ_ne_zero _)

theorem outsAt_B (c : Dev nD) (t : Fin cfg0.N) (h : t.val ≠ 0 ∧ t.val < 7) : outsAt m c t.val t.isLt = outB m c t h (prev m c t) := by
  obtain ⟨n, hn⟩ := t
  cases n with
  | zero => exact absurd rfl h.1
  | succ n => exact dif_pos h.2

theorem outsAt_C (c : Dev nD) (t : Fin cfg0.N) (h : t.val = 7) : outsAt m c t.val t.isLt = outC m c t h (prev m c t) := by
  obtain ⟨n, hn⟩ := t
  cases n with
  | zero => exact absurd h (by dsimp only; omega)
  | succ n => exact dif_neg (by dsimp only at h; omega)

/-! ## The invariant between the points -/

/-- Between two points: the kept scratch as `p` says, the other scratch and the random register at anything. -/
def between (c : Dev nD) (p : Outs F) : sProp 𝕄 :=
  iprop(iprop((∃ d, owns (c : Thread nD τ) scM0_0 fullShare d) ∗ owns (c : Thread nD τ) scM0_1 fullShare p.fut
      ∗ (∃ d, owns (c : Thread nD τ) scM0_2 fullShare d) ∗ owns (c : Thread nD τ) scM0_3 fullShare p.acc
      ∗ owns (c : Thread nD τ) scM0_4 fullShare p.wa ∗ owns (c : Thread nD τ) scM0_5 fullShare p.wb)
    ∗ (∃ r, prngReg c r))

/-- The invariant before position `n`. -/
def PhiS (c : Dev nD) : (n : ℕ) → n ≤ cfg0.N → sProp 𝕄
  | 0, _ => Pipeline.ΦA spec0 c
  | n + 1, hn => between c (outsAt m c n hn)

theorem PhiS_pos (c : Dev nD) (n : ℕ) (h : n ≤ cfg0.N) (hz : n ≠ 0) :
    PhiS m c n h = between c (outsAt m c (n - 1) (by omega)) := by
  cases n with
  | zero => exact absurd rfl hz
  | succ n => rfl

/-- The proof data of the pipeline: inputs keep their blocks, outputs hold `outsAt`, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt m c t.val t.isLt).dx
    | ⟨12, _⟩ => (outsAt m c t.val t.isLt).dproj
    | ⟨13, _⟩ => (outsAt m c t.val t.isLt).dwo
    | ⟨14, _⟩ => (outsAt m c t.val t.isLt).dg
    | ⟨15, _⟩ => (outsAt m c t.val t.isLt).dcw
    | ⟨16, _⟩ => (outsAt m c t.val t.isLt).dpw
    | ⟨17, _⟩ => (outsAt m c t.val t.isLt).dps
    | ⟨18, _⟩ => (outsAt m c t.val t.isLt).half
    | ⟨_ + 19, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt m c t.val t.isLt).dx := by dsimp only [dats]
theorem after0_12 (c : Dev nD) (t : Fin cfg0.N) : (dats m 0 c).after 12 t = (outsAt m c t.val t.isLt).dproj := by dsimp only [dats]
theorem after0_13 (c : Dev nD) (t : Fin cfg0.N) : (dats m 0 c).after 13 t = (outsAt m c t.val t.isLt).dwo := by dsimp only [dats]
theorem after0_14 (c : Dev nD) (t : Fin cfg0.N) : (dats m 0 c).after 14 t = (outsAt m c t.val t.isLt).dg := by dsimp only [dats]
theorem after0_15 (c : Dev nD) (t : Fin cfg0.N) : (dats m 0 c).after 15 t = (outsAt m c t.val t.isLt).dcw := by dsimp only [dats]
theorem after0_16 (c : Dev nD) (t : Fin cfg0.N) : (dats m 0 c).after 16 t = (outsAt m c t.val t.isLt).dpw := by dsimp only [dats]
theorem after0_17 (c : Dev nD) (t : Fin cfg0.N) : (dats m 0 c).after 17 t = (outsAt m c t.val t.isLt).dps := by dsimp only [dats]
theorem after0_18 (c : Dev nD) (t : Fin cfg0.N) : (dats m 0 c).after 18 t = (outsAt m c t.val t.isLt).half := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! An accumulated output's buffer holds at a later point what the point before left. -/

theorem kept0_14 (c : Dev nD) (t : Fin cfg0.N) (h : t.val ≠ 0) (d) : (dats m 0 c).before 14 t d = (prev m c t).dg := by
  have hN : t.val < 8 := lt_of_lt_of_eq t.isLt (show cfg0.N = 8 from N_0)
  rw [Dat.before_out_kept _ 14 rfl t h (Bool.eq_false_iff.mpr fun h => by have := (flush0_14 _).mp h; dsimp only at this; omega)
    (fun _ => rfl) (fun _ _ => rfl)]
  dsimp only [dats]
theorem kept0_15 (c : Dev nD) (t : Fin cfg0.N) (h : t.val ≠ 0) (d) : (dats m 0 c).before 15 t d = (prev m c t).dcw := by
  have hN : t.val < 8 := lt_of_lt_of_eq t.isLt (show cfg0.N = 8 from N_0)
  rw [Dat.before_out_kept _ 15 rfl t h (Bool.eq_false_iff.mpr fun h => by have := (flush0_15 _).mp h; dsimp only at this; omega)
    (fun _ => rfl) (fun _ _ => rfl)]
  dsimp only [dats]
theorem kept0_16 (c : Dev nD) (t : Fin cfg0.N) (h : t.val ≠ 0) (d) : (dats m 0 c).before 16 t d = (prev m c t).dpw := by
  have hN : t.val < 8 := lt_of_lt_of_eq t.isLt (show cfg0.N = 8 from N_0)
  rw [Dat.before_out_kept _ 16 rfl t h (Bool.eq_false_iff.mpr fun h => by have := (flush0_16 _).mp h; dsimp only at this; omega)
    (fun _ => rfl) (fun _ _ => rfl)]
  dsimp only [dats]
theorem kept0_17 (c : Dev nD) (t : Fin cfg0.N) (h : t.val ≠ 0) (d) : (dats m 0 c).before 17 t d = (prev m c t).dps := by
  have hN : t.val < 8 := lt_of_lt_of_eq t.isLt (show cfg0.N = 8 from N_0)
  rw [Dat.before_out_kept _ 17 rfl t h (Bool.eq_false_iff.mpr fun h => by have := (flush0_17 _).mp h; dsimp only at this; omega)
    (fun _ => rfl) (fun _ _ => rfl)]
  dsimp only [dats]

/-! ## The body obligation -/

/-- A buffer with covering pieces written over anything is owned at the pieces' contents, read through any view of that shape. -/
theorem owns_of_cover (c : Dev nD) {S : Shape} {e : EltTy} (M : Memref sig .tc .vmem S e) (W : View sig .tc .vmem S e)
    (L : List (View.Piece (Elt F) S e)) (h : ∀ y : S.Idx, ∃ pc ∈ L, y ∈ pc.1.set) :
    iprop(∃ f, M.view.loc (c : Thread nD τ) ↦[M.view.set]{fullShare} M.view.writes (Elt F) f L)
      ⊢ (owns (c : Thread nD τ) M fullShare (W.read (Elt F) (W.writes (Elt F) W.junk L)) : sProp 𝕄) := by
  iintro ⟨%f, H⟩
  unfold owns; iexists _; isplitr
  swap; · iexact H
  ipureintro; exact View.read_writes_of_cover _ _ _ _ _ h

/-- A buffer with pieces written over anything is owned at some contents. -/
theorem some_of_writes (c : Dev nD) {S : Shape} {e : EltTy} (M : Memref sig .tc .vmem S e) (L : List (View.Piece (Elt F) S e)) :
    iprop(∃ f, M.view.loc (c : Thread nD τ) ↦[M.view.set]{fullShare} M.view.writes (Elt F) f L)
      ⊢ iprop(∃ d, (owns (c : Thread nD τ) M fullShare d : sProp 𝕄)) := by
  iintro ⟨%f, H⟩
  iexists _; unfold owns; iexists _; isplitr
  swap; · iexact H
  ipureintro; rfl

/-- A whole buffer with pieces written over known contents is owned at the pieces read back over them. -/
theorem owns_of_over (c : Dev nD) {S : Shape} {e : EltTy} (M : Memref sig .tc .vmem S e) (h : M.IsWhole) (x : Vec F S e)
    (L : List (View.Piece (Elt F) S e)) :
    (M.view.loc (c : Thread nD τ) ↦[M.view.set]{fullShare} M.view.writes (Elt F) (h.unread x) L)
      ⊢ (owns (c : Thread nD τ) M fullShare (over M h x L) : sProp 𝕄) := by
  iintro H
  unfold owns; iexists _; isplitr
  swap; · iexact H
  ipureintro; rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

/-- A live window is left at `after`. -/
theorem leaves_eq (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 9600000 in
/-- The body at the first point runs from what it is called with to what it returns. -/
theorem sound_first (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    show (dats m 0 c).Φ t.succ = between c (outsAt m c t.val t.isLt) from rfl]
  rw [Dat.leavesExact_idle (dats m 0 c) 13 t (idleAt t (by omega)) (noFlush t (by omega)),
    leaves_eq m c t 0 (liveAt 0 t (by decide)), leaves_eq m c t 1 (liveAt 1 t (by decide)), leaves_eq m c t 2 (liveAt 2 t (by decide)), leaves_eq m c t 3 (liveAt 3 t (by decide)), leaves_eq m c t 4 (liveAt 4 t (by decide)), leaves_eq m c t 5 (liveAt 5 t (by decide)), leaves_eq m c t 6 (liveAt 6 t (by decide)), leaves_eq m c t 7 (liveAt 7 t (by decide)), leaves_eq m c t 8 (liveAt 8 t (by decide)), leaves_eq m c t 9 (liveAt 9 t (by decide)), leaves_eq m c t 10 (liveAt 10 t (by decide)), leaves_eq m c t 11 (liveAt 11 t (by decide)), leaves_eq m c t 12 (liveAt 12 t (by decide)), leaves_eq m c t 14 (liveAt 14 t (by decide)), leaves_eq m c t 15 (liveAt 15 t (by decide)), leaves_eq m c t 16 (liveAt 16 t (by decide)), leaves_eq m c t 17 (liveAt 17 t (by decide)), leaves_eq m c t 18 (liveAt 18 t (by decide))]
  simp only [after0_0, after0_1, after0_2, after0_3, after0_4, after0_5, after0_6, after0_7, after0_8, after0_9, after0_10, after0_11, after0_12, after0_14, after0_15, after0_16, after0_17, after0_18]
  rw [PhiS_castSucc m c t, show PhiS m c t.val (Nat.le_of_lt t.isLt) = Pipeline.ΦA spec0 c from by obtain ⟨n, hn⟩ := t; cases h; rfl,
    PhiA0_eq, outsAt_A m c t h]
  unfold outA between; dsimp only
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((runA m c t h).2.2.2.2.2.2.2.2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, HS0, HS1, HS2, HS3, HS4, HS5⟩
  isplitl [HS0 HS1 HS2 HS3 HS4 HS5 Hg]
  · isplitl [HS0 HS1 HS2 HS3 HS4 HS5]
    · isplitl [HS0]; · iapply (some_of_writes c scM0_0 _); iexact HS0
      isplitl [HS1]; · iapply (owns_of_cover c scM0_1 VS0_1 _ (coverA_8 m c t h)); iexact HS1
      isplitl [HS2]; · iapply (some_of_writes c scM0_2 _); iexact HS2
      isplitl [HS3]; · iapply (owns_of_cover c scM0_3 VS0_3 _ (coverA_9 m c t h)); iexact HS3
      isplitl [HS4]; · iapply (owns_of_cover c scM0_4 VS0_4 _ (coverA_10 m c t h)); iexact HS4
      iapply (owns_of_cover c scM0_5 VS0_5 _ (coverA_11 m c t h)); iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (owns_of_cover c _ VO0_11 _ (coverA_0 m c t h)); iexact H11
  isplitl [H12]; · iapply (owns_of_cover c _ VO0_12 _ (coverA_1 m c t h)); iexact H12
  isplitl [H13]; · iexists _; iexact H13
  isplitl [H14]; · iapply (owns_of_cover c _ VO0_14 _ (coverA_3 m c t h)); iexact H14
  isplitl [H15]; · iapply (owns_of_cover c _ VO0_15 _ (coverA_4 m c t h)); iexact H15
  isplitl [H16]; · iapply (owns_of_cover c _ VO0_16 _ (coverA_5 m c t h)); iexact H16
  isplitl [H17]; · iapply (owns_of_cover c _ VO0_17 _ (coverA_6 m c t h)); iexact H17
  iapply (owns_of_cover c _ VO0_18 _ (coverA_7 m c t h)); iexact H18

set_option maxHeartbeats 9600000 in
/-- The body at a point between runs from what it is called with to what it returns. -/
theorem sound_between (c : Dev nD) (t : Fin cfg0.N) (h : t.val ≠ 0 ∧ t.val < 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, kept0_14 m c t (by omega), kept0_15 m c t (by omega), kept0_16 m c t (by omega), kept0_17 m c t (by omega)]
  rw [show (dats m 0 c).owesAt () t.succ = (dats m 0 c).owesAt () t.castSucc from rfl,
    show (dats m 0 c).Φ t.succ = between c (outsAt m c t.val t.isLt) from rfl]
  rw [Dat.leavesExact_idle (dats m 0 c) 13 t (idleAt t (by omega)) (noFlush t (by omega)),
    leaves_eq m c t 0 (liveAt 0 t (by decide)), leaves_eq m c t 1 (liveAt 1 t (by decide)), leaves_eq m c t 2 (liveAt 2 t (by decide)), leaves_eq m c t 3 (liveAt 3 t (by decide)), leaves_eq m c t 4 (liveAt 4 t (by decide)), leaves_eq m c t 5 (liveAt 5 t (by decide)), leaves_eq m c t 6 (liveAt 6 t (by decide)), leaves_eq m c t 7 (liveAt 7 t (by decide)), leaves_eq m c t 8 (liveAt 8 t (by decide)), leaves_eq m c t 9 (liveAt 9 t (by decide)), leaves_eq m c t 10 (liveAt 10 t (by decide)), leaves_eq m c t 11 (liveAt 11 t (by decide)), leaves_eq m c t 12 (liveAt 12 t (by decide)), leaves_eq m c t 14 (liveAt 14 t (by decide)), leaves_eq m c t 15 (liveAt 15 t (by decide)), leaves_eq m c t 16 (liveAt 16 t (by decide)), leaves_eq m c t 17 (liveAt 17 t (by decide)), leaves_eq m c t 18 (liveAt 18 t (by decide))]
  simp only [after0_0, after0_1, after0_2, after0_3, after0_4, after0_5, after0_6, after0_7, after0_8, after0_9, after0_10, after0_11, after0_12, after0_14, after0_15, after0_16, after0_17, after0_18]
  rw [PhiS_castSucc m c t, PhiS_pos m c _ _ (by omega), outsAt_B m c t h]
  unfold outB between; dsimp only
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((runB m c t h (prev m c t)).2.2.2.2.2.2.2.2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexact H13
  isplitl [H14]; · iexact H14
  isplitl [H15]; · iexact H15
  isplitl [H16]; · iexact H16
  isplitl [H17]; · iexact H17
  isplitl [H18]; · iexists _; iexact H18
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, HS0, HS1, HS2, HS3, HS4, HS5⟩
  isplitl [HS0 HS1 HS2 HS3 HS4 HS5 Hg]
  · isplitl [HS0 HS1 HS2 HS3 HS4 HS5]
    · isplitl [HS0]; · iapply (some_of_writes c scM0_0 _); iexact HS0
      isplitl [HS1]; · iapply (owns_of_over c scM0_1 (Memref.isWhole_whole _) _ _); iexact HS1
      isplitl [HS2]; · iapply (some_of_writes c scM0_2 _); iexact HS2
      isplitl [HS3]; · iapply (owns_of_cover c scM0_3 VS0_3 _ (coverB_9 m c t h (prev m c t))); iexact HS3
      isplitl [HS4]; · iapply (owns_of_over c scM0_4 (Memref.isWhole_whole _) _ _); iexact HS4
      iapply (owns_of_over c scM0_5 (Memref.isWhole_whole _) _ _); iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (owns_of_cover c _ VO0_11 _ (coverB_0 m c t h (prev m c t))); iexact H11
  isplitl [H12]; · iapply (owns_of_cover c _ VO0_12 _ (coverB_1 m c t h (prev m c t))); iexact H12
  isplitl [H13]; · iexists _; iexact H13
  isplitl [H14]; · iapply (owns_of_cover c _ VO0_14 _ (coverB_3 m c t h (prev m c t))); iexact H14
  isplitl [H15]; · iapply (owns_of_cover c _ VO0_15 _ (coverB_4 m c t h (prev m c t))); iexact H15
  isplitl [H16]; · iapply (owns_of_cover c _ VO0_16 _ (coverB_5 m c t h (prev m c t))); iexact H16
  isplitl [H17]; · iapply (owns_of_cover c _ VO0_17 _ (coverB_6 m c t h (prev m c t))); iexact H17
  iapply (owns_of_cover c _ VO0_18 _ (coverB_7 m c t h (prev m c t))); iexact H18

set_option maxHeartbeats 9600000 in
/-- The body at the last point runs from what it is called with to what it returns. -/
theorem sound_last (c : Dev nD) (t : Fin cfg0.N) (h : t.val = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, kept0_14 m c t (by omega), kept0_15 m c t (by omega), kept0_16 m c t (by omega), kept0_17 m c t (by omega)]
  rw [show (dats m 0 c).owesAt () t.succ = (dats m 0 c).owesAt () t.castSucc from rfl,
    show (dats m 0 c).Φ t.succ = between c (outsAt m c t.val t.isLt) from rfl]
  rw [leaves_eq m c t 13 (liveAt_last t (by omega)),
    leaves_eq m c t 0 (liveAt 0 t (by decide)), leaves_eq m c t 1 (liveAt 1 t (by decide)), leaves_eq m c t 2 (liveAt 2 t (by decide)), leaves_eq m c t 3 (liveAt 3 t (by decide)), leaves_eq m c t 4 (liveAt 4 t (by decide)), leaves_eq m c t 5 (liveAt 5 t (by decide)), leaves_eq m c t 6 (liveAt 6 t (by decide)), leaves_eq m c t 7 (liveAt 7 t (by decide)), leaves_eq m c t 8 (liveAt 8 t (by decide)), leaves_eq m c t 9 (liveAt 9 t (by decide)), leaves_eq m c t 10 (liveAt 10 t (by decide)), leaves_eq m c t 11 (liveAt 11 t (by decide)), leaves_eq m c t 12 (liveAt 12 t (by decide)), leaves_eq m c t 14 (liveAt 14 t (by decide)), leaves_eq m c t 15 (liveAt 15 t (by decide)), leaves_eq m c t 16 (liveAt 16 t (by decide)), leaves_eq m c t 17 (liveAt 17 t (by decide)), leaves_eq m c t 18 (liveAt 18 t (by decide))]
  simp only [after0_0, after0_1, after0_2, after0_3, after0_4, after0_5, after0_6, after0_7, after0_8, after0_9, after0_10, after0_11, after0_12, after0_13, after0_14, after0_15, after0_16, after0_17, after0_18]
  rw [PhiS_castSucc m c t, PhiS_pos m c _ _ (by omega), outsAt_C m c t h]
  unfold outC between; dsimp only
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((runC m c t h (prev m c t)).2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexact H14
  isplitl [H15]; · iexact H15
  isplitl [H16]; · iexact H16
  isplitl [H17]; · iexact H17
  isplitl [H18]; · iexists _; iexact H18
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, HS0, HS1, HS2, HS3, HS4, HS5⟩
  isplitl [HS0 HS1 HS2 HS3 HS4 HS5 Hg]
  · isplitl [HS0 HS1 HS2 HS3 HS4 HS5]
    · isplitl [HS0]; · iapply (some_of_writes c scM0_0 _); iexact HS0
      isplitl [HS1]; · iapply (owns_of_over c scM0_1 (Memref.isWhole_whole _) _ _); iexact HS1
      isplitl [HS2]; · iapply (some_of_writes c scM0_2 _); iexact HS2
      isplitl [HS3]; · iapply (owns_of_cover c scM0_3 VS0_3 _ (coverC_9 m c t h (prev m c t))); iexact HS3
      isplitl [HS4]; · iapply (owns_of_over c scM0_4 (Memref.isWhole_whole _) _ _); iexact HS4
      iapply (owns_of_over c scM0_5 (Memref.isWhole_whole _) _ _); iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (owns_of_cover c _ VO0_11 _ (coverC_0 m c t h (prev m c t))); iexact H11
  isplitl [H12]; · iapply (owns_of_cover c _ VO0_12 _ (coverC_1 m c t h (prev m c t))); iexact H12
  isplitl [H13]; · iapply (owns_of_cover c _ VO0_13 _ (coverC_2 m c t h (prev m c t))); iexact H13
  isplitl [H14]; · iapply (owns_of_cover c _ VO0_14 _ (coverC_3 m c t h (prev m c t))); iexact H14
  isplitl [H15]; · iapply (owns_of_cover c _ VO0_15 _ (coverC_4 m c t h (prev m c t))); iexact H15
  isplitl [H16]; · iapply (owns_of_cover c _ VO0_16 _ (coverC_5 m c t h (prev m c t))); iexact H16
  isplitl [H17]; · iapply (owns_of_cover c _ VO0_17 _ (coverC_6 m c t h (prev m c t))); iexact H17
  iapply (owns_of_cover c _ VO0_18 _ (coverC_7 m c t h (prev m c t))); iexact H18

/-- So the body is sound at any point. -/
theorem sound_body (c : Dev nD) (t : Fin cfg0.N) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  by_cases h0 : t.val = 0
  · exact sound_first m c t h0
  by_cases h7 : t.val < 7
  · exact sound_between m c t ⟨h0, h7⟩
  exact sound_last m c t (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the kept scratch's contents are forgotten. -/
theorem hout (c : Dev nD) : (dats m 0 c).Φ (Fin.last cfg0.N) ⊢ Pipeline.ΦA spec0 c := by
  have hN : cfg0.N = 8 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  unfold between
  iintro ⟨⟨HS0, HS1, HS2, HS3, HS4, HS5⟩, Hg⟩
  isplitl [HS0 HS1 HS2 HS3 HS4 HS5]
  · isplitl [HS0]; · iexact HS0
    isplitl [HS1]; · iexists _; iexact HS1
    isplitl [HS2]; · iexact HS2
    isplitl [HS3]; · iexists _; iexact HS3
    isplitl [HS4]; · iexists _; iexact HS4
    iexists _; iexact HS5
  iexact Hg

/-! ## The run and the frame -/

set_option backward.isDefEq.respectTransparency.types false in
/-- Every execution ends with the arrays the proof data give, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The arrays alone. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end MixFrame

end

end
-- ==== Proof.MixStep.lean ====
module

public import proofs.«01_k».proof.Proof.MixFrame
public import Idealize.ShloMosaic.Lib.VecWindow

@[expose] public section

set_option maxRecDepth 16384

noncomputable section

/-! One point of the backward mixer as a function of what it reads: loads are windows, stores are windows put over. -/

namespace MixStep

open Cert.MixIdeal Cert.MixIdeal.Gen
open Idealize.ShloMosaic
open Idealize.ShloMosaic.VecWindow (window put)
open MixFrame (Outs)

variable {F : FTy → Type} [FloatOps F]

/-- What a point reads: its tile, the blocks, the running sums row by row, the kept scratch, and what lies under the pieces it writes. -/
structure In (F : FTy → Type) where
  tile : BitVec 32
  ct : Vec F S512x1024 .f32
  x : Vec F S512x1024 .f32
  proj : Vec F S512x2048 .f32
  halo : Vec F S16x2048 .f32
  pooled : Vec F S512x512 .bf16
  g : Vec F S1x1024 .f32
  win : Vec F S8x1024x256 .bf16
  cw : Vec F S3x512 .f32
  pw : Vec F S4x128x128 .bf16
  ps : Vec F S1x512 .f32
  wo : Vec F S1024x1024 .bf16
  dg : Vec F S1x1024 .f32
  dcw0 : Vec F S1x512 .f32
  dcw1 : Vec F S1x512 .f32
  dcw2 : Vec F S1x512 .f32
  dpw0 : Vec F S1x128x128 .f32
  dpw1 : Vec F S1x128x128 .f32
  dpw2 : Vec F S1x128x128 .f32
  dpw3 : Vec F S1x128x128 .f32
  dps0 : Vec F S1x128 .f32
  dps1 : Vec F S1x128 .f32
  dps2 : Vec F S1x128 .f32
  dps3 : Vec F S1x128 .f32
  fut : Vec F S544x1024 .f32
  acc : Vec F S1024x1024 .f32
  wa : Vec F S544x128 .f32
  wb : Vec F S544x128 .f32
  uext : Vec F S528x2048 .f32
  ufut : Vec F S544x1024 .f32
  ucat : Vec F S512x1024 .bf16
  uwa : Vec F S544x128 .f32
  uwb : Vec F S544x128 .f32
  uproj : Vec F S512x2048 .bf16
  udproj : Vec F S512x2048 .bf16
  udcw : Vec F S3x512 .f32
  udpw : Vec F S4x128x128 .f32
  udps : Vec F S1x512 .f32
  udwo : Vec F S1024x1024 .bf16

variable (I : In F)

/-- The tile's projections below the 16 rows before it. -/
def ext : Vec F S528x2048 .f32 := put (put (I.uext) ![16, 0] S512x2048.size (k0_pay9 I.proj)) ![0, 0] S16x2048.size (I.halo)

/-- Gate c of the tile's rows, -/
def gateC : Vec F S512x512 .f32 := window (ext I) ![16, 0] S512x512.size inb_S528x2048_S512x512_16_0

/-- gate b, -/
def gateB : Vec F S512x512 .f32 := window (ext I) ![16, 512] S512x512.size inb_S528x2048_S512x512_16_512

/-- and the values; -/
def val : Vec F S512x512 .f32 := window (ext I) ![16, 1024] S512x512.size inb_S528x2048_S512x512_16_1024

/-- values one row back, -/
def val1 : Vec F S512x512 .f32 := window (ext I) ![15, 1024] S512x512.size inb_S528x2048_S512x512_15_1024

/-- gate c one row back, -/
def gateC1 : Vec F S512x512 .f32 := window (ext I) ![15, 0] S512x512.size inb_S528x2048_S512x512_15_0

/-- values two rows back, -/
def val2 : Vec F S512x512 .f32 := window (ext I) ![14, 1024] S512x512.size inb_S528x2048_S512x512_14_1024

/-- gate c two rows back. -/
def gateC2 : Vec F S512x512 .f32 := window (ext I) ![14, 0] S512x512.size inb_S528x2048_S512x512_14_0

/-- The gated values, with none, -/
def z0 : FVec F S512x512 .f32 := k0_pay13 (gateC I) (val I)

/-- one -/
def z1 : FVec F S512x512 .f32 := k0_pay14 (val1 I) (gateC1 I)

/-- and two rows of delay. -/
def z2 : FVec F S512x512 .f32 := k0_pay15 (val2 I) (gateC2 I)

/-- The causal convolution. -/
def conv : FVec F S512x512 .f32 := k0_pay16 I.cw (gateC I) (val I) (val1 I) (gateC1 I) (val2 I) (gateC2 I)

/-- The cotangent of the concatenation. -/
def dcat : FVec F S512x1024 .f32 := k0_pay23 I.ct I.wo

/-- The cotangent of the convolution. -/
def dconv : FVec F S512x512 .f32 := k0_pay25 (gateB I) I.ct I.wo

/-- Group 0 of the cotangent, -/
def dy0 : FVec F S512x128 .f32 := k0_pay35 (dcat I)

/-- and group 1. -/
def dy1 : FVec F S512x128 .f32 := k0_pay44 (dcat I)

/-- The pooled cotangent of group 0, -/
def dpool0 : FVec F S512x128 .f32 := k0_pay40 (dy0 I) (window I.ps ![0, 0] S1x128.size inb_S1x512_S1x128_0_0) (window I.pw ![0, 0, 0] S1x128x128.size inb_S4x128x128_S1x128x128_0_0_0)

/-- of group 1, -/
def dpool1 : FVec F S512x128 .f32 := k0_pay49 (dy1 I) (window I.ps ![0, 128] S1x128.size inb_S1x512_S1x128_0_128) (window I.pw ![1, 0, 0] S1x128x128.size inb_S4x128x128_S1x128x128_1_0_0)

/-- of group 2 -/
def dpool2 : FVec F S512x128 .f32 := k0_pay58 (dcat I) (window I.ps ![0, 256] S1x128.size inb_S1x512_S1x128_0_256) (window I.pw ![2, 0, 0] S1x128x128.size inb_S4x128x128_S1x128x128_2_0_0)

/-- and of group 3. -/
def dpool3 : FVec F S512x128 .f32 := k0_pay68 (k0_pay66 (dcat I) (window I.ps ![0, 384] S1x128.size inb_S1x512_S1x128_0_384)) (window I.pw ![3, 0, 0] S1x128x128.size inb_S4x128x128_S1x128x128_3_0_0)

/-- The cotangent rows to come: the tile's own, over `u`. -/
def futOf (u : Vec F S544x1024 .f32) : Vec F S544x1024 .f32 := put (put (put (put (put (u) ![0, 0] S512x512.size (k0_pay26 (gateB I) I.ct I.wo)) ![0, 512] S512x128.size (k0_pay41 (k0_pay18 I.tile) (dy0 I) (window I.ps ![0, 0] S1x128.size inb_S1x512_S1x128_0_0) (window I.pw ![0, 0, 0] S1x128x128.size inb_S4x128x128_S1x128x128_0_0_0))) ![0, 640] S512x128.size (k0_pay50 (k0_pay20 (k0_pay19 I.tile)) (dy1 I) (window I.ps ![0, 128] S1x128.size inb_S1x512_S1x128_0_128) (window I.pw ![1, 0, 0] S1x128x128.size inb_S4x128x128_S1x128x128_1_0_0))) ![0, 768] S512x128.size (k0_pay60 (k0_pay59 (k0_pay21 (k0_pay17 I.tile)) (dcat I) (window I.ps ![0, 256] S1x128.size inb_S1x512_S1x128_0_256) (window I.pw ![2, 0, 0] S1x128x128.size inb_S4x128x128_S1x128x128_2_0_0)))) ![0, 896] S512x128.size (k0_pay69 (k0_pay22 (k0_pay17 I.tile)) (k0_pay66 (dcat I) (window I.ps ![0, 384] S1x128.size inb_S1x512_S1x128_0_384)) (window I.pw ![3, 0, 0] S1x128x128.size inb_S4x128x128_S1x128x128_3_0_0))

/-- The concatenation. -/
def cat : Vec F S512x1024 .bf16 := put (put (put (put (put (I.ucat) ![0, 0] S512x512.size (k0_pay27 (gateB I) (conv I))) ![0, 512] S512x128.size (k0_pay36 (window I.pooled ![0, 0] S512x128.size inb_S512x512_S512x128_0_0) (window I.pw ![0, 0, 0] S1x128x128.size inb_S4x128x128_S1x128x128_0_0_0) (window I.ps ![0, 0] S1x128.size inb_S1x512_S1x128_0_0))) ![0, 640] S512x128.size (k0_pay45 (k0_pay43 (window I.pooled ![0, 128] S512x128.size inb_S512x512_S512x128_0_128) (window I.pw ![1, 0, 0] S1x128x128.size inb_S4x128x128_S1x128x128_1_0_0)) (window I.ps ![0, 128] S1x128.size inb_S1x512_S1x128_0_128))) ![0, 768] S512x128.size (k0_pay54 (k0_pay51 (window I.pooled ![0, 256] S512x128.size inb_S512x512_S512x128_0_256)) (window I.pw ![2, 0, 0] S1x128x128.size inb_S4x128x128_S1x128x128_2_0_0) (window I.ps ![0, 256] S1x128.size inb_S1x512_S1x128_0_256))) ![0, 896] S512x128.size (k0_pay64 (window I.pooled ![0, 384] S512x128.size inb_S512x512_S512x128_0_384) (window I.pw ![3, 0, 0] S1x128x128.size inb_S4x128x128_S1x128x128_3_0_0) (window I.ps ![0, 384] S1x128.size inb_S1x512_S1x128_0_384))

/-- Group 0: sums of two rows, -/
def wa1 (u : Vec F S544x128 .f32) : Vec F S544x128 .f32 := put (u) ![0, 0] S528x128.size (k0_pay74 (window (futOf I I.fut) ![0, 512] S528x128.size inb_S544x1024_S528x128_0_512) (window (futOf I I.fut) ![1, 512] S528x128.size inb_S544x1024_S528x128_1_512))

/-- group 1: of two -/
def wa2 (u : Vec F S544x128 .f32) : Vec F S544x128 .f32 := put (wa1 I u) ![0, 0] S528x128.size (k0_pay76 (window (futOf I I.fut) ![0, 640] S528x128.size inb_S544x1024_S528x128_0_640) (window (futOf I I.fut) ![1, 640] S528x128.size inb_S544x1024_S528x128_1_640))

/-- and of four, -/
def wb1 (u : Vec F S544x128 .f32) : Vec F S544x128 .f32 := put (u) ![0, 0] S528x128.size (k0_pay77 (window (wa2 I I.uwa) ![0, 0] S528x128.size inb_S544x128_S528x128_0_0) (window (wa2 I I.wa) ![2, 0] S528x128.size inb_S544x128_S528x128_2_0))

/-- group 2: of two, -/
def wa3 (u : Vec F S544x128 .f32) : Vec F S544x128 .f32 := put (wa2 I u) ![0, 0] S528x128.size (k0_pay79 (window (futOf I I.fut) ![0, 768] S528x128.size inb_S544x1024_S528x128_0_768) (window (futOf I I.fut) ![1, 768] S528x128.size inb_S544x1024_S528x128_1_768))

/-- of four -/
def wb2 (u : Vec F S544x128 .f32) : Vec F S544x128 .f32 := put (wb1 I u) ![0, 0] S528x128.size (k0_pay80 (window (wa3 I I.uwa) ![0, 0] S528x128.size inb_S544x128_S528x128_0_0) (window (wa3 I I.wa) ![2, 0] S528x128.size inb_S544x128_S528x128_2_0))

/-- and of eight, -/
def wa4 (u : Vec F S544x128 .f32) : Vec F S544x128 .f32 := put (wa3 I u) ![0, 0] S528x128.size (k0_pay81 (window (wb2 I I.uwb) ![0, 0] S528x128.size inb_S544x128_S528x128_0_0) (window (wb2 I I.wb) ![4, 0] S528x128.size inb_S544x128_S528x128_4_0))

/-- group 3: of two, -/
def wa5 (u : Vec F S544x128 .f32) : Vec F S544x128 .f32 := put (wa4 I u) ![0, 0] S528x128.size (k0_pay83 (window (futOf I I.fut) ![0, 896] S528x128.size inb_S544x1024_S528x128_0_896) (window (futOf I I.fut) ![1, 896] S528x128.size inb_S544x1024_S528x128_1_896))

/-- of four, -/
def wb3 (u : Vec F S544x128 .f32) : Vec F S544x128 .f32 := put (wb2 I u) ![0, 0] S528x128.size (k0_pay84 (window (wa5 I I.uwa) ![0, 0] S528x128.size inb_S544x128_S528x128_0_0) (window (wa5 I I.wa) ![2, 0] S528x128.size inb_S544x128_S528x128_2_0))

/-- of eight -/
def wa6 (u : Vec F S544x128 .f32) : Vec F S544x128 .f32 := put (wa5 I u) ![0, 0] S528x128.size (k0_pay85 (window (wb3 I I.uwb) ![0, 0] S528x128.size inb_S544x128_S528x128_0_0) (window (wb3 I I.wb) ![4, 0] S528x128.size inb_S544x128_S528x128_4_0))

/-- and of sixteen. -/
def wb4 (u : Vec F S544x128 .f32) : Vec F S544x128 .f32 := put (wb3 I u) ![0, 0] S528x128.size (k0_pay86 (window (wa6 I I.uwa) ![0, 0] S528x128.size inb_S544x128_S528x128_0_0) (window (wa6 I I.wa) ![8, 0] S528x128.size inb_S544x128_S528x128_8_0))

/-- The cotangent of the projections, over `u`. -/
def dprojOf (u : Vec F S512x2048 .bf16) : Vec F S512x2048 .bf16 := put (put (put (put (put (put (put (u) ![0, 512] S512x512.size (k0_pay28 (conv I) I.ct I.wo)) ![0, 0] S512x512.size (k0_pay72 (k0_pay12 I.cw) (val I) (window (futOf I I.ufut) ![0, 0] S512x512.size inb_S544x1024_S512x512_0_0) (window (futOf I I.fut) ![1, 0] S512x512.size inb_S544x1024_S512x512_1_0) (window (futOf I I.fut) ![2, 0] S512x512.size inb_S544x1024_S512x512_2_0))) ![0, 1024] S512x512.size (k0_pay73 (k0_pay12 I.cw) (gateC I) (window (futOf I I.ufut) ![0, 0] S512x512.size inb_S544x1024_S512x512_0_0) (window (futOf I I.fut) ![1, 0] S512x512.size inb_S544x1024_S512x512_1_0) (window (futOf I I.fut) ![2, 0] S512x512.size inb_S544x1024_S512x512_2_0))) ![0, 1536] S512x128.size (k0_pay75 (dpool0 I) (window (wa1 I I.uwa) ![0, 0] S512x128.size inb_S544x128_S512x128_0_0))) ![0, 1664] S512x128.size (k0_pay78 (dpool1 I) (window (wb1 I I.uwb) ![0, 0] S512x128.size inb_S544x128_S512x128_0_0))) ![0, 1792] S512x128.size (k0_pay82 (dpool2 I) (window (wa4 I I.uwa) ![0, 0] S512x128.size inb_S544x128_S512x128_0_0))) ![0, 1920] S512x128.size (k0_pay87 (dpool3 I) (window (wb4 I I.uwb) ![0, 0] S512x128.size inb_S544x128_S512x128_0_0))

/-- The cotangent of the normed rows, over the first six blocks of columns. -/
def dh6 : FVec F S512x1024 .f32 := k0_pay89 (k0_pay88 (window (dprojOf I I.uproj) ![0, 0] S512x256.size inb_S512x2048_S512x256_0_0) (window I.win ![0, 0, 0] S1x1024x256.size inb_S8x1024x256_S1x1024x256_0_0_0)) (window (dprojOf I I.uproj) ![0, 256] S512x256.size inb_S512x2048_S512x256_0_256) (window I.win ![1, 0, 0] S1x1024x256.size inb_S8x1024x256_S1x1024x256_1_0_0) (window (dprojOf I I.uproj) ![0, 512] S512x256.size inb_S512x2048_S512x256_0_512) (window I.win ![2, 0, 0] S1x1024x256.size inb_S8x1024x256_S1x1024x256_2_0_0) (window (dprojOf I I.uproj) ![0, 768] S512x256.size inb_S512x2048_S512x256_0_768) (window I.win ![3, 0, 0] S1x1024x256.size inb_S8x1024x256_S1x1024x256_3_0_0) (window (dprojOf I I.uproj) ![0, 1024] S512x256.size inb_S512x2048_S512x256_0_1024) (window I.win ![4, 0, 0] S1x1024x256.size inb_S8x1024x256_S1x1024x256_4_0_0) (window (dprojOf I I.uproj) ![0, 1280] S512x256.size inb_S512x2048_S512x256_0_1280) (window I.win ![5, 0, 0] S1x1024x256.size inb_S8x1024x256_S1x1024x256_5_0_0)

/-- The cotangent of the rows through the norm. -/
def dxn : FVec F S512x1024 .f32 := k0_pay93 (dh6 I) (window (dprojOf I I.uproj) ![0, 1536] S512x256.size inb_S512x2048_S512x256_0_1536) (window I.win ![6, 0, 0] S1x1024x256.size inb_S8x1024x256_S1x1024x256_6_0_0) (window (dprojOf I I.uproj) ![0, 1792] S512x256.size inb_S512x2048_S512x256_0_1792) (window I.win ![7, 0, 0] S1x1024x256.size inb_S8x1024x256_S1x1024x256_7_0_0) I.x I.g

/-- The tile's part of the norm gain's gradient. -/
def dgt : FVec F S1024 .f32 := k0_pay94 (dh6 I) (window (dprojOf I I.uproj) ![0, 1536] S512x256.size inb_S512x2048_S512x256_0_1536) (window I.win ![6, 0, 0] S1x1024x256.size inb_S8x1024x256_S1x1024x256_6_0_0) (window (dprojOf I I.uproj) ![0, 1792] S512x256.size inb_S512x2048_S512x256_0_1792) (window I.win ![7, 0, 0] S1x1024x256.size inb_S8x1024x256_S1x1024x256_7_0_0) I.x

/-- The sums `catᵀ · ct` up to this tile. -/
def accN : Vec F S1024x1024 .f32 := k0_pay70 I.ct I.acc (cat I)

/-- What the point leaves. -/
def step : Outs F where
  dx := k0_pay95 I.ct (dxn I)
  dproj := dprojOf I I.udproj
  dwo := I.udwo
  dg := k0_pay97 (dgt I) I.dg
  dcw := put (put (put (I.udcw) ![2, 0] S1x512.size (k0_pay30 (z0 I) (dconv I) (k0_pay29 I.dcw2))) ![1, 0] S1x512.size (k0_pay31 (z1 I) (dconv I) I.dcw1)) ![0, 0] S1x512.size (k0_pay32 (z2 I) (dconv I) I.dcw0)
  dpw := put (put (put (put (I.udpw) ![0, 0, 0] S1x128x128.size (k0_pay39 (k0_pay33 (window I.pooled ![0, 0] S512x128.size inb_S512x512_S512x128_0_0)) (dy0 I) (window I.ps ![0, 0] S1x128.size inb_S1x512_S1x128_0_0) I.dpw0)) ![1, 0, 0] S1x128x128.size (k0_pay48 (k0_pay42 (window I.pooled ![0, 128] S512x128.size inb_S512x512_S512x128_0_128)) (dy1 I) (window I.ps ![0, 128] S1x128.size inb_S1x512_S1x128_0_128) I.dpw1)) ![2, 0, 0] S1x128x128.size (k0_pay57 (dcat I) (k0_pay51 (window I.pooled ![0, 256] S512x128.size inb_S512x512_S512x128_0_256)) (window I.ps ![0, 256] S1x128.size inb_S1x512_S1x128_0_256) I.dpw2)) ![3, 0, 0] S1x128x128.size (k0_pay67 (dcat I) (window I.pooled ![0, 384] S512x128.size inb_S512x512_S512x128_0_384) (window I.ps ![0, 384] S1x128.size inb_S1x512_S1x128_0_384) I.dpw3)
  dps := put (put (put (put (I.udps) ![0, 0] S1x128.size (k0_pay37 (k0_pay34 (window I.pooled ![0, 0] S512x128.size inb_S512x512_S512x128_0_0) (window I.pw ![0, 0, 0] S1x128x128.size inb_S4x128x128_S1x128x128_0_0_0)) (dy0 I) I.dps0)) ![0, 128] S1x128.size (k0_pay46 (k0_pay43 (window I.pooled ![0, 128] S512x128.size inb_S512x512_S512x128_0_128) (window I.pw ![1, 0, 0] S1x128x128.size inb_S4x128x128_S1x128x128_1_0_0)) (dy1 I) I.dps1)) ![0, 256] S1x128.size (k0_pay55 (dcat I) (k0_pay51 (window I.pooled ![0, 256] S512x128.size inb_S512x512_S512x128_0_256)) (window I.pw ![2, 0, 0] S1x128x128.size inb_S4x128x128_S1x128x128_2_0_0) I.dps2)) ![0, 384] S1x128.size (k0_pay65 (dcat I) (window I.pooled ![0, 384] S512x128.size inb_S512x512_S512x128_0_384) (window I.pw ![3, 0, 0] S1x128x128.size inb_S4x128x128_S1x128x128_3_0_0) I.dps3)
  half := k0_pay96 I.ct (dxn I)
  fut := put (futOf I I.fut) ![512, 0] S16x1024.size (k0_pay98 (window (futOf I I.ufut) ![0, 0] S16x1024.size inb_S544x1024_S16x1024_0_0))
  acc := accN I
  wa := wa6 I I.wa
  wb := wb4 I I.wb

end MixStep
-- ==== Proof.MixRead.lean ====
module

public import proofs.«01_k».proof.Proof.MixStep

@[expose] public section

set_option maxRecDepth 16384

noncomputable section

/-! What a run of the body leaves, as the step function of `MixStep`. -/

namespace MixRead

open Cert.MixIdeal Cert.MixIdeal.Gen
open Idealize.ShloMosaic Idealize.ShloMosaic.TcCoe
open Idealize.ShloMosaic.VecWindow (window put)
open MixFrame MixStep

variable {F : FTy → Type} [FloatOps F]
variable (m : (ℓ : Loc nD τ sig) → Buf (Elt F) ℓ)

/-! ## Loads and stores -/

section
variable {κ : Kind} {sp : Space} {s : Shape} {e : EltTy}

theorem read_at (v : View sig κ sp s e) (f) {off size : Fin s.rank → ℕ} (inb : ∀ a, off a + size a ≤ s.size a) :
    v.readAt (Elt F) (Rect.unit off size inb).toLoadRect f = window (v.read (Elt F) f) off size inb := rfl

theorem read_cov (v : View sig κ sp s e) (L : List (View.Piece (Elt F) s e)) {off size : Fin s.rank → ℕ} (inb : ∀ a, off a + size a ≤ s.size a) :
    v.readCov L (Rect.unit off size inb).toLoadRect = window (v.read (Elt F) (v.writes (Elt F) v.junk L)) off size inb := rfl

theorem read_put (v : View sig κ sp s e) (f) {off size : Fin s.rank → ℕ} (inb : ∀ a, off a + size a ≤ s.size a)
    (w : (Rect.unit off size inb).shape.Idx → Elt F e) (L : List (View.Piece (Elt F) s e)) :
    v.read (Elt F) (v.writes (Elt F) f (⟨Rect.unit off size inb, w⟩ :: L)) = put (v.read (Elt F) (v.writes (Elt F) f L)) off size w :=
  View.read_writes_cons_put v f inb w L rfl

theorem read_nil (v : View sig κ sp s e) (f) : v.read (Elt F) (v.writes (Elt F) f []) = v.read (Elt F) f := rfl
end

/-- The whole of an array as a window, -/
theorem window_all {α : Type} {s : Shape} (x : s.Idx → α) {off : Fin s.rank → ℕ} (inb : ∀ a, off a + s.size a ≤ s.size a) :
    window x off s.size inb = x :=
  funext fun y => congrArg x (funext fun a => Fin.ext (by
    show off a + 1 * (y a).val = (y a).val
    have := inb a
    omega))

/-- and put over. -/
theorem put_all {α : Type} {s : Shape} (x : s.Idx → α) {off : Fin s.rank → ℕ} (h : ∀ a, off a = 0) (w : s.Idx → α) :
    put x off s.size w = w := by
  funext y
  unfold put
  rw [dif_pos fun a => ⟨by rw [h a]; exact Nat.zero_le _, by rw [h a, Nat.zero_add]; exact (y a).isLt⟩]
  exact congrArg w (funext fun a => Fin.ext (by show (y a).val - off a = (y a).val; rw [h a, Nat.sub_zero]))

theorem read_whole (b : Ref sig .tc) (h : (Memref.whole b).IsWhole) (x : b.ty.shape.Idx → Elt F b.ty.elt) :
    View.read (Elt F) (View.whole b) (h.unread x) = x := h.read_unread x

theorem put_00 {α : Type} {n0 n1 : ℕ} (x w : (⟨2, ![n0, n1]⟩ : Shape).Idx → α) : put x ![0, 0] ![n0, n1] w = w :=
  put_all x (fun a => by fin_cases a <;> rfl) w
theorem put_000 {α : Type} {n0 n1 n2 : ℕ} (x w : (⟨3, ![n0, n1, n2]⟩ : Shape).Idx → α) : put x ![0, 0, 0] ![n0, n1, n2] w = w :=
  put_all x (fun a => by fin_cases a <;> rfl) w
theorem window_00 {α : Type} {n0 n1 : ℕ} (x : (⟨2, ![n0, n1]⟩ : Shape).Idx → α) (inb) : window x ![0, 0] ![n0, n1] inb = x :=
  window_all x inb
theorem window_000 {α : Type} {n0 n1 n2 : ℕ} (x : (⟨3, ![n0, n1, n2]⟩ : Shape).Idx → α) (inb) : window x ![0, 0, 0] ![n0, n1, n2] inb = x :=
  window_all x inb

/-- A window apart from the one put over. -/
theorem window_apart2 {α : Type} {n0 n1 : ℕ} (x : (⟨2, ![n0, n1]⟩ : Shape).Idx → α) {a b s0 s1 a' b' s0' s1' : ℕ} (w) (inb)
    (h : a' + s0' ≤ a ∨ a + s0 ≤ a' ∨ b' + s1' ≤ b ∨ b + s1 ≤ b') :
    window (put x ![a, b] ![s0, s1] w) ![a', b'] ![s0', s1'] inb = window x ![a', b'] ![s0', s1'] inb := by
  by_cases h0 : a' + s0' ≤ a ∨ a + s0 ≤ a'
  · exact VecWindow.window_put_of_disjoint x ![a, b] ![s0, s1] ![a', b'] ![s0', s1'] inb w 0 h0
  · exact VecWindow.window_put_of_disjoint x ![a, b] ![s0, s1] ![a', b'] ![s0', s1'] inb w 1 (by
      show b' + s1' ≤ b ∨ b + s1 ≤ b'; omega)
theorem window_apart3 {α : Type} {n0 n1 n2 : ℕ} (x : (⟨3, ![n0, n1, n2]⟩ : Shape).Idx → α) {a s0 s1 s2 b c a' s0' : ℕ} (w) (inb)
    (h : a' + s0' ≤ a ∨ a + s0 ≤ a') :
    window (put x ![a, b, c] ![s0, s1, s2] w) ![a', b, c] ![s0', s1, s2] inb = window x ![a', b, c] ![s0', s1, s2] inb :=
  VecWindow.window_put_of_disjoint x ![a, b, c] ![s0, s1, s2] ![a', b, c] ![s0', s1, s2] inb w 0 h

/-- What a point between reads. -/
def inB (c : Dev nD) (t : Fin cfg0.N) (p : Outs F) : In F where
  tile := Scalar.subi 7#32 (BitVec.ofNat 32 ((grid0.coords t) 0))
  ct := iblk m c 0 t
  x := iblk m c 1 t
  proj := iblk m c 2 t
  halo := k0_pay11 (iblk m c 3 t)
  pooled := iblk m c 4 t
  g := iblk m c 5 t
  win := iblk m c 6 t
  cw := iblk m c 7 t
  pw := iblk m c 8 t
  ps := iblk m c 9 t
  wo := iblk m c 10 t
  dg := p.dg
  dcw0 := window p.dcw ![0, 0] S1x512.size inb_S3x512_S1x512_0_0
  dcw1 := window p.dcw ![1, 0] S1x512.size inb_S3x512_S1x512_1_0
  dcw2 := window p.dcw ![2, 0] S1x512.size inb_S3x512_S1x512_2_0
  dpw0 := window p.dpw ![0, 0, 0] S1x128x128.size inb_S4x128x128_S1x128x128_0_0_0
  dpw1 := window p.dpw ![1, 0, 0] S1x128x128.size inb_S4x128x128_S1x128x128_1_0_0
  dpw2 := window p.dpw ![2, 0, 0] S1x128x128.size inb_S4x128x128_S1x128x128_2_0_0
  dpw3 := window p.dpw ![3, 0, 0] S1x128x128.size inb_S4x128x128_S1x128x128_3_0_0
  dps0 := window p.dps ![0, 0] S1x128.size inb_S1x512_S1x128_0_0
  dps1 := window p.dps ![0, 128] S1x128.size inb_S1x512_S1x128_0_128
  dps2 := window p.dps ![0, 256] S1x128.size inb_S1x512_S1x128_0_256
  dps3 := window p.dps ![0, 384] S1x128.size inb_S1x512_S1x128_0_384
  fut := p.fut
  acc := p.acc
  wa := p.wa
  wb := p.wb
  uext := scM0_0.view.read (Elt F) scM0_0.view.junk
  ufut := scM0_1.view.read (Elt F) scM0_1.view.junk
  ucat := scM0_2.view.read (Elt F) scM0_2.view.junk
  uwa := scM0_4.view.read (Elt F) scM0_4.view.junk
  uwb := scM0_5.view.read (Elt F) scM0_5.view.junk
  uproj := (ms0_12 t).view.read (Elt F) (ms0_12 t).view.junk
  udproj := VO0_12.read (Elt F) VO0_12.junk
  udcw := VO0_15.read (Elt F) VO0_15.junk
  udpw := VO0_16.read (Elt F) VO0_16.junk
  udps := VO0_17.read (Elt F) VO0_17.junk
  udwo := VO0_13.read (Elt F) VO0_13.junk

/-- A point between leaves the step over what it reads. -/
theorem outB_eq (c : Dev nD) (t : Fin cfg0.N) (h : t.val ≠ 0 ∧ t.val < 7) (p : Outs F) : outB m c t h p = step (inB m c t p) := by
  unfold outB
  simp only [runB, kernelRun0_B, kernelRun0_B.sl.H12_7, kernelRun0_B.sl.HS0_2, kernelRun0_B.sl.HS1_5, kernelRun0_B.sl.HS2_5, kernelRun0_B.sl.HS4_1, kernelRun0_B.sl.HS4_2, kernelRun0_B.sl.HS4_3, kernelRun0_B.sl.HS4_4, kernelRun0_B.sl.HS4_5, kernelRun0_B.sl.HS4_6, kernelRun0_B.sl.HS5_1, kernelRun0_B.sl.HS5_2, kernelRun0_B.sl.HS5_3, kernelRun0_B.sl.HS5_4, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.v0, kernelRun0_B.sl.v1, kernelRun0_B.sl.v2, kernelRun0_B.sl.v3, kernelRun0_B.sl.v9, kernelRun0_B.sl.v10, kernelRun0_B.sl.v11, kernelRun0_B.sl.v12, kernelRun0_B.sl.v13, kernelRun0_B.sl.v14, kernelRun0_B.sl.v18, kernelRun0_B.sl.v19, kernelRun0_B.sl.v20, kernelRun0_B.sl.v22, kernelRun0_B.sl.v23, kernelRun0_B.sl.v25, kernelRun0_B.sl.v26, kernelRun0_B.sl.v95, kernelRun0_B.sl.v102, kernelRun0_B.sl.v160, kernelRun0_B.sl.v170, kernelRun0_B.sl.v198, kernelRun0_B.sl.v208, kernelRun0_B.sl.v236, kernelRun0_B.sl.v246, kernelRun0_B.sl.v262, kernelRun0_B.sl.v270, kernelRun0_B.sl.v274, kernelRun0_B.sl.v279, kernelRun0_B.sl.v289, kernelRun0_B.sl.v290, kernelRun0_B.sl.v295, kernelRun0_B.sl.v299, kernelRun0_B.sl.v300, kernelRun0_B.sl.v305, kernelRun0_B.sl.v306, kernelRun0_B.sl.v311, kernelRun0_B.sl.v315, kernelRun0_B.sl.v316, kernelRun0_B.sl.v321, kernelRun0_B.sl.v322, kernelRun0_B.sl.v327, kernelRun0_B.sl.v328, kernelRun0_B.sl.v333, kernelRun0_B.sl.v337, kernelRun0_B.sl.v338, kernelRun0_B.sl.v343, kernelRun0_B.sl.v344, kernelRun0_B.sl.v349, kernelRun0_B.sl.v350, kernelRun0_B.sl.v355, kernelRun0_B.sl.v356, kernelRun0_B.sl.v361, kernelRun0_B.sl.v365, kernelRun0_B.sl.v370, kernelRun0_B.sl.v376, kernelRun0_B.sl.v382, kernelRun0_B.sl.v388, kernelRun0_B.sl.v394, kernelRun0_B.sl.v400, kernelRun0_B.sl.v406, kernelRun0_B.sl.v449, read_at, read_cov, read_put, read_nil, Memref.IsWhole.read_unread, read_whole, window_00, window_000, put_00, put_000, inB, step, accN, dgt, dxn, dh6, dprojOf, wb4, wa6, wb3, wa5, wa4, wb2, wa3, wb1, wa2, wa1, cat, futOf, dpool3, dpool2, dpool1, dpool0, dy1, dy0, dconv, dcat, conv, z2, z1, z0, gateC2, val2, gateC1, val1, val, gateB, gateC, ext]

/-- What the last point reads, -/
def inC0 (c : Dev nD) (t : Fin cfg0.N) (p : Outs F) : In F := { inB m c t p with halo := k0_pay10 }
/-- and with it the product it writes out. -/
def inC (c : Dev nD) (t : Fin cfg0.N) (p : Outs F) : In F := { inC0 m c t p with udwo := k0_pay99 (accN (inC0 m c t p)) }

/-- The last point leaves the step over what it reads. -/
theorem outC_eq (c : Dev nD) (t : Fin cfg0.N) (h : t.val = 7) (p : Outs F) : outC m c t h p = step (inC m c t p) := by
  unfold outC
  simp only [runC, kernelRun0_C, kernelRun0_C.sl.H12_7, kernelRun0_C.sl.HS0_2, kernelRun0_C.sl.HS1_5, kernelRun0_C.sl.HS2_5, kernelRun0_C.sl.HS3_1, kernelRun0_C.sl.HS4_1, kernelRun0_C.sl.HS4_2, kernelRun0_C.sl.HS4_3, kernelRun0_C.sl.HS4_4, kernelRun0_C.sl.HS4_5, kernelRun0_C.sl.HS4_6, kernelRun0_C.sl.HS5_1, kernelRun0_C.sl.HS5_2, kernelRun0_C.sl.HS5_3, kernelRun0_C.sl.HS5_4, kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_30, kernelRun0_C.sl.r_31, kernelRun0_C.sl.r_32, kernelRun0_C.sl.r_33, kernelRun0_C.sl.r_34, kernelRun0_C.sl.r_35, kernelRun0_C.sl.v0, kernelRun0_C.sl.v1, kernelRun0_C.sl.v2, kernelRun0_C.sl.v3, kernelRun0_C.sl.v9, kernelRun0_C.sl.v10, kernelRun0_C.sl.v11, kernelRun0_C.sl.v12, kernelRun0_C.sl.v13, kernelRun0_C.sl.v14, kernelRun0_C.sl.v18, kernelRun0_C.sl.v19, kernelRun0_C.sl.v20, kernelRun0_C.sl.v22, kernelRun0_C.sl.v23, kernelRun0_C.sl.v25, kernelRun0_C.sl.v26, kernelRun0_C.sl.v95, kernelRun0_C.sl.v102, kernelRun0_C.sl.v160, kernelRun0_C.sl.v170, kernelRun0_C.sl.v198, kernelRun0_C.sl.v208, kernelRun0_C.sl.v236, kernelRun0_C.sl.v246, kernelRun0_C.sl.v262, kernelRun0_C.sl.v270, kernelRun0_C.sl.v274, kernelRun0_C.sl.v279, kernelRun0_C.sl.v289, kernelRun0_C.sl.v290, kernelRun0_C.sl.v295, kernelRun0_C.sl.v299, kernelRun0_C.sl.v300, kernelRun0_C.sl.v305, kernelRun0_C.sl.v306, kernelRun0_C.sl.v311, kernelRun0_C.sl.v315, kernelRun0_C.sl.v316, kernelRun0_C.sl.v321, kernelRun0_C.sl.v322, kernelRun0_C.sl.v327, kernelRun0_C.sl.v328, kernelRun0_C.sl.v333, kernelRun0_C.sl.v337, kernelRun0_C.sl.v338, kernelRun0_C.sl.v343, kernelRun0_C.sl.v344, kernelRun0_C.sl.v349, kernelRun0_C.sl.v350, kernelRun0_C.sl.v355, kernelRun0_C.sl.v356, kernelRun0_C.sl.v361, kernelRun0_C.sl.v365, kernelRun0_C.sl.v370, kernelRun0_C.sl.v376, kernelRun0_C.sl.v382, kernelRun0_C.sl.v388, kernelRun0_C.sl.v394, kernelRun0_C.sl.v400, kernelRun0_C.sl.v406, kernelRun0_C.sl.v449, kernelRun0_C.sl.v456, read_at, read_cov, read_put, read_nil, Memref.IsWhole.read_unread, read_whole, window_00, window_000, put_00, put_000, inC, inC0, inB, step, accN, dgt, dxn, dh6, dprojOf, wb4, wa6, wb3, wa5, wa4, wb2, wa3, wb1, wa2, wa1, cat, futOf, dpool3, dpool2, dpool1, dpool0, dy1, dy0, dconv, dcat, conv, z2, z1, z0, gateC2, val2, gateC1, val1, val, gateB, gateC, ext]

/-- Nothing left by a point before. -/
def zeros : Outs F where
  dx := VO0_11.read (Elt F) VO0_11.junk
  dproj := VO0_12.read (Elt F) VO0_12.junk
  dwo := VO0_13.read (Elt F) VO0_13.junk
  dg := k0_pay4
  dcw := k0_pay5
  dpw := k0_pay6
  dps := k0_pay7
  half := VO0_18.read (Elt F) VO0_18.junk
  fut := put (VS0_1.read (Elt F) VS0_1.junk) ![512, 0] S32x1024.size k0_pay8
  acc := k0_pay3
  wa := k0_pay1
  wb := k0_pay2

/-- What the first point reads. -/
def inA (c : Dev nD) (t : Fin cfg0.N) : In F :=
  { inB m c t zeros with
    ufut := zeros.fut, uwa := zeros.wa, uwb := zeros.wb, udcw := zeros.dcw, udpw := zeros.dpw, udps := zeros.dps }

/-- The first point leaves the step over what it reads. -/
theorem outA_eq (c : Dev nD) (t : Fin cfg0.N) (h : t.val = 0) : outA m c t h = step (inA m c t) := by
  unfold outA
  simp only [runA, kernelRun0_A, kernelRun0_A.sl.H12_7, kernelRun0_A.sl.H14_1, kernelRun0_A.sl.H15_1, kernelRun0_A.sl.H15_2, kernelRun0_A.sl.H15_3, kernelRun0_A.sl.H16_1, kernelRun0_A.sl.H16_2, kernelRun0_A.sl.H16_3, kernelRun0_A.sl.H16_4, kernelRun0_A.sl.H17_1, kernelRun0_A.sl.H17_2, kernelRun0_A.sl.H17_3, kernelRun0_A.sl.H17_4, kernelRun0_A.sl.HS0_2, kernelRun0_A.sl.HS1_6, kernelRun0_A.sl.HS2_5, kernelRun0_A.sl.HS3_1, kernelRun0_A.sl.HS4_2, kernelRun0_A.sl.HS4_3, kernelRun0_A.sl.HS4_4, kernelRun0_A.sl.HS4_5, kernelRun0_A.sl.HS4_6, kernelRun0_A.sl.HS4_7, kernelRun0_A.sl.HS5_2, kernelRun0_A.sl.HS5_3, kernelRun0_A.sl.HS5_4, kernelRun0_A.sl.HS5_5, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.v0, kernelRun0_A.sl.v1, kernelRun0_A.sl.v2, kernelRun0_A.sl.v3, kernelRun0_A.sl.v9, kernelRun0_A.sl.v10, kernelRun0_A.sl.v11, kernelRun0_A.sl.v12, kernelRun0_A.sl.v13, kernelRun0_A.sl.v14, kernelRun0_A.sl.v18, kernelRun0_A.sl.v19, kernelRun0_A.sl.v20, kernelRun0_A.sl.v22, kernelRun0_A.sl.v23, kernelRun0_A.sl.v25, kernelRun0_A.sl.v26, kernelRun0_A.sl.v88, kernelRun0_A.sl.v95, kernelRun0_A.sl.v102, kernelRun0_A.sl.v122, kernelRun0_A.sl.v132, kernelRun0_A.sl.v160, kernelRun0_A.sl.v170, kernelRun0_A.sl.v198, kernelRun0_A.sl.v208, kernelRun0_A.sl.v236, kernelRun0_A.sl.v246, kernelRun0_A.sl.v261, kernelRun0_A.sl.v262, kernelRun0_A.sl.v270, kernelRun0_A.sl.v274, kernelRun0_A.sl.v279, kernelRun0_A.sl.v289, kernelRun0_A.sl.v290, kernelRun0_A.sl.v295, kernelRun0_A.sl.v299, kernelRun0_A.sl.v300, kernelRun0_A.sl.v305, kernelRun0_A.sl.v306, kernelRun0_A.sl.v311, kernelRun0_A.sl.v315, kernelRun0_A.sl.v316, kernelRun0_A.sl.v321, kernelRun0_A.sl.v322, kernelRun0_A.sl.v327, kernelRun0_A.sl.v328, kernelRun0_A.sl.v333, kernelRun0_A.sl.v337, kernelRun0_A.sl.v338, kernelRun0_A.sl.v343, kernelRun0_A.sl.v344, kernelRun0_A.sl.v349, kernelRun0_A.sl.v350, kernelRun0_A.sl.v355, kernelRun0_A.sl.v356, kernelRun0_A.sl.v361, kernelRun0_A.sl.v365, kernelRun0_A.sl.v370, kernelRun0_A.sl.v376, kernelRun0_A.sl.v382, kernelRun0_A.sl.v388, kernelRun0_A.sl.v394, kernelRun0_A.sl.v400, kernelRun0_A.sl.v406, kernelRun0_A.sl.v445, kernelRun0_A.sl.v449, read_at, read_cov, read_put, read_nil, Memref.IsWhole.read_unread, read_whole, window_00, window_000, put_00, put_000, inA, inB, zeros, window_apart2, window_apart3, Nat.reduceAdd, Nat.reduceLeDiff, or_true, true_or, or_false, false_or, step, accN, dgt, dxn, dh6, dprojOf, wb4, wa6, wb3, wa5, wa4, wb2, wa3, wb1, wa2, wa1, cat, futOf, dpool3, dpool2, dpool1, dpool0, dy1, dy0, dconv, dcat, conv, z2, z1, z0, gateC2, val2, gateC1, val1, val, gateB, gateC, ext]

end MixRead
-- ==== Proof.MixPay.lean ====
module

public import proofs.«01_k».proof.Proof.MixRead
public import proofs.«01_k».proof.Proof.Reals
public import proofs.«01_k».proof.Proof.Cols
@[expose] public section
/-! # The pieces of the backward mixer's body over real arrays

An array of reals is given by a function of the row's and the column's number. On such arrays each piece of the body's
computation is such an array again, with its formula. -/

set_option maxRecDepth 16384

noncomputable section

namespace Cert.Proof.MixPay

open Cert.MixIdeal Cert.MixIdeal.Gen Idealize.ShloMosaic Idealize.ShloMosaic.TcCoe
open Cert.Proof.Reals Cert.Proof.Cols

/-- The matrix of reals `f`, -/
def co2 {n0 n1 : ℕ} (f : ℕ → ℕ → ℝ) : (⟨2, ![n0, n1]⟩ : Shape).Idx → EReal := fun y => ((f (y 0).val (y 1).val : ℝ) : EReal)
/-- and the stack of matrices `f`. -/
def co3 {n0 n1 n2 : ℕ} (f : ℕ → ℕ → ℕ → ℝ) : (⟨3, ![n0, n1, n2]⟩ : Shape).Idx → EReal := fun y => ((f (y 0).val (y 1).val (y 2).val : ℝ) : EReal)

theorem co2_at {n0 n1 : ℕ} (f : ℕ → ℕ → ℝ) (a : Fin n0) (b : Fin n1) : co2 f (ix2 a b) = ((f a.val b.val : ℝ) : EReal) := rfl
theorem co3_at {n0 n1 n2 : ℕ} (f : ℕ → ℕ → ℕ → ℝ) (a : Fin n0) (b : Fin n1) (c : Fin n2) : co3 f (ix3 a b c) = ((f a.val b.val c.val : ℝ) : EReal) := rfl

theorem ext2 {n0 n1 : ℕ} {α : Type} {x y : (⟨2, ![n0, n1]⟩ : Shape).Idx → α} (h : ∀ i k, x (ix2 i k) = y (ix2 i k)) : x = y :=
  funext fun z => by rw [eq_ix2 z]; exact h _ _
theorem ext3 {n0 n1 n2 : ℕ} {α : Type} {x y : (⟨3, ![n0, n1, n2]⟩ : Shape).Idx → α} (h : ∀ l i k, x (ix3 l i k) = y (ix3 l i k)) : x = y :=
  funext fun z => by rw [eq_ix3 z]; exact h _ _ _

variable (a b c d e f g : ℕ → ℕ → ℝ) (w w1 w2 w3 w4 w5 : ℕ → ℕ → ℕ → ℝ)

/-! ## The gated values and the convolution -/

theorem pay9 (x : Vec Ideal S512x2048 .f32) : k0_pay9 (F := Ideal) x = x := by
  refine ext2 fun i k => ?_
  pointwise [k0_pay9]

theorem pay11 (x : Vec Ideal S16x2048 .f32) : k0_pay11 (F := Ideal) x = x := by
  refine ext2 fun i k => ?_
  pointwise [k0_pay11]

theorem pay10 : k0_pay10 (F := Ideal) = co2 fun _ _ => 0 := by
  refine ext2 fun i k => ?_
  pointwise [k0_pay10]
  simp only [co2_at, co3_at, ← EReal.coe_mul, coe_sum, ← EReal.coe_add, ← EReal.coe_sub]
  rfl

theorem pay12 : k0_pay12 (F := Ideal) (co2 a) = co2 a := by
  refine ext2 fun i k => ?_
  pointwise [k0_pay12]

theorem pay13 : k0_pay13 (F := Ideal) (co2 a) (co2 b) = co2 fun r k => a r k * b r k := by
  refine ext2 fun i k => ?_
  pointwise [k0_pay13]
  simp only [co2_at, co3_at, ← EReal.coe_mul, coe_sum, ← EReal.coe_add, ← EReal.coe_sub]
  exact congrArg _ (mul_comm _ _)

theorem pay14 : k0_pay14 (F := Ideal) (co2 a) (co2 b) = co2 fun r k => a r k * b r k := by
  refine ext2 fun i k => ?_
  pointwise [k0_pay14]
  simp only [co2_at, co3_at, ← EReal.coe_mul, coe_sum, ← EReal.coe_add, ← EReal.coe_sub]

theorem pay15 : k0_pay15 (F := Ideal) (co2 a) (co2 b) = co2 fun r k => a r k * b r k := by
  refine ext2 fun i k => ?_
  pointwise [k0_pay15]
  simp only [co2_at, co3_at, ← EReal.coe_mul, coe_sum, ← EReal.coe_add, ← EReal.coe_sub]

theorem pay16 : k0_pay16 (F := Ideal) (co2 a) (co2 b) (co2 c) (co2 d) (co2 e) (co2 f) (co2 g) = co2 fun r k => a 2 k * (b r k * c r k) + a 1 k * (d r k * e r k) + a 0 k * (f r k * g r k) := by
  refine ext2 fun i k => ?_
  pointwise [k0_pay16, k0_pay15, k0_pay14, k0_pay13, k0_pay12]
  simp only [co2_at, co3_at, ← EReal.coe_mul, coe_sum, ← EReal.coe_add, ← EReal.coe_sub]
  rw [mul_comm (c i.val k.val)]; rfl

/-! ## The cotangent of the concatenation and of the convolution -/

theorem pay23 : k0_pay23 (F := Ideal) (co2 b) (co2 c) = co2 fun r k => (∑ j : Fin 1024, b r j.val * c k j.val) := by
  refine ext2 fun i k => ?_
  pointwise [k0_pay23]
  simp only [co2_at, co3_at, ← EReal.coe_mul, coe_sum, ← EReal.coe_add, ← EReal.coe_sub]

theorem pay25 : k0_pay25 (F := Ideal) (co2 a) (co2 b) (co2 c) = co2 fun r k => (∑ j : Fin 1024, b r j.val * c k j.val) * a r k := by
  refine ext2 fun i k => ?_
  pointwise [k0_pay26, k0_pay25, k0_pay24, k0_pay23]
  simp only [co2_at, co3_at, ← EReal.coe_mul, coe_sum, ← EReal.coe_add, ← EReal.coe_sub]

theorem pay26 : k0_pay26 (F := Ideal) (co2 a) (co2 b) (co2 c) = co2 fun r k => (∑ j : Fin 1024, b r j.val * c k j.val) * a r k := by
  refine ext2 fun i k => ?_
  pointwise [k0_pay26, k0_pay25, k0_pay24, k0_pay23]
  simp only [co2_at, co3_at, ← EReal.coe_mul, coe_sum, ← EReal.coe_add, ← EReal.coe_sub]

theorem pay27 : k0_pay27 (F := Ideal) (co2 a) (co2 b) = co2 fun r k => a r k * b r k := by
  refine ext2 fun i k => ?_
  pointwise [k0_pay27]
  simp only [co2_at, co3_at, ← EReal.coe_mul, coe_sum, ← EReal.coe_add, ← EReal.coe_sub]

theorem pay28 : k0_pay28 (F := Ideal) (co2 a) (co2 b) (co2 c) = co2 fun r k => (∑ j : Fin 1024, b r j.val * c k j.val) * a r k := by
  refine ext2 fun i k => ?_
  pointwise [k0_pay28, k0_pay24, k0_pay23]
  simp only [co2_at, co3_at, ← EReal.coe_mul, coe_sum, ← EReal.coe_add, ← EReal.coe_sub]

/-! ## The convolution weights' gradient, row by row -/

theorem pay30 : k0_pay30 (F := Ideal) (co2 a) (co2 b) (k0_pay29 (co2 c)) = co2 fun _ k => c 0 k + ∑ r : Fin 512, b r.val k * a r.val k := by
  refine ext2 fun i k => ?_
  pointwise [k0_pay30, k0_pay29]
  simp only [co2_at, co3_at, ← EReal.coe_mul, coe_sum, ← EReal.coe_add, ← EReal.coe_sub]
  rw [Fin.val_eq_zero i]

theorem pay31 : k0_pay31 (F := Ideal) (co2 a) (co2 b) (co2 c) = co2 fun _ k => c 0 k + ∑ r : Fin 512, b r.val k * a r.val k := by
  refine ext2 fun i k => ?_
  pointwise [k0_pay31]
  simp only [co2_at, co3_at, ← EReal.coe_mul, coe_sum, ← EReal.coe_add, ← EReal.coe_sub]
  rw [Fin.val_eq_zero i]

theorem pay32 : k0_pay32 (F := Ideal) (co2 a) (co2 b) (co2 c) = co2 fun _ k => c 0 k + ∑ r : Fin 512, b r.val k * a r.val k := by
  refine ext2 fun i k => ?_
  pointwise [k0_pay32]
  simp only [co2_at, co3_at, ← EReal.coe_mul, coe_sum, ← EReal.coe_add, ← EReal.coe_sub]
  rw [Fin.val_eq_zero i]

/-! ## The four groups of the pooling branch -/

theorem pay35 : k0_pay35 (F := Ideal) (co2 a) = co2 fun r k => a r (512 + k) := by
  refine ext2 fun i k => ?_
  pointwise [k0_pay35]
  simp only [co2_at, co3_at, ← EReal.coe_mul, coe_sum, ← EReal.coe_add, ← EReal.coe_sub]

theorem pay44 : k0_pay44 (F := Ideal) (co2 a) = co2 fun r k => a r (640 + k) := by
  refine ext2 fun i k => ?_
  pointwise [k0_pay44]
  simp only [co2_at, co3_at, ← EReal.coe_mul, coe_sum, ← EReal.coe_add, ← EReal.coe_sub]

theorem pay36 : k0_pay36 (F := Ideal) (co2 a) (co3 w) (co2 b) = co2 fun r k => (∑ j : Fin 128, a r j.val * w 0 j.val k) * b 0 k := by
  refine ext2 fun i k => ?_
  pointwise [k0_pay36, k0_pay34, k0_pay33]
  simp only [co2_at, co3_at, ← EReal.coe_mul, coe_sum, ← EReal.coe_add, ← EReal.coe_sub]
  rfl

theorem pay45 : k0_pay45 (F := Ideal) (k0_pay43 (co2 a) (co3 w)) (co2 b) = co2 fun r k => (∑ j : Fin 128, a r j.val * w 0 j.val k) * b 0 k := by
  refine ext2 fun i k => ?_
  pointwise [k0_pay45, k0_pay43, k0_pay42]
  simp only [co2_at, co3_at, ← EReal.coe_mul, coe_sum, ← EReal.coe_add, ← EReal.coe_sub]
  rfl

theorem pay54 : k0_pay54 (F := Ideal) (k0_pay51 (co2 a)) (co3 w) (co2 b) = co2 fun r k => (∑ j : Fin 128, a r j.val * w 0 j.val k) * b 0 k := by
  refine ext2 fun i k => ?_
  pointwise [k0_pay54, k0_pay52, k0_pay51]
  simp only [co2_at, co3_at, ← EReal.coe_mul, coe_sum, ← EReal.coe_add, ← EReal.coe_sub]
  rfl

theorem pay64 : k0_pay64 (F := Ideal) (co2 a) (co3 w) (co2 b) = co2 fun r k => (∑ j : Fin 128, a r j.val * w 0 j.val k) * b 0 k := by
  refine ext2 fun i k => ?_
  pointwise [k0_pay64, k0_pay62, k0_pay61]
  simp only [co2_at, co3_at, ← EReal.coe_mul, coe_sum, ← EReal.coe_add, ← EReal.coe_sub]
  rfl

theorem pay37 : k0_pay37 (F := Ideal) (k0_pay34 (co2 a) (co3 w)) (co2 b) (co2 c) = co2 fun _ k => c 0 k + ∑ r : Fin 512, b r.val k * ∑ j : Fin 128, a r.val j.val * w 0 j.val k := by
  refine ext2 fun i k => ?_
  pointwise [k0_pay37, k0_pay34, k0_pay33]
  simp only [co2_at, co3_at, ← EReal.coe_mul, coe_sum, ← EReal.coe_add, ← EReal.coe_sub]
  rw [Fin.val_eq_zero i]; rfl

theorem pay46 : k0_pay46 (F := Ideal) (k0_pay43 (co2 a) (co3 w)) (co2 b) (co2 c) = co2 fun _ k => c 0 k + ∑ r : Fin 512, b r.val k * ∑ j : Fin 128, a r.val j.val * w 0 j.val k := by
  refine ext2 fun i k => ?_
  pointwise [k0_pay46, k0_pay43, k0_pay42]
  simp only [co2_at, co3_at, ← EReal.coe_mul, coe_sum, ← EReal.coe_add, ← EReal.coe_sub]
  rw [Fin.val_eq_zero i]; rfl

theorem pay55 : k0_pay55 (F := Ideal) (co2 b) (k0_pay51 (co2 a)) (co3 w) (co2 c) = co2 fun _ k => c 0 k + ∑ r : Fin 512, b r.val (768 + k) * ∑ j : Fin 128, a r.val j.val * w 0 j.val k := by
  refine ext2 fun i k => ?_
  pointwise [k0_pay55, k0_pay53, k0_pay52, k0_pay51]
  simp only [co2_at, co3_at, ← EReal.coe_mul, coe_sum, ← EReal.coe_add, ← EReal.coe_sub]
  rw [Fin.val_eq_zero i]; rfl

theorem pay65 : k0_pay65 (F := Ideal) (co2 b) (co2 a) (co3 w) (co2 c) = co2 fun _ k => c 0 k + ∑ r : Fin 512, b r.val (896 + k) * ∑ j : Fin 128, a r.val j.val * w 0 j.val k := by
  refine ext2 fun i k => ?_
  pointwise [k0_pay65, k0_pay63, k0_pay62, k0_pay61]
  simp only [co2_at, co3_at, ← EReal.coe_mul, coe_sum, ← EReal.coe_add, ← EReal.coe_sub]
  rw [Fin.val_eq_zero i]; rfl

theorem pay39 : k0_pay39 (F := Ideal) (k0_pay33 (co2 a)) (co2 b) (co2 c) (co3 w) = co3 fun _ j k => w 0 j k + ∑ r : Fin 512, a r.val j * (b r.val k * c 0 k) := by
  refine ext3 fun l i k => ?_
  pointwise [k0_pay39, k0_pay38, k0_pay33]
  simp only [co2_at, co3_at, ← EReal.coe_mul, coe_sum, ← EReal.coe_add, ← EReal.coe_sub]
  rfl

theorem pay48 : k0_pay48 (F := Ideal) (k0_pay42 (co2 a)) (co2 b) (co2 c) (co3 w) = co3 fun _ j k => w 0 j k + ∑ r : Fin 512, a r.val j * (b r.val k * c 0 k) := by
  refine ext3 fun l i k => ?_
  pointwise [k0_pay48, k0_pay47, k0_pay42]
  simp only [co2_at, co3_at, ← EReal.coe_mul, coe_sum, ← EReal.coe_add, ← EReal.coe_sub]
  rfl

theorem pay57 : k0_pay57 (F := Ideal) (co2 b) (k0_pay51 (co2 a)) (co2 c) (co3 w) = co3 fun _ j k => w 0 j k + ∑ r : Fin 512, a r.val j * (b r.val (768 + k) * c 0 k) := by
  refine ext3 fun l i k => ?_
  pointwise [k0_pay57, k0_pay56, k0_pay53, k0_pay51]
  simp only [co2_at, co3_at, ← EReal.coe_mul, coe_sum, ← EReal.coe_add, ← EReal.coe_sub]
  rfl

theorem pay67 : k0_pay67 (F := Ideal) (co2 b) (co2 a) (co2 c) (co3 w) = co3 fun _ j k => w 0 j k + ∑ r : Fin 512, a r.val j * (b r.val (896 + k) * c 0 k) := by
  refine ext3 fun l i k => ?_
  pointwise [k0_pay67, k0_pay66, k0_pay63, k0_pay61]
  simp only [co2_at, co3_at, ← EReal.coe_mul, coe_sum, ← EReal.coe_add, ← EReal.coe_sub]
  rfl

theorem pay40 : k0_pay40 (F := Ideal) (co2 b) (co2 c) (co3 w) = co2 fun r k => (∑ j : Fin 128, b r j.val * c 0 j.val * w 0 k j.val) := by
  refine ext2 fun i k => ?_
  pointwise [k0_pay40, k0_pay38]
  simp only [co2_at, co3_at, ← EReal.coe_mul, coe_sum, ← EReal.coe_add, ← EReal.coe_sub]
  rfl

theorem pay49 : k0_pay49 (F := Ideal) (co2 b) (co2 c) (co3 w) = co2 fun r k => (∑ j : Fin 128, b r j.val * c 0 j.val * w 0 k j.val) := by
  refine ext2 fun i k => ?_
  pointwise [k0_pay49, k0_pay47]
  simp only [co2_at, co3_at, ← EReal.coe_mul, coe_sum, ← EReal.coe_add, ← EReal.coe_sub]
  rfl

theorem pay58 : k0_pay58 (F := Ideal) (co2 b) (co2 c) (co3 w) = co2 fun r k => (∑ j : Fin 128, b r (768 + j.val) * c 0 j.val * w 0 k j.val) := by
  refine ext2 fun i k => ?_
  pointwise [k0_pay58, k0_pay56, k0_pay53]
  simp only [co2_at, co3_at, ← EReal.coe_mul, coe_sum, ← EReal.coe_add, ← EReal.coe_sub]
  rfl

theorem pay68 : k0_pay68 (F := Ideal) (k0_pay66 (co2 b) (co2 c)) (co3 w) = co2 fun r k => (∑ j : Fin 128, b r (896 + j.val) * c 0 j.val * w 0 k j.val) := by
  refine ext2 fun i k => ?_
  pointwise [k0_pay68, k0_pay66, k0_pay63]
  simp only [co2_at, co3_at, ← EReal.coe_mul, coe_sum, ← EReal.coe_add, ← EReal.coe_sub]
  rfl

theorem pay41 : k0_pay41 (F := Ideal) (co2 d) (co2 b) (co2 c) (co3 w) = co2 fun r k => (∑ j : Fin 128, b r j.val * c 0 j.val * w 0 k j.val) * d r 0 := by
  refine ext2 fun i k => ?_
  pointwise [k0_pay41, k0_pay40, k0_pay38]
  simp only [co2_at, co3_at, ← EReal.coe_mul, coe_sum, ← EReal.coe_add, ← EReal.coe_sub]
  rfl

theorem pay50 : k0_pay50 (F := Ideal) (co2 d) (co2 b) (co2 c) (co3 w) = co2 fun r k => (∑ j : Fin 128, b r j.val * c 0 j.val * w 0 k j.val) * d r 0 := by
  refine ext2 fun i k => ?_
  pointwise [k0_pay50, k0_pay49, k0_pay47]
  simp only [co2_at, co3_at, ← EReal.coe_mul, coe_sum, ← EReal.coe_add, ← EReal.coe_sub]
  rfl

theorem pay60 : k0_pay60 (F := Ideal) (k0_pay59 (co2 d) (co2 b) (co2 c) (co3 w)) = co2 fun r k => (∑ j : Fin 128, b r (768 + j.val) * c 0 j.val * w 0 k j.val) * d r 0 := by
  refine ext2 fun i k => ?_
  pointwise [k0_pay60, k0_pay59, k0_pay58, k0_pay56, k0_pay53]
  simp only [co2_at, co3_at, ← EReal.coe_mul, coe_sum, ← EReal.coe_add, ← EReal.coe_sub]
  rfl

theorem pay69 : k0_pay69 (F := Ideal) (co2 d) (k0_pay66 (co2 b) (co2 c)) (co3 w) = co2 fun r k => (∑ j : Fin 128, b r (896 + j.val) * c 0 j.val * w 0 k j.val) * d r 0 := by
  refine ext2 fun i k => ?_
  pointwise [k0_pay69, k0_pay68, k0_pay66, k0_pay63]
  simp only [co2_at, co3_at, ← EReal.coe_mul, coe_sum, ← EReal.coe_add, ← EReal.coe_sub]
  rfl

/-! ## The output weight's gradient and the gated values' gradient -/

theorem pay70 : k0_pay70 (F := Ideal) (co2 a) (co2 b) (co2 c) = co2 fun i k => b i k + ∑ r : Fin 512, c r.val i * a r.val k := by
  refine ext2 fun i k => ?_
  pointwise [k0_pay70]
  simp only [co2_at, co3_at, ← EReal.coe_mul, coe_sum, ← EReal.coe_add, ← EReal.coe_sub]

theorem pay72 : k0_pay72 (F := Ideal) (co2 a) (co2 b) (co2 c) (co2 d) (co2 e) = co2 fun r k => (a 2 k * c r k + a 1 k * d r k + a 0 k * e r k) * b r k := by
  refine ext2 fun i k => ?_
  pointwise [k0_pay72, k0_pay71]
  simp only [co2_at, co3_at, ← EReal.coe_mul, coe_sum, ← EReal.coe_add, ← EReal.coe_sub]
  rfl

theorem pay73 : k0_pay73 (F := Ideal) (co2 a) (co2 b) (co2 c) (co2 d) (co2 e) = co2 fun r k => (a 2 k * c r k + a 1 k * d r k + a 0 k * e r k) * b r k := by
  refine ext2 fun i k => ?_
  pointwise [k0_pay73, k0_pay71]
  simp only [co2_at, co3_at, ← EReal.coe_mul, coe_sum, ← EReal.coe_add, ← EReal.coe_sub]
  rfl

/-! ## The projections back, the norm, and what is stored -/

theorem pay88 : k0_pay88 (F := Ideal) (co2 a) (co3 w) = co2 fun r k => ∑ j : Fin 256, a r j.val * w 0 k j.val := by
  refine ext2 fun i k => ?_
  pointwise [k0_pay88]
  simp only [co2_at, co3_at, ← EReal.coe_mul, coe_sum, ← EReal.coe_add, ← EReal.coe_sub]
  rfl

theorem pay89 : k0_pay89 (F := Ideal) (co2 a) (co2 b) (co3 w1) (co2 c) (co3 w2) (co2 d) (co3 w3) (co2 e) (co3 w4) (co2 f) (co3 w5) = co2 fun r k => a r k + (∑ j : Fin 256, b r j.val * w1 0 k j.val) + (∑ j : Fin 256, c r j.val * w2 0 k j.val) + (∑ j : Fin 256, d r j.val * w3 0 k j.val) + (∑ j : Fin 256, e r j.val * w4 0 k j.val) + (∑ j : Fin 256, f r j.val * w5 0 k j.val) := by
  refine ext2 fun i k => ?_
  pointwise [k0_pay89]
  simp only [co2_at, co3_at, ← EReal.coe_mul, coe_sum, ← EReal.coe_add, ← EReal.coe_sub]
  rfl

theorem pay90 : k0_pay90 (F := Ideal) (co2 a) (co2 b) (co3 w1) (co2 c) (co3 w2) = co2 fun r k => a r k + (∑ j : Fin 256, b r j.val * w1 0 k j.val) + (∑ j : Fin 256, c r j.val * w2 0 k j.val) := by
  refine ext2 fun i k => ?_
  pointwise [k0_pay90]
  simp only [co2_at, co3_at, ← EReal.coe_mul, coe_sum, ← EReal.coe_add, ← EReal.coe_sub]
  rfl

/-- Row `r` of a matrix, 1024 long. -/
def row (x : ℕ → ℕ → ℝ) (r : ℕ) (j : Fin 1024) : ℝ := x r j.val

theorem pay91 (i : Fin 512) : k0_pay91 (F := Ideal) (co2 a) (ix2 i 0) = ((scale (row a i.val) : ℝ) : EReal) := by
  pointwise [k0_pay91]
  simp only [co2_at, ← EReal.coe_mul, coe_sum, ofBits_1024, ofBits_eps, div_1024, ← EReal.coe_add]
  exact rsqrt_meanSq (row a i.val)

theorem pay92 : k0_pay92 (F := Ideal) (co2 a) = co2 fun r k => a r k * scale (row a r) := by
  refine ext2 fun i k => ?_
  unfold k0_pay92
  pointwise
  rw [pay91]
  simp only [co2_at, ← EReal.coe_mul]

theorem pay93 (h : k0_pay90 (F := Ideal) (co2 a) (co2 b) (co3 w1) (co2 c) (co3 w2) = co2 d) :
    k0_pay93 (F := Ideal) (co2 a) (co2 b) (co3 w1) (co2 c) (co3 w2) (co2 e) (co2 f)
      = co2 fun r k => rmsGrad (row e r) (fun j => d r j.val * f 0 j.val) ⟨k % 1024, Nat.mod_lt _ (by decide)⟩ := by
  refine ext2 fun i k => ?_
  unfold k0_pay93
  rw [h, pay92]
  pointwise
  rw [pay91]
  simp only [co2_at, ← EReal.coe_mul, coe_sum, ofBits_1024, div_1024, ← EReal.coe_add, ← EReal.coe_sub]
  unfold rmsGrad row
  simp only [Nat.mod_eq_of_lt k.isLt]
  rfl

theorem pay94_97 (h : k0_pay90 (F := Ideal) (co2 a) (co2 b) (co3 w1) (co2 c) (co3 w2) = co2 d) :
    k0_pay97 (F := Ideal) (k0_pay94 (F := Ideal) (co2 a) (co2 b) (co3 w1) (co2 c) (co3 w2) (co2 e)) (co2 f)
      = co2 fun _ k => f 0 k + ∑ r : Fin 512, d r.val k * (e r.val k * scale (row e r.val)) := by
  refine ext2 fun i k => ?_
  unfold k0_pay97 k0_pay94
  rw [h, pay92]
  pointwise
  simp only [co2_at, ← EReal.coe_mul, coe_sum, ← EReal.coe_add]
  rw [Fin.val_eq_zero i]

theorem pay95 : k0_pay95 (F := Ideal) (co2 a) (co2 b) = co2 fun r k => a r k + b r k := by
  refine ext2 fun i k => ?_
  pointwise [k0_pay95]
  simp only [co2_at, co3_at, ← EReal.coe_mul, coe_sum, ← EReal.coe_add, ← EReal.coe_sub]

theorem pay96 : k0_pay96 (F := Ideal) (co2 a) (co2 b) = co2 fun r k => 1 / 2 * (a r k + b r k) := by
  refine ext2 fun i k => ?_
  pointwise [k0_pay96, k0_pay95]
  simp only [ofBits_half, co2_at, co3_at, ← EReal.coe_mul, coe_sum, ← EReal.coe_add, ← EReal.coe_sub]

theorem pay98 (x : Vec Ideal S16x1024 .f32) : k0_pay98 (F := Ideal) x = x := by
  refine ext2 fun i k => ?_
  pointwise [k0_pay98]

theorem pay99 (x : Vec Ideal S1024x1024 .f32) : k0_pay99 (F := Ideal) x = x := by
  refine ext2 fun i k => ?_
  pointwise [k0_pay99]

/-! ## Doubling sums -/

theorem pay74 (x y : Vec Ideal S528x128 .f32) (z : S528x128.Idx) : k0_pay74 (F := Ideal) x y z = x z + y z := by
  rw [eq_ix2 z]
  pointwise [k0_pay74]

theorem pay76 (x y : Vec Ideal S528x128 .f32) (z : S528x128.Idx) : k0_pay76 (F := Ideal) x y z = x z + y z := by
  rw [eq_ix2 z]
  pointwise [k0_pay76]

theorem pay77 (x y : Vec Ideal S528x128 .f32) (z : S528x128.Idx) : k0_pay77 (F := Ideal) x y z = x z + y z := by
  rw [eq_ix2 z]
  pointwise [k0_pay77]

theorem pay79 (x y : Vec Ideal S528x128 .f32) (z : S528x128.Idx) : k0_pay79 (F := Ideal) x y z = x z + y z := by
  rw [eq_ix2 z]
  pointwise [k0_pay79]

theorem pay80 (x y : Vec Ideal S528x128 .f32) (z : S528x128.Idx) : k0_pay80 (F := Ideal) x y z = x z + y z := by
  rw [eq_ix2 z]
  pointwise [k0_pay80]

theorem pay81 (x y : Vec Ideal S528x128 .f32) (z : S528x128.Idx) : k0_pay81 (F := Ideal) x y z = x z + y z := by
  rw [eq_ix2 z]
  pointwise [k0_pay81]

theorem pay83 (x y : Vec Ideal S528x128 .f32) (z : S528x128.Idx) : k0_pay83 (F := Ideal) x y z = x z + y z := by
  rw [eq_ix2 z]
  pointwise [k0_pay83]

theorem pay84 (x y : Vec Ideal S528x128 .f32) (z : S528x128.Idx) : k0_pay84 (F := Ideal) x y z = x z + y z := by
  rw [eq_ix2 z]
  pointwise [k0_pay84]

theorem pay85 (x y : Vec Ideal S528x128 .f32) (z : S528x128.Idx) : k0_pay85 (F := Ideal) x y z = x z + y z := by
  rw [eq_ix2 z]
  pointwise [k0_pay85]

theorem pay86 (x y : Vec Ideal S528x128 .f32) (z : S528x128.Idx) : k0_pay86 (F := Ideal) x y z = x z + y z := by
  rw [eq_ix2 z]
  pointwise [k0_pay86]

theorem pay75 (x y : Vec Ideal S512x128 .f32) (z : S512x128.Idx) : k0_pay75 (F := Ideal) x y z = y z - x z := by
  rw [eq_ix2 z]
  pointwise [k0_pay75]

theorem pay78 (x y : Vec Ideal S512x128 .f32) (z : S512x128.Idx) : k0_pay78 (F := Ideal) x y z = y z - x z := by
  rw [eq_ix2 z]
  pointwise [k0_pay78]

theorem pay82 (x y : Vec Ideal S512x128 .f32) (z : S512x128.Idx) : k0_pay82 (F := Ideal) x y z = y z - x z := by
  rw [eq_ix2 z]
  pointwise [k0_pay82]

theorem pay87 (x y : Vec Ideal S512x128 .f32) (z : S512x128.Idx) : k0_pay87 (F := Ideal) x y z = y z - x z := by
  rw [eq_ix2 z]
  pointwise [k0_pay87]

theorem cnt_int (T r w : ℕ) (hT : T < 8) (hr : r < 512) (hw : w < 17) :
    (IntOp.minsi (IntOp.addi (IntOp.addi (Scalar.muli (BitVec.ofNat 32 T) 512#32) (BitVec.ofNat 32 r)) 1#32) (BitVec.ofNat 32 w)).toInt
      = ((min (512 * T + r + 1) w : ℕ) : ℤ) := by
  have e : IntOp.addi (IntOp.addi (Scalar.muli (BitVec.ofNat 32 T) 512#32) (BitVec.ofNat 32 r)) 1#32 = BitVec.ofNat 32 (512 * T + r + 1) := by
    show BitVec.ofNat 32 T * 512#32 + BitVec.ofNat 32 r + 1#32 = _
    rw [show 512 * T = T * 512 from mul_comm _ _]
    simp only [BitVec.ofNat_add, BitVec.ofNat_mul]
  rw [e]
  have hv : ∀ n, n < 2 ^ 31 → (BitVec.ofNat 32 n).toInt = (n : ℤ) := fun n hn => by
    rw [BitVec.toInt_ofNat', Int.bmod_eq_of_le] <;> omega
  show (if BitVec.slt _ _ then _ else _ : BitVec 32).toInt = _
  rw [BitVec.slt, hv _ (by omega), hv _ (by omega)]
  by_cases h : 512 * T + r + 1 < w
  · rw [if_pos (decide_eq_true (by exact_mod_cast h)), hv _ (by omega), min_eq_left h.le]
  · rw [if_neg (by rw [decide_eq_true_iff]; exact_mod_cast h), hv _ (by omega), min_eq_right (not_lt.1 h)]

/-- One over the number of rows in a window of `n` rows that ends at row `512 T + r`. -/
def cnt (n : ℕ) (r : ℕ) : ℝ := 1 / ((min (r + 1) n : ℕ) : ℝ)

theorem inv_cnt (x : BitVec 32) (n : ℕ) (hn : 0 < n) (h : x.toInt = (n : ℤ)) :
    Ideal.div 1 (FloatOps.sitofp (F := Ideal) FTy.f32 x) = ((1 / (n : ℝ) : ℝ) : EReal) := by
  have e : FloatOps.sitofp (F := Ideal) FTy.f32 x = (((x.toInt : ℤ) : ℝ) : EReal) := rfl
  rw [e, h, Int.cast_natCast, ← EReal.coe_one, div_real _ (by exact_mod_cast hn.ne')]

theorem cnt18 (T : ℕ) (hT : T < 8) : k0_pay18 (F := Ideal) (BitVec.ofNat 32 T) = co2 fun r _ => cnt 2 (512 * T + r) := by
  refine ext2 fun i k => ?_
  pointwise [k0_pay18, k0_pay17]
  exact inv_cnt _ _ (by omega) (cnt_int T i.val 2 hT i.isLt (by decide))
theorem cnt20 (T : ℕ) (hT : T < 8) : k0_pay20 (F := Ideal) (k0_pay19 (BitVec.ofNat 32 T)) = co2 fun r _ => cnt 4 (512 * T + r) := by
  refine ext2 fun i k => ?_
  pointwise [k0_pay20, k0_pay19, k0_pay17]
  exact inv_cnt _ _ (by omega) (cnt_int T i.val 4 hT i.isLt (by decide))
theorem cnt21 (T : ℕ) (hT : T < 8) : k0_pay21 (F := Ideal) (k0_pay17 (BitVec.ofNat 32 T)) = co2 fun r _ => cnt 8 (512 * T + r) := by
  refine ext2 fun i k => ?_
  pointwise [k0_pay21, k0_pay17]
  exact inv_cnt _ _ (by omega) (cnt_int T i.val 8 hT i.isLt (by decide))
theorem cnt22 (T : ℕ) (hT : T < 8) : k0_pay22 (F := Ideal) (k0_pay17 (BitVec.ofNat 32 T)) = co2 fun r _ => cnt 16 (512 * T + r) := by
  refine ext2 fun i k => ?_
  pointwise [k0_pay22, k0_pay17]
  exact inv_cnt _ _ (by omega) (cnt_int T i.val 16 hT i.isLt (by decide))

end Cert.Proof.MixPay
-- ==== Proof.MixReal.lean ====
module

public import proofs.«01_k».proof.Proof.MixPay

@[expose] public section
/-! # The backward mixer's mathematics over the reals

Rows are numbered over the whole shard, 0 to 4095. Everything is a function of the row's and the column's number; rows past
the last count as zero where a later row is asked for. -/

noncomputable section

namespace MixReal

open Cert.Proof.Reals
open Cert.Proof.MixPay (row cnt)

/-- The layer's arrays: the cotangent, the input, its projections, the pooled rows, and the parameters. -/
structure D where
  ct : ℕ → ℕ → ℝ
  x : ℕ → ℕ → ℝ
  P : ℕ → ℕ → ℝ
  pl : ℕ → ℕ → ℝ
  g : ℕ → ℝ
  win : ℕ → ℕ → ℝ
  cw : ℕ → ℕ → ℝ
  pw : ℕ → ℕ → ℕ → ℝ
  ps : ℕ → ℝ
  wo : ℕ → ℕ → ℝ

namespace D
variable (V : D)

/-- The projections below 16 rows of zeros. -/
def pb (n k : ℕ) : ℝ := if 16 ≤ n then V.P (n - 16) k else 0
theorem pb_16 (n k : ℕ) : V.pb (n + 16) k = V.P n k := if_pos (Nat.le_add_left 16 n)

/-- The gated values `16 − o` rows back. -/
def z (o r k : ℕ) : ℝ := V.pb (r + o) k * V.pb (r + o) (1024 + k)
/-- The causal convolution of the gated values. -/
def conv (r k : ℕ) : ℝ := V.cw 2 k * V.z 16 r k + V.cw 1 k * V.z 15 r k + V.cw 0 k * V.z 14 r k
/-- The cotangent of the concatenation, -/
def dcat (r k : ℕ) : ℝ := ∑ j : Fin 1024, V.ct r j.val * V.wo k j.val
/-- of the convolution, -/
def dconv (r k : ℕ) : ℝ := V.dcat r k * V.P r (512 + k)
/-- and of the pooled rows of group `q`. -/
def dpool (q r k : ℕ) : ℝ := ∑ j : Fin 128, V.dcat r (512 + 128 * q + j.val) * V.ps (128 * q + j.val) * V.pw q k j.val
/-- The pooled rows through group `q`'s matrix. -/
def lin (q r k : ℕ) : ℝ := ∑ j : Fin 128, V.pl r (128 * q + j.val) * V.pw q j.val k

/-- What earlier rows take from row `r`: the convolution's cotangent, and the pooled one over the window's count. -/
def fut (r c : ℕ) : ℝ :=
  if 4096 ≤ r then 0 else if c < 512 then V.dconv r c
  else V.dpool ((c - 512) / 128) r ((c - 512) % 128) * cnt (2 ^ ((c - 512) / 128 + 1)) r
theorem fut_end (r c : ℕ) (h : 4096 ≤ r) : V.fut r c = 0 := if_pos h
theorem fut_conv (r c : ℕ) (h : r < 4096) (hc : c < 512) : V.fut r c = V.dconv r c := by
  unfold fut; rw [if_neg (by omega), if_pos hc]
theorem fut_pool (q r k : ℕ) (h : r < 4096) (hk : k < 128) : V.fut r (512 + 128 * q + k) = V.dpool q r k * cnt (2 ^ (q + 1)) r := by
  unfold fut
  rw [if_neg (by omega), if_neg (by omega), show (512 + 128 * q + k - 512) / 128 = q by omega, show (512 + 128 * q + k - 512) % 128 = k by omega]

/-- The sum of `n` such rows. -/
def W (n r c : ℕ) : ℝ := ∑ j ∈ Finset.range n, V.fut (r + j) c
theorem W_two (r c : ℕ) : V.fut r c + V.fut (r + 1) c = V.W 2 r c := by simp [W, Finset.sum_range_succ]
theorem W_add (n r c : ℕ) : V.W n r c + V.W n (r + n) c = V.W (n + n) r c := by
  unfold W
  rw [Finset.sum_range_add]
  simp only [Nat.add_assoc]

/-- The cotangent of the gated values. -/
def dz (r k : ℕ) : ℝ := V.cw 2 k * V.fut r k + V.cw 1 k * V.fut (r + 1) k + V.cw 0 k * V.fut (r + 2) k

/-- The concatenation. -/
def cat (r c : ℕ) : ℝ :=
  if c < 512 then V.P r (512 + c) * V.conv r c
  else V.lin ((c - 512) / 128) r ((c - 512) % 128) * V.ps (c - 512)
theorem cat_conv (r c : ℕ) (hc : c < 512) : V.cat r c = V.P r (512 + c) * V.conv r c := if_pos hc
theorem cat_pool (q r k : ℕ) (hk : k < 128) : V.cat r (512 + 128 * q + k) = V.lin q r k * V.ps (128 * q + k) := by
  unfold cat
  rw [if_neg (by omega), show (512 + 128 * q + k - 512) / 128 = q by omega, show (512 + 128 * q + k - 512) % 128 = k by omega,
    show 512 + 128 * q + k - 512 = 128 * q + k by omega]

/-- The cotangent of the projections: of gate c, of gate b, of the values, and of the pooling's input. -/
def dproj (r c : ℕ) : ℝ :=
  if c < 512 then V.dz r c * V.P r (1024 + c)
  else if c < 1024 then V.dcat r (c - 512) * V.conv r (c - 512)
  else if c < 1536 then V.dz r (c - 1024) * V.P r (c - 1024)
  else V.W (2 ^ ((c - 1536) / 128 + 1)) r (c - 1024) - V.dpool ((c - 1536) / 128) r ((c - 1536) % 128)
theorem dproj_c (r k : ℕ) (h : k < 512) : V.dproj r k = V.dz r k * V.P r (1024 + k) := if_pos h
theorem dproj_b (r k : ℕ) (h : k < 512) : V.dproj r (512 + k) = V.dcat r k * V.conv r k := by
  unfold dproj; rw [if_neg (by omega), if_pos (by omega), Nat.add_sub_cancel_left]
theorem dproj_v (r k : ℕ) (h : k < 512) : V.dproj r (1024 + k) = V.dz r k * V.P r k := by
  unfold dproj; rw [if_neg (by omega), if_neg (by omega), if_pos (by omega), Nat.add_sub_cancel_left]
theorem dproj_p (q r k : ℕ) (h : k < 128) : V.dproj r (1536 + 128 * q + k) = V.W (2 ^ (q + 1)) r (512 + 128 * q + k) - V.dpool q r k := by
  unfold dproj
  rw [if_neg (by omega), if_neg (by omega), if_neg (by omega), show (1536 + 128 * q + k - 1536) / 128 = q by omega,
    show (1536 + 128 * q + k - 1536) % 128 = k by omega, show 1536 + 128 * q + k - 1024 = 512 + 128 * q + k by omega]

/-- The cotangent of the normed rows, -/
def dh (r k : ℕ) : ℝ := ∑ c : Fin 2048, V.dproj r c.val * V.win k c.val
/-- and of the rows themselves. -/
def dx (r k : ℕ) : ℝ := V.ct r k + rmsGrad (row V.x r) (fun j => V.dh r j.val * V.g j.val) ⟨k % 1024, Nat.mod_lt _ (by decide)⟩

/-- The sum of `f` over the 512 rows of tile `T`, -/
def tsum (f : ℕ → ℝ) (T : ℕ) : ℝ := ∑ r : Fin 512, f (512 * T + r.val)
/-- and over the last `n` of the 8 tiles, from the last down. -/
def S (f : ℕ → ℝ) (n : ℕ) : ℝ := ∑ t ∈ Finset.range n, tsum f (7 - t)
theorem S_zero (f : ℕ → ℝ) : S f 0 = 0 := Finset.sum_range_zero _
theorem S_succ (f : ℕ → ℝ) (n : ℕ) : S f (n + 1) = S f n + tsum f (7 - n) := Finset.sum_range_succ _ _
theorem S_eight (f : ℕ → ℝ) : S f 8 = ∑ r : Fin 4096, f r.val := by
  rw [Cert.Proof.Cols.sum_tok]
  unfold S tsum
  rw [Finset.sum_range fun t => ∑ r : Fin 512, f (512 * (7 - t) + r.val), ← Equiv.sum_comp Fin.revPerm]
  refine Finset.sum_congr rfl fun t _ => Finset.sum_congr rfl fun r _ => congrArg f ?_
  show 512 * (7 - (Fin.rev t).val) + r.val = 512 * t.val + r.val
  rw [Fin.val_rev]; omega

/-- What row `r` adds to the gradient of the output weight, -/
def cDwo (i k r : ℕ) : ℝ := V.cat r i * V.ct r k
/-- of the norm's gain, -/
def cDg (k r : ℕ) : ℝ := V.dh r k * (V.x r k * scale (row V.x r))
/-- of the convolution's weights, -/
def cDcw (s k r : ℕ) : ℝ := V.dconv r k * V.z (14 + s) r k
/-- of the pooling matrices -/
def cDpw (q a b r : ℕ) : ℝ := V.pl r (128 * q + a) * (V.dcat r (512 + 128 * q + b) * V.ps (128 * q + b))
/-- and of the pooling's gain. -/
def cDps (q k r : ℕ) : ℝ := V.dcat r (512 + 128 * q + k) * V.lin q r k

end D

end MixReal
-- ==== Proof.MixPoint.lean ====
module

public import proofs.«01_k».proof.Proof.MixReal

@[expose] public section
/-! # One point of the backward mixer over the reals

What a point reads are the rows of its tile; what it leaves are the rows of the gradients, and the running sums with the
tile's part added. -/

set_option maxRecDepth 16384

noncomputable section

namespace MixPoint

open Cert.MixIdeal Cert.MixIdeal.Gen Idealize.ShloMosaic Idealize.ShloMosaic.TcCoe
open Idealize.ShloMosaic.VecWindow (window put)
open Cert.Proof.Reals Cert.Proof.Cols Cert.Proof.MixPay MixReal MixStep

/-! ## Windows of arrays of reals -/

theorem window_co2 {n0 n1 : ℕ} (f : ℕ → ℕ → ℝ) {o0 o1 s0 s1 : ℕ} (inb) :
    window (s := ⟨2, ![n0, n1]⟩) (co2 f) ![o0, o1] ![s0, s1] inb = co2 fun r k => f (o0 + r) (o1 + k) := by
  funext y
  show ((f (o0 + 1 * (y 0).val) (o1 + 1 * (y 1).val) : ℝ) : EReal) = _
  rw [Nat.one_mul, Nat.one_mul]; rfl

theorem window_co3 {n0 n1 n2 : ℕ} (f : ℕ → ℕ → ℕ → ℝ) {o0 s0 s1 s2 : ℕ} (inb) :
    window (s := ⟨3, ![n0, n1, n2]⟩) (co3 f) ![o0, 0, 0] ![s0, s1, s2] inb = co3 fun l r k => f (o0 + l) r k := by
  funext y
  show ((f (o0 + 1 * (y 0).val) (0 + 1 * (y 1).val) (0 + 1 * (y 2).val) : ℝ) : EReal) = _
  rw [Nat.one_mul, Nat.one_mul, Nat.one_mul, Nat.zero_add, Nat.zero_add]; rfl

theorem put_co2 {n0 n1 : ℕ} (x : (⟨2, ![n0, n1]⟩ : Shape).Idx → EReal) (f : ℕ → ℕ → ℝ) {o0 o1 s0 s1 : ℕ} (y : (⟨2, ![n0, n1]⟩ : Shape).Idx) :
    put (s := ⟨2, ![n0, n1]⟩) x ![o0, o1] ![s0, s1] (co2 (n0 := s0) (n1 := s1) f) y
      = if (o0 ≤ (y 0).val ∧ (y 0).val < o0 + s0) ∧ (o1 ≤ (y 1).val ∧ (y 1).val < o1 + s1)
        then ((f ((y 0).val - o0) ((y 1).val - o1) : ℝ) : EReal) else x y := by
  unfold put
  by_cases h : (o0 ≤ (y 0).val ∧ (y 0).val < o0 + s0) ∧ (o1 ≤ (y 1).val ∧ (y 1).val < o1 + s1)
  · rw [if_pos h, dif_pos (Fin.forall_fin_two.2 h)]; rfl
  · rw [if_neg h, dif_neg fun e => h (Fin.forall_fin_two.1 e)]

theorem put_co3 {n0 n1 n2 : ℕ} (x : (⟨3, ![n0, n1, n2]⟩ : Shape).Idx → EReal) (f : ℕ → ℕ → ℕ → ℝ) {o0 : ℕ} (y : (⟨3, ![n0, n1, n2]⟩ : Shape).Idx) :
    put (s := ⟨3, ![n0, n1, n2]⟩) x ![o0, 0, 0] ![1, n1, n2] (co3 (n0 := 1) (n1 := n1) (n2 := n2) f) y
      = if (y 0).val = o0 then ((f 0 (y 1).val (y 2).val : ℝ) : EReal) else x y := by
  unfold put
  by_cases h : (y 0).val = o0
  · rw [if_pos h, dif_pos (fun a => match a with
      | ⟨0, _⟩ => ⟨(le_of_eq h.symm : o0 ≤ (y 0).val), (by omega : (y 0).val < o0 + 1)⟩
      | ⟨1, _⟩ => ⟨Nat.zero_le _, (by rw [Nat.zero_add]; exact (y 1).isLt : (y 1).val < 0 + n1)⟩
      | ⟨2, _⟩ => ⟨Nat.zero_le _, (by rw [Nat.zero_add]; exact (y 2).isLt : (y 2).val < 0 + n2)⟩)]
    show ((f ((y 0).val - o0) ((y 1).val - 0) ((y 2).val - 0) : ℝ) : EReal) = _
    rw [h, Nat.sub_self]; rfl
  · rw [if_neg h, dif_neg fun e => h (by
      have := e 0
      have h1 : o0 ≤ (y 0).val := this.1
      have h2 : (y 0).val < o0 + 1 := this.2
      omega)]

/-- Inside what was put from the first row and column on. -/
theorem put_in {α : Type} {n0 n1 s0 s1 : ℕ} (x : (⟨2, ![n0, n1]⟩ : Shape).Idx → α) (w : (⟨2, ![s0, s1]⟩ : Shape).Idx → α)
    (y : (⟨2, ![n0, n1]⟩ : Shape).Idx) (h0 : (y 0).val < s0) (h1 : (y 1).val < s1) :
    put (s := ⟨2, ![n0, n1]⟩) x ![0, 0] ![s0, s1] w y = w (ix2 ⟨(y 0).val, h0⟩ ⟨(y 1).val, h1⟩) := by
  unfold put
  rw [dif_pos (Fin.forall_fin_two.2 ⟨⟨Nat.zero_le _, (by rw [Nat.zero_add]; exact h0 : (y 0).val < 0 + s0)⟩,
    ⟨Nat.zero_le _, (by rw [Nat.zero_add]; exact h1 : (y 1).val < 0 + s1)⟩⟩)]
  exact congrArg w (funext fun a => match a with
    | ⟨0, _⟩ => Fin.ext (Nat.sub_zero (y 0).val)
    | ⟨1, _⟩ => Fin.ext (Nat.sub_zero (y 1).val))

/-- An element of a window. -/
theorem window_at {α : Type} {n0 n1 o0 o1 s0 s1 : ℕ} (x : (⟨2, ![n0, n1]⟩ : Shape).Idx → α) (inb) (y : (⟨2, ![s0, s1]⟩ : Shape).Idx)
    (a : Fin n0) (b : Fin n1) (h0 : a.val = o0 + (y 0).val) (h1 : b.val = o1 + (y 1).val) :
    window (s := ⟨2, ![n0, n1]⟩) x ![o0, o1] ![s0, s1] inb y = x (ix2 a b) :=
  congrArg x (idx2_eq _ _ _ (by show o0 + 1 * (y 0).val = _; omega) (by show o1 + 1 * (y 1).val = _; omega))

theorem co2_congr {n0 n1 : ℕ} {f g : ℕ → ℕ → ℝ} (h : ∀ r k, r < n0 → k < n1 → f r k = g r k) : (co2 f : (⟨2, ![n0, n1]⟩ : Shape).Idx → EReal) = co2 g :=
  ext2 fun i k => congrArg _ (h _ _ i.isLt k.isLt)
theorem co3_congr {n0 n1 n2 : ℕ} {f g : ℕ → ℕ → ℕ → ℝ} (h : ∀ l r k, l < n0 → r < n1 → k < n2 → f l r k = g l r k) :
    (co3 f : (⟨3, ![n0, n1, n2]⟩ : Shape).Idx → EReal) = co3 g :=
  ext3 fun l i k => congrArg _ (h _ _ _ l.isLt i.isLt k.isLt)

theorem sub75 (f g : ℕ → ℕ → ℝ) : k0_pay75 (F := Ideal) (co2 f) (co2 g) = co2 fun r k => g r k - f r k :=
  funext fun z => by rw [pay75]; exact (EReal.coe_sub _ _).symm
theorem sub78 (f g : ℕ → ℕ → ℝ) : k0_pay78 (F := Ideal) (co2 f) (co2 g) = co2 fun r k => g r k - f r k :=
  funext fun z => by rw [pay78]; exact (EReal.coe_sub _ _).symm
theorem sub82 (f g : ℕ → ℕ → ℝ) : k0_pay82 (F := Ideal) (co2 f) (co2 g) = co2 fun r k => g r k - f r k :=
  funext fun z => by rw [pay82]; exact (EReal.coe_sub _ _).symm
theorem sub87 (f g : ℕ → ℕ → ℝ) : k0_pay87 (F := Ideal) (co2 f) (co2 g) = co2 fun r k => g r k - f r k :=
  funext fun z => by rw [pay87]; exact (EReal.coe_sub _ _).symm

/-- The point of tile `T`: what it reads. -/
structure At (V : D) (T : ℕ) (I : In Ideal) : Prop where
  lt : T < 8
  tile : I.tile = BitVec.ofNat 32 T
  ct : I.ct = co2 fun r k => V.ct (512 * T + r) k
  x : I.x = co2 fun r k => V.x (512 * T + r) k
  proj : I.proj = co2 fun r k => V.P (512 * T + r) k
  halo : I.halo = co2 fun r k => V.pb (512 * T + r) k
  pooled : I.pooled = co2 fun r k => V.pl (512 * T + r) k
  g : I.g = co2 fun _ k => V.g k
  win : I.win = co3 fun b k c => V.win k (256 * b + c)
  cw : I.cw = co2 V.cw
  pw : I.pw = co3 V.pw
  ps : I.ps = co2 fun _ k => V.ps k
  wo : I.wo = co2 V.wo
  fut : ∀ z : S544x1024.Idx, 512 ≤ (z 0).val → (z 0).val < 528 → I.fut z = ((V.fut (512 * T + (z 0).val) (z 1).val : ℝ) : EReal)

section
variable {V : D} {T : ℕ} {I : In Ideal} (H : At V T I)
include H

theorem ext_eq : ext I = co2 fun r k => V.pb (512 * T + r) k := by
  refine ext2 fun i k => ?_
  rw [ext, pay9, H.proj, H.halo]
  rw [put_co2, put_co2]
  show (if (0 ≤ i.val ∧ i.val < 0 + 16) ∧ (0 ≤ k.val ∧ k.val < 0 + 2048) then _ else if (16 ≤ i.val ∧ i.val < 16 + 512) ∧ (0 ≤ k.val ∧ k.val < 0 + 2048) then _ else _) = ((_ : ℝ) : EReal)
  by_cases h : i.val < 16
  · rw [if_pos (by omega)]; rfl
  · rw [if_neg (by omega), if_pos (by omega)]
    refine congrArg _ ?_
    show V.P (512 * T + (i.val - 16)) (k.val - 0) = V.pb (512 * T + i.val) k.val
    rw [show 512 * T + i.val = 512 * T + (i.val - 16) + 16 by omega, V.pb_16]; rfl

theorem gateC_eq : gateC I = co2 fun r k => V.pb (512 * T + r + 16) k := by
  rw [gateC, ext_eq H]
  exact (window_co2 _ _).trans (co2_congr fun r k _ _ => by rw [show 512 * T + (16 + r) = 512 * T + r + 16 by omega, Nat.zero_add])
theorem gateB_eq : gateB I = co2 fun r k => V.P (512 * T + r) (512 + k) := by
  rw [gateB, ext_eq H]
  exact (window_co2 _ _).trans (co2_congr fun r k _ _ => by rw [show 512 * T + (16 + r) = 512 * T + r + 16 by omega, V.pb_16])
theorem val_eq : val I = co2 fun r k => V.pb (512 * T + r + 16) (1024 + k) := by
  rw [val, ext_eq H]
  exact (window_co2 _ _).trans (co2_congr fun r k _ _ => by rw [show 512 * T + (16 + r) = 512 * T + r + 16 by omega])
theorem val1_eq : val1 I = co2 fun r k => V.pb (512 * T + r + 15) (1024 + k) := by
  rw [val1, ext_eq H]
  exact (window_co2 _ _).trans (co2_congr fun r k _ _ => by rw [show 512 * T + (15 + r) = 512 * T + r + 15 by omega])
theorem gateC1_eq : gateC1 I = co2 fun r k => V.pb (512 * T + r + 15) k := by
  rw [gateC1, ext_eq H]
  exact (window_co2 _ _).trans (co2_congr fun r k _ _ => by rw [show 512 * T + (15 + r) = 512 * T + r + 15 by omega, Nat.zero_add])
theorem val2_eq : val2 I = co2 fun r k => V.pb (512 * T + r + 14) (1024 + k) := by
  rw [val2, ext_eq H]
  exact (window_co2 _ _).trans (co2_congr fun r k _ _ => by rw [show 512 * T + (14 + r) = 512 * T + r + 14 by omega])
theorem gateC2_eq : gateC2 I = co2 fun r k => V.pb (512 * T + r + 14) k := by
  rw [gateC2, ext_eq H]
  exact (window_co2 _ _).trans (co2_congr fun r k _ _ => by rw [show 512 * T + (14 + r) = 512 * T + r + 14 by omega, Nat.zero_add])

theorem z0_eq : z0 I = co2 fun r k => V.z 16 (512 * T + r) k := by
  rw [z0, gateC_eq H, val_eq H]; exact pay13 _ _
theorem z1_eq : z1 I = co2 fun r k => V.z 15 (512 * T + r) k := by
  rw [z1, gateC1_eq H, val1_eq H]; exact (pay14 _ _).trans (co2_congr fun _ _ _ _ => mul_comm _ _)
theorem z2_eq : z2 I = co2 fun r k => V.z 14 (512 * T + r) k := by
  rw [z2, gateC2_eq H, val2_eq H]; exact (pay15 _ _).trans (co2_congr fun _ _ _ _ => mul_comm _ _)
theorem conv_eq : conv I = co2 fun r k => V.conv (512 * T + r) k := by
  rw [conv, H.cw, gateC_eq H, val_eq H, gateC1_eq H, val1_eq H, gateC2_eq H, val2_eq H]
  exact (pay16 _ _ _ _ _ _ _).trans (co2_congr fun r k _ _ => by unfold D.conv D.z; ring)

theorem dcat_eq : dcat I = co2 fun r k => V.dcat (512 * T + r) k := by
  rw [dcat, H.ct, H.wo]; exact pay23 _ _
theorem dconv_eq : dconv I = co2 fun r k => V.dconv (512 * T + r) k := by
  rw [dconv, H.ct, H.wo, gateB_eq H]; exact pay25 _ _ _
theorem dy0_eq : dy0 I = co2 fun r k => V.dcat (512 * T + r) (512 + k) := by
  rw [dy0, dcat_eq H]; exact pay35 _
theorem dy1_eq : dy1 I = co2 fun r k => V.dcat (512 * T + r) (640 + k) := by
  rw [dy1, dcat_eq H]; exact pay44 _
theorem ps_eq {o : ℕ} (inb) : window (s := S1x512) I.ps ![0, o] S1x128.size inb = co2 fun _ k => V.ps (o + k) := by
  rw [H.ps]; exact window_co2 _ _
theorem pw_eq {o : ℕ} (inb) : window (s := S4x128x128) I.pw ![o, 0, 0] S1x128x128.size inb = co3 fun l r k => V.pw (o + l) r k := by
  rw [H.pw]; exact window_co3 _ _
theorem pl_eq {o : ℕ} (inb) : window (s := S512x512) I.pooled ![0, o] S512x128.size inb = co2 fun r k => V.pl (512 * T + r) (o + k) := by
  rw [H.pooled]; exact (window_co2 _ _).trans (co2_congr fun r k _ _ => by rw [Nat.zero_add])

theorem dpool0_eq : dpool0 I = co2 fun r k => V.dpool 0 (512 * T + r) k := by
  rw [dpool0, dy0_eq H, ps_eq H, pw_eq H]; exact pay40 _ _ _
theorem dpool1_eq : dpool1 I = co2 fun r k => V.dpool 1 (512 * T + r) k := by
  rw [dpool1, dy1_eq H, ps_eq H, pw_eq H]; exact pay49 _ _ _
theorem dpool2_eq : dpool2 I = co2 fun r k => V.dpool 2 (512 * T + r) k := by
  rw [dpool2, dcat_eq H, ps_eq H, pw_eq H]; exact pay58 _ _ _
theorem dpool3_eq : dpool3 I = co2 fun r k => V.dpool 3 (512 * T + r) k := by
  rw [dpool3, dcat_eq H, ps_eq H, pw_eq H]; exact pay68 _ _ _

/-- The cotangent rows to come: the tile's own wherever they lie, and below them those of the next tile. -/
theorem fut_at (u : Vec Ideal S544x1024 .f32) (z : S544x1024.Idx) (h0 : (z 0).val < 528)
    (h : 512 ≤ (z 0).val → u z = ((V.fut (512 * T + (z 0).val) (z 1).val : ℝ) : EReal)) :
    futOf I u z = ((V.fut (512 * T + (z 0).val) (z 1).val : ℝ) : EReal) := by
  have hT := H.lt
  have h1 : (z 1).val < 1024 := (z 1).isLt
  rw [futOf, gateB_eq H, dy0_eq H, dy1_eq H, dcat_eq H, H.ct, H.wo, H.tile, cnt18 T hT, cnt20 T hT, cnt21 T hT, cnt22 T hT]
  simp only [ps_eq H, pw_eq H]
  rw [pay26, pay41, pay50, pay60, pay69]
  by_cases hr : (z 0).val < 512
  · have hq : ∀ q, q < 4 → 512 + 128 * q ≤ (z 1).val → (z 1).val < 512 + 128 * q + 128 →
        V.fut (512 * T + (z 0).val) (z 1).val = V.dpool q (512 * T + (z 0).val) ((z 1).val - (512 + 128 * q)) * cnt (2 ^ (q + 1)) (512 * T + (z 0).val) := fun q _ hq hq' => by
      rw [← V.fut_pool q _ _ (by omega) (by omega), Nat.add_sub_cancel' hq]
    rw [put_co2, put_co2, put_co2, put_co2, put_co2]
    by_cases c3 : 896 ≤ (z 1).val
    · rw [if_pos (by omega), hq 3 (by omega) (by omega) (by omega)]; rfl
    rw [if_neg (by omega)]
    by_cases c2 : 768 ≤ (z 1).val
    · rw [if_pos (by omega), hq 2 (by omega) (by omega) (by omega)]; rfl
    rw [if_neg (by omega)]
    by_cases c1 : 640 ≤ (z 1).val
    · rw [if_pos (by omega), hq 1 (by omega) (by omega) (by omega)]; rfl
    rw [if_neg (by omega)]
    by_cases c0 : 512 ≤ (z 1).val
    · rw [if_pos (by omega), hq 0 (by omega) (by omega) (by omega)]; rfl
    rw [if_neg (by omega), if_pos (by omega), V.fut_conv _ _ (by omega) (by omega)]; rfl
  · rw [put_co2, if_neg (by omega), put_co2, if_neg (by omega), put_co2, if_neg (by omega), put_co2, if_neg (by omega),
      put_co2, if_neg (by omega)]
    exact h (by omega)

theorem fut_now (u : Vec Ideal S544x1024 .f32) (z : S544x1024.Idx) (h0 : (z 0).val < 512) :
    futOf I u z = ((V.fut (512 * T + (z 0).val) (z 1).val : ℝ) : EReal) :=
  fut_at H u z (by omega) fun h => by omega
theorem fut_all (z : S544x1024.Idx) (h0 : (z 0).val < 528) : futOf I I.fut z = ((V.fut (512 * T + (z 0).val) (z 1).val : ℝ) : EReal) :=
  fut_at H I.fut z h0 fun h => H.fut z h h0

theorem cat_eq : cat I = co2 fun r k => V.cat (512 * T + r) k := by
  funext z
  rw [cat, gateB_eq H, conv_eq H]
  simp only [ps_eq H, pw_eq H, pl_eq H]
  rw [pay27, pay36, pay45, pay54, pay64]
  have hi : (z 0).val < 512 := (z 0).isLt
  have hk : (z 1).val < 1024 := (z 1).isLt
  have hq : ∀ q, q < 4 → 512 + 128 * q ≤ (z 1).val → (z 1).val < 512 + 128 * q + 128 →
      V.cat (512 * T + (z 0).val) (z 1).val = V.lin q (512 * T + (z 0).val) ((z 1).val - (512 + 128 * q)) * V.ps (128 * q + ((z 1).val - (512 + 128 * q))) := fun q _ hq hq' => by
    rw [← V.cat_pool q _ _ (by omega), Nat.add_sub_cancel' hq]
  rw [put_co2, put_co2, put_co2, put_co2, put_co2]
  show _ = ((V.cat (512 * T + (z 0).val) (z 1).val : ℝ) : EReal)
  by_cases c3 : 896 ≤ (z 1).val
  · rw [if_pos (by omega), hq 3 (by omega) (by omega) (by omega)]; rfl
  rw [if_neg (by omega)]
  by_cases c2 : 768 ≤ (z 1).val
  · rw [if_pos (by omega), hq 2 (by omega) (by omega) (by omega)]; rfl
  rw [if_neg (by omega)]
  by_cases c1 : 640 ≤ (z 1).val
  · rw [if_pos (by omega), hq 1 (by omega) (by omega) (by omega)]; rfl
  rw [if_neg (by omega)]
  by_cases c0 : 512 ≤ (z 1).val
  · rw [if_pos (by omega), hq 0 (by omega) (by omega) (by omega)]; rfl
  rw [if_neg (by omega), if_pos (by omega), V.cat_conv _ _ (by omega)]; rfl

/-! ## Doubling: sums of two, four, eight and sixteen rows -/

/-- Two rows of the rows to come. -/
theorem two_at {o : ℕ} (pay : Vec Ideal S528x128 .f32 → Vec Ideal S528x128 .f32 → Vec Ideal S528x128 .f32)
    (hp : ∀ x y z, pay x y z = x z + y z) (ho : o + 128 ≤ 1024) (u : Vec Ideal S544x128 .f32) (inb inb') (z : S544x128.Idx) (h0 : (z 0).val < 527) :
    put (s := S544x128) u ![0, 0] S528x128.size (pay (window (s := S544x1024) (futOf I I.fut) ![0, o] S528x128.size inb) (window (s := S544x1024) (futOf I I.fut) ![1, o] S528x128.size inb')) z
      = ((V.W 2 (512 * T + (z 0).val) (o + (z 1).val) : ℝ) : EReal) := by
  have h1 : (z 1).val < 128 := (z 1).isLt
  rw [put_in _ _ z (by omega) h1, hp,
    window_at (futOf I I.fut) inb _ ⟨(z 0).val, by omega⟩ ⟨o + (z 1).val, by omega⟩ (Nat.zero_add _).symm rfl,
    window_at (futOf I I.fut) inb' _ ⟨(z 0).val + 1, by omega⟩ ⟨o + (z 1).val, by omega⟩ (Nat.add_comm _ _) rfl,
    fut_all H _ (by show (z 0).val < 528; omega), fut_all H _ (by show (z 0).val + 1 < 528; omega), ← EReal.coe_add]
  exact congrArg _ (V.W_two _ _)

omit H in
/-- Twice as many rows, of sums `x` and, `n` rows on, `x'`. -/
theorem dbl_at {n o B : ℕ} (pay : Vec Ideal S528x128 .f32 → Vec Ideal S528x128 .f32 → Vec Ideal S528x128 .f32)
    (hp : ∀ x y z, pay x y z = x z + y z) (u x x' : Vec Ideal S544x128 .f32) (inb inb') (hB : B ≤ 528)
    (hx : ∀ z : S544x128.Idx, (z 0).val < B → x z = ((V.W n (512 * T + (z 0).val) (o + (z 1).val) : ℝ) : EReal))
    (hx' : ∀ z : S544x128.Idx, (z 0).val < B → x' z = ((V.W n (512 * T + (z 0).val) (o + (z 1).val) : ℝ) : EReal))
    (z : S544x128.Idx) (h0 : (z 0).val + n < B) :
    put (s := S544x128) u ![0, 0] S528x128.size (pay (window (s := S544x128) x ![0, 0] S528x128.size inb) (window (s := S544x128) x' ![n, 0] S528x128.size inb')) z
      = ((V.W (n + n) (512 * T + (z 0).val) (o + (z 1).val) : ℝ) : EReal) := by
  have h1 : (z 1).val < 128 := (z 1).isLt
  rw [put_in _ _ z (by omega) h1, hp,
    window_at x inb _ ⟨(z 0).val, by omega⟩ ⟨(z 1).val, by omega⟩ (Nat.zero_add _).symm (Nat.zero_add _).symm,
    window_at x' inb' _ ⟨(z 0).val + n, by omega⟩ ⟨(z 1).val, by omega⟩ (Nat.add_comm _ _) (Nat.zero_add _).symm,
    hx _ (by show (z 0).val < B; omega), hx' _ (by show (z 0).val + n < B; omega), ← EReal.coe_add]
  show ((V.W n (512 * T + (z 0).val) (o + (z 1).val) + V.W n (512 * T + ((z 0).val + n)) (o + (z 1).val) : ℝ) : EReal) = _
  rw [← Nat.add_assoc, V.W_add]

theorem wa1_at (u z) (h0 : (z 0).val < 527) : wa1 I u z = ((V.W 2 (512 * T + (z 0).val) (512 + (z 1).val) : ℝ) : EReal) :=
  two_at H k0_pay74 pay74 (by decide) u _ _ z h0
theorem wa2_at (u z) (h0 : (z 0).val < 527) : wa2 I u z = ((V.W 2 (512 * T + (z 0).val) (640 + (z 1).val) : ℝ) : EReal) :=
  two_at H k0_pay76 pay76 (by decide) _ _ _ z h0
theorem wb1_at (u z) (h0 : (z 0).val + 2 < 527) : wb1 I u z = ((V.W 4 (512 * T + (z 0).val) (640 + (z 1).val) : ℝ) : EReal) :=
  dbl_at k0_pay77 pay77 u _ _ _ _ (by decide) (wa2_at H _) (wa2_at H _) z h0
theorem wa3_at (u z) (h0 : (z 0).val < 527) : wa3 I u z = ((V.W 2 (512 * T + (z 0).val) (768 + (z 1).val) : ℝ) : EReal) :=
  two_at H k0_pay79 pay79 (by decide) _ _ _ z h0
theorem wb2_at (u z) (h0 : (z 0).val < 525) : wb2 I u z = ((V.W 4 (512 * T + (z 0).val) (768 + (z 1).val) : ℝ) : EReal) :=
  dbl_at k0_pay80 pay80 _ _ _ _ _ (by decide) (wa3_at H _) (wa3_at H _) z (by omega)
theorem wa4_at (u z) (h0 : (z 0).val < 521) : wa4 I u z = ((V.W 8 (512 * T + (z 0).val) (768 + (z 1).val) : ℝ) : EReal) :=
  dbl_at k0_pay81 pay81 _ _ _ _ _ (by decide) (wb2_at H _) (wb2_at H _) z (by omega)
theorem wa5_at (u z) (h0 : (z 0).val < 527) : wa5 I u z = ((V.W 2 (512 * T + (z 0).val) (896 + (z 1).val) : ℝ) : EReal) :=
  two_at H k0_pay83 pay83 (by decide) _ _ _ z h0
theorem wb3_at (u z) (h0 : (z 0).val < 525) : wb3 I u z = ((V.W 4 (512 * T + (z 0).val) (896 + (z 1).val) : ℝ) : EReal) :=
  dbl_at k0_pay84 pay84 _ _ _ _ _ (by decide) (wa5_at H _) (wa5_at H _) z (by omega)
theorem wa6_at (u z) (h0 : (z 0).val < 521) : wa6 I u z = ((V.W 8 (512 * T + (z 0).val) (896 + (z 1).val) : ℝ) : EReal) :=
  dbl_at k0_pay85 pay85 _ _ _ _ _ (by decide) (wb3_at H _) (wb3_at H _) z (by omega)
theorem wb4_at (u z) (h0 : (z 0).val < 513) : wb4 I u z = ((V.W 16 (512 * T + (z 0).val) (896 + (z 1).val) : ℝ) : EReal) :=
  dbl_at k0_pay86 pay86 _ _ _ _ _ (by decide) (wa6_at H _) (wa6_at H _) z (by omega)

omit H in
/-- The tile's rows of such sums. -/
theorem sums_eq {n o : ℕ} (x : Vec Ideal S544x128 .f32) (inb)
    (hx : ∀ z : S544x128.Idx, (z 0).val < 512 → x z = ((V.W n (512 * T + (z 0).val) (o + (z 1).val) : ℝ) : EReal)) :
    window (s := S544x128) x ![0, 0] S512x128.size inb = co2 fun r k => V.W n (512 * T + r) (o + k) := by
  refine ext2 fun i k => ?_
  rw [window_at x inb _ ⟨i.val, by omega⟩ k (Nat.zero_add _).symm (Nat.zero_add _).symm, hx _ (by show i.val < 512; omega)]
  rfl

/-! ## The cotangent of the projections -/

theorem fut0_eq (inb) : window (s := S544x1024) (futOf I I.ufut) ![0, 0] S512x512.size inb = co2 fun r k => V.fut (512 * T + r) k := by
  refine ext2 fun i k => ?_
  rw [window_at _ inb _ ⟨i.val, by omega⟩ ⟨k.val, by omega⟩ (Nat.zero_add _).symm (Nat.zero_add _).symm, fut_now H _ _ (by show i.val < 512; omega)]
  rfl
theorem futn_eq {n : ℕ} (hn : n ≤ 16) (inb) : window (s := S544x1024) (futOf I I.fut) ![n, 0] S512x512.size inb = co2 fun r k => V.fut (512 * T + r + n) k := by
  refine ext2 fun i k => ?_
  rw [window_at _ inb _ ⟨i.val + n, by omega⟩ ⟨k.val, by omega⟩ (Nat.add_comm _ _) (Nat.zero_add _).symm, fut_all H _ (by show i.val + n < 528; omega)]
  show ((V.fut (512 * T + (i.val + n)) k.val : ℝ) : EReal) = _
  rw [← Nat.add_assoc]; rfl

theorem dproj_eq (u : Vec Ideal S512x2048 .bf16) : dprojOf I u = co2 fun r k => V.dproj (512 * T + r) k := by
  funext z
  rw [dprojOf, conv_eq H, H.ct, H.wo, H.cw, val_eq H, gateC_eq H, pay12, fut0_eq H, futn_eq H (n := 1) (by decide), futn_eq H (n := 2) (by decide),
    sums_eq (wa1 I I.uwa) _ (fun z h => wa1_at H _ z (by omega)), sums_eq (wb1 I I.uwb) _ (fun z h => wb1_at H _ z (by omega)),
    sums_eq (wa4 I I.uwa) _ (fun z h => wa4_at H _ z (by omega)), sums_eq (wb4 I I.uwb) _ (fun z h => wb4_at H _ z (by omega)),
    dpool0_eq H, dpool1_eq H, dpool2_eq H, dpool3_eq H, pay28, pay72, pay73, sub75, sub78, sub82, sub87]
  have hi : (z 0).val < 512 := (z 0).isLt
  have hk : (z 1).val < 2048 := (z 1).isLt
  have hq : ∀ q, q < 4 → 1536 + 128 * q ≤ (z 1).val → (z 1).val < 1536 + 128 * q + 128 →
      V.dproj (512 * T + (z 0).val) (z 1).val = V.W (2 ^ (q + 1)) (512 * T + (z 0).val) (512 + 128 * q + ((z 1).val - (1536 + 128 * q))) - V.dpool q (512 * T + (z 0).val) ((z 1).val - (1536 + 128 * q)) := fun q _ hq hq' => by
    rw [← V.dproj_p q _ _ (by omega), Nat.add_sub_cancel' hq]
  rw [put_co2, put_co2, put_co2, put_co2, put_co2, put_co2, put_co2]
  show _ = ((V.dproj (512 * T + (z 0).val) (z 1).val : ℝ) : EReal)
  by_cases c3 : 1920 ≤ (z 1).val
  · rw [if_pos (by omega), hq 3 (by omega) (by omega) (by omega)]; rfl
  rw [if_neg (by omega)]
  by_cases c2 : 1792 ≤ (z 1).val
  · rw [if_pos (by omega), hq 2 (by omega) (by omega) (by omega)]; rfl
  rw [if_neg (by omega)]
  by_cases c1 : 1664 ≤ (z 1).val
  · rw [if_pos (by omega), hq 1 (by omega) (by omega) (by omega)]; rfl
  rw [if_neg (by omega)]
  by_cases c0 : 1536 ≤ (z 1).val
  · rw [if_pos (by omega), hq 0 (by omega) (by omega) (by omega)]; rfl
  rw [if_neg (by omega)]
  by_cases cv : 1024 ≤ (z 1).val
  · rw [if_pos (by omega), ← Nat.add_sub_cancel' cv, V.dproj_v _ _ (by omega), ← V.pb_16, Nat.add_sub_cancel_left]; rfl
  rw [if_neg (by omega)]
  by_cases cc : (z 1).val < 512
  · rw [if_pos (by omega), V.dproj_c _ _ (by omega), ← V.pb_16]; rfl
  rw [if_neg (by omega), if_pos (by omega), ← Nat.add_sub_cancel' (not_lt.1 cc), V.dproj_b _ _ (by omega), Nat.add_sub_cancel_left]; rfl

/-! ## Through the projections and the norm -/

theorem win_eq {o : ℕ} (inb) : window (s := S8x1024x256) I.win ![o, 0, 0] S1x1024x256.size inb = co3 fun l k c => V.win k (256 * (o + l) + c) := by
  rw [H.win]; exact window_co3 _ _
theorem cols_eq {o : ℕ} (inb) : window (s := S512x2048) (dprojOf I I.uproj) ![0, o] S512x256.size inb = co2 fun r k => V.dproj (512 * T + r) (o + k) := by
  rw [dproj_eq H]; exact (window_co2 _ _).trans (co2_congr fun r k _ _ => by rw [Nat.zero_add])

/-- The first six blocks of columns, and all. -/
def part6 (V : D) (r k : ℕ) : ℝ := ∑ c ∈ Finset.range 1536, V.dproj r c * V.win k c

omit H in
theorem sum_blk (f : ℕ → ℝ) (n o : ℕ) : ∑ c ∈ Finset.range (n + 256), f c = ∑ c ∈ Finset.range n, f c + ∑ j : Fin 256, f (n + j.val) := by
  rw [Finset.sum_range_add, Finset.sum_range fun j => f (n + j)]

theorem dh6_eq : dh6 I = co2 fun r k => part6 V (512 * T + r) k := by
  rw [dh6]
  simp only [win_eq H, cols_eq H]
  rw [pay88, pay89]
  refine co2_congr fun r k _ _ => ?_
  unfold part6
  rw [sum_blk _ 1280 0, sum_blk _ 1024 0, sum_blk _ 768 0, sum_blk _ 512 0, sum_blk _ 256 0, Finset.sum_range]
  simp only [Nat.zero_add]
  rfl

theorem dh_eq : k0_pay90 (F := Ideal) (dh6 I) (window (dprojOf I I.uproj) ![0, 1536] S512x256.size inb_S512x2048_S512x256_0_1536) (window I.win ![6, 0, 0] S1x1024x256.size inb_S8x1024x256_S1x1024x256_6_0_0) (window (dprojOf I I.uproj) ![0, 1792] S512x256.size inb_S512x2048_S512x256_0_1792) (window I.win ![7, 0, 0] S1x1024x256.size inb_S8x1024x256_S1x1024x256_7_0_0)
    = co2 fun r k => V.dh (512 * T + r) k := by
  rw [dh6_eq H]
  simp only [win_eq H, cols_eq H]
  rw [pay90]
  refine co2_congr fun r k _ _ => ?_
  unfold D.dh part6
  rw [← Finset.sum_range fun c => V.dproj (512 * T + r) c * V.win k c, sum_blk _ 1792 0, sum_blk _ 1536 0]

theorem dxn_eq : dxn I = co2 fun r k => rmsGrad (row V.x (512 * T + r)) (fun j => V.dh (512 * T + r) j.val * V.g j.val) ⟨k % 1024, Nat.mod_lt _ (by decide)⟩ := by
  have h := dh_eq H
  rw [dxn, H.x, H.g]
  rw [dh6_eq H] at h ⊢
  simp only [win_eq H, cols_eq H] at h ⊢
  exact pay93 _ _ _ _ _ _ _ _ h

/-! ## What the point leaves -/

theorem dx_eq : (step I).dx = co2 fun r k => V.dx (512 * T + r) k := by
  show k0_pay95 I.ct (dxn I) = _
  rw [H.ct, dxn_eq H]; exact pay95 _ _
theorem half_eq : (step I).half = co2 fun r k => 1 / 2 * V.dx (512 * T + r) k := by
  show k0_pay96 I.ct (dxn I) = _
  rw [H.ct, dxn_eq H]; exact pay96 _ _
theorem dproj_left : (step I).dproj = co2 fun r k => V.dproj (512 * T + r) k := dproj_eq H _

theorem acc_eq (A : ℕ → ℕ → ℝ) (hA : I.acc = co2 A) : accN I = co2 fun i k => A i k + D.tsum (V.cDwo i k) T := by
  rw [accN, H.ct, hA, cat_eq H]; exact pay70 _ _ _

theorem dg_eq (A : ℕ → ℝ) (hA : I.dg = co2 fun _ k => A k) : (step I).dg = co2 fun _ k => A k + D.tsum (V.cDg k) T := by
  show k0_pay97 (dgt I) I.dg = _
  have h := dh_eq H
  rw [dgt, H.x, hA]
  rw [dh6_eq H] at h ⊢
  simp only [win_eq H, cols_eq H] at h ⊢
  exact pay94_97 _ _ _ _ _ _ _ _ h

theorem dcw_eq (A : ℕ → ℕ → ℝ) (h0 : I.dcw0 = co2 fun _ k => A 0 k) (h1 : I.dcw1 = co2 fun _ k => A 1 k) (h2 : I.dcw2 = co2 fun _ k => A 2 k) :
    (step I).dcw = co2 fun s k => A s k + D.tsum (V.cDcw s k) T := by
  show put _ _ _ _ = _
  rw [z0_eq H, z1_eq H, z2_eq H, dconv_eq H, h0, h1, h2, pay30, pay31, pay32]
  funext z
  have hs : (z 0).val < 3 := (z 0).isLt
  have hk : (z 1).val < 512 := (z 1).isLt
  rw [put_co2, put_co2, put_co2]
  show _ = ((A (z 0).val (z 1).val + D.tsum (V.cDcw (z 0).val (z 1).val) T : ℝ) : EReal)
  by_cases c0 : (z 0).val = 0
  · rw [if_pos (by omega), c0]; rfl
  rw [if_neg (by omega)]
  by_cases c1 : (z 0).val = 1
  · rw [if_pos (by omega), c1]; rfl
  rw [if_neg (by omega), if_pos (by omega), show (z 0).val = 2 by omega]; rfl

theorem dpw_eq (A : ℕ → ℕ → ℕ → ℝ) (h0 : I.dpw0 = co3 fun _ a b => A 0 a b) (h1 : I.dpw1 = co3 fun _ a b => A 1 a b)
    (h2 : I.dpw2 = co3 fun _ a b => A 2 a b) (h3 : I.dpw3 = co3 fun _ a b => A 3 a b) :
    (step I).dpw = co3 fun q a b => A q a b + D.tsum (V.cDpw q a b) T := by
  show put _ _ _ _ = _
  simp only [ps_eq H, pl_eq H]
  rw [dy0_eq H, dy1_eq H, dcat_eq H, h0, h1, h2, h3, pay39, pay48, pay57, pay67]
  funext z
  have hs : (z 0).val < 4 := (z 0).isLt
  rw [put_co3, put_co3, put_co3, put_co3]
  show _ = ((A (z 0).val (z 1).val (z 2).val + D.tsum (V.cDpw (z 0).val (z 1).val (z 2).val) T : ℝ) : EReal)
  by_cases c3 : (z 0).val = 3
  · rw [if_pos c3, c3]; rfl
  rw [if_neg c3]
  by_cases c2 : (z 0).val = 2
  · rw [if_pos c2, c2]; rfl
  rw [if_neg c2]
  by_cases c1 : (z 0).val = 1
  · rw [if_pos c1, c1]; rfl
  rw [if_neg c1, if_pos (by omega), show (z 0).val = 0 by omega]; rfl

theorem dps_eq (A : ℕ → ℝ) (h0 : I.dps0 = co2 fun _ k => A (0 + k)) (h1 : I.dps1 = co2 fun _ k => A (128 + k))
    (h2 : I.dps2 = co2 fun _ k => A (256 + k)) (h3 : I.dps3 = co2 fun _ k => A (384 + k)) :
    (step I).dps = co2 fun _ k => A k + D.tsum (V.cDps (k / 128) (k % 128)) T := by
  show put _ _ _ _ = _
  simp only [pw_eq H, pl_eq H]
  rw [dy0_eq H, dy1_eq H, dcat_eq H, h0, h1, h2, h3, pay37, pay46, pay55, pay65]
  funext z
  have hs : (z 0).val < 1 := (z 0).isLt
  have hk : (z 1).val < 512 := (z 1).isLt
  have hq : ∀ q, 128 * q ≤ (z 1).val → (z 1).val < 128 * q + 128 →
      A (z 1).val + D.tsum (V.cDps ((z 1).val / 128) ((z 1).val % 128)) T
        = A (128 * q + ((z 1).val - 128 * q)) + D.tsum (V.cDps q ((z 1).val - 128 * q)) T := fun q h h' => by
    rw [Nat.add_sub_cancel' h, show (z 1).val / 128 = q by omega, show (z 1).val % 128 = (z 1).val - 128 * q by omega]
  rw [put_co2, put_co2, put_co2, put_co2]
  show _ = ((A (z 1).val + D.tsum (V.cDps ((z 1).val / 128) ((z 1).val % 128)) T : ℝ) : EReal)
  by_cases c3 : 384 ≤ (z 1).val
  · rw [if_pos (by omega), hq 3 (by omega) (by omega)]; rfl
  rw [if_neg (by omega)]
  by_cases c2 : 256 ≤ (z 1).val
  · rw [if_pos (by omega), hq 2 (by omega) (by omega)]; rfl
  rw [if_neg (by omega)]
  by_cases c1 : 128 ≤ (z 1).val
  · rw [if_pos (by omega), hq 1 (by omega) (by omega)]; rfl
  rw [if_neg (by omega), if_pos (by omega), hq 0 (by omega) (by omega)]; rfl

/-- The rows below the tile are now the tile's first, which the tile before will ask for. -/
theorem fut_left (z : S544x1024.Idx) (h0 : 512 ≤ (z 0).val) (h1 : (z 0).val < 528) :
    (step I).fut z = ((V.fut (512 * T + ((z 0).val - 512)) (z 1).val : ℝ) : EReal) := by
  show put _ _ _ _ z = _
  have e : window (s := S544x1024) (futOf I I.ufut) ![0, 0] S16x1024.size inb_S544x1024_S16x1024_0_0 = co2 fun r k => V.fut (512 * T + r) k := by
    refine ext2 fun i k => ?_
    rw [window_at _ _ _ ⟨i.val, by omega⟩ k (Nat.zero_add _).symm (Nat.zero_add _).symm, fut_now H _ _ (by show i.val < 512; omega)]
    rfl
  have hk : (z 1).val < 1024 := (z 1).isLt
  rw [pay98, e, put_co2, if_pos (by omega)]
  rfl

end

end MixPoint
-- ==== Proof.MixCum.lean ====
module

public import Idealize.ShloMosaic.Lib.Pointwise
public import proofs.«01_k».proof.Proof.Reals
@[expose] public section
/-! # Running sums along the tokens

A running sum prints as a sum over windows as long as the axis, padded on one side so that each window holds the element's own row
and all before it, or all after it. -/

set_option maxRecDepth 16384

noncomputable section

namespace Cert.Proof.MixCum

open Idealize.ShloMosaic Cert.Proof.Reals

theorem foldl_add {ι : Type} (l : List ι) (g : ι → EReal) (v : EReal) : l.foldl (fun r n => r + g n) v = v + (l.map g).sum := by
  induction l generalizing v with
  | nil => exact (add_zero v).symm
  | cons a l ih => rw [List.foldl_cons, ih, List.map_cons, List.sum_cons, add_assoc]

variable {R G K : ℕ}

/-- A sum over a window `R` long and one wide. -/
theorem sum_window (f : (⟨3, ![R, 1, 1]⟩ : Shape).Idx → EReal) :
    ∑ w, f w = ∑ n : Fin R, f (ix3 n (0 : Fin 1) (0 : Fin 1)) := by
  refine (Fintype.sum_bijective (fun n : Fin R => (ix3 n (0 : Fin 1) (0 : Fin 1) : (⟨3, ![R, 1, 1]⟩ : Shape).Idx)) ⟨fun a b h => ?_, fun w => ⟨w 0, ?_⟩⟩ _ _ fun n => rfl).symm
  · exact congrFun h 0
  · funext a
    match a with
    | ⟨0, _⟩ => rfl
    | ⟨1, _⟩ => exact Subsingleton.elim (α := Fin 1) _ _
    | ⟨2, _⟩ => exact Subsingleton.elim (α := Fin 1) _ _

/-- The window sum at an element: the rows from `r - lo` on that the array has. -/
theorem windows (lo hi : ℕ) (x : (⟨3, ![R, G, K]⟩ : Shape).Idx → EReal) (f : ℕ → ℝ) (r : Fin R) (g : Fin G) (k : Fin K)
    (hx : ∀ s : Fin R, x (ix3 s g k) = (f s.val : EReal))
    (h : (⟨3, ![R, G, K]⟩ : Shape).ReduceWindows (![R, 1, 1] : Fin 3 → ℕ) ![1, 1, 1] ![lo, 0, 0] ![hi, 0, 0] ⟨3, ![R, G, K]⟩) :
    Ideal.hostReduceWindowAdd (s := ⟨3, ![R, G, K]⟩) (t := ⟨3, ![R, G, K]⟩) ![R, 1, 1] ![1, 1, 1] ![lo, 0, 0] ![hi, 0, 0] h x 0 (ix3 r g k)
      = ((∑ n : Fin R, if lo ≤ r.val + n.val ∧ r.val + n.val - lo < R then f (r.val + n.val - lo) else 0 : ℝ) : EReal) := by
  unfold Ideal.hostReduceWindowAdd Host.reduceWindow
  dsimp only
  rw [foldl_add, zero_add, ← Fin.sum_univ_def]
  refine Eq.trans (Finset.sum_congr rfl fun i _ => ?_) ((Equiv.sum_comp (Shape.rowMajor _).symm (fun w : (⟨3, ![R, 1, 1]⟩ : Shape).Idx =>
    if lo ≤ r.val + (w 0).val ∧ r.val + (w 0).val - lo < R then (f (r.val + (w 0).val - lo) : EReal) else 0)).trans ?_)
  · let w : (⟨3, ![R, 1, 1]⟩ : Shape).Idx := (Shape.rowMajor (⟨3, ![R, 1, 1]⟩ : Shape)).symm i
    have w1 : (w 1).val < 1 := (w 1).isLt
    have w2 : (w 2).val < 1 := (w 2).isLt
    show _ = if lo ≤ r.val + (w 0).val ∧ r.val + (w 0).val - lo < R then (f (r.val + (w 0).val - lo) : EReal) else 0
    by_cases hn : lo ≤ r.val + (w 0).val ∧ r.val + (w 0).val - lo < R
    · rw [if_pos hn, dif_pos, ← hx ⟨r.val + (w 0).val - lo, hn.2⟩]
      · refine congrArg x (funext fun a => Fin.ext ?_)
        match a with
        | ⟨0, _⟩ => show r.val * 1 + (w 0).val - lo = r.val + (w 0).val - lo; rw [Nat.mul_one]
        | ⟨1, _⟩ => show g.val * 1 + (w 1).val - 0 = g.val; omega
        | ⟨2, _⟩ => show k.val * 1 + (w 2).val - 0 = k.val; omega
      · intro a
        match a with
        | ⟨0, _⟩ => show lo ≤ r.val * 1 + (w 0).val ∧ r.val * 1 + (w 0).val - lo < R; rw [Nat.mul_one]; exact hn
        | ⟨1, _⟩ => show 0 ≤ g.val * 1 + (w 1).val ∧ g.val * 1 + (w 1).val - 0 < G; omega
        | ⟨2, _⟩ => show 0 ≤ k.val * 1 + (w 2).val ∧ k.val * 1 + (w 2).val - 0 < K; omega
    · rw [if_neg hn, dif_neg]
      intro hin
      have h0 := hin ⟨0, by decide⟩
      change lo ≤ r.val * 1 + (w 0).val ∧ r.val * 1 + (w 0).val - lo < R at h0
      rw [Nat.mul_one] at h0
      exact hn h0
  · rw [sum_window, ← coe_sum]
    refine Finset.sum_congr rfl fun n _ => ?_
    show (if lo ≤ r.val + n.val ∧ r.val + n.val - lo < R then (f (r.val + n.val - lo) : EReal) else 0) = _
    split
    · rfl
    · rfl

/-- The running sum from the first row. -/
theorem cumsum (lo : ℕ) (hlo : lo + 1 = R) (x : (⟨3, ![R, G, K]⟩ : Shape).Idx → EReal) (f : ℕ → ℝ) (r : Fin R) (g : Fin G) (k : Fin K)
    (hx : ∀ s : Fin R, x (ix3 s g k) = (f s.val : EReal))
    (h : (⟨3, ![R, G, K]⟩ : Shape).ReduceWindows (![R, 1, 1] : Fin 3 → ℕ) ![1, 1, 1] ![lo, 0, 0] ![0, 0, 0] ⟨3, ![R, G, K]⟩) :
    Ideal.hostReduceWindowAdd (s := ⟨3, ![R, G, K]⟩) (t := ⟨3, ![R, G, K]⟩) ![R, 1, 1] ![1, 1, 1] ![lo, 0, 0] ![0, 0, 0] h x 0 (ix3 r g k)
      = ((∑ s ∈ Finset.range (r.val + 1), f s : ℝ) : EReal) := by
  rw [windows lo 0 x f r g k hx h, Fin.sum_univ_eq_sum_range (fun n => if lo ≤ r.val + n ∧ r.val + n - lo < R then f (r.val + n - lo) else 0) R]
  have hr := r.isLt
  congr 1
  rw [show Finset.range R = Finset.range (lo - r.val + (r.val + 1)) from congrArg _ (by omega), Finset.sum_range_add, Finset.sum_eq_zero, zero_add]
  · refine Finset.sum_congr rfl fun s hs => ?_
    have := Finset.mem_range.1 hs
    rw [if_pos (by omega)]
    congr 1
    omega
  · intro s hs
    have := Finset.mem_range.1 hs
    rw [if_neg (by omega)]

/-- The running sum from the last row. -/
theorem cumsum_rev (hi : ℕ) (x : (⟨3, ![R, G, K]⟩ : Shape).Idx → EReal) (f : ℕ → ℝ) (r : Fin R) (g : Fin G) (k : Fin K)
    (hx : ∀ s : Fin R, x (ix3 s g k) = (f s.val : EReal))
    (h : (⟨3, ![R, G, K]⟩ : Shape).ReduceWindows (![R, 1, 1] : Fin 3 → ℕ) ![1, 1, 1] ![0, 0, 0] ![hi, 0, 0] ⟨3, ![R, G, K]⟩) :
    Ideal.hostReduceWindowAdd (s := ⟨3, ![R, G, K]⟩) (t := ⟨3, ![R, G, K]⟩) ![R, 1, 1] ![1, 1, 1] ![0, 0, 0] ![hi, 0, 0] h x 0 (ix3 r g k)
      = ((∑ s ∈ Finset.range (R - r.val), f (r.val + s) : ℝ) : EReal) := by
  rw [windows 0 hi x f r g k hx h, Fin.sum_univ_eq_sum_range (fun n => if 0 ≤ r.val + n ∧ r.val + n - 0 < R then f (r.val + n - 0) else 0) R]
  have hr := r.isLt
  congr 1
  rw [show Finset.range R = Finset.range (R - r.val + r.val) from congrArg _ (by omega), Finset.sum_range_add, Finset.sum_eq_zero (s := Finset.range r.val), add_zero]
  · refine Finset.sum_congr rfl fun s hs => ?_
    have := Finset.mem_range.1 hs
    rw [if_pos (by omega)]
    rfl
  · intro s hs
    have := Finset.mem_range.1 hs
    rw [if_neg (by omega)]

end Cert.Proof.MixCum

end
-- ==== Proof.MixPool.lean ====
module

public import proofs.«01_k».proof.Proof.MixPoint
public import proofs.«01_k».proof.Proof.MixCum
public import proofs.«01_k».proof.Proof.MixFrame
public import Idealize.ShloMosaic.Lib.StableHlo.ReadAt
@[expose] public section
/-! # The pooled rows, as the host computes them

The running sums of the pooling's input, group by group; their differences over windows of 2, 4, 8 and 16 rows, over the
window's number of rows, less the row itself. -/

set_option maxRecDepth 16384
noncomputable section
namespace Cert.Proof.MixPool
open Cert.MixIdeal Cert.MixIdeal.Gen Idealize.ShloMosaic Idealize.ShloMosaic.TcCoe
open Cert.Proof.Reals Cert.Proof.Cols Cert.Proof.MixPay MixReal

/-! ## Constants -/

theorem ofBits_2 : Ideal.ofBits FTy.f32 0x40000000#32 = (((2 : ℕ) : ℝ) : EReal) := by
  simp [Ideal.ofBits, Ideal.ieee, -EReal.coe_mul]; norm_num
theorem ofBits_4 : Ideal.ofBits FTy.f32 0x40800000#32 = (((4 : ℕ) : ℝ) : EReal) := by
  simp [Ideal.ofBits, Ideal.ieee, -EReal.coe_mul]; norm_num
theorem ofBits_8 : Ideal.ofBits FTy.f32 0x41000000#32 = (((8 : ℕ) : ℝ) : EReal) := by
  simp [Ideal.ofBits, Ideal.ieee, -EReal.coe_mul]; norm_num
theorem ofBits_16 : Ideal.ofBits FTy.f32 0x41800000#32 = (((16 : ℕ) : ℝ) : EReal) := by
  simp [Ideal.ofBits, Ideal.ieee, -EReal.coe_mul]; norm_num

/-- How many rows a window of `w` rows that ends at row `r` has. -/
theorem count_at (r w : ℕ) (hr : r < 4096) :
    min (1 + FloatOps.sitofp (F := Ideal) FTy.f32 (BitVec.ofNat 32 r)) ((((w : ℕ) : ℝ) : EReal)) = (((min (r + 1) w : ℕ) : ℝ) : EReal) := by
  have e : FloatOps.sitofp (F := Ideal) FTy.f32 (BitVec.ofNat 32 r) = (((r : ℝ)) : EReal) := by
    show ((((BitVec.ofNat 32 r).toInt : ℤ) : ℝ) : EReal) = _
    rw [show (BitVec.ofNat 32 r).toInt = (r : ℤ) by rw [BitVec.toInt_ofNat', Int.bmod_eq_of_le] <;> omega]
    rfl
  rw [e, ← EReal.coe_one, ← EReal.coe_add, ← EReal.coe_strictMono.monotone.map_min, Nat.cast_min, Nat.cast_add, Nat.cast_one, add_comm (1:ℝ)]

theorem pool_at (a b d : ℝ) (r w : ℕ) (hr : r < 4096) (hw : 0 < w) :
    Ideal.div ((a : EReal) - b) (min (1 + FloatOps.sitofp (F := Ideal) FTy.f32 (BitVec.ofNat 32 r)) ((((w : ℕ) : ℝ) : EReal))) - (d : EReal)
      = (((a - b) / ((min (r + 1) w : ℕ) : ℝ) - d : ℝ) : EReal) := by
  rw [count_at r w hr, ← EReal.coe_sub, div_real _ (Nat.cast_ne_zero.2 (by omega)), ← EReal.coe_sub]

theorem pool_lo (a d : ℝ) (r w : ℕ) (hr : r < 4096) (hw : 0 < w) :
    Ideal.div (a : EReal) (min (1 + FloatOps.sitofp (F := Ideal) FTy.f32 (BitVec.ofNat 32 r)) ((((w : ℕ) : ℝ) : EReal))) - (d : EReal)
      = ((a / ((min (r + 1) w : ℕ) : ℝ) - d : ℝ) : EReal) := by
  rw [count_at r w hr, div_real _ (Nat.cast_ne_zero.2 (by omega)), ← EReal.coe_sub]

/-! ## The host's operations -/

variable (U : Valuation τ sig (Elt Ideal)) (C p : ℕ → ℕ → ℕ → ℝ)

/-- A row of group `q`, pooled: the mean of the last `w` rows less the row. -/
def pool (w : ℕ) (q r k : ℕ) : ℝ := (C q r k - if r < w then 0 else C q (r - w) k) / ((min (r + 1) w : ℕ) : ℝ) - p q r k

variable (h27 : ∀ (r : Fin 4096) (q : Fin 4) (k : Fin 128), (U (Proc.tc.devRef main_v27) : S4096x4x128.Idx → EReal) (ix3 r q k) = ((C q.val r.val k.val : ℝ) : EReal))
  (h26 : ∀ (r : Fin 4096) (q : Fin 4) (k : Fin 128), (U (Proc.tc.devRef main_v26) : S4096x4x128.Idx → EReal) (ix3 r q k) = ((p q.val r.val k.val : ℝ) : EReal))
include h27 h26

theorem pooled_0 (r : Fin 4096) (k : Fin 128) :
    (StableHlo.after (hostOps0_2 (F := Ideal)) U main_v93 : S4096x512.Idx → EReal) (ix2 r ⟨k.val, by omega⟩) = ((pool C p 2 0 r.val k.val : ℝ) : EReal) := by
  have e : k.val / 128 = 0 := by omega
  have e' : k.val % 128 = k.val := by omega
  after_reads_at
  simp only [e, e', Nat.reduceLT, ↓reduceDIte]
  after_reads_at
  unfold pool
  by_cases h : r.val < 2
  · simp only [h, ↓reduceDIte, ↓reduceIte]
    after_reads_at
    simp only [h27, h26, ofBits_2]
    exact pool_lo _ _ r.val 2 r.isLt (by decide)
  · simp only [h, ↓reduceDIte, ↓reduceIte]
    after_reads_at
    simp only [h27, h26, ofBits_2]
    exact pool_at _ _ _ r.val 2 r.isLt (by decide)
theorem pooled_1 (r : Fin 4096) (k : Fin 128) :
    (StableHlo.after (hostOps0_2 (F := Ideal)) U main_v93 : S4096x512.Idx → EReal) (ix2 r ⟨128 + k.val, by omega⟩) = ((pool C p 4 1 r.val k.val : ℝ) : EReal) := by
  have e : (128 + k.val) / 128 = 1 := by omega
  have e' : (128 + k.val) % 128 = k.val := by omega
  after_reads_at
  simp only [e, e', Nat.reduceSub, Nat.reduceLT, ↓reduceDIte]
  after_reads_at
  unfold pool
  by_cases h : r.val < 4
  · simp only [h, ↓reduceDIte, ↓reduceIte]
    after_reads_at
    simp only [h27, h26, ofBits_4]
    exact pool_lo _ _ r.val 4 r.isLt (by decide)
  · simp only [h, ↓reduceDIte, ↓reduceIte]
    after_reads_at
    simp only [h27, h26, ofBits_4]
    exact pool_at _ _ _ r.val 4 r.isLt (by decide)
theorem pooled_2 (r : Fin 4096) (k : Fin 128) :
    (StableHlo.after (hostOps0_2 (F := Ideal)) U main_v93 : S4096x512.Idx → EReal) (ix2 r ⟨256 + k.val, by omega⟩) = ((pool C p 8 2 r.val k.val : ℝ) : EReal) := by
  have e : (256 + k.val) / 128 = 2 := by omega
  have e' : (256 + k.val) % 128 = k.val := by omega
  after_reads_at
  simp only [e, e', Nat.reduceSub, Nat.reduceLT, ↓reduceDIte]
  after_reads_at
  unfold pool
  by_cases h : r.val < 8
  · simp only [h, ↓reduceDIte, ↓reduceIte]
    after_reads_at
    simp only [h27, h26, ofBits_8]
    exact pool_lo _ _ r.val 8 r.isLt (by decide)
  · simp only [h, ↓reduceDIte, ↓reduceIte]
    after_reads_at
    simp only [h27, h26, ofBits_8]
    exact pool_at _ _ _ r.val 8 r.isLt (by decide)
theorem pooled_3 (r : Fin 4096) (k : Fin 128) :
    (StableHlo.after (hostOps0_2 (F := Ideal)) U main_v93 : S4096x512.Idx → EReal) (ix2 r ⟨384 + k.val, by omega⟩) = ((pool C p 16 3 r.val k.val : ℝ) : EReal) := by
  have e : (384 + k.val) / 128 = 3 := by omega
  have e' : (384 + k.val) % 128 = k.val := by omega
  after_reads_at
  simp only [e, e', Nat.reduceSub, Nat.reduceLT, ↓reduceDIte]
  after_reads_at
  unfold pool
  by_cases h : r.val < 16
  · simp only [h, ↓reduceDIte, ↓reduceIte]
    after_reads_at
    simp only [h27, h26, ofBits_16]
    exact pool_lo _ _ r.val 16 r.isLt (by decide)
  · simp only [h, ↓reduceDIte, ↓reduceIte]
    after_reads_at
    simp only [h27, h26, ofBits_16]
    exact pool_at _ _ _ r.val 16 r.isLt (by decide)

omit h27 in
/-- The running sums. -/
theorem cum_at (hp : ∀ q r k, C q r k = ∑ s ∈ Finset.range (r + 1), p q s k) (r : Fin 4096) (q : Fin 4) (k : Fin 128) :
    (StableHlo.after (hostOps0_1 (F := Ideal)) U main_v27 : S4096x4x128.Idx → EReal) (ix3 r q k) = ((C q.val r.val k.val : ℝ) : EReal) := by
  after_reads_at
  rw [hp]
  have h0 : (broadcastInDim S_ ![] bcast_S_S_ (constant (F := Ideal) S_ FTy.f32 0#32)) (Shape.Idx.first h_S_) = (0 : EReal) := by
    pointwise
  rw [Host.reduceWindowAdd, Ideal.hostReduceWindowAdd_def, h0]
  exact MixCum.cumsum 4095 rfl (U (Proc.tc.devRef main_v26)) (fun s => p q.val s k.val) r q k (fun s => h26 s q k) _
end Cert.Proof.MixPool
end
-- ==== Proof.MixHost.lean ====
module

public import proofs.«01_k».proof.Proof.MixPool
@[expose] public section
/-! # What the mixer's backward kernel is launched on

The arguments are arrays of reals. The host computes the projections, the pooled rows, and the weights in the kernel's layout. -/

set_option maxRecDepth 16384

noncomputable section

namespace Cert.Proof.MixHost

open Cert.MixIdeal Cert.MixIdeal.Gen Idealize.ShloMosaic Idealize.ShloMosaic.TcCoe Idealize.SL.Sem
open MixFrame
open Cert.Proof.Reals Cert.Proof.Cols Cert.Proof.MixPay Cert.Proof.MixPool MixReal

/-! ## The arguments -/

/-- The arguments' reals, by the elements' coordinates. -/
structure Inp where
  x : ℕ → ℕ → ℝ
  g : ℕ → ℝ
  win : ℕ → ℕ → ℝ
  cw : ℕ → ℕ → ℝ
  pw : ℕ → ℕ → ℕ → ℝ
  ps : ℕ → ℝ
  wo : ℕ → ℕ → ℝ
  ct : ℕ → ℕ → ℝ

/-- The projections of the normed rows. -/
def Inp.P (I : Inp) (r c : ℕ) : ℝ := ∑ k : Fin 1024, I.x r k.val * scale (row I.x r) * I.g k.val * I.win k.val c
/-- The pooling's input, -/
def Inp.p (I : Inp) (q r k : ℕ) : ℝ := I.P r (1536 + (q * 128 + k))
/-- its running sums, -/
def Inp.C (I : Inp) (q r k : ℕ) : ℝ := ∑ s ∈ Finset.range (r + 1), I.p q s k
/-- and the pooled rows. -/
def Inp.pl (I : Inp) (r c : ℕ) : ℝ := pool I.C I.p (2 ^ (c / 128 + 1)) (c / 128) r (c % 128)
theorem Inp.pl_eq (I : Inp) (q r k : ℕ) (hk : k < 128) : I.pl r (128 * q + k) = pool I.C I.p (2 ^ (q + 1)) q r k := by
  unfold Inp.pl
  rw [show (128 * q + k) / 128 = q by omega, show (128 * q + k) % 128 = k by omega]

/-- The layer's arrays. -/
def Inp.V (I : Inp) : D := ⟨I.ct, I.x, I.P, I.pl, I.g, I.win, I.cw, I.pw, I.ps, I.wo⟩

variable (m : (ℓ : Loc nD τ sig) → Buf (Elt Ideal) ℓ) (c : Dev nD)

abbrev argX : S4096x1024.Idx → EReal := m ((c : Thread nD τ).loc main_arg0)
abbrev argG : S1x1024.Idx → EReal := m ((c : Thread nD τ).loc main_arg1)
abbrev argWin : S1x1024x2048.Idx → EReal := m ((c : Thread nD τ).loc main_arg2)
abbrev argCw : S1x3x512.Idx → EReal := m ((c : Thread nD τ).loc main_arg3)
abbrev argPw : S1x4x128x128.Idx → EReal := m ((c : Thread nD τ).loc main_arg4)
abbrev argPs : S1x512.Idx → EReal := m ((c : Thread nD τ).loc main_arg5)
abbrev argWo : S1x1024x1024.Idx → EReal := m ((c : Thread nD τ).loc main_arg6)
abbrev argCt : S4096x1024.Idx → EReal := m ((c : Thread nD τ).loc main_arg7)

/-- The precondition makes the arguments arrays of reals. -/
structure Args (I : Inp) : Prop where
  x : argX m c = fun i => ((I.x (i 0).val (i 1).val : ℝ) : EReal)
  g : argG m c = fun i => ((I.g (i 1).val : ℝ) : EReal)
  win : argWin m c = fun i => ((I.win (i 1).val (i 2).val : ℝ) : EReal)
  cw : argCw m c = fun i => ((I.cw (i 1).val (i 2).val : ℝ) : EReal)
  pw : argPw m c = fun i => ((I.pw (i 1).val (i 2).val (i 3).val : ℝ) : EReal)
  ps : argPs m c = fun i => ((I.ps (i 1).val : ℝ) : EReal)
  wo : argWo m c = fun i => ((I.wo (i 1).val (i 2).val : ℝ) : EReal)
  ct : argCt m c = fun i => ((I.ct (i 0).val (i 1).val : ℝ) : EReal)

/-! ## The host's arrays -/

theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- What the buffers hold as the running sums are taken, -/
def U0 : Valuation τ sig (Elt Ideal) := StableHlo.after hostOps0 (fun b => m (c, b))
/-- and after them. -/
def U1 : Valuation τ sig (Elt Ideal) := StableHlo.after hostOps0_1 (U0 m c)

theorem V_eq (b : Ref sig .tc) : V m c b = StableHlo.after hostOps0_2 (U1 m c) b := by
  unfold V U1 U0
  rw [List.flatten_cons, List.flatten_cons, List.flatten_cons, List.flatten_nil, List.append_nil, after_append, after_append]

variable {m c}
variable {I : Inp} (A : Args m c I)
include A

theorem prep_v24 (r : Fin 4096) (k : Fin 2048) : (U0 m c (Proc.tc.devRef main_v24) : S4096x2048.Idx → EReal) (ix2 r k) = ((I.P r.val k.val : ℝ) : EReal) := by
  unfold U0; after_reads_at
  have hx : m (c, Proc.tc.devRef main_arg0) = fun i => ((I.x (i 0).val (i 1).val : ℝ) : EReal) := A.x
  have hg : m (c, Proc.tc.devRef main_arg1) = fun i => ((I.g (i 1).val : ℝ) : EReal) := A.g
  have hw : m (c, Proc.tc.devRef main_arg2) = fun i => ((I.win (i 1).val (i 2).val : ℝ) : EReal) := A.win
  simp only [hx, hg, hw, ← EReal.coe_mul, coe_sum, ofBits_1024, ofBits_eps, div_1024, ← EReal.coe_add]
  show ∑ x : Fin 1024, ((I.x r.val x.val : ℝ) : EReal) * Ideal.rsqrt (((∑ k, row I.x r.val k * row I.x r.val k) / 1024 + eps : ℝ) : EReal)
    * ((I.g x.val : ℝ) : EReal) * ((I.win x.val k.val : ℝ) : EReal) = _
  simp only [rsqrt_meanSq, ← EReal.coe_mul, coe_sum]
  rfl

theorem prep_v26 (r : Fin 4096) (q : Fin 4) (k : Fin 128) : (U0 m c (Proc.tc.devRef main_v26) : S4096x4x128.Idx → EReal) (ix3 r q k) = ((I.p q.val r.val k.val : ℝ) : EReal) := by
  refine Eq.trans ?_ (prep_v24 A r ⟨1536 + (q.val * 128 + k.val), by omega⟩)
  unfold U0; after_reads_at

theorem prep_v27 (r : Fin 4096) (q : Fin 4) (k : Fin 128) : (U1 m c (Proc.tc.devRef main_v27) : S4096x4x128.Idx → EReal) (ix3 r q k) = ((I.C q.val r.val k.val : ℝ) : EReal) :=
  cum_at (U0 m c) I.C I.p (prep_v26 A) (fun _ _ _ => rfl) r q k

theorem kept_v26 (r : Fin 4096) (q : Fin 4) (k : Fin 128) : (U1 m c (Proc.tc.devRef main_v26) : S4096x4x128.Idx → EReal) (ix3 r q k) = ((I.p q.val r.val k.val : ℝ) : EReal) := by
  refine Eq.trans ?_ (prep_v26 A r q k)
  unfold U1; after_reads_at

/-- The pooled rows the kernel is launched on. -/
theorem prep_v93 (r : Fin 4096) (k : Fin 512) : (V m c main_v93 : S4096x512.Idx → EReal) (ix2 r k) = ((I.pl r.val k.val : ℝ) : EReal) := by
  rw [V_eq]
  have h27 := prep_v27 A
  have h26 := kept_v26 A
  obtain ⟨q, j, rfl⟩ : ∃ (q : Fin 4) (j : Fin 128), k = ⟨128 * q.val + j.val, by omega⟩ :=
    ⟨⟨k.val / 128, by omega⟩, ⟨k.val % 128, by omega⟩, Fin.ext (Nat.div_add_mod _ _).symm⟩
  show _ = ((I.pl r.val (128 * q.val + j.val) : ℝ) : EReal)
  rw [I.pl_eq q.val r.val j.val j.isLt]
  match q with
  | ⟨0, _⟩ => exact (congrArg _ (congrArg (ix2 r) (Fin.ext (Nat.zero_add _)))).trans (pooled_0 (U1 m c) I.C I.p h27 h26 r j)
  | ⟨1, _⟩ => exact pooled_1 (U1 m c) I.C I.p h27 h26 r j
  | ⟨2, _⟩ => exact pooled_2 (U1 m c) I.C I.p h27 h26 r j
  | ⟨3, _⟩ => exact pooled_3 (U1 m c) I.C I.p h27 h26 r j

/-- The projections. -/
theorem proj_v24 (r : Fin 4096) (k : Fin 2048) : (V m c main_v24 : S4096x2048.Idx → EReal) (ix2 r k) = ((I.P r.val k.val : ℝ) : EReal) := by
  refine Eq.trans ?_ (prep_v24 A r k)
  unfold V U0; after_reads_at

/-! The weights. -/

theorem prep_v3 (b : Fin 8) (k : Fin 1024) (j : Fin 256) : (V m c main_v3 : S8x1024x256.Idx → EReal) (ix3 b k j) = ((I.win k.val (256 * b.val + j.val) : ℝ) : EReal) := by
  unfold V; after_reads_at
  have hw : m (c, Proc.tc.devRef main_arg2) = fun i => ((I.win (i 1).val (i 2).val : ℝ) : EReal) := A.win
  simp only [hw]
  show ((I.win k.val (b.val * 256 + j.val) : ℝ) : EReal) = _
  rw [mul_comm b.val]

theorem prep_v4 (s : Fin 3) (k : Fin 512) : (V m c main_v4 : S3x512.Idx → EReal) (ix2 s k) = ((I.cw s.val k.val : ℝ) : EReal) := by
  unfold V; after_reads_at
  have hw : m (c, Proc.tc.devRef main_arg3) = fun i => ((I.cw (i 1).val (i 2).val : ℝ) : EReal) := A.cw
  simp only [hw]
  rfl

theorem prep_v6 (q : Fin 4) (a b : Fin 128) : (V m c main_v6 : S4x128x128.Idx → EReal) (ix3 q a b) = ((I.pw q.val a.val b.val : ℝ) : EReal) := by
  unfold V; after_reads_at
  have hw : m (c, Proc.tc.devRef main_arg4) = fun i => ((I.pw (i 1).val (i 2).val (i 3).val : ℝ) : EReal) := A.pw
  simp only [hw]
  rfl

theorem prep_v8 (i j : Fin 1024) : (V m c main_v8 : S1024x1024.Idx → EReal) (ix2 i j) = ((I.wo i.val j.val : ℝ) : EReal) := by
  unfold V; after_reads_at
  have hw : m (c, Proc.tc.devRef main_arg6) = fun i => ((I.wo (i 1).val (i 2).val : ℝ) : EReal) := A.wo
  simp only [hw]
  rfl

end Cert.Proof.MixHost

end
-- ==== Proof.MixRef.lean ====
module

public import proofs.«01_k».proof.Proof.MixHost
public import proofs.«01_k».proof.Proof.Gen.MixRefIdeal.Run
public import proofs.«01_k».proof.Proof.Gen.MixRefIdeal.Read
@[expose] public section
/-! # The reference of the mixer's backward call, read at an element

The forward lines and their derivative, stage by stage, as functions of the arguments' reals: the same as `MixReal`'s. -/

set_option maxRecDepth 16384

noncomputable section

namespace Cert.Proof.MixRef

open Cert.MixRefIdeal Cert.MixRefIdeal.Read Idealize.ShloMosaic Idealize.ShloMosaic.TcCoe
open Cert.Proof.Reals Cert.Proof.Cols Cert.Proof.MixPool MixReal
open Cert.Proof.MixHost (Inp)
open Cert.Proof.MixPay (row cnt)

variable (I : Inp)

/-! The arguments as the programs hold them. -/
abbrev cx : FVec Ideal S4096x1024 .f32 := fun i => ((I.x (i 0).val (i 1).val : ℝ) : EReal)
abbrev cg : FVec Ideal S1x1024 .f32 := fun i => ((I.g (i 1).val : ℝ) : EReal)
abbrev cwin : FVec Ideal S1x1024x2048 .f32 := fun i => ((I.win (i 1).val (i 2).val : ℝ) : EReal)
abbrev ccw : FVec Ideal S1x3x512 .f32 := fun i => ((I.cw (i 1).val (i 2).val : ℝ) : EReal)
abbrev cpw : FVec Ideal S1x4x128x128 .f32 := fun i => ((I.pw (i 1).val (i 2).val (i 3).val : ℝ) : EReal)
abbrev cps : FVec Ideal S1x512 .f32 := fun i => ((I.ps (i 1).val : ℝ) : EReal)
abbrev cwo : FVec Ideal S1x1024x1024 .f32 := fun i => ((I.wo (i 1).val (i 2).val : ℝ) : EReal)
abbrev cct : FVec Ideal S4096x1024 .f32 := fun i => ((I.ct (i 0).val (i 1).val : ℝ) : EReal)

/-! ## Forward -/

theorem val_scale (r : Fin 4096) : val_main_v8 (F := Ideal) (cx I) (ix2 r 0) = ((scale (row I.x r.val) : ℝ) : EReal) := by
  pointwise [val_main_v8, val_main_v7, val_main_v5, val_main_v3, val_main_v2, val_main_v1, val_main_cst, val_main_v4, val_main_cst_0, val_main_v6, val_main_cst_1]
  simp only [← EReal.coe_mul, coe_sum, ← EReal.coe_add, ofBits_1024, ofBits_eps, div_1024]
  exact rsqrt_meanSq (row I.x r.val)

theorem val_xn (r : Fin 4096) (k : Fin 1024) : val_main_v13 (F := Ideal) (cx I) (ix2 r k) = ((I.x r.val k.val * scale (row I.x r.val) : ℝ) : EReal) := by
  pointwise [val_main_v13, val_main_v12]
  simp only [val_scale, ← EReal.coe_mul, coe_sum, ← EReal.coe_add]
  rfl

theorem val_P (r : Fin 4096) (k : Fin 2048) : val_main_v18 (F := Ideal) (cx I) (cg I) (cwin I) (ix2 r k) = ((I.V.P r.val k.val : ℝ) : EReal) := by
  pointwise [val_main_v18, val_main_v16, val_main_v15, val_main_v14, val_main_v0, val_main_v17]
  simp only [val_xn, ← EReal.coe_mul, coe_sum, ← EReal.coe_add]
  rfl

theorem z_at (V : D) (n r k : ℕ) : V.z 14 (n + r) k = V.z (14 + n) r k := by
  unfold D.z; rw [show n + r + 14 = r + (14 + n) by omega]

theorem val_z (n : Fin 4098) (k : Fin 512) : val_main_v26 (F := Ideal) (cx I) (cg I) (cwin I) (ix2 n k) = ((I.V.z 14 n.val k.val : ℝ) : EReal) := by
  pointwise [val_main_v26, val_main_v25, val_main_cst_3, val_main_v23, val_main_v21, val_main_v19]
  unfold D.z D.pb
  by_cases h : n.val < 2
  · simp only [h, ↓reduceDIte]
    rw [if_neg (by omega), zero_mul, EReal.coe_zero]
  · simp only [h, ↓reduceDIte, val_P, ← EReal.coe_mul, coe_sum, ← EReal.coe_add]
    rw [if_pos (by omega), if_pos (by omega), show n.val + 14 - 16 = n.val - 2 by omega, mul_comm]

theorem val_conv (r : Fin 4096) (k : Fin 512) : val_main_v49 (F := Ideal) (cx I) (cg I) (cwin I) (ccw I) (ix2 r k) = ((I.V.conv r.val k.val : ℝ) : EReal) := by
  pointwise [val_main_v49, val_main_v42, val_main_v35, val_main_v34, val_main_cst_5, val_main_v33, val_main_v32, val_main_v31, val_main_v29, val_main_v28, val_main_v24, val_main_v30, val_main_v41, val_main_v40, val_main_v39, val_main_v37, val_main_v36, val_main_v38, val_main_v48, val_main_v47, val_main_v46, val_main_v44, val_main_v43, val_main_v45]
  simp only [val_z, ← EReal.coe_mul, coe_sum, ← EReal.coe_add, zero_add]
  rw [z_at, z_at, D.conv]
  show ((I.cw 0 k.val * I.V.z 14 r.val k.val + I.cw 1 k.val * I.V.z 15 r.val k.val + I.cw 2 k.val * I.V.z 16 r.val k.val : ℝ) : EReal)
    = ((I.cw 2 k.val * I.V.z 16 r.val k.val + I.cw 1 k.val * I.V.z 15 r.val k.val + I.cw 0 k.val * I.V.z 14 r.val k.val : ℝ) : EReal)
  rw [EReal.coe_eq_coe_iff]
  ring

theorem val_p (r : Fin 4096) (q : Fin 4) (k : Fin 128) : val_main_v51 (F := Ideal) (cx I) (cg I) (cwin I) (ix3 r q k) = ((I.p q.val r.val k.val : ℝ) : EReal) := by
  pointwise [val_main_v51, val_main_v22]
  simp only [val_P]
  rfl

theorem val_C (r : Fin 4096) (q : Fin 4) (k : Fin 128) : val_main_v52 (F := Ideal) (cx I) (cg I) (cwin I) (ix3 r q k) = ((I.C q.val r.val k.val : ℝ) : EReal) := by
  have h0 : ∀ j, val_main_call0_call0_v0 (F := Ideal) j = (0 : EReal) := fun j => by
    pointwise [val_main_call0_call0_v0, val_main_call0_call0_cst]
  unfold val_main_v52
  rw [Host.reduceWindowAdd, Ideal.hostReduceWindowAdd_def, h0]
  exact MixCum.cumsum 4095 rfl _ (fun s => I.p q.val s k.val) r q k (fun s => val_p I s q k) _

theorem val_pool0 (r : Fin 4096) (k : Fin 128) : val_main_v70 (F := Ideal) (cx I) (cg I) (cwin I) (ix2 r k) = ((MixPool.pool I.C I.p 2 0 r.val k.val : ℝ) : EReal) := by
  pointwise [val_main_v70, val_main_v67, val_main_v65, val_main_v57, val_main_v56, val_main_v60, val_main_v58, val_main_cst_7, val_main_v59, val_main_v66, val_main_v64, val_main_v63, val_main_v55, val_main_v54, val_main_cst_6, val_main_v53, val_main_v62, val_main_cst_9, val_main_v69, val_main_v68]
  unfold MixPool.pool
  by_cases h : r.val < 2
  · simp only [h, ↓reduceDIte, ↓reduceIte, val_C, val_p, ofBits_2, sub_zero]
    exact pool_lo _ _ r.val 2 r.isLt (by decide)
  · simp only [h, ↓reduceDIte, ↓reduceIte, val_C, val_p, ofBits_2]
    exact pool_at _ _ _ r.val 2 r.isLt (by decide)

theorem val_pool1 (r : Fin 4096) (k : Fin 128) : val_main_v85 (F := Ideal) (cx I) (cg I) (cwin I) (ix2 r k) = ((MixPool.pool I.C I.p 4 1 r.val k.val : ℝ) : EReal) := by
  pointwise [val_main_v85, val_main_v82, val_main_v80, val_main_v72, val_main_v71, val_main_v75, val_main_v73, val_main_cst_10, val_main_v74, val_main_v81, val_main_v79, val_main_v78, val_main_v55, val_main_v54, val_main_cst_6, val_main_v53, val_main_v77, val_main_cst_12, val_main_v84, val_main_v83]
  unfold MixPool.pool
  by_cases h : r.val < 4
  · simp only [h, ↓reduceDIte, ↓reduceIte, val_C, val_p, ofBits_4, sub_zero]
    exact pool_lo _ _ r.val 4 r.isLt (by decide)
  · simp only [h, ↓reduceDIte, ↓reduceIte, val_C, val_p, ofBits_4]
    exact pool_at _ _ _ r.val 4 r.isLt (by decide)

theorem val_pool2 (r : Fin 4096) (k : Fin 128) : val_main_v100 (F := Ideal) (cx I) (cg I) (cwin I) (ix2 r k) = ((MixPool.pool I.C I.p 8 2 r.val k.val : ℝ) : EReal) := by
  pointwise [val_main_v100, val_main_v97, val_main_v95, val_main_v87, val_main_v86, val_main_v90, val_main_v88, val_main_cst_13, val_main_v89, val_main_v96, val_main_v94, val_main_v93, val_main_v55, val_main_v54, val_main_cst_6, val_main_v53, val_main_v92, val_main_cst_15, val_main_v99, val_main_v98]
  unfold MixPool.pool
  by_cases h : r.val < 8
  · simp only [h, ↓reduceDIte, ↓reduceIte, val_C, val_p, ofBits_8, sub_zero]
    exact pool_lo _ _ r.val 8 r.isLt (by decide)
  · simp only [h, ↓reduceDIte, ↓reduceIte, val_C, val_p, ofBits_8]
    exact pool_at _ _ _ r.val 8 r.isLt (by decide)

theorem val_pool3 (r : Fin 4096) (k : Fin 128) : val_main_v115 (F := Ideal) (cx I) (cg I) (cwin I) (ix2 r k) = ((MixPool.pool I.C I.p 16 3 r.val k.val : ℝ) : EReal) := by
  pointwise [val_main_v115, val_main_v112, val_main_v110, val_main_v102, val_main_v101, val_main_v105, val_main_v103, val_main_cst_16, val_main_v104, val_main_v111, val_main_v109, val_main_v108, val_main_v55, val_main_v54, val_main_cst_6, val_main_v53, val_main_v107, val_main_cst_18, val_main_v114, val_main_v113]
  unfold MixPool.pool
  by_cases h : r.val < 16
  · simp only [h, ↓reduceDIte, ↓reduceIte, val_C, val_p, ofBits_16, sub_zero]
    exact pool_lo _ _ r.val 16 r.isLt (by decide)
  · simp only [h, ↓reduceDIte, ↓reduceIte, val_C, val_p, ofBits_16]
    exact pool_at _ _ _ r.val 16 r.isLt (by decide)

theorem val_pl (r : Fin 4096) (q : Fin 4) (k : Fin 128) : val_main_v120 (F := Ideal) (cx I) (cg I) (cwin I) (ix3 r q k) = ((I.V.pl r.val (128 * q.val + k.val) : ℝ) : EReal) := by
  show _ = ((I.pl r.val (128 * q.val + k.val) : ℝ) : EReal)
  rw [I.pl_eq q.val r.val k.val k.isLt]
  match q with
  | 0 =>
    refine Eq.trans ?_ (val_pool0 I r k)
    pointwise [val_main_v120, val_main_v116, val_main_v117, val_main_v118, val_main_v119]
  | 1 =>
    refine Eq.trans ?_ (val_pool1 I r k)
    pointwise [val_main_v120, val_main_v116, val_main_v117, val_main_v118, val_main_v119]
  | 2 =>
    refine Eq.trans ?_ (val_pool2 I r k)
    pointwise [val_main_v120, val_main_v116, val_main_v117, val_main_v118, val_main_v119]
  | 3 =>
    refine Eq.trans ?_ (val_pool3 I r k)
    pointwise [val_main_v120, val_main_v116, val_main_v117, val_main_v118, val_main_v119]

theorem val_dcat (r : Fin 4096) (k : Fin 1024) : val_main_v136 (F := Ideal) (cwo I) (cct I) (ix2 r k) = ((I.V.dcat r.val k.val : ℝ) : EReal) := by
  pointwise [val_main_v136, val_main_v133, val_main_v130]
  simp only [← EReal.coe_mul, coe_sum, ← EReal.coe_add]
  rfl

theorem val_lin (r : Fin 4096) (k : Fin 512) : val_main_v124 (F := Ideal) (cx I) (cg I) (cwin I) (cpw I) (ix2 r k) = ((I.V.lin (k.val / 128) r.val (k.val % 128) : ℝ) : EReal) := by
  pointwise [val_main_v124, val_main_v123, val_main_v122, val_main_v121]
  simp only [val_pl, ← EReal.coe_mul, coe_sum, ← EReal.coe_add]
  rw [EReal.coe_eq_coe_iff]
  exact Finset.sum_congr rfl fun j _ => mul_comm _ _

theorem val_cat (r : Fin 4096) (c : Fin 1024) : val_main_v129 (F := Ideal) (cx I) (cg I) (cwin I) (ccw I) (cpw I) (cps I) (ix2 r c) = ((I.V.cat r.val c.val : ℝ) : EReal) := by
  pointwise [val_main_v129, val_main_v50, val_main_v20, val_main_v128, val_main_v127, val_main_v126, val_main_v125]
  unfold D.cat
  by_cases h : c.val < 512
  · simp only [h, ↓reduceDIte, ↓reduceIte, val_P, val_conv, ← EReal.coe_mul, coe_sum, ← EReal.coe_add]
  · simp only [h, ↓reduceDIte, ↓reduceIte, val_lin, ← EReal.coe_mul, coe_sum, ← EReal.coe_add]
    rfl

/-! ## Backward -/

theorem val_dwo (i k : Fin 1024) : val_main_v289 (F := Ideal) (cx I) (cg I) (cwin I) (ccw I) (cpw I) (cps I) (cct I) (ix2 i k) = ((D.S (I.V.cDwo i.val k.val) 8 : ℝ) : EReal) := by
  pointwise [val_main_v289, val_main_v288, val_main_v137, val_main_v135, val_main_v134, val_main_v133]
  simp only [val_cat, ← EReal.coe_mul, coe_sum, ← EReal.coe_add]
  rw [D.S_eight, EReal.coe_eq_coe_iff]
  exact Finset.sum_congr rfl fun r _ => mul_comm _ _

theorem val_dps (k : Fin 512) : val_main_v146 (F := Ideal) (cx I) (cg I) (cwin I) (cpw I) (cwo I) (cct I) (ix2 0 k) = ((D.S (I.V.cDps (k.val / 128) (k.val % 128)) 8 : ℝ) : EReal) := by
  pointwise [val_main_v146, val_main_v145, val_main_v142, val_main_v141, val_main_v140, val_main_v139, val_main_cst_19, val_main_cst_20]
  simp only [val_lin, val_dcat, Fin.sum_univ_one, ← EReal.coe_mul, coe_sum, ← EReal.coe_add, zero_add]
  rw [D.S_eight, EReal.coe_eq_coe_iff]
  refine Finset.sum_congr rfl fun r _ => ?_
  unfold D.cDps
  rw [Nat.add_assoc, Nat.div_add_mod]
  exact mul_comm _ _

theorem val_dlin (r : Fin 4096) (k : Fin 512) : val_main_v144 (F := Ideal) (cps I) (cwo I) (cct I) (ix2 r k) = ((I.V.dcat r.val (512 + k.val) * I.ps k.val : ℝ) : EReal) := by
  pointwise [val_main_v144, val_main_v139, val_main_v143, val_main_v126, val_main_v125]
  simp only [val_dcat, ← EReal.coe_mul, coe_sum, ← EReal.coe_add]
  rfl

theorem val_dpool (r : Fin 4096) (q : Fin 4) (k : Fin 128) : val_main_v150 (F := Ideal) (cpw I) (cps I) (cwo I) (cct I) (ix3 r q k) = ((I.V.dpool q.val r.val k.val : ℝ) : EReal) := by
  pointwise [val_main_v150, val_main_v149, val_main_v148, val_main_v147, val_main_v121]
  simp only [val_dlin, ← EReal.coe_mul, coe_sum, ← EReal.coe_add]
  rw [EReal.coe_eq_coe_iff]
  refine Finset.sum_congr rfl fun j _ => ?_
  rw [Nat.add_assoc, mul_comm 128 q.val]
  rfl

theorem val_dpw (q : Fin 4) (a b : Fin 128) : val_main_v291 (F := Ideal) (cx I) (cg I) (cwin I) (cps I) (cwo I) (cct I) (ix3 q a b) = ((D.S (I.V.cDpw q.val a.val b.val) 8 : ℝ) : EReal) := by
  pointwise [val_main_v291, val_main_v153, val_main_v152, val_main_v151, val_main_v148, val_main_v147]
  simp only [val_dlin, val_pl, ← EReal.coe_mul, coe_sum, ← EReal.coe_add]
  rw [D.S_eight, EReal.coe_eq_coe_iff]
  refine Finset.sum_congr rfl fun r _ => ?_
  unfold D.cDpw
  rw [Nat.add_assoc, mul_comm 128 q.val]
  exact mul_comm _ _

/-- A row's share of the windows it is in, less that of the row `w` later. -/
theorem u_hi (V : D) (q r k w : ℕ) (hw : w = 2 ^ (q + 1)) (hk : k < 128) (h : w + r < 4096) :
    Ideal.div ((V.dpool q r k : ℝ) : EReal) (min (1 + FloatOps.sitofp (F := Ideal) FTy.f32 (BitVec.ofNat 32 r)) (((w : ℕ) : ℝ) : EReal))
      + -Ideal.div ((V.dpool q (w + r) k : ℝ) : EReal) (min (1 + FloatOps.sitofp (F := Ideal) FTy.f32 (BitVec.ofNat 32 (w + r))) (((w : ℕ) : ℝ) : EReal))
      = ((V.fut r (512 + 128 * q + k) - V.fut (w + r) (512 + 128 * q + k) : ℝ) : EReal) := by
  have hp : 0 < w := hw ▸ Nat.two_pow_pos _
  rw [count_at r w (by omega), count_at (w + r) w h, div_real _ (Nat.cast_ne_zero.2 (by omega)), div_real _ (Nat.cast_ne_zero.2 (by omega)),
    ← EReal.coe_neg, ← EReal.coe_add, V.fut_pool q r k (by omega) hk, V.fut_pool q (w + r) k h hk, ← hw, cnt, cnt, EReal.coe_eq_coe_iff]
  ring
theorem u_lo (V : D) (q r k w : ℕ) (hw : w = 2 ^ (q + 1)) (hk : k < 128) (hr : r < 4096) (h : 4096 ≤ w + r) :
    Ideal.div ((V.dpool q r k : ℝ) : EReal) (min (1 + FloatOps.sitofp (F := Ideal) FTy.f32 (BitVec.ofNat 32 r)) (((w : ℕ) : ℝ) : EReal))
      = ((V.fut r (512 + 128 * q + k) - V.fut (w + r) (512 + 128 * q + k) : ℝ) : EReal) := by
  have hp : 0 < w := hw ▸ Nat.two_pow_pos _
  rw [count_at r w hr, div_real _ (Nat.cast_ne_zero.2 (by omega)), V.fut_pool q r k hr hk, V.fut_end _ _ h, ← hw, cnt, EReal.coe_eq_coe_iff]
  ring

theorem val_u0 (r : Fin 4096) (k : Fin 128) : val_main_v212 (F := Ideal) (cpw I) (cps I) (cwo I) (cct I) (ix2 r k) = ((I.V.fut r.val (512 + 128 * 0 + k.val) - I.V.fut (2 + r.val) (512 + 128 * 0 + k.val) : ℝ) : EReal) := by
  pointwise [val_main_v212, val_main_v207, val_main_v155, val_main_v154, val_main_v206, val_main_v64, val_main_v63, val_main_v55, val_main_v54, val_main_cst_6, val_main_v53, val_main_v62, val_main_cst_9, val_main_v211, val_main_v210, val_main_v208, val_main_cst_31]
  simp only [val_dpool, ofBits_2]
  by_cases h : r.val < 4094
  · simp only [h, ↓reduceDIte]
    exact u_hi I.V 0 r.val k.val 2 rfl k.isLt (by omega)
  · simp only [h, ↓reduceDIte, add_zero]
    exact u_lo I.V 0 r.val k.val 2 rfl k.isLt r.isLt (by omega)

theorem val_u1 (r : Fin 4096) (k : Fin 128) : val_main_v198 (F := Ideal) (cpw I) (cps I) (cwo I) (cct I) (ix2 r k) = ((I.V.fut r.val (512 + 128 * 1 + k.val) - I.V.fut (4 + r.val) (512 + 128 * 1 + k.val) : ℝ) : EReal) := by
  pointwise [val_main_v198, val_main_v193, val_main_v157, val_main_v156, val_main_v192, val_main_v79, val_main_v78, val_main_v55, val_main_v54, val_main_cst_6, val_main_v53, val_main_v77, val_main_cst_12, val_main_v197, val_main_v196, val_main_v194, val_main_cst_28]
  simp only [val_dpool, ofBits_4]
  by_cases h : r.val < 4092
  · simp only [h, ↓reduceDIte]
    exact u_hi I.V 1 r.val k.val 4 rfl k.isLt (by omega)
  · simp only [h, ↓reduceDIte, add_zero]
    exact u_lo I.V 1 r.val k.val 4 rfl k.isLt r.isLt (by omega)

theorem val_u2 (r : Fin 4096) (k : Fin 128) : val_main_v184 (F := Ideal) (cpw I) (cps I) (cwo I) (cct I) (ix2 r k) = ((I.V.fut r.val (512 + 128 * 2 + k.val) - I.V.fut (8 + r.val) (512 + 128 * 2 + k.val) : ℝ) : EReal) := by
  pointwise [val_main_v184, val_main_v179, val_main_v159, val_main_v158, val_main_v178, val_main_v94, val_main_v93, val_main_v55, val_main_v54, val_main_cst_6, val_main_v53, val_main_v92, val_main_cst_15, val_main_v183, val_main_v182, val_main_v180, val_main_cst_25]
  simp only [val_dpool, ofBits_8]
  by_cases h : r.val < 4088
  · simp only [h, ↓reduceDIte]
    exact u_hi I.V 2 r.val k.val 8 rfl k.isLt (by omega)
  · simp only [h, ↓reduceDIte, add_zero]
    exact u_lo I.V 2 r.val k.val 8 rfl k.isLt r.isLt (by omega)

theorem val_u3 (r : Fin 4096) (k : Fin 128) : val_main_v171 (F := Ideal) (cpw I) (cps I) (cwo I) (cct I) (ix2 r k) = ((I.V.fut r.val (512 + 128 * 3 + k.val) - I.V.fut (16 + r.val) (512 + 128 * 3 + k.val) : ℝ) : EReal) := by
  pointwise [val_main_v171, val_main_v166, val_main_v161, val_main_v160, val_main_v165, val_main_v109, val_main_v108, val_main_v55, val_main_v54, val_main_cst_6, val_main_v53, val_main_v107, val_main_cst_18, val_main_v170, val_main_v169, val_main_v167, val_main_cst_22]
  simp only [val_dpool, ofBits_16]
  by_cases h : r.val < 4080
  · simp only [h, ↓reduceDIte]
    exact u_hi I.V 3 r.val k.val 16 rfl k.isLt (by omega)
  · simp only [h, ↓reduceDIte, add_zero]
    exact u_lo I.V 3 r.val k.val 16 rfl k.isLt r.isLt (by omega)

theorem val_u (r : Fin 4096) (q : Fin 4) (k : Fin 128) : val_main_v215 (F := Ideal) (cpw I) (cps I) (cwo I) (cct I) (ix3 r q k) = ((I.V.fut r.val (512 + 128 * q.val + k.val) - I.V.fut (2 ^ (q.val + 1) + r.val) (512 + 128 * q.val + k.val) : ℝ) : EReal) := by
  pointwise [val_main_v215, val_main_v201, val_main_v187, val_main_v173, val_main_v172, val_main_cst_23, val_main_v186, val_main_v185, val_main_cst_26, val_main_v200, val_main_v199, val_main_cst_29, val_main_v214, val_main_v213, val_main_cst_32]
  simp only [val_u0, val_u1, val_u2, val_u3]
  match q with
  | 0 => simp (decide := true) only [↓reduceDIte, zero_add, add_zero]; rfl
  | 1 => simp (decide := true) only [↓reduceDIte, zero_add, add_zero]; rfl
  | 2 => simp (decide := true) only [↓reduceDIte, zero_add, add_zero]; rfl
  | 3 => simp (decide := true) only [↓reduceDIte, zero_add, add_zero]; rfl

theorem neg_at {s : Shape} (y : FVec Ideal s .f32) (i : s.Idx) {a : ℝ} (h : y i = ((a : ℝ) : EReal)) : Host.negf y i = ((-a : ℝ) : EReal) := by
  pointwise []
  rw [h, EReal.coe_neg]

theorem val_g0 (r : Fin 4096) (k : Fin 128) : val_main_v155 (F := Ideal) (cpw I) (cps I) (cwo I) (cct I) (ix2 r k) = ((I.V.dpool 0 r.val k.val : ℝ) : EReal) := by
  pointwise [val_main_v155, val_main_v154]
  simp only [val_dpool]
  rfl

theorem val_m0 (r : Fin 4096) (k : Fin 128) : val_main_v202 (F := Ideal) (cpw I) (cps I) (cwo I) (cct I) (ix2 r k) = ((-I.V.dpool 0 r.val k.val : ℝ) : EReal) :=
  neg_at _ _ (val_g0 I r k)

theorem val_g1 (r : Fin 4096) (k : Fin 128) : val_main_v157 (F := Ideal) (cpw I) (cps I) (cwo I) (cct I) (ix2 r k) = ((I.V.dpool 1 r.val k.val : ℝ) : EReal) := by
  pointwise [val_main_v157, val_main_v156]
  simp only [val_dpool]
  rfl

theorem val_m1 (r : Fin 4096) (k : Fin 128) : val_main_v188 (F := Ideal) (cpw I) (cps I) (cwo I) (cct I) (ix2 r k) = ((-I.V.dpool 1 r.val k.val : ℝ) : EReal) :=
  neg_at _ _ (val_g1 I r k)

theorem val_g2 (r : Fin 4096) (k : Fin 128) : val_main_v159 (F := Ideal) (cpw I) (cps I) (cwo I) (cct I) (ix2 r k) = ((I.V.dpool 2 r.val k.val : ℝ) : EReal) := by
  pointwise [val_main_v159, val_main_v158]
  simp only [val_dpool]
  rfl

theorem val_m2 (r : Fin 4096) (k : Fin 128) : val_main_v174 (F := Ideal) (cpw I) (cps I) (cwo I) (cct I) (ix2 r k) = ((-I.V.dpool 2 r.val k.val : ℝ) : EReal) :=
  neg_at _ _ (val_g2 I r k)

theorem val_g3 (r : Fin 4096) (k : Fin 128) : val_main_v161 (F := Ideal) (cpw I) (cps I) (cwo I) (cct I) (ix2 r k) = ((I.V.dpool 3 r.val k.val : ℝ) : EReal) := by
  pointwise [val_main_v161, val_main_v160]
  simp only [val_dpool]
  rfl

theorem val_m3 (r : Fin 4096) (k : Fin 128) : val_main_v162 (F := Ideal) (cpw I) (cps I) (cwo I) (cct I) (ix2 r k) = ((-I.V.dpool 3 r.val k.val : ℝ) : EReal) :=
  neg_at _ _ (val_g3 I r k)

theorem val_m (r : Fin 4096) (q : Fin 4) (k : Fin 128) : val_main_v205 (F := Ideal) (cpw I) (cps I) (cwo I) (cct I) (ix3 r q k) = ((-I.V.dpool q.val r.val k.val : ℝ) : EReal) := by
  pointwise [val_main_v205, val_main_v191, val_main_v177, val_main_v164, val_main_v163, val_main_cst_21, val_main_v176, val_main_v175, val_main_cst_24, val_main_v190, val_main_v189, val_main_cst_27, val_main_v204, val_main_v203, val_main_cst_30]
  simp only [val_m0, val_m1, val_m2, val_m3]
  match q with
  | 0 => simp (decide := true) only [↓reduceDIte, zero_add, add_zero]; rfl
  | 1 => simp (decide := true) only [↓reduceDIte, zero_add, add_zero]; rfl
  | 2 => simp (decide := true) only [↓reduceDIte, zero_add, add_zero]; rfl
  | 3 => simp (decide := true) only [↓reduceDIte, zero_add, add_zero]; rfl

/-- The later differences telescope to the window's rows. -/
theorem tele (f : ℕ → ℝ) (w n r : ℕ) (h : ∀ s, r + n ≤ s → f s = 0) :
    ∑ s ∈ Finset.range n, (f (r + s) - f (w + (r + s))) = ∑ j ∈ Finset.range w, f (r + j) := by
  have e1 := Finset.sum_range_add (fun s => f (r + s)) n w
  have e2 := Finset.sum_range_add (fun s => f (r + s)) w n
  rw [Nat.add_comm w n, e1, Finset.sum_eq_zero (s := Finset.range w) (f := fun x => f (r + (n + x))) fun s _ => h _ (by omega), add_zero] at e2
  rw [Finset.sum_sub_distrib, e2]
  simp only [Nat.add_left_comm w r]
  ring

theorem val_W (r : Fin 4096) (q : Fin 4) (k : Fin 128) : val_main_v216 (F := Ideal) (cpw I) (cps I) (cwo I) (cct I) (ix3 r q k) = ((I.V.W (2 ^ (q.val + 1)) r.val (512 + 128 * q.val + k.val) : ℝ) : EReal) := by
  have h0 : ∀ j, val_main_call1_call0_v0 (F := Ideal) j = (0 : EReal) := fun j => by
    pointwise [val_main_call1_call0_v0, val_main_call1_call0_cst]
  unfold val_main_v216
  rw [Host.reduceWindowAdd, Ideal.hostReduceWindowAdd_def, h0]
  refine (MixCum.cumsum_rev 4095 _ (fun s => I.V.fut s (512 + 128 * q.val + k.val) - I.V.fut (2 ^ (q.val + 1) + s) (512 + 128 * q.val + k.val)) r q k (fun s => val_u I s q k) _).trans ?_
  rw [tele (fun s => I.V.fut s (512 + 128 * q.val + k.val)) _ _ _ fun s hs => I.V.fut_end _ _ (by omega)]
  rfl

theorem val_dp (r : Fin 4096) (c : Fin 512) : val_main_v218 (F := Ideal) (cpw I) (cps I) (cwo I) (cct I) (ix2 r c) = ((I.V.dproj r.val (1536 + c.val) : ℝ) : EReal) := by
  pointwise [val_main_v218, val_main_v217]
  simp only [val_m, val_W, ← EReal.coe_mul, coe_sum, ← EReal.coe_add]
  rw [show 1536 + c.val = 1536 + 128 * (c.val / 128) + c.val % 128 by omega, I.V.dproj_p _ _ _ (Nat.mod_lt _ (by decide)), EReal.coe_eq_coe_iff]
  ring

theorem val_dconv (r : Fin 4096) (k : Fin 512) : val_main_v219 (F := Ideal) (cx I) (cg I) (cwin I) (cwo I) (cct I) (ix2 r k) = ((I.V.dconv r.val k.val : ℝ) : EReal) := by
  pointwise [val_main_v219, val_main_v20, val_main_v138]
  simp only [val_P, val_dcat, ← EReal.coe_mul, coe_sum, ← EReal.coe_add]
  rw [mul_comm]
  rfl

theorem val_db (r : Fin 4096) (k : Fin 512) : val_main_v220 (F := Ideal) (cx I) (cg I) (cwin I) (ccw I) (cwo I) (cct I) (ix2 r k) = ((I.V.dproj r.val (512 + k.val) : ℝ) : EReal) := by
  pointwise [val_main_v220, val_main_v138]
  simp only [val_conv, val_dcat, ← EReal.coe_mul, coe_sum, ← EReal.coe_add]
  rw [I.V.dproj_b _ _ k.isLt]

/-- The rows past the end of the sequence count as rows of zeros. -/
theorem fut_if (V : D) (a : ℝ) (n : ℕ) {k : ℕ} (hk : k < 512) :
    (if _h : n < 4096 then ((a * V.dconv n k : ℝ) : EReal) else 0) = ((a * V.fut n k : ℝ) : EReal) := by
  by_cases h : n < 4096
  · rw [dif_pos h, V.fut_conv n k h hk]
  · rw [dif_neg h, V.fut_end n k (by omega), mul_zero, EReal.coe_zero]
theorem fut_if' (V : D) (a : ℝ) (n : ℕ) {k : ℕ} (hk : k < 512) :
    (if _h : 1 ≤ 2 + n ∧ 2 + n - 1 < 4096 then ((a * V.dconv (2 + n - 1) k : ℝ) : EReal) else 0) = ((a * V.fut (n + 1) k : ℝ) : EReal) := by
  rw [← fut_if V a (n + 1) hk, show 2 + n - 1 = n + 1 by omega]
  by_cases h : n + 1 < 4096
  · rw [dif_pos h, dif_pos ⟨by omega, h⟩]
  · rw [dif_neg h, dif_neg fun e => h e.2]

theorem val_dz (r : Fin 4096) (k : Fin 512) : val_main_v253 (F := Ideal) (cx I) (cg I) (cwin I) (ccw I) (cwo I) (cct I) (ix2 r k) = ((I.V.dz r.val k.val : ℝ) : EReal) := by
  pointwise [val_main_v253, val_main_v248, val_main_v237, val_main_v227, val_main_v222, val_main_v221, val_main_v46, val_main_v44, val_main_v43, val_main_v24, val_main_cst_35, val_main_v236, val_main_v231, val_main_v230, val_main_v39, val_main_v37, val_main_v36, val_main_cst_39, val_main_v247, val_main_v242, val_main_v241, val_main_v31, val_main_v29, val_main_v28, val_main_cst_43]
  simp only [val_dconv, ← EReal.coe_mul, coe_sum, ← EReal.coe_add, fut_if I.V _ _ k.isLt, fut_if' I.V _ _ k.isLt]
  rw [← I.V.fut_conv _ _ r.isLt k.isLt, Nat.add_comm 2 r.val]
  rfl

theorem val_dcw (s : Fin 3) (k : Fin 512) : val_main_v290 (F := Ideal) (cx I) (cg I) (cwin I) (cwo I) (cct I) (ix2 s k) = ((D.S (I.V.cDcw s.val k.val) 8 : ℝ) : EReal) := by
  pointwise [val_main_v290, val_main_v254, val_main_v251, val_main_v240, val_main_v229, val_main_v228, val_main_v226, val_main_v225, val_main_v224, val_main_v223, val_main_v45, val_main_cst_33, val_main_cst_34, val_main_cst_36, val_main_v239, val_main_v238, val_main_v235, val_main_v234, val_main_v233, val_main_v232, val_main_v38, val_main_cst_37, val_main_cst_38, val_main_cst_40, val_main_v250, val_main_v249, val_main_v246, val_main_v245, val_main_v244, val_main_v243, val_main_v30, val_main_cst_41, val_main_cst_42, val_main_cst_44]
  simp only [val_dconv, val_z, z_at, ← EReal.coe_mul, coe_sum, ← EReal.coe_add, zero_add, Fin.sum_univ_one]
  rw [D.S_eight]
  match s with
  | 0 => simp (decide := true) only [↓reduceDIte, zero_add, add_zero]; rfl
  | 1 => simp (decide := true) only [↓reduceDIte, zero_add, add_zero]; rfl
  | 2 => simp (decide := true) only [↓reduceDIte, zero_add, add_zero]; rfl

theorem val_dproj (r : Fin 4096) (c : Fin 2048) : val_main_v263 (F := Ideal) (cx I) (cg I) (cwin I) (ccw I) (cpw I) (cps I) (cwo I) (cct I) (ix2 r c) = ((I.V.dproj r.val c.val : ℝ) : EReal) := by
  pointwise [val_main_v263, val_main_v261, val_main_v259, val_main_v257, val_main_cst_45, val_main_v258, val_main_v256, val_main_v19, val_main_cst_46, val_main_v260, val_main_cst_47, val_main_v262, val_main_v255, val_main_v21, val_main_cst_48]
  have hc := c.isLt
  rcases (show c.val < 512 ∨ 512 ≤ c.val ∧ c.val < 1024 ∨ 1024 ≤ c.val ∧ c.val < 1536 ∨ 1536 ≤ c.val by omega) with h | h | h | h
  · rw [dif_neg (show ¬(1536 ≤ c.val ∧ c.val - 1536 < 512) by omega), dif_neg (show ¬(1024 ≤ c.val ∧ c.val - 1024 < 512) by omega), dif_neg (show ¬(512 ≤ c.val ∧ c.val - 512 < 512) by omega), dif_pos (show c.val < 512 by omega)]
    simp only [val_dz, val_P, zero_add, ← EReal.coe_mul, coe_sum, ← EReal.coe_add]
    rw [I.V.dproj_c _ _ h, mul_comm]
  · rw [dif_neg (show ¬(1536 ≤ c.val ∧ c.val - 1536 < 512) by omega), dif_neg (show ¬(1024 ≤ c.val ∧ c.val - 1024 < 512) by omega), dif_pos (show 512 ≤ c.val ∧ c.val - 512 < 512 by omega), dif_neg (show ¬(c.val < 512) by omega)]
    simp only [val_db, zero_add, add_zero]
    rw [show 512 + (c.val - 512) = c.val by omega]
  · rw [dif_neg (show ¬(1536 ≤ c.val ∧ c.val - 1536 < 512) by omega), dif_pos (show 1024 ≤ c.val ∧ c.val - 1024 < 512 by omega), dif_neg (show ¬(512 ≤ c.val ∧ c.val - 512 < 512) by omega), dif_neg (show ¬(c.val < 512) by omega)]
    simp only [val_dz, val_P, zero_add, add_zero, ← EReal.coe_mul, coe_sum, ← EReal.coe_add]
    rw [← I.V.dproj_v _ _ (by omega), show 1024 + (c.val - 1024) = c.val by omega]
  · rw [dif_pos (show 1536 ≤ c.val ∧ c.val - 1536 < 512 by omega), dif_neg (show ¬(1024 ≤ c.val ∧ c.val - 1024 < 512) by omega), dif_neg (show ¬(512 ≤ c.val ∧ c.val - 512 < 512) by omega), dif_neg (show ¬(c.val < 512) by omega)]
    simp only [val_dp, add_zero]
    rw [show 1536 + (c.val - 1536) = c.val by omega]

theorem res_dproj (r : Fin 4096) (c : Fin 2048) : val_main_v287 (F := Ideal) (cx I) (cg I) (cwin I) (ccw I) (cpw I) (cps I) (cwo I) (cct I) (ix2 r c) = ((I.V.dproj r.val c.val : ℝ) : EReal) := by
  pointwise [val_main_v287]
  exact val_dproj I r c

theorem val_dh (r : Fin 4096) (k : Fin 1024) : val_main_v264 (F := Ideal) (cx I) (cg I) (cwin I) (ccw I) (cpw I) (cps I) (cwo I) (cct I) (ix2 r k) = ((I.V.dh r.val k.val : ℝ) : EReal) := by
  pointwise [val_main_v264, val_main_v17]
  simp only [val_dproj, ← EReal.coe_mul, coe_sum, ← EReal.coe_add]
  rfl

theorem val_dg (k : Fin 1024) : val_main_v286 (F := Ideal) (cx I) (cg I) (cwin I) (ccw I) (cpw I) (cps I) (cwo I) (cct I) (ix2 0 k) = ((D.S (I.V.cDg k.val) 8 : ℝ) : EReal) := by
  pointwise [val_main_v286, val_main_v270, val_main_v267, val_main_v266, val_main_v265, val_main_cst_49, val_main_cst_50]
  simp only [val_dh, val_xn, Fin.sum_univ_one, ← EReal.coe_mul, coe_sum, ← EReal.coe_add, zero_add]
  rw [D.S_eight, EReal.coe_eq_coe_iff]
  exact Finset.sum_congr rfl fun r _ => mul_comm _ _

theorem val_half_inv (r : Fin 4096) : val_main_v11 (F := Ideal) (cx I) (ix2 r 0) = ((-1 / 2 * (scale (row I.x r.val) / meanSq (row I.x r.val)) : ℝ) : EReal) := by
  pointwise [val_main_v11, val_main_v10, val_main_cst_2, val_main_v9, val_main_v7, val_main_v5, val_main_v3, val_main_v2, val_main_v1, val_main_cst, val_main_v4, val_main_cst_0, val_main_v6, val_main_cst_1]
  simp only [val_scale, ← EReal.coe_mul, coe_sum, ← EReal.coe_add, ofBits_1024, ofBits_eps, div_1024, ofBits_neg_half]
  exact (congrArg _ (div_real _ (meanSq_pos (row I.x r.val)).ne')).trans (EReal.coe_mul _ _).symm

theorem cx_at (r : Fin 4096) (k : Fin 1024) : cx I (ix2 r k) = ((I.x r.val k.val : ℝ) : EReal) := rfl

theorem val_dx (r : Fin 4096) (k : Fin 1024) : val_main_v285 (F := Ideal) (cx I) (cg I) (cwin I) (ccw I) (cpw I) (cps I) (cwo I) (cct I) (ix2 r k) = ((I.V.dx r.val k.val : ℝ) : EReal) := by
  pointwise [val_main_v285, val_main_v283, val_main_v276, val_main_v275, val_main_v269, val_main_v268, val_main_v14, val_main_v0, val_main_v274, val_main_v282, val_main_v281, val_main_v280, val_main_v279, val_main_v277, val_main_v273, val_main_v272, val_main_v271, val_main_cst_51, val_main_v278, val_main_cst_52, val_main_cst_53, val_main_v284]
  have hk : (⟨k.val % 1024, Nat.mod_lt _ (by decide)⟩ : Fin 1024) = k := Fin.ext (Nat.mod_eq_of_lt k.isLt)
  simp only [Fin.sum_univ_one, val_dh, val_half_inv, val_scale, cx_at, ← EReal.coe_mul, coe_sum, ← EReal.coe_add, ofBits_1024, div_1024, zero_add, add_assoc]
  rw [D.dx, hk, rmsGrad_eq, add_assoc]
  rfl

theorem val_half (r : Fin 4096) (k : Fin 1024) : val_main_v294 (F := Ideal) (cx I) (cg I) (cwin I) (ccw I) (cpw I) (cps I) (cwo I) (cct I) (ix2 r k) = ((1 / 2 * I.V.dx r.val k.val : ℝ) : EReal) := by
  pointwise [val_main_v294, val_main_v293, val_main_v292, val_main_cst_54]
  simp only [val_dx, ← EReal.coe_mul, coe_sum, ← EReal.coe_add, ofBits_half]

end Cert.Proof.MixRef

end
-- ==== Proof.MixKernel.lean ====
module

public import proofs.«01_k».proof.Proof.MixHost
public import proofs.«01_k».proof.Proof.MixPoint
public import proofs.«01_k».proof.Proof.MixRead
public import Idealize.ShloMosaic.Lib.Pipeline.ValueKit
public import Idealize.ShloMosaic.Lib.Pipeline.ReadBack
@[expose] public section
/-! # The mixer's backward kernel over all its points

The points take the tiles of 512 rows from the last down. After each point the running sums hold the tiles so far, and the
kept rows are the first rows of the tile just taken. -/

set_option maxRecDepth 16384

noncomputable section

namespace Cert.Proof.MixKernel

open Cert.MixIdeal Cert.MixIdeal.Gen Idealize.ShloMosaic Idealize.ShloMosaic.TcCoe Idealize.SL.Sem
open Idealize.ShloMosaic.VecWindow (window put)
open MixFrame MixStep MixRead MixPoint
open Cert.Proof.Reals Cert.Proof.Cols Cert.Proof.MixPay Cert.Proof.MixHost MixReal

/-! ## Sums so far -/

/-- A point reads the running sums of the `n` tiles before it. -/
structure Sums (V : D) (n : ℕ) (J : In Ideal) : Prop where
  dg : J.dg = co2 fun _ k => D.S (V.cDg k) n
  dcw0 : J.dcw0 = co2 fun _ k => D.S (V.cDcw 0 k) n
  dcw1 : J.dcw1 = co2 fun _ k => D.S (V.cDcw 1 k) n
  dcw2 : J.dcw2 = co2 fun _ k => D.S (V.cDcw 2 k) n
  dpw0 : J.dpw0 = co3 fun _ a b => D.S (V.cDpw 0 a b) n
  dpw1 : J.dpw1 = co3 fun _ a b => D.S (V.cDpw 1 a b) n
  dpw2 : J.dpw2 = co3 fun _ a b => D.S (V.cDpw 2 a b) n
  dpw3 : J.dpw3 = co3 fun _ a b => D.S (V.cDpw 3 a b) n
  dps0 : J.dps0 = co2 fun _ k => D.S (V.cDps ((0 + k) / 128) ((0 + k) % 128)) n
  dps1 : J.dps1 = co2 fun _ k => D.S (V.cDps ((128 + k) / 128) ((128 + k) % 128)) n
  dps2 : J.dps2 = co2 fun _ k => D.S (V.cDps ((256 + k) / 128) ((256 + k) % 128)) n
  dps3 : J.dps3 = co2 fun _ k => D.S (V.cDps ((384 + k) / 128) ((384 + k) % 128)) n
  acc : J.acc = co2 fun i k => D.S (V.cDwo i k) n

/-- A point leaves the running sums of `n` tiles, and the kept rows of the last one taken. -/
structure Left (V : D) (n : ℕ) (p : Outs Ideal) : Prop where
  dg : p.dg = co2 fun _ k => D.S (V.cDg k) n
  dcw : p.dcw = co2 fun s k => D.S (V.cDcw s k) n
  dpw : p.dpw = co3 fun q a b => D.S (V.cDpw q a b) n
  dps : p.dps = co2 fun _ k => D.S (V.cDps (k / 128) (k % 128)) n
  acc : p.acc = co2 fun i k => D.S (V.cDwo i k) n
  fut : ∀ z : S544x1024.Idx, 512 ≤ (z 0).val → (z 0).val < 528 → p.fut z = ((V.fut (512 * (8 - n) + ((z 0).val - 512)) (z 1).val : ℝ) : EReal)

theorem S_next (f : ℕ → ℝ) {n T : ℕ} (hT : 7 - n = T) : D.S f n + D.tsum f T = D.S f (n + 1) := by rw [D.S_succ, hT]

theorem left_step {V : D} {n T : ℕ} (hT : 7 - n = T) {J : In Ideal} (H : At V T J) (K : Sums V n J) : Left V (n + 1) (step J) where
  dg := (dg_eq H _ K.dg).trans (co2_congr fun _ _ _ _ => S_next _ hT)
  dcw := (dcw_eq H (fun s k => D.S (V.cDcw s k) n) K.dcw0 K.dcw1 K.dcw2).trans (co2_congr fun _ _ _ _ => S_next _ hT)
  dpw := (dpw_eq H (fun q a b => D.S (V.cDpw q a b) n) K.dpw0 K.dpw1 K.dpw2 K.dpw3).trans (co3_congr fun _ _ _ _ _ _ => S_next _ hT)
  dps := (dps_eq H (fun k => D.S (V.cDps (k / 128) (k % 128)) n) K.dps0 K.dps1 K.dps2 K.dps3).trans (co2_congr fun _ _ _ _ => S_next _ hT)
  acc := (acc_eq H _ K.acc).trans (co2_congr fun _ _ _ _ => S_next _ hT)
  fut z h0 h1 := by
    rw [fut_left H z h0 h1, show 8 - (n + 1) = T by omega]

/-! Windows of the sums. -/

theorem row_of {n0 n1 : ℕ} (f : ℕ → ℕ → ℝ) {o0 s1 : ℕ} (inb) :
    window (s := ⟨2, ![n0, n1]⟩) (co2 f) ![o0, 0] ![1, s1] inb = co2 fun _ k => f o0 k :=
  (window_co2 f inb).trans (co2_congr fun r k hr _ => by rw [Nat.lt_one_iff.1 hr, Nat.add_zero, Nat.zero_add])
theorem cols_of {n0 n1 : ℕ} (f : ℕ → ℝ) {o1 s1 : ℕ} (inb) :
    window (s := ⟨2, ![n0, n1]⟩) (co2 fun _ k => f k) ![0, o1] ![1, s1] inb = co2 fun _ k => f (o1 + k) := window_co2 _ inb
theorem mat_of {n0 n1 n2 : ℕ} (f : ℕ → ℕ → ℕ → ℝ) {o0 : ℕ} (inb) :
    window (s := ⟨3, ![n0, n1, n2]⟩) (co3 f) ![o0, 0, 0] ![1, n1, n2] inb = co3 fun _ a b => f o0 a b :=
  (window_co3 f inb).trans (co3_congr fun l a b hl _ _ => by rw [Nat.lt_one_iff.1 hl, Nat.add_zero])

variable (m : (ℓ : Loc nD τ sig) → Buf (Elt Ideal) ℓ) (c : Dev nD)

/-- Where a point reads from: its blocks, and what the point before left. -/
structure Reads (t : Fin cfg0.N) (p : Outs Ideal) (J : In Ideal) : Prop where
  tile : J.tile = Scalar.subi 7#32 (BitVec.ofNat 32 ((grid0.coords t) 0))
  ct : J.ct = iblk m c 0 t
  x : J.x = iblk m c 1 t
  proj : J.proj = iblk m c 2 t
  pooled : J.pooled = iblk m c 4 t
  g : J.g = iblk m c 5 t
  win : J.win = iblk m c 6 t
  cw : J.cw = iblk m c 7 t
  pw : J.pw = iblk m c 8 t
  ps : J.ps = iblk m c 9 t
  wo : J.wo = iblk m c 10 t
  dg : J.dg = p.dg
  dcw0 : J.dcw0 = window p.dcw ![0, 0] S1x512.size inb_S3x512_S1x512_0_0
  dcw1 : J.dcw1 = window p.dcw ![1, 0] S1x512.size inb_S3x512_S1x512_1_0
  dcw2 : J.dcw2 = window p.dcw ![2, 0] S1x512.size inb_S3x512_S1x512_2_0
  dpw0 : J.dpw0 = window p.dpw ![0, 0, 0] S1x128x128.size inb_S4x128x128_S1x128x128_0_0_0
  dpw1 : J.dpw1 = window p.dpw ![1, 0, 0] S1x128x128.size inb_S4x128x128_S1x128x128_1_0_0
  dpw2 : J.dpw2 = window p.dpw ![2, 0, 0] S1x128x128.size inb_S4x128x128_S1x128x128_2_0_0
  dpw3 : J.dpw3 = window p.dpw ![3, 0, 0] S1x128x128.size inb_S4x128x128_S1x128x128_3_0_0
  dps0 : J.dps0 = window p.dps ![0, 0] S1x128.size inb_S1x512_S1x128_0_0
  dps1 : J.dps1 = window p.dps ![0, 128] S1x128.size inb_S1x512_S1x128_0_128
  dps2 : J.dps2 = window p.dps ![0, 256] S1x128.size inb_S1x512_S1x128_0_256
  dps3 : J.dps3 = window p.dps ![0, 384] S1x128.size inb_S1x512_S1x128_0_384
  fut : J.fut = p.fut
  acc : J.acc = p.acc

theorem reads_A (t : Fin cfg0.N) : Reads m c t zeros (inA m c t) := by
  constructor <;> dsimp only [inA, inB]

theorem reads_B (t : Fin cfg0.N) (p : Outs Ideal) : Reads m c t p (inB m c t p) := by
  constructor <;> dsimp only [inB]

theorem reads_C0 (t : Fin cfg0.N) (p : Outs Ideal) : Reads m c t p (inC0 m c t p) := by
  constructor <;> dsimp only [inC0, inB]

theorem reads_C (t : Fin cfg0.N) (p : Outs Ideal) : Reads m c t p (inC m c t p) := by
  constructor <;> dsimp only [inC, inC0, inB]

theorem halo_A (t : Fin cfg0.N) : (inA m c t).halo = k0_pay11 (iblk m c 3 t) := by dsimp only [inA, inB]
theorem halo_B (t : Fin cfg0.N) (p : Outs Ideal) : (inB m c t p).halo = k0_pay11 (iblk m c 3 t) := by dsimp only [inB]
theorem halo_C0 (t : Fin cfg0.N) (p : Outs Ideal) : (inC0 m c t p).halo = k0_pay10 (F := Ideal) := by dsimp only [inC0]
theorem halo_C (t : Fin cfg0.N) (p : Outs Ideal) : (inC m c t p).halo = k0_pay10 (F := Ideal) := by dsimp only [inC, inC0]
theorem udwo_C (t : Fin cfg0.N) (p : Outs Ideal) : (inC m c t p).udwo = k0_pay99 (accN (inC0 m c t p)) := by dsimp only [inC]

variable {m c} in
theorem sums_of {V : D} {n : ℕ} {t : Fin cfg0.N} {p : Outs Ideal} {J : In Ideal} (L : Left V n p) (R : Reads m c t p J) : Sums V n J where
  dg := R.dg.trans L.dg
  dcw0 := by rw [R.dcw0, L.dcw]; exact row_of _ _
  dcw1 := by rw [R.dcw1, L.dcw]; exact row_of _ _
  dcw2 := by rw [R.dcw2, L.dcw]; exact row_of _ _
  dpw0 := by rw [R.dpw0, L.dpw]; exact mat_of _ _
  dpw1 := by rw [R.dpw1, L.dpw]; exact mat_of _ _
  dpw2 := by rw [R.dpw2, L.dpw]; exact mat_of _ _
  dpw3 := by rw [R.dpw3, L.dpw]; exact mat_of _ _
  dps0 := by rw [R.dps0, L.dps]; exact cols_of (fun k => D.S (V.cDps (k / 128) (k % 128)) n) _
  dps1 := by rw [R.dps1, L.dps]; exact cols_of (fun k => D.S (V.cDps (k / 128) (k % 128)) n) _
  dps2 := by rw [R.dps2, L.dps]; exact cols_of (fun k => D.S (V.cDps (k / 128) (k % 128)) n) _
  dps3 := by rw [R.dps3, L.dps]; exact cols_of (fun k => D.S (V.cDps (k / 128) (k % 128)) n) _
  acc := R.acc.trans L.acc

/-! What the first point starts from. -/

theorem zero3 : k0_pay3 (F := Ideal) = co2 fun _ _ => 0 := ext2 fun i k => by pointwise [k0_pay3]; simp only [co2_at, EReal.coe_zero]
theorem zero4 : k0_pay4 (F := Ideal) = co2 fun _ _ => 0 := ext2 fun i k => by pointwise [k0_pay4]; simp only [co2_at, EReal.coe_zero]
theorem zero5 : k0_pay5 (F := Ideal) = co2 fun _ _ => 0 := ext2 fun i k => by pointwise [k0_pay5]; simp only [co2_at, EReal.coe_zero]
theorem zero6 : k0_pay6 (F := Ideal) = co3 fun _ _ _ => 0 := ext3 fun q i k => by pointwise [k0_pay6]; simp only [co3_at, EReal.coe_zero]
theorem zero7 : k0_pay7 (F := Ideal) = co2 fun _ _ => 0 := ext2 fun i k => by pointwise [k0_pay7]; simp only [co2_at, EReal.coe_zero]
theorem zero8 : k0_pay8 (F := Ideal) = co2 fun _ _ => 0 := ext2 fun i k => by pointwise [k0_pay8]; simp only [co2_at, EReal.coe_zero]

theorem left_zeros (V : D) : Left V 0 (zeros : Outs Ideal) where
  dg := zero4.trans (co2_congr fun _ _ _ _ => (D.S_zero _).symm)
  dcw := zero5.trans (co2_congr fun _ _ _ _ => (D.S_zero _).symm)
  dpw := zero6.trans (co3_congr fun _ _ _ _ _ _ => (D.S_zero _).symm)
  dps := zero7.trans (co2_congr fun _ _ _ _ => (D.S_zero _).symm)
  acc := zero3.trans (co2_congr fun _ _ _ _ => (D.S_zero _).symm)
  fut z h0 h1 := by
    have hk : (z 1).val < 1024 := (z 1).isLt
    show put _ _ _ _ z = _
    rw [zero8, put_co2, if_pos (by omega), V.fut_end _ _ (by omega)]

/-! ## The blocks -/

/-- Row `r` of tile `T`. -/
def trow {T : ℕ} (h : T < 8) (r : Fin 512) : Fin 4096 := ⟨512 * T + r.val, by omega⟩
/-- Row `r` of the 16 rows before it. -/
def hrow {T : ℕ} (h : T < 8) (r : Fin 16) : Fin 4096 := ⟨16 * (32 * T - 1) + r.val, by omega⟩

theorem index_rows : ∀ t : Fin cfg0.N, (win0_0.index t 0 = 7 - t.val ∧ win0_0.index t 1 = 0)
    ∧ (win0_1.index t 0 = 7 - t.val ∧ win0_1.index t 1 = 0)
    ∧ (win0_2.index t 0 = 7 - t.val ∧ win0_2.index t 1 = 0)
    ∧ (win0_4.index t 0 = 7 - t.val ∧ win0_4.index t 1 = 0)
    ∧ (win0_11.index t 0 = 7 - t.val ∧ win0_11.index t 1 = 0)
    ∧ (win0_12.index t 0 = 7 - t.val ∧ win0_12.index t 1 = 0)
    ∧ (win0_18.index t 0 = 7 - t.val ∧ win0_18.index t 1 = 0) :=
  (by decide +kernel : ∀ t : Fin grid0.N, (win0_0.index t 0 = 7 - t.val ∧ win0_0.index t 1 = 0)
    ∧ (win0_1.index t 0 = 7 - t.val ∧ win0_1.index t 1 = 0)
    ∧ (win0_2.index t 0 = 7 - t.val ∧ win0_2.index t 1 = 0)
    ∧ (win0_4.index t 0 = 7 - t.val ∧ win0_4.index t 1 = 0)
    ∧ (win0_11.index t 0 = 7 - t.val ∧ win0_11.index t 1 = 0)
    ∧ (win0_12.index t 0 = 7 - t.val ∧ win0_12.index t 1 = 0)
    ∧ (win0_18.index t 0 = 7 - t.val ∧ win0_18.index t 1 = 0))

theorem index_halo : ∀ t : Fin cfg0.N, win0_3.index t 0 = 32 * (7 - t.val) - 1 ∧ win0_3.index t 1 = 0 :=
  (by decide +kernel : ∀ t : Fin grid0.N, win0_3.index t 0 = 32 * (7 - t.val) - 1 ∧ win0_3.index t 1 = 0)

theorem index_whole : ∀ t : Fin cfg0.N, (win0_5.index t 0 = 0 ∧ win0_5.index t 1 = 0)
    ∧ (win0_7.index t 0 = 0 ∧ win0_7.index t 1 = 0)
    ∧ (win0_9.index t 0 = 0 ∧ win0_9.index t 1 = 0)
    ∧ (win0_10.index t 0 = 0 ∧ win0_10.index t 1 = 0)
    ∧ (win0_13.index t 0 = 0 ∧ win0_13.index t 1 = 0)
    ∧ (win0_14.index t 0 = 0 ∧ win0_14.index t 1 = 0)
    ∧ (win0_15.index t 0 = 0 ∧ win0_15.index t 1 = 0)
    ∧ (win0_17.index t 0 = 0 ∧ win0_17.index t 1 = 0) :=
  (by decide +kernel : ∀ t : Fin grid0.N, (win0_5.index t 0 = 0 ∧ win0_5.index t 1 = 0)
    ∧ (win0_7.index t 0 = 0 ∧ win0_7.index t 1 = 0)
    ∧ (win0_9.index t 0 = 0 ∧ win0_9.index t 1 = 0)
    ∧ (win0_10.index t 0 = 0 ∧ win0_10.index t 1 = 0)
    ∧ (win0_13.index t 0 = 0 ∧ win0_13.index t 1 = 0)
    ∧ (win0_14.index t 0 = 0 ∧ win0_14.index t 1 = 0)
    ∧ (win0_15.index t 0 = 0 ∧ win0_15.index t 1 = 0)
    ∧ (win0_17.index t 0 = 0 ∧ win0_17.index t 1 = 0))

theorem index_whole3 : ∀ t : Fin cfg0.N, (win0_6.index t 0 = 0 ∧ win0_6.index t 1 = 0 ∧ win0_6.index t 2 = 0)
    ∧ (win0_8.index t 0 = 0 ∧ win0_8.index t 1 = 0 ∧ win0_8.index t 2 = 0)
    ∧ (win0_16.index t 0 = 0 ∧ win0_16.index t 1 = 0 ∧ win0_16.index t 2 = 0) :=
  (by decide +kernel : ∀ t : Fin grid0.N, (win0_6.index t 0 = 0 ∧ win0_6.index t 1 = 0 ∧ win0_6.index t 2 = 0)
    ∧ (win0_8.index t 0 = 0 ∧ win0_8.index t 1 = 0 ∧ win0_8.index t 2 = 0)
    ∧ (win0_16.index t 0 = 0 ∧ win0_16.index t 1 = 0 ∧ win0_16.index t 2 = 0))

theorem tile_word : ∀ t : Fin cfg0.N, Scalar.subi 7#32 (BitVec.ofNat 32 ((grid0.coords t) 0)) = BitVec.ofNat 32 (7 - t.val) :=
  (by decide +kernel : ∀ t : Fin grid0.N, Scalar.subi 7#32 (BitVec.ofNat 32 ((grid0.coords t) 0)) = BitVec.ofNat 32 (7 - t.val))

theorem idx3_eq {n0 n1 n2 : Nat} (f : (⟨3, ![n0, n1, n2]⟩ : Shape).Idx) (a : Fin n0) (b : Fin n1) (d : Fin n2) (h0 : (f 0).val = a.val) (h1 : (f 1).val = b.val)
    (h2 : (f 2).val = d.val) : f = ix3 a b d :=
  funext fun k => Fin.ext (match k with | ⟨0, _⟩ => h0 | ⟨1, _⟩ => h1 | ⟨2, _⟩ => h2)

variable {m c}
variable {I : Inp} (A : Args m c I)

theorem tile_lt {t T : ℕ} (hT : 7 - t = T) : T < 8 := by omega
include A

theorem blk0 (t : Fin cfg0.N) {T : ℕ} (hT : 7 - t.val = T) (r : Fin 512) (k : Fin 1024) : (iblk m c 0 t : S512x1024.Idx → EReal) (ix2 r k) = ((I.V.ct (512 * T + r) k : ℝ) : EReal) :=
  (congrArg (V m c main_arg7) (idx2_eq _ (trow (tile_lt hT) r) k (at_blk ((index_rows t).1.1.trans hT)) (at_zero (index_rows t).1.2))).trans ((congrFun (V_main_arg7 m c) _).trans (congrFun A.ct _))
theorem blk1 (t : Fin cfg0.N) {T : ℕ} (hT : 7 - t.val = T) (r : Fin 512) (k : Fin 1024) : (iblk m c 1 t : S512x1024.Idx → EReal) (ix2 r k) = ((I.V.x (512 * T + r) k : ℝ) : EReal) :=
  (congrArg (V m c main_arg0) (idx2_eq _ (trow (tile_lt hT) r) k (at_blk ((index_rows t).2.1.1.trans hT)) (at_zero (index_rows t).2.1.2))).trans ((congrFun (V_main_arg0 m c) _).trans (congrFun A.x _))
theorem blk2 (t : Fin cfg0.N) {T : ℕ} (hT : 7 - t.val = T) (r : Fin 512) (k : Fin 2048) : (iblk m c 2 t : S512x2048.Idx → EReal) (ix2 r k) = ((I.V.P (512 * T + r) k : ℝ) : EReal) :=
  (congrArg (V m c main_v24) (idx2_eq _ (trow (tile_lt hT) r) k (at_blk ((index_rows t).2.2.1.1.trans hT)) (at_zero (index_rows t).2.2.1.2))).trans (proj_v24 A _ _)
theorem blk3 (t : Fin cfg0.N) {T : ℕ} (hT : 7 - t.val = T) (r : Fin 16) (k : Fin 2048) :
    (iblk m c 3 t : S16x2048.Idx → EReal) (ix2 r k) = ((I.V.P (16 * (32 * T - 1) + r) k : ℝ) : EReal) :=
  (congrArg (V m c main_v24) (idx2_eq _ (hrow (tile_lt hT) r) k (at_blk ((index_halo t).1.trans (by rw [hT]))) (at_zero (index_halo t).2))).trans (proj_v24 A _ _)
theorem blk4 (t : Fin cfg0.N) {T : ℕ} (hT : 7 - t.val = T) (r : Fin 512) (k : Fin 512) : (iblk m c 4 t : S512x512.Idx → EReal) (ix2 r k) = ((I.V.pl (512 * T + r) k : ℝ) : EReal) :=
  (congrArg (V m c main_v93) (idx2_eq _ (trow (tile_lt hT) r) k (at_blk ((index_rows t).2.2.2.1.1.trans hT)) (at_zero (index_rows t).2.2.2.1.2))).trans (prep_v93 A _ _)
theorem blk5 (t : Fin cfg0.N) (r : Fin 1) (k : Fin 1024) : (iblk m c 5 t : S1x1024.Idx → EReal) (ix2 r k) = ((I.V.g k : ℝ) : EReal) :=
  (congrArg (V m c main_arg1) (idx2_eq _ r k (at_zero (index_whole t).1.1) (at_zero (index_whole t).1.2))).trans ((congrFun (V_main_arg1 m c) _).trans (congrFun A.g _))
theorem blk6 (t : Fin cfg0.N) (q : Fin 8) (r : Fin 1024) (k : Fin 256) : (iblk m c 6 t : S8x1024x256.Idx → EReal) (ix3 q r k) = ((I.V.win r (256 * q + k) : ℝ) : EReal) :=
  (congrArg (V m c main_v3) (idx3_eq _ q r k (at_zero (index_whole3 t).1.1) (at_zero (index_whole3 t).1.2.1) (at_zero (index_whole3 t).1.2.2))).trans (prep_v3 A _ _ _)
theorem blk7 (t : Fin cfg0.N) (r : Fin 3) (k : Fin 512) : (iblk m c 7 t : S3x512.Idx → EReal) (ix2 r k) = ((I.V.cw r k : ℝ) : EReal) :=
  (congrArg (V m c main_v4) (idx2_eq _ r k (at_zero (index_whole t).2.1.1) (at_zero (index_whole t).2.1.2))).trans (prep_v4 A _ _)
theorem blk8 (t : Fin cfg0.N) (q : Fin 4) (r : Fin 128) (k : Fin 128) : (iblk m c 8 t : S4x128x128.Idx → EReal) (ix3 q r k) = ((I.V.pw q r k : ℝ) : EReal) :=
  (congrArg (V m c main_v6) (idx3_eq _ q r k (at_zero (index_whole3 t).2.1.1) (at_zero (index_whole3 t).2.1.2.1) (at_zero (index_whole3 t).2.1.2.2))).trans (prep_v6 A _ _ _)
theorem blk9 (t : Fin cfg0.N) (r : Fin 1) (k : Fin 512) : (iblk m c 9 t : S1x512.Idx → EReal) (ix2 r k) = ((I.V.ps k : ℝ) : EReal) :=
  (congrArg (V m c main_arg5) (idx2_eq _ r k (at_zero (index_whole t).2.2.1.1) (at_zero (index_whole t).2.2.1.2))).trans ((congrFun (V_main_arg5 m c) _).trans (congrFun A.ps _))
theorem blk10 (t : Fin cfg0.N) (r : Fin 1024) (k : Fin 1024) : (iblk m c 10 t : S1024x1024.Idx → EReal) (ix2 r k) = ((I.V.wo r k : ℝ) : EReal) :=
  (congrArg (V m c main_v8) (idx2_eq _ r k (at_zero (index_whole t).2.2.2.1.1) (at_zero (index_whole t).2.2.2.1.2))).trans (prep_v8 A _ _)

/-! ## Every point -/

theorem halo_eq (t : Fin cfg0.N) {T : ℕ} (hT : 7 - t.val = T) (h : 0 < T) :
    k0_pay11 (F := Ideal) (iblk m c 3 t) = co2 fun r k => I.V.pb (512 * T + r) k := by
  refine (pay11 _).trans ((ext2 fun r k => blk3 A t hT r k).trans (co2_congr (f := fun r k => I.V.P (16 * (32 * T - 1) + r) k) fun r k hr _ => ?_))
  rw [show 512 * T + r = 16 * (32 * T - 1) + r + 16 by omega, D.pb_16]

/-- What a point reads. -/
theorem at_of {t : Fin cfg0.N} {T : ℕ} (hT : 7 - t.val = T) {p : Outs Ideal} {J : In Ideal} (L : Left I.V t.val p) (R : Reads m c t p J)
    (hh : J.halo = co2 fun r k => I.V.pb (512 * T + r) k) : At I.V T J where
  lt := tile_lt hT
  tile := R.tile.trans ((tile_word t).trans (congrArg _ hT))
  ct := R.ct.trans (ext2 fun r k => blk0 A t hT r k)
  x := R.x.trans (ext2 fun r k => blk1 A t hT r k)
  proj := R.proj.trans (ext2 fun r k => blk2 A t hT r k)
  halo := hh
  pooled := R.pooled.trans (ext2 fun r k => blk4 A t hT r k)
  g := R.g.trans (ext2 fun r k => blk5 A t r k)
  win := R.win.trans (ext3 fun q r k => blk6 A t q r k)
  cw := R.cw.trans (ext2 fun r k => blk7 A t r k)
  pw := R.pw.trans (ext3 fun q r k => blk8 A t q r k)
  ps := R.ps.trans (ext2 fun r k => blk9 A t r k)
  wo := R.wo.trans (ext2 fun r k => blk10 A t r k)
  fut z h0 h1 := by
    have hN : t.val < 8 := lt_of_lt_of_eq t.isLt (show cfg0.N = 8 from N_0)
    rw [R.fut]
    refine (L.fut z h0 h1).trans ?_
    rw [show 512 * (8 - t.val) + ((z 0).val - 512) = 512 * T + (z 0).val by omega]

/-- The results of point `n`, whose tile is `T`. -/
structure Done (V : D) (n T : ℕ) (p : Outs Ideal) : Prop where
  left : Left V (n + 1) p
  dx : p.dx = co2 fun r k => V.dx (512 * T + r) k
  dproj : p.dproj = co2 fun r k => V.dproj (512 * T + r) k
  half : p.half = co2 fun r k => 1 / 2 * V.dx (512 * T + r) k
  dwo : n = 7 → p.dwo = co2 fun i k => D.S (V.cDwo i k) (n + 1)

omit A in
theorem done_step {V : D} {n T : ℕ} (hT : 7 - n = T) {J : In Ideal} (H : At V T J) (K : Sums V n J) (h : n = 7 → J.udwo = co2 fun i k => D.S (V.cDwo i k) (n + 1)) :
    Done V n T (step J) := ⟨left_step hT H K, dx_eq H, dproj_left H, half_eq H, h⟩

theorem done_first (t : Fin cfg0.N) (h : t.val = 0) {T : ℕ} (hT : 7 - t.val = T) : Done I.V t.val T (step (inA m c t)) := by
  have L : Left I.V t.val (zeros : Outs Ideal) := by rw [h]; exact left_zeros I.V
  exact done_step hT (at_of A hT L (reads_A m c t) ((halo_A m c t).trans (halo_eq A t hT (by omega)))) (sums_of L (reads_A m c t)) (fun e => absurd e (by omega))

theorem done_mid (t : Fin cfg0.N) (h : t.val < 7) {T : ℕ} (hT : 7 - t.val = T) {p : Outs Ideal} (L : Left I.V t.val p) :
    Done I.V t.val T (step (inB m c t p)) :=
  done_step hT (at_of A hT L (reads_B m c t p) ((halo_B m c t p).trans (halo_eq A t hT (by omega)))) (sums_of L (reads_B m c t p)) (fun e => absurd e (by omega))

omit A in
theorem no_rows {T : ℕ} (hT : T = 0) : k0_pay10 (F := Ideal) = co2 fun r k => I.V.pb (512 * T + r) k :=
  pay10.trans (co2_congr fun r k hr _ => by
    unfold D.pb
    rw [if_neg (by omega)])

theorem done_last (t : Fin cfg0.N) (h : t.val = 7) {T : ℕ} (hT : 7 - t.val = T) {p : Outs Ideal} (L : Left I.V t.val p) :
    Done I.V t.val T (step (inC m c t p)) := by
  refine done_step hT (at_of A hT L (reads_C m c t p) ((halo_C m c t p).trans (no_rows (by omega)))) (sums_of L (reads_C m c t p)) fun _ => ?_
  have H := at_of A hT L (reads_C0 m c t p) ((halo_C0 m c t p).trans (no_rows (by omega)))
  have K := sums_of L (reads_C0 m c t p)
  rw [udwo_C, pay99]
  exact (acc_eq H (fun i k => D.S (I.V.cDwo i k) t.val) K.acc).trans (co2_congr fun i k _ _ => S_next _ hT)

theorem left_at (n : ℕ) (hn : n < cfg0.N) : Done I.V n (7 - n) (outsAt m c n hn) := by
  have hN : n < 8 := lt_of_lt_of_eq hn (show cfg0.N = 8 from N_0)
  induction n with
  | zero => exact (congrArg (Done I.V 0 _) ((outsAt_A m c ⟨0, hn⟩ rfl).trans (outA_eq m c _ _))).mpr (done_first A ⟨0, hn⟩ rfl rfl)
  | succ n ih =>
    have L := (ih (Nat.lt_of_succ_lt hn) (by omega)).left
    by_cases h : n + 1 < 7
    · exact (congrArg (Done I.V (n + 1) _) ((outsAt_B m c ⟨n + 1, hn⟩ ⟨Nat.succ_ne_zero _, h⟩).trans (outB_eq m c _ _ _))).mpr (done_mid A ⟨n + 1, hn⟩ h rfl L)
    · have h7 : n + 1 = 7 := by omega
      exact (congrArg (Done I.V (n + 1) _) ((outsAt_C m c ⟨n + 1, hn⟩ h7).trans (outC_eq m c _ _ _))).mpr (done_last A ⟨n + 1, hn⟩ h7 rfl L)

theorem done_at (t : Fin cfg0.N) {T : ℕ} (hT : 7 - t.val = T) : Done I.V t.val T (outsAt m c t.val t.isLt) := hT ▸ left_at A t.val t.isLt

/-! ## The final arrays -/

omit A in
theorem last_of {t : Fin cfg0.N} (h : t.val % 8 = 7) : t.val = 7 := by
  have hN : t.val < 8 := lt_of_lt_of_eq t.isLt (show cfg0.N = 8 from N_0)
  omega

theorem final_11 : (dats m 0 c).arrAt 11 cfg0.N = (co2 I.V.dx : S4096x1024.Idx → EReal) := by
  refine (dats m 0 c).arrAt_eq_of_covers 11 _ (by decide +kernel) fun t hf (y : S512x1024.Idx) => ?_
  obtain ⟨T, hT⟩ : ∃ T, 7 - t.val = T := ⟨_, rfl⟩
  blk_simp
  rw [after0_11, (done_at A t hT).dx]
  obtain ⟨r, k, rfl⟩ : ∃ (r : Fin 512) (k : Fin 1024), y = ix2 r k := ⟨y 0, y 1, idx2_eq _ _ _ rfl rfl⟩
  exact (congrArg (co2 I.V.dx) (idx2_eq _ (trow (tile_lt hT) r) k (at_blk ((index_rows t).2.2.2.2.1.1.trans hT)) (at_zero (index_rows t).2.2.2.2.1.2))).symm

theorem final_12 : (dats m 0 c).arrAt 12 cfg0.N = (co2 I.V.dproj : S4096x2048.Idx → EReal) := by
  refine (dats m 0 c).arrAt_eq_of_covers 12 _ (by decide +kernel) fun t hf (y : S512x2048.Idx) => ?_
  obtain ⟨T, hT⟩ : ∃ T, 7 - t.val = T := ⟨_, rfl⟩
  blk_simp
  rw [after0_12, (done_at A t hT).dproj]
  obtain ⟨r, k, rfl⟩ : ∃ (r : Fin 512) (k : Fin 2048), y = ix2 r k := ⟨y 0, y 1, idx2_eq _ _ _ rfl rfl⟩
  exact (congrArg (co2 I.V.dproj) (idx2_eq _ (trow (tile_lt hT) r) k (at_blk ((index_rows t).2.2.2.2.2.1.1.trans hT)) (at_zero (index_rows t).2.2.2.2.2.1.2))).symm

theorem final_18 : (dats m 0 c).arrAt 18 cfg0.N = ((co2 fun r k => 1 / 2 * I.V.dx r k) : S4096x1024.Idx → EReal) := by
  refine (dats m 0 c).arrAt_eq_of_covers 18 _ (by decide +kernel) fun t hf (y : S512x1024.Idx) => ?_
  obtain ⟨T, hT⟩ : ∃ T, 7 - t.val = T := ⟨_, rfl⟩
  blk_simp
  rw [after0_18, (done_at A t hT).half]
  obtain ⟨r, k, rfl⟩ : ∃ (r : Fin 512) (k : Fin 1024), y = ix2 r k := ⟨y 0, y 1, idx2_eq _ _ _ rfl rfl⟩
  exact (congrArg (co2 fun r k => 1 / 2 * I.V.dx r k) (idx2_eq _ (trow (tile_lt hT) r) k (at_blk ((index_rows t).2.2.2.2.2.2.1.trans hT)) (at_zero (index_rows t).2.2.2.2.2.2.2))).symm

theorem final_13 : (dats m 0 c).arrAt 13 cfg0.N = (co2 (fun i k => D.S (I.V.cDwo i k) 8) : S1024x1024.Idx → EReal) := by
  refine (dats m 0 c).arrAt_eq_of_covers 13 _ (by decide +kernel) fun t hf (y : S1024x1024.Idx) => ?_
  have h7 := last_of ((flush0_13 t).1 hf)
  blk_simp
  rw [after0_13, (done_at A t rfl).dwo h7]
  obtain ⟨r, k, rfl⟩ : ∃ (r : Fin 1024) (k : Fin 1024), y = ix2 r k := ⟨y 0, y 1, idx2_eq _ _ _ rfl rfl⟩
  rw [h7]
  exact (congrArg (co2 (fun i k => D.S (I.V.cDwo i k) 8)) (idx2_eq _ r k (at_zero (index_whole t).2.2.2.2.1.1) (at_zero (index_whole t).2.2.2.2.1.2))).symm

theorem final_14 : (dats m 0 c).arrAt 14 cfg0.N = (co2 (fun _ k => D.S (I.V.cDg k) 8) : S1x1024.Idx → EReal) := by
  refine (dats m 0 c).arrAt_eq_of_covers 14 _ (by decide +kernel) fun t hf (y : S1x1024.Idx) => ?_
  have h7 := last_of ((flush0_14 t).1 hf)
  blk_simp
  rw [after0_14, (done_at A t rfl).left.dg]
  obtain ⟨r, k, rfl⟩ : ∃ (r : Fin 1) (k : Fin 1024), y = ix2 r k := ⟨y 0, y 1, idx2_eq _ _ _ rfl rfl⟩
  rw [h7]
  exact (congrArg (co2 (fun _ k => D.S (I.V.cDg k) 8)) (idx2_eq _ r k (at_zero (index_whole t).2.2.2.2.2.1.1) (at_zero (index_whole t).2.2.2.2.2.1.2))).symm

theorem final_15 : (dats m 0 c).arrAt 15 cfg0.N = (co2 (fun s k => D.S (I.V.cDcw s k) 8) : S3x512.Idx → EReal) := by
  refine (dats m 0 c).arrAt_eq_of_covers 15 _ (by decide +kernel) fun t hf (y : S3x512.Idx) => ?_
  have h7 := last_of ((flush0_15 t).1 hf)
  blk_simp
  rw [after0_15, (done_at A t rfl).left.dcw]
  obtain ⟨r, k, rfl⟩ : ∃ (r : Fin 3) (k : Fin 512), y = ix2 r k := ⟨y 0, y 1, idx2_eq _ _ _ rfl rfl⟩
  rw [h7]
  exact (congrArg (co2 (fun s k => D.S (I.V.cDcw s k) 8)) (idx2_eq _ r k (at_zero (index_whole t).2.2.2.2.2.2.1.1) (at_zero (index_whole t).2.2.2.2.2.2.1.2))).symm

theorem final_16 : (dats m 0 c).arrAt 16 cfg0.N = (co3 (fun q a b => D.S (I.V.cDpw q a b) 8) : S4x128x128.Idx → EReal) := by
  refine (dats m 0 c).arrAt_eq_of_covers 16 _ (by decide +kernel) fun t hf (y : S4x128x128.Idx) => ?_
  have h7 := last_of ((flush0_16 t).1 hf)
  blk_simp
  rw [after0_16, (done_at A t rfl).left.dpw]
  obtain ⟨q, r, k, rfl⟩ : ∃ (q : Fin 4) (r : Fin 128) (k : Fin 128), y = ix3 q r k := ⟨y 0, y 1, y 2, idx3_eq _ _ _ _ rfl rfl rfl⟩
  rw [h7]
  exact (congrArg (co3 (fun q a b => D.S (I.V.cDpw q a b) 8)) (idx3_eq _ q r k (at_zero (index_whole3 t).2.2.1) (at_zero (index_whole3 t).2.2.2.1) (at_zero (index_whole3 t).2.2.2.2))).symm

theorem final_17 : (dats m 0 c).arrAt 17 cfg0.N = (co2 (fun _ k => D.S (I.V.cDps (k / 128) (k % 128)) 8) : S1x512.Idx → EReal) := by
  refine (dats m 0 c).arrAt_eq_of_covers 17 _ (by decide +kernel) fun t hf (y : S1x512.Idx) => ?_
  have h7 := last_of ((flush0_17 t).1 hf)
  blk_simp
  rw [after0_17, (done_at A t rfl).left.dps]
  obtain ⟨r, k, rfl⟩ : ∃ (r : Fin 1) (k : Fin 512), y = ix2 r k := ⟨y 0, y 1, idx2_eq _ _ _ rfl rfl⟩
  rw [h7]
  exact (congrArg (co2 (fun _ k => D.S (I.V.cDps (k / 128) (k % 128)) 8)) (idx2_eq _ r k (at_zero (index_whole t).2.2.2.2.2.2.2.1) (at_zero (index_whole t).2.2.2.2.2.2.2.2))).symm

end Cert.Proof.MixKernel

end
-- ==== Proof.MixClaim.lean ====
module

public import proofs.«01_k».proof.Defs
public import proofs.«01_k».proof.Proof.Gen.Mix
public import proofs.«01_k».proof.Proof.Gen.MixRefIdeal.Run
public import proofs.«01_k».proof.Proof.Gen.Pre_finite_mix
public import proofs.«01_k».proof.Proof.MixRef
public import proofs.«01_k».proof.Proof.MixKernel
public import Idealize.ShloMosaic.Adequacy
@[expose] public section
/-! # The claims of the mixer's gradients

From arrays of finite numbers the kernel and the forward lines with their derivative end with the same eight results, stated by
`MixReal`'s functions of the arguments. -/

noncomputable section

namespace Cert.Proof.MixClaim

open Idealize.ShloMosaic Idealize.ShloMosaic.TcCoe Idealize.SL.Sem Cert.Proof.Reals
open Cert.Proof.MixHost Cert.Proof.MixPay Cert.Proof.MixKernel MixReal

/-! ## The frames -/

/-- The frame of the idealized kernel's text, its operations read on bit patterns. -/
def FrameBits : Prop := ∀ (m : (ℓ : Loc Cert.MixIdeal.nD Cert.MixIdeal.τ Cert.MixIdeal.sig) → Buf (Elt Bits) ℓ)
    (ρ : Dev Cert.MixIdeal.nD → PrngReg), True →
  θ_run Cert.MixIdeal.defs (onTc (τ := Cert.MixIdeal.τ) (Cert.MixIdeal.main (F := Bits))) ⟨m, fun _ => 0, ρ⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

/-- The compiled kernel's text is the idealized kernel's, -/
theorem frame_text : FrameBits = Cert.quiescent_Mix := by sl_kernel_rfl

/-- so one run serves both. -/
theorem frame_kernel : Cert.quiescent_Mix := frame_text.mp fun m ρ _ => MixFrame.frame (F := Bits) m ρ

theorem frame_ideal : Cert.quiescent_MixIdeal := fun m ρ _ => MixFrame.frame (F := Ideal) m ρ

theorem frame_ref : Cert.quiescent_MixRefIdeal := fun m ρ _ =>
  (θ_run Cert.MixRefIdeal.defs _ _).mono (fun r h => ⟨fun c => (h c).2.2.2.2.2.2.2.2, sem_eq_zero_of_no_sems (by decide) r.2⟩)
    (Cert.MixRefIdeal.Value.run (F := Ideal) m ρ)

/-! ## The values -/

/-- An array's reals as a function of plain numbers, zero outside the array. -/
def nat2 {a b : ℕ} (X : (⟨2, ![a, b]⟩ : Shape).Idx → ℝ) (r k : ℕ) : ℝ := if h : r < a ∧ k < b then X (ix2 ⟨r, h.1⟩ ⟨k, h.2⟩) else 0
def nat3 {a b c : ℕ} (X : (⟨3, ![a, b, c]⟩ : Shape).Idx → ℝ) (p r k : ℕ) : ℝ :=
  if h : p < a ∧ r < b ∧ k < c then X (ix3 ⟨p, h.1⟩ ⟨r, h.2.1⟩ ⟨k, h.2.2⟩) else 0
def nat4 {a b c d : ℕ} (X : (⟨4, ![a, b, c, d]⟩ : Shape).Idx → ℝ) (p q r k : ℕ) : ℝ :=
  if h : p < a ∧ q < b ∧ r < c ∧ k < d then X (ix4 ⟨p, h.1⟩ ⟨q, h.2.1⟩ ⟨r, h.2.2.1⟩ ⟨k, h.2.2.2⟩) else 0

theorem nat2_at {a b : ℕ} (X : (⟨2, ![a, b]⟩ : Shape).Idx → ℝ) (i : (⟨2, ![a, b]⟩ : Shape).Idx) : nat2 X (i 0).val (i 1).val = X i :=
  (dif_pos (show (i 0).val < a ∧ (i 1).val < b from ⟨(i 0).isLt, (i 1).isLt⟩)).trans (congrArg X (eq_ix2 i).symm)
theorem nat3_at {a b c : ℕ} (X : (⟨3, ![a, b, c]⟩ : Shape).Idx → ℝ) (i : (⟨3, ![a, b, c]⟩ : Shape).Idx) :
    nat3 X (i 0).val (i 1).val (i 2).val = X i :=
  (dif_pos (show (i 0).val < a ∧ (i 1).val < b ∧ (i 2).val < c from ⟨(i 0).isLt, (i 1).isLt, (i 2).isLt⟩)).trans (congrArg X (eq_ix3 i).symm)
theorem nat4_at {a b c d : ℕ} (X : (⟨4, ![a, b, c, d]⟩ : Shape).Idx → ℝ) (i : (⟨4, ![a, b, c, d]⟩ : Shape).Idx) :
    nat4 X (i 0).val (i 1).val (i 2).val (i 3).val = X i :=
  (dif_pos (show (i 0).val < a ∧ (i 1).val < b ∧ (i 2).val < c ∧ (i 3).val < d from ⟨(i 0).isLt, (i 1).isLt, (i 2).isLt, (i 3).isLt⟩)).trans
    (congrArg X (eq_ix4 i).symm)

/-- The same with a leading axis of one row left out. -/
theorem nat2_row {b : ℕ} (X : (⟨2, ![1, b]⟩ : Shape).Idx → ℝ) (i : (⟨2, ![1, b]⟩ : Shape).Idx) : X i = nat2 X 0 (i 1).val :=
  (nat2_at X i).symm.trans (congrArg (fun n => nat2 X n (i 1).val) (Nat.lt_one_iff.1 (i 0).isLt))
theorem nat3_row {b c : ℕ} (X : (⟨3, ![1, b, c]⟩ : Shape).Idx → ℝ) (i : (⟨3, ![1, b, c]⟩ : Shape).Idx) : X i = nat3 X 0 (i 1).val (i 2).val :=
  (nat3_at X i).symm.trans (congrArg (fun n => nat3 X n (i 1).val (i 2).val) (Nat.lt_one_iff.1 (i 0).isLt))
theorem nat4_row {b c d : ℕ} (X : (⟨4, ![1, b, c, d]⟩ : Shape).Idx → ℝ) (i : (⟨4, ![1, b, c, d]⟩ : Shape).Idx) :
    X i = nat4 X 0 (i 1).val (i 2).val (i 3).val :=
  (nat4_at X i).symm.trans (congrArg (fun n => nat4 X n (i 1).val (i 2).val (i 3).val) (Nat.lt_one_iff.1 (i 0).isLt))

variable (m : (ℓ : Loc Cert.MixIdeal.nD Cert.MixIdeal.τ Cert.MixIdeal.sig) → Buf (Elt Ideal) ℓ)

/-- The precondition says that the arguments are arrays of reals. -/
theorem args_of_pre (h : Cert.Pre_MixIdeal_finite_mix m) (c : Dev Cert.MixIdeal.nD) : ∃ I : Inp, Args m c I := by
  have e := congrFun (h c) (fun a => a.elim0)
  dsimp only [Cert.Pre_finite_mix.fn, Cert.Pre_finite_mix.fn_part1, Cert.Pre_finite_mix.fn_part2] at e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  obtain ⟨x, hx⟩ := reals_of_all _ _ (fun _ => rfl) _ _ _ _ h0
  obtain ⟨g, hg⟩ := reals_of_all _ _ (fun _ => rfl) _ _ _ _ h1
  obtain ⟨win, hwin⟩ := reals_of_all _ _ (fun _ => rfl) _ _ _ _ h2
  obtain ⟨cw, hcw⟩ := reals_of_all _ _ (fun _ => rfl) _ _ _ _ h3
  obtain ⟨pw, hpw⟩ := reals_of_all _ _ (fun _ => rfl) _ _ _ _ h4
  obtain ⟨ps, hps⟩ := reals_of_all _ _ (fun _ => rfl) _ _ _ _ h5
  obtain ⟨wo, hwo⟩ := reals_of_all _ _ (fun _ => rfl) _ _ _ _ h6
  obtain ⟨ct, hct⟩ := reals_of_all _ _ (fun _ => rfl) _ _ _ _ h7
  refine ⟨{ x := nat2 x, g := nat2 g 0, win := nat3 win 0, cw := nat3 cw 0, pw := nat4 pw 0, ps := nat2 ps 0, wo := nat3 wo 0, ct := nat2 ct },
    { x := ?_, g := ?_, win := ?_, cw := ?_, pw := ?_, ps := ?_, wo := ?_, ct := ?_ }⟩
  · exact hx.trans (funext fun i => congrArg _ (nat2_at x i).symm)
  · exact hg.trans (funext fun i => congrArg _ (nat2_row g i))
  · exact hwin.trans (funext fun i => congrArg _ (nat3_row win i))
  · exact hcw.trans (funext fun i => congrArg _ (nat3_row cw i))
  · exact hpw.trans (funext fun i => congrArg _ (nat4_row pw i))
  · exact hps.trans (funext fun i => congrArg _ (nat2_row ps i))
  · exact hwo.trans (funext fun i => congrArg _ (nat3_row wo i))
  · exact hct.trans (funext fun i => congrArg _ (nat2_at ct i).symm)

open Cert.MixIdeal Cert.MixIdeal.Gen MixFrame in
set_option maxHeartbeats 4000000 in
/-- The run with the eight results named. -/
theorem run_blocks (ρ : Dev nD → PrngReg) : θ_run defs (onTc (τ := τ) (main (F := Ideal))) ⟨m, fun _ => 0, ρ⟩ fun r => ∀ c : Dev nD,
      r.2.mem ((c : Thread nD τ).loc main_v94_0) = (dats m 0 c).arrAt 11 cfg0.N
      ∧ r.2.mem ((c : Thread nD τ).loc main_v94_1) = (dats m 0 c).arrAt 12 cfg0.N
      ∧ r.2.mem ((c : Thread nD τ).loc main_v94_2) = (dats m 0 c).arrAt 13 cfg0.N
      ∧ r.2.mem ((c : Thread nD τ).loc main_v94_3) = (dats m 0 c).arrAt 14 cfg0.N
      ∧ r.2.mem ((c : Thread nD τ).loc main_v94_4) = (dats m 0 c).arrAt 15 cfg0.N
      ∧ r.2.mem ((c : Thread nD τ).loc main_v94_5) = (dats m 0 c).arrAt 16 cfg0.N
      ∧ r.2.mem ((c : Thread nD τ).loc main_v94_6) = (dats m 0 c).arrAt 17 cfg0.N
      ∧ r.2.mem ((c : Thread nD τ).loc main_v94_7) = (dats m 0 c).arrAt 18 cfg0.N :=
  (θ_run defs _ _).mono (fun _ h c => ⟨(h c).1 11, (h c).1 12, (h c).1 13, (h c).1 14, (h c).1 15, (h c).1 16, (h c).1 17, (h c).1 18⟩) (run_main m ρ)

set_option maxHeartbeats 2000000 in
theorem algebraic : Cert.algebraic_MixIdeal_MixRefIdeal_pre_finite_mix := by
  intro m ρ m' ρ' hpre hag
  choose I A using args_of_pre m hpre
  refine ⟨fun c => co2 (I c).V.dx, fun c => co2 (I c).V.dproj, fun c => co2 fun i k => D.S ((I c).V.cDwo i k) 8,
    fun c => co2 fun _ k => D.S ((I c).V.cDg k) 8, fun c => co2 fun s k => D.S ((I c).V.cDcw s k) 8,
    fun c => co3 fun q a b => D.S ((I c).V.cDpw q a b) 8, fun c => co2 fun _ k => D.S ((I c).V.cDps (k / 128) (k % 128)) 8,
    fun c => co2 fun r k => 1 / 2 * (I c).V.dx r k, ?_, ?_⟩
  · refine (θ_run _ _ _).mono (fun r h c => ?_) (θ_run_and (run_blocks m ρ) ((θ_run _ _ _).mono (fun _ h => h.1) (MixFrame.frame (F := Ideal) m ρ)))
    obtain ⟨r0, r1, r2, r3, r4, r5, r6, r7⟩ := h.1 c
    exact ⟨r0.trans (final_11 (A c)), r1.trans (final_12 (A c)), r2.trans (final_13 (A c)), r3.trans (final_14 (A c)),
      r4.trans (final_15 (A c)), r5.trans (final_16 (A c)), r6.trans (final_17 (A c)), r7.trans (final_18 (A c)), h.2 c⟩
  · refine (θ_run _ _ _).mono (fun r h c => ?_) (Cert.MixRefIdeal.Value.run (F := Ideal) m' ρ')
    obtain ⟨e0, e1, e2, e3, e4, e5, e6, e7⟩ := hag c
    obtain ⟨r0, r1, r2, r3, r4, r5, r6, r7, hk⟩ := h c
    have hx : StableHlo.launchContents m' c (Proc.tc.devRef Cert.MixRefIdeal.main_arg0) = _ := e0.trans (A c).x
    have hg : StableHlo.launchContents m' c (Proc.tc.devRef Cert.MixRefIdeal.main_arg1) = _ := e1.trans (A c).g
    have hwin : StableHlo.launchContents m' c (Proc.tc.devRef Cert.MixRefIdeal.main_arg2) = _ := e2.trans (A c).win
    have hcw : StableHlo.launchContents m' c (Proc.tc.devRef Cert.MixRefIdeal.main_arg3) = _ := e3.trans (A c).cw
    have hpw : StableHlo.launchContents m' c (Proc.tc.devRef Cert.MixRefIdeal.main_arg4) = _ := e4.trans (A c).pw
    have hps : StableHlo.launchContents m' c (Proc.tc.devRef Cert.MixRefIdeal.main_arg5) = _ := e5.trans (A c).ps
    have hwo : StableHlo.launchContents m' c (Proc.tc.devRef Cert.MixRefIdeal.main_arg6) = _ := e6.trans (A c).wo
    have hct : StableHlo.launchContents m' c (Proc.tc.devRef Cert.MixRefIdeal.main_arg7) = _ := e7.trans (A c).ct
    refine ⟨r0.trans ?_, r1.trans ?_, r2.trans ?_, r3.trans ?_, r4.trans ?_, r5.trans ?_, r6.trans ?_, r7.trans ?_, hk⟩
    · rw [Cert.MixRefIdeal.Read.val_main_v285_eq, hx, hg, hwin, hcw, hpw, hps, hwo, hct]
      funext i
      obtain ⟨r, k, rfl⟩ : ∃ (r : Fin 4096) (k : Fin 1024), i = ix2 r k := ⟨i 0, i 1, eq_ix2 i⟩
      exact Cert.Proof.MixRef.val_dx (I c) r k
    · rw [Cert.MixRefIdeal.Read.val_main_v287_eq, hx, hg, hwin, hcw, hpw, hps, hwo, hct]
      funext i
      obtain ⟨r, c', rfl⟩ : ∃ (r : Fin 4096) (c' : Fin 2048), i = ix2 r c' := ⟨i 0, i 1, eq_ix2 i⟩
      exact Cert.Proof.MixRef.res_dproj (I c) r c'
    · rw [Cert.MixRefIdeal.Read.val_main_v289_eq, hx, hg, hwin, hcw, hpw, hps, hct]
      funext i
      obtain ⟨j, k, rfl⟩ : ∃ (j k : Fin 1024), i = ix2 j k := ⟨i 0, i 1, eq_ix2 i⟩
      exact Cert.Proof.MixRef.val_dwo (I c) j k
    · rw [Cert.MixRefIdeal.Read.val_main_v286_eq, hx, hg, hwin, hcw, hpw, hps, hwo, hct]
      funext i
      obtain ⟨z, k, rfl⟩ : ∃ (z : Fin 1) (k : Fin 1024), i = ix2 z k := ⟨i 0, i 1, eq_ix2 i⟩
      obtain rfl : z = 0 := Subsingleton.elim _ _
      exact Cert.Proof.MixRef.val_dg (I c) k
    · rw [Cert.MixRefIdeal.Read.val_main_v290_eq, hx, hg, hwin, hwo, hct]
      funext i
      obtain ⟨s, k, rfl⟩ : ∃ (s : Fin 3) (k : Fin 512), i = ix2 s k := ⟨i 0, i 1, eq_ix2 i⟩
      exact Cert.Proof.MixRef.val_dcw (I c) s k
    · rw [Cert.MixRefIdeal.Read.val_main_v291_eq, hx, hg, hwin, hps, hwo, hct]
      funext i
      obtain ⟨q, a, b, rfl⟩ : ∃ (q : Fin 4) (a b : Fin 128), i = ix3 q a b := ⟨i 0, i 1, i 2, eq_ix3 i⟩
      exact Cert.Proof.MixRef.val_dpw (I c) q a b
    · rw [Cert.MixRefIdeal.Read.val_main_v146_eq, hx, hg, hwin, hpw, hwo, hct]
      funext i
      obtain ⟨z, k, rfl⟩ : ∃ (z : Fin 1) (k : Fin 512), i = ix2 z k := ⟨i 0, i 1, eq_ix2 i⟩
      obtain rfl : z = 0 := Subsingleton.elim _ _
      exact Cert.Proof.MixRef.val_dps (I c) k
    · rw [Cert.MixRefIdeal.Read.val_main_v294_eq, hx, hg, hwin, hcw, hpw, hps, hwo, hct]
      funext i
      obtain ⟨r, k, rfl⟩ : ∃ (r : Fin 4096) (k : Fin 1024), i = ix2 r k := ⟨i 0, i 1, eq_ix2 i⟩
      exact Cert.Proof.MixRef.val_half (I c) r k

end Cert.Proof.MixClaim

end
-- ==== Proof.MfRef.lean ====
module

public import proofs.«01_k».proof.Proof.MixHost
public import proofs.«01_k».proof.Proof.Gen.MixFwdRefIdeal.Run
public import proofs.«01_k».proof.Proof.Gen.MixFwdRefIdeal.Read
@[expose] public section
/-! # The reference of the mixer's forward call, read at an element

The forward lines, stage by stage, as functions of the arguments' reals. -/

set_option maxRecDepth 16384

noncomputable section

namespace Cert.Proof.MfRef

open Cert.MixFwdRefIdeal Cert.MixFwdRefIdeal.Read Idealize.ShloMosaic Idealize.ShloMosaic.TcCoe
open Cert.Proof.Reals Cert.Proof.Cols Cert.Proof.MixPool MixReal
open Cert.Proof.MixHost (Inp)
open Cert.Proof.MixPay (row cnt)

variable (I : Inp)

/-! The arguments as the programs hold them. -/
abbrev cx : FVec Ideal S4096x1024 .f32 := fun i => ((I.x (i 0).val (i 1).val : ℝ) : EReal)
abbrev cg : FVec Ideal S1x1024 .f32 := fun i => ((I.g (i 1).val : ℝ) : EReal)
abbrev cwin : FVec Ideal S1x1024x2048 .f32 := fun i => ((I.win (i 1).val (i 2).val : ℝ) : EReal)
abbrev ccw : FVec Ideal S1x3x512 .f32 := fun i => ((I.cw (i 1).val (i 2).val : ℝ) : EReal)
abbrev cpw : FVec Ideal S1x4x128x128 .f32 := fun i => ((I.pw (i 1).val (i 2).val (i 3).val : ℝ) : EReal)
abbrev cps : FVec Ideal S1x512 .f32 := fun i => ((I.ps (i 1).val : ℝ) : EReal)
abbrev cwo : FVec Ideal S1x1024x1024 .f32 := fun i => ((I.wo (i 1).val (i 2).val : ℝ) : EReal)

/-! ## Forward -/

theorem val_scale (r : Fin 4096) : val_main_v8 (F := Ideal) (cx I) (ix2 r 0) = ((scale (row I.x r.val) : ℝ) : EReal) := by
  pointwise [val_main_v8, val_main_v7, val_main_v5, val_main_v3, val_main_v2, val_main_v1, val_main_cst, val_main_v4, val_main_cst_0, val_main_v6, val_main_cst_1]
  simp only [← EReal.coe_mul, coe_sum, ← EReal.coe_add, ofBits_1024, ofBits_eps, div_1024]
  exact rsqrt_meanSq (row I.x r.val)

theorem val_xn (r : Fin 4096) (k : Fin 1024) : val_main_v13 (F := Ideal) (cx I) (cg I) (ix2 r k) = ((I.x r.val k.val * scale (row I.x r.val) * I.g k.val : ℝ) : EReal) := by
  pointwise [val_main_v13, val_main_v10, val_main_v9, val_main_v12, val_main_v11, val_main_v0]
  simp only [val_scale, ← EReal.coe_mul, coe_sum, ← EReal.coe_add]
  rfl

theorem val_P (r : Fin 4096) (k : Fin 2048) : val_main_v15 (F := Ideal) (cx I) (cg I) (cwin I) (ix2 r k) = ((I.V.P r.val k.val : ℝ) : EReal) := by
  pointwise [val_main_v15, val_main_v14]
  simp only [val_xn, ← EReal.coe_mul, coe_sum, ← EReal.coe_add]
  rfl

theorem z_at (V : D) (n r k : ℕ) : V.z 14 (n + r) k = V.z (14 + n) r k := by
  unfold D.z; rw [show n + r + 14 = r + (14 + n) by omega]

theorem val_z (n : Fin 4098) (k : Fin 512) : val_main_v23 (F := Ideal) (cx I) (cg I) (cwin I) (ix2 n k) = ((I.V.z 14 n.val k.val : ℝ) : EReal) := by
  pointwise [val_main_v23, val_main_v22, val_main_cst_2, val_main_v20, val_main_v18, val_main_v16]
  unfold D.z D.pb
  by_cases h : n.val < 2
  · simp only [h, ↓reduceDIte]
    rw [if_neg (by omega), zero_mul, EReal.coe_zero]
  · simp only [h, ↓reduceDIte, val_P, ← EReal.coe_mul, coe_sum, ← EReal.coe_add]
    rw [if_pos (by omega), if_pos (by omega), show n.val + 14 - 16 = n.val - 2 by omega, mul_comm]

theorem val_conv (r : Fin 4096) (k : Fin 512) : val_main_v45 (F := Ideal) (cx I) (cg I) (cwin I) (ccw I) (ix2 r k) = ((I.V.conv r.val k.val : ℝ) : EReal) := by
  pointwise [val_main_v45, val_main_v38, val_main_v31, val_main_v30, val_main_cst_3, val_main_v29, val_main_v28, val_main_v27, val_main_v25, val_main_v24, val_main_v21, val_main_v26, val_main_v37, val_main_v36, val_main_v35, val_main_v33, val_main_v32, val_main_v34, val_main_v44, val_main_v43, val_main_v42, val_main_v40, val_main_v39, val_main_v41]
  simp only [val_z, ← EReal.coe_mul, coe_sum, ← EReal.coe_add, zero_add]
  rw [z_at, z_at, D.conv]
  show ((I.cw 0 k.val * I.V.z 14 r.val k.val + I.cw 1 k.val * I.V.z 15 r.val k.val + I.cw 2 k.val * I.V.z 16 r.val k.val : ℝ) : EReal)
    = ((I.cw 2 k.val * I.V.z 16 r.val k.val + I.cw 1 k.val * I.V.z 15 r.val k.val + I.cw 0 k.val * I.V.z 14 r.val k.val : ℝ) : EReal)
  rw [EReal.coe_eq_coe_iff]
  ring

theorem val_p (r : Fin 4096) (q : Fin 4) (k : Fin 128) : val_main_v47 (F := Ideal) (cx I) (cg I) (cwin I) (ix3 r q k) = ((I.p q.val r.val k.val : ℝ) : EReal) := by
  pointwise [val_main_v47, val_main_v19]
  simp only [val_P]
  rfl

theorem val_C (r : Fin 4096) (q : Fin 4) (k : Fin 128) : val_main_v48 (F := Ideal) (cx I) (cg I) (cwin I) (ix3 r q k) = ((I.C q.val r.val k.val : ℝ) : EReal) := by
  have h0 : ∀ j, val_main_call0_call0_v0 (F := Ideal) j = (0 : EReal) := fun j => by
    pointwise [val_main_call0_call0_v0, val_main_call0_call0_cst]
  unfold val_main_v48
  rw [Host.reduceWindowAdd, Ideal.hostReduceWindowAdd_def, h0]
  exact MixCum.cumsum 4095 rfl _ (fun s => I.p q.val s k.val) r q k (fun s => val_p I s q k) _

theorem val_pool0 (r : Fin 4096) (k : Fin 128) : val_main_v65 (F := Ideal) (cx I) (cg I) (cwin I) (ix2 r k) = ((MixPool.pool I.C I.p 2 0 r.val k.val : ℝ) : EReal) := by
  pointwise [val_main_v65, val_main_v62, val_main_v60, val_main_v53, val_main_v52, val_main_v56, val_main_v54, val_main_cst_5, val_main_v55, val_main_v61, val_main_v59, val_main_v58, val_main_v51, val_main_v50, val_main_cst_4, val_main_v49, val_main_v57, val_main_cst_6, val_main_v64, val_main_v63]
  unfold MixPool.pool
  by_cases h : r.val < 2
  · simp only [h, ↓reduceDIte, ↓reduceIte, val_C, val_p, ofBits_2, sub_zero]
    exact pool_lo _ _ r.val 2 r.isLt (by decide)
  · simp only [h, ↓reduceDIte, ↓reduceIte, val_C, val_p, ofBits_2]
    exact pool_at _ _ _ r.val 2 r.isLt (by decide)

theorem val_pool1 (r : Fin 4096) (k : Fin 128) : val_main_v79 (F := Ideal) (cx I) (cg I) (cwin I) (ix2 r k) = ((MixPool.pool I.C I.p 4 1 r.val k.val : ℝ) : EReal) := by
  pointwise [val_main_v79, val_main_v76, val_main_v74, val_main_v67, val_main_v66, val_main_v70, val_main_v68, val_main_cst_7, val_main_v69, val_main_v75, val_main_v73, val_main_v72, val_main_v51, val_main_v50, val_main_cst_4, val_main_v49, val_main_v71, val_main_cst_8, val_main_v78, val_main_v77]
  unfold MixPool.pool
  by_cases h : r.val < 4
  · simp only [h, ↓reduceDIte, ↓reduceIte, val_C, val_p, ofBits_4, sub_zero]
    exact pool_lo _ _ r.val 4 r.isLt (by decide)
  · simp only [h, ↓reduceDIte, ↓reduceIte, val_C, val_p, ofBits_4]
    exact pool_at _ _ _ r.val 4 r.isLt (by decide)

theorem val_pool2 (r : Fin 4096) (k : Fin 128) : val_main_v93 (F := Ideal) (cx I) (cg I) (cwin I) (ix2 r k) = ((MixPool.pool I.C I.p 8 2 r.val k.val : ℝ) : EReal) := by
  pointwise [val_main_v93, val_main_v90, val_main_v88, val_main_v81, val_main_v80, val_main_v84, val_main_v82, val_main_cst_9, val_main_v83, val_main_v89, val_main_v87, val_main_v86, val_main_v51, val_main_v50, val_main_cst_4, val_main_v49, val_main_v85, val_main_cst_10, val_main_v92, val_main_v91]
  unfold MixPool.pool
  by_cases h : r.val < 8
  · simp only [h, ↓reduceDIte, ↓reduceIte, val_C, val_p, ofBits_8, sub_zero]
    exact pool_lo _ _ r.val 8 r.isLt (by decide)
  · simp only [h, ↓reduceDIte, ↓reduceIte, val_C, val_p, ofBits_8]
    exact pool_at _ _ _ r.val 8 r.isLt (by decide)

theorem val_pool3 (r : Fin 4096) (k : Fin 128) : val_main_v107 (F := Ideal) (cx I) (cg I) (cwin I) (ix2 r k) = ((MixPool.pool I.C I.p 16 3 r.val k.val : ℝ) : EReal) := by
  pointwise [val_main_v107, val_main_v104, val_main_v102, val_main_v95, val_main_v94, val_main_v98, val_main_v96, val_main_cst_11, val_main_v97, val_main_v103, val_main_v101, val_main_v100, val_main_v51, val_main_v50, val_main_cst_4, val_main_v49, val_main_v99, val_main_cst_12, val_main_v106, val_main_v105]
  unfold MixPool.pool
  by_cases h : r.val < 16
  · simp only [h, ↓reduceDIte, ↓reduceIte, val_C, val_p, ofBits_16, sub_zero]
    exact pool_lo _ _ r.val 16 r.isLt (by decide)
  · simp only [h, ↓reduceDIte, ↓reduceIte, val_C, val_p, ofBits_16]
    exact pool_at _ _ _ r.val 16 r.isLt (by decide)

theorem val_pl (r : Fin 4096) (q : Fin 4) (k : Fin 128) : val_main_v112 (F := Ideal) (cx I) (cg I) (cwin I) (ix3 r q k) = ((I.V.pl r.val (128 * q.val + k.val) : ℝ) : EReal) := by
  show _ = ((I.pl r.val (128 * q.val + k.val) : ℝ) : EReal)
  rw [I.pl_eq q.val r.val k.val k.isLt]
  match q with
  | 0 =>
    refine Eq.trans ?_ (val_pool0 I r k)
    pointwise [val_main_v112, val_main_v108, val_main_v109, val_main_v110, val_main_v111]
  | 1 =>
    refine Eq.trans ?_ (val_pool1 I r k)
    pointwise [val_main_v112, val_main_v108, val_main_v109, val_main_v110, val_main_v111]
  | 2 =>
    refine Eq.trans ?_ (val_pool2 I r k)
    pointwise [val_main_v112, val_main_v108, val_main_v109, val_main_v110, val_main_v111]
  | 3 =>
    refine Eq.trans ?_ (val_pool3 I r k)
    pointwise [val_main_v112, val_main_v108, val_main_v109, val_main_v110, val_main_v111]

theorem val_lin (r : Fin 4096) (k : Fin 512) : val_main_v116 (F := Ideal) (cx I) (cg I) (cwin I) (cpw I) (ix2 r k) = ((I.V.lin (k.val / 128) r.val (k.val % 128) : ℝ) : EReal) := by
  pointwise [val_main_v116, val_main_v115, val_main_v114, val_main_v113]
  simp only [val_pl, ← EReal.coe_mul, coe_sum, ← EReal.coe_add]
  rw [EReal.coe_eq_coe_iff]
  exact Finset.sum_congr rfl fun j _ => mul_comm _ _

theorem val_cat (r : Fin 4096) (c : Fin 1024) : val_main_v121 (F := Ideal) (cx I) (cg I) (cwin I) (ccw I) (cpw I) (cps I) (ix2 r c) = ((I.V.cat r.val c.val : ℝ) : EReal) := by
  pointwise [val_main_v121, val_main_v46, val_main_v17, val_main_v120, val_main_v119, val_main_v118, val_main_v117]
  unfold D.cat
  by_cases h : c.val < 512
  · simp only [h, ↓reduceDIte, ↓reduceIte, val_P, val_conv, ← EReal.coe_mul, coe_sum, ← EReal.coe_add]
  · simp only [h, ↓reduceDIte, ↓reduceIte, val_lin, ← EReal.coe_mul, coe_sum, ← EReal.coe_add]
    rfl

theorem res_h (r : Fin 4096) (k : Fin 1024) : val_main_v125 (F := Ideal) (cx I) (cg I) (ix2 r k) = ((I.x r.val k.val * scale (row I.x r.val) * I.g k.val : ℝ) : EReal) := by
  pointwise [val_main_v125, val_main_v13, val_main_v10, val_main_v9, val_main_v12, val_main_v11, val_main_v0]
  simp only [val_scale, ← EReal.coe_mul, coe_sum, ← EReal.coe_add]
  rfl

theorem res_pl (r : Fin 4096) (c : Fin 512) : val_main_v127 (F := Ideal) (cx I) (cg I) (cwin I) (ix2 r c) = ((I.pl r.val c.val : ℝ) : EReal) := by
  pointwise [val_main_v127, val_main_v126]
  rw [val_pl]
  show ((I.pl r.val (128 * (c.val / 128) + c.val % 128) : ℝ) : EReal) = _
  rw [Nat.div_add_mod]

theorem cx_at (r : Fin 4096) (k : Fin 1024) : cx I (ix2 r k) = ((I.x r.val k.val : ℝ) : EReal) := rfl
/-- The layer's output. -/
def out (r k : ℕ) : ℝ := I.x r k + ∑ c : Fin 1024, I.V.cat r c.val * I.wo c.val k

theorem res_out (r : Fin 4096) (k : Fin 1024) : val_main_v124 (F := Ideal) (cx I) (cg I) (cwin I) (ccw I) (cpw I) (cps I) (cwo I) (ix2 r k) = ((out I r.val k.val : ℝ) : EReal) := by
  pointwise [val_main_v124, val_main_v123, val_main_v122]
  simp only [val_cat, cx_at, ← EReal.coe_mul, coe_sum, ← EReal.coe_add]
  rfl

end Cert.Proof.MfRef

end
-- ==== Proof.MfStep.lean ====
module

public import proofs.«01_k».proof.Proof.Gen.MixFwdIdeal.Value
public import Idealize.ShloMosaic.Lib.Claim
public import proofs.«01_k».proof.Proof.MixRead

@[expose] public section

set_option maxRecDepth 16384

noncomputable section

/-! What a run of the forward mixer's body leaves, as a function of what it reads. -/

namespace MfStep

open Cert.MixFwdIdeal Cert.MixFwdIdeal.Gen
open Idealize.ShloMosaic Idealize.ShloMosaic.TcCoe
open Idealize.ShloMosaic.VecWindow (window put)
open MixRead (put_00 put_000 window_00 window_000)

variable {F : FTy → Type} [FloatOps F]
variable (m : (ℓ : Loc nD τ sig) → Buf (Elt F) ℓ)

/-! ## Loads and stores -/

section
variable {κ : Kind} {sp : Space} {s : Shape} {e : EltTy}

theorem read_at (v : View sig κ sp s e) (f) {off size : Fin s.rank → ℕ} (inb : ∀ a, off a + size a ≤ s.size a) :
    v.readAt (Elt F) (Rect.unit off size inb).toLoadRect f = window (v.read (Elt F) f) off size inb := rfl

theorem read_cov (v : View sig κ sp s e) (L : List (View.Piece (Elt F) s e)) {off size : Fin s.rank → ℕ} (inb : ∀ a, off a + size a ≤ s.size a) :
    v.readCov L (Rect.unit off size inb).toLoadRect = window (v.read (Elt F) (v.writes (Elt F) v.junk L)) off size inb := rfl

theorem read_put (v : View sig κ sp s e) (f) {off size : Fin s.rank → ℕ} (inb : ∀ a, off a + size a ≤ s.size a)
    (w : (Rect.unit off size inb).shape.Idx → Elt F e) (L : List (View.Piece (Elt F) s e)) :
    v.read (Elt F) (v.writes (Elt F) f (⟨Rect.unit off size inb, w⟩ :: L)) = put (v.read (Elt F) (v.writes (Elt F) f L)) off size w :=
  View.read_writes_cons_put v f inb w L rfl

theorem read_nil (v : View sig κ sp s e) (f) : v.read (Elt F) (v.writes (Elt F) f []) = v.read (Elt F) f := rfl

theorem read_whole (b : Ref sig .tc) (h : (Memref.whole b).IsWhole) (x : b.ty.shape.Idx → Elt F b.ty.elt) :
    View.read (Elt F) (View.whole b) (h.unread x) = x := h.read_unread x
end

/-- What a point reads: its number, its blocks, and the scratch it finds (`base`; with `u…`: contents nothing depends on). -/
structure In (F : FTy → Type) where
  tile : BitVec 32
  x : Vec F S512x1024 .f32
  g : Vec F S1x1024 .f32
  win : Vec F S8x1024x256 .bf16
  cw : Vec F S3x512 .f32
  pw : Vec F S4x128x128 .bf16
  ps : Vec F S1x512 .f32
  wo : Vec F S1024x1024 .bf16
  base : Vec F S528x2048 .f32
  ubase : Vec F S528x2048 .f32
  sbase : Vec F S528x2048 .f32
  ucat : Vec F S512x1024 .bf16
  upl : Vec F S512x512 .bf16

variable (I : In F)

/-- The normed rows. -/
def hb : FVec F S512x1024 .bf16 := k0_pay3 I.x I.g
/-- The scratch with the projections stored over `b`, slab by slab. -/
def ext (b : Vec F S528x2048 .f32) : Vec F S528x2048 .f32 :=
  put (put (put (put (put (put (put (put b ![16, 0] S512x256.size (k0_pay4 I.x I.g (window I.win ![0, 0, 0] S1x1024x256.size inb_S8x1024x256_S1x1024x256_0_0_0))) ![16, 256] S512x256.size (k0_pay5 I.x I.g (window I.win ![1, 0, 0] S1x1024x256.size inb_S8x1024x256_S1x1024x256_1_0_0))
    ) ![16, 512] S512x256.size (k0_pay6 (hb I) (window I.win ![2, 0, 0] S1x1024x256.size inb_S8x1024x256_S1x1024x256_2_0_0))
    ) ![16, 768] S512x256.size (k0_pay7 (hb I) (window I.win ![3, 0, 0] S1x1024x256.size inb_S8x1024x256_S1x1024x256_3_0_0))
    ) ![16, 1024] S512x256.size (k0_pay8 (hb I) (window I.win ![4, 0, 0] S1x1024x256.size inb_S8x1024x256_S1x1024x256_4_0_0))
    ) ![16, 1280] S512x256.size (k0_pay9 (hb I) (window I.win ![5, 0, 0] S1x1024x256.size inb_S8x1024x256_S1x1024x256_5_0_0))
    ) ![16, 1536] S512x256.size (k0_pay11 (k0_pay10 (hb I) (window I.win ![6, 0, 0] S1x1024x256.size inb_S8x1024x256_S1x1024x256_6_0_0)))
    ) ![16, 1792] S512x256.size (k0_pay12 (hb I) (window I.win ![7, 0, 0] S1x1024x256.size inb_S8x1024x256_S1x1024x256_7_0_0))
/-- The convolution. -/
def conv : FVec F S512x512 .f32 :=
  k0_pay17 (k0_pay13 I.cw) (k0_pay14 (window (ext I I.base) ![14, 1024] S512x512.size inb_S528x2048_S512x512_14_1024) (window (ext I I.base) ![14, 0] S512x512.size inb_S528x2048_S512x512_14_0))
    (k0_pay15 I.cw (window (ext I I.ubase) ![16, 0] S512x512.size inb_S528x2048_S512x512_16_0) (window (ext I I.ubase) ![16, 1024] S512x512.size inb_S528x2048_S512x512_16_1024))
    (k0_pay16 I.cw (window (ext I I.base) ![15, 1024] S512x512.size inb_S528x2048_S512x512_15_1024) (window (ext I I.base) ![15, 0] S512x512.size inb_S528x2048_S512x512_15_0))
/-- The first row's number. -/
def row0 : BitVec 32 := Scalar.muli I.tile 512#32
/-- The four groups' pooled rows. -/
def p0 : FVec F S512x128 .f32 := k0_pay19 (row0 I) (window (ext I I.ubase) ![16, 1536] S512x128.size inb_S528x2048_S512x128_16_1536) (window (ext I I.base) ![15, 1536] S512x128.size inb_S528x2048_S512x128_15_1536)
def p1 : FVec F S512x128 .f32 := k0_pay20 (row0 I) (window (ext I I.ubase) ![16, 1664] S512x128.size inb_S528x2048_S512x128_16_1664) (window (ext I I.base) ![15, 1664] S512x128.size inb_S528x2048_S512x128_15_1664) (window (ext I I.base) ![14, 1664] S512x128.size inb_S528x2048_S512x128_14_1664) (window (ext I I.base) ![13, 1664] S512x128.size inb_S528x2048_S512x128_13_1664)
def p2 : FVec F S512x128 .f32 :=
  k0_pay22 (k0_pay21 (row0 I)) 8#32 (window (ext I I.ubase) ![16, 1792] S512x128.size inb_S528x2048_S512x128_16_1792) (window (ext I I.base) ![15, 1792] S512x128.size inb_S528x2048_S512x128_15_1792) (window (ext I I.base) ![14, 1792] S512x128.size inb_S528x2048_S512x128_14_1792) (window (ext I I.base) ![13, 1792] S512x128.size inb_S528x2048_S512x128_13_1792) (window (ext I I.base) ![12, 1792] S512x128.size inb_S528x2048_S512x128_12_1792) (window (ext I I.base) ![11, 1792] S512x128.size inb_S528x2048_S512x128_11_1792) (window (ext I I.base) ![10, 1792] S512x128.size inb_S528x2048_S512x128_10_1792) (window (ext I I.base) ![9, 1792] S512x128.size inb_S528x2048_S512x128_9_1792)
def p3 : FVec F S512x128 .f32 :=
  k0_pay25 (k0_pay23 (k0_pay18 (row0 I))) (window (ext I I.ubase) ![16, 1920] S512x128.size inb_S528x2048_S512x128_16_1920) (k0_pay24 (window (ext I I.ubase) ![16, 1920] S512x128.size inb_S528x2048_S512x128_16_1920) (window (ext I I.base) ![15, 1920] S512x128.size inb_S528x2048_S512x128_15_1920)) (window (ext I I.base) ![14, 1920] S512x128.size inb_S528x2048_S512x128_14_1920) (window (ext I I.base) ![13, 1920] S512x128.size inb_S528x2048_S512x128_13_1920) (window (ext I I.base) ![12, 1920] S512x128.size inb_S528x2048_S512x128_12_1920) (window (ext I I.base) ![11, 1920] S512x128.size inb_S528x2048_S512x128_11_1920) (window (ext I I.base) ![10, 1920] S512x128.size inb_S528x2048_S512x128_10_1920) (window (ext I I.base) ![9, 1920] S512x128.size inb_S528x2048_S512x128_9_1920) (window (ext I I.base) ![8, 1920] S512x128.size inb_S528x2048_S512x128_8_1920) (window (ext I I.base) ![7, 1920] S512x128.size inb_S528x2048_S512x128_7_1920) (window (ext I I.base) ![6, 1920] S512x128.size inb_S528x2048_S512x128_6_1920) (window (ext I I.base) ![5, 1920] S512x128.size inb_S528x2048_S512x128_5_1920) (window (ext I I.base) ![4, 1920] S512x128.size inb_S528x2048_S512x128_4_1920) (window (ext I I.base) ![3, 1920] S512x128.size inb_S528x2048_S512x128_3_1920) (window (ext I I.base) ![2, 1920] S512x128.size inb_S528x2048_S512x128_2_1920) (window (ext I I.base) ![1, 1920] S512x128.size inb_S528x2048_S512x128_1_1920)
/-- The concatenation. -/
def cat : Vec F S512x1024 .bf16 :=
  put (put (put (put (put I.ucat ![0, 0] S512x512.size (k0_pay27 (k0_pay26 (window (ext I I.ubase) ![16, 512] S512x512.size inb_S528x2048_S512x512_16_512) (conv I))))
    ![0, 512] S512x128.size (k0_pay29 (p0 I) (window I.pw ![0, 0, 0] S1x128x128.size inb_S4x128x128_S1x128x128_0_0_0) (window I.ps ![0, 0] S1x128.size inb_S1x512_S1x128_0_0)))
    ![0, 640] S512x128.size (k0_pay31 (p1 I) (window I.pw ![1, 0, 0] S1x128x128.size inb_S4x128x128_S1x128x128_1_0_0) (window I.ps ![0, 128] S1x128.size inb_S1x512_S1x128_0_128)))
    ![0, 768] S512x128.size (k0_pay33 (k0_pay32 (p2 I)) (window I.pw ![2, 0, 0] S1x128x128.size inb_S4x128x128_S1x128x128_2_0_0) (window I.ps ![0, 256] S1x128.size inb_S1x512_S1x128_0_256)))
    ![0, 896] S512x128.size (k0_pay35 (p3 I) (window I.pw ![3, 0, 0] S1x128x128.size inb_S4x128x128_S1x128x128_3_0_0) (window I.ps ![0, 384] S1x128.size inb_S1x512_S1x128_0_384))
/-- The pooled rows as stored. -/
def pooled : Vec F S512x512 .bf16 :=
  put (put (put (put (I.upl) ![0, 0] S512x128.size (k0_pay28 (p0 I))) ![0, 128] S512x128.size (k0_pay30 (p1 I))) ![0, 256] S512x128.size (k0_pay32 (p2 I))) ![0, 384] S512x128.size (k0_pay34 (p3 I))
/-- The scratch for the next point. -/
def left : Vec F S528x2048 .f32 :=
  put (ext I I.sbase) ![0, 0] S16x2048.size (k0_pay1 (window (ext I I.ubase) ![512, 0] S16x2048.size inb_S528x2048_S16x2048_512_0))
/-- What the point leaves. -/
def step : Vec F S512x1024 .f32 × Vec F S512x1024 .bf16 × Vec F S512x2048 .f32 × Vec F S512x512 .bf16 × Vec F S528x2048 .f32 :=
  (k0_pay36 I.x (cat I) I.wo, hb I, window (ext I I.ubase) ![16, 0] S512x2048.size inb_S528x2048_S512x2048_16_0, pooled I, left I)

/-- What point `t` reads over the scratch `p`. -/
def inB (c : Dev nD) (t : Fin cfg0.N) (p : Vec F S528x2048 .f32) : In F where
  tile := BitVec.ofNat 32 ((grid0.coords t) 0)
  x := iblk m c 0 t
  g := iblk m c 1 t
  win := iblk m c 2 t
  cw := iblk m c 3 t
  pw := iblk m c 4 t
  ps := iblk m c 5 t
  wo := iblk m c 6 t
  base := p
  ubase := scM0_0.view.read (Elt F) scM0_0.view.junk
  sbase := VS0_0.read (Elt F) VS0_0.junk
  ucat := scM0_1.view.read (Elt F) scM0_1.view.junk
  upl := VO0_10.read (Elt F) VO0_10.junk

/-- A point after the first leaves the step over what it reads. -/
theorem outs_B (c : Dev nD) (t : Fin cfg0.N) (h0 : ¬t.val % 8 = 0) :
    outsAt0 m c t.val t.isLt = step (inB m c t (outsAt0 m c (t.val - 1) (Nat.lt_of_le_of_lt (Nat.sub_le _ _) t.isLt)).2.2.2.2) := by
  rw [outsAt0_B m c t h0]
  simp only [out0_B_7, out0_B_8, out0_B_9, out0_B_10, sout0_B_0, kernelRun0_B, kernelRun0_B.sl.r_1, kernelRun0_B.sl.r_15, kernelRun0_B.sl.r_10, kernelRun0_B.sl.HS0_8, kernelRun0_B.sl.r_6, kernelRun0_B.sl.r_13, kernelRun0_B.sl.r_9, kernelRun0_B.sl.v133, kernelRun0_B.sl.v72, kernelRun0_B.sl.v1, kernelRun0_B.sl.HS1_5, kernelRun0_B.sl.v2, kernelRun0_B.sl.v158, kernelRun0_B.sl.r_5, kernelRun0_B.sl.v252, kernelRun0_B.sl.v103, kernelRun0_B.sl.v116, kernelRun0_B.sl.v245, kernelRun0_B.sl.r_4, kernelRun0_B.sl.v67, kernelRun0_B.sl.r_18, kernelRun0_B.sl.r_7, kernelRun0_B.sl.v71, kernelRun0_B.sl.r_8, kernelRun0_B.sl.v251, kernelRun0_B.sl.r_12, kernelRun0_B.sl.r_3, kernelRun0_B.sl.r_17, kernelRun0_B.sl.r_11, kernelRun0_B.sl.r, kernelRun0_B.sl.r_16, kernelRun0_B.sl.v0, kernelRun0_B.sl.v74, kernelRun0_B.sl.r_14, kernelRun0_B.sl.r_2, kernelRun0_B.sl.v73, read_at, read_cov, read_put, read_nil, Memref.IsWhole.read_unread, read_whole, window_00, window_000, put_00, put_000, inB, step, left, pooled, cat, p3, p2, p1, p0, row0, conv, ext, hb]

/-- What the first point reads: rows of zeros. -/
def inA (c : Dev nD) (t : Fin cfg0.N) : In F :=
  { inB m c t (put (scM0_0.view.read (Elt F) scM0_0.view.junk) ![0, 0] S16x2048.size k0_pay2) with
    ubase := put (scM0_0.view.read (Elt F) scM0_0.view.junk) ![0, 0] S16x2048.size k0_pay2
    sbase := put (VS0_0.read (Elt F) VS0_0.junk) ![0, 0] S16x2048.size k0_pay2 }

/-- The first point leaves the step over what it reads. -/
theorem outs_A (c : Dev nD) (t : Fin cfg0.N) (h0 : t.val % 8 = 0) : outsAt0 m c t.val t.isLt = step (inA m c t) := by
  rw [outsAt0_A m c t h0]
  simp only [out0_A_7, out0_A_8, out0_A_9, out0_A_10, sout0_A_0, kernelRun0_A, kernelRun0_A.sl.v187, kernelRun0_A.sl.r_10, kernelRun0_A.sl.v167, kernelRun0_A.sl.v181, kernelRun0_A.sl.v251, kernelRun0_A.sl.v134, kernelRun0_A.sl.v79, kernelRun0_A.sl.v76, kernelRun0_A.sl.r, kernelRun0_A.sl.v171, kernelRun0_A.sl.r_5, kernelRun0_A.sl.v74, kernelRun0_A.sl.v73, kernelRun0_A.sl.v245, kernelRun0_A.sl.r_11, kernelRun0_A.sl.r_3, kernelRun0_A.sl.r_2, kernelRun0_A.sl.r_7, kernelRun0_A.sl.r_16, kernelRun0_A.sl.v161, kernelRun0_A.sl.HS0_9, kernelRun0_A.sl.v136, kernelRun0_A.sl.r_13, kernelRun0_A.sl.v133, kernelRun0_A.sl.v72, kernelRun0_A.sl.v252, kernelRun0_A.sl.v67, kernelRun0_A.sl.r_1, kernelRun0_A.sl.v80, kernelRun0_A.sl.v103, kernelRun0_A.sl.v1, kernelRun0_A.sl.v121, kernelRun0_A.sl.r_4, kernelRun0_A.sl.r_15, kernelRun0_A.sl.v117, kernelRun0_A.sl.v179, kernelRun0_A.sl.v173, kernelRun0_A.sl.v158, kernelRun0_A.sl.v104, kernelRun0_A.sl.r_9, kernelRun0_A.sl.v169, kernelRun0_A.sl.v2, kernelRun0_A.sl.v140, kernelRun0_A.sl.v119, kernelRun0_A.sl.r_6, kernelRun0_A.sl.HS1_5, kernelRun0_A.sl.r_17, kernelRun0_A.sl.v138, kernelRun0_A.sl.v116, kernelRun0_A.sl.v144, kernelRun0_A.sl.v183, kernelRun0_A.sl.v71, kernelRun0_A.sl.v163, kernelRun0_A.sl.v175, kernelRun0_A.sl.v165, kernelRun0_A.sl.r_8, kernelRun0_A.sl.v159, kernelRun0_A.sl.v146, kernelRun0_A.sl.r_14, kernelRun0_A.sl.v142, kernelRun0_A.sl.v0, kernelRun0_A.sl.v185, kernelRun0_A.sl.v177, kernelRun0_A.sl.v77, kernelRun0_A.sl.r_12, read_at, read_cov, read_put, read_nil, Memref.IsWhole.read_unread, read_whole, window_00, window_000, put_00, put_000, inA, inB, step, left, pooled, cat, p3, p2, p1, p0, row0, conv, ext, hb]

end MfStep
-- ==== Proof.MfPay.lean ====
module

public import proofs.«01_k».proof.Proof.MfStep
public import proofs.«01_k».proof.Proof.MixPoint
@[expose] public section
/-! # The pieces of the forward mixer's body over arrays of reals -/

set_option maxRecDepth 16384

noncomputable section

namespace Cert.Proof.MfPay

open Cert.MixFwdIdeal Cert.MixFwdIdeal.Gen Idealize.ShloMosaic Idealize.ShloMosaic.TcCoe
open Cert.Proof.Reals Cert.Proof.Cols Cert.Proof.MixPay MixPoint

variable (a b c d e f : ℕ → ℕ → ℝ) (w : ℕ → ℕ → ℕ → ℝ)

/-- The normed rows. -/
theorem pay3 : k0_pay3 (F := Ideal) (co2 a) (co2 b) = co2 fun r k => a r k * scale (row a r) * b 0 k := by
  refine ext2 fun i k => ?_
  pointwise [k0_pay3]
  simp only [co2_at, ← EReal.coe_mul, coe_sum, ofBits_1024, ofBits_eps, div_1024, ← EReal.coe_add]
  show ((a i.val k.val : ℝ) : EReal) * Ideal.rsqrt (((∑ j, row a i.val j * row a i.val j) / 1024 + eps : ℝ) : EReal) * ((b 0 k.val : ℝ) : EReal) = _
  simp only [rsqrt_meanSq, ← EReal.coe_mul]

theorem pay4 (x : Vec Ideal S512x1024 .f32) (g : Vec Ideal S1x1024 .f32) (h : k0_pay3 (F := Ideal) x g = co2 c) :
    k0_pay4 (F := Ideal) x g (co3 w) = co2 fun r k => ∑ j : Fin 1024, c r j.val * w 0 j.val k := by
  refine ext2 fun i k => ?_
  unfold k0_pay4
  rw [h]
  pointwise
  simp only [co2_at, co3_at, ← EReal.coe_mul, coe_sum, ← EReal.coe_add, ← EReal.coe_sub]
  rfl

theorem pay5 (x : Vec Ideal S512x1024 .f32) (g : Vec Ideal S1x1024 .f32) (h : k0_pay3 (F := Ideal) x g = co2 c) :
    k0_pay5 (F := Ideal) x g (co3 w) = co2 fun r k => ∑ j : Fin 1024, c r j.val * w 0 j.val k := by
  refine ext2 fun i k => ?_
  unfold k0_pay5
  rw [h]
  pointwise
  simp only [co2_at, co3_at, ← EReal.coe_mul, coe_sum, ← EReal.coe_add, ← EReal.coe_sub]
  rfl

theorem pay6 : k0_pay6 (F := Ideal) (co2 c) (co3 w) = co2 fun r k => ∑ j : Fin 1024, c r j.val * w 0 j.val k := by
  refine ext2 fun i k => ?_
  pointwise [k0_pay6]
  simp only [co2_at, co3_at, ← EReal.coe_mul, coe_sum, ← EReal.coe_add, ← EReal.coe_sub]
  rfl

theorem pay7 : k0_pay7 (F := Ideal) (co2 c) (co3 w) = co2 fun r k => ∑ j : Fin 1024, c r j.val * w 0 j.val k := by
  refine ext2 fun i k => ?_
  pointwise [k0_pay7]
  simp only [co2_at, co3_at, ← EReal.coe_mul, coe_sum, ← EReal.coe_add, ← EReal.coe_sub]
  rfl

theorem pay8 : k0_pay8 (F := Ideal) (co2 c) (co3 w) = co2 fun r k => ∑ j : Fin 1024, c r j.val * w 0 j.val k := by
  refine ext2 fun i k => ?_
  pointwise [k0_pay8]
  simp only [co2_at, co3_at, ← EReal.coe_mul, coe_sum, ← EReal.coe_add, ← EReal.coe_sub]
  rfl

theorem pay9 : k0_pay9 (F := Ideal) (co2 c) (co3 w) = co2 fun r k => ∑ j : Fin 1024, c r j.val * w 0 j.val k := by
  refine ext2 fun i k => ?_
  pointwise [k0_pay9]
  simp only [co2_at, co3_at, ← EReal.coe_mul, coe_sum, ← EReal.coe_add, ← EReal.coe_sub]
  rfl

theorem pay12 : k0_pay12 (F := Ideal) (co2 c) (co3 w) = co2 fun r k => ∑ j : Fin 1024, c r j.val * w 0 j.val k := by
  refine ext2 fun i k => ?_
  pointwise [k0_pay12]
  simp only [co2_at, co3_at, ← EReal.coe_mul, coe_sum, ← EReal.coe_add, ← EReal.coe_sub]
  rfl

theorem pay11 : k0_pay11 (F := Ideal) (k0_pay10 (co2 c) (co3 w)) = co2 fun r k => ∑ j : Fin 1024, c r j.val * w 0 j.val k := by
  refine ext2 fun i k => ?_
  pointwise [k0_pay11, k0_pay10]
  simp only [co2_at, co3_at, ← EReal.coe_mul, coe_sum, ← EReal.coe_add, ← EReal.coe_sub]
  rfl

theorem conv_pay (g : ℕ → ℕ → ℝ) : k0_pay17 (F := Ideal) (k0_pay13 (co2 a)) (k0_pay14 (co2 b) (co2 c)) (k0_pay15 (co2 a) (co2 d) (co2 e)) (k0_pay16 (co2 a) (co2 f) (co2 g)) = co2 fun r k => a 2 k * (d r k * e r k) + a 1 k * (g r k * f r k) + a 0 k * (c r k * b r k) := by
  refine ext2 fun i k => ?_
  pointwise [k0_pay17, k0_pay16, k0_pay15, k0_pay14, k0_pay13]
  simp only [co2_at, co3_at, ← EReal.coe_mul, coe_sum, ← EReal.coe_add, ← EReal.coe_sub]
  rw [mul_comm (d _ _), mul_comm (g _ _), mul_comm (c _ _)]
  rfl

theorem gate_pay : k0_pay27 (F := Ideal) (k0_pay26 (co2 a) (co2 b)) = co2 fun r k => a r k * b r k := by
  refine ext2 fun i k => ?_
  pointwise [k0_pay27, k0_pay26]
  simp only [co2_at, co3_at, ← EReal.coe_mul, coe_sum, ← EReal.coe_add, ← EReal.coe_sub]

theorem pool0 (T : ℕ) (hT : T < 8) (u0 u1 : ℕ → ℕ → ℝ) : k0_pay19 (F := Ideal) (Scalar.muli (BitVec.ofNat 32 T) 512#32) (co2 u0) (co2 u1) = co2 fun r k => (u0 r k + u1 r k) * cnt 2 (512 * T + r) - u0 r k := by
  refine ext2 fun i k => ?_
  pointwise [k0_pay19, k0_pay18]
  have h := inv_cnt _ _ (by omega) (cnt_int T i.val 2 hT i.isLt (by decide))
  refine (congrArg (fun v : EReal => _ * v - _) h).trans ?_
  simp only [co2_at, co3_at, ← EReal.coe_mul, coe_sum, ← EReal.coe_add, ← EReal.coe_sub]
  rfl

theorem pool1 (T : ℕ) (hT : T < 8) (u0 u1 u2 u3 : ℕ → ℕ → ℝ) : k0_pay20 (F := Ideal) (Scalar.muli (BitVec.ofNat 32 T) 512#32) (co2 u0) (co2 u1) (co2 u2) (co2 u3) = co2 fun r k => (u0 r k + u1 r k + u2 r k + u3 r k) * cnt 4 (512 * T + r) - u0 r k := by
  refine ext2 fun i k => ?_
  pointwise [k0_pay20, k0_pay18]
  have h := inv_cnt _ _ (by omega) (cnt_int T i.val 4 hT i.isLt (by decide))
  refine (congrArg (fun v : EReal => _ * v - _) h).trans ?_
  simp only [co2_at, co3_at, ← EReal.coe_mul, coe_sum, ← EReal.coe_add, ← EReal.coe_sub]
  rfl

theorem pool2 (T : ℕ) (hT : T < 8) (u0 u1 u2 u3 u4 u5 u6 u7 : ℕ → ℕ → ℝ) : k0_pay22 (F := Ideal) (k0_pay21 (Scalar.muli (BitVec.ofNat 32 T) 512#32)) 8#32 (co2 u0) (co2 u1) (co2 u2) (co2 u3) (co2 u4) (co2 u5) (co2 u6) (co2 u7) = co2 fun r k => (u0 r k + u1 r k + u2 r k + u3 r k + u4 r k + u5 r k + u6 r k + u7 r k) * cnt 8 (512 * T + r) - u0 r k := by
  refine ext2 fun i k => ?_
  pointwise [k0_pay22, k0_pay21, k0_pay18]
  have h := inv_cnt _ _ (by omega) (cnt_int T i.val 8 hT i.isLt (by decide))
  refine (congrArg (fun v : EReal => _ * v - _) h).trans ?_
  simp only [co2_at, co3_at, ← EReal.coe_mul, coe_sum, ← EReal.coe_add, ← EReal.coe_sub]
  rfl

theorem pool3 (T : ℕ) (hT : T < 8) (u0 u1 u2 u3 u4 u5 u6 u7 u8 u9 u10 u11 u12 u13 u14 u15 : ℕ → ℕ → ℝ) : k0_pay25 (F := Ideal) (k0_pay23 (k0_pay18 (Scalar.muli (BitVec.ofNat 32 T) 512#32))) (co2 u0) (k0_pay24 (co2 u0) (co2 u1)) (co2 u2) (co2 u3) (co2 u4) (co2 u5) (co2 u6) (co2 u7) (co2 u8) (co2 u9) (co2 u10) (co2 u11) (co2 u12) (co2 u13) (co2 u14) (co2 u15) = co2 fun r k => (u0 r k + u1 r k + u2 r k + u3 r k + u4 r k + u5 r k + u6 r k + u7 r k + u8 r k + u9 r k + u10 r k + u11 r k + u12 r k + u13 r k + u14 r k + u15 r k) * cnt 16 (512 * T + r) - u0 r k := by
  refine ext2 fun i k => ?_
  pointwise [k0_pay25, k0_pay24, k0_pay23, k0_pay18]
  have h := inv_cnt _ _ (by omega) (cnt_int T i.val 16 hT i.isLt (by decide))
  refine (congrArg (fun v : EReal => _ * v - _) h).trans ?_
  simp only [co2_at, co3_at, ← EReal.coe_mul, coe_sum, ← EReal.coe_add, ← EReal.coe_sub]
  rfl

theorem pay28 : k0_pay28 (F := Ideal) (co2 a) = co2 a := by
  refine ext2 fun i k => ?_
  pointwise [k0_pay28]

theorem pay30 : k0_pay30 (F := Ideal) (co2 a) = co2 a := by
  refine ext2 fun i k => ?_
  pointwise [k0_pay30]

theorem pay32 : k0_pay32 (F := Ideal) (co2 a) = co2 a := by
  refine ext2 fun i k => ?_
  pointwise [k0_pay32]

theorem pay34 : k0_pay34 (F := Ideal) (co2 a) = co2 a := by
  refine ext2 fun i k => ?_
  pointwise [k0_pay34]

theorem pay29 : k0_pay29 (F := Ideal) (co2 a) (co3 w) (co2 b) = co2 fun r k => (∑ j : Fin 128, a r j.val * w 0 j.val k) * b 0 k := by
  refine ext2 fun i k => ?_
  pointwise [k0_pay29, k0_pay28]
  simp only [co2_at, co3_at, ← EReal.coe_mul, coe_sum, ← EReal.coe_add, ← EReal.coe_sub]
  rfl

theorem pay31 : k0_pay31 (F := Ideal) (co2 a) (co3 w) (co2 b) = co2 fun r k => (∑ j : Fin 128, a r j.val * w 0 j.val k) * b 0 k := by
  refine ext2 fun i k => ?_
  pointwise [k0_pay31, k0_pay30]
  simp only [co2_at, co3_at, ← EReal.coe_mul, coe_sum, ← EReal.coe_add, ← EReal.coe_sub]
  rfl

theorem pay35 : k0_pay35 (F := Ideal) (co2 a) (co3 w) (co2 b) = co2 fun r k => (∑ j : Fin 128, a r j.val * w 0 j.val k) * b 0 k := by
  refine ext2 fun i k => ?_
  pointwise [k0_pay35, k0_pay34]
  simp only [co2_at, co3_at, ← EReal.coe_mul, coe_sum, ← EReal.coe_add, ← EReal.coe_sub]
  rfl

theorem pay33 : k0_pay33 (F := Ideal) (k0_pay32 (co2 a)) (co3 w) (co2 b) = co2 fun r k => (∑ j : Fin 128, a r j.val * w 0 j.val k) * b 0 k := by
  refine ext2 fun i k => ?_
  pointwise [k0_pay33, k0_pay32]
  simp only [co2_at, co3_at, ← EReal.coe_mul, coe_sum, ← EReal.coe_add, ← EReal.coe_sub]
  rfl

theorem pay36 : k0_pay36 (F := Ideal) (co2 a) (co2 b) (co2 c) = co2 fun r k => a r k + ∑ j : Fin 1024, b r j.val * c j.val k := by
  refine ext2 fun i k => ?_
  pointwise [k0_pay36]
  simp only [co2_at, co3_at, ← EReal.coe_mul, coe_sum, ← EReal.coe_add, ← EReal.coe_sub]

theorem pay1 (x : Vec Ideal S16x2048 .f32) : k0_pay1 (F := Ideal) x = x := by
  refine ext2 fun i k => ?_
  pointwise [k0_pay1]

theorem pay2 : k0_pay2 (F := Ideal) = co2 fun r k => 0 := by
  refine ext2 fun i k => ?_
  pointwise [k0_pay2]
  simp only [co2_at, co3_at, ← EReal.coe_mul, coe_sum, ← EReal.coe_add, ← EReal.coe_sub]
  rfl

end Cert.Proof.MfPay

end
-- ==== Proof.MfPoint.lean ====
module

public import proofs.«01_k».proof.Proof.MfPay
public import proofs.«01_k».proof.Proof.MixHost
@[expose] public section
/-! # One point of the forward mixer over the reals

The scratch's rows 16 to 527 are the tile's projections, the 16 rows above them the last rows of the tile before; so the rows
a window takes are consecutive rows of the whole. -/

set_option maxRecDepth 16384

noncomputable section

namespace MfPoint

open Cert.MixFwdIdeal Cert.MixFwdIdeal.Gen Idealize.ShloMosaic Idealize.ShloMosaic.TcCoe
open Idealize.ShloMosaic.VecWindow (window put)
open Cert.Proof.Reals Cert.Proof.Cols Cert.Proof.MixPay Cert.Proof.MfPay Cert.Proof.MixHost MixReal MfStep
open MixPoint (window_co2 window_co3 put_co2 co2_congr co3_congr)

/-- The sum of the last `w` rows up to row `r`, rows before the first counting as zero. -/
theorem win_sum (V : D) (w r c : ℕ) (hw : w ≤ 16) : ∑ j ∈ Finset.range w, V.pb (r + 16 - j) c
    = ∑ s ∈ Finset.range (r + 1), V.P s c - if r < w then 0 else ∑ s ∈ Finset.range (r - w + 1), V.P s c := by
  induction w with
  | zero => rw [Finset.sum_range_zero, if_neg (Nat.not_lt_zero r), Nat.sub_zero, sub_self]
  | succ w ih =>
    rw [Finset.sum_range_succ, ih (by omega)]
    rcases Nat.lt_trichotomy r w with h | h | h
    · rw [if_pos h, if_pos (by omega), D.pb, if_neg (by omega), add_zero]
    · subst h
      rw [if_neg (Nat.lt_irrefl r), if_pos (Nat.lt_succ_self r), D.pb, if_pos (by omega), show r + 16 - r - 16 = 0 by omega, Nat.sub_self,
        Finset.sum_range_one, sub_zero, sub_add_cancel]
    · rw [if_neg (by omega), if_neg (by omega), D.pb, if_pos (by omega), show r + 16 - w - 16 = r - w by omega,
        Finset.sum_range_succ _ (r - w), show r - (w + 1) + 1 = r - w by omega]
      ring

/-- The normed rows, -/
def nh (I : Inp) (r k : ℕ) : ℝ := I.x r k * scale (row I.x r) * I.g k
/-- and the layer's output. -/
def out (I : Inp) (r k : ℕ) : ℝ := I.x r k + ∑ c : Fin 1024, I.V.cat r c.val * I.wo c.val k

/-- The point of tile `T`: what it reads. -/
structure At (I : Inp) (T : ℕ) (J : In Ideal) : Prop where
  lt : T < 8
  tile : J.tile = BitVec.ofNat 32 T
  x : J.x = co2 fun r k => I.x (512 * T + r) k
  g : J.g = co2 fun _ k => I.g k
  win : J.win = co3 fun b k c => I.win k (256 * b + c)
  cw : J.cw = co2 I.cw
  pw : J.pw = co3 I.pw
  ps : J.ps = co2 fun _ k => I.ps k
  wo : J.wo = co2 I.wo
  base : ∀ z : S528x2048.Idx, (z 0).val < 16 → J.base z = ((I.V.pb (512 * T + (z 0).val) (z 1).val : ℝ) : EReal)

section
variable {I : Inp} {T : ℕ} {J : In Ideal} (H : At I T J)
include H

theorem hb_eq : hb J = co2 fun r k => nh I (512 * T + r) k := by
  rw [hb, H.x, H.g, Cert.Proof.MfPay.pay3]; rfl

theorem pay3_eq : k0_pay3 (F := Ideal) J.x J.g = co2 fun r k => nh I (512 * T + r) k := hb_eq H

/-! ## The scratch -/

theorem slab0 : k0_pay4 J.x J.g (window J.win ![0, 0, 0] S1x1024x256.size inb_S8x1024x256_S1x1024x256_0_0_0) = co2 fun r k => I.P (512 * T + r) (0 + k) := by
  rw [H.win, window_co3]
  exact pay4 _ _ _ _ (pay3_eq H)

theorem slab1 : k0_pay5 J.x J.g (window J.win ![1, 0, 0] S1x1024x256.size inb_S8x1024x256_S1x1024x256_1_0_0) = co2 fun r k => I.P (512 * T + r) (256 + k) := by
  rw [H.win, window_co3]
  exact pay5 _ _ _ _ (pay3_eq H)

theorem slab2 : k0_pay6 (hb J) (window J.win ![2, 0, 0] S1x1024x256.size inb_S8x1024x256_S1x1024x256_2_0_0) = co2 fun r k => I.P (512 * T + r) (512 + k) := by
  rw [H.win, window_co3]
  exact (congrArg (fun v => k0_pay6 (F := Ideal) v _) (hb_eq H)).trans (pay6 _ _)

theorem slab3 : k0_pay7 (hb J) (window J.win ![3, 0, 0] S1x1024x256.size inb_S8x1024x256_S1x1024x256_3_0_0) = co2 fun r k => I.P (512 * T + r) (768 + k) := by
  rw [H.win, window_co3]
  exact (congrArg (fun v => k0_pay7 (F := Ideal) v _) (hb_eq H)).trans (pay7 _ _)

theorem slab4 : k0_pay8 (hb J) (window J.win ![4, 0, 0] S1x1024x256.size inb_S8x1024x256_S1x1024x256_4_0_0) = co2 fun r k => I.P (512 * T + r) (1024 + k) := by
  rw [H.win, window_co3]
  exact (congrArg (fun v => k0_pay8 (F := Ideal) v _) (hb_eq H)).trans (pay8 _ _)

theorem slab5 : k0_pay9 (hb J) (window J.win ![5, 0, 0] S1x1024x256.size inb_S8x1024x256_S1x1024x256_5_0_0) = co2 fun r k => I.P (512 * T + r) (1280 + k) := by
  rw [H.win, window_co3]
  exact (congrArg (fun v => k0_pay9 (F := Ideal) v _) (hb_eq H)).trans (pay9 _ _)

theorem slab6 : k0_pay11 (k0_pay10 (hb J) (window J.win ![6, 0, 0] S1x1024x256.size inb_S8x1024x256_S1x1024x256_6_0_0)) = co2 fun r k => I.P (512 * T + r) (1536 + k) := by
  rw [H.win, window_co3]
  exact (congrArg (fun v => k0_pay11 (F := Ideal) (k0_pay10 v _)) (hb_eq H)).trans (pay11 _ _)

theorem slab7 : k0_pay12 (hb J) (window J.win ![7, 0, 0] S1x1024x256.size inb_S8x1024x256_S1x1024x256_7_0_0) = co2 fun r k => I.P (512 * T + r) (1792 + k) := by
  rw [H.win, window_co3]
  exact (congrArg (fun v => k0_pay12 (F := Ideal) v _) (hb_eq H)).trans (pay12 _ _)

/-- From the seventeenth row on the scratch holds the tile's projections, -/
theorem ext_hi (b : Vec Ideal S528x2048 .f32) (z : S528x2048.Idx) (h : 16 ≤ (z 0).val) : ext J b z = ((I.V.pb (512 * T + (z 0).val) (z 1).val : ℝ) : EReal) := by
  have h0 : (z 0).val < 528 := (z 0).isLt
  have h1 : (z 1).val < 2048 := (z 1).isLt
  rw [ext, slab0 H, slab1 H, slab2 H, slab3 H, slab4 H, slab5 H, slab6 H, slab7 H]
  rw [put_co2, put_co2, put_co2, put_co2, put_co2, put_co2, put_co2, put_co2]
  have e : ∀ a, 256 * 0 + a ≤ (z 1).val → I.V.pb (512 * T + (z 0).val) (z 1).val = I.P (512 * T + ((z 0).val - 16)) (a + ((z 1).val - a)) := fun a ha => by
    rw [show 512 * T + (z 0).val = 512 * T + ((z 0).val - 16) + 16 by omega, D.pb_16, show a + ((z 1).val - a) = (z 1).val by omega]; rfl
  split_ifs with a7 a6 a5 a4 a3 a2 a1 a0
  · exact congrArg _ (e 1792 (by omega)).symm
  · exact congrArg _ (e 1536 (by omega)).symm
  · exact congrArg _ (e 1280 (by omega)).symm
  · exact congrArg _ (e 1024 (by omega)).symm
  · exact congrArg _ (e 768 (by omega)).symm
  · exact congrArg _ (e 512 (by omega)).symm
  · exact congrArg _ (e 256 (by omega)).symm
  · exact congrArg _ (e 0 (by omega)).symm
  · exfalso; omega

/-- and above them what it held. -/
theorem ext_lo (b : Vec Ideal S528x2048 .f32) (z : S528x2048.Idx) (h : (z 0).val < 16) : ext J b z = b z := by
  rw [ext, slab0 H, slab1 H, slab2 H, slab3 H, slab4 H, slab5 H, slab6 H, slab7 H]
  rw [put_co2, put_co2, put_co2, put_co2, put_co2, put_co2, put_co2, put_co2]
  rw [if_neg (by omega), if_neg (by omega), if_neg (by omega), if_neg (by omega), if_neg (by omega), if_neg (by omega), if_neg (by omega), if_neg (by omega)]

theorem ext_base : ext J J.base = co2 fun r k => I.V.pb (512 * T + r) k := by
  funext z
  by_cases h : (z 0).val < 16
  · exact (ext_lo H _ z h).trans (H.base z h)
  · exact ext_hi H _ z (by omega)

theorem win_b {o0 o1 s0 s1 : ℕ} (inb : ∀ a, (![o0, o1] : Fin 2 → ℕ) a + (![s0, s1] : Fin 2 → ℕ) a ≤ S528x2048.size a) :
    window (ext J J.base) ![o0, o1] ![s0, s1] inb = co2 fun r k => I.V.pb (512 * T + (o0 + r)) (o1 + k) := by
  rw [ext_base H]; exact window_co2 _ inb

theorem win_u (b : Vec Ideal S528x2048 .f32) {o0 o1 s0 s1 : ℕ} (h : 16 ≤ o0) (inb : ∀ a, (![o0, o1] : Fin 2 → ℕ) a + (![s0, s1] : Fin 2 → ℕ) a ≤ S528x2048.size a) :
    window (ext J b) ![o0, o1] ![s0, s1] inb = co2 fun r k => I.V.pb (512 * T + (o0 + r)) (o1 + k) := by
  have e : window (ext J b) ![o0, o1] ![s0, s1] inb = window (co2 fun r k => I.V.pb (512 * T + r) k) ![o0, o1] ![s0, s1] inb :=
    funext fun y => ext_hi H b _ (by show 16 ≤ o0 + 1 * _; omega)
  exact e.trans (window_co2 _ inb)

omit H in
theorem row_16 (V : D) (T r c : ℕ) : V.pb (512 * T + (16 + r)) c = V.P (512 * T + r) c := by
  rw [show 512 * T + (16 + r) = 512 * T + r + 16 by omega, D.pb_16]

theorem proj_eq : window (ext J J.ubase) ![16, 0] S512x2048.size inb_S528x2048_S512x2048_16_0 = co2 fun r k => I.P (512 * T + r) k :=
  (win_u H _ (by decide) _).trans (co2_congr fun r k _ _ => by rw [row_16, Nat.zero_add]; rfl)

theorem left_eq (z : S528x2048.Idx) (h : (z 0).val < 16) : left J z = ((I.V.pb (512 * (T + 1) + (z 0).val) (z 1).val : ℝ) : EReal) := by
  have h1 : (z 1).val < 2048 := (z 1).isLt
  have e : k0_pay1 (F := Ideal) (window (ext J J.ubase) ![512, 0] S16x2048.size inb_S528x2048_S16x2048_512_0) = co2 fun r k => I.V.pb (512 * T + (512 + r)) (0 + k) :=
    (pay1 _).trans (win_u H _ (by decide) _)
  rw [left, e, put_co2, if_pos (by omega), show 512 * T + (512 + ((z 0).val - 0)) = 512 * (T + 1) + (z 0).val by omega, show 0 + ((z 1).val - 0) = (z 1).val by omega]

/-! ## The convolution -/

theorem conv_eq : conv J = co2 fun r k => I.V.conv (512 * T + r) k := by
  have e0 : window (ext J J.base) ![14, 1024] S512x512.size inb_S528x2048_S512x512_14_1024 = _ := win_b H _
  have e1 : window (ext J J.base) ![14, 0] S512x512.size inb_S528x2048_S512x512_14_0 = _ := win_b H _
  have e2 : window (ext J J.ubase) ![16, 0] S512x512.size inb_S528x2048_S512x512_16_0 = _ := win_u H _ (by decide) _
  have e3 : window (ext J J.ubase) ![16, 1024] S512x512.size inb_S528x2048_S512x512_16_1024 = _ := win_u H _ (by decide) _
  have e4 : window (ext J J.base) ![15, 1024] S512x512.size inb_S528x2048_S512x512_15_1024 = _ := win_b H _
  have e5 : window (ext J J.base) ![15, 0] S512x512.size inb_S528x2048_S512x512_15_0 = _ := win_b H _
  rw [conv, H.cw, e0, e1, e2, e3, e4, e5, conv_pay]
  refine co2_congr fun r k _ _ => ?_
  rw [D.conv, D.z, D.z, D.z]
  simp only [Nat.zero_add, show ∀ n, 512 * T + (n + r) = 512 * T + r + n from fun n => by omega]
  rfl

/-! ## The pooled rows -/

omit H in
theorem pool_of (w q r k : ℕ) (hw : w ≤ 16) : (∑ j ∈ Finset.range w, I.V.pb (r + 16 - j) (1536 + (q * 128 + k))) * cnt w r - I.P r (1536 + (q * 128 + k))
    = Cert.Proof.MixPool.pool I.C I.p w q r k := by
  rw [win_sum _ _ _ _ hw, cnt, mul_one_div]
  rfl

theorem p0_eq : p0 J = co2 fun r k => I.V.pl (512 * T + r) (0 + k) := by
  have e0 : window (ext J J.ubase) ![16, 1536] S512x128.size inb_S528x2048_S512x128_16_1536 = _ := win_u H _ (by decide) _
  have e1 : window (ext J J.base) ![15, 1536] S512x128.size inb_S528x2048_S512x128_15_1536 = _ := win_b H _
  rw [p0, row0, H.tile, e0, e1, pool0 T H.lt]
  refine co2_congr fun r k hr hk => ?_
  rw [show I.V.pl (512 * T + r) (0 + k) = _ from I.pl_eq 0 (512 * T + r) k hk]
  refine Eq.trans ?_ (pool_of 2 0 (512 * T + r) k (by decide))
  simp only [Finset.sum_range_succ, Finset.sum_range_zero, zero_add]
  rw [show 512 * T + (16 + r) = 512 * T + r + 16 - 0 by omega, show 512 * T + (15 + r) = 512 * T + r + 16 - 1 by omega, show 1536 + k = 1536 + (0 * 128 + k) by omega]
  exact congrArg₂ (fun u v : ℝ => u - v) rfl (I.V.pb_16 _ _)

theorem p1_eq : p1 J = co2 fun r k => I.V.pl (512 * T + r) (128 + k) := by
  have e0 : window (ext J J.ubase) ![16, 1664] S512x128.size inb_S528x2048_S512x128_16_1664 = _ := win_u H _ (by decide) _
  have e1 : window (ext J J.base) ![15, 1664] S512x128.size inb_S528x2048_S512x128_15_1664 = _ := win_b H _
  have e2 : window (ext J J.base) ![14, 1664] S512x128.size inb_S528x2048_S512x128_14_1664 = _ := win_b H _
  have e3 : window (ext J J.base) ![13, 1664] S512x128.size inb_S528x2048_S512x128_13_1664 = _ := win_b H _
  rw [p1, row0, H.tile, e0, e1, e2, e3, pool1 T H.lt]
  refine co2_congr fun r k hr hk => ?_
  rw [show I.V.pl (512 * T + r) (128 + k) = _ from I.pl_eq 1 (512 * T + r) k hk]
  refine Eq.trans ?_ (pool_of 4 1 (512 * T + r) k (by decide))
  simp only [Finset.sum_range_succ, Finset.sum_range_zero, zero_add]
  rw [show 512 * T + (16 + r) = 512 * T + r + 16 - 0 by omega, show 512 * T + (15 + r) = 512 * T + r + 16 - 1 by omega, show 512 * T + (14 + r) = 512 * T + r + 16 - 2 by omega, show 512 * T + (13 + r) = 512 * T + r + 16 - 3 by omega, show 1664 + k = 1536 + (1 * 128 + k) by omega]
  exact congrArg₂ (fun u v : ℝ => u - v) rfl (I.V.pb_16 _ _)

theorem p2_eq : p2 J = co2 fun r k => I.V.pl (512 * T + r) (256 + k) := by
  have e0 : window (ext J J.ubase) ![16, 1792] S512x128.size inb_S528x2048_S512x128_16_1792 = _ := win_u H _ (by decide) _
  have e1 : window (ext J J.base) ![15, 1792] S512x128.size inb_S528x2048_S512x128_15_1792 = _ := win_b H _
  have e2 : window (ext J J.base) ![14, 1792] S512x128.size inb_S528x2048_S512x128_14_1792 = _ := win_b H _
  have e3 : window (ext J J.base) ![13, 1792] S512x128.size inb_S528x2048_S512x128_13_1792 = _ := win_b H _
  have e4 : window (ext J J.base) ![12, 1792] S512x128.size inb_S528x2048_S512x128_12_1792 = _ := win_b H _
  have e5 : window (ext J J.base) ![11, 1792] S512x128.size inb_S528x2048_S512x128_11_1792 = _ := win_b H _
  have e6 : window (ext J J.base) ![10, 1792] S512x128.size inb_S528x2048_S512x128_10_1792 = _ := win_b H _
  have e7 : window (ext J J.base) ![9, 1792] S512x128.size inb_S528x2048_S512x128_9_1792 = _ := win_b H _
  rw [p2, row0, H.tile, e0, e1, e2, e3, e4, e5, e6, e7, pool2 T H.lt]
  refine co2_congr fun r k hr hk => ?_
  rw [show I.V.pl (512 * T + r) (256 + k) = _ from I.pl_eq 2 (512 * T + r) k hk]
  refine Eq.trans ?_ (pool_of 8 2 (512 * T + r) k (by decide))
  simp only [Finset.sum_range_succ, Finset.sum_range_zero, zero_add]
  rw [show 512 * T + (16 + r) = 512 * T + r + 16 - 0 by omega, show 512 * T + (15 + r) = 512 * T + r + 16 - 1 by omega, show 512 * T + (14 + r) = 512 * T + r + 16 - 2 by omega, show 512 * T + (13 + r) = 512 * T + r + 16 - 3 by omega, show 512 * T + (12 + r) = 512 * T + r + 16 - 4 by omega, show 512 * T + (11 + r) = 512 * T + r + 16 - 5 by omega, show 512 * T + (10 + r) = 512 * T + r + 16 - 6 by omega, show 512 * T + (9 + r) = 512 * T + r + 16 - 7 by omega, show 1792 + k = 1536 + (2 * 128 + k) by omega]
  exact congrArg₂ (fun u v : ℝ => u - v) rfl (I.V.pb_16 _ _)

theorem p3_eq : p3 J = co2 fun r k => I.V.pl (512 * T + r) (384 + k) := by
  have e0 : window (ext J J.ubase) ![16, 1920] S512x128.size inb_S528x2048_S512x128_16_1920 = _ := win_u H _ (by decide) _
  have e1 : window (ext J J.base) ![15, 1920] S512x128.size inb_S528x2048_S512x128_15_1920 = _ := win_b H _
  have e2 : window (ext J J.base) ![14, 1920] S512x128.size inb_S528x2048_S512x128_14_1920 = _ := win_b H _
  have e3 : window (ext J J.base) ![13, 1920] S512x128.size inb_S528x2048_S512x128_13_1920 = _ := win_b H _
  have e4 : window (ext J J.base) ![12, 1920] S512x128.size inb_S528x2048_S512x128_12_1920 = _ := win_b H _
  have e5 : window (ext J J.base) ![11, 1920] S512x128.size inb_S528x2048_S512x128_11_1920 = _ := win_b H _
  have e6 : window (ext J J.base) ![10, 1920] S512x128.size inb_S528x2048_S512x128_10_1920 = _ := win_b H _
  have e7 : window (ext J J.base) ![9, 1920] S512x128.size inb_S528x2048_S512x128_9_1920 = _ := win_b H _
  have e8 : window (ext J J.base) ![8, 1920] S512x128.size inb_S528x2048_S512x128_8_1920 = _ := win_b H _
  have e9 : window (ext J J.base) ![7, 1920] S512x128.size inb_S528x2048_S512x128_7_1920 = _ := win_b H _
  have e10 : window (ext J J.base) ![6, 1920] S512x128.size inb_S528x2048_S512x128_6_1920 = _ := win_b H _
  have e11 : window (ext J J.base) ![5, 1920] S512x128.size inb_S528x2048_S512x128_5_1920 = _ := win_b H _
  have e12 : window (ext J J.base) ![4, 1920] S512x128.size inb_S528x2048_S512x128_4_1920 = _ := win_b H _
  have e13 : window (ext J J.base) ![3, 1920] S512x128.size inb_S528x2048_S512x128_3_1920 = _ := win_b H _
  have e14 : window (ext J J.base) ![2, 1920] S512x128.size inb_S528x2048_S512x128_2_1920 = _ := win_b H _
  have e15 : window (ext J J.base) ![1, 1920] S512x128.size inb_S528x2048_S512x128_1_1920 = _ := win_b H _
  rw [p3, row0, H.tile, e0, e1, e2, e3, e4, e5, e6, e7, e8, e9, e10, e11, e12, e13, e14, e15, pool3 T H.lt]
  refine co2_congr fun r k hr hk => ?_
  rw [show I.V.pl (512 * T + r) (384 + k) = _ from I.pl_eq 3 (512 * T + r) k hk]
  refine Eq.trans ?_ (pool_of 16 3 (512 * T + r) k (by decide))
  simp only [Finset.sum_range_succ, Finset.sum_range_zero, zero_add]
  rw [show 512 * T + (16 + r) = 512 * T + r + 16 - 0 by omega, show 512 * T + (15 + r) = 512 * T + r + 16 - 1 by omega, show 512 * T + (14 + r) = 512 * T + r + 16 - 2 by omega, show 512 * T + (13 + r) = 512 * T + r + 16 - 3 by omega, show 512 * T + (12 + r) = 512 * T + r + 16 - 4 by omega, show 512 * T + (11 + r) = 512 * T + r + 16 - 5 by omega, show 512 * T + (10 + r) = 512 * T + r + 16 - 6 by omega, show 512 * T + (9 + r) = 512 * T + r + 16 - 7 by omega, show 512 * T + (8 + r) = 512 * T + r + 16 - 8 by omega, show 512 * T + (7 + r) = 512 * T + r + 16 - 9 by omega, show 512 * T + (6 + r) = 512 * T + r + 16 - 10 by omega, show 512 * T + (5 + r) = 512 * T + r + 16 - 11 by omega, show 512 * T + (4 + r) = 512 * T + r + 16 - 12 by omega, show 512 * T + (3 + r) = 512 * T + r + 16 - 13 by omega, show 512 * T + (2 + r) = 512 * T + r + 16 - 14 by omega, show 512 * T + (1 + r) = 512 * T + r + 16 - 15 by omega, show 1920 + k = 1536 + (3 * 128 + k) by omega]
  exact congrArg₂ (fun u v : ℝ => u - v) rfl (I.V.pb_16 _ _)

/-! ## The results -/

theorem pooled_eq : pooled J = co2 fun r k => I.V.pl (512 * T + r) k := by
  have q0 : k0_pay28 (p0 J) = co2 fun r k => I.V.pl (512 * T + r) (0 + k) := by rw [p0_eq H, Cert.Proof.MfPay.pay28]
  have q1 : k0_pay30 (p1 J) = co2 fun r k => I.V.pl (512 * T + r) (128 + k) := by rw [p1_eq H, Cert.Proof.MfPay.pay30]
  have q2 : k0_pay32 (p2 J) = co2 fun r k => I.V.pl (512 * T + r) (256 + k) := by rw [p2_eq H, Cert.Proof.MfPay.pay32]
  have q3 : k0_pay34 (p3 J) = co2 fun r k => I.V.pl (512 * T + r) (384 + k) := by rw [p3_eq H, Cert.Proof.MfPay.pay34]
  funext z
  have h0 : (z 0).val < 512 := (z 0).isLt
  have h1 : (z 1).val < 512 := (z 1).isLt
  rw [pooled, q0, q1, q2, q3, put_co2, put_co2, put_co2, put_co2]
  have e : ∀ a, a ≤ (z 1).val → I.V.pl (512 * T + ((z 0).val - 0)) (a + ((z 1).val - a)) = I.V.pl (512 * T + (z 0).val) (z 1).val := fun a ha => by
    rw [Nat.sub_zero, show a + ((z 1).val - a) = (z 1).val by omega]
  split_ifs with a3 a2 a1 a0
  · exact congrArg _ (e 384 (by omega))
  · exact congrArg _ (e 256 (by omega))
  · exact congrArg _ (e 128 (by omega))
  · exact congrArg _ (e 0 (by omega))
  · exfalso; omega

omit H in
theorem cat_at (V : D) (q r c : ℕ) (h : 512 + 128 * q ≤ c) (h' : c < 512 + 128 * q + 128) :
    (∑ j : Fin 128, V.pl r (128 * q + j.val) * V.pw q j.val (c - (512 + 128 * q))) * V.ps (128 * q + (c - (512 + 128 * q))) = V.cat r c := by
  obtain ⟨k, rfl⟩ := Nat.exists_eq_add_of_le h
  rw [Nat.add_sub_cancel_left, D.cat_pool _ _ _ _ (by omega)]; rfl

theorem cat_eq : cat J = co2 fun r k => I.V.cat (512 * T + r) k := by
  have e : window (ext J J.ubase) ![16, 512] S512x512.size inb_S528x2048_S512x512_16_512 = _ := win_u H _ (by decide) _
  have c0 : k0_pay27 (k0_pay26 (window (ext J J.ubase) ![16, 512] S512x512.size inb_S528x2048_S512x512_16_512) (conv J))
      = co2 fun r k => I.V.P (512 * T + r) (512 + k) * I.V.conv (512 * T + r) k := by
    rw [e, conv_eq H, gate_pay]
    exact co2_congr fun r k _ _ => by rw [row_16]
  have q0 : k0_pay29 (p0 J) (window J.pw ![0, 0, 0] S1x128x128.size inb_S4x128x128_S1x128x128_0_0_0) (window J.ps ![0, 0] S1x128.size inb_S1x512_S1x128_0_0)
      = co2 fun r k => (∑ j : Fin 128, I.V.pl (512 * T + r) (0 + j.val) * I.V.pw 0 j.val k) * I.V.ps (0 + k) := by
    rw [H.pw, H.ps, window_co3, window_co2, p0_eq H, Cert.Proof.MfPay.pay29]; rfl
  have q1 : k0_pay31 (p1 J) (window J.pw ![1, 0, 0] S1x128x128.size inb_S4x128x128_S1x128x128_1_0_0) (window J.ps ![0, 128] S1x128.size inb_S1x512_S1x128_0_128)
      = co2 fun r k => (∑ j : Fin 128, I.V.pl (512 * T + r) (128 + j.val) * I.V.pw 1 j.val k) * I.V.ps (128 + k) := by
    rw [H.pw, H.ps, window_co3, window_co2, p1_eq H, Cert.Proof.MfPay.pay31]; rfl
  have q2 : k0_pay33 (k0_pay32 (p2 J)) (window J.pw ![2, 0, 0] S1x128x128.size inb_S4x128x128_S1x128x128_2_0_0) (window J.ps ![0, 256] S1x128.size inb_S1x512_S1x128_0_256)
      = co2 fun r k => (∑ j : Fin 128, I.V.pl (512 * T + r) (256 + j.val) * I.V.pw 2 j.val k) * I.V.ps (256 + k) := by
    rw [H.pw, H.ps, window_co3, window_co2, p2_eq H, Cert.Proof.MfPay.pay33]; rfl
  have q3 : k0_pay35 (p3 J) (window J.pw ![3, 0, 0] S1x128x128.size inb_S4x128x128_S1x128x128_3_0_0) (window J.ps ![0, 384] S1x128.size inb_S1x512_S1x128_0_384)
      = co2 fun r k => (∑ j : Fin 128, I.V.pl (512 * T + r) (384 + j.val) * I.V.pw 3 j.val k) * I.V.ps (384 + k) := by
    rw [H.pw, H.ps, window_co3, window_co2, p3_eq H, Cert.Proof.MfPay.pay35]; rfl
  funext z
  have h0 : (z 0).val < 512 := (z 0).isLt
  have h1 : (z 1).val < 1024 := (z 1).isLt
  rw [cat, c0, q0, q1, q2, q3, put_co2, put_co2, put_co2, put_co2, put_co2]
  rw [Nat.sub_zero]
  split_ifs with a3 a2 a1 a0 a
  · exact congrArg _ (cat_at I.V 3 _ _ (by omega) (by omega))
  · exact congrArg _ (cat_at I.V 2 _ _ (by omega) (by omega))
  · exact congrArg _ (cat_at I.V 1 _ _ (by omega) (by omega))
  · exact congrArg _ (cat_at I.V 0 _ _ (by omega) (by omega))
  · exact congrArg _ (I.V.cat_conv _ _ (by omega)).symm
  · exfalso; omega

theorem out_eq : k0_pay36 (F := Ideal) J.x (cat J) J.wo = co2 fun r k => out I (512 * T + r) k := by
  rw [H.x, cat_eq H, H.wo, Cert.Proof.MfPay.pay36]; rfl

end

end MfPoint

end
-- ==== Proof.MfKernel.lean ====
module

public import proofs.«01_k».proof.Proof.MfPoint
public import Idealize.ShloMosaic.Lib.Pipeline.ValueKit
public import Idealize.ShloMosaic.Lib.Pipeline.ReadBack
public import Idealize.ShloMosaic.Lib.StableHlo.ReadAt
@[expose] public section
/-! # The forward mixer's kernel over all its points

The points take the tiles of 512 rows from the first on; each leaves the last rows of its tile's projections for the next. -/

set_option maxRecDepth 16384

noncomputable section

namespace Cert.Proof.MfKernel

open Cert.MixFwdIdeal Cert.MixFwdIdeal.Gen Cert.MixFwdIdeal.Value Idealize.ShloMosaic Idealize.ShloMosaic.TcCoe Idealize.SL.Sem
open Idealize.ShloMosaic.VecWindow (window put)
open MfStep MfPoint
open Cert.Proof.Reals Cert.Proof.Cols Cert.Proof.MixPay Cert.Proof.MfPay MixReal
open Cert.Proof.MixHost (Inp)
open MixPoint (put_co2 co2_congr)

variable (m : (ℓ : Loc nD τ sig) → Buf (Elt Ideal) ℓ) (c : Dev nD)

abbrev argX : S4096x1024.Idx → EReal := m ((c : Thread nD τ).loc main_arg0)
abbrev argG : S1x1024.Idx → EReal := m ((c : Thread nD τ).loc main_arg1)
abbrev argWin : S1x1024x2048.Idx → EReal := m ((c : Thread nD τ).loc main_arg2)
abbrev argCw : S1x3x512.Idx → EReal := m ((c : Thread nD τ).loc main_arg3)
abbrev argPw : S1x4x128x128.Idx → EReal := m ((c : Thread nD τ).loc main_arg4)
abbrev argPs : S1x512.Idx → EReal := m ((c : Thread nD τ).loc main_arg5)
abbrev argWo : S1x1024x1024.Idx → EReal := m ((c : Thread nD τ).loc main_arg6)

/-- The precondition makes the arguments arrays of reals. -/
structure Args (I : Inp) : Prop where
  x : argX m c = fun i => ((I.x (i 0).val (i 1).val : ℝ) : EReal)
  g : argG m c = fun i => ((I.g (i 1).val : ℝ) : EReal)
  win : argWin m c = fun i => ((I.win (i 1).val (i 2).val : ℝ) : EReal)
  cw : argCw m c = fun i => ((I.cw (i 1).val (i 2).val : ℝ) : EReal)
  pw : argPw m c = fun i => ((I.pw (i 1).val (i 2).val (i 3).val : ℝ) : EReal)
  ps : argPs m c = fun i => ((I.ps (i 1).val : ℝ) : EReal)
  wo : argWo m c = fun i => ((I.wo (i 1).val (i 2).val : ℝ) : EReal)

/-! ## The blocks -/

/-- Row `r` of tile `T`. -/
def trow {T : ℕ} (h : T < 8) (r : Fin 512) : Fin 4096 := ⟨512 * T + r.val, by omega⟩
theorem idx3_eq {n0 n1 n2 : Nat} (f : (⟨3, ![n0, n1, n2]⟩ : Shape).Idx) (a : Fin n0) (b : Fin n1) (d : Fin n2) (h0 : (f 0).val = a.val) (h1 : (f 1).val = b.val)
    (h2 : (f 2).val = d.val) : f = ix3 a b d :=
  funext fun k => Fin.ext (match k with | ⟨0, _⟩ => h0 | ⟨1, _⟩ => h1 | ⟨2, _⟩ => h2)

theorem index_rows : ∀ t : Fin cfg0.N, (win0_0.index t 0 = t.val ∧ win0_0.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0) :=
  (by decide +kernel : ∀ t : Fin grid0.N, (win0_0.index t 0 = t.val ∧ win0_0.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0))

theorem index_whole : ∀ t : Fin cfg0.N, (win0_1.index t 0 = 0 ∧ win0_1.index t 1 = 0)
    ∧ (win0_3.index t 0 = 0 ∧ win0_3.index t 1 = 0)
    ∧ (win0_5.index t 0 = 0 ∧ win0_5.index t 1 = 0)
    ∧ (win0_6.index t 0 = 0 ∧ win0_6.index t 1 = 0) :=
  (by decide +kernel : ∀ t : Fin grid0.N, (win0_1.index t 0 = 0 ∧ win0_1.index t 1 = 0)
    ∧ (win0_3.index t 0 = 0 ∧ win0_3.index t 1 = 0)
    ∧ (win0_5.index t 0 = 0 ∧ win0_5.index t 1 = 0)
    ∧ (win0_6.index t 0 = 0 ∧ win0_6.index t 1 = 0))

theorem index_whole3 : ∀ t : Fin cfg0.N, (win0_2.index t 0 = 0 ∧ win0_2.index t 1 = 0 ∧ win0_2.index t 2 = 0)
    ∧ (win0_4.index t 0 = 0 ∧ win0_4.index t 1 = 0 ∧ win0_4.index t 2 = 0) :=
  (by decide +kernel : ∀ t : Fin grid0.N, (win0_2.index t 0 = 0 ∧ win0_2.index t 1 = 0 ∧ win0_2.index t 2 = 0)
    ∧ (win0_4.index t 0 = 0 ∧ win0_4.index t 1 = 0 ∧ win0_4.index t 2 = 0))

theorem tile_word : ∀ t : Fin cfg0.N, BitVec.ofNat 32 ((grid0.coords t) 0) = BitVec.ofNat 32 t.val :=
  (by decide +kernel : ∀ t : Fin grid0.N, BitVec.ofNat 32 ((grid0.coords t) 0) = BitVec.ofNat 32 t.val)

theorem lt8 (t : Fin cfg0.N) : t.val < 8 := lt_of_lt_of_eq t.isLt (show cfg0.N = 8 from N_0)

variable {m c}
variable {I : Inp} (A : Args m c I)
include A

theorem prep_v3 (b : Fin 8) (k : Fin 1024) (j : Fin 256) : (V m c main_v3 : S8x1024x256.Idx → EReal) (ix3 b k j) = ((I.win k.val (256 * b.val + j.val) : ℝ) : EReal) := by
  unfold V; after_reads_at
  have hw : m (c, Proc.tc.devRef main_arg2) = fun i => ((I.win (i 1).val (i 2).val : ℝ) : EReal) := A.win
  simp only [hw]
  show ((I.win k.val (b.val * 256 + j.val) : ℝ) : EReal) = _
  rw [mul_comm b.val]

theorem prep_v4 (s : Fin 3) (k : Fin 512) : (V m c main_v4 : S3x512.Idx → EReal) (ix2 s k) = ((I.cw s.val k.val : ℝ) : EReal) := by
  unfold V; after_reads_at
  have hw : m (c, Proc.tc.devRef main_arg3) = fun i => ((I.cw (i 1).val (i 2).val : ℝ) : EReal) := A.cw
  simp only [hw]
  rfl

theorem prep_v6 (q : Fin 4) (a b : Fin 128) : (V m c main_v6 : S4x128x128.Idx → EReal) (ix3 q a b) = ((I.pw q.val a.val b.val : ℝ) : EReal) := by
  unfold V; after_reads_at
  have hw : m (c, Proc.tc.devRef main_arg4) = fun i => ((I.pw (i 1).val (i 2).val (i 3).val : ℝ) : EReal) := A.pw
  simp only [hw]
  rfl

theorem prep_v8 (i j : Fin 1024) : (V m c main_v8 : S1024x1024.Idx → EReal) (ix2 i j) = ((I.wo i.val j.val : ℝ) : EReal) := by
  unfold V; after_reads_at
  have hw : m (c, Proc.tc.devRef main_arg6) = fun i => ((I.wo (i 1).val (i 2).val : ℝ) : EReal) := A.wo
  simp only [hw]
  rfl

theorem blk0 (t : Fin cfg0.N) (r : Fin 512) (k : Fin 1024) : (iblk m c 0 t : S512x1024.Idx → EReal) (ix2 r k) = ((I.x (512 * t.val + r) k : ℝ) : EReal) :=
  (congrArg (V m c main_arg0) (idx2_eq _ (trow (lt8 t) r) k (at_blk (index_rows t).1.1) (at_zero (index_rows t).1.2))).trans ((congrFun (V_main_arg0 m c) _).trans (congrFun A.x _))

theorem blk1 (t : Fin cfg0.N) (r : Fin 1) (k : Fin 1024) : (iblk m c 1 t : S1x1024.Idx → EReal) (ix2 r k) = ((I.g k : ℝ) : EReal) :=
  (congrArg (V m c main_arg1) (idx2_eq _ r k (at_zero (index_whole t).1.1) (at_zero (index_whole t).1.2))).trans ((congrFun (V_main_arg1 m c) _).trans (congrFun A.g _))

theorem blk2 (t : Fin cfg0.N) (q : Fin 8) (r : Fin 1024) (k : Fin 256) : (iblk m c 2 t : S8x1024x256.Idx → EReal) (ix3 q r k) = ((I.win r (256 * q + k) : ℝ) : EReal) :=
  (congrArg (V m c main_v3) (idx3_eq _ q r k (at_zero (index_whole3 t).1.1) (at_zero (index_whole3 t).1.2.1) (at_zero (index_whole3 t).1.2.2))).trans (prep_v3 A _ _ _)

theorem blk3 (t : Fin cfg0.N) (r : Fin 3) (k : Fin 512) : (iblk m c 3 t : S3x512.Idx → EReal) (ix2 r k) = ((I.cw r k : ℝ) : EReal) :=
  (congrArg (V m c main_v4) (idx2_eq _ r k (at_zero (index_whole t).2.1.1) (at_zero (index_whole t).2.1.2))).trans (prep_v4 A _ _)

theorem blk4 (t : Fin cfg0.N) (q : Fin 4) (r : Fin 128) (k : Fin 128) : (iblk m c 4 t : S4x128x128.Idx → EReal) (ix3 q r k) = ((I.pw q r k : ℝ) : EReal) :=
  (congrArg (V m c main_v6) (idx3_eq _ q r k (at_zero (index_whole3 t).2.1) (at_zero (index_whole3 t).2.2.1) (at_zero (index_whole3 t).2.2.2))).trans (prep_v6 A _ _ _)

theorem blk5 (t : Fin cfg0.N) (r : Fin 1) (k : Fin 512) : (iblk m c 5 t : S1x512.Idx → EReal) (ix2 r k) = ((I.ps k : ℝ) : EReal) :=
  (congrArg (V m c main_arg5) (idx2_eq _ r k (at_zero (index_whole t).2.2.1.1) (at_zero (index_whole t).2.2.1.2))).trans ((congrFun (V_main_arg5 m c) _).trans (congrFun A.ps _))

theorem blk6 (t : Fin cfg0.N) (r : Fin 1024) (k : Fin 1024) : (iblk m c 6 t : S1024x1024.Idx → EReal) (ix2 r k) = ((I.wo r k : ℝ) : EReal) :=
  (congrArg (V m c main_v8) (idx2_eq _ r k (at_zero (index_whole t).2.2.2.1) (at_zero (index_whole t).2.2.2.2))).trans (prep_v8 A _ _)

/-! ## Every point -/

omit A in
theorem at_of {T : ℕ} {J : In Ideal} (t : Fin cfg0.N) (hT : t.val = T) (p : Vec Ideal S528x2048 .f32) (tile : J.tile = BitVec.ofNat 32 ((grid0.coords t) 0))
    (x : J.x = iblk m c 0 t) (g : J.g = iblk m c 1 t) (win : J.win = iblk m c 2 t) (cw : J.cw = iblk m c 3 t) (pw : J.pw = iblk m c 4 t)
    (ps : J.ps = iblk m c 5 t) (wo : J.wo = iblk m c 6 t) (base : J.base = p) (A : Args m c I)
    (h : ∀ z : S528x2048.Idx, (z 0).val < 16 → p z = ((I.V.pb (512 * T + (z 0).val) (z 1).val : ℝ) : EReal)) : At I T J where
  lt := hT ▸ lt8 t
  tile := tile.trans ((tile_word t).trans (congrArg _ hT))
  x := hT ▸ x.trans (ext2 fun r k => blk0 A t r k)
  g := g.trans (ext2 fun r k => blk1 A t r k)
  win := win.trans (ext3 fun q r k => blk2 A t q r k)
  cw := cw.trans (ext2 fun r k => blk3 A t r k)
  pw := pw.trans (ext3 fun q r k => blk4 A t q r k)
  ps := ps.trans (ext2 fun r k => blk5 A t r k)
  wo := wo.trans (ext2 fun r k => blk6 A t r k)
  base z hz := by rw [base]; exact h z hz

theorem at_A (t : Fin cfg0.N) (h0 : t.val = 0) : At I 0 (inA m c t) := by
  refine at_of t h0 (put (scM0_0.view.read (Elt Ideal) scM0_0.view.junk) ![0, 0] S16x2048.size (k0_pay2 (F := Ideal))) ?_ ?_ ?_ ?_ ?_ ?_ ?_ ?_ ?_ A fun z hz => ?_
  on_goal 10 =>
    have h1 : (z 1).val < 2048 := (z 1).isLt
    rw [pay2, put_co2, if_pos (by omega), D.pb, if_neg (by omega)]
  all_goals dsimp only [inA, inB]

theorem at_B (t : Fin cfg0.N) (p : Vec Ideal S528x2048 .f32)
    (h : ∀ z : S528x2048.Idx, (z 0).val < 16 → p z = ((I.V.pb (512 * t.val + (z 0).val) (z 1).val : ℝ) : EReal)) : At I t.val (inB m c t p) := by
  refine at_of t rfl p ?_ ?_ ?_ ?_ ?_ ?_ ?_ ?_ ?_ A h
  all_goals dsimp only [inB]

theorem step_at (n : ℕ) (hn : n < cfg0.N) : ∃ J : In Ideal, At I n J ∧ outsAt0 m c n hn = step J := by
  have hN : n < 8 := lt_of_lt_of_eq hn (show cfg0.N = 8 from N_0)
  induction n with
  | zero => exact ⟨_, at_A A ⟨0, hn⟩ rfl, outs_A m c ⟨0, hn⟩ rfl⟩
  | succ n ih =>
    obtain ⟨J, H, e⟩ := ih (Nat.lt_of_succ_lt hn) (by omega)
    refine ⟨_, at_B A ⟨n + 1, hn⟩ (left J) (fun z hz => left_eq H z hz), (outs_B m c ⟨n + 1, hn⟩ (by show ¬(n + 1) % 8 = 0; omega)).trans ?_⟩
    refine congrArg (fun p => step (inB m c ⟨n + 1, hn⟩ p)) ?_
    exact congrArg (fun p => p.2.2.2.2) e

/-- The results of tile `T`. -/
structure Done (I : Inp) (T : ℕ) (p : Vec Ideal S512x1024 .f32 × Vec Ideal S512x1024 .bf16 × Vec Ideal S512x2048 .f32 × Vec Ideal S512x512 .bf16 × Vec Ideal S528x2048 .f32) : Prop where
  out : p.1 = co2 fun r k => MfPoint.out I (512 * T + r) k
  h : p.2.1 = co2 fun r k => nh I (512 * T + r) k
  proj : p.2.2.1 = co2 fun r k => I.P (512 * T + r) k
  pl : p.2.2.2.1 = co2 fun r k => I.pl (512 * T + r) k

theorem done_at (t : Fin cfg0.N) : Done I t.val (outsAt0 m c t.val t.isLt) := by
  obtain ⟨J, H, e⟩ := step_at A t.val t.isLt
  rw [e]
  exact ⟨out_eq H, hb_eq H, proj_eq H, pooled_eq H⟩

/-! ## The final arrays -/

theorem final_7 : (dats m 0 c).arrAt 7 cfg0.N = (co2 (MfPoint.out I) : S4096x1024.Idx → EReal) := by
  refine (dats m 0 c).arrAt_eq_of_covers 7 _ (by decide +kernel) fun t hf (y : S512x1024.Idx) => ?_
  blk_simp
  rw [after0_7, (done_at A t).out]
  obtain ⟨r, k, rfl⟩ : ∃ (r : Fin 512) (k : Fin 1024), y = ix2 r k := ⟨y 0, y 1, idx2_eq _ _ _ rfl rfl⟩
  exact (congrArg (co2 (MfPoint.out I)) (idx2_eq _ (trow (lt8 t) r) k (at_blk (index_rows t).2.1.1) (at_zero (index_rows t).2.1.2))).symm

theorem final_8 : (dats m 0 c).arrAt 8 cfg0.N = (co2 (nh I) : S4096x1024.Idx → EReal) := by
  refine (dats m 0 c).arrAt_eq_of_covers 8 _ (by decide +kernel) fun t hf (y : S512x1024.Idx) => ?_
  blk_simp
  rw [after0_8, (done_at A t).h]
  obtain ⟨r, k, rfl⟩ : ∃ (r : Fin 512) (k : Fin 1024), y = ix2 r k := ⟨y 0, y 1, idx2_eq _ _ _ rfl rfl⟩
  exact (congrArg (co2 (nh I)) (idx2_eq _ (trow (lt8 t) r) k (at_blk (index_rows t).2.2.1.1) (at_zero (index_rows t).2.2.1.2))).symm

theorem final_9 : (dats m 0 c).arrAt 9 cfg0.N = (co2 (I.P) : S4096x2048.Idx → EReal) := by
  refine (dats m 0 c).arrAt_eq_of_covers 9 _ (by decide +kernel) fun t hf (y : S512x2048.Idx) => ?_
  blk_simp
  rw [after0_9, (done_at A t).proj]
  obtain ⟨r, k, rfl⟩ : ∃ (r : Fin 512) (k : Fin 2048), y = ix2 r k := ⟨y 0, y 1, idx2_eq _ _ _ rfl rfl⟩
  exact (congrArg (co2 (I.P)) (idx2_eq _ (trow (lt8 t) r) k (at_blk (index_rows t).2.2.2.1.1) (at_zero (index_rows t).2.2.2.1.2))).symm

theorem final_10 : (dats m 0 c).arrAt 10 cfg0.N = (co2 (I.pl) : S4096x512.Idx → EReal) := by
  refine (dats m 0 c).arrAt_eq_of_covers 10 _ (by decide +kernel) fun t hf (y : S512x512.Idx) => ?_
  blk_simp
  rw [after0_10, (done_at A t).pl]
  obtain ⟨r, k, rfl⟩ : ∃ (r : Fin 512) (k : Fin 512), y = ix2 r k := ⟨y 0, y 1, idx2_eq _ _ _ rfl rfl⟩
  exact (congrArg (co2 (I.pl)) (idx2_eq _ (trow (lt8 t) r) k (at_blk (index_rows t).2.2.2.2.1) (at_zero (index_rows t).2.2.2.2.2))).symm

end Cert.Proof.MfKernel

end
-- ==== Proof.MfClaim.lean ====
module

public import proofs.«01_k».proof.Defs
public import proofs.«01_k».proof.Proof.Gen.MixFwd
public import proofs.«01_k».proof.Proof.Gen.MixFwd.Frame
public import proofs.«01_k».proof.Proof.Gen.MixFwdRefIdeal.Run
public import proofs.«01_k».proof.Proof.Gen.Pre_finite_mixf
public import proofs.«01_k».proof.Proof.MfRef
public import proofs.«01_k».proof.Proof.MfKernel
public import proofs.«01_k».proof.Proof.MixClaim
@[expose] public section
/-! # The claims of the mixer's forward call

From arrays of finite numbers the kernel and the forward lines end with the same four results: the layer's output, the normed
rows, their projections and the pooled rows. -/

set_option maxRecDepth 16384

noncomputable section

namespace Cert.Proof.MfClaim

open Idealize.ShloMosaic Idealize.ShloMosaic.TcCoe Idealize.SL.Sem Cert.Proof.Reals
open Cert.Proof.MixPay Cert.Proof.MfKernel MixReal
open Cert.Proof.MixHost (Inp)
open Cert.Proof.MixClaim (nat2 nat3 nat4 nat2_at nat2_row nat3_row nat4_row)

theorem frame_ref : Cert.quiescent_MixFwdRefIdeal := fun m ρ _ =>
  (θ_run Cert.MixFwdRefIdeal.defs _ _).mono (fun r h => ⟨fun c => (h c).2.2.2.2, sem_eq_zero_of_no_sems (by decide) r.2⟩)
    (Cert.MixFwdRefIdeal.Value.run (F := Ideal) m ρ)

variable (m : (ℓ : Loc Cert.MixFwdIdeal.nD Cert.MixFwdIdeal.τ Cert.MixFwdIdeal.sig) → Buf (Elt Ideal) ℓ)

/-- The precondition says that the arguments are arrays of reals. -/
theorem args_of_pre (h : Cert.Pre_MixFwdIdeal_finite_mixf m) (c : Dev Cert.MixFwdIdeal.nD) : ∃ I : Inp, Args m c I := by
  have e := congrFun (h c) (fun a => a.elim0)
  dsimp only [Cert.Pre_finite_mixf.fn, Cert.Pre_finite_mixf.fn_part1] at e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  obtain ⟨x, hx⟩ := reals_of_all _ _ (fun _ => rfl) _ _ _ _ h0
  obtain ⟨g, hg⟩ := reals_of_all _ _ (fun _ => rfl) _ _ _ _ h1
  obtain ⟨win, hwin⟩ := reals_of_all _ _ (fun _ => rfl) _ _ _ _ h2
  obtain ⟨cw, hcw⟩ := reals_of_all _ _ (fun _ => rfl) _ _ _ _ h3
  obtain ⟨pw, hpw⟩ := reals_of_all _ _ (fun _ => rfl) _ _ _ _ h4
  obtain ⟨ps, hps⟩ := reals_of_all _ _ (fun _ => rfl) _ _ _ _ h5
  obtain ⟨wo, hwo⟩ := reals_of_all _ _ (fun _ => rfl) _ _ _ _ h6
  refine ⟨{ x := nat2 x, g := nat2 g 0, win := nat3 win 0, cw := nat3 cw 0, pw := nat4 pw 0, ps := nat2 ps 0, wo := nat3 wo 0, ct := fun _ _ => 0 },
    { x := ?_, g := ?_, win := ?_, cw := ?_, pw := ?_, ps := ?_, wo := ?_ }⟩
  · exact hx.trans (funext fun i => congrArg _ (nat2_at x i).symm)
  · exact hg.trans (funext fun i => congrArg _ (nat2_row g i))
  · exact hwin.trans (funext fun i => congrArg _ (nat3_row win i))
  · exact hcw.trans (funext fun i => congrArg _ (nat3_row cw i))
  · exact hpw.trans (funext fun i => congrArg _ (nat4_row pw i))
  · exact hps.trans (funext fun i => congrArg _ (nat2_row ps i))
  · exact hwo.trans (funext fun i => congrArg _ (nat3_row wo i))

set_option maxHeartbeats 2000000 in
theorem algebraic : Cert.algebraic_MixFwdIdeal_MixFwdRefIdeal_pre_finite_mixf := by
  intro m ρ m' ρ' hpre hag
  choose I A using args_of_pre m hpre
  refine ⟨fun c => co2 (MfPoint.out (I c)), fun c => co2 (MfPoint.nh (I c)), fun c => co2 (I c).P, fun c => co2 (I c).pl, ?_, ?_⟩
  · refine (θ_run _ _ _).mono (fun r h c => ?_) (Cert.MixFwdIdeal.Value.run_blocks (F := Ideal) m ρ)
    obtain ⟨r0, r1, r2, r3, hk⟩ := h c
    exact ⟨r0.trans (final_7 (A c)), r1.trans (final_8 (A c)), r2.trans (final_9 (A c)), r3.trans (final_10 (A c)), hk⟩
  · refine (θ_run _ _ _).mono (fun r h c => ?_) (Cert.MixFwdRefIdeal.Value.run (F := Ideal) m' ρ')
    obtain ⟨e0, e1, e2, e3, e4, e5, e6⟩ := hag c
    obtain ⟨r0, r1, r2, r3, hk⟩ := h c
    have hx := e0.trans (A c).x
    have hg := e1.trans (A c).g
    have hwin := e2.trans (A c).win
    have hcw := e3.trans (A c).cw
    have hpw := e4.trans (A c).pw
    have hps := e5.trans (A c).ps
    have hwo := e6.trans (A c).wo
    refine ⟨r0.trans ?_, (r1.trans (Cert.MixFwdRefIdeal.Read.val_main_v125_eq _ _)).trans ?_,
      (r2.trans (Cert.MixFwdRefIdeal.Read.val_main_v15_eq _ _ _)).trans ?_, r3.trans ?_, hk⟩
    · rw [Cert.MixFwdRefIdeal.Read.val_main_v124_eq, hx, hg, hwin, hcw, hpw, hps, hwo]
      funext i
      obtain ⟨r, k, rfl⟩ : ∃ (r : Fin 4096) (k : Fin 1024), i = ix2 r k := ⟨i 0, i 1, eq_ix2 i⟩
      exact Cert.Proof.MfRef.res_out (I c) r k
    · rw [hx, hg]
      funext i
      obtain ⟨r, k, rfl⟩ : ∃ (r : Fin 4096) (k : Fin 1024), i = ix2 r k := ⟨i 0, i 1, eq_ix2 i⟩
      exact Cert.Proof.MfRef.res_h (I c) r k
    · rw [hx, hg, hwin]
      funext i
      obtain ⟨r, k, rfl⟩ : ∃ (r : Fin 4096) (k : Fin 2048), i = ix2 r k := ⟨i 0, i 1, eq_ix2 i⟩
      exact Cert.Proof.MfRef.val_P (I c) r k
    · rw [Cert.MixFwdRefIdeal.Read.val_main_v127_eq, hx, hg, hwin]
      funext i
      obtain ⟨r, k, rfl⟩ : ∃ (r : Fin 4096) (k : Fin 512), i = ix2 r k := ⟨i 0, i 1, eq_ix2 i⟩
      exact Cert.Proof.MfRef.res_pl (I c) r k

end Cert.Proof.MfClaim

end
-- ==== Proof.FbRef.lean ====
module

public import proofs.«01_k».proof.Proof.Reals
public import proofs.«01_k».proof.Proof.Cols
public import proofs.«01_k».proof.Proof.Gen.FfnBRefIdeal.Run
public import proofs.«01_k».proof.Proof.Gen.FfnBRefIdeal.Read
public import Idealize.ShloMosaic.Lib.Pointwise
public import Idealize.ShloMosaic.Lib.StableHlo.ReadAt
@[expose] public section
/-! # The forward lines of a whole gated layer

What the reference computes, at an element: the two hidden products at the second part of the hidden columns, and the layer's
output. The sum over all hidden columns is what the first part gives and what the second part adds, on extended reals too: the
factor one half is positive and finite. -/

set_option maxRecDepth 16384

noncomputable section

namespace Cert.Proof.FbRef

open Cert.FfnBRefIdeal Cert.FfnBRefIdeal.Read Idealize.ShloMosaic Idealize.SL.Sem
open Cert.Proof.Reals Cert.Proof.Cols

/-- The layer's arrays. -/
structure Arr where
  x : S4096x1024.Idx → EReal
  g : S1x1024.Idx → EReal
  wg : S1x1024x2816.Idx → EReal
  wu : S1x1024x2816.Idx → EReal
  wd : S1x2816x1024.Idx → EReal

variable (I : Arr)

/-- The normalised input. -/
def hn (r : Fin 4096) (j : Fin 1024) : EReal :=
  I.x (ix2 r j) * Ideal.rsqrt (Ideal.div (∑ k : Fin 1024, I.x (ix2 r k) * I.x (ix2 r k)) (Ideal.ofBits .f32 0x44800000#32) + Ideal.ofBits .f32 0x358637BD#32)
    * I.g (ix2 0 j)

/-- The two hidden products. -/
def hidA (r : Fin 4096) (k : Fin 2816) : EReal := ∑ j : Fin 1024, hn I r j * I.wg (ix3 0 j k)
def hidB (r : Fin 4096) (k : Fin 2816) : EReal := ∑ j : Fin 1024, hn I r j * I.wu (ix3 0 j k)

/-- Hidden column `k`'s part of the second product. -/
def gated (r : Fin 4096) (j : Fin 1024) (k : Fin 2816) : EReal :=
  hidA I r k * Ideal.logistic (hidA I r k) * hidB I r k * I.wd (ix3 0 k j)

/-- The layer's output as far as the first part of the columns gives it. -/
def outA (r : Fin 4096) (j : Fin 1024) : EReal := I.x (ix2 r j) + Ideal.ofBits .f32 0x3F000000#32 * ∑ k : Fin 1536, gated I r j (colA k)

/-- What the second part adds to it. -/
def out (r : Fin 4096) (j : Fin 1024) : EReal := outA I r j + Ideal.ofBits .f32 0x3F000000#32 * ∑ k : Fin 1280, gated I r j (colB k)

theorem out_eq (r : Fin 4096) (j : Fin 1024) :
    I.x (ix2 r j) + Ideal.ofBits .f32 0x3F000000#32 * ∑ k : Fin 2816, gated I r j k = out I r j := by
  rw [out, outA, sum_parts, ofBits_half, EReal.left_distrib_of_nonneg_of_ne_top (by exact_mod_cast (by norm_num : (0 : ℝ) ≤ 1 / 2)) (EReal.coe_ne_top _), add_assoc]

theorem val_hn (r : Fin 4096) (j : Fin 1024) : val_main_v13 (F := Ideal) I.x I.g (ix2 r j) = hn I r j := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem val_a (r : Fin 4096) (k : Fin 2816) : val_main_v15 (F := Ideal) I.x I.g I.wg (ix2 r k) = hidA I r k := by
  pointwise [val_main_v15, val_main_v14]
  simp only [val_hn]
  rfl

theorem val_b (r : Fin 4096) (k : Fin 2816) : val_main_v17 (F := Ideal) I.x I.g I.wu (ix2 r k) = hidB I r k := by
  pointwise [val_main_v17, val_main_v16]
  simp only [val_hn]
  rfl

theorem val_resA (r : Fin 4096) (k : Fin 1280) : val_main_v28 (F := Ideal) I.x I.g I.wg (ix2 r k) = hidA I r (colB k) := by
  refine Eq.trans ?_ (val_a I r (colB k))
  pointwise [val_main_v28, val_main_v27, val_main_v26, val_main_v25]
  rfl

theorem val_resB (r : Fin 4096) (k : Fin 1280) : val_main_v32 (F := Ideal) I.x I.g I.wu (ix2 r k) = hidB I r (colB k) := by
  refine Eq.trans ?_ (val_b I r (colB k))
  pointwise [val_main_v32, val_main_v31, val_main_v30, val_main_v29]
  rfl

theorem val_gate (r : Fin 4096) (k : Fin 2816) : val_main_call0_v5 (F := Ideal) I.x I.g I.wg (ix2 r k) = Ideal.logistic (hidA I r k) := by
  pointwise [val_main_call0_v5, val_main_call0_v4, val_main_call0_v3, val_main_call0_v2, val_main_call0_v1, val_main_call0_v0,
    val_main_call0_cst, val_main_call0_cst_0]
  rw [val_a]
  rfl

theorem val_out (r : Fin 4096) (j : Fin 1024) : val_main_v24 (F := Ideal) I.x I.g I.wg I.wu I.wd (ix2 r j) = out I r j := by
  refine Eq.trans ?_ (out_eq I r j)
  pointwise [val_main_v24, val_main_v23, val_main_v22, val_main_v21, val_main_v20, val_main_v19, val_main_v18, val_main_cst_2]
  simp only [val_a, val_b, val_gate]
  rfl

end Cert.Proof.FbRef

end
-- ==== Proof.FbKernel.lean ====
module

public import proofs.«01_k».proof.Proof.Gen.FfnBIdeal.Value
public import proofs.«01_k».proof.Proof.FbRef
public import proofs.«01_k».proof.Proof.Cols
public import Idealize.ShloMosaic.Lib.StableHlo.ReadAt
public import Idealize.ShloMosaic.Lib.Pipeline.ValueKit
public import Idealize.ShloMosaic.Lib.Pipeline.ReadBack
@[expose] public section
/-! # The kernel of a gated layer's second part, read at an element

Eight grid points take 512 tokens each. A point gets its normalised tokens, computes the hidden columns of the second part in five
slabs of 256, keeps both hidden products and their gated product, and adds the gated product's product with the rows of the second
weight to what the first part left. -/

set_option maxRecDepth 16384

noncomputable section

namespace Cert.Proof.FbKernel

open Cert.FfnBIdeal Cert.FfnBIdeal.Gen Cert.FfnBIdeal.Value Idealize.ShloMosaic Idealize.ShloMosaic.TcCoe Idealize.SL.Sem
open Cert.Proof.Reals Cert.Proof.Cols
open Cert.Proof.FbRef (Arr)

variable (m : (ℓ : Loc nD τ sig) → Buf (Elt Ideal) ℓ) (c : Dev nD)

/-! ## The slabs of a point -/

/-- A hidden product of a block of tokens: rows against rows of the transposed weight. -/
def hid (x : FVec Ideal S512x1024 .bf16) (w : FVec Ideal S1280x1024 .bf16) : FVec Ideal S512x1280 .bf16 :=
  fun y => ∑ j : Fin 1024, (x (ix2 (y 0) j) * w (ix2 (y 1) j) : EReal)

/-- The gated product of a block of tokens. -/
def act (x : FVec Ideal S512x1024 .bf16) (w u : FVec Ideal S1280x1024 .bf16) : FVec Ideal S512x1280 .bf16 :=
  fun y => hid x w y * Ideal.logistic (hid x w y) * hid x u y

/-- 256 rows of the transposed weight, from row `a`. -/
abbrev rows (w : FVec Ideal S1280x1024 .bf16) (a : Nat) (inb : ∀ i, (![a, 0] : Fin 2 → Nat) i + (![256, 1024] : Fin 2 → Nat) i ≤ S1280x1024.size i) : FVec Ideal S256x1024 .bf16 :=
  View.ld (Val := Elt Ideal) (e' := .bf16) w (Rect.unit (s := S1280x1024) ![a, 0] ![256, 1024] inb)

/-- A point's slabs of the first hidden product, as the five stores leave them. -/
abbrev slabsA (x1 : FVec Ideal S512x1024 .bf16) (x2 : FVec Ideal S1280x1024 .bf16) : List (View.Piece (Elt Ideal) S512x1280 .bf16) :=
  [⟨Rect.unit ![0, 1024] ![512, 256] inb_S512x1280_S512x256_0_1024, k0_pay29 (F := Ideal) (k0_pay3 x1) (rows x2 1024 inb_S1280x1024_S256x1024_1024_0)⟩,
    ⟨Rect.unit ![0, 768] ![512, 256] inb_S512x1280_S512x256_0_768, k0_pay24 (F := Ideal) (k0_pay20 (k0_pay3 x1) (rows x2 768 inb_S1280x1024_S256x1024_768_0))⟩,
    ⟨Rect.unit ![0, 512] ![512, 256] inb_S512x1280_S512x256_0_512, k0_pay18 (F := Ideal) (k0_pay3 x1) (rows x2 512 inb_S1280x1024_S256x1024_512_0)⟩,
    ⟨Rect.unit ![0, 256] ![512, 256] inb_S512x1280_S512x256_0_256, k0_pay13 (F := Ideal) (k0_pay9 x1 (rows x2 256 inb_S1280x1024_S256x1024_256_0))⟩,
    ⟨Rect.unit ![0, 0] ![512, 256] inb_S512x1280_S512x256_0_0, k0_pay7 (F := Ideal) x1 (rows x2 0 inb_S1280x1024_S256x1024_0_0)⟩]

/-- … of the second … -/
abbrev slabsB (x1 : FVec Ideal S512x1024 .bf16) (x3 : FVec Ideal S1280x1024 .bf16) : List (View.Piece (Elt Ideal) S512x1280 .bf16) :=
  [⟨Rect.unit ![0, 1024] ![512, 256] inb_S512x1280_S512x256_0_1024, k0_pay30 (F := Ideal) (k0_pay3 x1) (rows x3 1024 inb_S1280x1024_S256x1024_1024_0)⟩,
    ⟨Rect.unit ![0, 768] ![512, 256] inb_S512x1280_S512x256_0_768, k0_pay25 (F := Ideal) (k0_pay21 (k0_pay3 x1) (rows x3 768 inb_S1280x1024_S256x1024_768_0))⟩,
    ⟨Rect.unit ![0, 512] ![512, 256] inb_S512x1280_S512x256_0_512, k0_pay19 (F := Ideal) (k0_pay3 x1) (rows x3 512 inb_S1280x1024_S256x1024_512_0)⟩,
    ⟨Rect.unit ![0, 256] ![512, 256] inb_S512x1280_S512x256_0_256, k0_pay14 (F := Ideal) (k0_pay10 x1 (rows x3 256 inb_S1280x1024_S256x1024_256_0))⟩,
    ⟨Rect.unit ![0, 0] ![512, 256] inb_S512x1280_S512x256_0_0, k0_pay8 (F := Ideal) x1 (rows x3 0 inb_S1280x1024_S256x1024_0_0)⟩]

/-- … and of the gated product. -/
abbrev slabsS (x1 : FVec Ideal S512x1024 .bf16) (x2 x3 : FVec Ideal S1280x1024 .bf16) : List (View.Piece (Elt Ideal) S512x1280 .bf16) :=
  [⟨Rect.unit ![0, 1024] ![512, 256] inb_S512x1280_S512x256_0_1024, k0_pay28 (F := Ideal) (k0_pay3 x1) (rows x2 1024 inb_S1280x1024_S256x1024_1024_0) (rows x3 1024 inb_S1280x1024_S256x1024_1024_0)⟩,
    ⟨Rect.unit ![0, 768] ![512, 256] inb_S512x1280_S512x256_0_768, k0_pay23 (F := Ideal) (k0_pay22 (k0_pay3 x1) (rows x2 768 inb_S1280x1024_S256x1024_768_0) (rows x3 768 inb_S1280x1024_S256x1024_768_0))⟩,
    ⟨Rect.unit ![0, 512] ![512, 256] inb_S512x1280_S512x256_0_512, k0_pay17 (F := Ideal) (k0_pay3 x1) (rows x2 512 inb_S1280x1024_S256x1024_512_0) (rows x3 512 inb_S1280x1024_S256x1024_512_0)⟩,
    ⟨Rect.unit ![0, 256] ![512, 256] inb_S512x1280_S512x256_0_256, k0_pay12 (F := Ideal) (k0_pay11 x1 (rows x2 256 inb_S1280x1024_S256x1024_256_0) (rows x3 256 inb_S1280x1024_S256x1024_256_0))⟩,
    ⟨Rect.unit ![0, 0] ![512, 256] inb_S512x1280_S512x256_0_0, k0_pay6 (F := Ideal) x1 (rows x2 0 inb_S1280x1024_S256x1024_0_0) (rows x3 0 inb_S1280x1024_S256x1024_0_0)⟩]

/-- A slab's product is the hidden product's columns from `a`. -/
theorem slab_hid (x : FVec Ideal S512x1024 .bf16) (w : FVec Ideal S1280x1024 .bf16) (a inb) (y : S512x1280.Idx) (i : Fin 512) (n : Fin 256)
    (h0 : (y 0).val = i.val) (h1 : (y 1).val = a + n.val) :
    ∑ k : Fin 1024, (x (ix2 i k) * rows w a inb (ix2 n k) : EReal) = hid x w y := by
  obtain rfl : i = y 0 := Fin.ext h0.symm
  refine Finset.sum_congr rfl fun k _ => congrArg (fun v : EReal => x (ix2 (y 0) k) * v) ?_
  refine congrArg w (funext fun b => Fin.ext ?_)
  match b with
  | ⟨0, _⟩ => rw [Rect.idx_unit_val]; exact h1.symm
  | ⟨1, _⟩ => rw [Rect.idx_unit_val]; exact Nat.zero_add _

theorem canon_slabsA (x w) : View.canon (slabsA x w) = hid x w := by
  funext y
  canon_tiles p h using (View.cover_of_tiledL _ ![512, 256] (by rfl) y)
  all_goals
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
    exact slab_hid x w _ _ y _ _ h0 (by omega)

theorem canon_slabsB (x u) : View.canon (slabsB x u) = hid x u := by
  funext y
  canon_tiles p h using (View.cover_of_tiledL _ ![512, 256] (by rfl) y)
  all_goals
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
    exact slab_hid x u _ _ y _ _ h0 (by omega)

theorem canon_slabsS (x w u) : View.canon (slabsS x w u) = act x w u := by
  funext y
  canon_tiles p h using (View.cover_of_tiledL _ ![512, 256] (by rfl) y)
  all_goals
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
    exact congrArg₂ (fun v z : EReal => v * Ideal.logistic v * z) (slab_hid x w _ _ y _ _ h0 (by omega)) (slab_hid x u _ _ y _ _ h0 (by omega))

/-- The point loads the whole gated product back. -/
theorem load_slabsS (x w u) (inb) : (View.whole cc0_scratch0).readCov (slabsS x w u) (Rect.unit ![0, 0] ![512, 1280] inb).toLoadRect = act x w u := by
  rw [View.readCov_eq_canon', canon_slabsS]
  funext y
  refine congrArg (act x w u) (funext fun b => Fin.ext ?_)
  match b with
  | ⟨0, _⟩ => rw [Rect.idx_unit_val]; exact Nat.zero_add _
  | ⟨1, _⟩ => rw [Rect.idx_unit_val]; exact Nat.zero_add _

/-! ## What a point leaves -/

/-- Point `t`'s block of the output. -/
abbrev blockOut (t : Fin cfg0.N) : FVec Ideal S512x1024 .f32 :=
  k0_pay1 (k0_pay2 (iblk m c 0 t)) (k0_pay31 (act (iblk m c 1 t) (iblk m c 2 t) (iblk m c 3 t)) (iblk m c 4 t)) k0_pay32

theorem outs (t : Fin cfg0.N) :
    outsAt0 m c t = (blockOut m c t, hid (iblk m c 1 t) (iblk m c 2 t), hid (iblk m c 1 t) (iblk m c 3 t)) := by
  unfold outsAt0 blockOut
  generalize iblk m c 0 t = x0, iblk m c 1 t = x1, iblk m c 2 t = x2, iblk m c 3 t = x3, iblk m c 4 t = x4
  frame_out
  rw [load_slabsS x1 x2 x3]
  exact congrArg₂ (fun a b => (_, a, b)) (canon_slabsA x1 x2) (canon_slabsB x1 x3)

/-! ## The blocks a point stages -/

theorem index_tok : ∀ t : Fin cfg0.N, (win0_0.index t 0 = t.val ∧ win0_0.index t 1 = 0) ∧ (win0_1.index t 0 = t.val ∧ win0_1.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) :=
  by change ∀ t : Fin grid0.N, _; decide +kernel

theorem index_whole : ∀ t : Fin cfg0.N, (win0_2.index t 0 = 0 ∧ win0_2.index t 1 = 0) ∧ (win0_3.index t 0 = 0 ∧ win0_3.index t 1 = 0)
    ∧ (win0_4.index t 0 = 0 ∧ win0_4.index t 1 = 0) :=
  by change ∀ t : Fin grid0.N, _; decide +kernel

/-- The arguments. -/
def args : Arr where
  x := m ((c : Thread nD τ).loc main_arg0)
  g := m ((c : Thread nD τ).loc main_arg1)
  wg := m ((c : Thread nD τ).loc main_arg2)
  wu := m ((c : Thread nD τ).loc main_arg3)
  wd := m ((c : Thread nD τ).loc main_arg4)

open Cert.Proof.FbRef (hn hidA hidB outA out)

theorem prep_v41 (k : Fin 1280) (j : Fin 1024) : (V m c main_v41 : S1280x1024.Idx → EReal) (ix2 k j) = (args m c).wg (ix3 0 j (colB k)) := by
  unfold V; after_reads_at; rfl
theorem prep_v45 (k : Fin 1280) (j : Fin 1024) : (V m c main_v45 : S1280x1024.Idx → EReal) (ix2 k j) = (args m c).wu (ix3 0 j (colB k)) := by
  unfold V; after_reads_at; rfl
theorem prep_v49 (k : Fin 1280) (j : Fin 1024) : (V m c main_v49 : S1280x1024.Idx → EReal) (ix2 k j) = (args m c).wd (ix3 0 (colB k) j) := by
  unfold V; after_reads_at; rfl
theorem prep_v50 (r : Fin 4096) (j : Fin 1024) : (V m c main_v50 : S4096x1024.Idx → EReal) (ix2 r j) = hn (args m c) r j := by
  unfold V; after_reads_at; rfl
theorem prep_v37 (r : Fin 4096) (j : Fin 1024) : (V m c main_v37 : S4096x1024.Idx → EReal) (ix2 r j) = outA (args m c) r j := by
  unfold V; after_reads_at; rfl

/-! Each window's block at an element. -/

theorem blk0 (t : Fin cfg0.N) (i : Fin 512) (j : Fin 1024) : (iblk m c 0 t : S512x1024.Idx → EReal) (ix2 i j) = outA (args m c) (tok t i) j :=
  (congrArg (V m c main_v37) (idx2_eq _ (tok t i) j (at_blk (index_tok t).1.1) (at_zero (index_tok t).1.2))).trans (prep_v37 m c _ _)
theorem blk1 (t : Fin cfg0.N) (i : Fin 512) (j : Fin 1024) : (iblk m c 1 t : S512x1024.Idx → EReal) (ix2 i j) = hn (args m c) (tok t i) j :=
  (congrArg (V m c main_v50) (idx2_eq _ (tok t i) j (at_blk (index_tok t).2.1.1) (at_zero (index_tok t).2.1.2))).trans (prep_v50 m c _ _)
theorem blk2 (t : Fin cfg0.N) (k : Fin 1280) (j : Fin 1024) : (iblk m c 2 t : S1280x1024.Idx → EReal) (ix2 k j) = (args m c).wg (ix3 0 j (colB k)) :=
  (congrArg (V m c main_v41) (idx2_eq _ k j (at_zero (index_whole t).1.1) (at_zero (index_whole t).1.2))).trans (prep_v41 m c _ _)
theorem blk3 (t : Fin cfg0.N) (k : Fin 1280) (j : Fin 1024) : (iblk m c 3 t : S1280x1024.Idx → EReal) (ix2 k j) = (args m c).wu (ix3 0 j (colB k)) :=
  (congrArg (V m c main_v45) (idx2_eq _ k j (at_zero (index_whole t).2.1.1) (at_zero (index_whole t).2.1.2))).trans (prep_v45 m c _ _)
theorem blk4 (t : Fin cfg0.N) (k : Fin 1280) (j : Fin 1024) : (iblk m c 4 t : S1280x1024.Idx → EReal) (ix2 k j) = (args m c).wd (ix3 0 (colB k) j) :=
  (congrArg (V m c main_v49) (idx2_eq _ k j (at_zero (index_whole t).2.2.1) (at_zero (index_whole t).2.2.2))).trans (prep_v49 m c _ _)

/-! ## A point's values -/

theorem hid_apply (x : FVec Ideal S512x1024 .bf16) (w : FVec Ideal S1280x1024 .bf16) (i : Fin 512) (k : Fin 1280) :
    hid x w (ix2 i k) = ∑ j : Fin 1024, (x (ix2 i j) * w (ix2 k j) : EReal) := rfl

theorem hidA_at (t : Fin cfg0.N) (i : Fin 512) (k : Fin 1280) :
    hid (iblk m c 1 t) (iblk m c 2 t) (ix2 i k) = hidA (args m c) (tok t i) (colB k) := by
  rw [hid_apply]
  simp only [blk1, blk2]
  rfl

theorem hidB_at (t : Fin cfg0.N) (i : Fin 512) (k : Fin 1280) :
    hid (iblk m c 1 t) (iblk m c 3 t) (ix2 i k) = hidB (args m c) (tok t i) (colB k) := by
  rw [hid_apply]
  simp only [blk1, blk3]
  rfl

theorem act_at (t : Fin cfg0.N) (i : Fin 512) (k : Fin 1280) :
    act (iblk m c 1 t) (iblk m c 2 t) (iblk m c 3 t) (ix2 i k)
      = hidA (args m c) (tok t i) (colB k) * Ideal.logistic (hidA (args m c) (tok t i) (colB k)) * hidB (args m c) (tok t i) (colB k) := by
  unfold act
  rw [hidA_at, hidB_at]

theorem out_at (t : Fin cfg0.N) (i : Fin 512) (j : Fin 1024) : blockOut m c t (ix2 i j) = out (args m c) (tok t i) j := by
  pointwise [k0_pay1, k0_pay2, k0_pay31, k0_pay32]
  simp only [act_at, blk0, blk4]
  rfl

/-! ## The final arrays -/

/-- The three results, as arrays. -/
def arrOut (I : Arr) : S4096x1024.Idx → EReal := fun i => out I (i 0) (i 1)
def arrA (I : Arr) : S4096x1280.Idx → EReal := fun i => hidA I (i 0) (colB (i 1))
def arrB (I : Arr) : S4096x1280.Idx → EReal := fun i => hidB I (i 0) (colB (i 1))

theorem final_out : (dats m 0 c).arrAt 5 cfg0.N = arrOut (args m c) := by
  refine (dats m 0 c).arrAt_eq_of_covers 5 _ (by decide +kernel) fun t hf (y : S512x1024.Idx) => ?_
  blk_simp
  rw [after0_5, outs]
  obtain ⟨i, k, rfl⟩ : ∃ (i : Fin 512) (k : Fin 1024), y = ix2 i k := ⟨y 0, y 1, idx2_eq _ _ _ rfl rfl⟩
  exact (out_at m c t i k).trans (congrArg (arrOut (args m c)) (idx2_eq _ (tok t i) k (at_blk (index_tok t).2.2.1.1) (at_zero (index_tok t).2.2.1.2))).symm

theorem final_a : (dats m 0 c).arrAt 6 cfg0.N = arrA (args m c) := by
  refine (dats m 0 c).arrAt_eq_of_covers 6 _ (by decide +kernel) fun t hf (y : S512x1280.Idx) => ?_
  blk_simp
  rw [after0_6, outs]
  obtain ⟨i, k, rfl⟩ : ∃ (i : Fin 512) (k : Fin 1280), y = ix2 i k := ⟨y 0, y 1, idx2_eq _ _ _ rfl rfl⟩
  exact (hidA_at m c t i k).trans (congrArg (arrA (args m c)) (idx2_eq _ (tok t i) k (at_blk (index_tok t).2.2.2.1.1) (at_zero (index_tok t).2.2.2.1.2))).symm

theorem final_b : (dats m 0 c).arrAt 7 cfg0.N = arrB (args m c) := by
  refine (dats m 0 c).arrAt_eq_of_covers 7 _ (by decide +kernel) fun t hf (y : S512x1280.Idx) => ?_
  blk_simp
  rw [after0_7, outs]
  obtain ⟨i, k, rfl⟩ : ∃ (i : Fin 512) (k : Fin 1280), y = ix2 i k := ⟨y 0, y 1, idx2_eq _ _ _ rfl rfl⟩
  exact (hidB_at m c t i k).trans (congrArg (arrB (args m c)) (idx2_eq _ (tok t i) k (at_blk (index_tok t).2.2.2.2.1) (at_zero (index_tok t).2.2.2.2.2))).symm

end Cert.Proof.FbKernel

end
-- ==== Proof.FbClaim.lean ====
module

public import proofs.«01_k».proof.Defs
public import proofs.«01_k».proof.Proof.Gen.FfnB.Frame
public import proofs.«01_k».proof.Proof.Gen.FfnBRefIdeal.Run
public import proofs.«01_k».proof.Proof.FbKernel
public import Idealize.ShloMosaic.Adequacy
@[expose] public section
/-! # The claims of a gated layer's forward call, second part

From the same arrays the kernel and the forward lines end with the same three results: both are `FbKernel`'s `arrOut`, `arrA` and
`arrB`. Nothing is asked of the arrays. -/

noncomputable section

namespace Cert.Proof.FbClaim

open Idealize.ShloMosaic Idealize.ShloMosaic.TcCoe Idealize.SL.Sem Cert.Proof.FbKernel
open Cert.Proof.FbRef (Arr)

theorem frame_ref : Cert.quiescent_FfnBRefIdeal := fun m ρ _ =>
  (θ_run Cert.FfnBRefIdeal.defs _ _).mono (fun r h => ⟨fun c => (h c).2.2.2, sem_eq_zero_of_no_sems (by decide) r.2⟩)
    (Cert.FfnBRefIdeal.Value.run (F := Ideal) m ρ)

set_option maxHeartbeats 2000000 in
theorem algebraic : Cert.algebraic_FfnBIdeal_FfnBRefIdeal := by
  intro m ρ m' ρ' _ hag
  refine ⟨fun c => arrOut (args m c), fun c => arrA (args m c), fun c => arrB (args m c), ?_, ?_⟩
  · refine (θ_run _ _ _).mono (fun r h c => ?_) (Cert.FfnBIdeal.Value.run_blocks (F := Ideal) m ρ)
    obtain ⟨r0, r1, r2, hk⟩ := h c
    exact ⟨r0.trans (final_out m c), r1.trans (final_a m c), r2.trans (final_b m c), hk⟩
  · refine (θ_run _ _ _).mono (fun r h c => ?_) (Cert.FfnBRefIdeal.Value.run (F := Ideal) m' ρ')
    obtain ⟨e0, e1, e2, e3, e4⟩ := hag c
    obtain ⟨r0, r1, r2, hk⟩ := h c
    refine ⟨r0.trans ?_, r1.trans ?_, r2.trans ?_, hk⟩
    · rw [Cert.FfnBRefIdeal.Read.val_main_v24_eq, e0, e1, e2, e3, e4]
      funext i
      obtain ⟨r, k, rfl⟩ : ∃ (r : Fin 4096) (k : Fin 1024), i = ix2 r k := ⟨i 0, i 1, eq_ix2 i⟩
      exact Cert.Proof.FbRef.val_out (args m c) r k
    · rw [Cert.FfnBRefIdeal.Read.val_main_v28_eq, e0, e1, e2]
      funext i
      obtain ⟨r, k, rfl⟩ : ∃ (r : Fin 4096) (k : Fin 1280), i = ix2 r k := ⟨i 0, i 1, eq_ix2 i⟩
      exact Cert.Proof.FbRef.val_resA (args m c) r k
    · rw [Cert.FfnBRefIdeal.Read.val_main_v32_eq, e0, e1, e3]
      funext i
      obtain ⟨r, k, rfl⟩ : ∃ (r : Fin 4096) (k : Fin 1280), i = ix2 r k := ⟨i 0, i 1, eq_ix2 i⟩
      exact Cert.Proof.FbRef.val_resB (args m c) r k

end Cert.Proof.FbClaim

end
-- ==== Proof.AdamwClaim.lean ====
module

public import proofs.«01_k».proof.Defs
public import proofs.«01_k».proof.Proof.Cols
public import proofs.«01_k».proof.Proof.Gen.Adamw.Frame
public import proofs.«01_k».proof.Proof.Gen.AdamwIdeal.Value
public import proofs.«01_k».proof.Proof.Gen.AdamwRefIdeal.Run
public import proofs.«01_k».proof.Proof.Gen.AdamwRefIdeal.Read
public import Idealize.ShloMosaic.Adequacy
public import Idealize.ShloMosaic.Lib.Pointwise
public import Idealize.ShloMosaic.Lib.StableHlo.ReadAt
public import Idealize.ShloMosaic.Lib.Pipeline.ValueKit
public import Idealize.ShloMosaic.Lib.Pipeline.ReadBack
@[expose] public section
/-! # The claims of the optimiser's call

One grid point takes the four chips' parts of a gradient, adds them, and updates the weight's moments and the weight. Everything
happens element by element, so the kernel and the optimiser's lines end with the same expression. -/

set_option maxRecDepth 16384

noncomputable section

namespace Cert.Proof.AdamwClaim

open Cert.AdamwIdeal Cert.AdamwIdeal.Gen Cert.AdamwIdeal.Value Idealize.ShloMosaic Idealize.ShloMosaic.TcCoe Idealize.SL.Sem
open Cert.Proof.Cols

variable (m : (ℓ : Loc nD τ sig) → Buf (Elt Ideal) ℓ) (c : Dev nD)

/-- The four parts of the gradient, the weight and its moments. -/
abbrev s : S4x1024x256.Idx → EReal := m ((c : Thread nD τ).loc main_arg0)
abbrev w : S1024x256.Idx → EReal := fun i => m ((c : Thread nD τ).loc main_arg1) (ix3 0 (i 0) (i 1))
abbrev m1 : S1024x256.Idx → EReal := fun i => m ((c : Thread nD τ).loc main_arg2) (ix3 0 (i 0) (i 1))
abbrev m2 : S1024x256.Idx → EReal := fun i => m ((c : Thread nD τ).loc main_arg3) (ix3 0 (i 0) (i 1))

theorem ext2 {f g : S1024x256.Idx → EReal} (h : ∀ (r : Fin 1024) (k : Fin 256), f (ix2 r k) = g (ix2 r k)) : f = g :=
  funext fun i => eq_ix2 i ▸ h (i 0) (i 1)

/-! ## The point's blocks are the whole arrays -/

theorem index_s : ∀ (t : Fin cfg0.N) a, win0_0.index t a = 0 :=
  by change ∀ (t : Fin grid0.N) _, _; decide +kernel
theorem index_w : ∀ (t : Fin cfg0.N) a, win0_1.index t a = 0 ∧ win0_2.index t a = 0 ∧ win0_3.index t a = 0 :=
  by change ∀ (t : Fin grid0.N) _, _; decide +kernel
theorem index_out : ∀ (t : Fin cfg0.N) a, win0_4.index t a = 0 ∧ win0_5.index t a = 0 ∧ win0_6.index t a = 0 ∧ win0_7.index t a = 0 :=
  by change ∀ (t : Fin grid0.N) _, _; decide +kernel

theorem prep_v0 : (V m c main_v0 : S1024x256.Idx → EReal) = w m c := by
  refine ext2 fun r k => ?_
  unfold V; after_reads_at; rfl
theorem prep_v1 : (V m c main_v1 : S1024x256.Idx → EReal) = m1 m c := by
  refine ext2 fun r k => ?_
  unfold V; after_reads_at; rfl
theorem prep_v2 : (V m c main_v2 : S1024x256.Idx → EReal) = m2 m c := by
  refine ext2 fun r k => ?_
  unfold V; after_reads_at; rfl

theorem blk0 (t : Fin cfg0.N) : (iblk m c 0 t : S4x1024x256.Idx → EReal) = s m c := by
  funext y
  exact congrArg (V m c main_arg0) (funext fun a => Fin.ext (at_zero (index_s t a)))
theorem blk1 (t : Fin cfg0.N) : (iblk m c 1 t : S1024x256.Idx → EReal) = w m c := by
  rw [← prep_v0 m c]
  funext y
  exact congrArg (V m c main_v0) (funext fun a => Fin.ext (at_zero (index_w t a).1))
theorem blk2 (t : Fin cfg0.N) : (iblk m c 2 t : S1024x256.Idx → EReal) = m1 m c := by
  rw [← prep_v1 m c]
  funext y
  exact congrArg (V m c main_v1) (funext fun a => Fin.ext (at_zero (index_w t a).2.1))
theorem blk3 (t : Fin cfg0.N) : (iblk m c 3 t : S1024x256.Idx → EReal) = m2 m c := by
  rw [← prep_v2 m c]
  funext y
  exact congrArg (V m c main_v2) (funext fun a => Fin.ext (at_zero (index_w t a).2.2))

/-! ## The final arrays -/

/-- The four results, as the point leaves them. -/
def res4 : S1024x256.Idx → EReal := out0_4 (F := Ideal) (s m c) (w m c) (m1 m c) (m2 m c)
def res5 : S1024x256.Idx → EReal := out0_5 (F := Ideal) (s m c) (w m c) (m1 m c) (m2 m c)
def res6 : S1024x256.Idx → EReal := out0_6 (F := Ideal) (s m c) (w m c) (m1 m c) (m2 m c)
def res7 : S1024x256.Idx → EReal := out0_7 (F := Ideal) (s m c) (w m c) (m1 m c) (m2 m c)

theorem final4 : (dats m 0 c).arrAt 4 cfg0.N = res4 m c := by
  refine (dats m 0 c).arrAt_eq_of_covers 4 _ (by decide +kernel) fun t hf (y : S1024x256.Idx) => ?_
  blk_simp
  rw [after0_4, blk0, blk1, blk2, blk3]
  exact (congrArg (res4 m c) (funext fun a => Fin.ext (at_zero (index_out t a).1))).symm

theorem final5 : (dats m 0 c).arrAt 5 cfg0.N = res5 m c := by
  refine (dats m 0 c).arrAt_eq_of_covers 5 _ (by decide +kernel) fun t hf (y : S1024x256.Idx) => ?_
  blk_simp
  rw [after0_5, blk0, blk1, blk2, blk3]
  exact (congrArg (res5 m c) (funext fun a => Fin.ext (at_zero (index_out t a).2.1))).symm

theorem final6 : (dats m 0 c).arrAt 6 cfg0.N = res6 m c := by
  refine (dats m 0 c).arrAt_eq_of_covers 6 _ (by decide +kernel) fun t hf (y : S1024x256.Idx) => ?_
  blk_simp
  rw [after0_6, blk0, blk1, blk2, blk3]
  exact (congrArg (res6 m c) (funext fun a => Fin.ext (at_zero (index_out t a).2.2.1))).symm

theorem final7 : (dats m 0 c).arrAt 7 cfg0.N = res7 m c := by
  refine (dats m 0 c).arrAt_eq_of_covers 7 _ (by decide +kernel) fun t hf (y : S1024x256.Idx) => ?_
  blk_simp
  rw [after0_7, blk0, blk1, blk2, blk3]
  exact (congrArg (res7 m c) (funext fun a => Fin.ext (at_zero (index_out t a).2.2.2))).symm

/-! ## The results at an element -/

/-- The summed gradient, both moments and the update. -/
def grad (s : S4x1024x256.Idx → EReal) (r : Fin 1024) (k : Fin 256) : EReal := s (ix3 0 r k) + s (ix3 1 r k) + s (ix3 2 r k) + s (ix3 3 r k)
def mom1 (g m : EReal) : EReal := Ideal.ofBits .f32 0x3F666666#32 * m + Ideal.ofBits .f32 0x3DCCCCCD#32 * g
def mom2 (g v : EReal) : EReal := Ideal.ofBits .f32 0x3F7FBE77#32 * v + Ideal.ofBits .f32 0x3A83126F#32 * (g * g)
def upd (m v w : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

variable (s : S4x1024x256.Idx → EReal) (w m1 m2 : S1024x256.Idx → EReal) (r : Fin 1024) (k : Fin 256)

theorem pay_grad : k0_pay2 (F := Ideal) (View.ld s r0_0) (View.ld s r0_1) (View.ld s r0_2) (View.ld s r0_3) (ix2 r k) = grad s r k := by
  pointwise [k0_pay2]
  rfl

/-- A single piece that is the whole block leaves its value. -/
theorem canon_one (p : Vec Ideal S1024x256 .f32) : View.canon (Val := Elt Ideal) (e := .f32) [⟨r0_4, p⟩] = p := by
  funext y
  refine View.canon_apply_of_pieces (Val := Elt Ideal) (e := .f32) p _ ?_ y (cover0_4 _ y)
  intro pc hpc
  rcases List.mem_cons.mp hpc with rfl | hpc
  · exact fun x => congrArg p (funext fun a => Fin.ext (by match a with | ⟨0, _⟩ => exact (by simp [r0_4]) | ⟨1, _⟩ => exact (by simp [r0_4])))
  nomatch hpc

theorem k4 : out0_4 (F := Ideal) s w m1 m2 (ix2 r k) = grad s r k := by
  unfold_out out0_4
  rw [canon_one, pay_grad]

theorem k6 : out0_6 (F := Ideal) s w m1 m2 (ix2 r k) = mom1 (grad s r k) (m1 (ix2 r k)) := by
  unfold_out out0_6
  rw [canon_one]
  pointwise [k0_pay3]
  rw [pay_grad]
  rfl

theorem k7 : out0_7 (F := Ideal) s w m1 m2 (ix2 r k) = mom2 (grad s r k) (m2 (ix2 r k)) := by
  unfold_out out0_7
  rw [canon_one]
  pointwise [k0_pay4]
  rw [pay_grad]
  rfl

theorem k5 : out0_5 (F := Ideal) s w m1 m2 (ix2 r k) = upd (mom1 (grad s r k) (m1 (ix2 r k))) (mom2 (grad s r k) (m2 (ix2 r k))) (w (ix2 r k)) := by
  unfold_out out0_5
  rw [canon_one]
  pointwise [k0_pay1, k0_pay3, k0_pay4]
  rw [pay_grad]
  rfl

open Cert.AdamwRefIdeal.Read in
theorem r4 : val_main_v4 (F := Ideal) s (ix2 r k) = grad s r k := by
  refine (val_main_v4_apply s (ix2 r k)).trans ?_
  rw [Fin.sum_univ_four]
  pointwise [val_main_v3, val_main_cst]
  have e : ∀ a : Fin 4, idx_main_v4 (ix2 r k) a = ix3 a r k := fun a => funext fun b => by match b with | ⟨0, _⟩ => rfl | ⟨1, _⟩ => rfl | ⟨2, _⟩ => rfl
  rw [e, e, e, e]
  rfl

variable (W M1 M2 : S1x1024x256.Idx → EReal)

open Cert.AdamwRefIdeal.Read in
theorem r6 : val_main_v9 (F := Ideal) s M1 (ix2 r k) = mom1 (grad s r k) (M1 (ix3 0 r k)) := by
  pointwise [val_main_v9, val_main_v8, val_main_v7, val_main_v6, val_main_v5, val_main_v1, val_main_cst_0, val_main_cst_1]
  rw [r4]
  rfl

open Cert.AdamwRefIdeal.Read in
theorem r7 : val_main_v15 (F := Ideal) s M2 (ix2 r k) = mom2 (grad s r k) (M2 (ix3 0 r k)) := by
  pointwise [val_main_v15, val_main_v14, val_main_v13, val_main_v12, val_main_v11, val_main_v10, val_main_v2, val_main_cst_2, val_main_cst_3]
  rw [r4]
  rfl

open Cert.AdamwRefIdeal.Read in
theorem r5 : val_main_v28 (F := Ideal) s W M1 M2 (ix2 r k) = upd (mom1 (grad s r k) (M1 (ix3 0 r k))) (mom2 (grad s r k) (M2 (ix3 0 r k))) (W (ix3 0 r k)) := by
  pointwise [val_main_v28, val_main_v27, val_main_v26, val_main_v25, val_main_v24, val_main_v23, val_main_v22, val_main_v21, val_main_v20,
    val_main_v19, val_main_v18, val_main_v17, val_main_v16, val_main_v0, val_main_cst_4, val_main_cst_5, val_main_cst_6, val_main_cst_7, val_main_cst_8]
  rw [r6, r7]
  rfl

/-! ## The claims -/

theorem frame_ref : Cert.quiescent_AdamwRefIdeal := fun m ρ _ =>
  (θ_run Cert.AdamwRefIdeal.defs _ _).mono (fun r h => ⟨fun c => (h c).2.2.2.2, sem_eq_zero_of_no_sems (by decide) r.2⟩)
    (Cert.AdamwRefIdeal.Value.run (F := Ideal) m ρ)

set_option maxHeartbeats 2000000 in
theorem algebraic : Cert.algebraic_AdamwIdeal_AdamwRefIdeal := by
  intro m ρ m' ρ' _ hag
  refine ⟨fun c => res4 m c,
    fun c => res5 m c,
    fun c => res6 m c,
    fun c => res7 m c, ?_, ?_⟩
  · refine (θ_run _ _ _).mono (fun r h c => ?_) (run_blocks (F := Ideal) m ρ)
    obtain ⟨r0, r1, r2, r3, hk⟩ := h c
    exact ⟨r0.trans (final4 m c), r1.trans (final5 m c), r2.trans (final6 m c), r3.trans (final7 m c), hk⟩
  · refine (θ_run _ _ _).mono (fun r h c => ?_) (Cert.AdamwRefIdeal.Value.run (F := Ideal) m' ρ')
    obtain ⟨e0, e1, e2, e3⟩ := hag c
    obtain ⟨r0, r1, r2, r3, hk⟩ := h c
    refine ⟨r0.trans ?_, r1.trans ?_, r2.trans ?_, r3.trans ?_, hk⟩
    · rw [Cert.AdamwRefIdeal.Read.val_main_v4_eq, e0]
      refine ext2 fun r k => ?_
      exact (r4 (AdamwClaim.s m c) r k).trans (k4 (AdamwClaim.s m c) (AdamwClaim.w m c) (AdamwClaim.m1 m c) (AdamwClaim.m2 m c) r k).symm
    · rw [Cert.AdamwRefIdeal.Read.val_main_v28_eq, e0, e1, e2, e3]
      refine ext2 fun r k => ?_
      exact (r5 (AdamwClaim.s m c) r k (m ((c : Thread nD τ).loc main_arg1)) (m ((c : Thread nD τ).loc main_arg2)) (m ((c : Thread nD τ).loc main_arg3))).trans (k5 (AdamwClaim.s m c) (AdamwClaim.w m c) (AdamwClaim.m1 m c) (AdamwClaim.m2 m c) r k).symm
    · rw [Cert.AdamwRefIdeal.Read.val_main_v9_eq, e0, e2]
      refine ext2 fun r k => ?_
      exact (r6 (AdamwClaim.s m c) r k (m ((c : Thread nD τ).loc main_arg2))).trans (k6 (AdamwClaim.s m c) (AdamwClaim.w m c) (AdamwClaim.m1 m c) (AdamwClaim.m2 m c) r k).symm
    · rw [Cert.AdamwRefIdeal.Read.val_main_v15_eq, e0, e3]
      refine ext2 fun r k => ?_
      exact (r7 (AdamwClaim.s m c) r k (m ((c : Thread nD τ).loc main_arg3))).trans (k7 (AdamwClaim.s m c) (AdamwClaim.w m c) (AdamwClaim.m1 m c) (AdamwClaim.m2 m c) r k).symm

end Cert.Proof.AdamwClaim

end
-- ==== Proof.SumClaim.lean ====
module

public import proofs.«01_k».proof.Defs
public import proofs.«01_k».proof.Proof.Cols
public import proofs.«01_k».proof.Proof.Gen.Sum.Frame
public import proofs.«01_k».proof.Proof.Gen.SumIdeal.Value
public import proofs.«01_k».proof.Proof.Gen.SumRefIdeal.Run
public import proofs.«01_k».proof.Proof.Gen.SumRefIdeal.Read
public import Idealize.ShloMosaic.Adequacy
public import Idealize.ShloMosaic.Lib.Pointwise
public import Idealize.ShloMosaic.Lib.StableHlo.ReadAt
public import Idealize.ShloMosaic.Lib.Pipeline.ValueKit
public import Idealize.ShloMosaic.Lib.Pipeline.ReadBack
@[expose] public section
/-! # The claims of the sum over the devices

One grid point takes the eight devices' parts, each a sheet of 8 rows of 128, and adds them. -/

set_option maxRecDepth 16384

noncomputable section

namespace Cert.Proof.SumClaim

open Cert.SumIdeal Cert.SumIdeal.Gen Cert.SumIdeal.Value Idealize.ShloMosaic Idealize.ShloMosaic.TcCoe Idealize.SL.Sem
open Cert.Proof.Cols

variable (m : (ℓ : Loc nD τ sig) → Buf (Elt Ideal) ℓ) (c : Dev nD)

/-- The devices' parts. -/
abbrev p : S8x1x1024.Idx → EReal := m ((c : Thread nD τ).loc main_arg0)

/-- Row `r`, column `k` of a sheet is this entry of the row of 1024. -/
def cell (r : Fin 8) (k : Fin 128) : Fin 1024 := ⟨128 * r.val + k.val, by omega⟩

/-- The sheets. -/
def sheets (p : S8x1x1024.Idx → EReal) : S8x8x128.Idx → EReal := fun i => p (ix3 (i 0) 0 (cell (i 1) (i 2)))

theorem index_in : ∀ (t : Fin cfg0.N) a, win0_0.index t a = 0 :=
  by change ∀ (t : Fin grid0.N) _, _; decide +kernel
theorem index_out : ∀ (t : Fin cfg0.N) a, win0_1.index t a = 0 :=
  by change ∀ (t : Fin grid0.N) _, _; decide +kernel

theorem prep_v0 : (V m c main_v0 : S8x8x128.Idx → EReal) = sheets (p m c) := by
  funext i
  obtain ⟨d, r, k, rfl⟩ : ∃ (d : Fin 8) (r : Fin 8) (k : Fin 128), i = ix3 d r k := ⟨i 0, i 1, i 2, eq_ix3 i⟩
  unfold V; after_reads_at
  exact congrArg (p m c) (funext fun b => Fin.ext (by
    have hr := r.isLt
    have hk := k.isLt
    match b with
    | ⟨0, _⟩ => show _ = d.val; simp
    | ⟨1, _⟩ => show _ = 0; simp
    | ⟨2, _⟩ => show _ = 128 * r.val + k.val; simp; omega))

theorem blk0 (t : Fin cfg0.N) : (iblk m c 0 t : S8x8x128.Idx → EReal) = sheets (p m c) := by
  rw [← prep_v0 m c]
  funext y
  exact congrArg (V m c main_v0) (funext fun a => Fin.ext (at_zero (index_in t a)))

/-- The result, as the point leaves it. -/
def res : S8x128.Idx → EReal := out0_1 (F := Ideal) (sheets (p m c))

theorem final : (dats m 0 c).arrAt 1 cfg0.N = res m c := by
  refine (dats m 0 c).arrAt_eq_of_covers 1 _ (by decide +kernel) fun t hf (y : S8x128.Idx) => ?_
  blk_simp
  rw [after0_1, blk0]
  exact (congrArg (out0_1 (F := Ideal) (sheets (p m c))) (funext fun a => Fin.ext (at_zero (index_out t a)))).symm

/-! ## The result at an element -/

variable (x : S8x8x128.Idx → EReal) (q : S8x1x1024.Idx → EReal) (r : Fin 8) (k : Fin 128)

/-- A single piece that is the whole block leaves its value. -/
theorem canon_one (v : Vec Ideal S8x128 .f32) : View.canon (Val := Elt Ideal) (e := .f32) [⟨r0_8, v⟩] = v := by
  funext y
  refine View.canon_apply_of_pieces (Val := Elt Ideal) (e := .f32) v _ ?_ y (cover0_1 _ y)
  intro pc hpc
  rcases List.mem_cons.mp hpc with rfl | hpc
  · exact fun x => congrArg v (funext fun a => Fin.ext (by match a with | ⟨0, _⟩ => exact (by simp [r0_8]) | ⟨1, _⟩ => exact (by simp [r0_8])))
  nomatch hpc

theorem sum_kernel : out0_1 (F := Ideal) x (ix2 r k) = ∑ d : Fin 8, x (ix3 d r k) := by
  unfold out0_1
  rw [canon_one, Fin.sum_univ_eight]
  pointwise [k0_pay1]

theorem sum_ref : Cert.SumRefIdeal.Read.val_main_v1 (F := Ideal) q (ix2 r k) = ∑ d : Fin 8, sheets q (ix3 d r k) := by
  pointwise [Cert.SumRefIdeal.Read.val_main_v1, Cert.SumRefIdeal.Read.val_main_v0, Cert.SumRefIdeal.Read.val_main_cst]
  refine Finset.sum_congr rfl fun d _ => congrArg q (funext fun b => Fin.ext ?_)
  have hr := r.isLt
  have hk := k.isLt
  match b with
  | ⟨0, _⟩ => rfl
  | ⟨1, _⟩ => show _ = 0; simp
  | ⟨2, _⟩ => show _ = 128 * r.val + k.val; simp; omega

/-! ## The claims -/

theorem frame_ref : Cert.quiescent_SumRefIdeal := fun m ρ _ =>
  (θ_run Cert.SumRefIdeal.defs _ _).mono (fun r h => ⟨fun c => (h c).2, sem_eq_zero_of_no_sems (by decide) r.2⟩)
    (Cert.SumRefIdeal.Value.run (F := Ideal) m ρ)

theorem algebraic : Cert.algebraic_SumIdeal_SumRefIdeal := by
  intro m ρ m' ρ' _ hag
  refine ⟨fun c => res m c, ?_, ?_⟩
  · refine (θ_run _ _ _).mono (fun r h c => ?_) (run_blocks (F := Ideal) m ρ)
    obtain ⟨r0, hk⟩ := h c
    exact ⟨r0.trans (final m c), hk⟩
  · refine (θ_run _ _ _).mono (fun r h c => ?_) (Cert.SumRefIdeal.Value.run (F := Ideal) m' ρ')
    have e0 := hag c
    obtain ⟨r0, hk⟩ := h c
    refine ⟨r0.trans ?_, hk⟩
    rw [Cert.SumRefIdeal.Read.val_main_v1_eq, e0]
    funext i
    obtain ⟨r, k, rfl⟩ : ∃ (r : Fin 8) (k : Fin 128), i = ix2 r k := ⟨i 0, i 1, eq_ix2 i⟩
    exact (sum_ref (SumClaim.p m c) r k).trans (sum_kernel (sheets (SumClaim.p m c)) r k).symm

end Cert.Proof.SumClaim

end
-- ==== Proof.WinClaim.lean ====
module

public import proofs.«01_k».proof.Defs
public import proofs.«01_k».proof.Proof.Cols
public import proofs.«01_k».proof.Proof.Gen.Win.Frame
public import proofs.«01_k».proof.Proof.Gen.WinIdeal.Value
public import proofs.«01_k».proof.Proof.Gen.WinRefIdeal.Run
public import proofs.«01_k».proof.Proof.Gen.WinRefIdeal.Read
public import Idealize.ShloMosaic.Adequacy
public import Idealize.ShloMosaic.Lib.Pointwise
public import Idealize.ShloMosaic.Lib.StableHlo.ReadAt
public import Idealize.ShloMosaic.Lib.Pipeline.ValueKit
public import Idealize.ShloMosaic.Lib.Pipeline.ReadBack
@[expose] public section
/-! # The claims of the projection's weight gradient

Eight grid points take 256 columns each of the projections' cotangent, one device's shard of the weight. A point clears its sum, adds
the product with the normed rows over all tokens, and leaves the sum in the shard's place. -/

set_option maxRecDepth 16384

noncomputable section

namespace Cert.Proof.WinClaim

open Cert.WinIdeal Cert.WinIdeal.Gen Cert.WinIdeal.Value Idealize.ShloMosaic Idealize.ShloMosaic.TcCoe Idealize.SL.Sem
open Cert.Proof.Cols

/-- The layer's input, the norm's weight and the projections' cotangent. -/
structure Arr where
  x : S4096x1024.Idx → EReal
  g : S1x1024.Idx → EReal
  ct : S4096x2048.Idx → EReal

/-- The normed rows. -/
def hn (I : Arr) (r : Fin 4096) (j : Fin 1024) : EReal :=
  I.x (ix2 r j) * Ideal.rsqrt (Ideal.div (∑ k : Fin 1024, I.x (ix2 r k) * I.x (ix2 r k)) (Ideal.ofBits .f32 0x44800000#32) + Ideal.ofBits .f32 0x358637BD#32)
    * I.g (ix2 0 j)

/-- Column `k` of shard `d`. -/
def col (d : Fin 8) (k : Fin 256) : Fin 2048 := ⟨256 * d.val + k.val, by omega⟩

/-- The gradient of the weight, cut into the devices' shards. -/
def grad (I : Arr) (d : Fin 8) (j : Fin 1024) (k : Fin 256) : EReal := ∑ r : Fin 4096, hn I r j * I.ct (ix2 r (col d k))

def arr (I : Arr) : S8x1024x256.Idx → EReal := fun i => grad I (i 0) (i 1) (i 2)

variable (m : (ℓ : Loc nD τ sig) → Buf (Elt Ideal) ℓ) (c : Dev nD)

/-- The arguments. -/
def args : Arr where
  x := m ((c : Thread nD τ).loc main_arg0)
  g := m ((c : Thread nD τ).loc main_arg1)
  ct := m ((c : Thread nD τ).loc main_arg2)

/-! ## The blocks a point stages -/

theorem index_all : ∀ t : Fin cfg0.N, (win0_0.index t 0 = 0 ∧ win0_0.index t 1 = 0) ∧ (win0_1.index t 0 = 0 ∧ win0_1.index t 1 = t.val)
    ∧ (win0_2.index t 0 = t.val ∧ win0_2.index t 1 = 0 ∧ win0_2.index t 2 = 0) :=
  by change ∀ t : Fin grid0.N, _; decide +kernel

theorem prep_v14 (r : Fin 4096) (j : Fin 1024) : (V m c main_v14 : S4096x1024.Idx → EReal) (ix2 r j) = hn (args m c) r j := by
  unfold V; after_reads_at; rfl
theorem prep_v15 (r : Fin 4096) (j : Fin 2048) : (V m c main_v15 : S4096x2048.Idx → EReal) (ix2 r j) = (args m c).ct (ix2 r j) := by
  unfold V; after_reads_at; rfl

theorem blk0 (t : Fin cfg0.N) (r : Fin 4096) (j : Fin 1024) : (iblk m c 0 t : S4096x1024.Idx → EReal) (ix2 r j) = hn (args m c) r j :=
  (congrArg (V m c main_v14) (idx2_eq _ r j (at_zero (index_all t).1.1) (at_zero (index_all t).1.2))).trans (prep_v14 m c _ _)
theorem blk1 (t : Fin cfg0.N) (r : Fin 4096) (k : Fin 256) : (iblk m c 1 t : S4096x256.Idx → EReal) (ix2 r k) = (args m c).ct (ix2 r (col t k)) :=
  (congrArg (V m c main_v15) (idx2_eq _ r (col t k) (at_zero (index_all t).2.1.1) (at_blk (index_all t).2.1.2))).trans (prep_v15 m c _ _)

/-! ## What a point leaves -/

theorem outs (t : Fin cfg0.N) : outsAt0 m c t = k0_pay3 (k0_pay2 k0_pay1 (iblk m c 0 t) (iblk m c 1 t)) := by
  unfold outsAt0
  generalize iblk m c 0 t = x0, iblk m c 1 t = x1
  frame_out

theorem out_at (t : Fin cfg0.N) (j : Fin 1024) (k : Fin 256) :
    k0_pay3 (F := Ideal) (k0_pay2 k0_pay1 (iblk m c 0 t) (iblk m c 1 t)) (ix3 0 j k) = grad (args m c) t j k := by
  pointwise [k0_pay1, k0_pay2, k0_pay3]
  simp only [blk0, blk1]
  rfl

theorem final : (dats m 0 c).arrAt 2 cfg0.N = arr (args m c) := by
  refine (dats m 0 c).arrAt_eq_of_covers 2 _ (by decide +kernel) fun t hf (y : S1x1024x256.Idx) => ?_
  blk_simp
  rw [after0_2, outs]
  obtain ⟨a, j, k, rfl⟩ : ∃ (a : Fin 1) (j : Fin 1024) (k : Fin 256), y = ix3 a j k := ⟨y 0, y 1, y 2, eq_ix3 y⟩
  obtain rfl : a = 0 := Subsingleton.elim _ _
  have h := index_all t
  refine (out_at m c t j k).trans (congrArg (arr (args m c)) (funext fun b => Fin.ext ?_) : arr (args m c) (ix3 t j k) = _)
  match b with
  | ⟨0, _⟩ => exact (by show t.val = win0_2.index t 0 * 1 + 1 * 0; rw [h.2.2.1]; omega)
  | ⟨1, _⟩ => exact (at_zero h.2.2.2.1).symm
  | ⟨2, _⟩ => exact (at_zero h.2.2.2.2).symm

/-! ## The reference -/

variable (I : Arr)

open Cert.WinRefIdeal.Read in
theorem val_hn (r : Fin 4096) (j : Fin 1024) : val_main_v13 (F := Ideal) I.x I.g (ix2 r j) = hn I r j := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

open Cert.WinRefIdeal.Read in
theorem val_dot (j : Fin 1024) (n : Fin 2048) : val_main_v15 (F := Ideal) I.x I.g I.ct (ix2 j n) = ∑ r : Fin 4096, hn I r j * I.ct (ix2 r n) := by
  pointwise [val_main_v15, val_main_v14]
  simp only [val_hn]
  exact Finset.sum_congr rfl fun r _ => mul_comm _ _

open Cert.WinRefIdeal.Read in
theorem val_grad (d : Fin 8) (j : Fin 1024) (k : Fin 256) : val_main_v18 (F := Ideal) I.x I.g I.ct (ix3 d j k) = grad I d j k := by
  refine Eq.trans ?_ (val_dot I j (col d k))
  pointwise [val_main_v18, val_main_v17, val_main_v16]
  refine congrArg _ (funext fun b => Fin.ext ?_)
  have hd := d.isLt
  have hj := j.isLt
  have hk := k.isLt
  match b with
  | ⟨0, _⟩ => show _ = j.val; simp
  | ⟨1, _⟩ => show _ = 256 * d.val + k.val; simp; omega

/-! ## The claims -/

theorem frame_ref : Cert.quiescent_WinRefIdeal := fun m ρ _ =>
  (θ_run Cert.WinRefIdeal.defs _ _).mono (fun r h => ⟨fun c => (h c).2, sem_eq_zero_of_no_sems (by decide) r.2⟩)
    (Cert.WinRefIdeal.Value.run (F := Ideal) m ρ)

set_option maxHeartbeats 2000000 in
theorem algebraic : Cert.algebraic_WinIdeal_WinRefIdeal := by
  intro m ρ m' ρ' _ hag
  refine ⟨fun c => arr (args m c), ?_, ?_⟩
  · refine (θ_run _ _ _).mono (fun r h c => ?_) (run_blocks (F := Ideal) m ρ)
    obtain ⟨r0, hk⟩ := h c
    exact ⟨r0.trans (final m c), hk⟩
  · refine (θ_run _ _ _).mono (fun r h c => ?_) (Cert.WinRefIdeal.Value.run (F := Ideal) m' ρ')
    obtain ⟨e0, e1, e2⟩ := hag c
    obtain ⟨r0, hk⟩ := h c
    refine ⟨r0.trans ?_, hk⟩
    rw [Cert.WinRefIdeal.Read.val_main_v18_eq, e0, e1, e2]
    funext i
    obtain ⟨d, j, k, rfl⟩ : ∃ (d : Fin 8) (j : Fin 1024) (k : Fin 256), i = ix3 d j k := ⟨i 0, i 1, i 2, eq_ix3 i⟩
    exact val_grad (args m c) d j k

end Cert.Proof.WinClaim

end
-- ==== Proof.lean ====
module

public import proofs.«01_k».proof.Defs
public import proofs.«01_k».proof.Proof.DxClaim
public import proofs.«01_k».proof.Proof.LossClaim
public import proofs.«01_k».proof.Proof.BwdwClaim
public import proofs.«01_k».proof.Proof.FfnClaim
public import proofs.«01_k».proof.Proof.MixClaim
public import proofs.«01_k».proof.Proof.MfClaim
public import proofs.«01_k».proof.Proof.FbClaim
public import proofs.«01_k».proof.Proof.AdamwClaim
public import proofs.«01_k».proof.Proof.SumClaim
public import proofs.«01_k».proof.Proof.WinClaim
public import Idealize.ShloMosaic.Init

@[expose] public section

set_option maxRecDepth 16384

noncomputable section

namespace Cert.Proof

open Idealize.ShloMosaic Idealize.SL.Sem

theorem claim : Cert.Claim := ⟨Cert.Dx.Gen.facts, Cert.DxIdeal.Gen.facts, Cert.DxRefIdeal.Gen.facts,
  Cert.Loss.Gen.facts, Cert.LossIdeal.Gen.facts, Cert.LossRefIdeal.Gen.facts,
  Cert.Bwdw.Gen.facts, Cert.BwdwIdeal.Gen.facts, Cert.BwdwRefIdeal.Gen.facts,
  Cert.Ffn.Gen.facts, Cert.FfnIdeal.Gen.facts, Cert.FfnRefIdeal.Gen.facts,
  Cert.Mix.Gen.facts, Cert.MixIdeal.Gen.facts, Cert.MixRefIdeal.Gen.facts,
  Cert.MixFwd.Gen.facts, Cert.MixFwdIdeal.Gen.facts, Cert.MixFwdRefIdeal.Gen.facts,
  Cert.FfnB.Gen.facts, Cert.FfnBIdeal.Gen.facts, Cert.FfnBRefIdeal.Gen.facts,
  Cert.Adamw.Gen.facts, Cert.AdamwIdeal.Gen.facts, Cert.AdamwRefIdeal.Gen.facts,
  Cert.Sum.Gen.facts, Cert.SumIdeal.Gen.facts, Cert.SumRefIdeal.Gen.facts,
  Cert.Win.Gen.facts, Cert.WinIdeal.Gen.facts, Cert.WinRefIdeal.Gen.facts,
  Cert.Pre_finite_dx.Gen.facts, Cert.Pre_finite_loss.Gen.facts, Cert.Pre_finite_bwdw.Gen.facts, Cert.Pre_finite_mix.Gen.facts,
  Cert.Pre_finite_mixf.Gen.facts,
  fun m ρ _ => Cert.Dx.Gen.frame m ρ,
  fun m ρ _ => Cert.DxIdeal.Gen.frame m ρ,
  fun m ρ _ => Cert.DxIdeal.Gen.frame m ρ,
  DxClaim.frame_ref,
  fun m ρ _ => DxClaim.frame_ref m ρ trivial,
  fun m ρ _ => Cert.Loss.Gen.frame m ρ,
  fun m ρ _ => Cert.LossIdeal.Gen.frame m ρ,
  fun m ρ _ => Cert.LossIdeal.Gen.frame m ρ,
  LossClaim.frame_ref,
  fun m ρ _ => LossClaim.frame_ref m ρ trivial,
  BwdwClaim.frame_kernel,
  BwdwClaim.frame_ideal,
  fun m ρ _ => BwdwClaim.frame_ideal m ρ trivial,
  BwdwClaim.frame_ref,
  fun m ρ _ => BwdwClaim.frame_ref m ρ trivial,
  fun m ρ _ => Cert.Ffn.Gen.frame m ρ,
  fun m ρ _ => Cert.FfnIdeal.Gen.frame m ρ,
  FfnClaim.frame_ref,
  MixClaim.frame_kernel,
  MixClaim.frame_ideal,
  fun m ρ _ => MixClaim.frame_ideal m ρ trivial,
  MixClaim.frame_ref,
  fun m ρ _ => MixClaim.frame_ref m ρ trivial,
  fun m ρ _ => Cert.MixFwd.Gen.frame m ρ,
  fun m ρ _ => Cert.MixFwdIdeal.Gen.frame m ρ,
  fun m ρ _ => Cert.MixFwdIdeal.Gen.frame m ρ,
  MfClaim.frame_ref,
  fun m ρ _ => MfClaim.frame_ref m ρ trivial,
  fun m ρ _ => Cert.FfnB.Gen.frame m ρ,
  fun m ρ _ => Cert.FfnBIdeal.Gen.frame m ρ,
  FbClaim.frame_ref,
  fun m ρ _ => Cert.Adamw.Gen.frame m ρ,
  fun m ρ _ => Cert.AdamwIdeal.Gen.frame m ρ,
  AdamwClaim.frame_ref,
  fun m ρ _ => Cert.Sum.Gen.frame m ρ,
  fun m ρ _ => Cert.SumIdeal.Gen.frame m ρ,
  SumClaim.frame_ref,
  fun m ρ _ => Cert.Win.Gen.frame m ρ,
  fun m ρ _ => Cert.WinIdeal.Gen.frame m ρ,
  WinClaim.frame_ref,
  trivial,
  DxClaim.algebraic,
  trivial,
  LossClaim.algebraic,
  trivial,
  BwdwClaim.algebraic,
  trivial,
  FfnClaim.algebraic,
  trivial,
  MixClaim.algebraic,
  trivial,
  MfClaim.algebraic,
  trivial,
  FbClaim.algebraic,
  trivial,
  AdamwClaim.algebraic,
  trivial,
  SumClaim.algebraic,
  trivial,
  WinClaim.algebraic⟩

end Cert.Proof

end
